-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v43_0)) (v1 : (c : Dev Cert.Kernel2Ideal.nD) → Buf (Elt Ideal) ((c.tc : Thread Cert.Kernel2Ideal.nD Cert.Kernel2Ideal.τ).loc Cert.Kernel2Ideal.main_v43_1)) (v2 : (c : Dev Cert.Kernel2Ideal.nD) → Buf (Elt Ideal) ((c.tc : Thread Cert.Kernel2Ideal.nD Cert.Kernel2Ideal.τ).loc Cert.Kernel2Ideal.main_v43_2)) (v3 : (c : Dev Cert.Kernel2Ideal.nD) → Buf (Elt Ideal) ((c.tc : Thread Cert.Kernel2Ideal.nD Cert.Kernel2Ideal.τ).loc Cert.Kernel2Ideal.main_v43_3)) (v4 : (c : Dev Cert.Kernel2Ideal.nD) → Buf (Elt Ideal) ((c.tc : Thread Cert.Kernel2Ideal.nD Cert.Kernel2Ideal.τ).loc Cert.Kernel2Ideal.main_v43_4)) (v5 : (c : Dev Cert.Kernel2Ideal.nD) → Buf (Elt Ideal) ((c.tc : Thread Cert.Kernel2Ideal.nD Cert.Kernel2Ideal.τ).loc Cert.Kernel2Ideal.main_v43_5)) (v6 : (c : Dev Cert.Kernel2Ideal.nD) → Buf (Elt Ideal) ((c.tc : Thread Cert.Kernel2Ideal.nD Cert.Kernel2Ideal.τ).loc Cert.Kernel2Ideal.main_v43_6)) (v7 : (c : Dev Cert.Kernel2Ideal.nD) → Buf (Elt Ideal) ((c.tc : Thread Cert.Kernel2Ideal.nD Cert.Kernel2Ideal.τ).loc Cert.Kernel2Ideal.main_v43_7)) (v8 : (c : Dev Cert.Kernel2Ideal.nD) → Buf (Elt Ideal) ((c.tc : Thread Cert.Kernel2Ideal.nD Cert.Kernel2Ideal.τ).loc Cert.Kernel2Ideal.main_v43_8)) (v9 : (c : Dev Cert.Kernel2Ideal.nD) → Buf (Elt Ideal) ((c.tc : Thread Cert.Kernel2Ideal.nD Cert.Kernel2Ideal.τ).loc Cert.Kernel2Ideal.main_v43_9)) (v10 : (c : Dev Cert.Kernel2Ideal.nD) → Buf (Elt Ideal) ((c.tc : Thread Cert.Kernel2Ideal.nD Cert.Kernel2Ideal.τ).loc Cert.Kernel2Ideal.main_v43_10)) (v11 : (c : Dev Cert.Kernel2Ideal.nD) → Buf (Elt Ideal) ((c.tc : Thread Cert.Kernel2Ideal.nD Cert.Kernel2Ideal.τ).loc Cert.Kernel2Ideal.main_v43_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43_0) = v0 c
          ∧ r.2.mem ((c.tc : Thread Cert.Kernel2Ideal.nD Cert.Kernel2Ideal.τ).loc Cert.Kernel2Ideal.main_v43_1) = v1 c
          ∧ r.2.mem ((c.tc : Thread Cert.Kernel2Ideal.nD Cert.Kernel2Ideal.τ).loc Cert.Kernel2Ideal.main_v43_2) = v2 c
          ∧ r.2.mem ((c.tc : Thread Cert.Kernel2Ideal.nD Cert.Kernel2Ideal.τ).loc Cert.Kernel2Ideal.main_v43_3) = v3 c
          ∧ r.2.mem ((c.tc : Thread Cert.Kernel2Ideal.nD Cert.Kernel2Ideal.τ).loc Cert.Kernel2Ideal.main_v43_4) = v4 c
          ∧ r.2.mem ((c.tc : Thread Cert.Kernel2Ideal.nD Cert.Kernel2Ideal.τ).loc Cert.Kernel2Ideal.main_v43_5) = v5 c
          ∧ r.2.mem ((c.tc : Thread Cert.Kernel2Ideal.nD Cert.Kernel2Ideal.τ).loc Cert.Kernel2Ideal.main_v43_6) = v6 c
          ∧ r.2.mem ((c.tc : Thread Cert.Kernel2Ideal.nD Cert.Kernel2Ideal.τ).loc Cert.Kernel2Ideal.main_v43_7) = v7 c
          ∧ r.2.mem ((c.tc : Thread Cert.Kernel2Ideal.nD Cert.Kernel2Ideal.τ).loc Cert.Kernel2Ideal.main_v43_8) = v8 c
          ∧ r.2.mem ((c.tc : Thread Cert.Kernel2Ideal.nD Cert.Kernel2Ideal.τ).loc Cert.Kernel2Ideal.main_v43_9) = v9 c
          ∧ r.2.mem ((c.tc : Thread Cert.Kernel2Ideal.nD Cert.Kernel2Ideal.τ).loc Cert.Kernel2Ideal.main_v43_10) = v10 c
          ∧ r.2.mem ((c.tc : Thread Cert.Kernel2Ideal.nD Cert.Kernel2Ideal.τ).loc Cert.Kernel2Ideal.main_v43_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v112) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_v20) = v3 c
          ∧ r.2.mem ((c.tc : Thread Cert.Reference2Ideal.nD Cert.Reference2Ideal.τ).loc Cert.Reference2Ideal.main_v21) = v4 c
          ∧ r.2.mem ((c.tc : Thread Cert.Reference2Ideal.nD Cert.Reference2Ideal.τ).loc Cert.Reference2Ideal.main_v24) = v5 c
          ∧ r.2.mem ((c.tc : Thread Cert.Reference2Ideal.nD Cert.Reference2Ideal.τ).loc Cert.Reference2Ideal.main_v130) = v6 c
          ∧ r.2.mem ((c.tc : Thread Cert.Reference2Ideal.nD Cert.Reference2Ideal.τ).loc Cert.Reference2Ideal.main_v131) = v7 c
          ∧ r.2.mem ((c.tc : Thread Cert.Reference2Ideal.nD Cert.Reference2Ideal.τ).loc Cert.Reference2Ideal.main_v133) = v8 c
          ∧ r.2.mem ((c.tc : Thread Cert.Reference2Ideal.nD Cert.Reference2Ideal.τ).loc Cert.Reference2Ideal.main_v135) = v9 c
          ∧ r.2.mem ((c.tc : Thread Cert.Reference2Ideal.nD Cert.Reference2Ideal.τ).loc Cert.Reference2Ideal.main_v125) = v10 c
          ∧ r.2.mem ((c.tc : Thread Cert.Reference2Ideal.nD Cert.Reference2Ideal.τ).loc Cert.Reference2Ideal.main_v137) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v51_0)) (v1 : (c : Dev Cert.Kernel3Ideal.nD) → Buf (Elt Ideal) ((c.tc : Thread Cert.Kernel3Ideal.nD Cert.Kernel3Ideal.τ).loc Cert.Kernel3Ideal.main_v51_1)) (v2 : (c : Dev Cert.Kernel3Ideal.nD) → Buf (Elt Ideal) ((c.tc : Thread Cert.Kernel3Ideal.nD Cert.Kernel3Ideal.τ).loc Cert.Kernel3Ideal.main_v51_2)) (v3 : (c : Dev Cert.Kernel3Ideal.nD) → Buf (Elt Ideal) ((c.tc : Thread Cert.Kernel3Ideal.nD Cert.Kernel3Ideal.τ).loc Cert.Kernel3Ideal.main_v51_3)) (v4 : (c : Dev Cert.Kernel3Ideal.nD) → Buf (Elt Ideal) ((c.tc : Thread Cert.Kernel3Ideal.nD Cert.Kernel3Ideal.τ).loc Cert.Kernel3Ideal.main_v51_4)) (v5 : (c : Dev Cert.Kernel3Ideal.nD) → Buf (Elt Ideal) ((c.tc : Thread Cert.Kernel3Ideal.nD Cert.Kernel3Ideal.τ).loc Cert.Kernel3Ideal.main_v51_5)) (v6 : (c : Dev Cert.Kernel3Ideal.nD) → Buf (Elt Ideal) ((c.tc : Thread Cert.Kernel3Ideal.nD Cert.Kernel3Ideal.τ).loc Cert.Kernel3Ideal.main_v51_6)) (v7 : (c : Dev Cert.Kernel3Ideal.nD) → Buf (Elt Ideal) ((c.tc : Thread Cert.Kernel3Ideal.nD Cert.Kernel3Ideal.τ).loc Cert.Kernel3Ideal.main_v51_7)) (v8 : (c : Dev Cert.Kernel3Ideal.nD) → Buf (Elt Ideal) ((c.tc : Thread Cert.Kernel3Ideal.nD Cert.Kernel3Ideal.τ).loc Cert.Kernel3Ideal.main_v51_8)) (v9 : (c : Dev Cert.Kernel3Ideal.nD) → Buf (Elt Ideal) ((c.tc : Thread Cert.Kernel3Ideal.nD Cert.Kernel3Ideal.τ).loc Cert.Kernel3Ideal.main_v51_9)) (v10 : (c : Dev Cert.Kernel3Ideal.nD) → Buf (Elt Ideal) ((c.tc : Thread Cert.Kernel3Ideal.nD Cert.Kernel3Ideal.τ).loc Cert.Kernel3Ideal.main_v51_10)) (v11 : (c : Dev Cert.Kernel3Ideal.nD) → Buf (Elt Ideal) ((c.tc : Thread Cert.Kernel3Ideal.nD Cert.Kernel3Ideal.τ).loc Cert.Kernel3Ideal.main_v51_11)) (v12 : (c : Dev Cert.Kernel3Ideal.nD) → Buf (Elt Ideal) ((c.tc : Thread Cert.Kernel3Ideal.nD Cert.Kernel3Ideal.τ).loc Cert.Kernel3Ideal.main_v51_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v51_0) = v0 c
          ∧ r.2.mem ((c.tc : Thread Cert.Kernel3Ideal.nD Cert.Kernel3Ideal.τ).loc Cert.Kernel3Ideal.main_v51_1) = v1 c
          ∧ r.2.mem ((c.tc : Thread Cert.Kernel3Ideal.nD Cert.Kernel3Ideal.τ).loc Cert.Kernel3Ideal.main_v51_2) = v2 c
          ∧ r.2.mem ((c.tc : Thread Cert.Kernel3Ideal.nD Cert.Kernel3Ideal.τ).loc Cert.Kernel3Ideal.main_v51_3) = v3 c
          ∧ r.2.mem ((c.tc : Thread Cert.Kernel3Ideal.nD Cert.Kernel3Ideal.τ).loc Cert.Kernel3Ideal.main_v51_4) = v4 c
          ∧ r.2.mem ((c.tc : Thread Cert.Kernel3Ideal.nD Cert.Kernel3Ideal.τ).loc Cert.Kernel3Ideal.main_v51_5) = v5 c
          ∧ r.2.mem ((c.tc : Thread Cert.Kernel3Ideal.nD Cert.Kernel3Ideal.τ).loc Cert.Kernel3Ideal.main_v51_6) = v6 c
          ∧ r.2.mem ((c.tc : Thread Cert.Kernel3Ideal.nD Cert.Kernel3Ideal.τ).loc Cert.Kernel3Ideal.main_v51_7) = v7 c
          ∧ r.2.mem ((c.tc : Thread Cert.Kernel3Ideal.nD Cert.Kernel3Ideal.τ).loc Cert.Kernel3Ideal.main_v51_8) = v8 c
          ∧ r.2.mem ((c.tc : Thread Cert.Kernel3Ideal.nD Cert.Kernel3Ideal.τ).loc Cert.Kernel3Ideal.main_v51_9) = v9 c
          ∧ r.2.mem ((c.tc : Thread Cert.Kernel3Ideal.nD Cert.Kernel3Ideal.τ).loc Cert.Kernel3Ideal.main_v51_10) = v10 c
          ∧ r.2.mem ((c.tc : Thread Cert.Kernel3Ideal.nD Cert.Kernel3Ideal.τ).loc Cert.Kernel3Ideal.main_v51_11) = v11 c
          ∧ r.2.mem ((c.tc : Thread Cert.Kernel3Ideal.nD Cert.Kernel3Ideal.τ).loc Cert.Kernel3Ideal.main_v51_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v115) = v0 c
          ∧ r.2.mem ((c.tc : Thread Cert.Reference3Ideal.nD Cert.Reference3Ideal.τ).loc Cert.Reference3Ideal.main_v116) = v1 c
          ∧ r.2.mem ((c.tc : Thread Cert.Reference3Ideal.nD Cert.Reference3Ideal.τ).loc Cert.Reference3Ideal.main_v117) = v2 c
          ∧ r.2.mem ((c.tc : Thread Cert.Reference3Ideal.nD Cert.Reference3Ideal.τ).loc Cert.Reference3Ideal.main_v118) = v3 c
          ∧ r.2.mem ((c.tc : Thread Cert.Reference3Ideal.nD Cert.Reference3Ideal.τ).loc Cert.Reference3Ideal.main_v119) = v4 c
          ∧ r.2.mem ((c.tc : Thread Cert.Reference3Ideal.nD Cert.Reference3Ideal.τ).loc Cert.Reference3Ideal.main_v120) = v5 c
          ∧ r.2.mem ((c.tc : Thread Cert.Reference3Ideal.nD Cert.Reference3Ideal.τ).loc Cert.Reference3Ideal.main_v142) = v6 c
          ∧ r.2.mem ((c.tc : Thread Cert.Reference3Ideal.nD Cert.Reference3Ideal.τ).loc Cert.Reference3Ideal.main_v143) = v7 c
          ∧ r.2.mem ((c.tc : Thread Cert.Reference3Ideal.nD Cert.Reference3Ideal.τ).loc Cert.Reference3Ideal.main_v145) = v8 c
          ∧ r.2.mem ((c.tc : Thread Cert.Reference3Ideal.nD Cert.Reference3Ideal.τ).loc Cert.Reference3Ideal.main_v147) = v9 c
          ∧ r.2.mem ((c.tc : Thread Cert.Reference3Ideal.nD Cert.Reference3Ideal.τ).loc Cert.Reference3Ideal.main_v137) = v10 c
          ∧ r.2.mem ((c.tc : Thread Cert.Reference3Ideal.nD Cert.Reference3Ideal.τ).loc Cert.Reference3Ideal.main_v149) = v11 c
          ∧ r.2.mem ((c.tc : Thread Cert.Reference3Ideal.nD Cert.Reference3Ideal.τ).loc Cert.Reference3Ideal.main_v121) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x8192x1024 : Shape := ⟨3, ![8, 8192, 1024]⟩
abbrev S8x8192x512 : Shape := ⟨3, ![8, 8192, 512]⟩
abbrev S1x512x1024 : Shape := ⟨3, ![1, 512, 1024]⟩
abbrev S1x1024x1024 : Shape := ⟨3, ![1, 1024, 1024]⟩
abbrev S1024 : Shape := ⟨1, ![1024]⟩
abbrev S512x1024 : Shape := ⟨2, ![512, 1024]⟩
abbrev S1024x1024 : Shape := ⟨2, ![1024, 1024]⟩
abbrev S1x1024 : Shape := ⟨2, ![1, 1024]⟩
abbrev S3x1x1024x1024 : Shape := ⟨4, ![3, 1, 1024, 1024]⟩
abbrev S3 : Shape := ⟨1, ![3]⟩
abbrev S3x1x1024x512 : Shape := ⟨4, ![3, 1, 1024, 512]⟩
abbrev S2x1x1024x1024 : Shape := ⟨4, ![2, 1, 1024, 1024]⟩
abbrev S2 : Shape := ⟨1, ![2]⟩
abbrev S1 : Shape := ⟨1, ![1]⟩
abbrev S_ : Shape := ⟨0, ![]⟩
abbrev S1x1x1024x1024 : Shape := ⟨4, ![1, 1, 1024, 1024]⟩
abbrev S1x1x1024x512 : Shape := ⟨4, ![1, 1, 1024, 512]⟩
abbrev S1x1024x512 : Shape := ⟨3, ![1, 1024, 512]⟩
abbrev S1024x512 : Shape := ⟨2, ![1024, 512]⟩
abbrev S1024x1 : Shape := ⟨2, ![1024, 1]⟩

abbrev nBuf : Space → Nat
  | .hbm => 13
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .f32⟩
  | .hbm, ⟨3, _⟩ => ⟨S8x8192x512, .bf16⟩
  | .hbm, ⟨4, _⟩ => ⟨S1x512x1024, .f32⟩
  | .hbm, ⟨5, _⟩ => ⟨S1x1024x1024, .f32⟩
  | .hbm, ⟨6, _⟩ => ⟨S1024, .f32⟩
  | .hbm, ⟨7, _⟩ => ⟨S512x1024, .f32⟩
  | .hbm, ⟨8, _⟩ => ⟨S512x1024, .bf16⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S8x8192x1024, .f32⟩
  | .local _ .vmem, ⟨0, _⟩ => ⟨S512x1024, .bf16⟩
  | .local _ .vmem, ⟨1, _⟩ => ⟨S1024x1024, .bf16⟩
  | .local _ .vmem, ⟨2, _⟩ => ⟨S1x1024, .f32⟩
  | .local _ .vmem, ⟨3, _⟩ => ⟨S3x1x1024x1024, .f32⟩
  | .local _ .vmem, ⟨4, _⟩ => ⟨S3x1x1024x1024, .bf16⟩
  | .local _ .vmem, ⟨5, _⟩ => ⟨S3x1x1024x1024, .f32⟩
  | .local _ .vmem, ⟨6, _⟩ => ⟨S3x1x1024x512, .bf16⟩
  | .local _ .vmem, ⟨7, _⟩ => ⟨S2x1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scoped0 : Ref sig .tc := ⟨.vmem, 3, rfl⟩
abbrev cc0_scoped2 : Ref sig .tc := ⟨.vmem, 4, rfl⟩
abbrev cc0_scoped4 : Ref sig .tc := ⟨.vmem, 5, rfl⟩
abbrev cc0_scoped6 : Ref sig .tc := ⟨.vmem, 6, rfl⟩
abbrev cc0_scoped8 : Ref sig .tc := ⟨.vmem, 7, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 : Fin 1 → Nat :=
  let c0_i32_38_r0 : BitVec 32 := 0#32
  let c3_i32_r0 : BitVec 32 := 3#32
  let v41_r0 : BitVec 32 := Scalar.remui c0_i32_38_r0 c3_i32_r0
  ![v41_r0.toNat]
def k0_off2 : Fin 4 → Nat :=
  let c0_i32_38_r0 : BitVec 32 := 0#32
  let c3_i32_r0 : BitVec 32 := 3#32
  let v41_r0 : BitVec 32 := Scalar.remui c0_i32_38_r0 c3_i32_r0
  let c0_i32_39_r0 : BitVec 32 := 0#32
  let c0_i32_40_r0 : BitVec 32 := 0#32
  let c0_i32_41_r0 : BitVec 32 := 0#32
  ![v41_r0.toNat, 0, 0, 0]
def k0_off3 : Fin 4 → Nat :=
  let c0_i32_67_r0 : BitVec 32 := 0#32
  let c3_i32_68_r0 : BitVec 32 := 3#32
  let v62_r0 : BitVec 32 := Scalar.remui c0_i32_67_r0 c3_i32_68_r0
  let c0_i32_69_r0 : BitVec 32 := 0#32
  let c0_i32_70_r0 : BitVec 32 := 0#32
  let c0_i32_71_r0 : BitVec 32 := 0#32
  ![v62_r0.toNat, 0, 0, 0]
def k0_cond1 : BitVec 1 :=
  let true_79_r0 : BitVec 1 := 1#1
  let true_11_r0 : BitVec 1 := 1#1
  let c1_i32_r0 : BitVec 32 := 1#32
  let c0_i32_12_r0 : BitVec 32 := 0#32
  let v13_r0 : BitVec 32 := Scalar.select true_11_r0 c1_i32_r0 c0_i32_12_r0
  let c8_i32_r0 : BitVec 32 := 8#32
  let v14_r0 : BitVec 1 := Scalar.cmpi .eq v13_r0 c8_i32_r0
  let c1_i32_15_r0 : BitVec 32 := 1#32
  let c0_i32_14_r0 : BitVec 32 := 0#32
  let v16_r0 : BitVec 32 := Scalar.select v14_r0 c1_i32_15_r0 c0_i32_14_r0
  let c8_i32_16_r0 : BitVec 32 := 8#32
  let v17_r0 : BitVec 1 := Scalar.cmpi .eq v16_r0 c8_i32_16_r0
  let c0_i32_17_r0 : BitVec 32 := 0#32
  let v18_r0 : BitVec 32 := Scalar.select v17_r0 c0_i32_17_r0 v16_r0
  let c0_i32_18_r0 : BitVec 32 := 0#32
  let v19_r0 : BitVec 32 := Scalar.addi v18_r0 c0_i32_18_r0
  let c0_i32_77_r0 : BitVec 32 := 0#32
  let v69_r0 : BitVec 1 := Scalar.cmpi .ne v19_r0 c0_i32_77_r0
  let c0_i32_13_r0 : BitVec 32 := 0#32
  let v15_r0 : BitVec 32 := Scalar.select v14_r0 c0_i32_13_r0 v13_r0
  let c0_i32_19_r0 : BitVec 32 := 0#32
  let v20_r0 : BitVec 32 := Scalar.addi v15_r0 c0_i32_19_r0
  let c0_i32_78_r0 : BitVec 32 := 0#32
  let v70_r0 : BitVec 1 := Scalar.cmpi .ne v20_r0 c0_i32_78_r0
  let v71_r0 : BitVec 1 := Scalar.ori v69_r0 v70_r0
  let v72_r0 : BitVec 1 := Scalar.andi true_79_r0 v71_r0
  let true_80_r0 : BitVec 1 := 1#1
  let v73_r0 : BitVec 1 := Scalar.andi v72_r0 true_80_r0
  let v74_r0 : BitVec 32 := Scalar.extui v73_r0
  let c0_i32_81_r0 : BitVec 32 := 0#32
  let v75_r0 : BitVec 1 := Scalar.cmpi .ne v74_r0 c0_i32_81_r0
  v75_r0

def k0_off4 : Fin 1 → Nat :=
  let c0_i32_45_r0 : BitVec 32 := 0#32
  let c1_i32_46_r0 : BitVec 32 := 1#32
  let v47_r0 : BitVec 32 := Scalar.addi c0_i32_45_r0 c1_i32_46_r0
  let c3_i32_162_r0 : BitVec 32 := 3#32
  let v165_r0 : BitVec 32 := Scalar.remui v47_r0 c3_i32_162_r0
  ![v165_r0.toNat]
def k0_off5 : Fin 4 → Nat :=
  let c0_i32_45_r0 : BitVec 32 := 0#32
  let c1_i32_46_r0 : BitVec 32 := 1#32
  let v47_r0 : BitVec 32 := Scalar.addi c0_i32_45_r0 c1_i32_46_r0
  let c3_i32_162_r0 : BitVec 32 := 3#32
  let v165_r0 : BitVec 32 := Scalar.remui v47_r0 c3_i32_162_r0
  let c0_i32_165_r0 : BitVec 32 := 0#32
  let c0_i32_166_r0 : BitVec 32 := 0#32
  let c0_i32_167_r0 : BitVec 32 := 0#32
  ![v165_r0.toNat, 0, 0, 0]
def k0_off6 : Fin 3 → Nat :=
  let c1_i32_163_r0 : BitVec 32 := 1#32
  let true_11_r0 : BitVec 1 := 1#1
  let c1_i32_r0 : BitVec 32 := 1#32
  let c0_i32_12_r0 : BitVec 32 := 0#32
  let v13_r0 : BitVec 32 := Scalar.select true_11_r0 c1_i32_r0 c0_i32_12_r0
  let c8_i32_r0 : BitVec 32 := 8#32
  let v14_r0 : BitVec 1 := Scalar.cmpi .eq v13_r0 c8_i32_r0
  let c1_i32_15_r0 : BitVec 32 := 1#32
  let c0_i32_14_r0 : BitVec 32 := 0#32
  let v16_r0 : BitVec 32 := Scalar.select v14_r0 c1_i32_15_r0 c0_i32_14_r0
  let c8_i32_16_r0 : BitVec 32 := 8#32
  let v17_r0 : BitVec 1 := Scalar.cmpi .eq v16_r0 c8_i32_16_r0
  let c0_i32_17_r0 : BitVec 32 := 0#32
  let v18_r0 : BitVec 32 := Scalar.select v17_r0 c0_i32_17_r0 v16_r0
  let c0_i32_18_r0 : BitVec 32 := 0#32
  let v19_r0 : BitVec 32 := Scalar.addi v18_r0 c0_i32_18_r0
  let v166_r0 : BitVec 32 := Scalar.muli c1_i32_163_r0 v19_r0
  let c1024_i32_164_r0 : BitVec 32 := 1024#32
  let c0_i32_13_r0 : BitVec 32 := 0#32
  let v15_r0 : BitVec 32 := Scalar.select v14_r0 c0_i32_13_r0 v13_r0
  let c0_i32_19_r0 : BitVec 32 := 0#32
  let v20_r0 : BitVec 32 := Scalar.addi v15_r0 c0_i32_19_r0
  let v167_r0 : BitVec 32 := Scalar.muli c1024_i32_164_r0 v20_r0
  let c0_i32_168_r0 : BitVec 32 := 0#32
  ![v166_r0.toNat, v167_r0.toNat, 0]
def k0_cond2 : BitVec 1 :=
  let true_85_r0 : BitVec 1 := 1#1
  let true_11_r0 : BitVec 1 := 1#1
  let c1_i32_r0 : BitVec 32 := 1#32
  let c0_i32_12_r0 : BitVec 32 := 0#32
  let v13_r0 : BitVec 32 := Scalar.select true_11_r0 c1_i32_r0 c0_i32_12_r0
  let c8_i32_r0 : BitVec 32 := 8#32
  let v14_r0 : BitVec 1 := Scalar.cmpi .eq v13_r0 c8_i32_r0
  let c1_i32_15_r0 : BitVec 32 := 1#32
  let c0_i32_14_r0 : BitVec 32 := 0#32
  let v16_r0 : BitVec 32 := Scalar.select v14_r0 c1_i32_15_r0 c0_i32_14_r0
  let c8_i32_16_r0 : BitVec 32 := 8#32
  let v17_r0 : BitVec 1 := Scalar.cmpi .eq v16_r0 c8_i32_16_r0
  let c0_i32_17_r0 : BitVec 32 := 0#32
  let v18_r0 : BitVec 32 := Scalar.select v17_r0 c0_i32_17_r0 v16_r0
  let c0_i32_18_r0 : BitVec 32 := 0#32
  let v19_r0 : BitVec 32 := Scalar.addi v18_r0 c0_i32_18_r0
  let c0_i32_83_r0 : BitVec 32 := 0#32
  let v78_r0 : BitVec 1 := Scalar.cmpi .ne v19_r0 c0_i32_83_r0
  let c0_i32_13_r0 : BitVec 32 := 0#32
  let v15_r0 : BitVec 32 := Scalar.select v14_r0 c0_i32_13_r0 v13_r0
  let c0_i32_19_r0 : BitVec 32 := 0#32
  let v20_r0 : BitVec 32 := Scalar.addi v15_r0 c0_i32_19_r0
  let c0_i32_84_r0 : BitVec 32 := 0#32
  let v79_r0 : BitVec 1 := Scalar.cmpi .ne v20_r0 c0_i32_84_r0
  let v80_r0 : BitVec 1 := Scalar.ori v78_r0 v79_r0
  let v81_r0 : BitVec 1 := Scalar.andi true_85_r0 v80_r0
  let true_86_r0 : BitVec 1 := 1#1
  let v82_r0 : BitVec 1 := Scalar.andi v81_r0 true_86_r0
  let v83_r0 : BitVec 32 := Scalar.extui v82_r0
  let c0_i32_87_r0 : BitVec 32 := 0#32
  let v84_r0 : BitVec 1 := Scalar.cmpi .ne v83_r0 c0_i32_87_r0
  v84_r0

def k0_off7 : Fin 1 → Nat :=
  let c0_i32_55_r0 : BitVec 32 := 0#32
  let c1_i32_56_r0 : BitVec 32 := 1#32
  let v54_r0 : BitVec 32 := Scalar.addi c0_i32_55_r0 c1_i32_56_r0
  let c3_i32_162_r0 : BitVec 32 := 3#32
  let v165_r0 : BitVec 32 := Scalar.remui v54_r0 c3_i32_162_r0
  ![v165_r0.toNat]
def k0_off8 : Fin 4 → Nat :=
  let c0_i32_55_r0 : BitVec 32 := 0#32
  let c1_i32_56_r0 : BitVec 32 := 1#32
  let v54_r0 : BitVec 32 := Scalar.addi c0_i32_55_r0 c1_i32_56_r0
  let c3_i32_162_r0 : BitVec 32 := 3#32
  let v165_r0 : BitVec 32 := Scalar.remui v54_r0 c3_i32_162_r0
  let c0_i32_165_r0 : BitVec 32 := 0#32
  let c0_i32_166_r0 : BitVec 32 := 0#32
  let c0_i32_167_r0 : BitVec 32 := 0#32
  ![v165_r0.toNat, 0, 0, 0]
def k0_off9 : Fin 3 → Nat :=
  let c1_i32_163_r0 : BitVec 32 := 1#32
  let true_11_r0 : BitVec 1 := 1#1
  let c1_i32_r0 : BitVec 32 := 1#32
  let c0_i32_12_r0 : BitVec 32 := 0#32
  let v13_r0 : BitVec 32 := Scalar.select true_11_r0 c1_i32_r0 c0_i32_12_r0
  let c8_i32_r0 : BitVec 32 := 8#32
  let v14_r0 : BitVec 1 := Scalar.cmpi .eq v13_r0 c8_i32_r0
  let c1_i32_15_r0 : BitVec 32 := 1#32
  let c0_i32_14_r0 : BitVec 32 := 0#32
  let v16_r0 : BitVec 32 := Scalar.select v14_r0 c1_i32_15_r0 c0_i32_14_r0
  let c8_i32_16_r0 : BitVec 32 := 8#32
  let v17_r0 : BitVec 1 := Scalar.cmpi .eq v16_r0 c8_i32_16_r0
  let c0_i32_17_r0 : BitVec 32 := 0#32
  let v18_r0 : BitVec 32 := Scalar.select v17_r0 c0_i32_17_r0 v16_r0
  let c0_i32_18_r0 : BitVec 32 := 0#32
  let v19_r0 : BitVec 32 := Scalar.addi v18_r0 c0_i32_18_r0
  let v166_r0 : BitVec 32 := Scalar.muli c1_i32_163_r0 v19_r0
  let c1024_i32_164_r0 : BitVec 32 := 1024#32
  let c0_i32_13_r0 : BitVec 32 := 0#32
  let v15_r0 : BitVec 32 := Scalar.select v14_r0 c0_i32_13_r0 v13_r0
  let c0_i32_19_r0 : BitVec 32 := 0#32
  let v20_r0 : BitVec 32 := Scalar.addi v15_r0 c0_i32_19_r0
  let v167_r0 : BitVec 32 := Scalar.muli c1024_i32_164_r0 v20_r0
  let c0_i32_168_r0 : BitVec 32 := 0#32
  ![v166_r0.toNat, v167_r0.toNat, 0]
def k0_cond3 : BitVec 1 :=
  let true_91_r0 : BitVec 1 := 1#1
  let true_11_r0 : BitVec 1 := 1#1
  let c1_i32_r0 : BitVec 32 := 1#32
  let c0_i32_12_r0 : BitVec 32 := 0#32
  let v13_r0 : BitVec 32 := Scalar.select true_11_r0 c1_i32_r0 c0_i32_12_r0
  let c8_i32_r0 : BitVec 32 := 8#32
  let v14_r0 : BitVec 1 := Scalar.cmpi .eq v13_r0 c8_i32_r0
  let c1_i32_15_r0 : BitVec 32 := 1#32
  let c0_i32_14_r0 : BitVec 32 := 0#32
  let v16_r0 : BitVec 32 := Scalar.select v14_r0 c1_i32_15_r0 c0_i32_14_r0
  let c8_i32_16_r0 : BitVec 32 := 8#32
  let v17_r0 : BitVec 1 := Scalar.cmpi .eq v16_r0 c8_i32_16_r0
  let c0_i32_17_r0 : BitVec 32 := 0#32
  let v18_r0 : BitVec 32 := Scalar.select v17_r0 c0_i32_17_r0 v16_r0
  let c0_i32_18_r0 : BitVec 32 := 0#32
  let v19_r0 : BitVec 32 := Scalar.addi v18_r0 c0_i32_18_r0
  let c0_i32_89_r0 : BitVec 32 := 0#32
  let v87_r0 : BitVec 1 := Scalar.cmpi .ne v19_r0 c0_i32_89_r0
  let c0_i32_13_r0 : BitVec 32 := 0#32
  let v15_r0 : BitVec 32 := Scalar.select v14_r0 c0_i32_13_r0 v13_r0
  let c0_i32_19_r0 : BitVec 32 := 0#32
  let v20_r0 : BitVec 32 := Scalar.addi v15_r0 c0_i32_19_r0
  let c0_i32_90_r0 : BitVec 32 := 0#32
  let v88_r0 : BitVec 1 := Scalar.cmpi .ne v20_r0 c0_i32_90_r0
  let v89_r0 : BitVec 1 := Scalar.ori v87_r0 v88_r0
  let v90_r0 : BitVec 1 := Scalar.andi true_91_r0 v89_r0
  let true_92_r0 : BitVec 1 := 1#1
  let v91_r0 : BitVec 1 := Scalar.andi v90_r0 true_92_r0
  let v92_r0 : BitVec 32 := Scalar.extui v91_r0
  let c0_i32_93_r0 : BitVec 32 := 0#32
  let v93_r0 : BitVec 1 := Scalar.cmpi .ne v92_r0 c0_i32_93_r0
  v93_r0

def k0_off10 : Fin 1 → Nat :=
  let c0_i32_65_r0 : BitVec 32 := 0#32
  let c1_i32_66_r0 : BitVec 32 := 1#32
  let v61_r0 : BitVec 32 := Scalar.addi c0_i32_65_r0 c1_i32_66_r0
  let c3_i32_162_r0 : BitVec 32 := 3#32
  let v165_r0 : BitVec 32 := Scalar.remui v61_r0 c3_i32_162_r0
  ![v165_r0.toNat]
def k0_off11 : Fin 4 → Nat :=
  let c0_i32_65_r0 : BitVec 32 := 0#32
  let c1_i32_66_r0 : BitVec 32 := 1#32
  let v61_r0 : BitVec 32 := Scalar.addi c0_i32_65_r0 c1_i32_66_r0
  let c3_i32_162_r0 : BitVec 32 := 3#32
  let v165_r0 : BitVec 32 := Scalar.remui v61_r0 c3_i32_162_r0
  let c0_i32_165_r0 : BitVec 32 := 0#32
  let c0_i32_166_r0 : BitVec 32 := 0#32
  let c0_i32_167_r0 : BitVec 32 := 0#32
  ![v165_r0.toNat, 0, 0, 0]
def k0_off12 : Fin 3 → Nat :=
  let c1_i32_163_r0 : BitVec 32 := 1#32
  let true_11_r0 : BitVec 1 := 1#1
  let c1_i32_r0 : BitVec 32 := 1#32
  let c0_i32_12_r0 : BitVec 32 := 0#32
  let v13_r0 : BitVec 32 := Scalar.select true_11_r0 c1_i32_r0 c0_i32_12_r0
  let c8_i32_r0 : BitVec 32 := 8#32
  let v14_r0 : BitVec 1 := Scalar.cmpi .eq v13_r0 c8_i32_r0
  let c1_i32_15_r0 : BitVec 32 := 1#32
  let c0_i32_14_r0 : BitVec 32 := 0#32
  let v16_r0 : BitVec 32 := Scalar.select v14_r0 c1_i32_15_r0 c0_i32_14_r0
  let c8_i32_16_r0 : BitVec 32 := 8#32
  let v17_r0 : BitVec 1 := Scalar.cmpi .eq v16_r0 c8_i32_16_r0
  let c0_i32_17_r0 : BitVec 32 := 0#32
  let v18_r0 : BitVec 32 := Scalar.select v17_r0 c0_i32_17_r0 v16_r0
  let c0_i32_18_r0 : BitVec 32 := 0#32
  let v19_r0 : BitVec 32 := Scalar.addi v18_r0 c0_i32_18_r0
  let v166_r0 : BitVec 32 := Scalar.muli c1_i32_163_r0 v19_r0
  let c1024_i32_164_r0 : BitVec 32 := 1024#32
  let c0_i32_13_r0 : BitVec 32 := 0#32
  let v15_r0 : BitVec 32 := Scalar.select v14_r0 c0_i32_13_r0 v13_r0
  let c0_i32_19_r0 : BitVec 32 := 0#32
  let v20_r0 : BitVec 32 := Scalar.addi v15_r0 c0_i32_19_r0
  let v167_r0 : BitVec 32 := Scalar.muli c1024_i32_164_r0 v20_r0
  let c0_i32_168_r0 : BitVec 32 := 0#32
  ![v166_r0.toNat, v167_r0.toNat, 0]
def k0_cond4 : BitVec 1 :=
  let true_97_r0 : BitVec 1 := 1#1
  let true_11_r0 : BitVec 1 := 1#1
  let c1_i32_r0 : BitVec 32 := 1#32
  let c0_i32_12_r0 : BitVec 32 := 0#32
  let v13_r0 : BitVec 32 := Scalar.select true_11_r0 c1_i32_r0 c0_i32_12_r0
  let c8_i32_r0 : BitVec 32 := 8#32
  let v14_r0 : BitVec 1 := Scalar.cmpi .eq v13_r0 c8_i32_r0
  let c1_i32_15_r0 : BitVec 32 := 1#32
  let c0_i32_14_r0 : BitVec 32 := 0#32
  let v16_r0 : BitVec 32 := Scalar.select v14_r0 c1_i32_15_r0 c0_i32_14_r0
  let c8_i32_16_r0 : BitVec 32 := 8#32
  let v17_r0 : BitVec 1 := Scalar.cmpi .eq v16_r0 c8_i32_16_r0
  let c0_i32_17_r0 : BitVec 32 := 0#32
  let v18_r0 : BitVec 32 := Scalar.select v17_r0 c0_i32_17_r0 v16_r0
  let c0_i32_18_r0 : BitVec 32 := 0#32
  let v19_r0 : BitVec 32 := Scalar.addi v18_r0 c0_i32_18_r0
  let c0_i32_95_r0 : BitVec 32 := 0#32
  let v96_r0 : BitVec 1 := Scalar.cmpi .ne v19_r0 c0_i32_95_r0
  let c0_i32_13_r0 : BitVec 32 := 0#32
  let v15_r0 : BitVec 32 := Scalar.select v14_r0 c0_i32_13_r0 v13_r0
  let c0_i32_19_r0 : BitVec 32 := 0#32
  let v20_r0 : BitVec 32 := Scalar.addi v15_r0 c0_i32_19_r0
  let c0_i32_96_r0 : BitVec 32 := 0#32
  let v97_r0 : BitVec 1 := Scalar.cmpi .ne v20_r0 c0_i32_96_r0
  let v98_r0 : BitVec 1 := Scalar.ori v96_r0 v97_r0
  let v99_r0 : BitVec 1 := Scalar.andi true_97_r0 v98_r0
  let true_98_r0 : BitVec 1 := 1#1
  let v100_r0 : BitVec 1 := Scalar.andi v99_r0 true_98_r0
  let v101_r0 : BitVec 32 := Scalar.extui v100_r0
  let c0_i32_99_r0 : BitVec 32 := 0#32
  let v102_r0 : BitVec 1 := Scalar.cmpi .ne v101_r0 c0_i32_99_r0
  v102_r0

def k0_off13 : Fin 1 → Nat :=
  let c0_i32_75_r0 : BitVec 32 := 0#32
  let c1_i32_76_r0 : BitVec 32 := 1#32
  let v68_r0 : BitVec 32 := Scalar.addi c0_i32_75_r0 c1_i32_76_r0
  let c3_i32_162_r0 : BitVec 32 := 3#32
  let v165_r0 : BitVec 32 := Scalar.remui v68_r0 c3_i32_162_r0
  ![v165_r0.toNat]
def k0_off14 : Fin 4 → Nat :=
  let c0_i32_75_r0 : BitVec 32 := 0#32
  let c1_i32_76_r0 : BitVec 32 := 1#32
  let v68_r0 : BitVec 32 := Scalar.addi c0_i32_75_r0 c1_i32_76_r0
  let c3_i32_162_r0 : BitVec 32 := 3#32
  let v165_r0 : BitVec 32 := Scalar.remui v68_r0 c3_i32_162_r0
  let c0_i32_165_r0 : BitVec 32 := 0#32
  let c0_i32_166_r0 : BitVec 32 := 0#32
  let c0_i32_167_r0 : BitVec 32 := 0#32
  ![v165_r0.toNat, 0, 0, 0]
def k0_off15 : Fin 3 → Nat :=
  let c1_i32_163_r0 : BitVec 32 := 1#32
  let true_11_r0 : BitVec 1 := 1#1
  let c1_i32_r0 : BitVec 32 := 1#32
  let c0_i32_12_r0 : BitVec 32 := 0#32
  let v13_r0 : BitVec 32 := Scalar.select true_11_r0 c1_i32_r0 c0_i32_12_r0
  let c8_i32_r0 : BitVec 32 := 8#32
  let v14_r0 : BitVec 1 := Scalar.cmpi .eq v13_r0 c8_i32_r0
  let c1_i32_15_r0 : BitVec 32 := 1#32
  let c0_i32_14_r0 : BitVec 32 := 0#32
  let v16_r0 : BitVec 32 := Scalar.select v14_r0 c1_i32_15_r0 c0_i32_14_r0
  let c8_i32_16_r0 : BitVec 32 := 8#32
  let v17_r0 : BitVec 1 := Scalar.cmpi .eq v16_r0 c8_i32_16_r0
  let c0_i32_17_r0 : BitVec 32 := 0#32
  let v18_r0 : BitVec 32 := Scalar.select v17_r0 c0_i32_17_r0 v16_r0
  let c0_i32_18_r0 : BitVec 32 := 0#32
  let v19_r0 : BitVec 32 := Scalar.addi v18_r0 c0_i32_18_r0
  let v166_r0 : BitVec 32 := Scalar.muli c1_i32_163_r0 v19_r0
  let c1024_i32_164_r0 : BitVec 32 := 1024#32
  let c0_i32_13_r0 : BitVec 32 := 0#32
  let v15_r0 : BitVec 32 := Scalar.select v14_r0 c0_i32_13_r0 v13_r0
  let c0_i32_19_r0 : BitVec 32 := 0#32
  let v20_r0 : BitVec 32 := Scalar.addi v15_r0 c0_i32_19_r0
  let v167_r0 : BitVec 32 := Scalar.muli c1024_i32_164_r0 v20_r0
  let c0_i32_168_r0 : BitVec 32 := 0#32
  ![v166_r0.toNat, v167_r0.toNat, 0]
@[reducible] def k0_t1_loop : Scf.Loop 32 :=
  let c0_i32_109_r0 : BitVec 32 := 0#32
  let c64_i32_r0 : BitVec 32 := 64#32
  let v105_r0 : BitVec 32 := Scalar.addi c0_i32_109_r0 c64_i32_r0
  let c1_i32_110_r0 : BitVec 32 := 1#32
  ⟨c0_i32_109_r0, v105_r0, c1_i32_110_r0⟩
def k0_off16 (arg9_r0 : BitVec 32) : Fin 1 → Nat :=
  let c3_i32_317_r0 : BitVec 32 := 3#32
  let v466_r0 : BitVec 32 := Scalar.remui arg9_r0 c3_i32_317_r0
  ![v466_r0.toNat]
def k0_cond5 (k0_t1 : Fin k0_t1_loop.trips) (arg19_r0 : BitVec 32) (arg20_r0 : BitVec 32) : BitVec 1 :=
  let true_175_r0 : BitVec 1 := 1#1
  let c1_i32_174_r0 : BitVec 32 := 1#32
  let v179_r0 : BitVec 32 := Scalar.addi arg20_r0 c1_i32_174_r0
  let v180_r0 : BitVec 32 := Scalar.select true_175_r0 v179_r0 arg20_r0
  let c8_i32_176_r0 : BitVec 32 := 8#32
  let v181_r0 : BitVec 1 := Scalar.cmpi .eq v180_r0 c8_i32_176_r0
  let c1_i32_178_r0 : BitVec 32 := 1#32
  let v183_r0 : BitVec 32 := Scalar.addi arg19_r0 c1_i32_178_r0
  let v184_r0 : BitVec 32 := Scalar.select v181_r0 v183_r0 arg19_r0
  let c8_i32_179_r0 : BitVec 32 := 8#32
  let v185_r0 : BitVec 1 := Scalar.cmpi .eq v184_r0 c8_i32_179_r0
  let c0_i32_180_r0 : BitVec 32 := 0#32
  let v186_r0 : BitVec 32 := Scalar.select v185_r0 c0_i32_180_r0 v184_r0
  let c0_i32_181_r0 : BitVec 32 := 0#32
  let v187_r0 : BitVec 32 := Scalar.addi v186_r0 c0_i32_181_r0
  let true_184_r0 : BitVec 1 := 1#1
  let c0_i32_177_r0 : BitVec 32 := 0#32
  let v182_r0 : BitVec 32 := Scalar.select v181_r0 c0_i32_177_r0 v180_r0
  let c1_i32_183_r0 : BitVec 32 := 1#32
  let v189_r0 : BitVec 32 := Scalar.addi v182_r0 c1_i32_183_r0
  let v190_r0 : BitVec 32 := Scalar.select true_184_r0 v189_r0 v182_r0
  let c8_i32_185_r0 : BitVec 32 := 8#32
  let v191_r0 : BitVec 1 := Scalar.cmpi .eq v190_r0 c8_i32_185_r0
  let c1_i32_187_r0 : BitVec 32 := 1#32
  let v193_r0 : BitVec 32 := Scalar.addi v186_r0 c1_i32_187_r0
  let v194_r0 : BitVec 32 := Scalar.select v191_r0 v193_r0 v186_r0
  let c8_i32_188_r0 : BitVec 32 := 8#32
  let v195_r0 : BitVec 1 := Scalar.cmpi .eq v194_r0 c8_i32_188_r0
  let c0_i32_189_r0 : BitVec 32 := 0#32
  let v196_r0 : BitVec 32 := Scalar.select v195_r0 c0_i32_189_r0 v194_r0
  let c0_i32_190_r0 : BitVec 32 := 0#32
  let v197_r0 : BitVec 32 := Scalar.addi v196_r0 c0_i32_190_r0
  let v209_r0 : BitVec 1 := Scalar.cmpi .ne v187_r0 v197_r0
  let c0_i32_182_r0 : BitVec 32 := 0#32
  let v188_r0 : BitVec 32 := Scalar.addi v182_r0 c0_i32_182_r0
  let c0_i32_186_r0 : BitVec 32 := 0#32
  let v192_r0 : BitVec 32 := Scalar.select v191_r0 c0_i32_186_r0 v190_r0
  let c0_i32_191_r0 : BitVec 32 := 0#32
  let v198_r0 : BitVec 32 := Scalar.addi v192_r0 c0_i32_191_r0
  let v210_r0 : BitVec 1 := Scalar.cmpi .ne v188_r0 v198_r0
  let v211_r0 : BitVec 1 := Scalar.ori v209_r0 v210_r0
  let c0_i32_109_r0 : BitVec 32 := 0#32
  let c1_i32_110_r0 : BitVec 32 := 1#32
  let arg8_r0 : BitVec 32 := Scf.iv c0_i32_109_r0 c1_i32_110_r0 k0_t1
  let c62_i32_r0 : BitVec 32 := 62#32
  let v212_r0 : BitVec 1 := Scalar.cmpi .sge arg8_r0 c62_i32_r0
  let true_201_r0 : BitVec 1 := 1#1
  let v213_r0 : BitVec 1 := Scalar.xori v212_r0 true_201_r0
  let v214_r0 : BitVec 1 := Scalar.andi v211_r0 v213_r0
  let true_202_r0 : BitVec 1 := 1#1
  let v215_r0 : BitVec 1 := Scalar.andi v214_r0 true_202_r0
  let v216_r0 : BitVec 32 := Scalar.extui v215_r0
  let c0_i32_203_r0 : BitVec 32 := 0#32
  let v217_r0 : BitVec 1 := Scalar.cmpi .ne v216_r0 c0_i32_203_r0
  v217_r0

def k0_off17 (arg9_r0 : BitVec 32) : Fin 4 → Nat :=
  let c3_i32_317_r0 : BitVec 32 := 3#32
  let v466_r0 : BitVec 32 := Scalar.remui arg9_r0 c3_i32_317_r0
  let c0_i32_320_r0 : BitVec 32 := 0#32
  let c0_i32_321_r0 : BitVec 32 := 0#32
  let c0_i32_322_r0 : BitVec 32 := 0#32
  ![v466_r0.toNat, 0, 0, 0]
def k0_off18 (arg19_r0 : BitVec 32) (arg20_r0 : BitVec 32) : Fin 3 → Nat :=
  let c1_i32_318_r0 : BitVec 32 := 1#32
  let true_184_r0 : BitVec 1 := 1#1
  let true_175_r0 : BitVec 1 := 1#1
  let c1_i32_174_r0 : BitVec 32 := 1#32
  let v179_r0 : BitVec 32 := Scalar.addi arg20_r0 c1_i32_174_r0
  let v180_r0 : BitVec 32 := Scalar.select true_175_r0 v179_r0 arg20_r0
  let c8_i32_176_r0 : BitVec 32 := 8#32
  let v181_r0 : BitVec 1 := Scalar.cmpi .eq v180_r0 c8_i32_176_r0
  let c0_i32_177_r0 : BitVec 32 := 0#32
  let v182_r0 : BitVec 32 := Scalar.select v181_r0 c0_i32_177_r0 v180_r0
  let c1_i32_183_r0 : BitVec 32 := 1#32
  let v189_r0 : BitVec 32 := Scalar.addi v182_r0 c1_i32_183_r0
  let v190_r0 : BitVec 32 := Scalar.select true_184_r0 v189_r0 v182_r0
  let c8_i32_185_r0 : BitVec 32 := 8#32
  let v191_r0 : BitVec 1 := Scalar.cmpi .eq v190_r0 c8_i32_185_r0
  let c1_i32_178_r0 : BitVec 32 := 1#32
  let v183_r0 : BitVec 32 := Scalar.addi arg19_r0 c1_i32_178_r0
  let v184_r0 : BitVec 32 := Scalar.select v181_r0 v183_r0 arg19_r0
  let c8_i32_179_r0 : BitVec 32 := 8#32
  let v185_r0 : BitVec 1 := Scalar.cmpi .eq v184_r0 c8_i32_179_r0
  let c0_i32_180_r0 : BitVec 32 := 0#32
  let v186_r0 : BitVec 32 := Scalar.select v185_r0 c0_i32_180_r0 v184_r0
  let c1_i32_187_r0 : BitVec 32 := 1#32
  let v193_r0 : BitVec 32 := Scalar.addi v186_r0 c1_i32_187_r0
  let v194_r0 : BitVec 32 := Scalar.select v191_r0 v193_r0 v186_r0
  let c8_i32_188_r0 : BitVec 32 := 8#32
  let v195_r0 : BitVec 1 := Scalar.cmpi .eq v194_r0 c8_i32_188_r0
  let c0_i32_189_r0 : BitVec 32 := 0#32
  let v196_r0 : BitVec 32 := Scalar.select v195_r0 c0_i32_189_r0 v194_r0
  let c0_i32_190_r0 : BitVec 32 := 0#32
  let v197_r0 : BitVec 32 := Scalar.addi v196_r0 c0_i32_190_r0
  let v467_r0 : BitVec 32 := Scalar.muli c1_i32_318_r0 v197_r0
  let c1024_i32_319_r0 : BitVec 32 := 1024#32
  let c0_i32_186_r0 : BitVec 32 := 0#32
  let v192_r0 : BitVec 32 := Scalar.select v191_r0 c0_i32_186_r0 v190_r0
  let c0_i32_191_r0 : BitVec 32 := 0#32
  let v198_r0 : BitVec 32 := Scalar.addi v192_r0 c0_i32_191_r0
  let v468_r0 : BitVec 32 := Scalar.muli c1024_i32_319_r0 v198_r0
  let c0_i32_323_r0 : BitVec 32 := 0#32
  ![v467_r0.toNat, v468_r0.toNat, 0]
def k0_off19 (arg11_r0 : BitVec 32) : Fin 1 → Nat :=
  let c3_i32_317_r0 : BitVec 32 := 3#32
  let v466_r0 : BitVec 32 := Scalar.remui arg11_r0 c3_i32_317_r0
  ![v466_r0.toNat]
def k0_cond6 (k0_t1 : Fin k0_t1_loop.trips) (arg19_r0 : BitVec 32) (arg20_r0 : BitVec 32) : BitVec 1 :=
  let true_175_r0 : BitVec 1 := 1#1
  let c1_i32_174_r0 : BitVec 32 := 1#32
  let v179_r0 : BitVec 32 := Scalar.addi arg20_r0 c1_i32_174_r0
  let v180_r0 : BitVec 32 := Scalar.select true_175_r0 v179_r0 arg20_r0
  let c8_i32_176_r0 : BitVec 32 := 8#32
  let v181_r0 : BitVec 1 := Scalar.cmpi .eq v180_r0 c8_i32_176_r0
  let c1_i32_178_r0 : BitVec 32 := 1#32
  let v183_r0 : BitVec 32 := Scalar.addi arg19_r0 c1_i32_178_r0
  let v184_r0 : BitVec 32 := Scalar.select v181_r0 v183_r0 arg19_r0
  let c8_i32_179_r0 : BitVec 32 := 8#32
  let v185_r0 : BitVec 1 := Scalar.cmpi .eq v184_r0 c8_i32_179_r0
  let c0_i32_180_r0 : BitVec 32 := 0#32
  let v186_r0 : BitVec 32 := Scalar.select v185_r0 c0_i32_180_r0 v184_r0
  let c0_i32_181_r0 : BitVec 32 := 0#32
  let v187_r0 : BitVec 32 := Scalar.addi v186_r0 c0_i32_181_r0
  let true_184_r0 : BitVec 1 := 1#1
  let c0_i32_177_r0 : BitVec 32 := 0#32
  let v182_r0 : BitVec 32 := Scalar.select v181_r0 c0_i32_177_r0 v180_r0
  let c1_i32_183_r0 : BitVec 32 := 1#32
  let v189_r0 : BitVec 32 := Scalar.addi v182_r0 c1_i32_183_r0
  let v190_r0 : BitVec 32 := Scalar.select true_184_r0 v189_r0 v182_r0
  let c8_i32_185_r0 : BitVec 32 := 8#32
  let v191_r0 : BitVec 1 := Scalar.cmpi .eq v190_r0 c8_i32_185_r0
  let c1_i32_187_r0 : BitVec 32 := 1#32
  let v193_r0 : BitVec 32 := Scalar.addi v186_r0 c1_i32_187_r0
  let v194_r0 : BitVec 32 := Scalar.select v191_r0 v193_r0 v186_r0
  let c8_i32_188_r0 : BitVec 32 := 8#32
  let v195_r0 : BitVec 1 := Scalar.cmpi .eq v194_r0 c8_i32_188_r0
  let c0_i32_189_r0 : BitVec 32 := 0#32
  let v196_r0 : BitVec 32 := Scalar.select v195_r0 c0_i32_189_r0 v194_r0
  let c0_i32_190_r0 : BitVec 32 := 0#32
  let v197_r0 : BitVec 32 := Scalar.addi v196_r0 c0_i32_190_r0
  let v221_r0 : BitVec 1 := Scalar.cmpi .ne v187_r0 v197_r0
  let c0_i32_182_r0 : BitVec 32 := 0#32
  let v188_r0 : BitVec 32 := Scalar.addi v182_r0 c0_i32_182_r0
  let c0_i32_186_r0 : BitVec 32 := 0#32
  let v192_r0 : BitVec 32 := Scalar.select v191_r0 c0_i32_186_r0 v190_r0
  let c0_i32_191_r0 : BitVec 32 := 0#32
  let v198_r0 : BitVec 32 := Scalar.addi v192_r0 c0_i32_191_r0
  let v222_r0 : BitVec 1 := Scalar.cmpi .ne v188_r0 v198_r0
  let v223_r0 : BitVec 1 := Scalar.ori v221_r0 v222_r0
  let c0_i32_109_r0 : BitVec 32 := 0#32
  let c1_i32_110_r0 : BitVec 32 := 1#32
  let arg8_r0 : BitVec 32 := Scf.iv c0_i32_109_r0 c1_i32_110_r0 k0_t1
  let c62_i32_206_r0 : BitVec 32 := 62#32
  let v224_r0 : BitVec 1 := Scalar.cmpi .sge arg8_r0 c62_i32_206_r0
  let true_207_r0 : BitVec 1 := 1#1
  let v225_r0 : BitVec 1 := Scalar.xori v224_r0 true_207_r0
  let v226_r0 : BitVec 1 := Scalar.andi v223_r0 v225_r0
  let true_208_r0 : BitVec 1 := 1#1
  let v227_r0 : BitVec 1 := Scalar.andi v226_r0 true_208_r0
  let v228_r0 : BitVec 32 := Scalar.extui v227_r0
  let c0_i32_209_r0 : BitVec 32 := 0#32
  let v229_r0 : BitVec 1 := Scalar.cmpi .ne v228_r0 c0_i32_209_r0
  v229_r0

def k0_off20 (arg11_r0 : BitVec 32) : Fin 4 → Nat :=
  let c3_i32_317_r0 : BitVec 32 := 3#32
  let v466_r0 : BitVec 32 := Scalar.remui arg11_r0 c3_i32_317_r0
  let c0_i32_320_r0 : BitVec 32 := 0#32
  let c0_i32_321_r0 : BitVec 32 := 0#32
  let c0_i32_322_r0 : BitVec 32 := 0#32
  ![v466_r0.toNat, 0, 0, 0]
def k0_off21 (arg19_r0 : BitVec 32) (arg20_r0 : BitVec 32) : Fin 3 → Nat :=
  let c1_i32_318_r0 : BitVec 32 := 1#32
  let true_184_r0 : BitVec 1 := 1#1
  let true_175_r0 : BitVec 1 := 1#1
  let c1_i32_174_r0 : BitVec 32 := 1#32
  let v179_r0 : BitVec 32 := Scalar.addi arg20_r0 c1_i32_174_r0
  let v180_r0 : BitVec 32 := Scalar.select true_175_r0 v179_r0 arg20_r0
  let c8_i32_176_r0 : BitVec 32 := 8#32
  let v181_r0 : BitVec 1 := Scalar.cmpi .eq v180_r0 c8_i32_176_r0
  let c0_i32_177_r0 : BitVec 32 := 0#32
  let v182_r0 : BitVec 32 := Scalar.select v181_r0 c0_i32_177_r0 v180_r0
  let c1_i32_183_r0 : BitVec 32 := 1#32
  let v189_r0 : BitVec 32 := Scalar.addi v182_r0 c1_i32_183_r0
  let v190_r0 : BitVec 32 := Scalar.select true_184_r0 v189_r0 v182_r0
  let c8_i32_185_r0 : BitVec 32 := 8#32
  let v191_r0 : BitVec 1 := Scalar.cmpi .eq v190_r0 c8_i32_185_r0
  let c1_i32_178_r0 : BitVec 32 := 1#32
  let v183_r0 : BitVec 32 := Scalar.addi arg19_r0 c1_i32_178_r0
  let v184_r0 : BitVec 32 := Scalar.select v181_r0 v183_r0 arg19_r0
  let c8_i32_179_r0 : BitVec 32 := 8#32
  let v185_r0 : BitVec 1 := Scalar.cmpi .eq v184_r0 c8_i32_179_r0
  let c0_i32_180_r0 : BitVec 32 := 0#32
  let v186_r0 : BitVec 32 := Scalar.select v185_r0 c0_i32_180_r0 v184_r0
  let c1_i32_187_r0 : BitVec 32 := 1#32
  let v193_r0 : BitVec 32 := Scalar.addi v186_r0 c1_i32_187_r0
  let v194_r0 : BitVec 32 := Scalar.select v191_r0 v193_r0 v186_r0
  let c8_i32_188_r0 : BitVec 32 := 8#32
  let v195_r0 : BitVec 1 := Scalar.cmpi .eq v194_r0 c8_i32_188_r0
  let c0_i32_189_r0 : BitVec 32 := 0#32
  let v196_r0 : BitVec 32 := Scalar.select v195_r0 c0_i32_189_r0 v194_r0
  let c0_i32_190_r0 : BitVec 32 := 0#32
  let v197_r0 : BitVec 32 := Scalar.addi v196_r0 c0_i32_190_r0
  let v467_r0 : BitVec 32 := Scalar.muli c1_i32_318_r0 v197_r0
  let c1024_i32_319_r0 : BitVec 32 := 1024#32
  let c0_i32_186_r0 : BitVec 32 := 0#32
  let v192_r0 : BitVec 32 := Scalar.select v191_r0 c0_i32_186_r0 v190_r0
  let c0_i32_191_r0 : BitVec 32 := 0#32
  let v198_r0 : BitVec 32 := Scalar.addi v192_r0 c0_i32_191_r0
  let v468_r0 : BitVec 32 := Scalar.muli c1024_i32_319_r0 v198_r0
  let c0_i32_323_r0 : BitVec 32 := 0#32
  ![v467_r0.toNat, v468_r0.toNat, 0]
def k0_off22 (arg13_r0 : BitVec 32) : Fin 1 → Nat :=
  let c3_i32_317_r0 : BitVec 32 := 3#32
  let v466_r0 : BitVec 32 := Scalar.remui arg13_r0 c3_i32_317_r0
  ![v466_r0.toNat]
def k0_cond7 (k0_t1 : Fin k0_t1_loop.trips) (arg19_r0 : BitVec 32) (arg20_r0 : BitVec 32) : BitVec 1 :=
  let true_175_r0 : BitVec 1 := 1#1
  let c1_i32_174_r0 : BitVec 32 := 1#32
  let v179_r0 : BitVec 32 := Scalar.addi arg20_r0 c1_i32_174_r0
  let v180_r0 : BitVec 32 := Scalar.select true_175_r0 v179_r0 arg20_r0
  let c8_i32_176_r0 : BitVec 32 := 8#32
  let v181_r0 : BitVec 1 := Scalar.cmpi .eq v180_r0 c8_i32_176_r0
  let c1_i32_178_r0 : BitVec 32 := 1#32
  let v183_r0 : BitVec 32 := Scalar.addi arg19_r0 c1_i32_178_r0
  let v184_r0 : BitVec 32 := Scalar.select v181_r0 v183_r0 arg19_r0
  let c8_i32_179_r0 : BitVec 32 := 8#32
  let v185_r0 : BitVec 1 := Scalar.cmpi .eq v184_r0 c8_i32_179_r0
  let c0_i32_180_r0 : BitVec 32 := 0#32
  let v186_r0 : BitVec 32 := Scalar.select v185_r0 c0_i32_180_r0 v184_r0
  let c0_i32_181_r0 : BitVec 32 := 0#32
  let v187_r0 : BitVec 32 := Scalar.addi v186_r0 c0_i32_181_r0
  let true_184_r0 : BitVec 1 := 1#1
  let c0_i32_177_r0 : BitVec 32 := 0#32
  let v182_r0 : BitVec 32 := Scalar.select v181_r0 c0_i32_177_r0 v180_r0
  let c1_i32_183_r0 : BitVec 32 := 1#32
  let v189_r0 : BitVec 32 := Scalar.addi v182_r0 c1_i32_183_r0
  let v190_r0 : BitVec 32 := Scalar.select true_184_r0 v189_r0 v182_r0
  let c8_i32_185_r0 : BitVec 32 := 8#32
  let v191_r0 : BitVec 1 := Scalar.cmpi .eq v190_r0 c8_i32_185_r0
  let c1_i32_187_r0 : BitVec 32 := 1#32
  let v193_r0 : BitVec 32 := Scalar.addi v186_r0 c1_i32_187_r0
  let v194_r0 : BitVec 32 := Scalar.select v191_r0 v193_r0 v186_r0
  let c8_i32_188_r0 : BitVec 32 := 8#32
  let v195_r0 : BitVec 1 := Scalar.cmpi .eq v194_r0 c8_i32_188_r0
  let c0_i32_189_r0 : BitVec 32 := 0#32
  let v196_r0 : BitVec 32 := Scalar.select v195_r0 c0_i32_189_r0 v194_r0
  let c0_i32_190_r0 : BitVec 32 := 0#32
  let v197_r0 : BitVec 32 := Scalar.addi v196_r0 c0_i32_190_r0
  let v233_r0 : BitVec 1 := Scalar.cmpi .ne v187_r0 v197_r0
  let c0_i32_182_r0 : BitVec 32 := 0#32
  let v188_r0 : BitVec 32 := Scalar.addi v182_r0 c0_i32_182_r0
  let c0_i32_186_r0 : BitVec 32 := 0#32
  let v192_r0 : BitVec 32 := Scalar.select v191_r0 c0_i32_186_r0 v190_r0
  let c0_i32_191_r0 : BitVec 32 := 0#32
  let v198_r0 : BitVec 32 := Scalar.addi v192_r0 c0_i32_191_r0
  let v234_r0 : BitVec 1 := Scalar.cmpi .ne v188_r0 v198_r0
  let v235_r0 : BitVec 1 := Scalar.ori v233_r0 v234_r0
  let c0_i32_109_r0 : BitVec 32 := 0#32
  let c1_i32_110_r0 : BitVec 32 := 1#32
  let arg8_r0 : BitVec 32 := Scf.iv c0_i32_109_r0 c1_i32_110_r0 k0_t1
  let c62_i32_212_r0 : BitVec 32 := 62#32
  let v236_r0 : BitVec 1 := Scalar.cmpi .sge arg8_r0 c62_i32_212_r0
  let true_213_r0 : BitVec 1 := 1#1
  let v237_r0 : BitVec 1 := Scalar.xori v236_r0 true_213_r0
  let v238_r0 : BitVec 1 := Scalar.andi v235_r0 v237_r0
  let true_214_r0 : BitVec 1 := 1#1
  let v239_r0 : BitVec 1 := Scalar.andi v238_r0 true_214_r0
  let v240_r0 : BitVec 32 := Scalar.extui v239_r0
  let c0_i32_215_r0 : BitVec 32 := 0#32
  let v241_r0 : BitVec 1 := Scalar.cmpi .ne v240_r0 c0_i32_215_r0
  v241_r0

def k0_off23 (arg13_r0 : BitVec 32) : Fin 4 → Nat :=
  let c3_i32_317_r0 : BitVec 32 := 3#32
  let v466_r0 : BitVec 32 := Scalar.remui arg13_r0 c3_i32_317_r0
  let c0_i32_320_r0 : BitVec 32 := 0#32
  let c0_i32_321_r0 : BitVec 32 := 0#32
  let c0_i32_322_r0 : BitVec 32 := 0#32
  ![v466_r0.toNat, 0, 0, 0]
def k0_off24 (arg19_r0 : BitVec 32) (arg20_r0 : BitVec 32) : Fin 3 → Nat :=
  let c1_i32_318_r0 : BitVec 32 := 1#32
  let true_184_r0 : BitVec 1 := 1#1
  let true_175_r0 : BitVec 1 := 1#1
  let c1_i32_174_r0 : BitVec 32 := 1#32
  let v179_r0 : BitVec 32 := Scalar.addi arg20_r0 c1_i32_174_r0
  let v180_r0 : BitVec 32 := Scalar.select true_175_r0 v179_r0 arg20_r0
  let c8_i32_176_r0 : BitVec 32 := 8#32
  let v181_r0 : BitVec 1 := Scalar.cmpi .eq v180_r0 c8_i32_176_r0
  let c0_i32_177_r0 : BitVec 32 := 0#32
  let v182_r0 : BitVec 32 := Scalar.select v181_r0 c0_i32_177_r0 v180_r0
  let c1_i32_183_r0 : BitVec 32 := 1#32
  let v189_r0 : BitVec 32 := Scalar.addi v182_r0 c1_i32_183_r0
  let v190_r0 : BitVec 32 := Scalar.select true_184_r0 v189_r0 v182_r0
  let c8_i32_185_r0 : BitVec 32 := 8#32
  let v191_r0 : BitVec 1 := Scalar.cmpi .eq v190_r0 c8_i32_185_r0
  let c1_i32_178_r0 : BitVec 32 := 1#32
  let v183_r0 : BitVec 32 := Scalar.addi arg19_r0 c1_i32_178_r0
  let v184_r0 : BitVec 32 := Scalar.select v181_r0 v183_r0 arg19_r0
  let c8_i32_179_r0 : BitVec 32 := 8#32
  let v185_r0 : BitVec 1 := Scalar.cmpi .eq v184_r0 c8_i32_179_r0
  let c0_i32_180_r0 : BitVec 32 := 0#32
  let v186_r0 : BitVec 32 := Scalar.select v185_r0 c0_i32_180_r0 v184_r0
  let c1_i32_187_r0 : BitVec 32 := 1#32
  let v193_r0 : BitVec 32 := Scalar.addi v186_r0 c1_i32_187_r0
  let v194_r0 : BitVec 32 := Scalar.select v191_r0 v193_r0 v186_r0
  let c8_i32_188_r0 : BitVec 32 := 8#32
  let v195_r0 : BitVec 1 := Scalar.cmpi .eq v194_r0 c8_i32_188_r0
  let c0_i32_189_r0 : BitVec 32 := 0#32
  let v196_r0 : BitVec 32 := Scalar.select v195_r0 c0_i32_189_r0 v194_r0
  let c0_i32_190_r0 : BitVec 32 := 0#32
  let v197_r0 : BitVec 32 := Scalar.addi v196_r0 c0_i32_190_r0
  let v467_r0 : BitVec 32 := Scalar.muli c1_i32_318_r0 v197_r0
  let c1024_i32_319_r0 : BitVec 32 := 1024#32
  let c0_i32_186_r0 : BitVec 32 := 0#32
  let v192_r0 : BitVec 32 := Scalar.select v191_r0 c0_i32_186_r0 v190_r0
  let c0_i32_191_r0 : BitVec 32 := 0#32
  let v198_r0 : BitVec 32 := Scalar.addi v192_r0 c0_i32_191_r0
  let v468_r0 : BitVec 32 := Scalar.muli c1024_i32_319_r0 v198_r0
  let c0_i32_323_r0 : BitVec 32 := 0#32
  ![v467_r0.toNat, v468_r0.toNat, 0]
def k0_off25 (arg15_r0 : BitVec 32) : Fin 1 → Nat :=
  let c3_i32_317_r0 : BitVec 32 := 3#32
  let v466_r0 : BitVec 32 := Scalar.remui arg15_r0 c3_i32_317_r0
  ![v466_r0.toNat]
def k0_cond8 (k0_t1 : Fin k0_t1_loop.trips) (arg19_r0 : BitVec 32) (arg20_r0 : BitVec 32) : BitVec 1 :=
  let true_175_r0 : BitVec 1 := 1#1
  let c1_i32_174_r0 : BitVec 32 := 1#32
  let v179_r0 : BitVec 32 := Scalar.addi arg20_r0 c1_i32_174_r0
  let v180_r0 : BitVec 32 := Scalar.select true_175_r0 v179_r0 arg20_r0
  let c8_i32_176_r0 : BitVec 32 := 8#32
  let v181_r0 : BitVec 1 := Scalar.cmpi .eq v180_r0 c8_i32_176_r0
  let c1_i32_178_r0 : BitVec 32 := 1#32
  let v183_r0 : BitVec 32 := Scalar.addi arg19_r0 c1_i32_178_r0
  let v184_r0 : BitVec 32 := Scalar.select v181_r0 v183_r0 arg19_r0
  let c8_i32_179_r0 : BitVec 32 := 8#32
  let v185_r0 : BitVec 1 := Scalar.cmpi .eq v184_r0 c8_i32_179_r0
  let c0_i32_180_r0 : BitVec 32 := 0#32
  let v186_r0 : BitVec 32 := Scalar.select v185_r0 c0_i32_180_r0 v184_r0
  let c0_i32_181_r0 : BitVec 32 := 0#32
  let v187_r0 : BitVec 32 := Scalar.addi v186_r0 c0_i32_181_r0
  let true_184_r0 : BitVec 1 := 1#1
  let c0_i32_177_r0 : BitVec 32 := 0#32
  let v182_r0 : BitVec 32 := Scalar.select v181_r0 c0_i32_177_r0 v180_r0
  let c1_i32_183_r0 : BitVec 32 := 1#32
  let v189_r0 : BitVec 32 := Scalar.addi v182_r0 c1_i32_183_r0
  let v190_r0 : BitVec 32 := Scalar.select true_184_r0 v189_r0 v182_r0
  let c8_i32_185_r0 : BitVec 32 := 8#32
  let v191_r0 : BitVec 1 := Scalar.cmpi .eq v190_r0 c8_i32_185_r0
  let c1_i32_187_r0 : BitVec 32 := 1#32
  let v193_r0 : BitVec 32 := Scalar.addi v186_r0 c1_i32_187_r0
  let v194_r0 : BitVec 32 := Scalar.select v191_r0 v193_r0 v186_r0
  let c8_i32_188_r0 : BitVec 32 := 8#32
  let v195_r0 : BitVec 1 := Scalar.cmpi .eq v194_r0 c8_i32_188_r0
  let c0_i32_189_r0 : BitVec 32 := 0#32
  let v196_r0 : BitVec 32 := Scalar.select v195_r0 c0_i32_189_r0 v194_r0
  let c0_i32_190_r0 : BitVec 32 := 0#32
  let v197_r0 : BitVec 32 := Scalar.addi v196_r0 c0_i32_190_r0
  let v245_r0 : BitVec 1 := Scalar.cmpi .ne v187_r0 v197_r0
  let c0_i32_182_r0 : BitVec 32 := 0#32
  let v188_r0 : BitVec 32 := Scalar.addi v182_r0 c0_i32_182_r0
  let c0_i32_186_r0 : BitVec 32 := 0#32
  let v192_r0 : BitVec 32 := Scalar.select v191_r0 c0_i32_186_r0 v190_r0
  let c0_i32_191_r0 : BitVec 32 := 0#32
  let v198_r0 : BitVec 32 := Scalar.addi v192_r0 c0_i32_191_r0
  let v246_r0 : BitVec 1 := Scalar.cmpi .ne v188_r0 v198_r0
  let v247_r0 : BitVec 1 := Scalar.ori v245_r0 v246_r0
  let c0_i32_109_r0 : BitVec 32 := 0#32
  let c1_i32_110_r0 : BitVec 32 := 1#32
  let arg8_r0 : BitVec 32 := Scf.iv c0_i32_109_r0 c1_i32_110_r0 k0_t1
  let c62_i32_218_r0 : BitVec 32 := 62#32
  let v248_r0 : BitVec 1 := Scalar.cmpi .sge arg8_r0 c62_i32_218_r0
  let true_219_r0 : BitVec 1 := 1#1
  let v249_r0 : BitVec 1 := Scalar.xori v248_r0 true_219_r0
  let v250_r0 : BitVec 1 := Scalar.andi v247_r0 v249_r0
  let true_220_r0 : BitVec 1 := 1#1
  let v251_r0 : BitVec 1 := Scalar.andi v250_r0 true_220_r0
  let v252_r0 : BitVec 32 := Scalar.extui v251_r0
  let c0_i32_221_r0 : BitVec 32 := 0#32
  let v253_r0 : BitVec 1 := Scalar.cmpi .ne v252_r0 c0_i32_221_r0
  v253_r0

def k0_off26 (arg15_r0 : BitVec 32) : Fin 4 → Nat :=
  let c3_i32_317_r0 : BitVec 32 := 3#32
  let v466_r0 : BitVec 32 := Scalar.remui arg15_r0 c3_i32_317_r0
  let c0_i32_320_r0 : BitVec 32 := 0#32
  let c0_i32_321_r0 : BitVec 32 := 0#32
  let c0_i32_322_r0 : BitVec 32 := 0#32
  ![v466_r0.toNat, 0, 0, 0]
def k0_off27 (arg19_r0 : BitVec 32) (arg20_r0 : BitVec 32) : Fin 3 → Nat :=
  let c1_i32_318_r0 : BitVec 32 := 1#32
  let true_184_r0 : BitVec 1 := 1#1
  let true_175_r0 : BitVec 1 := 1#1
  let c1_i32_174_r0 : BitVec 32 := 1#32
  let v179_r0 : BitVec 32 := Scalar.addi arg20_r0 c1_i32_174_r0
  let v180_r0 : BitVec 32 := Scalar.select true_175_r0 v179_r0 arg20_r0
  let c8_i32_176_r0 : BitVec 32 := 8#32
  let v181_r0 : BitVec 1 := Scalar.cmpi .eq v180_r0 c8_i32_176_r0
  let c0_i32_177_r0 : BitVec 32 := 0#32
  let v182_r0 : BitVec 32 := Scalar.select v181_r0 c0_i32_177_r0 v180_r0
  let c1_i32_183_r0 : BitVec 32 := 1#32
  let v189_r0 : BitVec 32 := Scalar.addi v182_r0 c1_i32_183_r0
  let v190_r0 : BitVec 32 := Scalar.select true_184_r0 v189_r0 v182_r0
  let c8_i32_185_r0 : BitVec 32 := 8#32
  let v191_r0 : BitVec 1 := Scalar.cmpi .eq v190_r0 c8_i32_185_r0
  let c1_i32_178_r0 : BitVec 32 := 1#32
  let v183_r0 : BitVec 32 := Scalar.addi arg19_r0 c1_i32_178_r0
  let v184_r0 : BitVec 32 := Scalar.select v181_r0 v183_r0 arg19_r0
  let c8_i32_179_r0 : BitVec 32 := 8#32
  let v185_r0 : BitVec 1 := Scalar.cmpi .eq v184_r0 c8_i32_179_r0
  let c0_i32_180_r0 : BitVec 32 := 0#32
  let v186_r0 : BitVec 32 := Scalar.select v185_r0 c0_i32_180_r0 v184_r0
  let c1_i32_187_r0 : BitVec 32 := 1#32
  let v193_r0 : BitVec 32 := Scalar.addi v186_r0 c1_i32_187_r0
  let v194_r0 : BitVec 32 := Scalar.select v191_r0 v193_r0 v186_r0
  let c8_i32_188_r0 : BitVec 32 := 8#32
  let v195_r0 : BitVec 1 := Scalar.cmpi .eq v194_r0 c8_i32_188_r0
  let c0_i32_189_r0 : BitVec 32 := 0#32
  let v196_r0 : BitVec 32 := Scalar.select v195_r0 c0_i32_189_r0 v194_r0
  let c0_i32_190_r0 : BitVec 32 := 0#32
  let v197_r0 : BitVec 32 := Scalar.addi v196_r0 c0_i32_190_r0
  let v467_r0 : BitVec 32 := Scalar.muli c1_i32_318_r0 v197_r0
  let c1024_i32_319_r0 : BitVec 32 := 1024#32
  let c0_i32_186_r0 : BitVec 32 := 0#32
  let v192_r0 : BitVec 32 := Scalar.select v191_r0 c0_i32_186_r0 v190_r0
  let c0_i32_191_r0 : BitVec 32 := 0#32
  let v198_r0 : BitVec 32 := Scalar.addi v192_r0 c0_i32_191_r0
  let v468_r0 : BitVec 32 := Scalar.muli c1024_i32_319_r0 v198_r0
  let c0_i32_323_r0 : BitVec 32 := 0#32
  ![v467_r0.toNat, v468_r0.toNat, 0]
def k0_off28 (arg10_r0 : BitVec 32) : Fin 1 → Nat :=
  let c3_i32_319_r0 : BitVec 32 := 3#32
  let v468_r0 : BitVec 32 := Scalar.remui arg10_r0 c3_i32_319_r0
  ![v468_r0.toNat]
def k0_cond9 (k0_t1 : Fin k0_t1_loop.trips) (arg19_r0 : BitVec 32) (arg20_r0 : BitVec 32) : BitVec 1 :=
  let c0_i32_163_r0 : BitVec 32 := 0#32
  let v167_r0 : BitVec 32 := Scalar.addi arg19_r0 c0_i32_163_r0
  let true_166_r0 : BitVec 1 := 1#1
  let c1_i32_165_r0 : BitVec 32 := 1#32
  let v169_r0 : BitVec 32 := Scalar.subi arg20_r0 c1_i32_165_r0
  let v170_r0 : BitVec 32 := Scalar.select true_166_r0 v169_r0 arg20_r0
  let c_m1_i32_167_r0 : BitVec 32 := 4294967295#32
  let v171_r0 : BitVec 1 := Scalar.cmpi .eq v170_r0 c_m1_i32_167_r0
  let c1_i32_169_r0 : BitVec 32 := 1#32
  let v173_r0 : BitVec 32 := Scalar.subi arg19_r0 c1_i32_169_r0
  let v174_r0 : BitVec 32 := Scalar.select v171_r0 v173_r0 arg19_r0
  let c_m1_i32_170_r0 : BitVec 32 := 4294967295#32
  let v175_r0 : BitVec 1 := Scalar.cmpi .eq v174_r0 c_m1_i32_170_r0
  let c7_i32_171_r0 : BitVec 32 := 7#32
  let v176_r0 : BitVec 32 := Scalar.select v175_r0 c7_i32_171_r0 v174_r0
  let c0_i32_172_r0 : BitVec 32 := 0#32
  let v177_r0 : BitVec 32 := Scalar.addi v176_r0 c0_i32_172_r0
  let v263_r0 : BitVec 1 := Scalar.cmpi .ne v167_r0 v177_r0
  let c0_i32_164_r0 : BitVec 32 := 0#32
  let v168_r0 : BitVec 32 := Scalar.addi arg20_r0 c0_i32_164_r0
  let c7_i32_168_r0 : BitVec 32 := 7#32
  let v172_r0 : BitVec 32 := Scalar.select v171_r0 c7_i32_168_r0 v170_r0
  let c0_i32_173_r0 : BitVec 32 := 0#32
  let v178_r0 : BitVec 32 := Scalar.addi v172_r0 c0_i32_173_r0
  let v264_r0 : BitVec 1 := Scalar.cmpi .ne v168_r0 v178_r0
  let v265_r0 : BitVec 1 := Scalar.ori v263_r0 v264_r0
  let c0_i32_109_r0 : BitVec 32 := 0#32
  let c1_i32_110_r0 : BitVec 32 := 1#32
  let arg8_r0 : BitVec 32 := Scf.iv c0_i32_109_r0 c1_i32_110_r0 k0_t1
  let c0_i32_162_r0 : BitVec 32 := 0#32
  let v165_r0 : BitVec 1 := Scalar.cmpi .eq arg8_r0 c0_i32_162_r0
  let v266_r0 : BitVec 1 := Scalar.ori v265_r0 v165_r0
  let c0_i32_226_r0 : BitVec 32 := 0#32
  let v267_r0 : BitVec 1 := Scalar.cmpi .sge arg8_r0 c0_i32_226_r0
  let v268_r0 : BitVec 1 := Scalar.andi v266_r0 v267_r0
  let v269_r0 : BitVec 32 := Scalar.extui v268_r0
  let c0_i32_227_r0 : BitVec 32 := 0#32
  let v270_r0 : BitVec 1 := Scalar.cmpi .ne v269_r0 c0_i32_227_r0
  v270_r0

def k0_off29 (arg10_r0 : BitVec 32) : Fin 4 → Nat :=
  let c3_i32_319_r0 : BitVec 32 := 3#32
  let v468_r0 : BitVec 32 := Scalar.remui arg10_r0 c3_i32_319_r0
  let c0_i32_320_r0 : BitVec 32 := 0#32
  let c0_i32_321_r0 : BitVec 32 := 0#32
  let c0_i32_322_r0 : BitVec 32 := 0#32
  ![v468_r0.toNat, 0, 0, 0]
def k0_off30 (arg19_r0 : BitVec 32) (arg20_r0 : BitVec 32) : Fin 3 → Nat :=
  let c1_i32_317_r0 : BitVec 32 := 1#32
  let c0_i32_163_r0 : BitVec 32 := 0#32
  let v167_r0 : BitVec 32 := Scalar.addi arg19_r0 c0_i32_163_r0
  let v466_r0 : BitVec 32 := Scalar.muli c1_i32_317_r0 v167_r0
  let c1024_i32_318_r0 : BitVec 32 := 1024#32
  let c0_i32_164_r0 : BitVec 32 := 0#32
  let v168_r0 : BitVec 32 := Scalar.addi arg20_r0 c0_i32_164_r0
  let v467_r0 : BitVec 32 := Scalar.muli c1024_i32_318_r0 v168_r0
  let c0_i32_323_r0 : BitVec 32 := 0#32
  ![v466_r0.toNat, v467_r0.toNat, 0]
def k0_off31 (arg12_r0 : BitVec 32) : Fin 1 → Nat :=
  let c3_i32_319_r0 : BitVec 32 := 3#32
  let v468_r0 : BitVec 32 := Scalar.remui arg12_r0 c3_i32_319_r0
  ![v468_r0.toNat]
def k0_cond10 (k0_t1 : Fin k0_t1_loop.trips) (arg19_r0 : BitVec 32) (arg20_r0 : BitVec 32) : BitVec 1 :=
  let c0_i32_163_r0 : BitVec 32 := 0#32
  let v167_r0 : BitVec 32 := Scalar.addi arg19_r0 c0_i32_163_r0
  let true_166_r0 : BitVec 1 := 1#1
  let c1_i32_165_r0 : BitVec 32 := 1#32
  let v169_r0 : BitVec 32 := Scalar.subi arg20_r0 c1_i32_165_r0
  let v170_r0 : BitVec 32 := Scalar.select true_166_r0 v169_r0 arg20_r0
  let c_m1_i32_167_r0 : BitVec 32 := 4294967295#32
  let v171_r0 : BitVec 1 := Scalar.cmpi .eq v170_r0 c_m1_i32_167_r0
  let c1_i32_169_r0 : BitVec 32 := 1#32
  let v173_r0 : BitVec 32 := Scalar.subi arg19_r0 c1_i32_169_r0
  let v174_r0 : BitVec 32 := Scalar.select v171_r0 v173_r0 arg19_r0
  let c_m1_i32_170_r0 : BitVec 32 := 4294967295#32
  let v175_r0 : BitVec 1 := Scalar.cmpi .eq v174_r0 c_m1_i32_170_r0
  let c7_i32_171_r0 : BitVec 32 := 7#32
  let v176_r0 : BitVec 32 := Scalar.select v175_r0 c7_i32_171_r0 v174_r0
  let c0_i32_172_r0 : BitVec 32 := 0#32
  let v177_r0 : BitVec 32 := Scalar.addi v176_r0 c0_i32_172_r0
  let v271_r0 : BitVec 1 := Scalar.cmpi .ne v167_r0 v177_r0
  let c0_i32_164_r0 : BitVec 32 := 0#32
  let v168_r0 : BitVec 32 := Scalar.addi arg20_r0 c0_i32_164_r0
  let c7_i32_168_r0 : BitVec 32 := 7#32
  let v172_r0 : BitVec 32 := Scalar.select v171_r0 c7_i32_168_r0 v170_r0
  let c0_i32_173_r0 : BitVec 32 := 0#32
  let v178_r0 : BitVec 32 := Scalar.addi v172_r0 c0_i32_173_r0
  let v272_r0 : BitVec 1 := Scalar.cmpi .ne v168_r0 v178_r0
  let v273_r0 : BitVec 1 := Scalar.ori v271_r0 v272_r0
  let c0_i32_109_r0 : BitVec 32 := 0#32
  let c1_i32_110_r0 : BitVec 32 := 1#32
  let arg8_r0 : BitVec 32 := Scf.iv c0_i32_109_r0 c1_i32_110_r0 k0_t1
  let c0_i32_162_r0 : BitVec 32 := 0#32
  let v165_r0 : BitVec 1 := Scalar.cmpi .eq arg8_r0 c0_i32_162_r0
  let v274_r0 : BitVec 1 := Scalar.ori v273_r0 v165_r0
  let c0_i32_228_r0 : BitVec 32 := 0#32
  let v275_r0 : BitVec 1 := Scalar.cmpi .sge arg8_r0 c0_i32_228_r0
  let v276_r0 : BitVec 1 := Scalar.andi v274_r0 v275_r0
  let v277_r0 : BitVec 32 := Scalar.extui v276_r0
  let c0_i32_229_r0 : BitVec 32 := 0#32
  let v278_r0 : BitVec 1 := Scalar.cmpi .ne v277_r0 c0_i32_229_r0
  v278_r0

def k0_off32 (arg12_r0 : BitVec 32) : Fin 4 → Nat :=
  let c3_i32_319_r0 : BitVec 32 := 3#32
  let v468_r0 : BitVec 32 := Scalar.remui arg12_r0 c3_i32_319_r0
  let c0_i32_320_r0 : BitVec 32 := 0#32
  let c0_i32_321_r0 : BitVec 32 := 0#32
  let c0_i32_322_r0 : BitVec 32 := 0#32
  ![v468_r0.toNat, 0, 0, 0]
def k0_off33 (arg19_r0 : BitVec 32) (arg20_r0 : BitVec 32) : Fin 3 → Nat :=
  let c1_i32_317_r0 : BitVec 32 := 1#32
  let c0_i32_163_r0 : BitVec 32 := 0#32
  let v167_r0 : BitVec 32 := Scalar.addi arg19_r0 c0_i32_163_r0
  let v466_r0 : BitVec 32 := Scalar.muli c1_i32_317_r0 v167_r0
  let c1024_i32_318_r0 : BitVec 32 := 1024#32
  let c0_i32_164_r0 : BitVec 32 := 0#32
  let v168_r0 : BitVec 32 := Scalar.addi arg20_r0 c0_i32_164_r0
  let v467_r0 : BitVec 32 := Scalar.muli c1024_i32_318_r0 v168_r0
  let c0_i32_323_r0 : BitVec 32 := 0#32
  ![v466_r0.toNat, v467_r0.toNat, 0]
def k0_off34 (arg14_r0 : BitVec 32) : Fin 1 → Nat :=
  let c3_i32_319_r0 : BitVec 32 := 3#32
  let v468_r0 : BitVec 32 := Scalar.remui arg14_r0 c3_i32_319_r0
  ![v468_r0.toNat]
def k0_cond11 (k0_t1 : Fin k0_t1_loop.trips) (arg19_r0 : BitVec 32) (arg20_r0 : BitVec 32) : BitVec 1 :=
  let c0_i32_163_r0 : BitVec 32 := 0#32
  let v167_r0 : BitVec 32 := Scalar.addi arg19_r0 c0_i32_163_r0
  let true_166_r0 : BitVec 1 := 1#1
  let c1_i32_165_r0 : BitVec 32 := 1#32
  let v169_r0 : BitVec 32 := Scalar.subi arg20_r0 c1_i32_165_r0
  let v170_r0 : BitVec 32 := Scalar.select true_166_r0 v169_r0 arg20_r0
  let c_m1_i32_167_r0 : BitVec 32 := 4294967295#32
  let v171_r0 : BitVec 1 := Scalar.cmpi .eq v170_r0 c_m1_i32_167_r0
  let c1_i32_169_r0 : BitVec 32 := 1#32
  let v173_r0 : BitVec 32 := Scalar.subi arg19_r0 c1_i32_169_r0
  let v174_r0 : BitVec 32 := Scalar.select v171_r0 v173_r0 arg19_r0
  let c_m1_i32_170_r0 : BitVec 32 := 4294967295#32
  let v175_r0 : BitVec 1 := Scalar.cmpi .eq v174_r0 c_m1_i32_170_r0
  let c7_i32_171_r0 : BitVec 32 := 7#32
  let v176_r0 : BitVec 32 := Scalar.select v175_r0 c7_i32_171_r0 v174_r0
  let c0_i32_172_r0 : BitVec 32 := 0#32
  let v177_r0 : BitVec 32 := Scalar.addi v176_r0 c0_i32_172_r0
  let v279_r0 : BitVec 1 := Scalar.cmpi .ne v167_r0 v177_r0
  let c0_i32_164_r0 : BitVec 32 := 0#32
  let v168_r0 : BitVec 32 := Scalar.addi arg20_r0 c0_i32_164_r0
  let c7_i32_168_r0 : BitVec 32 := 7#32
  let v172_r0 : BitVec 32 := Scalar.select v171_r0 c7_i32_168_r0 v170_r0
  let c0_i32_173_r0 : BitVec 32 := 0#32
  let v178_r0 : BitVec 32 := Scalar.addi v172_r0 c0_i32_173_r0
  let v280_r0 : BitVec 1 := Scalar.cmpi .ne v168_r0 v178_r0
  let v281_r0 : BitVec 1 := Scalar.ori v279_r0 v280_r0
  let c0_i32_109_r0 : BitVec 32 := 0#32
  let c1_i32_110_r0 : BitVec 32 := 1#32
  let arg8_r0 : BitVec 32 := Scf.iv c0_i32_109_r0 c1_i32_110_r0 k0_t1
  let c0_i32_162_r0 : BitVec 32 := 0#32
  let v165_r0 : BitVec 1 := Scalar.cmpi .eq arg8_r0 c0_i32_162_r0
  let v282_r0 : BitVec 1 := Scalar.ori v281_r0 v165_r0
  let c0_i32_230_r0 : BitVec 32 := 0#32
  let v283_r0 : BitVec 1 := Scalar.cmpi .sge arg8_r0 c0_i32_230_r0
  let v284_r0 : BitVec 1 := Scalar.andi v282_r0 v283_r0
  let v285_r0 : BitVec 32 := Scalar.extui v284_r0
  let c0_i32_231_r0 : BitVec 32 := 0#32
  let v286_r0 : BitVec 1 := Scalar.cmpi .ne v285_r0 c0_i32_231_r0
  v286_r0

def k0_off35 (arg14_r0 : BitVec 32) : Fin 4 → Nat :=
  let c3_i32_319_r0 : BitVec 32 := 3#32
  let v468_r0 : BitVec 32 := Scalar.remui arg14_r0 c3_i32_319_r0
  let c0_i32_320_r0 : BitVec 32 := 0#32
  let c0_i32_321_r0 : BitVec 32 := 0#32
  let c0_i32_322_r0 : BitVec 32 := 0#32
  ![v468_r0.toNat, 0, 0, 0]
def k0_off36 (arg19_r0 : BitVec 32) (arg20_r0 : BitVec 32) : Fin 3 → Nat :=
  let c1_i32_317_r0 : BitVec 32 := 1#32
  let c0_i32_163_r0 : BitVec 32 := 0#32
  let v167_r0 : BitVec 32 := Scalar.addi arg19_r0 c0_i32_163_r0
  let v466_r0 : BitVec 32 := Scalar.muli c1_i32_317_r0 v167_r0
  let c1024_i32_318_r0 : BitVec 32 := 1024#32
  let c0_i32_164_r0 : BitVec 32 := 0#32
  let v168_r0 : BitVec 32 := Scalar.addi arg20_r0 c0_i32_164_r0
  let v467_r0 : BitVec 32 := Scalar.muli c1024_i32_318_r0 v168_r0
  let c0_i32_323_r0 : BitVec 32 := 0#32
  ![v466_r0.toNat, v467_r0.toNat, 0]
def k0_off37 (arg16_r0 : BitVec 32) : Fin 1 → Nat :=
  let c3_i32_319_r0 : BitVec 32 := 3#32
  let v468_r0 : BitVec 32 := Scalar.remui arg16_r0 c3_i32_319_r0
  ![v468_r0.toNat]
def k0_cond12 (k0_t1 : Fin k0_t1_loop.trips) (arg19_r0 : BitVec 32) (arg20_r0 : BitVec 32) : BitVec 1 :=
  let c0_i32_163_r0 : BitVec 32 := 0#32
  let v167_r0 : BitVec 32 := Scalar.addi arg19_r0 c0_i32_163_r0
  let true_166_r0 : BitVec 1 := 1#1
  let c1_i32_165_r0 : BitVec 32 := 1#32
  let v169_r0 : BitVec 32 := Scalar.subi arg20_r0 c1_i32_165_r0
  let v170_r0 : BitVec 32 := Scalar.select true_166_r0 v169_r0 arg20_r0
  let c_m1_i32_167_r0 : BitVec 32 := 4294967295#32
  let v171_r0 : BitVec 1 := Scalar.cmpi .eq v170_r0 c_m1_i32_167_r0
  let c1_i32_169_r0 : BitVec 32 := 1#32
  let v173_r0 : BitVec 32 := Scalar.subi arg19_r0 c1_i32_169_r0
  let v174_r0 : BitVec 32 := Scalar.select v171_r0 v173_r0 arg19_r0
  let c_m1_i32_170_r0 : BitVec 32 := 4294967295#32
  let v175_r0 : BitVec 1 := Scalar.cmpi .eq v174_r0 c_m1_i32_170_r0
  let c7_i32_171_r0 : BitVec 32 := 7#32
  let v176_r0 : BitVec 32 := Scalar.select v175_r0 c7_i32_171_r0 v174_r0
  let c0_i32_172_r0 : BitVec 32 := 0#32
  let v177_r0 : BitVec 32 := Scalar.addi v176_r0 c0_i32_172_r0
  let v287_r0 : BitVec 1 := Scalar.cmpi .ne v167_r0 v177_r0
  let c0_i32_164_r0 : BitVec 32 := 0#32
  let v168_r0 : BitVec 32 := Scalar.addi arg20_r0 c0_i32_164_r0
  let c7_i32_168_r0 : BitVec 32 := 7#32
  let v172_r0 : BitVec 32 := Scalar.select v171_r0 c7_i32_168_r0 v170_r0
  let c0_i32_173_r0 : BitVec 32 := 0#32
  let v178_r0 : BitVec 32 := Scalar.addi v172_r0 c0_i32_173_r0
  let v288_r0 : BitVec 1 := Scalar.cmpi .ne v168_r0 v178_r0
  let v289_r0 : BitVec 1 := Scalar.ori v287_r0 v288_r0
  let c0_i32_109_r0 : BitVec 32 := 0#32
  let c1_i32_110_r0 : BitVec 32 := 1#32
  let arg8_r0 : BitVec 32 := Scf.iv c0_i32_109_r0 c1_i32_110_r0 k0_t1
  let c0_i32_162_r0 : BitVec 32 := 0#32
  let v165_r0 : BitVec 1 := Scalar.cmpi .eq arg8_r0 c0_i32_162_r0
  let v290_r0 : BitVec 1 := Scalar.ori v289_r0 v165_r0
  let c0_i32_232_r0 : BitVec 32 := 0#32
  let v291_r0 : BitVec 1 := Scalar.cmpi .sge arg8_r0 c0_i32_232_r0
  let v292_r0 : BitVec 1 := Scalar.andi v290_r0 v291_r0
  let v293_r0 : BitVec 32 := Scalar.extui v292_r0
  let c0_i32_233_r0 : BitVec 32 := 0#32
  let v294_r0 : BitVec 1 := Scalar.cmpi .ne v293_r0 c0_i32_233_r0
  v294_r0

def k0_off38 (arg16_r0 : BitVec 32) : Fin 4 → Nat :=
  let c3_i32_319_r0 : BitVec 32 := 3#32
  let v468_r0 : BitVec 32 := Scalar.remui arg16_r0 c3_i32_319_r0
  let c0_i32_320_r0 : BitVec 32 := 0#32
  let c0_i32_321_r0 : BitVec 32 := 0#32
  let c0_i32_322_r0 : BitVec 32 := 0#32
  ![v468_r0.toNat, 0, 0, 0]
def k0_off39 (arg19_r0 : BitVec 32) (arg20_r0 : BitVec 32) : Fin 3 → Nat :=
  let c1_i32_317_r0 : BitVec 32 := 1#32
  let c0_i32_163_r0 : BitVec 32 := 0#32
  let v167_r0 : BitVec 32 := Scalar.addi arg19_r0 c0_i32_163_r0
  let v466_r0 : BitVec 32 := Scalar.muli c1_i32_317_r0 v167_r0
  let c1024_i32_318_r0 : BitVec 32 := 1024#32
  let c0_i32_164_r0 : BitVec 32 := 0#32
  let v168_r0 : BitVec 32 := Scalar.addi arg20_r0 c0_i32_164_r0
  let v467_r0 : BitVec 32 := Scalar.muli c1024_i32_318_r0 v168_r0
  let c0_i32_323_r0 : BitVec 32 := 0#32
  ![v466_r0.toNat, v467_r0.toNat, 0]
def k0_off40 (arg16_r0 : BitVec 32) : Fin 4 → Nat :=
  let c3_i32_239_r0 : BitVec 32 := 3#32
  let v306_r0 : BitVec 32 := Scalar.remui arg16_r0 c3_i32_239_r0
  let c0_i32_241_r0 : BitVec 32 := 0#32
  let c0_i32_242_r0 : BitVec 32 := 0#32
  let c0_i32_243_r0 : BitVec 32 := 0#32
  ![v306_r0.toNat, 0, 0, 0]

def k0_chk2 (arg16_r0 : BitVec 32) : Prop :=
  (∀ a, (k0_off40 arg16_r0) a + S1x1x1024x512.size a ≤ S3x1x1024x512.size a)
theorem k0_off40_inb : ∀ (arg16_r0 : BitVec 32) (k0_hw2 : k0_chk2 arg16_r0), ∀ a, (k0_off40 arg16_r0) a + S1x1x1024x512.size a ≤ S3x1x1024x512.size a := fun arg16_r0 k0_hw2 => k0_hw2

def k0_off41 (arg12_r0 : BitVec 32) : Fin 4 → Nat :=
  let c3_i32_237_r0 : BitVec 32 := 3#32
  let v304_r0 : BitVec 32 := Scalar.remui arg12_r0 c3_i32_237_r0
  let c0_i32_248_r0 : BitVec 32 := 0#32
  let c0_i32_249_r0 : BitVec 32 := 0#32
  let c0_i32_250_r0 : BitVec 32 := 0#32
  ![v304_r0.toNat, 0, 0, 0]

def k0_chk3 (arg12_r0 : BitVec 32) : Prop :=
  (∀ a, (k0_off41 arg12_r0) a + S1x1x1024x1024.size a ≤ S3x1x1024x1024.size a)
theorem k0_off41_inb : ∀ (arg12_r0 : BitVec 32) (k0_hw3 : k0_chk3 arg12_r0), ∀ a, (k0_off41 arg12_r0) a + S1x1x1024x1024.size a ≤ S3x1x1024x1024.size a := fun arg12_r0 k0_hw3 => k0_hw3

def k0_off42 (arg14_r0 : BitVec 32) : Fin 4 → Nat :=
  let c3_i32_238_r0 : BitVec 32 := 3#32
  let v305_r0 : BitVec 32 := Scalar.remui arg14_r0 c3_i32_238_r0
  let c0_i32_254_r0 : BitVec 32 := 0#32
  let c0_i32_255_r0 : BitVec 32 := 0#32
  let c0_i32_256_r0 : BitVec 32 := 0#32
  ![v305_r0.toNat, 0, 0, 0]

def k0_chk4 (arg14_r0 : BitVec 32) : Prop :=
  (∀ a, (k0_off42 arg14_r0) a + S1x1x1024x1024.size a ≤ S3x1x1024x1024.size a)
theorem k0_off42_inb : ∀ (arg14_r0 : BitVec 32) (k0_hw4 : k0_chk4 arg14_r0), ∀ a, (k0_off42 arg14_r0) a + S1x1x1024x1024.size a ≤ S3x1x1024x1024.size a := fun arg14_r0 k0_hw4 => k0_hw4

def k0_off43 (arg10_r0 : BitVec 32) : Fin 4 → Nat :=
  let c3_i32_236_r0 : BitVec 32 := 3#32
  let v303_r0 : BitVec 32 := Scalar.remui arg10_r0 c3_i32_236_r0
  let c0_i32_260_r0 : BitVec 32 := 0#32
  let c0_i32_261_r0 : BitVec 32 := 0#32
  let c0_i32_262_r0 : BitVec 32 := 0#32
  ![v303_r0.toNat, 0, 0, 0]

def k0_chk5 (arg10_r0 : BitVec 32) : Prop :=
  (∀ a, (k0_off43 arg10_r0) a + S1x1x1024x1024.size a ≤ S3x1x1024x1024.size a)
theorem k0_off43_inb : ∀ (arg10_r0 : BitVec 32) (k0_hw5 : k0_chk5 arg10_r0), ∀ a, (k0_off43 arg10_r0) a + S1x1x1024x1024.size a ≤ S3x1x1024x1024.size a := fun arg10_r0 k0_hw5 => k0_hw5

def k0_off44 (arg17_r0 : BitVec 32) : Fin 4 → Nat :=
  let c2_i32_240_r0 : BitVec 32 := 2#32
  let v307_r0 : BitVec 32 := Scalar.remui arg17_r0 c2_i32_240_r0
  let c0_i32_274_r0 : BitVec 32 := 0#32
  let c0_i32_275_r0 : BitVec 32 := 0#32
  let c0_i32_276_r0 : BitVec 32 := 0#32
  ![v307_r0.toNat, 0, 0, 0]

def k0_chk6 (arg17_r0 : BitVec 32) : Prop :=
  (∀ a, (k0_off44 arg17_r0) a + S1x1x1024x1024.size a ≤ S2x1x1024x1024.size a)
theorem k0_off44_inb : ∀ (arg17_r0 : BitVec 32) (k0_hw6 : k0_chk6 arg17_r0), ∀ a, (k0_off44 arg17_r0) a + S1x1x1024x1024.size a ≤ S2x1x1024x1024.size a := fun arg17_r0 k0_hw6 => k0_hw6

def k0_off45 (arg17_r0 : BitVec 32) : Fin 1 → Nat :=
  let c2_i32_317_r0 : BitVec 32 := 2#32
  let v466_r0 : BitVec 32 := Scalar.remui arg17_r0 c2_i32_317_r0
  ![v466_r0.toNat]
def k0_cond18 (k0_t1 : Fin k0_t1_loop.trips) (arg19_r0 : BitVec 32) (arg20_r0 : BitVec 32) : BitVec 1 :=
  let c0_i32_163_r0 : BitVec 32 := 0#32
  let v167_r0 : BitVec 32 := Scalar.addi arg19_r0 c0_i32_163_r0
  let true_175_r0 : BitVec 1 := 1#1
  let c1_i32_174_r0 : BitVec 32 := 1#32
  let v179_r0 : BitVec 32 := Scalar.addi arg20_r0 c1_i32_174_r0
  let v180_r0 : BitVec 32 := Scalar.select true_175_r0 v179_r0 arg20_r0
  let c8_i32_176_r0 : BitVec 32 := 8#32
  let v181_r0 : BitVec 1 := Scalar.cmpi .eq v180_r0 c8_i32_176_r0
  let c1_i32_178_r0 : BitVec 32 := 1#32
  let v183_r0 : BitVec 32 := Scalar.addi arg19_r0 c1_i32_178_r0
  let v184_r0 : BitVec 32 := Scalar.select v181_r0 v183_r0 arg19_r0
  let c8_i32_179_r0 : BitVec 32 := 8#32
  let v185_r0 : BitVec 1 := Scalar.cmpi .eq v184_r0 c8_i32_179_r0
  let c0_i32_180_r0 : BitVec 32 := 0#32
  let v186_r0 : BitVec 32 := Scalar.select v185_r0 c0_i32_180_r0 v184_r0
  let c0_i32_181_r0 : BitVec 32 := 0#32
  let v187_r0 : BitVec 32 := Scalar.addi v186_r0 c0_i32_181_r0
  let v383_r0 : BitVec 1 := Scalar.cmpi .ne v167_r0 v187_r0
  let c0_i32_164_r0 : BitVec 32 := 0#32
  let v168_r0 : BitVec 32 := Scalar.addi arg20_r0 c0_i32_164_r0
  let c0_i32_177_r0 : BitVec 32 := 0#32
  let v182_r0 : BitVec 32 := Scalar.select v181_r0 c0_i32_177_r0 v180_r0
  let c0_i32_182_r0 : BitVec 32 := 0#32
  let v188_r0 : BitVec 32 := Scalar.addi v182_r0 c0_i32_182_r0
  let v384_r0 : BitVec 1 := Scalar.cmpi .ne v168_r0 v188_r0
  let v385_r0 : BitVec 1 := Scalar.ori v383_r0 v384_r0
  let c0_i32_109_r0 : BitVec 32 := 0#32
  let c1_i32_110_r0 : BitVec 32 := 1#32
  let arg8_r0 : BitVec 32 := Scf.iv c0_i32_109_r0 c1_i32_110_r0 k0_t1
  let c63_i32_r0 : BitVec 32 := 63#32
  let v166_r0 : BitVec 1 := Scalar.cmpi .eq arg8_r0 c63_i32_r0
  let v386_r0 : BitVec 1 := Scalar.ori v385_r0 v166_r0
  let v387_r0 : BitVec 32 := Scalar.extui v386_r0
  let c0_i32_287_r0 : BitVec 32 := 0#32
  let v388_r0 : BitVec 1 := Scalar.cmpi .ne v387_r0 c0_i32_287_r0
  v388_r0

def k0_off46 (arg19_r0 : BitVec 32) (arg20_r0 : BitVec 32) : Fin 3 → Nat :=
  let c1_i32_318_r0 : BitVec 32 := 1#32
  let c0_i32_163_r0 : BitVec 32 := 0#32
  let v167_r0 : BitVec 32 := Scalar.addi arg19_r0 c0_i32_163_r0
  let v467_r0 : BitVec 32 := Scalar.muli c1_i32_318_r0 v167_r0
  let c1024_i32_319_r0 : BitVec 32 := 1024#32
  let c0_i32_164_r0 : BitVec 32 := 0#32
  let v168_r0 : BitVec 32 := Scalar.addi arg20_r0 c0_i32_164_r0
  let v468_r0 : BitVec 32 := Scalar.muli c1024_i32_319_r0 v168_r0
  let c0_i32_320_r0 : BitVec 32 := 0#32
  ![v467_r0.toNat, v468_r0.toNat, 0]
def k0_off47 (arg17_r0 : BitVec 32) : Fin 4 → Nat :=
  let c2_i32_317_r0 : BitVec 32 := 2#32
  let v466_r0 : BitVec 32 := Scalar.remui arg17_r0 c2_i32_317_r0
  let c0_i32_321_r0 : BitVec 32 := 0#32
  let c0_i32_322_r0 : BitVec 32 := 0#32
  let c0_i32_323_r0 : BitVec 32 := 0#32
  ![v466_r0.toNat, 0, 0, 0]
def k0_off48 (arg18_r0 : BitVec 32) : Fin 1 → Nat :=
  let c2_i32_317_r0 : BitVec 32 := 2#32
  let v466_r0 : BitVec 32 := Scalar.remui arg18_r0 c2_i32_317_r0
  ![v466_r0.toNat]
def k0_cond23 (k0_t1 : Fin k0_t1_loop.trips) (arg19_r0 : BitVec 32) (arg20_r0 : BitVec 32) : BitVec 1 :=
  let c0_i32_163_r0 : BitVec 32 := 0#32
  let v167_r0 : BitVec 32 := Scalar.addi arg19_r0 c0_i32_163_r0
  let true_166_r0 : BitVec 1 := 1#1
  let c1_i32_165_r0 : BitVec 32 := 1#32
  let v169_r0 : BitVec 32 := Scalar.subi arg20_r0 c1_i32_165_r0
  let v170_r0 : BitVec 32 := Scalar.select true_166_r0 v169_r0 arg20_r0
  let c_m1_i32_167_r0 : BitVec 32 := 4294967295#32
  let v171_r0 : BitVec 1 := Scalar.cmpi .eq v170_r0 c_m1_i32_167_r0
  let c1_i32_169_r0 : BitVec 32 := 1#32
  let v173_r0 : BitVec 32 := Scalar.subi arg19_r0 c1_i32_169_r0
  let v174_r0 : BitVec 32 := Scalar.select v171_r0 v173_r0 arg19_r0
  let c_m1_i32_170_r0 : BitVec 32 := 4294967295#32
  let v175_r0 : BitVec 1 := Scalar.cmpi .eq v174_r0 c_m1_i32_170_r0
  let c7_i32_171_r0 : BitVec 32 := 7#32
  let v176_r0 : BitVec 32 := Scalar.select v175_r0 c7_i32_171_r0 v174_r0
  let c0_i32_172_r0 : BitVec 32 := 0#32
  let v177_r0 : BitVec 32 := Scalar.addi v176_r0 c0_i32_172_r0
  let v424_r0 : BitVec 1 := Scalar.cmpi .ne v167_r0 v177_r0
  let c0_i32_164_r0 : BitVec 32 := 0#32
  let v168_r0 : BitVec 32 := Scalar.addi arg20_r0 c0_i32_164_r0
  let c7_i32_168_r0 : BitVec 32 := 7#32
  let v172_r0 : BitVec 32 := Scalar.select v171_r0 c7_i32_168_r0 v170_r0
  let c0_i32_173_r0 : BitVec 32 := 0#32
  let v178_r0 : BitVec 32 := Scalar.addi v172_r0 c0_i32_173_r0
  let v425_r0 : BitVec 1 := Scalar.cmpi .ne v168_r0 v178_r0
  let v426_r0 : BitVec 1 := Scalar.ori v424_r0 v425_r0
  let c0_i32_109_r0 : BitVec 32 := 0#32
  let c1_i32_110_r0 : BitVec 32 := 1#32
  let arg8_r0 : BitVec 32 := Scf.iv c0_i32_109_r0 c1_i32_110_r0 k0_t1
  let c0_i32_162_r0 : BitVec 32 := 0#32
  let v165_r0 : BitVec 1 := Scalar.cmpi .eq arg8_r0 c0_i32_162_r0
  let true_302_r0 : BitVec 1 := 1#1
  let v427_r0 : BitVec 1 := Scalar.xori v165_r0 true_302_r0
  let v428_r0 : BitVec 1 := Scalar.andi v426_r0 v427_r0
  let v429_r0 : BitVec 32 := Scalar.extui v428_r0
  let c0_i32_303_r0 : BitVec 32 := 0#32
  let v430_r0 : BitVec 1 := Scalar.cmpi .ne v429_r0 c0_i32_303_r0
  v430_r0

def k0_off49 (arg19_r0 : BitVec 32) (arg20_r0 : BitVec 32) : Fin 3 → Nat :=
  let c1_i32_318_r0 : BitVec 32 := 1#32
  let true_166_r0 : BitVec 1 := 1#1
  let c1_i32_165_r0 : BitVec 32 := 1#32
  let v169_r0 : BitVec 32 := Scalar.subi arg20_r0 c1_i32_165_r0
  let v170_r0 : BitVec 32 := Scalar.select true_166_r0 v169_r0 arg20_r0
  let c_m1_i32_167_r0 : BitVec 32 := 4294967295#32
  let v171_r0 : BitVec 1 := Scalar.cmpi .eq v170_r0 c_m1_i32_167_r0
  let c1_i32_169_r0 : BitVec 32 := 1#32
  let v173_r0 : BitVec 32 := Scalar.subi arg19_r0 c1_i32_169_r0
  let v174_r0 : BitVec 32 := Scalar.select v171_r0 v173_r0 arg19_r0
  let c_m1_i32_170_r0 : BitVec 32 := 4294967295#32
  let v175_r0 : BitVec 1 := Scalar.cmpi .eq v174_r0 c_m1_i32_170_r0
  let c7_i32_171_r0 : BitVec 32 := 7#32
  let v176_r0 : BitVec 32 := Scalar.select v175_r0 c7_i32_171_r0 v174_r0
  let c0_i32_172_r0 : BitVec 32 := 0#32
  let v177_r0 : BitVec 32 := Scalar.addi v176_r0 c0_i32_172_r0
  let v467_r0 : BitVec 32 := Scalar.muli c1_i32_318_r0 v177_r0
  let c1024_i32_319_r0 : BitVec 32 := 1024#32
  let c7_i32_168_r0 : BitVec 32 := 7#32
  let v172_r0 : BitVec 32 := Scalar.select v171_r0 c7_i32_168_r0 v170_r0
  let c0_i32_173_r0 : BitVec 32 := 0#32
  let v178_r0 : BitVec 32 := Scalar.addi v172_r0 c0_i32_173_r0
  let v468_r0 : BitVec 32 := Scalar.muli c1024_i32_319_r0 v178_r0
  let c0_i32_320_r0 : BitVec 32 := 0#32
  ![v467_r0.toNat, v468_r0.toNat, 0]
def k0_off50 (arg18_r0 : BitVec 32) : Fin 4 → Nat :=
  let c2_i32_317_r0 : BitVec 32 := 2#32
  let v466_r0 : BitVec 32 := Scalar.remui arg18_r0 c2_i32_317_r0
  let c0_i32_321_r0 : BitVec 32 := 0#32
  let c0_i32_322_r0 : BitVec 32 := 0#32
  let c0_i32_323_r0 : BitVec 32 := 0#32
  ![v466_r0.toNat, 0, 0, 0]

def k0_chk1_0 (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  (∀ (k0_h5 : k0_cond5 k0_t1 arg19_r0 arg20_r0 = 1#1), ∀ a, (k0_off16 arg9_r0) a + S1.size a ≤ S3.size a) ∧
  (∀ (k0_h5 : k0_cond5 k0_t1 arg19_r0 arg20_r0 = 1#1), ∀ a, (k0_off17 arg9_r0) a + S1x1x1024x1024.size a ≤ S3x1x1024x1024.size a) ∧
  (∀ (k0_h5 : k0_cond5 k0_t1 arg19_r0 arg20_r0 = 1#1), ∀ a, (k0_off18 arg19_r0 arg20_r0) a + S1x1024x1024.size a ≤ S8x8192x1024.size a) ∧
  (∀ (k0_h6 : k0_cond6 k0_t1 arg19_r0 arg20_r0 = 1#1), ∀ a, (k0_off19 arg11_r0) a + S1.size a ≤ S3.size a) ∧
  (∀ (k0_h6 : k0_cond6 k0_t1 arg19_r0 arg20_r0 = 1#1), ∀ a, (k0_off20 arg11_r0) a + S1x1x1024x1024.size a ≤ S3x1x1024x1024.size a) ∧
  (∀ (k0_h6 : k0_cond6 k0_t1 arg19_r0 arg20_r0 = 1#1), ∀ a, (k0_off21 arg19_r0 arg20_r0) a + S1x1024x1024.size a ≤ S8x8192x1024.size a) ∧
  (∀ (k0_h6 : k0_cond6 k0_t1 arg19_r0 arg20_r0 = 1#1), ∀ (hinb : ∀ a, (k0_off21 arg19_r0 arg20_r0) a + S1x1024x1024.size a ≤ S8x8192x1024.size a), (Rect.unit (s := S8x8192x1024) (k0_off21 arg19_r0 arg20_r0) S1x1024x1024.size hinb).WholeWords (EltTy.packing .bf16)) ∧
  (∀ (k0_h6 : k0_cond6 k0_t1 arg19_r0 arg20_r0 = 1#1), ∀ (hinb : ∀ a, (k0_off20 arg11_r0) a + S1x1x1024x1024.size a ≤ S3x1x1024x1024.size a), (Rect.unit (s := S3x1x1024x1024) (k0_off20 arg11_r0) S1x1x1024x1024.size hinb).WholeWords (EltTy.packing .bf16)) ∧
  (∀ (k0_h7 : k0_cond7 k0_t1 arg19_r0 arg20_r0 = 1#1), ∀ a, (k0_off22 arg13_r0) a + S1.size a ≤ S3.size a) ∧
  (∀ (k0_h7 : k0_cond7 k0_t1 arg19_r0 arg20_r0 = 1#1), ∀ a, (k0_off23 arg13_r0) a + S1x1x1024x1024.size a ≤ S3x1x1024x1024.size a) ∧
  (∀ (k0_h7 : k0_cond7 k0_t1 arg19_r0 arg20_r0 = 1#1), ∀ a, (k0_off24 arg19_r0 arg20_r0) a + S1x1024x1024.size a ≤ S8x8192x1024.size a) ∧
  (∀ (k0_h8 : k0_cond8 k0_t1 arg19_r0 arg20_r0 = 1#1), ∀ a, (k0_off25 arg15_r0) a + S1.size a ≤ S3.size a) ∧
  (∀ (k0_h8 : k0_cond8 k0_t1 arg19_r0 arg20_r0 = 1#1), ∀ a, (k0_off26 arg15_r0) a + S1x1x1024x512.size a ≤ S3x1x1024x512.size a) ∧
  (∀ (k0_h8 : k0_cond8 k0_t1 arg19_r0 arg20_r0 = 1#1), ∀ a, (k0_off27 arg19_r0 arg20_r0) a + S1x1024x512.size a ≤ S8x8192x512.size a) ∧
  (∀ (k0_h8 : k0_cond8 k0_t1 arg19_r0 arg20_r0 = 1#1), ∀ (hinb : ∀ a, (k0_off27 arg19_r0 arg20_r0) a + S1x1024x512.size a ≤ S8x8192x512.size a), (Rect.unit (s := S8x8192x512) (k0_off27 arg19_r0 arg20_r0) S1x1024x512.size hinb).WholeWords (EltTy.packing .bf16)) ∧
  (∀ (k0_h8 : k0_cond8 k0_t1 arg19_r0 arg20_r0 = 1#1), ∀ (hinb : ∀ a, (k0_off26 arg15_r0) a + S1x1x1024x512.size a ≤ S3x1x1024x512.size a), (Rect.unit (s := S3x1x1024x512) (k0_off26 arg15_r0) S1x1x1024x512.size hinb).WholeWords (EltTy.packing .bf16)) ∧
  (∀ (k0_h9 : k0_cond9 k0_t1 arg19_r0 arg20_r0 = 1#1), ∀ a, (k0_off28 arg10_r0) a + S1.size a ≤ S3.size a) ∧
  (∀ (k0_h9 : k0_cond9 k0_t1 arg19_r0 arg20_r0 = 1#1), ∀ a, (k0_off29 arg10_r0) a + S1x1x1024x1024.size a ≤ S3x1x1024x1024.size a) ∧
  (∀ (k0_h9 : k0_cond9 k0_t1 arg19_r0 arg20_r0 = 1#1), ∀ a, (k0_off30 arg19_r0 arg20_r0) a + S1x1024x1024.size a ≤ S8x8192x1024.size a) ∧
  (∀ (k0_h10 : k0_cond10 k0_t1 arg19_r0 arg20_r0 = 1#1), ∀ a, (k0_off31 arg12_r0) a + S1.size a ≤ S3.size a) ∧
  (∀ (k0_h10 : k0_cond10 k0_t1 arg19_r0 arg20_r0 = 1#1), ∀ a, (k0_off32 arg12_r0) a + S1x1x1024x1024.size a ≤ S3x1x1024x1024.size a) ∧
  (∀ (k0_h10 : k0_cond10 k0_t1 arg19_r0 arg20_r0 = 1#1), ∀ a, (k0_off33 arg19_r0 arg20_r0) a + S1x1024x1024.size a ≤ S8x8192x1024.size a) ∧
  (∀ (k0_h10 : k0_cond10 k0_t1 arg19_r0 arg20_r0 = 1#1), ∀ (hinb : ∀ a, (k0_off33 arg19_r0 arg20_r0) a + S1x1024x1024.size a ≤ S8x8192x1024.size a), (Rect.unit (s := S8x8192x1024) (k0_off33 arg19_r0 arg20_r0) S1x1024x1024.size hinb).WholeWords (EltTy.packing .bf16)) ∧
  (∀ (k0_h10 : k0_cond10 k0_t1 arg19_r0 arg20_r0 = 1#1), ∀ (hinb : ∀ a, (k0_off32 arg12_r0) a + S1x1x1024x1024.size a ≤ S3x1x1024x1024.size a), (Rect.unit (s := S3x1x1024x1024) (k0_off32 arg12_r0) S1x1x1024x1024.size hinb).WholeWords (EltTy.packing .bf16)) ∧
  (∀ (k0_h11 : k0_cond11 k0_t1 arg19_r0 arg20_r0 = 1#1), ∀ a, (k0_off34 arg14_r0) a + S1.size a ≤ S3.size a) ∧
  (∀ (k0_h11 : k0_cond11 k0_t1 arg19_r0 arg20_r0 = 1#1), ∀ a, (k0_off35 arg14_r0) a + S1x1x1024x1024.size a ≤ S3x1x1024x1024.size a) ∧
  (∀ (k0_h11 : k0_cond11 k0_t1 arg19_r0 arg20_r0 = 1#1), ∀ a, (k0_off36 arg19_r0 arg20_r0) a + S1x1024x1024.size a ≤ S8x8192x1024.size a) ∧
  (∀ (k0_h12 : k0_cond12 k0_t1 arg19_r0 arg20_r0 = 1#1), ∀ a, (k0_off37 arg16_r0) a + S1.size a ≤ S3.size a) ∧
  (∀ (k0_h12 : k0_cond12 k0_t1 arg19_r0 arg20_r0 = 1#1), ∀ a, (k0_off38 arg16_r0) a + S1x1x1024x512.size a ≤ S3x1x1024x512.size a) ∧
  (∀ (k0_h12 : k0_cond12 k0_t1 arg19_r0 arg20_r0 = 1#1), ∀ a, (k0_off39 arg19_r0 arg20_r0) a + S1x1024x512.size a ≤ S8x8192x512.size a) ∧
  (∀ (k0_h12 : k0_cond12 k0_t1 arg19_r0 arg20_r0 = 1#1), ∀ (hinb : ∀ a, (k0_off39 arg19_r0 arg20_r0) a + S1x1024x512.size a ≤ S8x8192x512.size a), (Rect.unit (s := S8x8192x512) (k0_off39 arg19_r0 arg20_r0) S1x1024x512.size hinb).WholeWords (EltTy.packing .bf16)) ∧
  (∀ (k0_h12 : k0_cond12 k0_t1 arg19_r0 arg20_r0 = 1#1), ∀ (hinb : ∀ a, (k0_off38 arg16_r0) a + S1x1x1024x512.size a ≤ S3x1x1024x512.size a), (Rect.unit (s := S3x1x1024x512) (k0_off38 arg16_r0) S1x1x1024x512.size hinb).WholeWords (EltTy.packing .bf16))
def k0_chk1_1 (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  (∀ (k0_h18 : k0_cond18 k0_t1 arg19_r0 arg20_r0 = 1#1), ∀ a, (k0_off45 arg17_r0) a + S1.size a ≤ S2.size a) ∧
  (∀ (k0_h18 : k0_cond18 k0_t1 arg19_r0 arg20_r0 = 1#1), ∀ a, (k0_off46 arg19_r0 arg20_r0) a + S1x1024x1024.size a ≤ S8x8192x1024.size a) ∧
  (∀ (k0_h18 : k0_cond18 k0_t1 arg19_r0 arg20_r0 = 1#1), ∀ a, (k0_off47 arg17_r0) a + S1x1x1024x1024.size a ≤ S2x1x1024x1024.size a) ∧
  (∀ (k0_h23 : k0_cond23 k0_t1 arg19_r0 arg20_r0 = 1#1), ∀ a, (k0_off48 arg18_r0) a + S1.size a ≤ S2.size a) ∧
  (∀ (k0_h23 : k0_cond23 k0_t1 arg19_r0 arg20_r0 = 1#1), ∀ a, (k0_off49 arg19_r0 arg20_r0) a + S1x1024x1024.size a ≤ S8x8192x1024.size a) ∧
  (∀ (k0_h23 : k0_cond23 k0_t1 arg19_r0 arg20_r0 = 1#1), ∀ a, (k0_off50 arg18_r0) a + S1x1x1024x1024.size a ≤ S2x1x1024x1024.size a)
def k0_chk1 (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  k0_chk1_0 k0_t1 arg9_r0 arg10_r0 arg11_r0 arg12_r0 arg13_r0 arg14_r0 arg15_r0 arg16_r0 arg17_r0 arg18_r0 arg19_r0 arg20_r0 ∧
  k0_chk1_1 k0_t1 arg9_r0 arg10_r0 arg11_r0 arg12_r0 arg13_r0 arg14_r0 arg15_r0 arg16_r0 arg17_r0 arg18_r0 arg19_r0 arg20_r0
theorem k0_off16_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h5 : k0_cond5 k0_t1 arg19_r0 arg20_r0 = 1#1), ∀ a, (k0_off16 arg9_r0) a + S1.size a ≤ S3.size a := fun k0_t1 arg9_r0 arg10_r0 arg11_r0 arg12_r0 arg13_r0 arg14_r0 arg15_r0 arg16_r0 arg17_r0 arg18_r0 arg19_r0 arg20_r0 k0_hw1 k0_h5 => k0_hw1.1.1 k0_h5
theorem k0_off17_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h5 : k0_cond5 k0_t1 arg19_r0 arg20_r0 = 1#1), ∀ a, (k0_off17 arg9_r0) a + S1x1x1024x1024.size a ≤ S3x1x1024x1024.size a := fun k0_t1 arg9_r0 arg10_r0 arg11_r0 arg12_r0 arg13_r0 arg14_r0 arg15_r0 arg16_r0 arg17_r0 arg18_r0 arg19_r0 arg20_r0 k0_hw1 k0_h5 => k0_hw1.1.2.1 k0_h5
theorem k0_off18_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h5 : k0_cond5 k0_t1 arg19_r0 arg20_r0 = 1#1), ∀ a, (k0_off18 arg19_r0 arg20_r0) a + S1x1024x1024.size a ≤ S8x8192x1024.size a := fun k0_t1 arg9_r0 arg10_r0 arg11_r0 arg12_r0 arg13_r0 arg14_r0 arg15_r0 arg16_r0 arg17_r0 arg18_r0 arg19_r0 arg20_r0 k0_hw1 k0_h5 => k0_hw1.1.2.2.1 k0_h5
theorem k0_off19_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h6 : k0_cond6 k0_t1 arg19_r0 arg20_r0 = 1#1), ∀ a, (k0_off19 arg11_r0) a + S1.size a ≤ S3.size a := fun k0_t1 arg9_r0 arg10_r0 arg11_r0 arg12_r0 arg13_r0 arg14_r0 arg15_r0 arg16_r0 arg17_r0 arg18_r0 arg19_r0 arg20_r0 k0_hw1 k0_h6 => k0_hw1.1.2.2.2.1 k0_h6
theorem k0_off20_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h6 : k0_cond6 k0_t1 arg19_r0 arg20_r0 = 1#1), ∀ a, (k0_off20 arg11_r0) a + S1x1x1024x1024.size a ≤ S3x1x1024x1024.size a := fun k0_t1 arg9_r0 arg10_r0 arg11_r0 arg12_r0 arg13_r0 arg14_r0 arg15_r0 arg16_r0 arg17_r0 arg18_r0 arg19_r0 arg20_r0 k0_hw1 k0_h6 => k0_hw1.1.2.2.2.2.1 k0_h6
theorem k0_off21_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h6 : k0_cond6 k0_t1 arg19_r0 arg20_r0 = 1#1), ∀ a, (k0_off21 arg19_r0 arg20_r0) a + S1x1024x1024.size a ≤ S8x8192x1024.size a := fun k0_t1 arg9_r0 arg10_r0 arg11_r0 arg12_r0 arg13_r0 arg14_r0 arg15_r0 arg16_r0 arg17_r0 arg18_r0 arg19_r0 arg20_r0 k0_hw1 k0_h6 => k0_hw1.1.2.2.2.2.2.1 k0_h6
theorem k0_off21_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h6 : k0_cond6 k0_t1 arg19_r0 arg20_r0 = 1#1), (Rect.unit (s := S8x8192x1024) (k0_off21 arg19_r0 arg20_r0) S1x1024x1024.size (k0_off21_inb k0_t1 arg9_r0 arg10_r0 arg11_r0 arg12_r0 arg13_r0 arg14_r0 arg15_r0 arg16_r0 arg17_r0 arg18_r0 arg19_r0 arg20_r0 k0_hw1 k0_h6)).WholeWords (EltTy.packing .bf16) := fun k0_t1 arg9_r0 arg10_r0 arg11_r0 arg12_r0 arg13_r0 arg14_r0 arg15_r0 arg16_r0 arg17_r0 arg18_r0 arg19_r0 arg20_r0 k0_hw1 k0_h6 => k0_hw1.1.2.2.2.2.2.2.1 k0_h6 (k0_off21_inb k0_t1 arg9_r0 arg10_r0 arg11_r0 arg12_r0 arg13_r0 arg14_r0 arg15_r0 arg16_r0 arg17_r0 arg18_r0 arg19_r0 arg20_r0 k0_hw1 k0_h6)
theorem k0_off20_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h6 : k0_cond6 k0_t1 arg19_r0 arg20_r0 = 1#1), (Rect.unit (s := S3x1x1024x1024) (k0_off20 arg11_r0) S1x1x1024x1024.size (k0_off20_inb k0_t1 arg9_r0 arg10_r0 arg11_r0 arg12_r0 arg13_r0 arg14_r0 arg15_r0 arg16_r0 arg17_r0 arg18_r0 arg19_r0 arg20_r0 k0_hw1 k0_h6)).WholeWords (EltTy.packing .bf16) := fun k0_t1 arg9_r0 arg10_r0 arg11_r0 arg12_r0 arg13_r0 arg14_r0 arg15_r0 arg16_r0 arg17_r0 arg18_r0 arg19_r0 arg20_r0 k0_hw1 k0_h6 => k0_hw1.1.2.2.2.2.2.2.2.1 k0_h6 (k0_off20_inb k0_t1 arg9_r0 arg10_r0 arg11_r0 arg12_r0 arg13_r0 arg14_r0 arg15_r0 arg16_r0 arg17_r0 arg18_r0 arg19_r0 arg20_r0 k0_hw1 k0_h6)
theorem k0_off22_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h7 : k0_cond7 k0_t1 arg19_r0 arg20_r0 = 1#1), ∀ a, (k0_off22 arg13_r0) a + S1.size a ≤ S3.size a := fun k0_t1 arg9_r0 arg10_r0 arg11_r0 arg12_r0 arg13_r0 arg14_r0 arg15_r0 arg16_r0 arg17_r0 arg18_r0 arg19_r0 arg20_r0 k0_hw1 k0_h7 => k0_hw1.1.2.2.2.2.2.2.2.2.1 k0_h7
theorem k0_off23_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h7 : k0_cond7 k0_t1 arg19_r0 arg20_r0 = 1#1), ∀ a, (k0_off23 arg13_r0) a + S1x1x1024x1024.size a ≤ S3x1x1024x1024.size a := fun k0_t1 arg9_r0 arg10_r0 arg11_r0 arg12_r0 arg13_r0 arg14_r0 arg15_r0 arg16_r0 arg17_r0 arg18_r0 arg19_r0 arg20_r0 k0_hw1 k0_h7 => k0_hw1.1.2.2.2.2.2.2.2.2.2.1 k0_h7
theorem k0_off24_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h7 : k0_cond7 k0_t1 arg19_r0 arg20_r0 = 1#1), ∀ a, (k0_off24 arg19_r0 arg20_r0) a + S1x1024x1024.size a ≤ S8x8192x1024.size a := fun k0_t1 arg9_r0 arg10_r0 arg11_r0 arg12_r0 arg13_r0 arg14_r0 arg15_r0 arg16_r0 arg17_r0 arg18_r0 arg19_r0 arg20_r0 k0_hw1 k0_h7 => k0_hw1.1.2.2.2.2.2.2.2.2.2.2.1 k0_h7
theorem k0_off25_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h8 : k0_cond8 k0_t1 arg19_r0 arg20_r0 = 1#1), ∀ a, (k0_off25 arg15_r0) a + S1.size a ≤ S3.size a := fun k0_t1 arg9_r0 arg10_r0 arg11_r0 arg12_r0 arg13_r0 arg14_r0 arg15_r0 arg16_r0 arg17_r0 arg18_r0 arg19_r0 arg20_r0 k0_hw1 k0_h8 => k0_hw1.1.2.2.2.2.2.2.2.2.2.2.2.1 k0_h8
theorem k0_off26_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h8 : k0_cond8 k0_t1 arg19_r0 arg20_r0 = 1#1), ∀ a, (k0_off26 arg15_r0) a + S1x1x1024x512.size a ≤ S3x1x1024x512.size a := fun k0_t1 arg9_r0 arg10_r0 arg11_r0 arg12_r0 arg13_r0 arg14_r0 arg15_r0 arg16_r0 arg17_r0 arg18_r0 arg19_r0 arg20_r0 k0_hw1 k0_h8 => k0_hw1.1.2.2.2.2.2.2.2.2.2.2.2.2.1 k0_h8
theorem k0_off27_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h8 : k0_cond8 k0_t1 arg19_r0 arg20_r0 = 1#1), ∀ a, (k0_off27 arg19_r0 arg20_r0) a + S1x1024x512.size a ≤ S8x8192x512.size a := fun k0_t1 arg9_r0 arg10_r0 arg11_r0 arg12_r0 arg13_r0 arg14_r0 arg15_r0 arg16_r0 arg17_r0 arg18_r0 arg19_r0 arg20_r0 k0_hw1 k0_h8 => k0_hw1.1.2.2.2.2.2.2.2.2.2.2.2.2.2.1 k0_h8
theorem k0_off27_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h8 : k0_cond8 k0_t1 arg19_r0 arg20_r0 = 1#1), (Rect.unit (s := S8x8192x512) (k0_off27 arg19_r0 arg20_r0) S1x1024x512.size (k0_off27_inb k0_t1 arg9_r0 arg10_r0 arg11_r0 arg12_r0 arg13_r0 arg14_r0 arg15_r0 arg16_r0 arg17_r0 arg18_r0 arg19_r0 arg20_r0 k0_hw1 k0_h8)).WholeWords (EltTy.packing .bf16) := fun k0_t1 arg9_r0 arg10_r0 arg11_r0 arg12_r0 arg13_r0 arg14_r0 arg15_r0 arg16_r0 arg17_r0 arg18_r0 arg19_r0 arg20_r0 k0_hw1 k0_h8 => k0_hw1.1.2.2.2.2.2.2.2.2.2.2.2.2.2.2.1 k0_h8 (k0_off27_inb k0_t1 arg9_r0 arg10_r0 arg11_r0 arg12_r0 arg13_r0 arg14_r0 arg15_r0 arg16_r0 arg17_r0 arg18_r0 arg19_r0 arg20_r0 k0_hw1 k0_h8)
theorem k0_off26_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h8 : k0_cond8 k0_t1 arg19_r0 arg20_r0 = 1#1), (Rect.unit (s := S3x1x1024x512) (k0_off26 arg15_r0) S1x1x1024x512.size (k0_off26_inb k0_t1 arg9_r0 arg10_r0 arg11_r0 arg12_r0 arg13_r0 arg14_r0 arg15_r0 arg16_r0 arg17_r0 arg18_r0 arg19_r0 arg20_r0 k0_hw1 k0_h8)).WholeWords (EltTy.packing .bf16) := fun k0_t1 arg9_r0 arg10_r0 arg11_r0 arg12_r0 arg13_r0 arg14_r0 arg15_r0 arg16_r0 arg17_r0 arg18_r0 arg19_r0 arg20_r0 k0_hw1 k0_h8 => k0_hw1.1.2.2.2.2.2.2.2.2.2.2.2.2.2.2.2.1 k0_h8 (k0_off26_inb k0_t1 arg9_r0 arg10_r0 arg11_r0 arg12_r0 arg13_r0 arg14_r0 arg15_r0 arg16_r0 arg17_r0 arg18_r0 arg19_r0 arg20_r0 k0_hw1 k0_h8)
theorem k0_off28_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h9 : k0_cond9 k0_t1 arg19_r0 arg20_r0 = 1#1), ∀ a, (k0_off28 arg10_r0) a + S1.size a ≤ S3.size a := fun k0_t1 arg9_r0 arg10_r0 arg11_r0 arg12_r0 arg13_r0 arg14_r0 arg15_r0 arg16_r0 arg17_r0 arg18_r0 arg19_r0 arg20_r0 k0_hw1 k0_h9 => k0_hw1.1.2.2.2.2.2.2.2.2.2.2.2.2.2.2.2.2.1 k0_h9
theorem k0_off29_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h9 : k0_cond9 k0_t1 arg19_r0 arg20_r0 = 1#1), ∀ a, (k0_off29 arg10_r0) a + S1x1x1024x1024.size a ≤ S3x1x1024x1024.size a := fun k0_t1 arg9_r0 arg10_r0 arg11_r0 arg12_r0 arg13_r0 arg14_r0 arg15_r0 arg16_r0 arg17_r0 arg18_r0 arg19_r0 arg20_r0 k0_hw1 k0_h9 => k0_hw1.1.2.2.2.2.2.2.2.2.2.2.2.2.2.2.2.2.2.1 k0_h9
theorem k0_off30_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h9 : k0_cond9 k0_t1 arg19_r0 arg20_r0 = 1#1), ∀ a, (k0_off30 arg19_r0 arg20_r0) a + S1x1024x1024.size a ≤ S8x8192x1024.size a := fun k0_t1 arg9_r0 arg10_r0 arg11_r0 arg12_r0 arg13_r0 arg14_r0 arg15_r0 arg16_r0 arg17_r0 arg18_r0 arg19_r0 arg20_r0 k0_hw1 k0_h9 => k0_hw1.1.2.2.2.2.2.2.2.2.2.2.2.2.2.2.2.2.2.2.1 k0_h9
theorem k0_off31_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h10 : k0_cond10 k0_t1 arg19_r0 arg20_r0 = 1#1), ∀ a, (k0_off31 arg12_r0) a + S1.size a ≤ S3.size a := fun k0_t1 arg9_r0 arg10_r0 arg11_r0 arg12_r0 arg13_r0 arg14_r0 arg15_r0 arg16_r0 arg17_r0 arg18_r0 arg19_r0 arg20_r0 k0_hw1 k0_h10 => k0_hw1.1.2.2.2.2.2.2.2.2.2.2.2.2.2.2.2.2.2.2.2.1 k0_h10
theorem k0_off32_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h10 : k0_cond10 k0_t1 arg19_r0 arg20_r0 = 1#1), ∀ a, (k0_off32 arg12_r0) a + S1x1x1024x1024.size a ≤ S3x1x1024x1024.size a := fun k0_t1 arg9_r0 arg10_r0 arg11_r0 arg12_r0 arg13_r0 arg14_r0 arg15_r0 arg16_r0 arg17_r0 arg18_r0 arg19_r0 arg20_r0 k0_hw1 k0_h10 => k0_hw1.1.2.2.2.2.2.2.2.2.2.2.2.2.2.2.2.2.2.2.2.2.1 k0_h10
theorem k0_off33_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h10 : k0_cond10 k0_t1 arg19_r0 arg20_r0 = 1#1), ∀ a, (k0_off33 arg19_r0 arg20_r0) a + S1x1024x1024.size a ≤ S8x8192x1024.size a := fun k0_t1 arg9_r0 arg10_r0 arg11_r0 arg12_r0 arg13_r0 arg14_r0 arg15_r0 arg16_r0 arg17_r0 arg18_r0 arg19_r0 arg20_r0 k0_hw1 k0_h10 => k0_hw1.1.2.2.2.2.2.2.2.2.2.2.2.2.2.2.2.2.2.2.2.2.2.1 k0_h10
theorem k0_off33_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h10 : k0_cond10 k0_t1 arg19_r0 arg20_r0 = 1#1), (Rect.unit (s := S8x8192x1024) (k0_off33 arg19_r0 arg20_r0) S1x1024x1024.size (k0_off33_inb k0_t1 arg9_r0 arg10_r0 arg11_r0 arg12_r0 arg13_r0 arg14_r0 arg15_r0 arg16_r0 arg17_r0 arg18_r0 arg19_r0 arg20_r0 k0_hw1 k0_h10)).WholeWords (EltTy.packing .bf16) := fun k0_t1 arg9_r0 arg10_r0 arg11_r0 arg12_r0 arg13_r0 arg14_r0 arg15_r0 arg16_r0 arg17_r0 arg18_r0 arg19_r0 arg20_r0 k0_hw1 k0_h10 => k0_hw1.1.2.2.2.2.2.2.2.2.2.2.2.2.2.2.2.2.2.2.2.2.2.2.1 k0_h10 (k0_off33_inb k0_t1 arg9_r0 arg10_r0 arg11_r0 arg12_r0 arg13_r0 arg14_r0 arg15_r0 arg16_r0 arg17_r0 arg18_r0 arg19_r0 arg20_r0 k0_hw1 k0_h10)
theorem k0_off32_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h10 : k0_cond10 k0_t1 arg19_r0 arg20_r0 = 1#1), (Rect.unit (s := S3x1x1024x1024) (k0_off32 arg12_r0) S1x1x1024x1024.size (k0_off32_inb k0_t1 arg9_r0 arg10_r0 arg11_r0 arg12_r0 arg13_r0 arg14_r0 arg15_r0 arg16_r0 arg17_r0 arg18_r0 arg19_r0 arg20_r0 k0_hw1 k0_h10)).WholeWords (EltTy.packing .bf16) := fun k0_t1 arg9_r0 arg10_r0 arg11_r0 arg12_r0 arg13_r0 arg14_r0 arg15_r0 arg16_r0 arg17_r0 arg18_r0 arg19_r0 arg20_r0 k0_hw1 k0_h10 => k0_hw1.1.2.2.2.2.2.2.2.2.2.2.2.2.2.2.2.2.2.2.2.2.2.2.2.1 k0_h10 (k0_off32_inb k0_t1 arg9_r0 arg10_r0 arg11_r0 arg12_r0 arg13_r0 arg14_r0 arg15_r0 arg16_r0 arg17_r0 arg18_r0 arg19_r0 arg20_r0 k0_hw1 k0_h10)
theorem k0_off34_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h11 : k0_cond11 k0_t1 arg19_r0 arg20_r0 = 1#1), ∀ a, (k0_off34 arg14_r0) a + S1.size a ≤ S3.size a := fun k0_t1 arg9_r0 arg10_r0 arg11_r0 arg12_r0 arg13_r0 arg14_r0 arg15_r0 arg16_r0 arg17_r0 arg18_r0 arg19_r0 arg20_r0 k0_hw1 k0_h11 => k0_hw1.1.2.2.2.2.2.2.2.2.2.2.2.2.2.2.2.2.2.2.2.2.2.2.2.2.1 k0_h11
theorem k0_off35_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h11 : k0_cond11 k0_t1 arg19_r0 arg20_r0 = 1#1), ∀ a, (k0_off35 arg14_r0) a + S1x1x1024x1024.size a ≤ S3x1x1024x1024.size a := fun k0_t1 arg9_r0 arg10_r0 arg11_r0 arg12_r0 arg13_r0 arg14_r0 arg15_r0 arg16_r0 arg17_r0 arg18_r0 arg19_r0 arg20_r0 k0_hw1 k0_h11 => k0_hw1.1.2.2.2.2.2.2.2.2.2.2.2.2.2.2.2.2.2.2.2.2.2.2.2.2.2.1 k0_h11
theorem k0_off36_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h11 : k0_cond11 k0_t1 arg19_r0 arg20_r0 = 1#1), ∀ a, (k0_off36 arg19_r0 arg20_r0) a + S1x1024x1024.size a ≤ S8x8192x1024.size a := fun k0_t1 arg9_r0 arg10_r0 arg11_r0 arg12_r0 arg13_r0 arg14_r0 arg15_r0 arg16_r0 arg17_r0 arg18_r0 arg19_r0 arg20_r0 k0_hw1 k0_h11 => k0_hw1.1.2.2.2.2.2.2.2.2.2.2.2.2.2.2.2.2.2.2.2.2.2.2.2.2.2.2.1 k0_h11
theorem k0_off37_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h12 : k0_cond12 k0_t1 arg19_r0 arg20_r0 = 1#1), ∀ a, (k0_off37 arg16_r0) a + S1.size a ≤ S3.size a := fun k0_t1 arg9_r0 arg10_r0 arg11_r0 arg12_r0 arg13_r0 arg14_r0 arg15_r0 arg16_r0 arg17_r0 arg18_r0 arg19_r0 arg20_r0 k0_hw1 k0_h12 => k0_hw1.1.2.2.2.2.2.2.2.2.2.2.2.2.2.2.2.2.2.2.2.2.2.2.2.2.2.2.2.1 k0_h12
theorem k0_off38_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h12 : k0_cond12 k0_t1 arg19_r0 arg20_r0 = 1#1), ∀ a, (k0_off38 arg16_r0) a + S1x1x1024x512.size a ≤ S3x1x1024x512.size a := fun k0_t1 arg9_r0 arg10_r0 arg11_r0 arg12_r0 arg13_r0 arg14_r0 arg15_r0 arg16_r0 arg17_r0 arg18_r0 arg19_r0 arg20_r0 k0_hw1 k0_h12 => k0_hw1.1.2.2.2.2.2.2.2.2.2.2.2.2.2.2.2.2.2.2.2.2.2.2.2.2.2.2.2.2.1 k0_h12
theorem k0_off39_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h12 : k0_cond12 k0_t1 arg19_r0 arg20_r0 = 1#1), ∀ a, (k0_off39 arg19_r0 arg20_r0) a + S1x1024x512.size a ≤ S8x8192x512.size a := fun k0_t1 arg9_r0 arg10_r0 arg11_r0 arg12_r0 arg13_r0 arg14_r0 arg15_r0 arg16_r0 arg17_r0 arg18_r0 arg19_r0 arg20_r0 k0_hw1 k0_h12 => k0_hw1.1.2.2.2.2.2.2.2.2.2.2.2.2.2.2.2.2.2.2.2.2.2.2.2.2.2.2.2.2.2.1 k0_h12
theorem k0_off39_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h12 : k0_cond12 k0_t1 arg19_r0 arg20_r0 = 1#1), (Rect.unit (s := S8x8192x512) (k0_off39 arg19_r0 arg20_r0) S1x1024x512.size (k0_off39_inb k0_t1 arg9_r0 arg10_r0 arg11_r0 arg12_r0 arg13_r0 arg14_r0 arg15_r0 arg16_r0 arg17_r0 arg18_r0 arg19_r0 arg20_r0 k0_hw1 k0_h12)).WholeWords (EltTy.packing .bf16) := fun k0_t1 arg9_r0 arg10_r0 arg11_r0 arg12_r0 arg13_r0 arg14_r0 arg15_r0 arg16_r0 arg17_r0 arg18_r0 arg19_r0 arg20_r0 k0_hw1 k0_h12 => k0_hw1.1.2.2.2.2.2.2.2.2.2.2.2.2.2.2.2.2.2.2.2.2.2.2.2.2.2.2.2.2.2.2.1 k0_h12 (k0_off39_inb k0_t1 arg9_r0 arg10_r0 arg11_r0 arg12_r0 arg13_r0 arg14_r0 arg15_r0 arg16_r0 arg17_r0 arg18_r0 arg19_r0 arg20_r0 k0_hw1 k0_h12)
theorem k0_off38_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h12 : k0_cond12 k0_t1 arg19_r0 arg20_r0 = 1#1), (Rect.unit (s := S3x1x1024x512) (k0_off38 arg16_r0) S1x1x1024x512.size (k0_off38_inb k0_t1 arg9_r0 arg10_r0 arg11_r0 arg12_r0 arg13_r0 arg14_r0 arg15_r0 arg16_r0 arg17_r0 arg18_r0 arg19_r0 arg20_r0 k0_hw1 k0_h12)).WholeWords (EltTy.packing .bf16) := fun k0_t1 arg9_r0 arg10_r0 arg11_r0 arg12_r0 arg13_r0 arg14_r0 arg15_r0 arg16_r0 arg17_r0 arg18_r0 arg19_r0 arg20_r0 k0_hw1 k0_h12 => k0_hw1.1.2.2.2.2.2.2.2.2.2.2.2.2.2.2.2.2.2.2.2.2.2.2.2.2.2.2.2.2.2.2.2 k0_h12 (k0_off38_inb k0_t1 arg9_r0 arg10_r0 arg11_r0 arg12_r0 arg13_r0 arg14_r0 arg15_r0 arg16_r0 arg17_r0 arg18_r0 arg19_r0 arg20_r0 k0_hw1 k0_h12)
theorem k0_off45_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h18 : k0_cond18 k0_t1 arg19_r0 arg20_r0 = 1#1), ∀ a, (k0_off45 arg17_r0) a + S1.size a ≤ S2.size a := fun k0_t1 arg9_r0 arg10_r0 arg11_r0 arg12_r0 arg13_r0 arg14_r0 arg15_r0 arg16_r0 arg17_r0 arg18_r0 arg19_r0 arg20_r0 k0_hw1 k0_h18 => k0_hw1.2.1 k0_h18
theorem k0_off46_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h18 : k0_cond18 k0_t1 arg19_r0 arg20_r0 = 1#1), ∀ a, (k0_off46 arg19_r0 arg20_r0) a + S1x1024x1024.size a ≤ S8x8192x1024.size a := fun k0_t1 arg9_r0 arg10_r0 arg11_r0 arg12_r0 arg13_r0 arg14_r0 arg15_r0 arg16_r0 arg17_r0 arg18_r0 arg19_r0 arg20_r0 k0_hw1 k0_h18 => k0_hw1.2.2.1 k0_h18
theorem k0_off47_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h18 : k0_cond18 k0_t1 arg19_r0 arg20_r0 = 1#1), ∀ a, (k0_off47 arg17_r0) a + S1x1x1024x1024.size a ≤ S2x1x1024x1024.size a := fun k0_t1 arg9_r0 arg10_r0 arg11_r0 arg12_r0 arg13_r0 arg14_r0 arg15_r0 arg16_r0 arg17_r0 arg18_r0 arg19_r0 arg20_r0 k0_hw1 k0_h18 => k0_hw1.2.2.2.1 k0_h18
theorem k0_off48_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h23 : k0_cond23 k0_t1 arg19_r0 arg20_r0 = 1#1), ∀ a, (k0_off48 arg18_r0) a + S1.size a ≤ S2.size a := fun k0_t1 arg9_r0 arg10_r0 arg11_r0 arg12_r0 arg13_r0 arg14_r0 arg15_r0 arg16_r0 arg17_r0 arg18_r0 arg19_r0 arg20_r0 k0_hw1 k0_h23 => k0_hw1.2.2.2.2.1 k0_h23
theorem k0_off49_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h23 : k0_cond23 k0_t1 arg19_r0 arg20_r0 = 1#1), ∀ a, (k0_off49 arg19_r0 arg20_r0) a + S1x1024x1024.size a ≤ S8x8192x1024.size a := fun k0_t1 arg9_r0 arg10_r0 arg11_r0 arg12_r0 arg13_r0 arg14_r0 arg15_r0 arg16_r0 arg17_r0 arg18_r0 arg19_r0 arg20_r0 k0_hw1 k0_h23 => k0_hw1.2.2.2.2.2.1 k0_h23
theorem k0_off50_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg9_r0 arg10_r0 arg11_r0 arg12_r0 arg13_r0 arg14_r0 arg15_r0 arg16_r0 arg17_r0 arg18_r0 arg19_r0 arg20_r0), ∀ (k0_h23 : k0_cond23 k0_t1 arg19_r0 arg20_r0 = 1#1), ∀ a, (k0_off50 arg18_r0) a + S1x1x1024x1024.size a ≤ S2x1x1024x1024.size a := fun k0_t1 arg9_r0 arg10_r0 arg11_r0 arg12_r0 arg13_r0 arg14_r0 arg15_r0 arg16_r0 arg17_r0 arg18_r0 arg19_r0 arg20_r0 k0_hw1 k0_h23 => k0_hw1.2.2.2.2.2.2 k0_h23

def k0_off51 (v106_9_r0 : BitVec 32) : Fin 1 → Nat :=
  let c2_i32_r0 : BitVec 32 := 2#32
  let v157_r0 : BitVec 32 := Scalar.remui v106_9_r0 c2_i32_r0
  ![v157_r0.toNat]

def k0_off52 (v106_11_r0 : BitVec 32) (v106_10_r0 : BitVec 32) : Fin 3 → Nat :=
  let c1_i32_157_r0 : BitVec 32 := 1#32
  let true_113_r0 : BitVec 1 := 1#1
  let c1_i32_112_r0 : BitVec 32 := 1#32
  let v107_r0 : BitVec 32 := Scalar.subi v106_11_r0 c1_i32_112_r0
  let v108_r0 : BitVec 32 := Scalar.select true_113_r0 v107_r0 v106_11_r0
  let c_m1_i32_114_r0 : BitVec 32 := 4294967295#32
  let v109_r0 : BitVec 1 := Scalar.cmpi .eq v108_r0 c_m1_i32_114_r0
  let c1_i32_116_r0 : BitVec 32 := 1#32
  let v111_r0 : BitVec 32 := Scalar.subi v106_10_r0 c1_i32_116_r0
  let v112_r0 : BitVec 32 := Scalar.select v109_r0 v111_r0 v106_10_r0
  let c_m1_i32_117_r0 : BitVec 32 := 4294967295#32
  let v113_r0 : BitVec 1 := Scalar.cmpi .eq v112_r0 c_m1_i32_117_r0
  let c7_i32_118_r0 : BitVec 32 := 7#32
  let v114_r0 : BitVec 32 := Scalar.select v113_r0 c7_i32_118_r0 v112_r0
  let c0_i32_119_r0 : BitVec 32 := 0#32
  let v115_r0 : BitVec 32 := Scalar.addi v114_r0 c0_i32_119_r0
  let v158_r0 : BitVec 32 := Scalar.muli c1_i32_157_r0 v115_r0
  let c1024_i32_r0 : BitVec 32 := 1024#32
  let c7_i32_115_r0 : BitVec 32 := 7#32
  let v110_r0 : BitVec 32 := Scalar.select v109_r0 c7_i32_115_r0 v108_r0
  let c0_i32_120_r0 : BitVec 32 := 0#32
  let v116_r0 : BitVec 32 := Scalar.addi v110_r0 c0_i32_120_r0
  let v159_r0 : BitVec 32 := Scalar.muli c1024_i32_r0 v116_r0
  let c0_i32_158_r0 : BitVec 32 := 0#32
  ![v158_r0.toNat, v159_r0.toNat, 0]

def k0_chk8 (v106_11_r0 : BitVec 32) (v106_10_r0 : BitVec 32) : Prop :=
  (∀ a, (k0_off52 v106_11_r0 v106_10_r0) a + S1x1024x1024.size a ≤ S8x8192x1024.size a)
theorem k0_off52_inb : ∀ (v106_11_r0 : BitVec 32) (v106_10_r0 : BitVec 32) (k0_hw8 : k0_chk8 v106_11_r0 v106_10_r0), ∀ a, (k0_off52 v106_11_r0 v106_10_r0) a + S1x1024x1024.size a ≤ S8x8192x1024.size a := fun v106_11_r0 v106_10_r0 k0_hw8 => k0_hw8

def k0_off53 (v106_9_r0 : BitVec 32) : Fin 4 → Nat :=
  let c2_i32_r0 : BitVec 32 := 2#32
  let v157_r0 : BitVec 32 := Scalar.remui v106_9_r0 c2_i32_r0
  let c0_i32_159_r0 : BitVec 32 := 0#32
  let c0_i32_160_r0 : BitVec 32 := 0#32
  let c0_i32_161_r0 : BitVec 32 := 0#32
  ![v157_r0.toNat, 0, 0, 0]

def k0_chk7 (v106_9_r0 : BitVec 32) : Prop :=
  (∀ a, (k0_off51 v106_9_r0) a + S1.size a ≤ S2.size a) ∧
  (∀ a, (k0_off53 v106_9_r0) a + S1x1x1024x1024.size a ≤ S2x1x1024x1024.size a)
theorem k0_off51_inb : ∀ (v106_9_r0 : BitVec 32) (k0_hw7 : k0_chk7 v106_9_r0), ∀ a, (k0_off51 v106_9_r0) a + S1.size a ≤ S2.size a := fun v106_9_r0 k0_hw7 => k0_hw7.1
theorem k0_off53_inb : ∀ (v106_9_r0 : BitVec 32) (k0_hw7 : k0_chk7 v106_9_r0), ∀ a, (k0_off53 v106_9_r0) a + S1x1x1024x1024.size a ≤ S2x1x1024x1024.size a := fun v106_9_r0 k0_hw7 => k0_hw7.2

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x8192x1024 : Shape := ⟨3, ![8, 8192, 1024]⟩
abbrev S8x8192x512 : Shape := ⟨3, ![8, 8192, 512]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S512x1024 : Shape := ⟨2, ![512, 1024]⟩
abbrev S1024x1024 : Shape := ⟨2, ![1024, 1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .f32⟩
  | .hbm, ⟨3, _⟩ => ⟨S8x8192x512, .bf16⟩
  | .hbm, ⟨4, _⟩ => ⟨S1x512x1024, .f32⟩
  | .hbm, ⟨5, _⟩ => ⟨S1x1024x1024, .f32⟩
  | .hbm, ⟨6, _⟩ => ⟨S1024, .f32⟩
  | .hbm, ⟨7, _⟩ => ⟨S8x8192x1024, .f32⟩
  | .hbm, ⟨8, _⟩ => ⟨S8x8192x1024, .f32⟩
  | .hbm, ⟨9, _⟩ => ⟨S8x8192x1024, .f32⟩
  | .hbm, ⟨10, _⟩ => ⟨S_, .f32⟩
  | .hbm, ⟨11, _⟩ => ⟨S8x8192x1024, .f32⟩
  | .hbm, ⟨12, _⟩ => ⟨S8x8192x1024, .f32⟩
  | .hbm, ⟨13, _⟩ => ⟨S_, .f32⟩
  | .hbm, ⟨14, _⟩ => ⟨S8x8192x1024, .f32⟩
  | .hbm, ⟨15, _⟩ => ⟨S8x8192x1024, .f32⟩
  | .hbm, ⟨16, _⟩ => ⟨S8x8192x512, .f32⟩
  | .hbm, ⟨17, _⟩ => ⟨S512x1024, .f32⟩
  | .hbm, ⟨18, _⟩ => ⟨S8x8192x1024, .f32⟩
  | .hbm, ⟨19, _⟩ => ⟨S8x8192x1024, .f32⟩
  | .hbm, ⟨20, _⟩ => ⟨S8x8192x1024, .f32⟩
  | .hbm, ⟨21, _⟩ => ⟨S1024x1024, .f32⟩
  | .hbm, ⟨22, _⟩ => ⟨S8x8192x1024, .f32⟩
  | .hbm, ⟨23, _⟩ => ⟨S8x8192x1024, .f32⟩
  | .hbm, ⟨24, _⟩ => ⟨S8x8192x1024, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S_, .f32⟩
  | .hbm, ⟨29, _⟩ => ⟨S8x8192x1, .f32⟩
  | .hbm, ⟨30, _⟩ => ⟨S8x8192x1, .f32⟩
  | .hbm, ⟨31, _⟩ => ⟨S_, .f32⟩
  | .hbm, ⟨32, _⟩ => ⟨S8x8192x1, .f32⟩
  | .hbm, ⟨33, _⟩ => ⟨S8x8192x1, .f32⟩
  | .hbm, ⟨34, _⟩ => ⟨S8x8192x1, .f32⟩
  | .hbm, ⟨35, _⟩ => ⟨S8x8192x1024, .f32⟩
  | .hbm, ⟨36, _⟩ => ⟨S8x8192x1024, .f32⟩
  | .hbm, ⟨37, _⟩ => ⟨S1x1x1024, .f32⟩
  | .hbm, ⟨38, _⟩ => ⟨S8x8192x1024, .f32⟩
  | .hbm, ⟨39, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel2.lean ====
abbrev S8x8192x1024 : Shape := ⟨3, ![8, 8192, 1024]⟩
abbrev S1x1024 : Shape := ⟨2, ![1, 1024]⟩
abbrev S1x1024x5704 : Shape := ⟨3, ![1, 1024, 5704]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S1024 : Shape := ⟨1, ![1024]⟩
abbrev S1024x5704 : Shape := ⟨2, ![1024, 5704]⟩
abbrev S512 : Shape := ⟨1, ![512]⟩
abbrev S512x1024 : Shape := ⟨2, ![512, 1024]⟩
abbrev S1024x1536 : Shape := ⟨2, ![1024, 1536]⟩
abbrev S1024x1024 : Shape := ⟨2, ![1024, 1024]⟩
abbrev S1024x64 : Shape := ⟨2, ![1024, 64]⟩
abbrev S1024x1088 : Shape := ⟨2, ![1024, 1088]⟩
abbrev S1024x2048 : Shape := ⟨2, ![1024, 2048]⟩
abbrev S1024x512 : Shape := ⟨2, ![1024, 512]⟩
abbrev S1024x256 : Shape := ⟨2, ![1024, 256]⟩
abbrev S1024x8 : Shape := ⟨2, ![1024, 8]⟩
abbrev S1024x1288 : Shape := ⟨2, ![1024, 1288]⟩
abbrev S1288x1024 : Shape := ⟨2, ![1288, 1024]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S4x128x256 : Shape := ⟨3, ![4, 128, 256]⟩
abbrev S128x8x64 : Shape := ⟨3, ![128, 8, 64]⟩
abbrev S128x512 : Shape := ⟨2, ![128, 512]⟩
abbrev S8x8192x512 : Shape := ⟨3, ![8, 8192, 512]⟩
abbrev S8x8192x256 : Shape := ⟨3, ![8, 8192, 256]⟩
abbrev S8x8192x64 : Shape := ⟨3, ![8, 8192, 64]⟩
abbrev S8x4x8192x64 : Shape := ⟨4, ![8, 4, 8192, 64]⟩
abbrev S8x64x4x64x256 : Shape := ⟨5, ![8, 64, 4, 64, 256]⟩
abbrev S8x64x64x1024 : Shape := ⟨4, ![8, 64, 64, 1024]⟩
abbrev S8x8x8192 : Shape := ⟨3, ![8, 8, 8192]⟩
abbrev S8x16x320x512 : Shape := ⟨4, ![8, 16, 320, 512]⟩
abbrev S1x512x512 : Shape := ⟨3, ![1, 512, 512]⟩
abbrev S1x512x256 : Shape := ⟨3, ![1, 512, 256]⟩
abbrev S1x512x64 : Shape := ⟨3, ![1, 512, 64]⟩
abbrev S1x4x512x64 : Shape := ⟨4, ![1, 4, 512, 64]⟩
abbrev S1x4x4x64x256 : Shape := ⟨5, ![1, 4, 4, 64, 256]⟩
abbrev S1x4x64x1024 : Shape := ⟨4, ![1, 4, 64, 1024]⟩
abbrev S1x8x512 : Shape := ⟨3, ![1, 8, 512]⟩
abbrev S1x1x320x512 : Shape := ⟨4, ![1, 1, 320, 512]⟩
abbrev S512x1 : Shape := ⟨2, ![512, 1]⟩
abbrev S512x1536 : Shape := ⟨2, ![512, 1536]⟩
abbrev S512x512 : Shape := ⟨2, ![512, 512]⟩
abbrev S256x128 : Shape := ⟨2, ![256, 128]⟩
abbrev S1x128x256 : Shape := ⟨3, ![1, 128, 256]⟩
abbrev S128x256 : Shape := ⟨2, ![128, 256]⟩
abbrev S512x128 : Shape := ⟨2, ![512, 128]⟩
abbrev S512x2048 : Shape := ⟨2, ![512, 2048]⟩
abbrev S512x1088 : Shape := ⟨2, ![512, 1088]⟩
abbrev S512x256 : Shape := ⟨2, ![512, 256]⟩
abbrev S512x64 : Shape := ⟨2, ![512, 64]⟩
abbrev S1x1x512x64 : Shape := ⟨4, ![1, 1, 512, 64]⟩
abbrev S1288x512 : Shape := ⟨2, ![1288, 512]⟩
abbrev S64x128 : Shape := ⟨2, ![64, 128]⟩
abbrev S1x1x1x64x128 : Shape := ⟨5, ![1, 1, 1, 64, 128]⟩
abbrev S1x1x64x128 : Shape := ⟨4, ![1, 1, 64, 128]⟩
abbrev S64x512 : Shape := ⟨2, ![64, 512]⟩
abbrev S1x1x64x512 : Shape := ⟨4, ![1, 1, 64, 512]⟩
abbrev S16x512 : Shape := ⟨2, ![16, 512]⟩
abbrev S1x1x16x512 : Shape := ⟨4, ![1, 1, 16, 512]⟩
abbrev S8x512 : Shape := ⟨2, ![8, 512]⟩

abbrev nBuf : Space → Nat
  | .hbm => 101
  | .vmem => 36
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x5704, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1x512x1024, .f32⟩
  | .hbm, ⟨8, _⟩ => ⟨S1024, .f32⟩
  | .hbm, ⟨9, _⟩ => ⟨S1024x5704, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S1024x5704, .bf16⟩
  | .hbm, ⟨14, _⟩ => ⟨S1x1024, .f32⟩
  | .hbm, ⟨15, _⟩ => ⟨S1024x1536, .bf16⟩
  | .hbm, ⟨16, _⟩ => ⟨S1024x1024, .bf16⟩
  | .hbm, ⟨17, _⟩ => ⟨S1024x64, .bf16⟩
  | .hbm, ⟨18, _⟩ => ⟨S1024x1088, .bf16⟩
  | .hbm, ⟨19, _⟩ => ⟨S1024x2048, .bf16⟩
  | .hbm, ⟨20, _⟩ => ⟨S1024x512, .bf16⟩
  | .hbm, ⟨21, _⟩ => ⟨S1024x512, .bf16⟩
  | .hbm, ⟨22, _⟩ => ⟨S1024x256, .bf16⟩
  | .hbm, ⟨23, _⟩ => ⟨S1024x8, .bf16⟩
  | .hbm, ⟨24, _⟩ => ⟨S1024x1288, .bf16⟩
  | .hbm, ⟨25, _⟩ => ⟨S1288x1024, .bf16⟩
  | .hbm, ⟨26, _⟩ => ⟨S1x512, .f32⟩
  | .hbm, ⟨27, _⟩ => ⟨S1x512, .f32⟩
  | .hbm, ⟨28, _⟩ => ⟨S512x1024, .bf16⟩
  | .hbm, ⟨29, _⟩ => ⟨S128, .i32⟩
  | .hbm, ⟨30, _⟩ => ⟨S1x128, .i32⟩
  | .hbm, ⟨31, _⟩ => ⟨S_, .i32⟩
  | .hbm, ⟨32, _⟩ => ⟨S_, .i32⟩
  | .hbm, ⟨33, _⟩ => ⟨S1x128, .i32⟩
  | .hbm, ⟨34, _⟩ => ⟨S1x128, .i32⟩
  | .hbm, ⟨35, _⟩ => ⟨S1x128, .i32⟩
  | .hbm, ⟨36, _⟩ => ⟨S_, .i32⟩
  | .hbm, ⟨37, _⟩ => ⟨S1x128, .i32⟩
  | .hbm, ⟨38, _⟩ => ⟨S1x128, .i1⟩
  | .hbm, ⟨39, _⟩ => ⟨S1x128, .i32⟩
  | .hbm, ⟨40, _⟩ => ⟨S1x128, .i32⟩
  | .hbm, ⟨41, _⟩ => ⟨S_, .i32⟩
  | .hbm, ⟨42, _⟩ => ⟨S1x128, .i32⟩
  | .hbm, ⟨43, _⟩ => ⟨S1x128, .i1⟩
  | .hbm, ⟨44, _⟩ => ⟨S1x128, .i1⟩
  | .hbm, ⟨45, _⟩ => ⟨S_, .i32⟩
  | .hbm, ⟨46, _⟩ => ⟨S1x128, .i32⟩
  | .hbm, ⟨47, _⟩ => ⟨S1x128, .i32⟩
  | .hbm, ⟨48, _⟩ => ⟨S1x128, .i32⟩
  | .hbm, ⟨49, _⟩ => ⟨S128x1, .i32⟩
  | .hbm, ⟨50, _⟩ => ⟨S_, .i32⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S128x1, .i32⟩
  | .hbm, ⟨55, _⟩ => ⟨S_, .i32⟩
  | .hbm, ⟨56, _⟩ => ⟨S128x1, .i32⟩
  | .hbm, ⟨57, _⟩ => ⟨S128x1, .i1⟩
  | .hbm, ⟨58, _⟩ => ⟨S128x1, .i32⟩
  | .hbm, ⟨59, _⟩ => ⟨S128x1, .i32⟩
  | .hbm, ⟨60, _⟩ => ⟨S_, .i32⟩
  | .hbm, ⟨61, _⟩ => ⟨S128x1, .i32⟩
  | .hbm, ⟨62, _⟩ => ⟨S128x1, .i1⟩
  | .hbm, ⟨63, _⟩ => ⟨S128x1, .i1⟩
  | .hbm, ⟨64, _⟩ => ⟨S_, .i32⟩
  | .hbm, ⟨65, _⟩ => ⟨S128x1, .i32⟩
  | .hbm, ⟨66, _⟩ => ⟨S128x1, .i32⟩
  | .hbm, ⟨67, _⟩ => ⟨S128x1, .i32⟩
  | .hbm, ⟨68, _⟩ => ⟨S128x128, .i32⟩
  | .hbm, ⟨69, _⟩ => ⟨S128x128, .i32⟩
  | .hbm, ⟨70, _⟩ => ⟨S128x128, .i1⟩
  | .hbm, ⟨71, _⟩ => ⟨S1x128x128, .i1⟩
  | .hbm, ⟨72, _⟩ => ⟨S8x128x128, .f32⟩
  | .hbm, ⟨73, _⟩ => ⟨S_, .f32⟩
  | .hbm, ⟨74, _⟩ => ⟨S_, .f32⟩
  | .hbm, ⟨75, _⟩ => ⟨S8x128x128, .i1⟩
  | .hbm, ⟨76, _⟩ => ⟨S8x128x128, .f32⟩
  | .hbm, ⟨77, _⟩ => ⟨S8x128x128, .f32⟩
  | .hbm, ⟨78, _⟩ => ⟨S8x128, .f32⟩
  | .hbm, ⟨79, _⟩ => ⟨S128x8, .f32⟩
  | .hbm, ⟨80, _⟩ => ⟨S4x2x128x128, .f32⟩
  | .hbm, ⟨81, _⟩ => ⟨S4x1x128x128, .f32⟩
  | .hbm, ⟨82, _⟩ => ⟨S4x128x128, .f32⟩
  | .hbm, ⟨83, _⟩ => ⟨S4x1x128x128, .f32⟩
  | .hbm, ⟨84, _⟩ => ⟨S4x128x128, .f32⟩
  | .hbm, ⟨85, _⟩ => ⟨S4x128x256, .f32⟩
  | .hbm, ⟨86, _⟩ => ⟨S4x128x256, .bf16⟩
  | .hbm, ⟨87, _⟩ => ⟨S128x8x64, .f32⟩
  | .hbm, ⟨88, _⟩ => ⟨S128x512, .f32⟩
  | .hbm, ⟨89, _⟩ => ⟨S8x8192x1024, .bf16⟩
  | .hbm, ⟨90, _⟩ => ⟨S8x8192x1024, .f32⟩
  | .hbm, ⟨91, _⟩ => ⟨S8x8192x512, .f32⟩
  | .hbm, ⟨92, _⟩ => ⟨S8x8192x256, .f32⟩
  | .hbm, ⟨93, _⟩ => ⟨S8x8192x256, .f32⟩
  | .hbm, ⟨94, _⟩ => ⟨S8x8192x64, .f32⟩
  | .hbm, ⟨95, _⟩ => ⟨S8x4x8192x64, .bf16⟩
  | .hbm, ⟨96, _⟩ => ⟨S8x8192x64, .bf16⟩
  | .hbm, ⟨97, _⟩ => ⟨S8x64x4x64x256, .bf16⟩
  | .hbm, ⟨98, _⟩ => ⟨S8x64x64x1024, .bf16⟩
  | .hbm, ⟨99, _⟩ => ⟨S8x8x8192, .f32⟩
  | .hbm, ⟨100, _⟩ => ⟨S8x16x320x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1088, .bf16⟩
  | .local _ .vmem, ⟨5, _⟩ => ⟨S1024x2048, .bf16⟩
  | .local _ .vmem, ⟨6, _⟩ => ⟨S1288x1024, .bf16⟩
  | .local _ .vmem, ⟨7, _⟩ => ⟨S1x512, .f32⟩
  | .local _ .vmem, ⟨8, _⟩ => ⟨S1x512, .f32⟩
  | .local _ .vmem, ⟨9, _⟩ => ⟨S4x128x256, .bf16⟩
  | .local _ .vmem, ⟨10, _⟩ => ⟨S128x512, .f32⟩
  | .local _ .vmem, ⟨11, _⟩ => ⟨S512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .f32⟩
  | .local _ .vmem, ⟨15, _⟩ => ⟨S1x512x1024, .f32⟩
  | .local _ .vmem, ⟨16, _⟩ => ⟨S1x512x512, .f32⟩
  | .local _ .vmem, ⟨17, _⟩ => ⟨S1x512x512, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x64, .f32⟩
  | .local _ .vmem, ⟨23, _⟩ => ⟨S1x512x64, .f32⟩
  | .local _ .vmem, ⟨24, _⟩ => ⟨S1x4x512x64, .bf16⟩
  | .local _ .vmem, ⟨25, _⟩ => ⟨S1x4x512x64, .bf16⟩
  | .local _ .vmem, ⟨26, _⟩ => ⟨S1x512x64, .bf16⟩
  | .local _ .vmem, ⟨27, _⟩ => ⟨S1x512x64, .bf16⟩
  | .local _ .vmem, ⟨28, _⟩ => ⟨S1x4x4x64x256, .bf16⟩
  | .local _ .vmem, ⟨29, _⟩ => ⟨S1x4x4x64x256, .bf16⟩
  | .local _ .vmem, ⟨30, _⟩ => ⟨S1x4x64x1024, .bf16⟩
  | .local _ .vmem, ⟨31, _⟩ => ⟨S1x4x64x1024, .bf16⟩
  | .local _ .vmem, ⟨32, _⟩ => ⟨S1x8x512, .f32⟩
  | .local _ .vmem, ⟨33, _⟩ => ⟨S1x8x512, .f32⟩
  | .local _ .vmem, ⟨34, _⟩ => ⟨S1x1x320x512, .bf16⟩
  | .local _ .vmem, ⟨35, _⟩ => ⟨S1x1x320x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v23 : Ref sig .tc := ⟨.hbm, 48, rfl⟩
abbrev main_v24 : Ref sig .tc := ⟨.hbm, 49, rfl⟩
abbrev main_c_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43_0 : Ref sig .tc := ⟨.hbm, 89, rfl⟩
abbrev main_v43_1 : Ref sig .tc := ⟨.hbm, 90, rfl⟩
abbrev main_v43_2 : Ref sig .tc := ⟨.hbm, 91, rfl⟩
abbrev main_v43_3 : Ref sig .tc := ⟨.hbm, 92, rfl⟩
abbrev main_v43_4 : Ref sig .tc := ⟨.hbm, 93, rfl⟩
abbrev main_v43_5 : Ref sig .tc := ⟨.hbm, 94, rfl⟩
abbrev main_v43_6 : Ref sig .tc := ⟨.hbm, 95, rfl⟩
abbrev main_v43_7 : Ref sig .tc := ⟨.hbm, 96, rfl⟩
abbrev main_v43_8 : Ref sig .tc := ⟨.hbm, 97, rfl⟩
abbrev main_v43_9 : Ref sig .tc := ⟨.hbm, 98, rfl⟩
abbrev main_v43_10 : Ref sig .tc := ⟨.hbm, 99, rfl⟩
abbrev main_v43_11 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![arg0.toNat, v16.toNat, c0_i32_11.toNat, v26.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1088 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1288x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x4x64x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x64x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1x320x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference2Ideal.lean ====
abbrev S8x8192x1024 : Shape := ⟨3, ![8, 8192, 1024]⟩
abbrev S1x1024 : Shape := ⟨2, ![1, 1024]⟩
abbrev S1x1024x5704 : Shape := ⟨3, ![1, 1024, 5704]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S1024 : Shape := ⟨1, ![1024]⟩
abbrev S1024x5704 : Shape := ⟨2, ![1024, 5704]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5704 : Shape := ⟨3, ![8, 8192, 5704]⟩
abbrev S8x8192x512 : Shape := ⟨3, ![8, 8192, 512]⟩
abbrev S8x8192x256 : Shape := ⟨3, ![8, 8192, 256]⟩
abbrev S8x8192x64 : Shape := ⟨3, ![8, 8192, 64]⟩
abbrev S8x8192x8 : Shape := ⟨3, ![8, 8192, 8]⟩
abbrev S512 : Shape := ⟨1, ![512]⟩
abbrev S8x128x128 : Shape := ⟨3, ![8, 128, 128]⟩
abbrev S8x128 : Shape := ⟨2, ![8, 128]⟩
abbrev S1x1x512 : Shape := ⟨3, ![1, 1, 512]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x64x128x8x64 : Shape := ⟨5, ![8, 64, 128, 8, 64]⟩
abbrev S8x8x64x64x128 : Shape := ⟨5, ![8, 8, 64, 64, 128]⟩
abbrev S128x8 : Shape := ⟨2, ![128, 8]⟩
abbrev S1x1x128x8x1 : Shape := ⟨5, ![1, 1, 128, 8, 1]⟩
abbrev S512x1024 : Shape := ⟨2, ![512, 1024]⟩
abbrev S8x8192x4x64 : Shape := ⟨4, ![8, 8192, 4, 64]⟩
abbrev S8x4x8192x64 : Shape := ⟨4, ![8, 4, 8192, 64]⟩
abbrev S8x64x128x4x2x64 : Shape := ⟨6, ![8, 64, 128, 4, 2, 64]⟩
abbrev S8x64x4x64x2x128 : Shape := ⟨6, ![8, 64, 4, 64, 2, 128]⟩
abbrev S8x64x64x8x128 : Shape := ⟨5, ![8, 64, 64, 8, 128]⟩
abbrev S8x8x8192 : Shape := ⟨3, ![8, 8, 8192]⟩
abbrev S8x16x512x4x64 : Shape := ⟨5, ![8, 16, 512, 4, 64]⟩
abbrev S8x16x4x64x512 : Shape := ⟨5, ![8, 16, 4, 64, 512]⟩
abbrev S8x16x4x16x512 : Shape := ⟨5, ![8, 16, 4, 16, 512]⟩
abbrev S8x16x4x80x512 : Shape := ⟨5, ![8, 16, 4, 80, 512]⟩
abbrev S8x64x4x64x256 : Shape := ⟨5, ![8, 64, 4, 64, 256]⟩
abbrev S8x64x64x1024 : Shape := ⟨4, ![8, 64, 64, 1024]⟩
abbrev S8x16x320x512 : Shape := ⟨4, ![8, 16, 320, 512]⟩

abbrev nBuf : Space → Nat
  | .hbm => 214
  | .vmem => 0
  | .smem => 0
  | _ => 0

abbrev hbmTy0_0 (i : Nat) : BufTy := match i % 128 with
  | 0 => ⟨S8x8192x1024, .f32⟩
  | 1 => ⟨S1x1024, .f32⟩
  | 2 => ⟨S1x1024x5704, .f32⟩
  | 3 => ⟨S1x512, .f32⟩
  | 4 => ⟨S1x512, .f32⟩
  | 5 => ⟨S1x8x128x128, .f32⟩
  | 6 => ⟨S1x8x128, .f32⟩
  | 7 => ⟨S1x512x1024, .f32⟩
  | 8 => ⟨S1024, .f32⟩
  | 9 => ⟨S1024x5704, .f32⟩
  | 10 => ⟨S8x8192x1024, .f32⟩
  | 11 => ⟨S_, .f32⟩
  | 12 => ⟨S8x8192, .f32⟩
  | 13 => ⟨S8x8192x1, .f32⟩
  | 14 => ⟨S_, .f32⟩
  | 15 => ⟨S8x8192x1, .f32⟩
  | 16 => ⟨S8x8192x1, .f32⟩
  | 17 => ⟨S_, .f32⟩
  | 18 => ⟨S8x8192x1, .f32⟩
  | 19 => ⟨S8x8192x1, .f32⟩
  | 20 => ⟨S8x8192x1, .f32⟩
  | 21 => ⟨S8x8192x1024, .f32⟩
  | 22 => ⟨S8x8192x1024, .f32⟩
  | 23 => ⟨S1x1x1024, .f32⟩
  | 24 => ⟨S8x8192x1024, .f32⟩
  | 25 => ⟨S8x8192x1024, .f32⟩
  | 26 => ⟨S8x8192x5704, .f32⟩
  | 27 => ⟨S8x8192x512, .f32⟩
  | 28 => ⟨S8x8192x512, .f32⟩
  | 29 => ⟨S8x8192x512, .f32⟩
  | 30 => ⟨S8x8192x512, .f32⟩
  | 31 => ⟨S8x8192x256, .f32⟩
  | 32 => ⟨S8x8192x256, .f32⟩
  | 33 => ⟨S8x8192x512, .f32⟩
  | 34 => ⟨S8x8192x512, .f32⟩
  | 35 => ⟨S8x8192x64, .f32⟩
  | 36 => ⟨S8x8192x8, .f32⟩
  | 37 => ⟨S8x8192x1024, .f32⟩
  | 38 => ⟨S8x8192x1024, .f32⟩
  | 39 => ⟨S512, .f32⟩
  | 40 => ⟨S512, .f32⟩
  | 41 => ⟨S8x128x128, .f32⟩
  | 42 => ⟨S8x128, .f32⟩
  | 43 => ⟨S8x8192x512, .f32⟩
  | 44 => ⟨S8x8192x512, .f32⟩
  | 45 => ⟨S_, .f32⟩
  | 46 => ⟨S8x8192x512, .f32⟩
  | 47 => ⟨S8x8192x512, .f32⟩
  | 48 => ⟨S8x8192x512, .f32⟩
  | 49 => ⟨S_, .f32⟩
  | 50 => ⟨S8x8192x512, .f32⟩
  | 51 => ⟨S8x8192x512, .f32⟩
  | 52 => ⟨S8x8192x512, .f32⟩
  | 53 => ⟨S_, .f32⟩
  | 54 => ⟨S8x8192x512, .f32⟩
  | 55 => ⟨S8x8192x512, .f32⟩
  | 56 => ⟨S_, .f32⟩
  | 57 => ⟨S8x8192x512, .f32⟩
  | 58 => ⟨S8x8192x512, .f32⟩
  | 59 => ⟨S8x8192x512, .f32⟩
  | 60 => ⟨S8x8192x512, .f32⟩
  | 61 => ⟨S8x8192x512, .f32⟩
  | 62 => ⟨S_, .f32⟩
  | 63 => ⟨S8x8192x512, .f32⟩
  | 64 => ⟨S8x8192x512, .f32⟩
  | 65 => ⟨S8x8192x512, .f32⟩
  | 66 => ⟨S_, .f32⟩
  | 67 => ⟨S8x8192x512, .f32⟩
  | 68 => ⟨S8x8192x512, .f32⟩
  | 69 => ⟨S8x8192x512, .f32⟩
  | 70 => ⟨S_, .f32⟩
  | 71 => ⟨S8x8192x512, .f32⟩
  | 72 => ⟨S8x8192x512, .f32⟩
  | 73 => ⟨S_, .f32⟩
  | 74 => ⟨S8x8192x512, .f32⟩
  | 75 => ⟨S8x8192x512, .f32⟩
  | 76 => ⟨S8x8192x512, .f32⟩
  | 77 => ⟨S_, .f32⟩
  | 78 => ⟨S8x8192, .f32⟩
  | 79 => ⟨S8x8192x1, .f32⟩
  | 80 => ⟨S_, .f32⟩
  | 81 => ⟨S8x8192x1, .f32⟩
  | 82 => ⟨S8x8192x1, .f32⟩
  | 83 => ⟨S8x8192x512, .f32⟩
  | 84 => ⟨S8x8192x512, .f32⟩
  | 85 => ⟨S8x8192x512, .f32⟩
  | 86 => ⟨S_, .f32⟩
  | 87 => ⟨S8x8192, .f32⟩
  | 88 => ⟨S8x8192x1, .f32⟩
  | 89 => ⟨S_, .f32⟩
  | 90 => ⟨S8x8192x1, .f32⟩
  | 91 => ⟨S8x8192x1, .f32⟩
  | 92 => ⟨S8x8192x512, .f32⟩
  | 93 => ⟨S8x8192x512, .f32⟩
  | 94 => ⟨S_, .f32⟩
  | 95 => ⟨S8x8192x1, .f32⟩
  | 96 => ⟨S8x8192x1, .f32⟩
  | 97 => ⟨S8x8192x1, .f32⟩
  | 98 => ⟨S8x8192x512, .f32⟩
  | 99 => ⟨S8x8192x512, .f32⟩
  | 100 => ⟨S1x1x512, .f32⟩
  | 101 => ⟨S8x8192x512, .f32⟩
  | 102 => ⟨S8x8192x512, .f32⟩
  | 103 => ⟨S1x1x512, .f32⟩
  | 104 => ⟨S8x8192x512, .f32⟩
  | 105 => ⟨S8x8192x512, .f32⟩
  | 106 => ⟨S128, .i32⟩
  | 107 => ⟨S1x128, .i32⟩
  | 108 => ⟨S_, .i32⟩
  | 109 => ⟨S_, .i32⟩
  | 110 => ⟨S1x128, .i32⟩
  | 111 => ⟨S1x128, .i32⟩
  | 112 => ⟨S1x128, .i32⟩
  | 113 => ⟨S_, .i32⟩
  | 114 => ⟨S1x128, .i32⟩
  | 115 => ⟨S1x128, .i1⟩
  | 116 => ⟨S1x128, .i32⟩
  | 117 => ⟨S1x128, .i32⟩
  | 118 => ⟨S_, .i32⟩
  | 119 => ⟨S1x128, .i32⟩
  | 120 => ⟨S1x128, .i1⟩
  | 121 => ⟨S1x128, .i1⟩
  | 122 => ⟨S_, .i32⟩
  | 123 => ⟨S1x128, .i32⟩
  | 124 => ⟨S1x128, .i32⟩
  | 125 => ⟨S1x128, .i32⟩
  | 126 => ⟨S128x1, .i32⟩
  | 127 => ⟨S_, .i32⟩
  | _ => ⟨S8x8192x1024, .f32⟩

abbrev hbmTy0_1 (i : Nat) : BufTy := match i % 128 with
  | 0 => ⟨S_, .i32⟩
  | 1 => ⟨S128x1, .i32⟩
  | 2 => ⟨S128x1, .i32⟩
  | 3 => ⟨S128x1, .i32⟩
  | 4 => ⟨S_, .i32⟩
  | 5 => ⟨S128x1, .i32⟩
  | 6 => ⟨S128x1, .i1⟩
  | 7 => ⟨S128x1, .i32⟩
  | 8 => ⟨S128x1, .i32⟩
  | 9 => ⟨S_, .i32⟩
  | 10 => ⟨S128x1, .i32⟩
  | 11 => ⟨S128x1, .i1⟩
  | 12 => ⟨S128x1, .i1⟩
  | 13 => ⟨S_, .i32⟩
  | 14 => ⟨S128x1, .i32⟩
  | 15 => ⟨S128x1, .i32⟩
  | 16 => ⟨S128x1, .i32⟩
  | 17 => ⟨S128x128, .i32⟩
  | 18 => ⟨S128x128, .i32⟩
  | 19 => ⟨S128x128, .i1⟩
  | 20 => ⟨S1x128x128, .i1⟩
  | 21 => ⟨S_, .f32⟩
  | 22 => ⟨S_, .f32⟩
  | 23 => ⟨S8x128x128, .i1⟩
  | 24 => ⟨S8x128x128, .f32⟩
  | 25 => ⟨S8x128x128, .f32⟩
  | 26 => ⟨S8x64x128x8x64, .f32⟩
  | 27 => ⟨S8x8x64x64x128, .f32⟩
  | 28 => ⟨S8x64x128x8x64, .f32⟩
  | 29 => ⟨S128x8, .f32⟩
  | 30 => ⟨S1x1x128x8x1, .f32⟩
  | 31 => ⟨S8x64x128x8x64, .f32⟩
  | 32 => ⟨S8x64x128x8x64, .f32⟩
  | 33 => ⟨S8x8192x512, .f32⟩
  | 34 => ⟨S8x8192x512, .f32⟩
  | 35 => ⟨S8x8192x512, .f32⟩
  | 36 => ⟨S8x8192x512, .f32⟩
  | 37 => ⟨S_, .f32⟩
  | 38 => ⟨S8x8192x512, .f32⟩
  | 39 => ⟨S8x8192x512, .f32⟩
  | 40 => ⟨S_, .f32⟩
  | 41 => ⟨S8x8192x512, .f32⟩
  | 42 => ⟨S8x8192x512, .f32⟩
  | 43 => ⟨S8x8192x512, .f32⟩
  | 44 => ⟨S8x8192x512, .f32⟩
  | 45 => ⟨S8x8192x1024, .f32⟩
  | 46 => ⟨S8x8192x1024, .f32⟩
  | 47 => ⟨S_, .f32⟩
  | 48 => ⟨S8x8192x1024, .f32⟩
  | 49 => ⟨S8x8192x1024, .f32⟩
  | 50 => ⟨S_, .f32⟩
  | 51 => ⟨S8x8192x1024, .f32⟩
  | 52 => ⟨S8x8192x1024, .f32⟩
  | 53 => ⟨S512x1024, .f32⟩
  | 54 => ⟨S8x8192x1024, .f32⟩
  | 55 => ⟨S8x8192x1024, .f32⟩
  | 56 => ⟨S8x8192x1024, .bf16⟩
  | 57 => ⟨S8x8192x4x64, .f32⟩
  | 58 => ⟨S8x4x8192x64, .f32⟩
  | 59 => ⟨S_, .f32⟩
  | 60 => ⟨S8x8192x512, .f32⟩
  | 61 => ⟨S8x8192x512, .f32⟩
  | 62 => ⟨S8x64x128x4x2x64, .f32⟩
  | 63 => ⟨S8x64x4x64x2x128, .f32⟩
  | 64 => ⟨S_, .f32⟩
  | 65 => ⟨S8x8192x512, .f32⟩
  | 66 => ⟨S8x8192x512, .f32⟩
  | 67 => ⟨S8x64x128x8x64, .f32⟩
  | 68 => ⟨S8x64x64x8x128, .f32⟩
  | 69 => ⟨S_, .f32⟩
  | 70 => ⟨S8x8192x8, .f32⟩
  | 71 => ⟨S8x8192x8, .f32⟩
  | 72 => ⟨S8x8x8192, .f32⟩
  | 73 => ⟨S8x16x512x4x64, .f32⟩
  | 74 => ⟨S8x16x4x64x512, .f32⟩
  | 75 => ⟨S_, .f32⟩
  | 76 => ⟨S8x16x4x16x512, .f32⟩
  | 77 => ⟨S8x16x4x80x512, .f32⟩
  | 78 => ⟨S8x4x8192x64, .bf16⟩
  | 79 => ⟨S8x8192x64, .bf16⟩
  | 80 => ⟨S8x64x4x64x256, .f32⟩
  | 81 => ⟨S8x64x4x64x256, .bf16⟩
  | 82 => ⟨S8x64x64x1024, .f32⟩
  | 83 => ⟨S8x64x64x1024, .bf16⟩
  | 84 => ⟨S8x16x320x512, .f32⟩
  | 85 => ⟨S8x16x320x512, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_v5 : Ref sig .tc := ⟨.hbm, 114, rfl⟩
abbrev main_call0_v6 : Ref sig .tc := ⟨.hbm, 115, rfl⟩
abbrev main_call0_v7 : Ref sig .tc := ⟨.hbm, 116, rfl⟩
abbrev main_call0_v8 : Ref sig .tc := ⟨.hbm, 117, rfl⟩
abbrev main_call0_c : Ref sig .tc := ⟨.hbm, 118, rfl⟩
abbrev main_call0_v9 : Ref sig .tc := ⟨.hbm, 119, rfl⟩
abbrev main_call0_v10 : Ref sig .tc := ⟨.hbm, 120, rfl⟩
abbrev main_call0_v11 : Ref sig .tc := ⟨.hbm, 121, rfl⟩
abbrev main_call0_c_0 : Ref sig .tc := ⟨.hbm, 122, rfl⟩
abbrev main_call0_v12 : Ref sig .tc := ⟨.hbm, 123, rfl⟩
abbrev main_call0_v13 : Ref sig .tc := ⟨.hbm, 124, rfl⟩
abbrev main_v84 : Ref sig .tc := ⟨.hbm, 125, rfl⟩
abbrev main_v85 : Ref sig .tc := ⟨.hbm, 126, rfl⟩
abbrev main_c_15 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_call1_v5 : Ref sig .tc := ⟨.hbm, 133, rfl⟩
abbrev main_call1_v6 : Ref sig .tc := ⟨.hbm, 134, rfl⟩
abbrev main_call1_v7 : Ref sig .tc := ⟨.hbm, 135, rfl⟩
abbrev main_call1_v8 : Ref sig .tc := ⟨.hbm, 136, rfl⟩
abbrev main_call1_c : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_call1_c_0 : Ref sig .tc := ⟨.hbm, 141, rfl⟩
abbrev main_call1_v12 : Ref sig .tc := ⟨.hbm, 142, rfl⟩
abbrev main_call1_v13 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_16 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_call3_v0 : Ref sig .tc := ⟨.hbm, 163, rfl⟩
abbrev main_call3_v1 : Ref sig .tc := ⟨.hbm, 164, rfl⟩
abbrev main_call3_cst : Ref sig .tc := ⟨.hbm, 165, rfl⟩
abbrev main_call3_v2 : Ref sig .tc := ⟨.hbm, 166, rfl⟩
abbrev main_call3_v3 : Ref sig .tc := ⟨.hbm, 167, rfl⟩
abbrev main_call3_cst_0 : Ref sig .tc := ⟨.hbm, 168, rfl⟩
abbrev main_call3_v4 : Ref sig .tc := ⟨.hbm, 169, rfl⟩
abbrev main_call3_v5 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_cst_17 : Ref sig .tc := ⟨.hbm, 175, rfl⟩
abbrev main_v105 : Ref sig .tc := ⟨.hbm, 176, rfl⟩
abbrev main_v106 : Ref sig .tc := ⟨.hbm, 177, rfl⟩
abbrev main_cst_18 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_cst_19 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_cst_20 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_cst_21 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_cst_22 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩

abbrev nD : Nat := 1
abbrev τ : Topo := Topo.v7x

variable {F : FTy → Type} [FloatOps F]
-- ==== Kernel3.lean ====
abbrev S8x16x1024 : Shape := ⟨3, ![8, 16, 1024]⟩
abbrev S1x1024 : Shape := ⟨2, ![1, 1024]⟩
abbrev S1x1024x5704 : Shape := ⟨3, ![1, 1024, 5704]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S1024 : Shape := ⟨1, ![1024]⟩
abbrev S1024x5704 : Shape := ⟨2, ![1024, 5704]⟩
abbrev S512 : Shape := ⟨1, ![512]⟩
abbrev S512x1024 : Shape := ⟨2, ![512, 1024]⟩
abbrev S1024x1536 : Shape := ⟨2, ![1024, 1536]⟩
abbrev S1024x1024 : Shape := ⟨2, ![1024, 1024]⟩
abbrev S1024x64 : Shape := ⟨2, ![1024, 64]⟩
abbrev S1024x1088 : Shape := ⟨2, ![1024, 1088]⟩
abbrev S1024x2048 : Shape := ⟨2, ![1024, 2048]⟩
abbrev S1024x512 : Shape := ⟨2, ![1024, 512]⟩
abbrev S1024x256 : Shape := ⟨2, ![1024, 256]⟩
abbrev S1024x8 : Shape := ⟨2, ![1024, 8]⟩
abbrev S1024x1288 : Shape := ⟨2, ![1024, 1288]⟩
abbrev S1288x1024 : Shape := ⟨2, ![1288, 1024]⟩
abbrev S8x8 : Shape := ⟨2, ![8, 8]⟩
abbrev S_ : Shape := ⟨0, ![]⟩
abbrev S1x8x1x8x1 : Shape := ⟨5, ![1, 8, 1, 8, 1]⟩
abbrev S8x128x128 : Shape := ⟨3, ![8, 128, 128]⟩
abbrev S8x16x16 : Shape := ⟨3, ![8, 16, 16]⟩
abbrev S8x1x16x1x16 : Shape := ⟨5, ![8, 1, 16, 1, 16]⟩
abbrev S8x8x16x8x16 : Shape := ⟨5, ![8, 8, 16, 8, 16]⟩
abbrev S8x128 : Shape := ⟨2, ![8, 128]⟩
abbrev S8x16 : Shape := ⟨2, ![8, 16]⟩
abbrev S16x8 : Shape := ⟨2, ![16, 8]⟩
abbrev S1x16x1x8 : Shape := ⟨4, ![1, 16, 1, 8]⟩
abbrev S8x16x1x8 : Shape := ⟨4, ![8, 16, 1, 8]⟩
abbrev S128x8 : Shape := ⟨2, ![128, 8]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S4x128x256 : Shape := ⟨3, ![4, 128, 256]⟩
abbrev S128x8x64 : Shape := ⟨3, ![128, 8, 64]⟩
abbrev S128x512 : Shape := ⟨2, ![128, 512]⟩
abbrev S1x128x1024 : Shape := ⟨3, ![1, 128, 1024]⟩
abbrev S1x128x512 : Shape := ⟨3, ![1, 128, 512]⟩
abbrev S1x128x256 : Shape := ⟨3, ![1, 128, 256]⟩
abbrev S1x128x64 : Shape := ⟨3, ![1, 128, 64]⟩
abbrev S1x4x128x64 : Shape := ⟨4, ![1, 4, 128, 64]⟩
abbrev S1x1x4x64x256 : Shape := ⟨5, ![1, 1, 4, 64, 256]⟩
abbrev S1x1x64x1024 : Shape := ⟨4, ![1, 1, 64, 1024]⟩
abbrev S1x1x320x128 : Shape := ⟨4, ![1, 1, 320, 128]⟩
abbrev S128x1024 : Shape := ⟨2, ![128, 1024]⟩
abbrev S128 : Shape := ⟨1, ![128]⟩
abbrev S128x1 : Shape := ⟨2, ![128, 1]⟩
abbrev S128x1536 : Shape := ⟨2, ![128, 1536]⟩
abbrev S128x128 : Shape := ⟨2, ![128, 128]⟩
abbrev S256x128 : Shape := ⟨2, ![256, 128]⟩
abbrev S128x256 : Shape := ⟨2, ![128, 256]⟩
abbrev S128x2048 : Shape := ⟨2, ![128, 2048]⟩
abbrev S128x1088 : Shape := ⟨2, ![128, 1088]⟩
abbrev S128x64 : Shape := ⟨2, ![128, 64]⟩
abbrev S1x1x128x64 : Shape := ⟨4, ![1, 1, 128, 64]⟩
abbrev S1288x128 : Shape := ⟨2, ![1288, 128]⟩
abbrev S64x128 : Shape := ⟨2, ![64, 128]⟩
abbrev S1x1x1x64x128 : Shape := ⟨5, ![1, 1, 1, 64, 128]⟩
abbrev S1x1x64x128 : Shape := ⟨4, ![1, 1, 64, 128]⟩
abbrev S16x128 : Shape := ⟨2, ![16, 128]⟩
abbrev S1x1x16x128 : Shape := ⟨4, ![1, 1, 16, 128]⟩

abbrev nBuf : Space → Nat
  | .hbm => 73
  | .vmem => 24
  | .smem => 0
  | _ => 0

abbrev bufTy : (tb : Table) → Fin (tcTables nBuf tb) → BufTy
  | .hbm, ⟨0, _⟩ => ⟨S8x16x1024, .f32⟩
  | .hbm, ⟨1, _⟩ => ⟨S1x1024, .f32⟩
  | .hbm, ⟨2, _⟩ => ⟨S1x1024x5704, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1x512x1024, .f32⟩
  | .hbm, ⟨8, _⟩ => ⟨S1024, .f32⟩
  | .hbm, ⟨9, _⟩ => ⟨S1024x5704, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S1024x5704, .bf16⟩
  | .hbm, ⟨14, _⟩ => ⟨S1x1024, .f32⟩
  | .hbm, ⟨15, _⟩ => ⟨S1024x1536, .bf16⟩
  | .hbm, ⟨16, _⟩ => ⟨S1024x1024, .bf16⟩
  | .hbm, ⟨17, _⟩ => ⟨S1024x64, .bf16⟩
  | .hbm, ⟨18, _⟩ => ⟨S1024x1088, .bf16⟩
  | .hbm, ⟨19, _⟩ => ⟨S1024x2048, .bf16⟩
  | .hbm, ⟨20, _⟩ => ⟨S1024x512, .bf16⟩
  | .hbm, ⟨21, _⟩ => ⟨S1024x512, .bf16⟩
  | .hbm, ⟨22, _⟩ => ⟨S1024x256, .bf16⟩
  | .hbm, ⟨23, _⟩ => ⟨S1024x8, .bf16⟩
  | .hbm, ⟨24, _⟩ => ⟨S1024x1288, .bf16⟩
  | .hbm, ⟨25, _⟩ => ⟨S1288x1024, .bf16⟩
  | .hbm, ⟨26, _⟩ => ⟨S1x512, .f32⟩
  | .hbm, ⟨27, _⟩ => ⟨S1x512, .f32⟩
  | .hbm, ⟨28, _⟩ => ⟨S512x1024, .bf16⟩
  | .hbm, ⟨29, _⟩ => ⟨S8x8, .i32⟩
  | .hbm, ⟨30, _⟩ => ⟨S8x8, .i32⟩
  | .hbm, ⟨31, _⟩ => ⟨S_, .i32⟩
  | .hbm, ⟨32, _⟩ => ⟨S8x8, .i32⟩
  | .hbm, ⟨33, _⟩ => ⟨S8x8, .i32⟩
  | .hbm, ⟨34, _⟩ => ⟨S8x8, .i1⟩
  | .hbm, ⟨35, _⟩ => ⟨S8x8, .f32⟩
  | .hbm, ⟨36, _⟩ => ⟨S1x8x1x8x1, .f32⟩
  | .hbm, ⟨37, _⟩ => ⟨S8x128x128, .f32⟩
  | .hbm, ⟨38, _⟩ => ⟨S8x16x16, .f32⟩
  | .hbm, ⟨39, _⟩ => ⟨S8x1x16x1x16, .f32⟩
  | .hbm, ⟨40, _⟩ => ⟨S8x8x16x8x16, .f32⟩
  | .hbm, ⟨41, _⟩ => ⟨S8x8x16x8x16, .f32⟩
  | .hbm, ⟨42, _⟩ => ⟨S8x8x16x8x16, .f32⟩
  | .hbm, ⟨43, _⟩ => ⟨S8x128x128, .f32⟩
  | .hbm, ⟨44, _⟩ => ⟨S8x128, .f32⟩
  | .hbm, ⟨45, _⟩ => ⟨S8x16, .f32⟩
  | .hbm, ⟨46, _⟩ => ⟨S16x8, .f32⟩
  | .hbm, ⟨47, _⟩ => ⟨S1x16x1x8, .f32⟩
  | .hbm, ⟨48, _⟩ => ⟨S8x16x1x8, .f32⟩
  | .hbm, ⟨49, _⟩ => ⟨S128x8, .f32⟩
  | .hbm, ⟨50, _⟩ => ⟨S4x2x128x128, .f32⟩
  | .hbm, ⟨51, _⟩ => ⟨S4x1x128x128, .f32⟩
  | .hbm, ⟨52, _⟩ => ⟨S4x128x128, .f32⟩
  | .hbm, ⟨53, _⟩ => ⟨S4x1x128x128, .f32⟩
  | .hbm, ⟨54, _⟩ => ⟨S4x128x128, .f32⟩
  | .hbm, ⟨55, _⟩ => ⟨S4x128x256, .f32⟩
  | .hbm, ⟨56, _⟩ => ⟨S4x128x256, .bf16⟩
  | .hbm, ⟨57, _⟩ => ⟨S128x8x64, .f32⟩
  | .hbm, ⟨58, _⟩ => ⟨S128x512, .f32⟩
  | .hbm, ⟨59, _⟩ => ⟨S1x128x1024, .f32⟩
  | .hbm, ⟨60, _⟩ => ⟨S1x128x1024, .bf16⟩
  | .hbm, ⟨61, _⟩ => ⟨S1x128x1024, .f32⟩
  | .hbm, ⟨62, _⟩ => ⟨S1x128x512, .f32⟩
  | .hbm, ⟨63, _⟩ => ⟨S1x128x256, .f32⟩
  | .hbm, ⟨64, _⟩ => ⟨S1x128x256, .f32⟩
  | .hbm, ⟨65, _⟩ => ⟨S1x128x64, .f32⟩
  | .hbm, ⟨66, _⟩ => ⟨S1x4x128x64, .bf16⟩
  | .hbm, ⟨67, _⟩ => ⟨S1x128x64, .bf16⟩
  | .hbm, ⟨68, _⟩ => ⟨S1x1x4x64x256, .bf16⟩
  | .hbm, ⟨69, _⟩ => ⟨S1x1x64x1024, .bf16⟩
  | .hbm, ⟨70, _⟩ => ⟨S1x8x128, .f32⟩
  | .hbm, ⟨71, _⟩ => ⟨S1x1x320x128, .bf16⟩
  | .hbm, ⟨72, _⟩ => ⟨S1x128x512, .f32⟩
  | .local _ .vmem, ⟨0, _⟩ => ⟨S1x128x1024, .f32⟩
  | .local _ .vmem, ⟨1, _⟩ => ⟨S1x1024, .f32⟩
  | .local _ .vmem, ⟨2, _⟩ => ⟨S1024x1536, .bf16⟩
  | .local _ .vmem, ⟨3, _⟩ => ⟨S1024x1088, .bf16⟩
  | .local _ .vmem, ⟨4, _⟩ => ⟨S1024x2048, .bf16⟩
  | .local _ .vmem, ⟨5, _⟩ => ⟨S1288x1024, .bf16⟩
  | .local _ .vmem, ⟨6, _⟩ => ⟨S1x512, .f32⟩
  | .local _ .vmem, ⟨7, _⟩ => ⟨S1x512, .f32⟩
  | .local _ .vmem, ⟨8, _⟩ => ⟨S4x128x256, .bf16⟩
  | .local _ .vmem, ⟨9, _⟩ => ⟨S128x512, .f32⟩
  | .local _ .vmem, ⟨10, _⟩ => ⟨S512x1024, .bf16⟩
  | .local _ .vmem, ⟨11, _⟩ => ⟨S1x128x1024, .bf16⟩
  | .local _ .vmem, ⟨12, _⟩ => ⟨S1x128x1024, .f32⟩
  | .local _ .vmem, ⟨13, _⟩ => ⟨S1x128x512, .f32⟩
  | .local _ .vmem, ⟨14, _⟩ => ⟨S1x128x256, .f32⟩
  | .local _ .vmem, ⟨15, _⟩ => ⟨S1x128x256, .f32⟩
  | .local _ .vmem, ⟨16, _⟩ => ⟨S1x128x64, .f32⟩
  | .local _ .vmem, ⟨17, _⟩ => ⟨S1x4x128x64, .bf16⟩
  | .local _ .vmem, ⟨18, _⟩ => ⟨S1x128x64, .bf16⟩
  | .local _ .vmem, ⟨19, _⟩ => ⟨S1x1x4x64x256, .bf16⟩
  | .local _ .vmem, ⟨20, _⟩ => ⟨S1x1x64x1024, .bf16⟩
  | .local _ .vmem, ⟨21, _⟩ => ⟨S1x8x128, .f32⟩
  | .local _ .vmem, ⟨22, _⟩ => ⟨S1x1x320x128, .bf16⟩
  | .local _ .vmem, ⟨23, _⟩ => ⟨S1x128x512, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51_0 : Ref sig .tc := ⟨.hbm, 60, rfl⟩
abbrev main_v51_1 : Ref sig .tc := ⟨.hbm, 61, rfl⟩
abbrev main_v51_2 : Ref sig .tc := ⟨.hbm, 62, rfl⟩
abbrev main_v51_3 : Ref sig .tc := ⟨.hbm, 63, rfl⟩
abbrev main_v51_4 : Ref sig .tc := ⟨.hbm, 64, rfl⟩
abbrev main_v51_5 : Ref sig .tc := ⟨.hbm, 65, rfl⟩
abbrev main_v51_6 : Ref sig .tc := ⟨.hbm, 66, rfl⟩
abbrev main_v51_7 : Ref sig .tc := ⟨.hbm, 67, rfl⟩
abbrev main_v51_8 : Ref sig .tc := ⟨.hbm, 68, rfl⟩
abbrev main_v51_9 : Ref sig .tc := ⟨.hbm, 69, rfl⟩
abbrev main_v51_10 : Ref sig .tc := ⟨.hbm, 70, rfl⟩
abbrev main_v51_11 : Ref sig .tc := ⟨.hbm, 71, rfl⟩
abbrev main_v51_12 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![arg0.toNat, v16.toNat, c0_i32_11.toNat, v26.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1088 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1288x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x128x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x4x128x64 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S1x128x64 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S1x1x4x64x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S1x1x64x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, true]

abbrev stage0_21 : Fin 1 → Memref sig .tc .vmem S1x8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true, true]

abbrev stage0_22 : Fin 1 → Memref sig .tc .vmem S1x1x320x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true, true]

abbrev stage0_23 : Fin 1 → Memref sig .tc .vmem S1x128x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true, true]
-- ==== Reference3Ideal.lean ====
abbrev S8x16x1024 : Shape := ⟨3, ![8, 16, 1024]⟩
abbrev S1x1024 : Shape := ⟨2, ![1, 1024]⟩
abbrev S1x1024x5704 : Shape := ⟨3, ![1, 1024, 5704]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S1024 : Shape := ⟨1, ![1024]⟩
abbrev S1024x5704 : Shape := ⟨2, ![1024, 5704]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x16x5704 : Shape := ⟨3, ![8, 16, 5704]⟩
abbrev S8x16x512 : Shape := ⟨3, ![8, 16, 512]⟩
abbrev S8x16x256 : Shape := ⟨3, ![8, 16, 256]⟩
abbrev S8x16x64 : Shape := ⟨3, ![8, 16, 64]⟩
abbrev S8x16x8 : Shape := ⟨3, ![8, 16, 8]⟩
abbrev S512 : Shape := ⟨1, ![512]⟩
abbrev S8x128x128 : Shape := ⟨3, ![8, 128, 128]⟩
abbrev S8x128 : Shape := ⟨2, ![8, 128]⟩
abbrev S1x1x512 : Shape := ⟨3, ![1, 1, 512]⟩
abbrev S16 : Shape := ⟨1, ![16]⟩
abbrev S1x16 : Shape := ⟨2, ![1, 16]⟩
abbrev S16x1 : Shape := ⟨2, ![16, 1]⟩
abbrev S16x16 : Shape := ⟨2, ![16, 16]⟩
abbrev S1x16x16 : Shape := ⟨3, ![1, 16, 16]⟩
abbrev S8x16x16 : Shape := ⟨3, ![8, 16, 16]⟩
abbrev S8x1x16x8x64 : Shape := ⟨5, ![8, 1, 16, 8, 64]⟩
abbrev S8x8x1x64x16 : Shape := ⟨5, ![8, 8, 1, 64, 16]⟩
abbrev S16x8 : Shape := ⟨2, ![16, 8]⟩
abbrev S1x1x16x8x1 : Shape := ⟨5, ![1, 1, 16, 8, 1]⟩
abbrev S512x1024 : Shape := ⟨2, ![512, 1024]⟩
abbrev S1x128x1024 : Shape := ⟨3, ![1, 128, 1024]⟩
abbrev S1x128x512 : Shape := ⟨3, ![1, 128, 512]⟩
abbrev S1x128x256 : Shape := ⟨3, ![1, 128, 256]⟩
abbrev S1x128x64 : Shape := ⟨3, ![1, 128, 64]⟩
abbrev S1x128x8 : Shape := ⟨3, ![1, 128, 8]⟩
abbrev S1x128x4x64 : Shape := ⟨4, ![1, 128, 4, 64]⟩
abbrev S1x4x128x64 : Shape := ⟨4, ![1, 4, 128, 64]⟩
abbrev S1x1x128x4x2x64 : Shape := ⟨6, ![1, 1, 128, 4, 2, 64]⟩
abbrev S1x1x4x64x2x128 : Shape := ⟨6, ![1, 1, 4, 64, 2, 128]⟩
abbrev S1x1x128x8x64 : Shape := ⟨5, ![1, 1, 128, 8, 64]⟩
abbrev S1x1x64x8x128 : Shape := ⟨5, ![1, 1, 64, 8, 128]⟩
abbrev S1x1x128x4x64 : Shape := ⟨5, ![1, 1, 128, 4, 64]⟩
abbrev S1x1x4x64x128 : Shape := ⟨5, ![1, 1, 4, 64, 128]⟩
abbrev S1x1x4x16x128 : Shape := ⟨5, ![1, 1, 4, 16, 128]⟩
abbrev S1x1x4x80x128 : Shape := ⟨5, ![1, 1, 4, 80, 128]⟩
abbrev S1x1x4x64x256 : Shape := ⟨5, ![1, 1, 4, 64, 256]⟩
abbrev S1x1x64x1024 : Shape := ⟨4, ![1, 1, 64, 1024]⟩
abbrev S1x1x320x128 : Shape := ⟨4, ![1, 1, 320, 128]⟩

abbrev nBuf : Space → Nat
  | .hbm => 226
  | .vmem => 0
  | .smem => 0
  | _ => 0

abbrev hbmTy0_0 (i : Nat) : BufTy := match i % 128 with
  | 0 => ⟨S8x16x1024, .f32⟩
  | 1 => ⟨S1x1024, .f32⟩
  | 2 => ⟨S1x1024x5704, .f32⟩
  | 3 => ⟨S1x512, .f32⟩
  | 4 => ⟨S1x512, .f32⟩
  | 5 => ⟨S1x8x128x128, .f32⟩
  | 6 => ⟨S1x8x128, .f32⟩
  | 7 => ⟨S1x512x1024, .f32⟩
  | 8 => ⟨S1024, .f32⟩
  | 9 => ⟨S1024x5704, .f32⟩
  | 10 => ⟨S8x16x1024, .f32⟩
  | 11 => ⟨S_, .f32⟩
  | 12 => ⟨S8x16, .f32⟩
  | 13 => ⟨S8x16x1, .f32⟩
  | 14 => ⟨S_, .f32⟩
  | 15 => ⟨S8x16x1, .f32⟩
  | 16 => ⟨S8x16x1, .f32⟩
  | 17 => ⟨S_, .f32⟩
  | 18 => ⟨S8x16x1, .f32⟩
  | 19 => ⟨S8x16x1, .f32⟩
  | 20 => ⟨S8x16x1, .f32⟩
  | 21 => ⟨S8x16x1024, .f32⟩
  | 22 => ⟨S8x16x1024, .f32⟩
  | 23 => ⟨S1x1x1024, .f32⟩
  | 24 => ⟨S8x16x1024, .f32⟩
  | 25 => ⟨S8x16x1024, .f32⟩
  | 26 => ⟨S8x16x5704, .f32⟩
  | 27 => ⟨S8x16x512, .f32⟩
  | 28 => ⟨S8x16x512, .f32⟩
  | 29 => ⟨S8x16x512, .f32⟩
  | 30 => ⟨S8x16x512, .f32⟩
  | 31 => ⟨S8x16x256, .f32⟩
  | 32 => ⟨S8x16x256, .f32⟩
  | 33 => ⟨S8x16x512, .f32⟩
  | 34 => ⟨S8x16x512, .f32⟩
  | 35 => ⟨S8x16x64, .f32⟩
  | 36 => ⟨S8x16x8, .f32⟩
  | 37 => ⟨S8x16x1024, .f32⟩
  | 38 => ⟨S8x16x1024, .f32⟩
  | 39 => ⟨S512, .f32⟩
  | 40 => ⟨S512, .f32⟩
  | 41 => ⟨S8x128x128, .f32⟩
  | 42 => ⟨S8x128, .f32⟩
  | 43 => ⟨S8x16x512, .f32⟩
  | 44 => ⟨S8x16x512, .f32⟩
  | 45 => ⟨S_, .f32⟩
  | 46 => ⟨S8x16x512, .f32⟩
  | 47 => ⟨S8x16x512, .f32⟩
  | 48 => ⟨S8x16x512, .f32⟩
  | 49 => ⟨S_, .f32⟩
  | 50 => ⟨S8x16x512, .f32⟩
  | 51 => ⟨S8x16x512, .f32⟩
  | 52 => ⟨S8x16x512, .f32⟩
  | 53 => ⟨S_, .f32⟩
  | 54 => ⟨S8x16x512, .f32⟩
  | 55 => ⟨S8x16x512, .f32⟩
  | 56 => ⟨S_, .f32⟩
  | 57 => ⟨S8x16x512, .f32⟩
  | 58 => ⟨S8x16x512, .f32⟩
  | 59 => ⟨S8x16x512, .f32⟩
  | 60 => ⟨S8x16x512, .f32⟩
  | 61 => ⟨S8x16x512, .f32⟩
  | 62 => ⟨S_, .f32⟩
  | 63 => ⟨S8x16x512, .f32⟩
  | 64 => ⟨S8x16x512, .f32⟩
  | 65 => ⟨S8x16x512, .f32⟩
  | 66 => ⟨S_, .f32⟩
  | 67 => ⟨S8x16x512, .f32⟩
  | 68 => ⟨S8x16x512, .f32⟩
  | 69 => ⟨S8x16x512, .f32⟩
  | 70 => ⟨S_, .f32⟩
  | 71 => ⟨S8x16x512, .f32⟩
  | 72 => ⟨S8x16x512, .f32⟩
  | 73 => ⟨S_, .f32⟩
  | 74 => ⟨S8x16x512, .f32⟩
  | 75 => ⟨S8x16x512, .f32⟩
  | 76 => ⟨S8x16x512, .f32⟩
  | 77 => ⟨S_, .f32⟩
  | 78 => ⟨S8x16, .f32⟩
  | 79 => ⟨S8x16x1, .f32⟩
  | 80 => ⟨S_, .f32⟩
  | 81 => ⟨S8x16x1, .f32⟩
  | 82 => ⟨S8x16x1, .f32⟩
  | 83 => ⟨S8x16x512, .f32⟩
  | 84 => ⟨S8x16x512, .f32⟩
  | 85 => ⟨S8x16x512, .f32⟩
  | 86 => ⟨S_, .f32⟩
  | 87 => ⟨S8x16, .f32⟩
  | 88 => ⟨S8x16x1, .f32⟩
  | 89 => ⟨S_, .f32⟩
  | 90 => ⟨S8x16x1, .f32⟩
  | 91 => ⟨S8x16x1, .f32⟩
  | 92 => ⟨S8x16x512, .f32⟩
  | 93 => ⟨S8x16x512, .f32⟩
  | 94 => ⟨S_, .f32⟩
  | 95 => ⟨S8x16x1, .f32⟩
  | 96 => ⟨S8x16x1, .f32⟩
  | 97 => ⟨S8x16x1, .f32⟩
  | 98 => ⟨S8x16x512, .f32⟩
  | 99 => ⟨S8x16x512, .f32⟩
  | 100 => ⟨S1x1x512, .f32⟩
  | 101 => ⟨S8x16x512, .f32⟩
  | 102 => ⟨S8x16x512, .f32⟩
  | 103 => ⟨S1x1x512, .f32⟩
  | 104 => ⟨S8x16x512, .f32⟩
  | 105 => ⟨S8x16x512, .f32⟩
  | 106 => ⟨S16, .i32⟩
  | 107 => ⟨S1x16, .i32⟩
  | 108 => ⟨S_, .i32⟩
  | 109 => ⟨S_, .i32⟩
  | 110 => ⟨S1x16, .i32⟩
  | 111 => ⟨S1x16, .i32⟩
  | 112 => ⟨S1x16, .i32⟩
  | 113 => ⟨S_, .i32⟩
  | 114 => ⟨S1x16, .i32⟩
  | 115 => ⟨S1x16, .i1⟩
  | 116 => ⟨S1x16, .i32⟩
  | 117 => ⟨S1x16, .i32⟩
  | 118 => ⟨S_, .i32⟩
  | 119 => ⟨S1x16, .i32⟩
  | 120 => ⟨S1x16, .i1⟩
  | 121 => ⟨S1x16, .i1⟩
  | 122 => ⟨S_, .i32⟩
  | 123 => ⟨S1x16, .i32⟩
  | 124 => ⟨S1x16, .i32⟩
  | 125 => ⟨S1x16, .i32⟩
  | 126 => ⟨S16x1, .i32⟩
  | 127 => ⟨S_, .i32⟩
  | _ => ⟨S8x16x1024, .f32⟩

abbrev hbmTy0_1 (i : Nat) : BufTy := match i % 128 with
  | 0 => ⟨S_, .i32⟩
  | 1 => ⟨S16x1, .i32⟩
  | 2 => ⟨S16x1, .i32⟩
  | 3 => ⟨S16x1, .i32⟩
  | 4 => ⟨S_, .i32⟩
  | 5 => ⟨S16x1, .i32⟩
  | 6 => ⟨S16x1, .i1⟩
  | 7 => ⟨S16x1, .i32⟩
  | 8 => ⟨S16x1, .i32⟩
  | 9 => ⟨S_, .i32⟩
  | 10 => ⟨S16x1, .i32⟩
  | 11 => ⟨S16x1, .i1⟩
  | 12 => ⟨S16x1, .i1⟩
  | 13 => ⟨S_, .i32⟩
  | 14 => ⟨S16x1, .i32⟩
  | 15 => ⟨S16x1, .i32⟩
  | 16 => ⟨S16x1, .i32⟩
  | 17 => ⟨S16x16, .i32⟩
  | 18 => ⟨S16x16, .i32⟩
  | 19 => ⟨S16x16, .i1⟩
  | 20 => ⟨S1x16x16, .i1⟩
  | 21 => ⟨S8x16x16, .f32⟩
  | 22 => ⟨S_, .f32⟩
  | 23 => ⟨S_, .f32⟩
  | 24 => ⟨S8x16x16, .i1⟩
  | 25 => ⟨S8x16x16, .f32⟩
  | 26 => ⟨S8x16x16, .f32⟩
  | 27 => ⟨S8x1x16x8x64, .f32⟩
  | 28 => ⟨S8x8x1x64x16, .f32⟩
  | 29 => ⟨S8x1x16x8x64, .f32⟩
  | 30 => ⟨S8x16, .f32⟩
  | 31 => ⟨S16x8, .f32⟩
  | 32 => ⟨S1x1x16x8x1, .f32⟩
  | 33 => ⟨S8x1x16x8x64, .f32⟩
  | 34 => ⟨S8x1x16x8x64, .f32⟩
  | 35 => ⟨S8x16x512, .f32⟩
  | 36 => ⟨S8x16x512, .f32⟩
  | 37 => ⟨S8x16x512, .f32⟩
  | 38 => ⟨S8x16x512, .f32⟩
  | 39 => ⟨S_, .f32⟩
  | 40 => ⟨S8x16x512, .f32⟩
  | 41 => ⟨S8x16x512, .f32⟩
  | 42 => ⟨S_, .f32⟩
  | 43 => ⟨S8x16x512, .f32⟩
  | 44 => ⟨S8x16x512, .f32⟩
  | 45 => ⟨S8x16x512, .f32⟩
  | 46 => ⟨S8x16x512, .f32⟩
  | 47 => ⟨S8x16x1024, .f32⟩
  | 48 => ⟨S8x16x1024, .f32⟩
  | 49 => ⟨S_, .f32⟩
  | 50 => ⟨S8x16x1024, .f32⟩
  | 51 => ⟨S8x16x1024, .f32⟩
  | 52 => ⟨S_, .f32⟩
  | 53 => ⟨S8x16x1024, .f32⟩
  | 54 => ⟨S8x16x1024, .f32⟩
  | 55 => ⟨S512x1024, .f32⟩
  | 56 => ⟨S8x16x1024, .f32⟩
  | 57 => ⟨S8x16x1024, .f32⟩
  | 58 => ⟨S8x16x1024, .bf16⟩
  | 59 => ⟨S1x128x1024, .bf16⟩
  | 60 => ⟨S1x128x1024, .f32⟩
  | 61 => ⟨S1x128x512, .f32⟩
  | 62 => ⟨S1x128x256, .f32⟩
  | 63 => ⟨S1x128x256, .f32⟩
  | 64 => ⟨S1x128x64, .f32⟩
  | 65 => ⟨S1x128x512, .f32⟩
  | 66 => ⟨S1x128x512, .f32⟩
  | 67 => ⟨S1x128x512, .f32⟩
  | 68 => ⟨S1x128x8, .f32⟩
  | 69 => ⟨S1x128x4x64, .f32⟩
  | 70 => ⟨S1x4x128x64, .f32⟩
  | 71 => ⟨S_, .f32⟩
  | 72 => ⟨S1x128x512, .f32⟩
  | 73 => ⟨S1x128x512, .f32⟩
  | 74 => ⟨S1x1x128x4x2x64, .f32⟩
  | 75 => ⟨S1x1x4x64x2x128, .f32⟩
  | 76 => ⟨S_, .f32⟩
  | 77 => ⟨S1x128x512, .f32⟩
  | 78 => ⟨S1x128x512, .f32⟩
  | 79 => ⟨S1x1x128x8x64, .f32⟩
  | 80 => ⟨S1x1x64x8x128, .f32⟩
  | 81 => ⟨S_, .f32⟩
  | 82 => ⟨S1x128x8, .f32⟩
  | 83 => ⟨S1x128x8, .f32⟩
  | 84 => ⟨S1x8x128, .f32⟩
  | 85 => ⟨S1x1x128x4x64, .f32⟩
  | 86 => ⟨S1x1x4x64x128, .f32⟩
  | 87 => ⟨S_, .f32⟩
  | 88 => ⟨S1x1x4x16x128, .f32⟩
  | 89 => ⟨S1x1x4x80x128, .f32⟩
  | 90 => ⟨S1x4x128x64, .bf16⟩
  | 91 => ⟨S1x128x64, .bf16⟩
  | 92 => ⟨S1x1x4x64x256, .f32⟩
  | 93 => ⟨S1x1x4x64x256, .bf16⟩
  | 94 => ⟨S1x1x64x1024, .f32⟩
  | 95 => ⟨S1x1x64x1024, .bf16⟩
  | 96 => ⟨S1x1x320x128, .f32⟩
  | 97 => ⟨S1x1x320x128, .bf16⟩
  | _ => ⟨S8x16x1024, .f32⟩

abbrev hbmTy (i : Nat) : BufTy := match i / 128 with
  | 0 => hbmTy0_0 i
  | 1 => hbmTy0_1 i
  | _ => ⟨S8x16x1024, .f32⟩

abbrev bufTy : (tb : Table) → Fin (tcTables nBuf tb) → BufTy
  | .hbm, ⟨i, _⟩ => hbmTy i
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_v5 : Ref sig .tc := ⟨.hbm, 114, rfl⟩
abbrev main_call0_v6 : Ref sig .tc := ⟨.hbm, 115, rfl⟩
abbrev main_call0_v7 : Ref sig .tc := ⟨.hbm, 116, rfl⟩
abbrev main_call0_v8 : Ref sig .tc := ⟨.hbm, 117, rfl⟩
abbrev main_call0_c : Ref sig .tc := ⟨.hbm, 118, rfl⟩
abbrev main_call0_v9 : Ref sig .tc := ⟨.hbm, 119, rfl⟩
abbrev main_call0_v10 : Ref sig .tc := ⟨.hbm, 120, rfl⟩
abbrev main_call0_v11 : Ref sig .tc := ⟨.hbm, 121, rfl⟩
abbrev main_call0_c_0 : Ref sig .tc := ⟨.hbm, 122, rfl⟩
abbrev main_call0_v12 : Ref sig .tc := ⟨.hbm, 123, rfl⟩
abbrev main_call0_v13 : Ref sig .tc := ⟨.hbm, 124, rfl⟩
abbrev main_v84 : Ref sig .tc := ⟨.hbm, 125, rfl⟩
abbrev main_v85 : Ref sig .tc := ⟨.hbm, 126, rfl⟩
abbrev main_c_15 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_call1_v5 : Ref sig .tc := ⟨.hbm, 133, rfl⟩
abbrev main_call1_v6 : Ref sig .tc := ⟨.hbm, 134, rfl⟩
abbrev main_call1_v7 : Ref sig .tc := ⟨.hbm, 135, rfl⟩
abbrev main_call1_v8 : Ref sig .tc := ⟨.hbm, 136, rfl⟩
abbrev main_call1_c : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_call1_c_0 : Ref sig .tc := ⟨.hbm, 141, rfl⟩
abbrev main_call1_v12 : Ref sig .tc := ⟨.hbm, 142, rfl⟩
abbrev main_call1_v13 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_16 : Ref sig .tc := ⟨.hbm, 150, rfl⟩
abbrev main_call2_v0 : Ref sig .tc := ⟨.hbm, 151, rfl⟩
abbrev main_call2_v1 : Ref sig .tc := ⟨.hbm, 152, rfl⟩
abbrev main_call2_v2 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_call3_v0 : Ref sig .tc := ⟨.hbm, 165, rfl⟩
abbrev main_call3_v1 : Ref sig .tc := ⟨.hbm, 166, rfl⟩
abbrev main_call3_cst : Ref sig .tc := ⟨.hbm, 167, rfl⟩
abbrev main_call3_v2 : Ref sig .tc := ⟨.hbm, 168, rfl⟩
abbrev main_call3_v3 : Ref sig .tc := ⟨.hbm, 169, rfl⟩
abbrev main_call3_cst_0 : Ref sig .tc := ⟨.hbm, 170, rfl⟩
abbrev main_call3_v4 : Ref sig .tc := ⟨.hbm, 171, rfl⟩
abbrev main_call3_v5 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_cst_17 : Ref sig .tc := ⟨.hbm, 177, rfl⟩
abbrev main_v107 : Ref sig .tc := ⟨.hbm, 178, rfl⟩
abbrev main_v108 : Ref sig .tc := ⟨.hbm, 179, rfl⟩
abbrev main_cst_18 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_cst_19 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_20 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_21 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_cst_22 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩

abbrev nD : Nat := 1
abbrev τ : Topo := Topo.v7x

variable {F : FTy → Type} [FloatOps F]
-- ==== Kernel4.lean ====
abbrev S8x16x1024 : Shape := ⟨3, ![8, 16, 1024]⟩
abbrev S1x128x1024 : Shape := ⟨3, ![1, 128, 1024]⟩
abbrev S1x128x512 : Shape := ⟨3, ![1, 128, 512]⟩
abbrev S1x512x1024 : Shape := ⟨3, ![1, 512, 1024]⟩
abbrev S1x1024x1024 : Shape := ⟨3, ![1, 1024, 1024]⟩
abbrev S1024 : Shape := ⟨1, ![1024]⟩
abbrev S512x1024 : Shape := ⟨2, ![512, 1024]⟩
abbrev S1024x1024 : Shape := ⟨2, ![1024, 1024]⟩
abbrev S1x1024 : Shape := ⟨2, ![1, 1024]⟩
abbrev S128x512 : Shape := ⟨2, ![128, 512]⟩
abbrev S128x1024 : Shape := ⟨2, ![128, 1024]⟩
abbrev S128 : Shape := ⟨1, ![128]⟩
abbrev S128x1 : Shape := ⟨2, ![128, 1]⟩

abbrev nBuf : Space → Nat
  | .hbm => 14
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S1x128x1024, .bf16⟩
  | .hbm, ⟨2, _⟩ => ⟨S1x128x1024, .f32⟩
  | .hbm, ⟨3, _⟩ => ⟨S1x128x512, .bf16⟩
  | .hbm, ⟨4, _⟩ => ⟨S1x512x1024, .f32⟩
  | .hbm, ⟨5, _⟩ => ⟨S1x1024x1024, .f32⟩
  | .hbm, ⟨6, _⟩ => ⟨S1024, .f32⟩
  | .hbm, ⟨7, _⟩ => ⟨S512x1024, .f32⟩
  | .hbm, ⟨8, _⟩ => ⟨S512x1024, .bf16⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1x128x1024, .f32⟩
  | .hbm, ⟨13, _⟩ => ⟨S1x128x1024, .f32⟩
  | .local _ .vmem, ⟨0, _⟩ => ⟨S1x128x1024, .f32⟩
  | .local _ .vmem, ⟨1, _⟩ => ⟨S1x128x1024, .bf16⟩
  | .local _ .vmem, ⟨2, _⟩ => ⟨S1x128x1024, .f32⟩
  | .local _ .vmem, ⟨3, _⟩ => ⟨S1x128x512, .bf16⟩
  | .local _ .vmem, ⟨4, _⟩ => ⟨S512x1024, .bf16⟩
  | .local _ .vmem, ⟨5, _⟩ => ⟨S1024x1024, .bf16⟩
  | .local _ .vmem, ⟨6, _⟩ => ⟨S1x1024, .f32⟩
  | .local _ .vmem, ⟨7, _⟩ => ⟨S1x128x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference4Ideal.lean ====
abbrev S8x16x1024 : Shape := ⟨3, ![8, 16, 1024]⟩
abbrev S1x128x1024 : Shape := ⟨3, ![1, 128, 1024]⟩
abbrev S1x128x512 : Shape := ⟨3, ![1, 128, 512]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S512x1024 : Shape := ⟨2, ![512, 1024]⟩
abbrev S1024x1024 : Shape := ⟨2, ![1024, 1024]⟩
abbrev S1x128 : Shape := ⟨2, ![1, 128]⟩
abbrev S1x128x1 : Shape := ⟨3, ![1, 128, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1x128x1024, .bf16⟩
  | .hbm, ⟨2, _⟩ => ⟨S1x128x1024, .f32⟩
  | .hbm, ⟨3, _⟩ => ⟨S1x128x512, .bf16⟩
  | .hbm, ⟨4, _⟩ => ⟨S1x512x1024, .f32⟩
  | .hbm, ⟨5, _⟩ => ⟨S1x1024x1024, .f32⟩
  | .hbm, ⟨6, _⟩ => ⟨S1024, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S_, .f32⟩
  | .hbm, ⟨15, _⟩ => ⟨S1x128x1024, .f32⟩
  | .hbm, ⟨16, _⟩ => ⟨S1x128x1024, .f32⟩
  | .hbm, ⟨17, _⟩ => ⟨S1x128x512, .f32⟩
  | .hbm, ⟨18, _⟩ => ⟨S512x1024, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S1024x1024, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128, .f32⟩
  | .hbm, ⟨28, _⟩ => ⟨S1x128x1, .f32⟩
  | .hbm, ⟨29, _⟩ => ⟨S_, .f32⟩
  | .hbm, ⟨30, _⟩ => ⟨S1x128x1, .f32⟩
  | .hbm, ⟨31, _⟩ => ⟨S1x128x1, .f32⟩
  | .hbm, ⟨32, _⟩ => ⟨S_, .f32⟩
  | .hbm, ⟨33, _⟩ => ⟨S1x128x1, .f32⟩
  | .hbm, ⟨34, _⟩ => ⟨S1x128x1, .f32⟩
  | .hbm, ⟨35, _⟩ => ⟨S1x128x1, .f32⟩
  | .hbm, ⟨36, _⟩ => ⟨S1x128x1024, .f32⟩
  | .hbm, ⟨37, _⟩ => ⟨S1x128x1024, .f32⟩
  | .hbm, ⟨38, _⟩ => ⟨S1x1x1024, .f32⟩
  | .hbm, ⟨39, _⟩ => ⟨S1x128x1024, .f32⟩
  | .hbm, ⟨40, _⟩ => ⟨S1x128x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Words.lean ====
/-
  The words the pipelined merge carries from trip to trip, in closed form. Before trip `k` of the 64 trips the
  fetch counters are at `min (k+2) 64`, the read and write counters at `k`, the drain counter one behind, and the
  two block coordinates at `k / 8` (mod 8) and `k % 8`. Everything the body computes from these words (its tests,
  its slot numbers and its block offsets) is decided here, for all 64 trips at once.
-/
module

public import proofs.«01_k».proof.Proof.Gen.KernelIdeal.Launch
public import proofs.«01_k».proof.Proof.Gen.KernelIdeal.Skeleton

@[expose] public section

set_option maxRecDepth 16384

noncomputable section

namespace Cert.KernelIdeal.Deep

open Cert.KernelIdeal Cert.KernelIdeal.Gen
open Idealize.ShloMosaic

/-- The fetch counters before trip `k`. -/
def wF (k : ℕ) : BitVec 32 := BitVec.ofNat 32 (min (k + 2) 64)
/-- The read and write counters before trip `k`. -/
def wC (k : ℕ) : BitVec 32 := BitVec.ofNat 32 k
/-- The drain counter before trip `k`. -/
def wL (k : ℕ) : BitVec 32 := BitVec.ofNat 32 (k - 1)
/-- The first block coordinate before trip `k`. -/
def wI (k : ℕ) : BitVec 32 := BitVec.ofNat 32 ((k / 8) % 8)
/-- The second block coordinate before trip `k`. -/
def wJ (k : ℕ) : BitVec 32 := BitVec.ofNat 32 (k % 8)

/-- All the carried words before trip `k`. -/
abbrev Wd (k : ℕ) : BitVec 32 × BitVec 32 × BitVec 32 × BitVec 32 × BitVec 32 × BitVec 32 × BitVec 32 × BitVec 32 × BitVec 32 × BitVec 32 × BitVec 32 × BitVec 32 :=
  (wF k, wC k, wF k, wC k, wF k, wC k, wF k, wC k, wC k, wL k, wI k, wJ k)

theorem trips_eq : k0_t1_loop.trips = 64 := by decide +kernel

/-! ## The tests -/

theorem chk1 : ∀ k : Fin k0_t1_loop.trips, k0_chk1 k (wF k) (wC k) (wF k) (wC k) (wF k) (wC k) (wF k) (wC k) (wC k) (wL k) (wI k) (wJ k) := by decide +kernel
theorem chk2 : ∀ k : Fin k0_t1_loop.trips, k0_chk2 (wC k) := by decide +kernel
theorem chk3 : ∀ k : Fin k0_t1_loop.trips, k0_chk3 (wC k) := by decide +kernel
theorem chk4 : ∀ k : Fin k0_t1_loop.trips, k0_chk4 (wC k) := by decide +kernel
theorem chk5 : ∀ k : Fin k0_t1_loop.trips, k0_chk5 (wC k) := by decide +kernel
theorem chk6 : ∀ k : Fin k0_t1_loop.trips, k0_chk6 (wC k) := by decide +kernel
theorem chk7 : k0_chk7 (wL 64) := by decide +kernel
theorem chk8 : k0_chk8 (wJ 64) (wI 64) := by decide +kernel

theorem cond5 : ∀ k : Fin k0_t1_loop.trips, k0_cond5 k (wI k) (wJ k) = 1#1 ↔ k.val < 62 := by decide +kernel
theorem cond6 : ∀ k : Fin k0_t1_loop.trips, k0_cond6 k (wI k) (wJ k) = 1#1 ↔ k.val < 62 := by decide +kernel
theorem cond7 : ∀ k : Fin k0_t1_loop.trips, k0_cond7 k (wI k) (wJ k) = 1#1 ↔ k.val < 62 := by decide +kernel
theorem cond8 : ∀ k : Fin k0_t1_loop.trips, k0_cond8 k (wI k) (wJ k) = 1#1 ↔ k.val < 62 := by decide +kernel
theorem cond9 : ∀ k : Fin k0_t1_loop.trips, k0_cond9 k (wI k) (wJ k) = 1#1 := by decide +kernel
theorem cond10 : ∀ k : Fin k0_t1_loop.trips, k0_cond10 k (wI k) (wJ k) = 1#1 := by decide +kernel
theorem cond11 : ∀ k : Fin k0_t1_loop.trips, k0_cond11 k (wI k) (wJ k) = 1#1 := by decide +kernel
theorem cond12 : ∀ k : Fin k0_t1_loop.trips, k0_cond12 k (wI k) (wJ k) = 1#1 := by decide +kernel
theorem cond18 : ∀ k : Fin k0_t1_loop.trips, k0_cond18 k (wI k) (wJ k) = 1#1 := by decide +kernel
theorem cond23 : ∀ k : Fin k0_t1_loop.trips, k0_cond23 k (wI k) (wJ k) = 1#1 ↔ 1 ≤ k.val := by decide +kernel

/-! ## The offsets -/

theorem off16 : ∀ k : Fin k0_t1_loop.trips, k.val < 62 → k0_off16 (wF k) = ![(k.val + 2) % 3] := by decide +kernel
theorem off17 : ∀ k : Fin k0_t1_loop.trips, k.val < 62 → k0_off17 (wF k) = ![(k.val + 2) % 3, 0, 0, 0] := by decide +kernel
theorem off18 : ∀ k : Fin k0_t1_loop.trips, k.val < 62 → k0_off18 (wI k) (wJ k) = ![(k.val + 2) / 8, 1024 * ((k.val + 2) % 8), 0] := by decide +kernel
theorem off19 : ∀ k : Fin k0_t1_loop.trips, k.val < 62 → k0_off19 (wF k) = ![(k.val + 2) % 3] := by decide +kernel
theorem off20 : ∀ k : Fin k0_t1_loop.trips, k.val < 62 → k0_off20 (wF k) = ![(k.val + 2) % 3, 0, 0, 0] := by decide +kernel
theorem off21 : ∀ k : Fin k0_t1_loop.trips, k.val < 62 → k0_off21 (wI k) (wJ k) = ![(k.val + 2) / 8, 1024 * ((k.val + 2) % 8), 0] := by decide +kernel
theorem off22 : ∀ k : Fin k0_t1_loop.trips, k.val < 62 → k0_off22 (wF k) = ![(k.val + 2) % 3] := by decide +kernel
theorem off23 : ∀ k : Fin k0_t1_loop.trips, k.val < 62 → k0_off23 (wF k) = ![(k.val + 2) % 3, 0, 0, 0] := by decide +kernel
theorem off24 : ∀ k : Fin k0_t1_loop.trips, k.val < 62 → k0_off24 (wI k) (wJ k) = ![(k.val + 2) / 8, 1024 * ((k.val + 2) % 8), 0] := by decide +kernel
theorem off25 : ∀ k : Fin k0_t1_loop.trips, k.val < 62 → k0_off25 (wF k) = ![(k.val + 2) % 3] := by decide +kernel
theorem off26 : ∀ k : Fin k0_t1_loop.trips, k.val < 62 → k0_off26 (wF k) = ![(k.val + 2) % 3, 0, 0, 0] := by decide +kernel
theorem off27 : ∀ k : Fin k0_t1_loop.trips, k.val < 62 → k0_off27 (wI k) (wJ k) = ![(k.val + 2) / 8, 1024 * ((k.val + 2) % 8), 0] := by decide +kernel
theorem off28 : ∀ k : Fin k0_t1_loop.trips, k0_off28 (wC k) = ![k.val % 3] := by decide +kernel
theorem off29 : ∀ k : Fin k0_t1_loop.trips, k0_off29 (wC k) = ![k.val % 3, 0, 0, 0] := by decide +kernel
theorem off30 : ∀ k : Fin k0_t1_loop.trips, k0_off30 (wI k) (wJ k) = ![k.val / 8, 1024 * (k.val % 8), 0] := by decide +kernel
theorem off31 : ∀ k : Fin k0_t1_loop.trips, k0_off31 (wC k) = ![k.val % 3] := by decide +kernel
theorem off32 : ∀ k : Fin k0_t1_loop.trips, k0_off32 (wC k) = ![k.val % 3, 0, 0, 0] := by decide +kernel
theorem off33 : ∀ k : Fin k0_t1_loop.trips, k0_off33 (wI k) (wJ k) = ![k.val / 8, 1024 * (k.val % 8), 0] := by decide +kernel
theorem off34 : ∀ k : Fin k0_t1_loop.trips, k0_off34 (wC k) = ![k.val % 3] := by decide +kernel
theorem off35 : ∀ k : Fin k0_t1_loop.trips, k0_off35 (wC k) = ![k.val % 3, 0, 0, 0] := by decide +kernel
theorem off36 : ∀ k : Fin k0_t1_loop.trips, k0_off36 (wI k) (wJ k) = ![k.val / 8, 1024 * (k.val % 8), 0] := by decide +kernel
theorem off37 : ∀ k : Fin k0_t1_loop.trips, k0_off37 (wC k) = ![k.val % 3] := by decide +kernel
theorem off38 : ∀ k : Fin k0_t1_loop.trips, k0_off38 (wC k) = ![k.val % 3, 0, 0, 0] := by decide +kernel
theorem off39 : ∀ k : Fin k0_t1_loop.trips, k0_off39 (wI k) (wJ k) = ![k.val / 8, 1024 * (k.val % 8), 0] := by decide +kernel
theorem off40 : ∀ k : Fin k0_t1_loop.trips, k0_off40 (wC k) = ![k.val % 3, 0, 0, 0] := by decide +kernel
theorem off41 : ∀ k : Fin k0_t1_loop.trips, k0_off41 (wC k) = ![k.val % 3, 0, 0, 0] := by decide +kernel
theorem off42 : ∀ k : Fin k0_t1_loop.trips, k0_off42 (wC k) = ![k.val % 3, 0, 0, 0] := by decide +kernel
theorem off43 : ∀ k : Fin k0_t1_loop.trips, k0_off43 (wC k) = ![k.val % 3, 0, 0, 0] := by decide +kernel
theorem off44 : ∀ k : Fin k0_t1_loop.trips, k0_off44 (wC k) = ![k.val % 2, 0, 0, 0] := by decide +kernel
theorem off45 : ∀ k : Fin k0_t1_loop.trips, k0_off45 (wC k) = ![k.val % 2] := by decide +kernel
theorem off46 : ∀ k : Fin k0_t1_loop.trips, k0_off46 (wI k) (wJ k) = ![k.val / 8, 1024 * (k.val % 8), 0] := by decide +kernel
theorem off47 : ∀ k : Fin k0_t1_loop.trips, k0_off47 (wC k) = ![k.val % 2, 0, 0, 0] := by decide +kernel
theorem off48 : ∀ k : Fin k0_t1_loop.trips, 1 ≤ k.val → k0_off48 (wL k) = ![(k.val - 1) % 2] := by decide +kernel
theorem off49 : ∀ k : Fin k0_t1_loop.trips, 1 ≤ k.val → k0_off49 (wI k) (wJ k) = ![(k.val - 1) / 8, 1024 * ((k.val - 1) % 8), 0] := by decide +kernel
theorem off50 : ∀ k : Fin k0_t1_loop.trips, 1 ≤ k.val → k0_off50 (wL k) = ![(k.val - 1) % 2, 0, 0, 0] := by decide +kernel
theorem off51 : k0_off51 (wL 64) = ![1] := by decide +kernel
theorem off52 : k0_off52 (wJ 64) (wI 64) = ![7, 7168, 0] := by decide +kernel
theorem off53 : k0_off53 (wL 64) = ![1, 0, 0, 0] := by decide +kernel

end Cert.KernelIdeal.Deep

end
-- ==== Proof.Slots.lean ====
/-
  The ring slots, their semaphores and the arrays' blocks under names of their own, indexed by the block number `n`:
  block `n` of a read operand goes through slot `n % 3`, block `n` of the result through slot `n % 2`. The `sl_canon`
  equations bring the body's spellings (offsets computed from the carried words) to these names.
-/
module

public import proofs.«01_k».proof.Proof.Words
public import Idealize.ShloMosaic.Lib.Tactic

@[expose] public section

set_option maxRecDepth 16384

noncomputable section

namespace Cert.KernelIdeal.Deep

open Cert.KernelIdeal Cert.KernelIdeal.Gen
open Idealize.ShloMosaic Idealize.ShloMosaic.TcCoe Idealize.ShloMosaic.Tactic

/-! ## Bounds -/

theorem inb3 (n : ℕ) : ∀ a, (![n % 3, 0, 0, 0] : Fin 4 → ℕ) a + S1x1x1024x1024.size a ≤ S3x1x1024x1024.size a := by
  intro a; fin_cases a
  · show n % 3 + 1 ≤ 3; omega
  · show 0 + 1 ≤ 1; omega
  · show 0 + 1024 ≤ 1024; omega
  · show 0 + 1024 ≤ 1024; omega
theorem inbB (n : ℕ) : ∀ a, (![n % 64 / 8, 1024 * (n % 64 % 8), 0] : Fin 3 → ℕ) a + S1x1024x1024.size a ≤ S8x8192x1024.size a := by
  intro a; fin_cases a
  · show n % 64 / 8 + 1 ≤ 8; omega
  · show 1024 * (n % 64 % 8) + 1024 ≤ 8192; omega
  · show 0 + 1024 ≤ 1024; omega
theorem inb3h (n : ℕ) : ∀ a, (![n % 3, 0, 0, 0] : Fin 4 → ℕ) a + S1x1x1024x512.size a ≤ S3x1x1024x512.size a := by
  intro a; fin_cases a
  · show n % 3 + 1 ≤ 3; omega
  · show 0 + 1 ≤ 1; omega
  · show 0 + 1024 ≤ 1024; omega
  · show 0 + 512 ≤ 512; omega
theorem inbBh (n : ℕ) : ∀ a, (![n % 64 / 8, 1024 * (n % 64 % 8), 0] : Fin 3 → ℕ) a + S1x1024x512.size a ≤ S8x8192x512.size a := by
  intro a; fin_cases a
  · show n % 64 / 8 + 1 ≤ 8; omega
  · show 1024 * (n % 64 % 8) + 1024 ≤ 8192; omega
  · show 0 + 512 ≤ 512; omega
theorem inb2 (n : ℕ) : ∀ a, (![n % 2, 0, 0, 0] : Fin 4 → ℕ) a + S1x1x1024x1024.size a ≤ S2x1x1024x1024.size a := by
  intro a; fin_cases a
  · show n % 2 + 1 ≤ 2; omega
  · show 0 + 1 ≤ 1; omega
  · show 0 + 1024 ≤ 1024; omega
  · show 0 + 1024 ≤ 1024; omega
theorem inbC3 (n : ℕ) : ∀ a, (![n % 3] : Fin 1 → ℕ) a + S1.size a ≤ S3.size a := by
  intro a; fin_cases a; show n % 3 + 1 ≤ 3; omega
theorem inbC2 (n : ℕ) : ∀ a, (![n % 2] : Fin 1 → ℕ) a + S1.size a ≤ S2.size a := by
  intro a; fin_cases a; show n % 2 + 1 ≤ 2; omega

/-! ## Names -/

/-- The x ring's slot for block `n`, its semaphore, and block `n` of the array. -/
def sX (n : ℕ) : Memref sig .tc .vmem S1x1024x1024 .f32 := ((Memref.whole cc0_scoped0).slice (Rect.unit (s := S3x1x1024x1024) ![n % 3, 0, 0, 0] S1x1x1024x1024.size (inb3 n)) (fun _ => rfl)).squeeze S1x1024x1024 squeezes_S1x1x1024x1024_S1x1024x1024
def cX (n : ℕ) : DmaSem sig := ((cc0_scoped1.slice (Rect.unit (s := S3) ![n % 3] S1.size (inbC3 n))).squeeze S_ squeezes_S1_S_).sem
def bX (n : ℕ) : Memref sig .tc .hbm S1x1024x1024 .f32 := (Memref.whole main_arg0).slice (Rect.unit (s := S8x8192x1024) ![n % 64 / 8, 1024 * (n % 64 % 8), 0] S1x1024x1024.size (inbB n)) (fun _ => rfl)
theorem sX_of (n : ℕ) (off : Fin 4 → ℕ) (h : ∀ a, off a + S1x1x1024x1024.size a ≤ S3x1x1024x1024.size a) (e : off = ![n % 3, 0, 0, 0]) :
    ((Memref.whole cc0_scoped0).slice (Rect.unit (s := S3x1x1024x1024) off S1x1x1024x1024.size h) (fun _ => rfl)).squeeze S1x1024x1024 squeezes_S1x1x1024x1024_S1x1024x1024 = sX n := by
  subst e; rfl
theorem cX_of (n : ℕ) (off : Fin 1 → ℕ) (h : ∀ a, off a + S1.size a ≤ S3.size a) (e : off = ![n % 3]) :
    ((cc0_scoped1.slice (Rect.unit (s := S3) off S1.size h)).squeeze S_ squeezes_S1_S_).sem = cX n := by
  subst e; rfl
theorem bX_of (n : ℕ) (hn : n < 64) (off : Fin 3 → ℕ) (h : ∀ a, off a + S1x1024x1024.size a ≤ S8x8192x1024.size a) (e : off = ![n / 8, 1024 * (n % 8), 0]) :
    (Memref.whole main_arg0).slice (Rect.unit (s := S8x8192x1024) off S1x1024x1024.size h) (fun _ => rfl) = bX n := by
  obtain rfl : off = ![n % 64 / 8, 1024 * (n % 64 % 8), 0] := by rw [e, Nat.mod_eq_of_lt hn]
  rfl
theorem sX_turn (n : ℕ) : sX (n + 3) = sX n := sX_of _ _ _ (by rw [Nat.add_mod_right])
theorem cX_turn (n : ℕ) : cX (n + 3) = cX n := cX_of _ _ _ (by rw [Nat.add_mod_right])

/-- The attention ring's slot for block `n`, its semaphore, and block `n` of the array. -/
def sM (n : ℕ) : Memref sig .tc .vmem S1x1024x1024 .bf16 := ((Memref.whole cc0_scoped2).slice (Rect.unit (s := S3x1x1024x1024) ![n % 3, 0, 0, 0] S1x1x1024x1024.size (inb3 n)) (fun _ => rfl)).squeeze S1x1024x1024 squeezes_S1x1x1024x1024_S1x1024x1024
def cM (n : ℕ) : DmaSem sig := ((cc0_scoped3.slice (Rect.unit (s := S3) ![n % 3] S1.size (inbC3 n))).squeeze S_ squeezes_S1_S_).sem
def bM (n : ℕ) : Memref sig .tc .hbm S1x1024x1024 .bf16 := (Memref.whole main_arg1).slice (Rect.unit (s := S8x8192x1024) ![n % 64 / 8, 1024 * (n % 64 % 8), 0] S1x1024x1024.size (inbB n)) (fun _ => rfl)
theorem sM_of (n : ℕ) (off : Fin 4 → ℕ) (h : ∀ a, off a + S1x1x1024x1024.size a ≤ S3x1x1024x1024.size a) (e : off = ![n % 3, 0, 0, 0]) :
    ((Memref.whole cc0_scoped2).slice (Rect.unit (s := S3x1x1024x1024) off S1x1x1024x1024.size h) (fun _ => rfl)).squeeze S1x1024x1024 squeezes_S1x1x1024x1024_S1x1024x1024 = sM n := by
  subst e; rfl
theorem cM_of (n : ℕ) (off : Fin 1 → ℕ) (h : ∀ a, off a + S1.size a ≤ S3.size a) (e : off = ![n % 3]) :
    ((cc0_scoped3.slice (Rect.unit (s := S3) off S1.size h)).squeeze S_ squeezes_S1_S_).sem = cM n := by
  subst e; rfl
theorem bM_of (n : ℕ) (hn : n < 64) (off : Fin 3 → ℕ) (h : ∀ a, off a + S1x1024x1024.size a ≤ S8x8192x1024.size a) (e : off = ![n / 8, 1024 * (n % 8), 0]) :
    (Memref.whole main_arg1).slice (Rect.unit (s := S8x8192x1024) off S1x1024x1024.size h) (fun _ => rfl) = bM n := by
  obtain rfl : off = ![n % 64 / 8, 1024 * (n % 64 % 8), 0] := by rw [e, Nat.mod_eq_of_lt hn]
  rfl
theorem sM_turn (n : ℕ) : sM (n + 3) = sM n := sM_of _ _ _ (by rw [Nat.add_mod_right])
theorem cM_turn (n : ℕ) : cM (n + 3) = cM n := cM_of _ _ _ (by rw [Nat.add_mod_right])

/-- The gate ring's slot for block `n`, its semaphore, and block `n` of the array. -/
def sB (n : ℕ) : Memref sig .tc .vmem S1x1024x1024 .f32 := ((Memref.whole cc0_scoped4).slice (Rect.unit (s := S3x1x1024x1024) ![n % 3, 0, 0, 0] S1x1x1024x1024.size (inb3 n)) (fun _ => rfl)).squeeze S1x1024x1024 squeezes_S1x1x1024x1024_S1x1024x1024
def cB (n : ℕ) : DmaSem sig := ((cc0_scoped5.slice (Rect.unit (s := S3) ![n % 3] S1.size (inbC3 n))).squeeze S_ squeezes_S1_S_).sem
def bB (n : ℕ) : Memref sig .tc .hbm S1x1024x1024 .f32 := (Memref.whole main_arg2).slice (Rect.unit (s := S8x8192x1024) ![n % 64 / 8, 1024 * (n % 64 % 8), 0] S1x1024x1024.size (inbB n)) (fun _ => rfl)
theorem sB_of (n : ℕ) (off : Fin 4 → ℕ) (h : ∀ a, off a + S1x1x1024x1024.size a ≤ S3x1x1024x1024.size a) (e : off = ![n % 3, 0, 0, 0]) :
    ((Memref.whole cc0_scoped4).slice (Rect.unit (s := S3x1x1024x1024) off S1x1x1024x1024.size h) (fun _ => rfl)).squeeze S1x1024x1024 squeezes_S1x1x1024x1024_S1x1024x1024 = sB n := by
  subst e; rfl
theorem cB_of (n : ℕ) (off : Fin 1 → ℕ) (h : ∀ a, off a + S1.size a ≤ S3.size a) (e : off = ![n % 3]) :
    ((cc0_scoped5.slice (Rect.unit (s := S3) off S1.size h)).squeeze S_ squeezes_S1_S_).sem = cB n := by
  subst e; rfl
theorem bB_of (n : ℕ) (hn : n < 64) (off : Fin 3 → ℕ) (h : ∀ a, off a + S1x1024x1024.size a ≤ S8x8192x1024.size a) (e : off = ![n / 8, 1024 * (n % 8), 0]) :
    (Memref.whole main_arg2).slice (Rect.unit (s := S8x8192x1024) off S1x1024x1024.size h) (fun _ => rfl) = bB n := by
  obtain rfl : off = ![n % 64 / 8, 1024 * (n % 64 % 8), 0] := by rw [e, Nat.mod_eq_of_lt hn]
  rfl
theorem sB_turn (n : ℕ) : sB (n + 3) = sB n := sB_of _ _ _ (by rw [Nat.add_mod_right])
theorem cB_turn (n : ℕ) : cB (n + 3) = cB n := cB_of _ _ _ (by rw [Nat.add_mod_right])

/-- The gated branch ring's slot for block `n`, its semaphore, and block `n` of the array. -/
def sH (n : ℕ) : Memref sig .tc .vmem S1x1024x512 .bf16 := ((Memref.whole cc0_scoped6).slice (Rect.unit (s := S3x1x1024x512) ![n % 3, 0, 0, 0] S1x1x1024x512.size (inb3h n)) (fun _ => rfl)).squeeze S1x1024x512 squeezes_S1x1x1024x512_S1x1024x512
def cH (n : ℕ) : DmaSem sig := ((cc0_scoped7.slice (Rect.unit (s := S3) ![n % 3] S1.size (inbC3 n))).squeeze S_ squeezes_S1_S_).sem
def bH (n : ℕ) : Memref sig .tc .hbm S1x1024x512 .bf16 := (Memref.whole main_arg3).slice (Rect.unit (s := S8x8192x512) ![n % 64 / 8, 1024 * (n % 64 % 8), 0] S1x1024x512.size (inbBh n)) (fun _ => rfl)
theorem sH_of (n : ℕ) (off : Fin 4 → ℕ) (h : ∀ a, off a + S1x1x1024x512.size a ≤ S3x1x1024x512.size a) (e : off = ![n % 3, 0, 0, 0]) :
    ((Memref.whole cc0_scoped6).slice (Rect.unit (s := S3x1x1024x512) off S1x1x1024x512.size h) (fun _ => rfl)).squeeze S1x1024x512 squeezes_S1x1x1024x512_S1x1024x512 = sH n := by
  subst e; rfl
theorem cH_of (n : ℕ) (off : Fin 1 → ℕ) (h : ∀ a, off a + S1.size a ≤ S3.size a) (e : off = ![n % 3]) :
    ((cc0_scoped7.slice (Rect.unit (s := S3) off S1.size h)).squeeze S_ squeezes_S1_S_).sem = cH n := by
  subst e; rfl
theorem bH_of (n : ℕ) (hn : n < 64) (off : Fin 3 → ℕ) (h : ∀ a, off a + S1x1024x512.size a ≤ S8x8192x512.size a) (e : off = ![n / 8, 1024 * (n % 8), 0]) :
    (Memref.whole main_arg3).slice (Rect.unit (s := S8x8192x512) off S1x1024x512.size h) (fun _ => rfl) = bH n := by
  obtain rfl : off = ![n % 64 / 8, 1024 * (n % 64 % 8), 0] := by rw [e, Nat.mod_eq_of_lt hn]
  rfl
theorem sH_turn (n : ℕ) : sH (n + 3) = sH n := sH_of _ _ _ (by rw [Nat.add_mod_right])
theorem cH_turn (n : ℕ) : cH (n + 3) = cH n := cH_of _ _ _ (by rw [Nat.add_mod_right])

/-- The result ring's slot for block `n`, its semaphore, and block `n` of the array. -/
def sO (n : ℕ) : Memref sig .tc .vmem S1x1024x1024 .f32 := ((Memref.whole cc0_scoped8).slice (Rect.unit (s := S2x1x1024x1024) ![n % 2, 0, 0, 0] S1x1x1024x1024.size (inb2 n)) (fun _ => rfl)).squeeze S1x1024x1024 squeezes_S1x1x1024x1024_S1x1024x1024
def cO (n : ℕ) : DmaSem sig := ((cc0_scoped9.slice (Rect.unit (s := S2) ![n % 2] S1.size (inbC2 n))).squeeze S_ squeezes_S1_S_).sem
def bO (n : ℕ) : Memref sig .tc .hbm S1x1024x1024 .f32 := (Memref.whole main_v5).slice (Rect.unit (s := S8x8192x1024) ![n % 64 / 8, 1024 * (n % 64 % 8), 0] S1x1024x1024.size (inbB n)) (fun _ => rfl)
theorem sO_of (n : ℕ) (off : Fin 4 → ℕ) (h : ∀ a, off a + S1x1x1024x1024.size a ≤ S2x1x1024x1024.size a) (e : off = ![n % 2, 0, 0, 0]) :
    ((Memref.whole cc0_scoped8).slice (Rect.unit (s := S2x1x1024x1024) off S1x1x1024x1024.size h) (fun _ => rfl)).squeeze S1x1024x1024 squeezes_S1x1x1024x1024_S1x1024x1024 = sO n := by
  subst e; rfl
theorem cO_of (n : ℕ) (off : Fin 1 → ℕ) (h : ∀ a, off a + S1.size a ≤ S2.size a) (e : off = ![n % 2]) :
    ((cc0_scoped9.slice (Rect.unit (s := S2) off S1.size h)).squeeze S_ squeezes_S1_S_).sem = cO n := by
  subst e; rfl
theorem bO_of (n : ℕ) (hn : n < 64) (off : Fin 3 → ℕ) (h : ∀ a, off a + S1x1024x1024.size a ≤ S8x8192x1024.size a) (e : off = ![n / 8, 1024 * (n % 8), 0]) :
    (Memref.whole main_v5).slice (Rect.unit (s := S8x8192x1024) off S1x1024x1024.size h) (fun _ => rfl) = bO n := by
  obtain rfl : off = ![n % 64 / 8, 1024 * (n % 64 % 8), 0] := by rw [e, Nat.mod_eq_of_lt hn]
  rfl
theorem sO_turn (n : ℕ) : sO (n + 2) = sO n := sO_of _ _ _ (by rw [Nat.add_mod_right])
theorem cO_turn (n : ℕ) : cO (n + 2) = cO n := cO_of _ _ _ (by rw [Nat.add_mod_right])

/-! ## The trip's spellings -/

section Trip
variable (k : Fin k0_t1_loop.trips)
include k
theorem lt64 : k.val < 64 := Nat.lt_of_lt_of_eq k.isLt trips_eq

@[sl_canon] theorem cX_enq (hk : k.val < 62) (h) : ((cc0_scoped1.slice (Rect.unit (s := S3) (k0_off16 (wF k)) S1.size h)).squeeze S_ squeezes_S1_S_).sem = cX (k.val + 2) := cX_of _ _ _ (off16 k hk)
@[sl_canon] theorem sX_enq (hk : k.val < 62) (h) : ((Memref.whole cc0_scoped0).slice (Rect.unit (s := S3x1x1024x1024) (k0_off17 (wF k)) S1x1x1024x1024.size h) (fun _ => rfl)).squeeze S1x1024x1024 squeezes_S1x1x1024x1024_S1x1024x1024 = sX (k.val + 2) := sX_of _ _ _ (off17 k hk)
@[sl_canon] theorem bX_enq (hk : k.val < 62) (h) : (Memref.whole main_arg0).slice (Rect.unit (s := S8x8192x1024) (k0_off18 (wI k) (wJ k)) S1x1024x1024.size h) (fun _ => rfl) = bX (k.val + 2) := bX_of _ (by omega) _ _ (off18 k hk)
@[sl_canon] theorem cX_wait (h) : ((cc0_scoped1.slice (Rect.unit (s := S3) (k0_off28 (wC k)) S1.size h)).squeeze S_ squeezes_S1_S_).sem = cX k.val := cX_of _ _ _ (off28 k)
@[sl_canon] theorem sX_wait (h) : ((Memref.whole cc0_scoped0).slice (Rect.unit (s := S3x1x1024x1024) (k0_off29 (wC k)) S1x1x1024x1024.size h) (fun _ => rfl)).squeeze S1x1024x1024 squeezes_S1x1x1024x1024_S1x1024x1024 = sX k.val := sX_of _ _ _ (off29 k)
@[sl_canon] theorem bX_wait (h) : (Memref.whole main_arg0).slice (Rect.unit (s := S8x8192x1024) (k0_off30 (wI k) (wJ k)) S1x1024x1024.size h) (fun _ => rfl) = bX k.val := bX_of _ (lt64 k) _ _ (off30 k)
@[sl_canon] theorem sX_load (h) : ((Memref.whole cc0_scoped0).slice (Rect.unit (s := S3x1x1024x1024) (k0_off43 (wC k)) S1x1x1024x1024.size h) (fun _ => rfl)).squeeze S1x1024x1024 squeezes_S1x1x1024x1024_S1x1024x1024 = sX k.val := sX_of _ _ _ (off43 k)
@[sl_canon] theorem cM_enq (hk : k.val < 62) (h) : ((cc0_scoped3.slice (Rect.unit (s := S3) (k0_off19 (wF k)) S1.size h)).squeeze S_ squeezes_S1_S_).sem = cM (k.val + 2) := cM_of _ _ _ (off19 k hk)
@[sl_canon] theorem sM_enq (hk : k.val < 62) (h) : ((Memref.whole cc0_scoped2).slice (Rect.unit (s := S3x1x1024x1024) (k0_off20 (wF k)) S1x1x1024x1024.size h) (fun _ => rfl)).squeeze S1x1024x1024 squeezes_S1x1x1024x1024_S1x1024x1024 = sM (k.val + 2) := sM_of _ _ _ (off20 k hk)
@[sl_canon] theorem bM_enq (hk : k.val < 62) (h) : (Memref.whole main_arg1).slice (Rect.unit (s := S8x8192x1024) (k0_off21 (wI k) (wJ k)) S1x1024x1024.size h) (fun _ => rfl) = bM (k.val + 2) := bM_of _ (by omega) _ _ (off21 k hk)
@[sl_canon] theorem cM_wait (h) : ((cc0_scoped3.slice (Rect.unit (s := S3) (k0_off31 (wC k)) S1.size h)).squeeze S_ squeezes_S1_S_).sem = cM k.val := cM_of _ _ _ (off31 k)
@[sl_canon] theorem sM_wait (h) : ((Memref.whole cc0_scoped2).slice (Rect.unit (s := S3x1x1024x1024) (k0_off32 (wC k)) S1x1x1024x1024.size h) (fun _ => rfl)).squeeze S1x1024x1024 squeezes_S1x1x1024x1024_S1x1024x1024 = sM k.val := sM_of _ _ _ (off32 k)
@[sl_canon] theorem bM_wait (h) : (Memref.whole main_arg1).slice (Rect.unit (s := S8x8192x1024) (k0_off33 (wI k) (wJ k)) S1x1024x1024.size h) (fun _ => rfl) = bM k.val := bM_of _ (lt64 k) _ _ (off33 k)
@[sl_canon] theorem sM_load (h) : ((Memref.whole cc0_scoped2).slice (Rect.unit (s := S3x1x1024x1024) (k0_off41 (wC k)) S1x1x1024x1024.size h) (fun _ => rfl)).squeeze S1x1024x1024 squeezes_S1x1x1024x1024_S1x1024x1024 = sM k.val := sM_of _ _ _ (off41 k)
@[sl_canon] theorem cB_enq (hk : k.val < 62) (h) : ((cc0_scoped5.slice (Rect.unit (s := S3) (k0_off22 (wF k)) S1.size h)).squeeze S_ squeezes_S1_S_).sem = cB (k.val + 2) := cB_of _ _ _ (off22 k hk)
@[sl_canon] theorem sB_enq (hk : k.val < 62) (h) : ((Memref.whole cc0_scoped4).slice (Rect.unit (s := S3x1x1024x1024) (k0_off23 (wF k)) S1x1x1024x1024.size h) (fun _ => rfl)).squeeze S1x1024x1024 squeezes_S1x1x1024x1024_S1x1024x1024 = sB (k.val + 2) := sB_of _ _ _ (off23 k hk)
@[sl_canon] theorem bB_enq (hk : k.val < 62) (h) : (Memref.whole main_arg2).slice (Rect.unit (s := S8x8192x1024) (k0_off24 (wI k) (wJ k)) S1x1024x1024.size h) (fun _ => rfl) = bB (k.val + 2) := bB_of _ (by omega) _ _ (off24 k hk)
@[sl_canon] theorem cB_wait (h) : ((cc0_scoped5.slice (Rect.unit (s := S3) (k0_off34 (wC k)) S1.size h)).squeeze S_ squeezes_S1_S_).sem = cB k.val := cB_of _ _ _ (off34 k)
@[sl_canon] theorem sB_wait (h) : ((Memref.whole cc0_scoped4).slice (Rect.unit (s := S3x1x1024x1024) (k0_off35 (wC k)) S1x1x1024x1024.size h) (fun _ => rfl)).squeeze S1x1024x1024 squeezes_S1x1x1024x1024_S1x1024x1024 = sB k.val := sB_of _ _ _ (off35 k)
@[sl_canon] theorem bB_wait (h) : (Memref.whole main_arg2).slice (Rect.unit (s := S8x8192x1024) (k0_off36 (wI k) (wJ k)) S1x1024x1024.size h) (fun _ => rfl) = bB k.val := bB_of _ (lt64 k) _ _ (off36 k)
@[sl_canon] theorem sB_load (h) : ((Memref.whole cc0_scoped4).slice (Rect.unit (s := S3x1x1024x1024) (k0_off42 (wC k)) S1x1x1024x1024.size h) (fun _ => rfl)).squeeze S1x1024x1024 squeezes_S1x1x1024x1024_S1x1024x1024 = sB k.val := sB_of _ _ _ (off42 k)
@[sl_canon] theorem cH_enq (hk : k.val < 62) (h) : ((cc0_scoped7.slice (Rect.unit (s := S3) (k0_off25 (wF k)) S1.size h)).squeeze S_ squeezes_S1_S_).sem = cH (k.val + 2) := cH_of _ _ _ (off25 k hk)
@[sl_canon] theorem sH_enq (hk : k.val < 62) (h) : ((Memref.whole cc0_scoped6).slice (Rect.unit (s := S3x1x1024x512) (k0_off26 (wF k)) S1x1x1024x512.size h) (fun _ => rfl)).squeeze S1x1024x512 squeezes_S1x1x1024x512_S1x1024x512 = sH (k.val + 2) := sH_of _ _ _ (off26 k hk)
@[sl_canon] theorem bH_enq (hk : k.val < 62) (h) : (Memref.whole main_arg3).slice (Rect.unit (s := S8x8192x512) (k0_off27 (wI k) (wJ k)) S1x1024x512.size h) (fun _ => rfl) = bH (k.val + 2) := bH_of _ (by omega) _ _ (off27 k hk)
@[sl_canon] theorem cH_wait (h) : ((cc0_scoped7.slice (Rect.unit (s := S3) (k0_off37 (wC k)) S1.size h)).squeeze S_ squeezes_S1_S_).sem = cH k.val := cH_of _ _ _ (off37 k)
@[sl_canon] theorem sH_wait (h) : ((Memref.whole cc0_scoped6).slice (Rect.unit (s := S3x1x1024x512) (k0_off38 (wC k)) S1x1x1024x512.size h) (fun _ => rfl)).squeeze S1x1024x512 squeezes_S1x1x1024x512_S1x1024x512 = sH k.val := sH_of _ _ _ (off38 k)
@[sl_canon] theorem bH_wait (h) : (Memref.whole main_arg3).slice (Rect.unit (s := S8x8192x512) (k0_off39 (wI k) (wJ k)) S1x1024x512.size h) (fun _ => rfl) = bH k.val := bH_of _ (lt64 k) _ _ (off39 k)
@[sl_canon] theorem sH_load (h) : ((Memref.whole cc0_scoped6).slice (Rect.unit (s := S3x1x1024x512) (k0_off40 (wC k)) S1x1x1024x512.size h) (fun _ => rfl)).squeeze S1x1024x512 squeezes_S1x1x1024x512_S1x1024x512 = sH k.val := sH_of _ _ _ (off40 k)
@[sl_canon] theorem sO_load (h) : ((Memref.whole cc0_scoped8).slice (Rect.unit (s := S2x1x1024x1024) (k0_off44 (wC k)) S1x1x1024x1024.size h) (fun _ => rfl)).squeeze S1x1024x1024 squeezes_S1x1x1024x1024_S1x1024x1024 = sO k.val := sO_of _ _ _ (off44 k)
@[sl_canon] theorem cO_enq (h) : ((cc0_scoped9.slice (Rect.unit (s := S2) (k0_off45 (wC k)) S1.size h)).squeeze S_ squeezes_S1_S_).sem = cO k.val := cO_of _ _ _ (off45 k)
@[sl_canon] theorem bO_enq (h) : (Memref.whole main_v5).slice (Rect.unit (s := S8x8192x1024) (k0_off46 (wI k) (wJ k)) S1x1024x1024.size h) (fun _ => rfl) = bO k.val := bO_of _ (lt64 k) _ _ (off46 k)
@[sl_canon] theorem sO_enq (h) : ((Memref.whole cc0_scoped8).slice (Rect.unit (s := S2x1x1024x1024) (k0_off47 (wC k)) S1x1x1024x1024.size h) (fun _ => rfl)).squeeze S1x1024x1024 squeezes_S1x1x1024x1024_S1x1024x1024 = sO k.val := sO_of _ _ _ (off47 k)
@[sl_canon] theorem cO_wait (hk : 1 ≤ k.val) (h) : ((cc0_scoped9.slice (Rect.unit (s := S2) (k0_off48 (wL k)) S1.size h)).squeeze S_ squeezes_S1_S_).sem = cO (k.val - 1) := cO_of _ _ _ (off48 k hk)
@[sl_canon] theorem bO_wait (hk : 1 ≤ k.val) (h) : (Memref.whole main_v5).slice (Rect.unit (s := S8x8192x1024) (k0_off49 (wI k) (wJ k)) S1x1024x1024.size h) (fun _ => rfl) = bO (k.val - 1) := bO_of _ (by have := lt64 k; omega) _ _ (off49 k hk)
@[sl_canon] theorem sO_wait (hk : 1 ≤ k.val) (h) : ((Memref.whole cc0_scoped8).slice (Rect.unit (s := S2x1x1024x1024) (k0_off50 (wL k)) S1x1x1024x1024.size h) (fun _ => rfl)).squeeze S1x1024x1024 squeezes_S1x1x1024x1024_S1x1024x1024 = sO (k.val - 1) := sO_of _ _ _ (off50 k hk)
end Trip

/-! ## The spellings before and after the loop -/

@[sl_canon] theorem cX_first (h) : ((cc0_scoped1.slice (Rect.unit (s := S3) k0_off1 S1.size h)).squeeze S_ squeezes_S1_S_).sem = cX 0 := cX_of _ _ _ (by decide)
@[sl_canon] theorem sX_first (h) : ((Memref.whole cc0_scoped0).slice (Rect.unit (s := S3x1x1024x1024) k0_off2 S1x1x1024x1024.size h) (fun _ => rfl)).squeeze S1x1024x1024 squeezes_S1x1x1024x1024_S1x1024x1024 = sX 0 := sX_of _ _ _ (by decide)
@[sl_canon] theorem bX_first (h) : (Memref.whole main_arg0).slice (Rect.unit (s := S8x8192x1024) ![0, 0, 0] S1x1024x1024.size h) (fun _ => rfl) = bX 0 := bX_of _ (by omega) _ _ (by decide)
@[sl_canon] theorem cX_second (h) : ((cc0_scoped1.slice (Rect.unit (s := S3) k0_off4 S1.size h)).squeeze S_ squeezes_S1_S_).sem = cX 1 := cX_of _ _ _ (by decide)
@[sl_canon] theorem sX_second (h) : ((Memref.whole cc0_scoped0).slice (Rect.unit (s := S3x1x1024x1024) k0_off5 S1x1x1024x1024.size h) (fun _ => rfl)).squeeze S1x1024x1024 squeezes_S1x1x1024x1024_S1x1024x1024 = sX 1 := sX_of _ _ _ (by decide)
@[sl_canon] theorem bX_second (h) : (Memref.whole main_arg0).slice (Rect.unit (s := S8x8192x1024) k0_off6 S1x1024x1024.size h) (fun _ => rfl) = bX 1 := bX_of _ (by omega) _ _ (by decide)
@[sl_canon] theorem cM_first (h) : ((cc0_scoped3.slice (Rect.unit (s := S3) k0_off1 S1.size h)).squeeze S_ squeezes_S1_S_).sem = cM 0 := cM_of _ _ _ (by decide)
@[sl_canon] theorem sM_first (h) : ((Memref.whole cc0_scoped2).slice (Rect.unit (s := S3x1x1024x1024) k0_off2 S1x1x1024x1024.size h) (fun _ => rfl)).squeeze S1x1024x1024 squeezes_S1x1x1024x1024_S1x1024x1024 = sM 0 := sM_of _ _ _ (by decide)
@[sl_canon] theorem bM_first (h) : (Memref.whole main_arg1).slice (Rect.unit (s := S8x8192x1024) ![0, 0, 0] S1x1024x1024.size h) (fun _ => rfl) = bM 0 := bM_of _ (by omega) _ _ (by decide)
@[sl_canon] theorem cM_second (h) : ((cc0_scoped3.slice (Rect.unit (s := S3) k0_off7 S1.size h)).squeeze S_ squeezes_S1_S_).sem = cM 1 := cM_of _ _ _ (by decide)
@[sl_canon] theorem sM_second (h) : ((Memref.whole cc0_scoped2).slice (Rect.unit (s := S3x1x1024x1024) k0_off8 S1x1x1024x1024.size h) (fun _ => rfl)).squeeze S1x1024x1024 squeezes_S1x1x1024x1024_S1x1024x1024 = sM 1 := sM_of _ _ _ (by decide)
@[sl_canon] theorem bM_second (h) : (Memref.whole main_arg1).slice (Rect.unit (s := S8x8192x1024) k0_off9 S1x1024x1024.size h) (fun _ => rfl) = bM 1 := bM_of _ (by omega) _ _ (by decide)
@[sl_canon] theorem cB_first (h) : ((cc0_scoped5.slice (Rect.unit (s := S3) k0_off1 S1.size h)).squeeze S_ squeezes_S1_S_).sem = cB 0 := cB_of _ _ _ (by decide)
@[sl_canon] theorem sB_first (h) : ((Memref.whole cc0_scoped4).slice (Rect.unit (s := S3x1x1024x1024) k0_off2 S1x1x1024x1024.size h) (fun _ => rfl)).squeeze S1x1024x1024 squeezes_S1x1x1024x1024_S1x1024x1024 = sB 0 := sB_of _ _ _ (by decide)
@[sl_canon] theorem bB_first (h) : (Memref.whole main_arg2).slice (Rect.unit (s := S8x8192x1024) ![0, 0, 0] S1x1024x1024.size h) (fun _ => rfl) = bB 0 := bB_of _ (by omega) _ _ (by decide)
@[sl_canon] theorem cB_second (h) : ((cc0_scoped5.slice (Rect.unit (s := S3) k0_off10 S1.size h)).squeeze S_ squeezes_S1_S_).sem = cB 1 := cB_of _ _ _ (by decide)
@[sl_canon] theorem sB_second (h) : ((Memref.whole cc0_scoped4).slice (Rect.unit (s := S3x1x1024x1024) k0_off11 S1x1x1024x1024.size h) (fun _ => rfl)).squeeze S1x1024x1024 squeezes_S1x1x1024x1024_S1x1024x1024 = sB 1 := sB_of _ _ _ (by decide)
@[sl_canon] theorem bB_second (h) : (Memref.whole main_arg2).slice (Rect.unit (s := S8x8192x1024) k0_off12 S1x1024x1024.size h) (fun _ => rfl) = bB 1 := bB_of _ (by omega) _ _ (by decide)
@[sl_canon] theorem cH_first (h) : ((cc0_scoped7.slice (Rect.unit (s := S3) k0_off1 S1.size h)).squeeze S_ squeezes_S1_S_).sem = cH 0 := cH_of _ _ _ (by decide)
@[sl_canon] theorem sH_first (h) : ((Memref.whole cc0_scoped6).slice (Rect.unit (s := S3x1x1024x512) k0_off3 S1x1x1024x512.size h) (fun _ => rfl)).squeeze S1x1024x512 squeezes_S1x1x1024x512_S1x1024x512 = sH 0 := sH_of _ _ _ (by decide)
@[sl_canon] theorem bH_first (h) : (Memref.whole main_arg3).slice (Rect.unit (s := S8x8192x512) ![0, 0, 0] S1x1024x512.size h) (fun _ => rfl) = bH 0 := bH_of _ (by omega) _ _ (by decide)
@[sl_canon] theorem cH_second (h) : ((cc0_scoped7.slice (Rect.unit (s := S3) k0_off13 S1.size h)).squeeze S_ squeezes_S1_S_).sem = cH 1 := cH_of _ _ _ (by decide)
@[sl_canon] theorem sH_second (h) : ((Memref.whole cc0_scoped6).slice (Rect.unit (s := S3x1x1024x512) k0_off14 S1x1x1024x512.size h) (fun _ => rfl)).squeeze S1x1024x512 squeezes_S1x1x1024x512_S1x1024x512 = sH 1 := sH_of _ _ _ (by decide)
@[sl_canon] theorem bH_second (h) : (Memref.whole main_arg3).slice (Rect.unit (s := S8x8192x512) k0_off15 S1x1024x512.size h) (fun _ => rfl) = bH 1 := bH_of _ (by omega) _ _ (by decide)
@[sl_canon] theorem cO_last (h) : ((cc0_scoped9.slice (Rect.unit (s := S2) (k0_off51 (wL 64)) S1.size h)).squeeze S_ squeezes_S1_S_).sem = cO 63 := cO_of _ _ _ off51
@[sl_canon] theorem bO_last (h) : (Memref.whole main_v5).slice (Rect.unit (s := S8x8192x1024) (k0_off52 (wJ 64) (wI 64)) S1x1024x1024.size h) (fun _ => rfl) = bO 63 := bO_of _ (by omega) _ _ off52
@[sl_canon] theorem sO_last (h) : ((Memref.whole cc0_scoped8).slice (Rect.unit (s := S2x1x1024x1024) (k0_off53 (wL 64)) S1x1x1024x1024.size h) (fun _ => rfl)).squeeze S1x1024x1024 squeezes_S1x1x1024x1024_S1x1024x1024 = sO 63 := sO_of _ _ _ off53

end Cert.KernelIdeal.Deep
-- ==== Proof.State.lean ====
/-
  What the pipelined merge holds between trips: per read operand the three slots, each free or in flight with a block
  of the array, with a third of the array's share lent to each; for the result the two slots and the array's blocks.
-/
module

public import proofs.«01_k».proof.Proof.Slots
public import Idealize.ShloMosaic.Lib.Ring
public import Idealize.ShloMosaic.Lib.Ring.Trips
public import Idealize.ShloMosaic.Lib.Pipeline.FrameValue
public import Idealize.ShloMosaic.Lib.WordCmp
public import Idealize.ShloMosaic.Lib.VecWindow

@[expose] public section

set_option maxRecDepth 16384

noncomputable section

namespace Cert.KernelIdeal.Deep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The share of a read array lent to the slot of block `n`. -/
def sh (n : ℕ) : PosShare TreeShare := Ring.shares3 fullShare (Ring.sl 3 n)
theorem sh_turn (n : ℕ) : sh (n + 3) = sh n := by
  unfold sh; rw [Ring.sl_add]

/-! ## The x ring -/

/-- The slot of block `n` at some contents. -/
def slotX (c : Dev nD) (n : ℕ) : sProp 𝕄 :=
  iprop(∃ g, (sX n).view.loc (c : Thread nD τ) ↦[(sX n).view.set]{fullShare} g)
/-- That slot's share of the array. -/
def partX (c : Dev nD) (f : Buf (Elt F) ((Memref.whole main_arg0).view.loc (c : Thread nD τ))) (n : ℕ) : sProp 𝕄 := iprop((Memref.whole main_arg0).view.loc (c : Thread nD τ) ↦{sh n} f)
/-- That share away from block `n`. -/
def restX (c : Dev nD) (f : Buf (Elt F) ((Memref.whole main_arg0).view.loc (c : Thread nD τ))) (n : ℕ) : sProp 𝕄 :=
  iprop((bX n).view.loc (c : Thread nD τ) ↦[Finset.univ \ (bX n).view.set]{sh n} f)
/-- That share of block `n`. -/
abbrev lentX (c : Dev nD) (f : Buf (Elt F) ((Memref.whole main_arg0).view.loc (c : Thread nD τ))) (n : ℕ) : sProp 𝕄 :=
  iprop((bX n).view.loc (c : Thread nD τ) ↦[(bX n).view.set]{sh n} f)
/-- Block `n` of contents `f`. -/
def valX (c : Dev nD) (f : Buf (Elt F) ((Memref.whole main_arg0).view.loc (c : Thread nD τ))) (n : ℕ) : Vec F S1x1024x1024 .f32 := (bX n).view.read (Elt F) f
/-- The transfer of block `n` into its slot, which it leaves at contents `fd`. -/
abbrev flX (c : Dev nD) (f : Buf (Elt F) ((Memref.whole main_arg0).view.loc (c : Thread nD τ))) (n : ℕ) (fd : Buf (Elt F) ((sX n).view.loc (c : Thread nD τ))) : sProp 𝕄 :=
  Transfers.Flight (countersEmb (U := Pipeline.UD sig nD τ)) (c : Thread nD τ) (.dma (cX n)) () 131072
    iprop(((sX n).view.loc (c : Thread nD τ) ↦[(sX n).view.set]{fullShare} fd) ∗ lentX c f n)
abbrev freeX (c : Dev nD) (f : Buf (Elt F) ((Memref.whole main_arg0).view.loc (c : Thread nD τ))) (n : ℕ) : sProp 𝕄 :=
  iprop(semVal ((c : Thread nD τ), SemLoc.dma (cX n)) 0 ∗ slotX c n ∗ partX c f n)
abbrev inflX (c : Dev nD) (f : Buf (Elt F) ((Memref.whole main_arg0).view.loc (c : Thread nD τ))) (n : ℕ) : sProp 𝕄 := iprop((∃ fd, ⌜(sX n).view.read (Elt F) fd = valX c f n⌝ ∗ flX c f n fd) ∗ restX c f n)
/-- The slot of block `n` before the block's trip: in flight while there is a block `n`, free past the end. -/
def roleX (c : Dev nD) (f : Buf (Elt F) ((Memref.whole main_arg0).view.loc (c : Thread nD τ))) (n : ℕ) : sProp 𝕄 := if n < 64 then inflX c f n else freeX c f n
theorem roleX_lt (c : Dev nD) (f : Buf (Elt F) ((Memref.whole main_arg0).view.loc (c : Thread nD τ))) (n : ℕ) (h : n < 64) : roleX c f n = inflX c f n := if_pos h
theorem roleX_ge (c : Dev nD) (f : Buf (Elt F) ((Memref.whole main_arg0).view.loc (c : Thread nD τ))) (n : ℕ) (h : ¬ n < 64) : roleX c f n = freeX c f n := if_neg h
theorem partX_split (c : Dev nD) (f : Buf (Elt F) ((Memref.whole main_arg0).view.loc (c : Thread nD τ))) (n : ℕ) : partX c f n ⊣⊢ iprop(lentX c f n ∗ restX c f n) :=
  pointsTo_split_subset (Finset.subset_univ _)
theorem slotX_eq (c : Dev nD) (n : ℕ) : slotX (F := F) c n = iprop(∃ g, (sX n).view.loc (c : Thread nD τ) ↦[(sX n).view.set]{fullShare} g) := rfl
theorem slotX_turn (c : Dev nD) (n : ℕ) : slotX (F := F) c (n + 3) = slotX c n :=
  congrArg (fun m : Memref sig .tc .vmem S1x1024x1024 .f32 => (iprop(∃ g, m.view.loc (c : Thread nD τ) ↦[m.view.set]{fullShare} g) : sProp 𝕄)) (sX_turn n)
theorem freeX_turn (c : Dev nD) (f : Buf (Elt F) ((Memref.whole main_arg0).view.loc (c : Thread nD τ))) (n : ℕ) : freeX c f (n + 3) = freeX c f n := by
  rw [freeX, slotX_turn, cX_turn, partX, sh_turn]; rfl

/-! ## The attention ring -/

/-- The slot of block `n` at some contents. -/
def slotM (c : Dev nD) (n : ℕ) : sProp 𝕄 :=
  iprop(∃ g, (sM n).view.loc (c : Thread nD τ) ↦[(sM n).view.set]{fullShare} g)
/-- That slot's share of the array. -/
def partM (c : Dev nD) (f : Buf (Elt F) ((Memref.whole main_arg1).view.loc (c : Thread nD τ))) (n : ℕ) : sProp 𝕄 := iprop((Memref.whole main_arg1).view.loc (c : Thread nD τ) ↦{sh n} f)
/-- That share away from block `n`. -/
def restM (c : Dev nD) (f : Buf (Elt F) ((Memref.whole main_arg1).view.loc (c : Thread nD τ))) (n : ℕ) : sProp 𝕄 :=
  iprop((bM n).view.loc (c : Thread nD τ) ↦[Finset.univ \ (bM n).view.set]{sh n} f)
/-- That share of block `n`. -/
abbrev lentM (c : Dev nD) (f : Buf (Elt F) ((Memref.whole main_arg1).view.loc (c : Thread nD τ))) (n : ℕ) : sProp 𝕄 :=
  iprop((bM n).view.loc (c : Thread nD τ) ↦[(bM n).view.set]{sh n} f)
/-- Block `n` of contents `f`. -/
def valM (c : Dev nD) (f : Buf (Elt F) ((Memref.whole main_arg1).view.loc (c : Thread nD τ))) (n : ℕ) : Vec F S1x1024x1024 .bf16 := (bM n).view.read (Elt F) f
/-- The transfer of block `n` into its slot, which it leaves at contents `fd`. -/
abbrev flM (c : Dev nD) (f : Buf (Elt F) ((Memref.whole main_arg1).view.loc (c : Thread nD τ))) (n : ℕ) (fd : Buf (Elt F) ((sM n).view.loc (c : Thread nD τ))) : sProp 𝕄 :=
  Transfers.Flight (countersEmb (U := Pipeline.UD sig nD τ)) (c : Thread nD τ) (.dma (cM n)) () 65536
    iprop(((sM n).view.loc (c : Thread nD τ) ↦[(sM n).view.set]{fullShare} fd) ∗ lentM c f n)
abbrev freeM (c : Dev nD) (f : Buf (Elt F) ((Memref.whole main_arg1).view.loc (c : Thread nD τ))) (n : ℕ) : sProp 𝕄 :=
  iprop(semVal ((c : Thread nD τ), SemLoc.dma (cM n)) 0 ∗ slotM c n ∗ partM c f n)
abbrev inflM (c : Dev nD) (f : Buf (Elt F) ((Memref.whole main_arg1).view.loc (c : Thread nD τ))) (n : ℕ) : sProp 𝕄 := iprop((∃ fd, ⌜(sM n).view.read (Elt F) fd = valM c f n⌝ ∗ flM c f n fd) ∗ restM c f n)
/-- The slot of block `n` before the block's trip: in flight while there is a block `n`, free past the end. -/
def roleM (c : Dev nD) (f : Buf (Elt F) ((Memref.whole main_arg1).view.loc (c : Thread nD τ))) (n : ℕ) : sProp 𝕄 := if n < 64 then inflM c f n else freeM c f n
theorem roleM_lt (c : Dev nD) (f : Buf (Elt F) ((Memref.whole main_arg1).view.loc (c : Thread nD τ))) (n : ℕ) (h : n < 64) : roleM c f n = inflM c f n := if_pos h
theorem roleM_ge (c : Dev nD) (f : Buf (Elt F) ((Memref.whole main_arg1).view.loc (c : Thread nD τ))) (n : ℕ) (h : ¬ n < 64) : roleM c f n = freeM c f n := if_neg h
theorem partM_split (c : Dev nD) (f : Buf (Elt F) ((Memref.whole main_arg1).view.loc (c : Thread nD τ))) (n : ℕ) : partM c f n ⊣⊢ iprop(lentM c f n ∗ restM c f n) :=
  pointsTo_split_subset (Finset.subset_univ _)
theorem slotM_eq (c : Dev nD) (n : ℕ) : slotM (F := F) c n = iprop(∃ g, (sM n).view.loc (c : Thread nD τ) ↦[(sM n).view.set]{fullShare} g) := rfl
theorem slotM_turn (c : Dev nD) (n : ℕ) : slotM (F := F) c (n + 3) = slotM c n :=
  congrArg (fun m : Memref sig .tc .vmem S1x1024x1024 .bf16 => (iprop(∃ g, m.view.loc (c : Thread nD τ) ↦[m.view.set]{fullShare} g) : sProp 𝕄)) (sM_turn n)
theorem freeM_turn (c : Dev nD) (f : Buf (Elt F) ((Memref.whole main_arg1).view.loc (c : Thread nD τ))) (n : ℕ) : freeM c f (n + 3) = freeM c f n := by
  rw [freeM, slotM_turn, cM_turn, partM, sh_turn]; rfl

/-! ## The gate ring -/

/-- The slot of block `n` at some contents. -/
def slotB (c : Dev nD) (n : ℕ) : sProp 𝕄 :=
  iprop(∃ g, (sB n).view.loc (c : Thread nD τ) ↦[(sB n).view.set]{fullShare} g)
/-- That slot's share of the array. -/
def partB (c : Dev nD) (f : Buf (Elt F) ((Memref.whole main_arg2).view.loc (c : Thread nD τ))) (n : ℕ) : sProp 𝕄 := iprop((Memref.whole main_arg2).view.loc (c : Thread nD τ) ↦{sh n} f)
/-- That share away from block `n`. -/
def restB (c : Dev nD) (f : Buf (Elt F) ((Memref.whole main_arg2).view.loc (c : Thread nD τ))) (n : ℕ) : sProp 𝕄 :=
  iprop((bB n).view.loc (c : Thread nD τ) ↦[Finset.univ \ (bB n).view.set]{sh n} f)
/-- That share of block `n`. -/
abbrev lentB (c : Dev nD) (f : Buf (Elt F) ((Memref.whole main_arg2).view.loc (c : Thread nD τ))) (n : ℕ) : sProp 𝕄 :=
  iprop((bB n).view.loc (c : Thread nD τ) ↦[(bB n).view.set]{sh n} f)
/-- Block `n` of contents `f`. -/
def valB (c : Dev nD) (f : Buf (Elt F) ((Memref.whole main_arg2).view.loc (c : Thread nD τ))) (n : ℕ) : Vec F S1x1024x1024 .f32 := (bB n).view.read (Elt F) f
/-- The transfer of block `n` into its slot, which it leaves at contents `fd`. -/
abbrev flB (c : Dev nD) (f : Buf (Elt F) ((Memref.whole main_arg2).view.loc (c : Thread nD τ))) (n : ℕ) (fd : Buf (Elt F) ((sB n).view.loc (c : Thread nD τ))) : sProp 𝕄 :=
  Transfers.Flight (countersEmb (U := Pipeline.UD sig nD τ)) (c : Thread nD τ) (.dma (cB n)) () 131072
    iprop(((sB n).view.loc (c : Thread nD τ) ↦[(sB n).view.set]{fullShare} fd) ∗ lentB c f n)
abbrev freeB (c : Dev nD) (f : Buf (Elt F) ((Memref.whole main_arg2).view.loc (c : Thread nD τ))) (n : ℕ) : sProp 𝕄 :=
  iprop(semVal ((c : Thread nD τ), SemLoc.dma (cB n)) 0 ∗ slotB c n ∗ partB c f n)
abbrev inflB (c : Dev nD) (f : Buf (Elt F) ((Memref.whole main_arg2).view.loc (c : Thread nD τ))) (n : ℕ) : sProp 𝕄 := iprop((∃ fd, ⌜(sB n).view.read (Elt F) fd = valB c f n⌝ ∗ flB c f n fd) ∗ restB c f n)
/-- The slot of block `n` before the block's trip: in flight while there is a block `n`, free past the end. -/
def roleB (c : Dev nD) (f : Buf (Elt F) ((Memref.whole main_arg2).view.loc (c : Thread nD τ))) (n : ℕ) : sProp 𝕄 := if n < 64 then inflB c f n else freeB c f n
theorem roleB_lt (c : Dev nD) (f : Buf (Elt F) ((Memref.whole main_arg2).view.loc (c : Thread nD τ))) (n : ℕ) (h : n < 64) : roleB c f n = inflB c f n := if_pos h
theorem roleB_ge (c : Dev nD) (f : Buf (Elt F) ((Memref.whole main_arg2).view.loc (c : Thread nD τ))) (n : ℕ) (h : ¬ n < 64) : roleB c f n = freeB c f n := if_neg h
theorem partB_split (c : Dev nD) (f : Buf (Elt F) ((Memref.whole main_arg2).view.loc (c : Thread nD τ))) (n : ℕ) : partB c f n ⊣⊢ iprop(lentB c f n ∗ restB c f n) :=
  pointsTo_split_subset (Finset.subset_univ _)
theorem slotB_eq (c : Dev nD) (n : ℕ) : slotB (F := F) c n = iprop(∃ g, (sB n).view.loc (c : Thread nD τ) ↦[(sB n).view.set]{fullShare} g) := rfl
theorem slotB_turn (c : Dev nD) (n : ℕ) : slotB (F := F) c (n + 3) = slotB c n :=
  congrArg (fun m : Memref sig .tc .vmem S1x1024x1024 .f32 => (iprop(∃ g, m.view.loc (c : Thread nD τ) ↦[m.view.set]{fullShare} g) : sProp 𝕄)) (sB_turn n)
theorem freeB_turn (c : Dev nD) (f : Buf (Elt F) ((Memref.whole main_arg2).view.loc (c : Thread nD τ))) (n : ℕ) : freeB c f (n + 3) = freeB c f n := by
  rw [freeB, slotB_turn, cB_turn, partB, sh_turn]; rfl

/-! ## The gated branch ring -/

/-- The slot of block `n` at some contents. -/
def slotH (c : Dev nD) (n : ℕ) : sProp 𝕄 :=
  iprop(∃ g, (sH n).view.loc (c : Thread nD τ) ↦[(sH n).view.set]{fullShare} g)
/-- That slot's share of the array. -/
def partH (c : Dev nD) (f : Buf (Elt F) ((Memref.whole main_arg3).view.loc (c : Thread nD τ))) (n : ℕ) : sProp 𝕄 := iprop((Memref.whole main_arg3).view.loc (c : Thread nD τ) ↦{sh n} f)
/-- That share away from block `n`. -/
def restH (c : Dev nD) (f : Buf (Elt F) ((Memref.whole main_arg3).view.loc (c : Thread nD τ))) (n : ℕ) : sProp 𝕄 :=
  iprop((bH n).view.loc (c : Thread nD τ) ↦[Finset.univ \ (bH n).view.set]{sh n} f)
/-- That share of block `n`. -/
abbrev lentH (c : Dev nD) (f : Buf (Elt F) ((Memref.whole main_arg3).view.loc (c : Thread nD τ))) (n : ℕ) : sProp 𝕄 :=
  iprop((bH n).view.loc (c : Thread nD τ) ↦[(bH n).view.set]{sh n} f)
/-- Block `n` of contents `f`. -/
def valH (c : Dev nD) (f : Buf (Elt F) ((Memref.whole main_arg3).view.loc (c : Thread nD τ))) (n : ℕ) : Vec F S1x1024x512 .bf16 := (bH n).view.read (Elt F) f
/-- The transfer of block `n` into its slot, which it leaves at contents `fd`. -/
abbrev flH (c : Dev nD) (f : Buf (Elt F) ((Memref.whole main_arg3).view.loc (c : Thread nD τ))) (n : ℕ) (fd : Buf (Elt F) ((sH n).view.loc (c : Thread nD τ))) : sProp 𝕄 :=
  Transfers.Flight (countersEmb (U := Pipeline.UD sig nD τ)) (c : Thread nD τ) (.dma (cH n)) () 32768
    iprop(((sH n).view.loc (c : Thread nD τ) ↦[(sH n).view.set]{fullShare} fd) ∗ lentH c f n)
abbrev freeH (c : Dev nD) (f : Buf (Elt F) ((Memref.whole main_arg3).view.loc (c : Thread nD τ))) (n : ℕ) : sProp 𝕄 :=
  iprop(semVal ((c : Thread nD τ), SemLoc.dma (cH n)) 0 ∗ slotH c n ∗ partH c f n)
abbrev inflH (c : Dev nD) (f : Buf (Elt F) ((Memref.whole main_arg3).view.loc (c : Thread nD τ))) (n : ℕ) : sProp 𝕄 := iprop((∃ fd, ⌜(sH n).view.read (Elt F) fd = valH c f n⌝ ∗ flH c f n fd) ∗ restH c f n)
/-- The slot of block `n` before the block's trip: in flight while there is a block `n`, free past the end. -/
def roleH (c : Dev nD) (f : Buf (Elt F) ((Memref.whole main_arg3).view.loc (c : Thread nD τ))) (n : ℕ) : sProp 𝕄 := if n < 64 then inflH c f n else freeH c f n
theorem roleH_lt (c : Dev nD) (f : Buf (Elt F) ((Memref.whole main_arg3).view.loc (c : Thread nD τ))) (n : ℕ) (h : n < 64) : roleH c f n = inflH c f n := if_pos h
theorem roleH_ge (c : Dev nD) (f : Buf (Elt F) ((Memref.whole main_arg3).view.loc (c : Thread nD τ))) (n : ℕ) (h : ¬ n < 64) : roleH c f n = freeH c f n := if_neg h
theorem partH_split (c : Dev nD) (f : Buf (Elt F) ((Memref.whole main_arg3).view.loc (c : Thread nD τ))) (n : ℕ) : partH c f n ⊣⊢ iprop(lentH c f n ∗ restH c f n) :=
  pointsTo_split_subset (Finset.subset_univ _)
theorem slotH_eq (c : Dev nD) (n : ℕ) : slotH (F := F) c n = iprop(∃ g, (sH n).view.loc (c : Thread nD τ) ↦[(sH n).view.set]{fullShare} g) := rfl
theorem slotH_turn (c : Dev nD) (n : ℕ) : slotH (F := F) c (n + 3) = slotH c n :=
  congrArg (fun m : Memref sig .tc .vmem S1x1024x512 .bf16 => (iprop(∃ g, m.view.loc (c : Thread nD τ) ↦[m.view.set]{fullShare} g) : sProp 𝕄)) (sH_turn n)
theorem freeH_turn (c : Dev nD) (f : Buf (Elt F) ((Memref.whole main_arg3).view.loc (c : Thread nD τ))) (n : ℕ) : freeH c f (n + 3) = freeH c f n := by
  rw [freeH, slotH_turn, cH_turn, partH, sh_turn]; rfl

/-! ## The result's slots -/

def slotO (c : Dev nD) (n : ℕ) : sProp 𝕄 :=
  iprop(∃ g, (sO n).view.loc (c : Thread nD τ) ↦[(sO n).view.set]{fullShare} g)
/-- The transfer of block `n` of the result from its slot: it leaves the block at `v`. -/
abbrev sentO (c : Dev nD) (n : ℕ) (v : Vec F S1x1024x1024 .f32) : sProp 𝕄 :=
  iprop(∃ (d : Buf (Elt F) ((bO n).view.loc (c : Thread nD τ))) (fs : Buf (Elt F) ((sO n).view.loc (c : Thread nD τ))), ⌜(bO n).view.read (Elt F) d = v⌝ ∗ Transfers.Flight (countersEmb (U := Pipeline.UD sig nD τ)) (c : Thread nD τ) (.dma (cO n)) () 131072
    iprop(((bO n).view.loc (c : Thread nD τ) ↦[(bO n).view.set]{fullShare} d) ∗ ((sO n).view.loc (c : Thread nD τ) ↦[(sO n).view.set]{fullShare} fs)))
abbrev freeO (c : Dev nD) (n : ℕ) : sProp 𝕄 := iprop(semVal ((c : Thread nD τ), SemLoc.dma (cO n)) 0 ∗ slotO c n)
theorem slotO_eq (c : Dev nD) (n : ℕ) : slotO (F := F) c n = iprop(∃ g, (sO n).view.loc (c : Thread nD τ) ↦[(sO n).view.set]{fullShare} g) := rfl
theorem slotO_turn (c : Dev nD) (n : ℕ) : slotO (F := F) c (n + 2) = slotO c n :=
  congrArg (fun m : Memref sig .tc .vmem S1x1024x1024 .f32 => (iprop(∃ g, m.view.loc (c : Thread nD τ) ↦[m.view.set]{fullShare} g) : sProp 𝕄)) (sO_turn n)
theorem freeO_turn (c : Dev nD) (n : ℕ) : freeO (F := F) c (n + 2) = freeO c n := by
  rw [freeO, slotO_turn, cO_turn]

/-- The merged block: what the body computes from the four operands' blocks and the staged weights. -/
def merged (w4 : Vec F S512x1024 .bf16) (w5 : Vec F S1024x1024 .bf16) (w6 : Vec F S1x1024 .f32) (x : Vec F S1x1024x1024 .f32)
    (a : Vec F S1x1024x1024 .bf16) (g : Vec F S1x1024x1024 .f32) (b : Vec F S1x1024x512 .bf16) : Vec F S1x1024x1024 .f32 :=
  k0_pay3 (k0_pay1 b w4 a g x w5) (k0_pay2 b w4 a g x w5) w6
/-- Block `n` of the merged result. -/
def outv (c : Dev nD) (w4 : Vec F S512x1024 .bf16) (w5 : Vec F S1024x1024 .bf16) (w6 : Vec F S1x1024 .f32)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (n : ℕ) : Vec F S1x1024x1024 .f32 :=
  merged w4 w5 w6 (valX c fX n) (valM c fM n) (valB c fB n) (valH c fH n)

end Cert.KernelIdeal.Deep
-- ==== Proof.TripBase.lean ====
/-
  One trip of the pipelined merge, from the transfers it finds in flight to those it leaves: the blocks of trip `k`
  arrive, block `k + 2` of every operand is asked for while there is one, the merged block is computed into the
  result's slot and sent off, and the block sent by the trip before has landed.
-/
module

public import proofs.«01_k».proof.Proof.State

@[expose] public section

set_option maxRecDepth 16384

noncomputable section

namespace Cert.KernelIdeal.Deep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The body of trip `k` at the words before it. -/
abbrev tripAt (arg4 : Memref sig .tc .vmem S512x1024 .bf16) (harg4 : arg4.IsWhole) (arg5 : Memref sig .tc .vmem S1024x1024 .bf16) (harg5 : arg5.IsWhole)
    (arg6 : Memref sig .tc .vmem S1x1024 .f32) (harg6 : arg6.IsWhole) (v19 v20 v61 v68 v77 v86 : BitVec 32) :=
  k0_t1_body (F := F) (Memref.whole main_arg0) (Memref.isWhole_whole _) (Memref.whole main_arg1) (Memref.isWhole_whole _) (Memref.whole main_arg2) (Memref.isWhole_whole _)
    (Memref.whole main_arg3) (Memref.isWhole_whole _) arg4 harg4 arg5 harg5 arg6 harg6 (Memref.whole main_v5) (Memref.isWhole_whole _)
    (Memref.whole cc0_scoped0) (Memref.isWhole_whole _) cc0_scoped1 (Memref.whole cc0_scoped2) (Memref.isWhole_whole _) cc0_scoped3
    (Memref.whole cc0_scoped4) (Memref.isWhole_whole _) cc0_scoped5 (Memref.whole cc0_scoped6) (Memref.isWhole_whole _) cc0_scoped7
    (Memref.whole cc0_scoped8) (Memref.isWhole_whole _) cc0_scoped9 v19 v20 v61 v68 v77 v86

theorem owns_eq (c : Dev nD) {sp : Space} {s : Shape} {e : EltTy} (m : Memref sig .tc sp s e) (q : PosShare TreeShare) (v : Vec F s e) :
    (owns (c : Thread nD τ) m q v : sProp 𝕄) = iprop(∃ f, ⌜m.view.read (Elt F) f = v⌝ ∗ (m.view.loc (c : Thread nD τ) ↦[m.view.set]{q} f)) := rfl
theorem owns_of_read (c : Dev nD) {sp : Space} {s : Shape} {e : EltTy} (m : Memref sig .tc sp s e) (q : PosShare TreeShare) (v : Vec F s e)
    (f : Buf (Elt F) (m.view.loc (c : Thread nD τ))) (h : m.view.read (Elt F) f = v) :
    (m.view.loc (c : Thread nD τ) ↦[m.view.set]{q} f : sProp 𝕄) ⊢ owns (c : Thread nD τ) m q v := by
  rw [owns_eq]; iintro H; iexists f; isplitr
  · ipureintro; exact h
  iexact H

/-- The weights the trips read, staged. -/
abbrev weights (c : Dev nD) (arg4 : Memref sig .tc .vmem S512x1024 .bf16) (arg5 : Memref sig .tc .vmem S1024x1024 .bf16) (arg6 : Memref sig .tc .vmem S1x1024 .f32)
    (q4 q5 q6 : PosShare TreeShare) (w4 : Vec F S512x1024 .bf16) (w5 : Vec F S1024x1024 .bf16) (w6 : Vec F S1x1024 .f32) : sProp 𝕄 :=
  iprop(owns (c : Thread nD τ) arg4 q4 w4 ∗ owns (c : Thread nD τ) arg5 q5 w5 ∗ owns (c : Thread nD τ) arg6 q6 w6)

theorem merged_congr {w4 w4' : Vec F S512x1024 .bf16} {w5 w5' : Vec F S1024x1024 .bf16} {w6 w6' : Vec F S1x1024 .f32} {x x' : Vec F S1x1024x1024 .f32}
    {a a' : Vec F S1x1024x1024 .bf16} {g g' : Vec F S1x1024x1024 .f32} {b b' : Vec F S1x1024x512 .bf16}
    (h4 : w4 = w4') (h5 : w5 = w5') (h6 : w6 = w6') (hx : x = x') (ha : a = a') (hg : g = g') (hb : b = b') :
    merged w4 w5 w6 x a g b = merged w4' w5' w6' x' a' g' b' := by
  subst h4 h5 h6 hx ha hg hb; rfl

/-- The block a trip stores, from what its loads read, is `outv`. -/
theorem stored_eq (c : Dev nD) {arg4 : Memref sig .tc .vmem S512x1024 .bf16} {arg5 : Memref sig .tc .vmem S1024x1024 .bf16}
    {arg6 : Memref sig .tc .vmem S1x1024 .f32}
    {fX : Buf (Elt F) ((Memref.whole main_arg0).view.loc (c : Thread nD τ))} {fM : Buf (Elt F) ((Memref.whole main_arg1).view.loc (c : Thread nD τ))}
    {fB : Buf (Elt F) ((Memref.whole main_arg2).view.loc (c : Thread nD τ))} {fH : Buf (Elt F) ((Memref.whole main_arg3).view.loc (c : Thread nD τ))}
    {w4 : Vec F S512x1024 .bf16} {w5 : Vec F S1024x1024 .bf16} {w6 : Vec F S1x1024 .f32} {n : ℕ}
    {f4 : Buf (Elt F) (arg4.view.loc (c : Thread nD τ))} {f5 : Buf (Elt F) (arg5.view.loc (c : Thread nD τ))} {f6 : Buf (Elt F) (arg6.view.loc (c : Thread nD τ))}
    {gX : Buf (Elt F) ((sX n).view.loc (c : Thread nD τ))} {gM : Buf (Elt F) ((sM n).view.loc (c : Thread nD τ))}
    {gB : Buf (Elt F) ((sB n).view.loc (c : Thread nD τ))} {gH : Buf (Elt F) ((sH n).view.loc (c : Thread nD τ))}
    (h4 : arg4.view.read (Elt F) f4 = w4) (h5 : arg5.view.read (Elt F) f5 = w5) (h6 : arg6.view.read (Elt F) f6 = w6)
    (hX : (sX n).view.read (Elt F) gX = valX c fX n) (hM : (sM n).view.read (Elt F) gM = valM c fM n)
    (hB : (sB n).view.read (Elt F) gB = valB c fB n) (hH : (sH n).view.read (Elt F) gH = valH c fH n)
    {r4 : ∀ a, (![0, 0] : Fin 2 → ℕ) a + S512x1024.size a ≤ S512x1024.size a} {r5 : ∀ a, (![0, 0] : Fin 2 → ℕ) a + S1024x1024.size a ≤ S1024x1024.size a}
    {r6 : ∀ a, (![0, 0] : Fin 2 → ℕ) a + S1x1024.size a ≤ S1x1024.size a}
    {rX : ∀ a, (![0, 0, 0] : Fin 3 → ℕ) a + S1x1024x1024.size a ≤ S1x1024x1024.size a} {rH : ∀ a, (![0, 0, 0] : Fin 3 → ℕ) a + S1x1024x512.size a ≤ S1x1024x512.size a} :
    merged (arg4.view.readAt (Elt F) (Rect.unit ![0, 0] S512x1024.size r4).toLoadRect f4) (arg5.view.readAt (Elt F) (Rect.unit ![0, 0] S1024x1024.size r5).toLoadRect f5)
        (arg6.view.readAt (Elt F) (Rect.unit ![0, 0] S1x1024.size r6).toLoadRect f6)
        ((sX n).view.readAt (Elt F) (Rect.unit ![0, 0, 0] S1x1024x1024.size rX).toLoadRect gX)
        ((sM n).view.readAt (Elt F) (Rect.unit ![0, 0, 0] S1x1024x1024.size rX).toLoadRect gM)
        ((sB n).view.readAt (Elt F) (Rect.unit ![0, 0, 0] S1x1024x1024.size rX).toLoadRect gB)
        ((sH n).view.readAt (Elt F) (Rect.unit ![0, 0, 0] S1x1024x512.size rH).toLoadRect gH)
      = outv c w4 w5 w6 fX fM fB fH n := by
  unfold outv
  exact merged_congr ((View.readAt_full _ _ _).trans h4) ((View.readAt_full _ _ _).trans h5) ((View.readAt_full _ _ _).trans h6)
    ((View.readAt_full _ _ _).trans hX) ((View.readAt_full _ _ _).trans hM) ((View.readAt_full _ _ _).trans hB) ((View.readAt_full _ _ _).trans hH)

end Cert.KernelIdeal.Deep
-- ==== Proof.Output.lean ====
/-
  The result array by blocks: what is not yet written, what has landed, and how a landed block joins the latter.
-/
module

public import proofs.«01_k».proof.Proof.TripBase

@[expose] public section

set_option maxRecDepth 16384

noncomputable section

namespace Cert.KernelIdeal.Deep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The number of the block an element of the result lies in. -/
def bnum (i : S8x8192x1024.Idx) : ℕ := 8 * (i 0).val + (i 1).val / 1024
theorem bnum_lt (i : S8x8192x1024.Idx) : bnum i < 64 := by
  have h0 : (i 0).val < 8 := (i 0).isLt
  have h1 : (i 1).val < 8192 := (i 1).isLt
  unfold bnum; omega

/-- Its place within that block. -/
def inner (i : S8x8192x1024.Idx) : S1x1024x1024.Idx := fun
  | 0 => (⟨0, by decide⟩ : Fin 1)
  | 1 => (⟨(i 1).val % 1024, Nat.mod_lt _ (by decide)⟩ : Fin 1024)
  | 2 => i 2

/-- The elements of blocks `n` and on, and of the blocks before `n`. -/
def upFrom (n : ℕ) : Finset S8x8192x1024.Idx := Finset.univ.filter fun i => n ≤ bnum i
def upTo (n : ℕ) : Finset S8x8192x1024.Idx := Finset.univ.filter fun i => bnum i < n

/-- Block `n`'s elements. -/
def blk (n : ℕ) : Finset S8x8192x1024.Idx :=
  (Rect.unit (s := S8x8192x1024) ![n % 64 / 8, 1024 * (n % 64 % 8), 0] S1x1024x1024.size (inbB n)).set
theorem blk_eq (n : ℕ) : (bO n).view.set = blk n := View.set_slice_whole _ _
theorem pt_blk (c : Dev nD) (n : ℕ) (f : Buf (Elt F) ((Memref.whole main_v5).view.loc (c : Thread nD τ))) :
    (((bO n).view.loc (c : Thread nD τ) ↦[(bO n).view.set]{fullShare} f) : sProp 𝕄)
      = ((Memref.whole main_v5).view.loc (c : Thread nD τ) ↦[blk n]{fullShare} f) :=
  congrArg (fun S : Finset S8x8192x1024.Idx => (((Memref.whole main_v5).view.loc (c : Thread nD τ) ↦[S]{fullShare} f) : sProp 𝕄)) (blk_eq n)

/-- Block `n` of the result is the elements numbered `n`. -/
theorem mem_block (n : ℕ) (hn : n < 64) (i : S8x8192x1024.Idx) : i ∈ blk n ↔ bnum i = n := by
  have h0 : (i 0).val < 8 := (i 0).isLt
  have h1 : (i 1).val < 8192 := (i 1).isLt
  have h2 : (i 2).val < 1024 := (i 2).isLt
  rw [blk, Rect.mem_set_unit]
  constructor
  · intro h
    have a0 : n % 64 / 8 ≤ (i 0).val ∧ (i 0).val < n % 64 / 8 + 1 := h 0
    have a1 : 1024 * (n % 64 % 8) ≤ (i 1).val ∧ (i 1).val < 1024 * (n % 64 % 8) + 1024 := h 1
    unfold bnum; omega
  · intro h a
    unfold bnum at h
    fin_cases a
    · show n % 64 / 8 ≤ (i 0).val ∧ (i 0).val < n % 64 / 8 + 1; omega
    · show 1024 * (n % 64 % 8) ≤ (i 1).val ∧ (i 1).val < 1024 * (n % 64 % 8) + 1024; omega
    · show 0 ≤ (i 2).val ∧ (i 2).val < 0 + 1024; omega

/-- Where an element of block `n` sits in the result. -/
def place (n : ℕ) (x : S1x1024x1024.Idx) : S8x8192x1024.Idx := (bO n).view.emb x
theorem place_mem (n : ℕ) (x : S1x1024x1024.Idx) : place n x ∈ blk n := by
  rw [← blk_eq]; exact (bO n).view.emb_mem_set x
theorem inner_place (n : ℕ) (x : S1x1024x1024.Idx) : inner (place n x) = x := by
  have h0 : (x 0).val < 1 := (x 0).isLt
  have h1 : (x 1).val < 1024 := (x 1).isLt
  have e0 : (place n x 1).val = 1024 * (n % 64 % 8) + 1 * (x 1).val := rfl
  have e2 : (place n x 2).val = 0 + 1 * (x 2).val := rfl
  funext a; fin_cases a
  · apply Fin.ext; show 0 = (x 0).val; omega
  · apply Fin.ext; show (place n x 1).val % 1024 = (x 1).val; omega
  · apply Fin.ext; show (place n x 2).val = (x 2).val; omega
theorem of_mem (n : ℕ) (i : S8x8192x1024.Idx) (h : i ∈ blk n) : ∃ x, i = place n x := by
  rw [← blk_eq] at h
  obtain ⟨x, -, rfl⟩ := Finset.mem_map.1 h
  exact ⟨x, rfl⟩

/-- What the result holds in the end: every block the merge of the operands' blocks. -/
def gout (c : Dev nD) (w4 : Vec F S512x1024 .bf16) (w5 : Vec F S1024x1024 .bf16) (w6 : Vec F S1x1024 .f32)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ))) :
    Buf (Elt F) ((Memref.whole main_v5).view.loc (c : Thread nD τ)) :=
  fun i => outv c w4 w5 w6 fX fM fB fH (bnum i) (inner i)

/-- The blocks from `n` on, at some contents. -/
def aheadO (c : Dev nD) (n : ℕ) : sProp 𝕄 :=
  iprop(∃ f, (Memref.whole main_v5).view.loc (c : Thread nD τ) ↦[upFrom n]{fullShare} f)
/-- The blocks before `n`, at contents `g`. -/
def behindO (c : Dev nD) (g : Buf (Elt F) ((Memref.whole main_v5).view.loc (c : Thread nD τ))) (n : ℕ) : sProp 𝕄 :=
  iprop((Memref.whole main_v5).view.loc (c : Thread nD τ) ↦[upTo n]{fullShare} g)

/-- The next block taken off the unwritten ones. -/
theorem aheadO_take (c : Dev nD) (n : ℕ) (hn : n < 64) :
    aheadO (F := F) c n ⊢ iprop((∃ d, (bO n).view.loc (c : Thread nD τ) ↦[(bO n).view.set]{fullShare} d) ∗ aheadO c (n + 1)) := by
  have hs : blk n ⊆ upFrom n := fun i hi => by
    rw [upFrom, Finset.mem_filter]; exact ⟨Finset.mem_univ _, ((mem_block n hn i).1 hi).ge⟩
  have hd : upFrom n \ blk n = upFrom (n + 1) := by
    ext i
    rw [Finset.mem_sdiff, mem_block n hn i, upFrom, upFrom, Finset.mem_filter, Finset.mem_filter]
    simp only [Finset.mem_univ, true_and]; omega
  unfold aheadO
  iintro ⟨%f, H⟩
  ihave H := (pointsTo_split_subset (ℓ := (Memref.whole main_v5).view.loc (c : Thread nD τ)) (q := fullShare) (f := f) hs).1 $$ H
  icases H with ⟨H1, H2⟩
  isplitl [H1]
  · iexists f; iapply (Entails.of_eq (pt_blk c n f).symm); iexact H1
  iexists f
  iapply (Entails.of_eq (congrArg (fun S : Finset S8x8192x1024.Idx => (((Memref.whole main_v5).view.loc (c : Thread nD τ) ↦[S]{fullShare} f) : sProp 𝕄)) hd))
  iexact H2

/-- A landed block joins the ones before it. -/
theorem behindO_join (c : Dev nD) (w4 : Vec F S512x1024 .bf16) (w5 : Vec F S1024x1024 .bf16) (w6 : Vec F S1x1024 .f32)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (n : ℕ) (hn : n < 64) :
    iprop(behindO c (gout c w4 w5 w6 fX fM fB fH) n ∗ owns (c : Thread nD τ) (bO n) fullShare (outv c w4 w5 w6 fX fM fB fH n))
      ⊢ behindO c (gout c w4 w5 w6 fX fM fB fH) (n + 1) := by
  have hd : Disjoint (upTo n) (blk n) := Finset.disjoint_left.2 fun i hi hj => by
    rw [upTo, Finset.mem_filter] at hi
    have := (mem_block n hn i).1 hj; omega
  have hu : upTo n ∪ blk n = upTo (n + 1) := by
    ext i
    rw [Finset.mem_union, mem_block n hn i, upTo, upTo, Finset.mem_filter, Finset.mem_filter]
    simp only [Finset.mem_univ, true_and]; omega
  unfold behindO
  rw [owns_eq]
  iintro ⟨H1, ⟨%f, %hf, H2⟩⟩
  have hg : ∀ i ∈ blk n, f i = gout c w4 w5 w6 fX fM fB fH i := by
    intro i hi
    have hb := (mem_block n hn _).1 hi
    obtain ⟨x, rfl⟩ := of_mem n i hi
    show f (place n x) = outv c w4 w5 w6 fX fM fB fH (bnum (place n x)) (inner (place n x))
    rw [hb, inner_place n x, ← hf]; rfl
  ihave H2 := (Entails.of_eq (pt_blk c n f)) $$ H2
  ihave H2 := (Entails.of_eq (pointsTo_congr (ℓ := (Memref.whole main_v5).view.loc (c : Thread nD τ)) (q := fullShare) hg)) $$ H2
  iapply (Entails.of_eq (congrArg (fun S : Finset S8x8192x1024.Idx => (((Memref.whole main_v5).view.loc (c : Thread nD τ) ↦[S]{fullShare} gout c w4 w5 w6 fX fM fB fH) : sProp 𝕄)) hu))
  iapply (pointsTo_union (ℓ := (Memref.whole main_v5).view.loc (c : Thread nD τ)) (q := fullShare) hd).2
  isplitl [H1]; · iexact H1
  iexact H2

theorem upFrom_zero : upFrom 0 = Finset.univ := by
  unfold upFrom; exact Finset.filter_true_of_mem fun _ _ => Nat.zero_le _
theorem upTo_zero : upTo 0 = ∅ := by
  unfold upTo; exact Finset.filter_false_of_mem fun _ _ => Nat.not_lt_zero _
theorem upTo_all : upTo 64 = Finset.univ := by
  unfold upTo; exact Finset.filter_true_of_mem fun i _ => bnum_lt i

/-- Before the first block: the result whole, at anything; -/
theorem aheadO_start (c : Dev nD) : iprop(∃ f, (Memref.whole main_v5).view.loc (c : Thread nD τ) ↦{fullShare} f) ⊢ aheadO (F := F) c 0 := by
  unfold aheadO; rw [upFrom_zero]
theorem behindO_start (c : Dev nD) (g : Buf (Elt F) ((Memref.whole main_v5).view.loc (c : Thread nD τ))) : emp ⊢ behindO c g 0 := by
  unfold behindO; rw [upTo_zero]; exact Entails.of_eq pointsTo_empty.symm
/-- after the last: the result whole, at the merged contents. -/
theorem behindO_end (c : Dev nD) (g : Buf (Elt F) ((Memref.whole main_v5).view.loc (c : Thread nD τ))) :
    behindO c g 64 ⊢ iprop((Memref.whole main_v5).view.loc (c : Thread nD τ) ↦{fullShare} g) := by
  unfold behindO; rw [upTo_all]

end Cert.KernelIdeal.Deep
-- ==== Proof.TripFirst.lean ====
/-
  One trip of the pipelined merge, from the transfers it finds in flight to those it leaves: the blocks of trip `k`
  arrive, block `k + 2` of every operand is asked for while there is one, the merged block is computed into the
  result's slot and sent off, and the block sent by the trip before has landed.
-/
module

public import proofs.«01_k».proof.Proof.TripBase

@[expose] public section

set_option maxRecDepth 16384

noncomputable section

namespace Cert.KernelIdeal.Deep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
set_option synthInstance.maxSize 4096 in
set_option synthInstance.maxHeartbeats 400000 in
/-- The first trip: blocks 2 are asked for, nothing has been sent before. -/
theorem trip_first (c : Dev nD) (arg4 : Memref sig .tc .vmem S512x1024 .bf16) (harg4 : arg4.IsWhole) (arg5 : Memref sig .tc .vmem S1024x1024 .bf16) (harg5 : arg5.IsWhole)
    (arg6 : Memref sig .tc .vmem S1x1024 .f32) (harg6 : arg6.IsWhole) (v19 v20 v61 v68 v77 v86 : BitVec 32)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (q4 q5 q6 : PosShare TreeShare) (w4 : Vec F S512x1024 .bf16) (w5 : Vec F S1024x1024 .bf16) (w6 : Vec F S1x1024 .f32)
    (k : Fin k0_t1_loop.trips) (hk : k.val < 62) (hk1 : k.val = 0) :
    iprop(inflX c fX k.val ∗ inflM c fM k.val ∗ inflB c fB k.val ∗ inflH c fH k.val ∗ freeX c fX (k.val + 2) ∗ freeM c fM (k.val + 2) ∗ freeB c fB (k.val + 2) ∗ freeH c fH (k.val + 2) ∗ weights c arg4 arg5 arg6 q4 q5 q6 w4 w5 w6 ∗ freeO c k.val ∗ (∃ d, (bO k.val).view.loc (c : Thread nD τ) ↦[(bO k.val).view.set]{fullShare} d) ∗ (∃ W, owes (c : Thread nD τ) 0 W))
      ⊢ wp frame (wpE (defs₀ (F := F)) Variants.none (c : Thread nD τ) none) Set.univ (tripAt arg4 harg4 arg5 harg5 arg6 harg6 v19 v20 v61 v68 v77 v86 k (Wd k.val))
          (fun r => iprop(⌜r = Wd (k.val + 1)⌝ ∗ freeX c fX k.val ∗ freeM c fM k.val ∗ freeB c fB k.val ∗ freeH c fH k.val ∗ inflX c fX (k.val + 2) ∗ inflM c fM (k.val + 2) ∗ inflB c fB (k.val + 2) ∗ inflH c fH (k.val + 2) ∗ weights c arg4 arg5 arg6 q4 q5 q6 w4 w5 w6 ∗ sentO c k.val (outv c w4 w5 w6 fX fM fB fH k.val) ∗ ∃ W, owes (c : Thread nD τ) 0 W)) := by
  have h1 := chk1 k; have h2 := chk2 k; have h3 := chk3 k; have h4 := chk4 k; have h5 := chk5 k; have h6 := chk6 k
  have d5 := (cond5 k).2 hk; have d6 := (cond6 k).2 hk; have d7 := (cond7 k).2 hk; have d8 := (cond8 k).2 hk
  have d9 := cond9 k; have d10 := cond10 k; have d11 := cond11 k; have d12 := cond12 k; have d18 := cond18 k
  have d23 : ¬ k0_cond23 k (wI k) (wJ k) = 1#1 := fun h => by have := (cond23 k).1 h; omega
  have eX := partX_split c fX (k.val + 2)
  have eM := partM_split c fM (k.val + 2)
  have eB := partB_split c fB (k.val + 2)
  have eH := partH_split c fH (k.val + 2)
  iintro ⟨⟨⟨%gX, %rX, HX⟩, HrX⟩, ⟨⟨%gM, %rM, HM⟩, HrM⟩, ⟨⟨%gB, %rB, HB⟩, HrB⟩, ⟨⟨%gH, %rH, HH⟩, HrH⟩, ⟨HcX, HeX, HpX⟩, ⟨HcM, HeM, HpM⟩, ⟨HcB, HeB, HpB⟩, ⟨HcH, HeH, HpH⟩, ⟨H4, H5, H6⟩, ⟨HcO, HgO⟩, ⟨%dO, HbO⟩, ⟨%W, HW⟩⟩
  ihave HlX := eX.1 $$ HpX
  icases HlX with ⟨HlX, HnX⟩
  ihave HlM := eM.1 $$ HpM
  icases HlM with ⟨HlM, HnM⟩
  ihave HlB := eB.1 $$ HpB
  icases HlB with ⟨HlB, HnB⟩
  ihave HlH := eH.1 $$ HpH
  icases HlH with ⟨HlH, HnH⟩
  ihave HEX := (Entails.of_eq (slotX_eq c (k.val + 2))) $$ HeX
  icases HEX with ⟨%eX', HeX⟩
  ihave HEM := (Entails.of_eq (slotM_eq c (k.val + 2))) $$ HeM
  icases HEM with ⟨%eM', HeM⟩
  ihave HEB := (Entails.of_eq (slotB_eq c (k.val + 2))) $$ HeB
  icases HEB with ⟨%eB', HeB⟩
  ihave HEH := (Entails.of_eq (slotH_eq c (k.val + 2))) $$ HeH
  icases HEH with ⟨%eH', HeH⟩
  ihave HE4 := (Entails.of_eq (owns_eq c arg4 q4 w4)) $$ H4
  icases HE4 with ⟨%f4, %r4, H4⟩
  ihave HE5 := (Entails.of_eq (owns_eq c arg5 q5 w5)) $$ H5
  icases HE5 with ⟨%f5, %r5, H5⟩
  ihave HE6 := (Entails.of_eq (owns_eq c arg6 q6 w6)) $$ H6
  icases HE6 with ⟨%f6, %r6, H6⟩
  ihave HEO := (Entails.of_eq (slotO_eq c k.val)) $$ HgO
  icases HEO with ⟨%gO, HgO⟩
  unfold tripAt k0_t1_body
  sl_exec
  sl_step
  isplitr
  · ipureintro
    clear * - k
    simp only [Prod.mk.injEq]
    refine ⟨?_, ?_, ?_, ?_, ?_, ?_, ?_, ?_, ?_, ?_, ?_, ?_⟩ <;> (revert k; decide +kernel)
  isplitl [HX HX_dst HX_src HrX]
  · isplitl [HX]; · iexact HX
    isplitl [HX_dst]; · iapply (Entails.of_eq (slotX_eq c k.val).symm); iexists _; iexact HX_dst
    iapply (partX_split c fX k.val).2
    isplitl [HX_src]; · iexact HX_src
    iexact HrX
  isplitl [HM HM_dst HM_src HrM]
  · isplitl [HM]; · iexact HM
    isplitl [HM_dst]; · iapply (Entails.of_eq (slotM_eq c k.val).symm); iexists _; iexact HM_dst
    iapply (partM_split c fM k.val).2
    isplitl [HM_src]; · iexact HM_src
    iexact HrM
  isplitl [HB HB_dst HB_src HrB]
  · isplitl [HB]; · iexact HB
    isplitl [HB_dst]; · iapply (Entails.of_eq (slotB_eq c k.val).symm); iexists _; iexact HB_dst
    iapply (partB_split c fB k.val).2
    isplitl [HB_src]; · iexact HB_src
    iexact HrB
  isplitl [HH HH_dst HH_src HrH]
  · isplitl [HH]; · iexact HH
    isplitl [HH_dst]; · iapply (Entails.of_eq (slotH_eq c k.val).symm); iexists _; iexact HH_dst
    iapply (partH_split c fH k.val).2
    isplitl [HH_src]; · iexact HH_src
    iexact HrH
  isplitl [HcX HnX]
  · isplitl [HcX]
    · iexists _; isplitr
      swap; · iexact HcX
      ipureintro; exact View.read_writes_whole _ _ _
    iexact HnX
  isplitl [HcM HnM]
  · isplitl [HcM]
    · iexists _; isplitr
      swap; · iexact HcM
      ipureintro; exact View.read_writes_whole _ _ _
    iexact HnM
  isplitl [HcB HnB]
  · isplitl [HcB]
    · iexists _; isplitr
      swap; · iexact HcB
      ipureintro; exact View.read_writes_whole _ _ _
    iexact HnB
  isplitl [HcH HnH]
  · isplitl [HcH]
    · iexists _; isplitr
      swap; · iexact HcH
      ipureintro; exact View.read_writes_whole _ _ _
    iexact HnH
  isplitl [H4 H5 H6]
  · isplitl [H4]; · iapply (owns_of_read c arg4 q4 w4 f4 r4); iexact H4
    isplitl [H5]; · iapply (owns_of_read c arg5 q5 w5 f5 r5); iexact H5
    iapply (owns_of_read c arg6 q6 w6 f6 r6); iexact H6
  isplitl [HcO]
  · iexists _; iexists _; isplitr
    swap; · iexact HcO
    ipureintro
    exact (View.read_writes_whole _ _ _).trans ((View.read_writes_full _ _ _ _ []).trans (stored_eq c r4 r5 r6 rX rM rB rH))
  iexists _; iexact HW

end Cert.KernelIdeal.Deep
-- ==== Proof.TripMid.lean ====
/-
  One trip of the pipelined merge, from the transfers it finds in flight to those it leaves: the blocks of trip `k`
  arrive, block `k + 2` of every operand is asked for while there is one, the merged block is computed into the
  result's slot and sent off, and the block sent by the trip before has landed.
-/
module

public import proofs.«01_k».proof.Proof.TripBase

@[expose] public section

set_option maxRecDepth 16384

noncomputable section

namespace Cert.KernelIdeal.Deep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
set_option synthInstance.maxSize 4096 in
set_option synthInstance.maxHeartbeats 400000 in
/-- A trip with a block sent before it and blocks `k + 2` to ask for. -/
theorem trip_mid (c : Dev nD) (arg4 : Memref sig .tc .vmem S512x1024 .bf16) (harg4 : arg4.IsWhole) (arg5 : Memref sig .tc .vmem S1024x1024 .bf16) (harg5 : arg5.IsWhole)
    (arg6 : Memref sig .tc .vmem S1x1024 .f32) (harg6 : arg6.IsWhole) (v19 v20 v61 v68 v77 v86 : BitVec 32)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (q4 q5 q6 : PosShare TreeShare) (w4 : Vec F S512x1024 .bf16) (w5 : Vec F S1024x1024 .bf16) (w6 : Vec F S1x1024 .f32)
    (k : Fin k0_t1_loop.trips) (hk : k.val < 62) (hk1 : 1 ≤ k.val) (v' : Vec F S1x1024x1024 .f32) :
    iprop(inflX c fX k.val ∗ inflM c fM k.val ∗ inflB c fB k.val ∗ inflH c fH k.val ∗ freeX c fX (k.val + 2) ∗ freeM c fM (k.val + 2) ∗ freeB c fB (k.val + 2) ∗ freeH c fH (k.val + 2) ∗ weights c arg4 arg5 arg6 q4 q5 q6 w4 w5 w6 ∗ freeO c k.val ∗ (∃ d, (bO k.val).view.loc (c : Thread nD τ) ↦[(bO k.val).view.set]{fullShare} d) ∗ sentO c (k.val - 1) v' ∗ (∃ W, owes (c : Thread nD τ) 0 W))
      ⊢ wp frame (wpE (defs₀ (F := F)) Variants.none (c : Thread nD τ) none) Set.univ (tripAt arg4 harg4 arg5 harg5 arg6 harg6 v19 v20 v61 v68 v77 v86 k (Wd k.val))
          (fun r => iprop(⌜r = Wd (k.val + 1)⌝ ∗ freeX c fX k.val ∗ freeM c fM k.val ∗ freeB c fB k.val ∗ freeH c fH k.val ∗ inflX c fX (k.val + 2) ∗ inflM c fM (k.val + 2) ∗ inflB c fB (k.val + 2) ∗ inflH c fH (k.val + 2) ∗ weights c arg4 arg5 arg6 q4 q5 q6 w4 w5 w6 ∗ sentO c k.val (outv c w4 w5 w6 fX fM fB fH k.val) ∗ freeO c (k.val - 1) ∗ owns (c : Thread nD τ) (bO (k.val - 1)) fullShare v' ∗ ∃ W, owes (c : Thread nD τ) 0 W)) := by
  have h1 := chk1 k; have h2 := chk2 k; have h3 := chk3 k; have h4 := chk4 k; have h5 := chk5 k; have h6 := chk6 k
  have d5 := (cond5 k).2 hk; have d6 := (cond6 k).2 hk; have d7 := (cond7 k).2 hk; have d8 := (cond8 k).2 hk
  have d9 := cond9 k; have d10 := cond10 k; have d11 := cond11 k; have d12 := cond12 k; have d18 := cond18 k
  have d23 := (cond23 k).2 hk1
  have eX := partX_split c fX (k.val + 2)
  have eM := partM_split c fM (k.val + 2)
  have eB := partB_split c fB (k.val + 2)
  have eH := partH_split c fH (k.val + 2)
  iintro ⟨⟨⟨%gX, %rX, HX⟩, HrX⟩, ⟨⟨%gM, %rM, HM⟩, HrM⟩, ⟨⟨%gB, %rB, HB⟩, HrB⟩, ⟨⟨%gH, %rH, HH⟩, HrH⟩, ⟨HcX, HeX, HpX⟩, ⟨HcM, HeM, HpM⟩, ⟨HcB, HeB, HpB⟩, ⟨HcH, HeH, HpH⟩, ⟨H4, H5, H6⟩, ⟨HcO, HgO⟩, ⟨%dO, HbO⟩, ⟨%dP, %fP, %rP, HfO⟩, ⟨%W, HW⟩⟩
  ihave HlX := eX.1 $$ HpX
  icases HlX with ⟨HlX, HnX⟩
  ihave HlM := eM.1 $$ HpM
  icases HlM with ⟨HlM, HnM⟩
  ihave HlB := eB.1 $$ HpB
  icases HlB with ⟨HlB, HnB⟩
  ihave HlH := eH.1 $$ HpH
  icases HlH with ⟨HlH, HnH⟩
  ihave HEX := (Entails.of_eq (slotX_eq c (k.val + 2))) $$ HeX
  icases HEX with ⟨%eX', HeX⟩
  ihave HEM := (Entails.of_eq (slotM_eq c (k.val + 2))) $$ HeM
  icases HEM with ⟨%eM', HeM⟩
  ihave HEB := (Entails.of_eq (slotB_eq c (k.val + 2))) $$ HeB
  icases HEB with ⟨%eB', HeB⟩
  ihave HEH := (Entails.of_eq (slotH_eq c (k.val + 2))) $$ HeH
  icases HEH with ⟨%eH', HeH⟩
  ihave HE4 := (Entails.of_eq (owns_eq c arg4 q4 w4)) $$ H4
  icases HE4 with ⟨%f4, %r4, H4⟩
  ihave HE5 := (Entails.of_eq (owns_eq c arg5 q5 w5)) $$ H5
  icases HE5 with ⟨%f5, %r5, H5⟩
  ihave HE6 := (Entails.of_eq (owns_eq c arg6 q6 w6)) $$ H6
  icases HE6 with ⟨%f6, %r6, H6⟩
  ihave HEO := (Entails.of_eq (slotO_eq c k.val)) $$ HgO
  icases HEO with ⟨%gO, HgO⟩
  unfold tripAt k0_t1_body
  sl_exec
  sl_step
  isplitr
  · ipureintro
    clear * - k
    simp only [Prod.mk.injEq]
    refine ⟨?_, ?_, ?_, ?_, ?_, ?_, ?_, ?_, ?_, ?_, ?_, ?_⟩ <;> (revert k; decide +kernel)
  isplitl [HX HX_dst HX_src HrX]
  · isplitl [HX]; · iexact HX
    isplitl [HX_dst]; · iapply (Entails.of_eq (slotX_eq c k.val).symm); iexists _; iexact HX_dst
    iapply (partX_split c fX k.val).2
    isplitl [HX_src]; · iexact HX_src
    iexact HrX
  isplitl [HM HM_dst HM_src HrM]
  · isplitl [HM]; · iexact HM
    isplitl [HM_dst]; · iapply (Entails.of_eq (slotM_eq c k.val).symm); iexists _; iexact HM_dst
    iapply (partM_split c fM k.val).2
    isplitl [HM_src]; · iexact HM_src
    iexact HrM
  isplitl [HB HB_dst HB_src HrB]
  · isplitl [HB]; · iexact HB
    isplitl [HB_dst]; · iapply (Entails.of_eq (slotB_eq c k.val).symm); iexists _; iexact HB_dst
    iapply (partB_split c fB k.val).2
    isplitl [HB_src]; · iexact HB_src
    iexact HrB
  isplitl [HH HH_dst HH_src HrH]
  · isplitl [HH]; · iexact HH
    isplitl [HH_dst]; · iapply (Entails.of_eq (slotH_eq c k.val).symm); iexists _; iexact HH_dst
    iapply (partH_split c fH k.val).2
    isplitl [HH_src]; · iexact HH_src
    iexact HrH
  isplitl [HcX HnX]
  · isplitl [HcX]
    · iexists _; isplitr
      swap; · iexact HcX
      ipureintro; exact View.read_writes_whole _ _ _
    iexact HnX
  isplitl [HcM HnM]
  · isplitl [HcM]
    · iexists _; isplitr
      swap; · iexact HcM
      ipureintro; exact View.read_writes_whole _ _ _
    iexact HnM
  isplitl [HcB HnB]
  · isplitl [HcB]
    · iexists _; isplitr
      swap; · iexact HcB
      ipureintro; exact View.read_writes_whole _ _ _
    iexact HnB
  isplitl [HcH HnH]
  · isplitl [HcH]
    · iexists _; isplitr
      swap; · iexact HcH
      ipureintro; exact View.read_writes_whole _ _ _
    iexact HnH
  isplitl [H4 H5 H6]
  · isplitl [H4]; · iapply (owns_of_read c arg4 q4 w4 f4 r4); iexact H4
    isplitl [H5]; · iapply (owns_of_read c arg5 q5 w5 f5 r5); iexact H5
    iapply (owns_of_read c arg6 q6 w6 f6 r6); iexact H6
  isplitl [HcO]
  · iexists _; iexists _; isplitr
    swap; · iexact HcO
    ipureintro
    exact (View.read_writes_whole _ _ _).trans ((View.read_writes_full _ _ _ _ []).trans (stored_eq c r4 r5 r6 rX rM rB rH))
  isplitl [HfO HfO_src]
  · isplitl [HfO]; · iexact HfO
    iapply (Entails.of_eq (slotO_eq c (k.val - 1)).symm); iexists _; iexact HfO_src
  isplitl [HfO_dst]; · iapply (owns_of_read c (bO (k.val - 1)) fullShare v' dP rP); iexact HfO_dst
  iexists _; iexact HW

end Cert.KernelIdeal.Deep
-- ==== Proof.TripLate.lean ====
/-
  One trip of the pipelined merge, from the transfers it finds in flight to those it leaves: the blocks of trip `k`
  arrive, block `k + 2` of every operand is asked for while there is one, the merged block is computed into the
  result's slot and sent off, and the block sent by the trip before has landed.
-/
module

public import proofs.«01_k».proof.Proof.TripBase

@[expose] public section

set_option maxRecDepth 16384

noncomputable section

namespace Cert.KernelIdeal.Deep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
set_option synthInstance.maxSize 4096 in
set_option synthInstance.maxHeartbeats 400000 in
/-- One of the last two trips: nothing is left to ask for. -/
theorem trip_late (c : Dev nD) (arg4 : Memref sig .tc .vmem S512x1024 .bf16) (harg4 : arg4.IsWhole) (arg5 : Memref sig .tc .vmem S1024x1024 .bf16) (harg5 : arg5.IsWhole)
    (arg6 : Memref sig .tc .vmem S1x1024 .f32) (harg6 : arg6.IsWhole) (v19 v20 v61 v68 v77 v86 : BitVec 32)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (q4 q5 q6 : PosShare TreeShare) (w4 : Vec F S512x1024 .bf16) (w5 : Vec F S1024x1024 .bf16) (w6 : Vec F S1x1024 .f32)
    (k : Fin k0_t1_loop.trips) (hk : ¬ k.val < 62) (hk1 : 1 ≤ k.val) (v' : Vec F S1x1024x1024 .f32) :
    iprop(inflX c fX k.val ∗ inflM c fM k.val ∗ inflB c fB k.val ∗ inflH c fH k.val ∗ weights c arg4 arg5 arg6 q4 q5 q6 w4 w5 w6 ∗ freeO c k.val ∗ (∃ d, (bO k.val).view.loc (c : Thread nD τ) ↦[(bO k.val).view.set]{fullShare} d) ∗ sentO c (k.val - 1) v' ∗ (∃ W, owes (c : Thread nD τ) 0 W))
      ⊢ wp frame (wpE (defs₀ (F := F)) Variants.none (c : Thread nD τ) none) Set.univ (tripAt arg4 harg4 arg5 harg5 arg6 harg6 v19 v20 v61 v68 v77 v86 k (Wd k.val))
          (fun r => iprop(⌜r = Wd (k.val + 1)⌝ ∗ freeX c fX k.val ∗ freeM c fM k.val ∗ freeB c fB k.val ∗ freeH c fH k.val ∗ weights c arg4 arg5 arg6 q4 q5 q6 w4 w5 w6 ∗ sentO c k.val (outv c w4 w5 w6 fX fM fB fH k.val) ∗ freeO c (k.val - 1) ∗ owns (c : Thread nD τ) (bO (k.val - 1)) fullShare v' ∗ ∃ W, owes (c : Thread nD τ) 0 W)) := by
  have h1 := chk1 k; have h2 := chk2 k; have h3 := chk3 k; have h4 := chk4 k; have h5 := chk5 k; have h6 := chk6 k
  have d5 := fun h => hk ((cond5 k).1 h); have d6 := fun h => hk ((cond6 k).1 h); have d7 := fun h => hk ((cond7 k).1 h); have d8 := fun h => hk ((cond8 k).1 h)
  have d9 := cond9 k; have d10 := cond10 k; have d11 := cond11 k; have d12 := cond12 k; have d18 := cond18 k
  have d23 := (cond23 k).2 hk1
  iintro ⟨⟨⟨%gX, %rX, HX⟩, HrX⟩, ⟨⟨%gM, %rM, HM⟩, HrM⟩, ⟨⟨%gB, %rB, HB⟩, HrB⟩, ⟨⟨%gH, %rH, HH⟩, HrH⟩, ⟨H4, H5, H6⟩, ⟨HcO, HgO⟩, ⟨%dO, HbO⟩, ⟨%dP, %fP, %rP, HfO⟩, ⟨%W, HW⟩⟩
  ihave HE4 := (Entails.of_eq (owns_eq c arg4 q4 w4)) $$ H4
  icases HE4 with ⟨%f4, %r4, H4⟩
  ihave HE5 := (Entails.of_eq (owns_eq c arg5 q5 w5)) $$ H5
  icases HE5 with ⟨%f5, %r5, H5⟩
  ihave HE6 := (Entails.of_eq (owns_eq c arg6 q6 w6)) $$ H6
  icases HE6 with ⟨%f6, %r6, H6⟩
  ihave HEO := (Entails.of_eq (slotO_eq c k.val)) $$ HgO
  icases HEO with ⟨%gO, HgO⟩
  unfold tripAt k0_t1_body
  sl_exec
  sl_step
  isplitr
  · ipureintro
    clear * - k
    simp only [Prod.mk.injEq]
    refine ⟨?_, ?_, ?_, ?_, ?_, ?_, ?_, ?_, ?_, ?_, ?_, ?_⟩ <;> (revert k; decide +kernel)
  isplitl [HX HX_dst HX_src HrX]
  · isplitl [HX]; · iexact HX
    isplitl [HX_dst]; · iapply (Entails.of_eq (slotX_eq c k.val).symm); iexists _; iexact HX_dst
    iapply (partX_split c fX k.val).2
    isplitl [HX_src]; · iexact HX_src
    iexact HrX
  isplitl [HM HM_dst HM_src HrM]
  · isplitl [HM]; · iexact HM
    isplitl [HM_dst]; · iapply (Entails.of_eq (slotM_eq c k.val).symm); iexists _; iexact HM_dst
    iapply (partM_split c fM k.val).2
    isplitl [HM_src]; · iexact HM_src
    iexact HrM
  isplitl [HB HB_dst HB_src HrB]
  · isplitl [HB]; · iexact HB
    isplitl [HB_dst]; · iapply (Entails.of_eq (slotB_eq c k.val).symm); iexists _; iexact HB_dst
    iapply (partB_split c fB k.val).2
    isplitl [HB_src]; · iexact HB_src
    iexact HrB
  isplitl [HH HH_dst HH_src HrH]
  · isplitl [HH]; · iexact HH
    isplitl [HH_dst]; · iapply (Entails.of_eq (slotH_eq c k.val).symm); iexists _; iexact HH_dst
    iapply (partH_split c fH k.val).2
    isplitl [HH_src]; · iexact HH_src
    iexact HrH
  isplitl [H4 H5 H6]
  · isplitl [H4]; · iapply (owns_of_read c arg4 q4 w4 f4 r4); iexact H4
    isplitl [H5]; · iapply (owns_of_read c arg5 q5 w5 f5 r5); iexact H5
    iapply (owns_of_read c arg6 q6 w6 f6 r6); iexact H6
  isplitl [HcO]
  · iexists _; iexists _; isplitr
    swap; · iexact HcO
    ipureintro
    exact (View.read_writes_whole _ _ _).trans ((View.read_writes_full _ _ _ _ []).trans (stored_eq c r4 r5 r6 rX rM rB rH))
  isplitl [HfO HfO_src]
  · isplitl [HfO]; · iexact HfO
    iapply (Entails.of_eq (slotO_eq c (k.val - 1)).symm); iexists _; iexact HfO_src
  isplitl [HfO_dst]; · iapply (owns_of_read c (bO (k.val - 1)) fullShare v' dP rP); iexact HfO_dst
  iexists _; iexact HW

end Cert.KernelIdeal.Deep
-- ==== Proof.Loop.lean ====
/-
  The pipelined merge's loop: what holds before trip `k`, and that every trip keeps it.
-/
module

public import proofs.«01_k».proof.Proof.Output
public import proofs.«01_k».proof.Proof.Gen.KernelIdeal.Loops
public import proofs.«01_k».proof.Proof.TripFirst
public import proofs.«01_k».proof.Proof.TripMid
public import proofs.«01_k».proof.Proof.TripLate

@[expose] public section

set_option maxRecDepth 16384

noncomputable section

namespace Cert.KernelIdeal.Deep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The result's two slots before trip `k`: from trip 1 on, one of them is sending the block before. -/
def outState (c : Dev nD) (v : ℕ → Vec F S1x1024x1024 .f32) (k : ℕ) : sProp 𝕄 :=
  if k = 0 then iprop(freeO c 0 ∗ freeO c 1) else iprop(freeO c k ∗ sentO c (k - 1) (v (k - 1)))
theorem outState_zero (c : Dev nD) (v : ℕ → Vec F S1x1024x1024 .f32) (k : ℕ) (h : k = 0) : outState c v k = iprop(freeO c 0 ∗ freeO c 1) := if_pos h
theorem outState_pos (c : Dev nD) (v : ℕ → Vec F S1x1024x1024 .f32) (k : ℕ) (h : ¬ k = 0) :
    outState c v k = iprop(freeO c k ∗ sentO c (k - 1) (v (k - 1))) := if_neg h

/-- Before trip `k`: blocks `k` and `k + 1` of every operand in flight (while there are such), the third slot free, the
    result's blocks before `k - 1` landed at the merge, block `k - 1` on its way, the rest unwritten. -/
def inv (c : Dev nD) (arg4 : Memref sig .tc .vmem S512x1024 .bf16) (arg5 : Memref sig .tc .vmem S1024x1024 .bf16) (arg6 : Memref sig .tc .vmem S1x1024 .f32) (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (q4 q5 q6 : PosShare TreeShare) (w4 : Vec F S512x1024 .bf16) (w5 : Vec F S1024x1024 .bf16) (w6 : Vec F S1x1024 .f32) (k : ℕ)
    (acc : BitVec 32 × BitVec 32 × BitVec 32 × BitVec 32 × BitVec 32 × BitVec 32 × BitVec 32 × BitVec 32 × BitVec 32 × BitVec 32 × BitVec 32 × BitVec 32) : sProp 𝕄 :=
  iprop(⌜acc = Wd k⌝ ∗ roleX c fX k ∗ roleM c fM k ∗ roleB c fB k ∗ roleH c fH k ∗ roleX c fX (k + 1) ∗ roleM c fM (k + 1) ∗ roleB c fB (k + 1) ∗ roleH c fH (k + 1)
    ∗ freeX c fX (k + 2) ∗ freeM c fM (k + 2) ∗ freeB c fB (k + 2) ∗ freeH c fH (k + 2) ∗ weights c arg4 arg5 arg6 q4 q5 q6 w4 w5 w6
    ∗ outState c (outv c w4 w5 w6 fX fM fB fH) k ∗ aheadO c k ∗ behindO c (gout c w4 w5 w6 fX fM fB fH) (k - 1) ∗ ∃ W, owes (c : Thread nD τ) 0 W)

set_option maxHeartbeats 1000000 in
/-- The first trip keeps it; -/
theorem step_first (c : Dev nD) (arg4 : Memref sig .tc .vmem S512x1024 .bf16) (harg4 : arg4.IsWhole) (arg5 : Memref sig .tc .vmem S1024x1024 .bf16) (harg5 : arg5.IsWhole)
    (arg6 : Memref sig .tc .vmem S1x1024 .f32) (harg6 : arg6.IsWhole) (v19 v20 v61 v68 v77 v86 : BitVec 32)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (q4 q5 q6 : PosShare TreeShare) (w4 : Vec F S512x1024 .bf16) (w5 : Vec F S1024x1024 .bf16) (w6 : Vec F S1x1024 .f32)
    (k : Fin k0_t1_loop.trips) (hk : k.val < 62) (hk1 : k.val = 0) :
    inv c arg4 arg5 arg6 fX fM fB fH q4 q5 q6 w4 w5 w6 k.val (Wd k.val)
      ⊢ wp frame (wpE (defs₀ (F := F)) Variants.none (c : Thread nD τ) none) Set.univ (tripAt arg4 harg4 arg5 harg5 arg6 harg6 v19 v20 v61 v68 v77 v86 k (Wd k.val))
          (fun r => inv c arg4 arg5 arg6 fX fM fB fH q4 q5 q6 w4 w5 w6 (k.val + 1) r) := by
  have hlt := lt64 k
  unfold inv
  iintro ⟨-, HRX, HRM, HRB, HRH, HNX, HNM, HNB, HNH, HFX, HFM, HFB, HFH, Hw, HO, HA, HB, HW⟩
  ihave HRX := (Entails.of_eq (roleX_lt c fX k.val hlt)) $$ HRX
  ihave HRM := (Entails.of_eq (roleM_lt c fM k.val hlt)) $$ HRM
  ihave HRB := (Entails.of_eq (roleB_lt c fB k.val hlt)) $$ HRB
  ihave HRH := (Entails.of_eq (roleH_lt c fH k.val hlt)) $$ HRH
  ihave HA := (aheadO_take c k.val hlt) $$ HA
  icases HA with ⟨Hblk, HA⟩
  ihave HO := (Entails.of_eq (outState_zero c _ k.val hk1)) $$ HO
  icases HO with ⟨HO, HP⟩
  ihave HO := (Entails.of_eq (congrArg (freeO (F := F) c) hk1.symm)) $$ HO
  iapply (wp_wand_r frame (wpE (defs₀ (F := F)) Variants.none (c : Thread nD τ) none) Set.univ)
  isplitl [HRX HRM HRB HRH HFX HFM HFB HFH Hw HO Hblk HW]
  · iapply (trip_first c arg4 harg4 arg5 harg5 arg6 harg6 v19 v20 v61 v68 v77 v86 fX fM fB fH q4 q5 q6 w4 w5 w6 k hk hk1)
    isplitl [HRX]; · iexact HRX
    isplitl [HRM]; · iexact HRM
    isplitl [HRB]; · iexact HRB
    isplitl [HRH]; · iexact HRH
    isplitl [HFX]; · iexact HFX
    isplitl [HFM]; · iexact HFM
    isplitl [HFB]; · iexact HFB
    isplitl [HFH]; · iexact HFH
    isplitl [Hw]; · iexact Hw
    isplitl [HO]; · iexact HO
    isplitl [Hblk]; · iexact Hblk
    iexact HW
  iintro %r ⟨%hr, HRX, HRM, HRB, HRH, HFX, HFM, HFB, HFH, Hw, HS, HW⟩
  isplitr
  · ipureintro; exact hr
  isplitl [HNX]; · iexact HNX
  isplitl [HNM]; · iexact HNM
  isplitl [HNB]; · iexact HNB
  isplitl [HNH]; · iexact HNH
  isplitl [HFX]; · iapply (Entails.of_eq (roleX_lt c fX (k.val + 2) (by omega)).symm); iexact HFX
  isplitl [HFM]; · iapply (Entails.of_eq (roleM_lt c fM (k.val + 2) (by omega)).symm); iexact HFM
  isplitl [HFB]; · iapply (Entails.of_eq (roleB_lt c fB (k.val + 2) (by omega)).symm); iexact HFB
  isplitl [HFH]; · iapply (Entails.of_eq (roleH_lt c fH (k.val + 2) (by omega)).symm); iexact HFH
  isplitl [HRX]; · iapply (Entails.of_eq (freeX_turn c fX k.val).symm); iexact HRX
  isplitl [HRM]; · iapply (Entails.of_eq (freeM_turn c fM k.val).symm); iexact HRM
  isplitl [HRB]; · iapply (Entails.of_eq (freeB_turn c fB k.val).symm); iexact HRB
  isplitl [HRH]; · iapply (Entails.of_eq (freeH_turn c fH k.val).symm); iexact HRH
  isplitl [Hw]; · iexact Hw
  isplitl [HS HP]
  · iapply (Entails.of_eq (outState_pos c _ (k.val + 1) (by omega)).symm)
    isplitl [HP]
    · iapply (Entails.of_eq (congrArg (fun n => freeO (F := F) c (n + 1)) hk1).symm); iexact HP
    iexact HS
  isplitl [HA]; · iexact HA
  isplitl [HB]; · iapply (Entails.of_eq (congrArg (fun n => behindO c (gout c w4 w5 w6 fX fM fB fH) n) (by omega : k.val - 1 = k.val + 1 - 1))); iexact HB
  iexact HW

set_option maxHeartbeats 1000000 in
/-- so does a trip that still asks for blocks; -/
theorem step_mid (c : Dev nD) (arg4 : Memref sig .tc .vmem S512x1024 .bf16) (harg4 : arg4.IsWhole) (arg5 : Memref sig .tc .vmem S1024x1024 .bf16) (harg5 : arg5.IsWhole)
    (arg6 : Memref sig .tc .vmem S1x1024 .f32) (harg6 : arg6.IsWhole) (v19 v20 v61 v68 v77 v86 : BitVec 32)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (q4 q5 q6 : PosShare TreeShare) (w4 : Vec F S512x1024 .bf16) (w5 : Vec F S1024x1024 .bf16) (w6 : Vec F S1x1024 .f32)
    (k : Fin k0_t1_loop.trips) (hk : k.val < 62) (hk1 : 1 ≤ k.val) :
    inv c arg4 arg5 arg6 fX fM fB fH q4 q5 q6 w4 w5 w6 k.val (Wd k.val)
      ⊢ wp frame (wpE (defs₀ (F := F)) Variants.none (c : Thread nD τ) none) Set.univ (tripAt arg4 harg4 arg5 harg5 arg6 harg6 v19 v20 v61 v68 v77 v86 k (Wd k.val))
          (fun r => inv c arg4 arg5 arg6 fX fM fB fH q4 q5 q6 w4 w5 w6 (k.val + 1) r) := by
  have hlt := lt64 k
  unfold inv
  iintro ⟨-, HRX, HRM, HRB, HRH, HNX, HNM, HNB, HNH, HFX, HFM, HFB, HFH, Hw, HO, HA, HB, HW⟩
  ihave HRX := (Entails.of_eq (roleX_lt c fX k.val hlt)) $$ HRX
  ihave HRM := (Entails.of_eq (roleM_lt c fM k.val hlt)) $$ HRM
  ihave HRB := (Entails.of_eq (roleB_lt c fB k.val hlt)) $$ HRB
  ihave HRH := (Entails.of_eq (roleH_lt c fH k.val hlt)) $$ HRH
  ihave HA := (aheadO_take c k.val hlt) $$ HA
  icases HA with ⟨Hblk, HA⟩
  ihave HO := (Entails.of_eq (outState_pos c _ k.val (by omega))) $$ HO
  icases HO with ⟨HO, HP⟩
  iapply (wp_wand_r frame (wpE (defs₀ (F := F)) Variants.none (c : Thread nD τ) none) Set.univ)
  isplitl [HRX HRM HRB HRH HFX HFM HFB HFH Hw HO Hblk HP HW]
  · iapply (trip_mid c arg4 harg4 arg5 harg5 arg6 harg6 v19 v20 v61 v68 v77 v86 fX fM fB fH q4 q5 q6 w4 w5 w6 k hk hk1 (outv c w4 w5 w6 fX fM fB fH (k.val - 1)))
    isplitl [HRX]; · iexact HRX
    isplitl [HRM]; · iexact HRM
    isplitl [HRB]; · iexact HRB
    isplitl [HRH]; · iexact HRH
    isplitl [HFX]; · iexact HFX
    isplitl [HFM]; · iexact HFM
    isplitl [HFB]; · iexact HFB
    isplitl [HFH]; · iexact HFH
    isplitl [Hw]; · iexact Hw
    isplitl [HO]; · iexact HO
    isplitl [Hblk]; · iexact Hblk
    isplitl [HP]; · iexact HP
    iexact HW
  iintro %r ⟨%hr, HRX, HRM, HRB, HRH, HFX, HFM, HFB, HFH, Hw, HS, HP, HD, HW⟩
  isplitr
  · ipureintro; exact hr
  isplitl [HNX]; · iexact HNX
  isplitl [HNM]; · iexact HNM
  isplitl [HNB]; · iexact HNB
  isplitl [HNH]; · iexact HNH
  isplitl [HFX]; · iapply (Entails.of_eq (roleX_lt c fX (k.val + 2) (by omega)).symm); iexact HFX
  isplitl [HFM]; · iapply (Entails.of_eq (roleM_lt c fM (k.val + 2) (by omega)).symm); iexact HFM
  isplitl [HFB]; · iapply (Entails.of_eq (roleB_lt c fB (k.val + 2) (by omega)).symm); iexact HFB
  isplitl [HFH]; · iapply (Entails.of_eq (roleH_lt c fH (k.val + 2) (by omega)).symm); iexact HFH
  isplitl [HRX]; · iapply (Entails.of_eq (freeX_turn c fX k.val).symm); iexact HRX
  isplitl [HRM]; · iapply (Entails.of_eq (freeM_turn c fM k.val).symm); iexact HRM
  isplitl [HRB]; · iapply (Entails.of_eq (freeB_turn c fB k.val).symm); iexact HRB
  isplitl [HRH]; · iapply (Entails.of_eq (freeH_turn c fH k.val).symm); iexact HRH
  isplitl [Hw]; · iexact Hw
  isplitl [HS HP]
  · iapply (Entails.of_eq (outState_pos c _ (k.val + 1) (by omega)).symm)
    isplitl [HP]
    · iapply (Entails.of_eq ((freeO_turn (F := F) c (k.val - 1)).symm.trans (congrArg (freeO (F := F) c) (by omega : k.val - 1 + 2 = k.val + 1)))); iexact HP
    iexact HS
  isplitl [HA]; · iexact HA
  isplitl [HB HD]
  · iapply (Entails.of_eq (congrArg (fun n => behindO c (gout c w4 w5 w6 fX fM fB fH) n) (by omega : k.val - 1 + 1 = k.val + 1 - 1)))
    iapply (behindO_join c w4 w5 w6 fX fM fB fH (k.val - 1) (by omega))
    isplitl [HB]; · iexact HB
    iexact HD
  iexact HW

set_option maxHeartbeats 1000000 in
/-- and one of the last two. -/
theorem step_late (c : Dev nD) (arg4 : Memref sig .tc .vmem S512x1024 .bf16) (harg4 : arg4.IsWhole) (arg5 : Memref sig .tc .vmem S1024x1024 .bf16) (harg5 : arg5.IsWhole)
    (arg6 : Memref sig .tc .vmem S1x1024 .f32) (harg6 : arg6.IsWhole) (v19 v20 v61 v68 v77 v86 : BitVec 32)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (q4 q5 q6 : PosShare TreeShare) (w4 : Vec F S512x1024 .bf16) (w5 : Vec F S1024x1024 .bf16) (w6 : Vec F S1x1024 .f32)
    (k : Fin k0_t1_loop.trips) (hk : ¬ k.val < 62) (hk1 : 1 ≤ k.val) :
    inv c arg4 arg5 arg6 fX fM fB fH q4 q5 q6 w4 w5 w6 k.val (Wd k.val)
      ⊢ wp frame (wpE (defs₀ (F := F)) Variants.none (c : Thread nD τ) none) Set.univ (tripAt arg4 harg4 arg5 harg5 arg6 harg6 v19 v20 v61 v68 v77 v86 k (Wd k.val))
          (fun r => inv c arg4 arg5 arg6 fX fM fB fH q4 q5 q6 w4 w5 w6 (k.val + 1) r) := by
  have hlt := lt64 k
  unfold inv
  iintro ⟨-, HRX, HRM, HRB, HRH, HNX, HNM, HNB, HNH, HFX, HFM, HFB, HFH, Hw, HO, HA, HB, HW⟩
  ihave HRX := (Entails.of_eq (roleX_lt c fX k.val hlt)) $$ HRX
  ihave HRM := (Entails.of_eq (roleM_lt c fM k.val hlt)) $$ HRM
  ihave HRB := (Entails.of_eq (roleB_lt c fB k.val hlt)) $$ HRB
  ihave HRH := (Entails.of_eq (roleH_lt c fH k.val hlt)) $$ HRH
  ihave HA := (aheadO_take c k.val hlt) $$ HA
  icases HA with ⟨Hblk, HA⟩
  ihave HO := (Entails.of_eq (outState_pos c _ k.val (by omega))) $$ HO
  icases HO with ⟨HO, HP⟩
  iapply (wp_wand_r frame (wpE (defs₀ (F := F)) Variants.none (c : Thread nD τ) none) Set.univ)
  isplitl [HRX HRM HRB HRH Hw HO Hblk HP HW]
  · iapply (trip_late c arg4 harg4 arg5 harg5 arg6 harg6 v19 v20 v61 v68 v77 v86 fX fM fB fH q4 q5 q6 w4 w5 w6 k hk hk1 (outv c w4 w5 w6 fX fM fB fH (k.val - 1)))
    isplitl [HRX]; · iexact HRX
    isplitl [HRM]; · iexact HRM
    isplitl [HRB]; · iexact HRB
    isplitl [HRH]; · iexact HRH
    isplitl [Hw]; · iexact Hw
    isplitl [HO]; · iexact HO
    isplitl [Hblk]; · iexact Hblk
    isplitl [HP]; · iexact HP
    iexact HW
  iintro %r ⟨%hr, HRX, HRM, HRB, HRH, Hw, HS, HP, HD, HW⟩
  isplitr
  · ipureintro; exact hr
  isplitl [HNX]; · iexact HNX
  isplitl [HNM]; · iexact HNM
  isplitl [HNB]; · iexact HNB
  isplitl [HNH]; · iexact HNH
  isplitl [HFX]; · iapply (Entails.of_eq (roleX_ge c fX (k.val + 2) (by omega)).symm); iexact HFX
  isplitl [HFM]; · iapply (Entails.of_eq (roleM_ge c fM (k.val + 2) (by omega)).symm); iexact HFM
  isplitl [HFB]; · iapply (Entails.of_eq (roleB_ge c fB (k.val + 2) (by omega)).symm); iexact HFB
  isplitl [HFH]; · iapply (Entails.of_eq (roleH_ge c fH (k.val + 2) (by omega)).symm); iexact HFH
  isplitl [HRX]; · iapply (Entails.of_eq (freeX_turn c fX k.val).symm); iexact HRX
  isplitl [HRM]; · iapply (Entails.of_eq (freeM_turn c fM k.val).symm); iexact HRM
  isplitl [HRB]; · iapply (Entails.of_eq (freeB_turn c fB k.val).symm); iexact HRB
  isplitl [HRH]; · iapply (Entails.of_eq (freeH_turn c fH k.val).symm); iexact HRH
  isplitl [Hw]; · iexact Hw
  isplitl [HS HP]
  · iapply (Entails.of_eq (outState_pos c _ (k.val + 1) (by omega)).symm)
    isplitl [HP]
    · iapply (Entails.of_eq ((freeO_turn (F := F) c (k.val - 1)).symm.trans (congrArg (freeO (F := F) c) (by omega : k.val - 1 + 2 = k.val + 1)))); iexact HP
    iexact HS
  isplitl [HA]; · iexact HA
  isplitl [HB HD]
  · iapply (Entails.of_eq (congrArg (fun n => behindO c (gout c w4 w5 w6 fX fM fB fH) n) (by omega : k.val - 1 + 1 = k.val + 1 - 1)))
    iapply (behindO_join c w4 w5 w6 fX fM fB fH (k.val - 1) (by omega))
    isplitl [HB]; · iexact HB
    iexact HD
  iexact HW

/-- The loop by that invariant. -/
@[reducible] def loopInv_k0_t1 (c : Dev nD) (arg4 : Memref sig .tc .vmem S512x1024 .bf16) (harg4 : arg4.IsWhole) (arg5 : Memref sig .tc .vmem S1024x1024 .bf16) (harg5 : arg5.IsWhole)
    (arg6 : Memref sig .tc .vmem S1x1024 .f32) (harg6 : arg6.IsWhole) (v19 v20 v61 v68 v77 v86 : BitVec 32)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (q4 q5 q6 : PosShare TreeShare) (w4 : Vec F S512x1024 .bf16) (w5 : Vec F S1024x1024 .bf16) (w6 : Vec F S1x1024 .f32)
    (init : BitVec 32 × BitVec 32 × BitVec 32 × BitVec 32 × BitVec 32 × BitVec 32 × BitVec 32 × BitVec 32 × BitVec 32 × BitVec 32 × BitVec 32 × BitVec 32) :
    LoopInvTy_k0_t1 (F := F) Unit ℕ (Pipeline.UD sig nD τ) ℕ Variants.none c none Set.univ
      (Memref.whole main_arg0) (Memref.isWhole_whole _) (Memref.whole main_arg1) (Memref.isWhole_whole _) (Memref.whole main_arg2) (Memref.isWhole_whole _)
      (Memref.whole main_arg3) (Memref.isWhole_whole _) arg4 harg4 arg5 harg5 arg6 harg6 (Memref.whole main_v5) (Memref.isWhole_whole _)
      (Memref.whole cc0_scoped0) (Memref.isWhole_whole _) cc0_scoped1 (Memref.whole cc0_scoped2) (Memref.isWhole_whole _) cc0_scoped3
      (Memref.whole cc0_scoped4) (Memref.isWhole_whole _) cc0_scoped5 (Memref.whole cc0_scoped6) (Memref.isWhole_whole _) cc0_scoped7
      (Memref.whole cc0_scoped8) (Memref.isWhole_whole _) cc0_scoped9 v19 v20 v61 v68 v77 v86 init :=
  ⟨inv c arg4 arg5 arg6 fX fM fB fH q4 q5 q6 w4 w5 w6, fun k acc => by
    by_cases hacc : acc = Wd k.val
    · subst hacc
      by_cases hk : k.val < 62
      · by_cases hk1 : k.val = 0
        · exact step_first c arg4 harg4 arg5 harg5 arg6 harg6 v19 v20 v61 v68 v77 v86 fX fM fB fH q4 q5 q6 w4 w5 w6 k hk hk1
        · exact step_mid c arg4 harg4 arg5 harg5 arg6 harg6 v19 v20 v61 v68 v77 v86 fX fM fB fH q4 q5 q6 w4 w5 w6 k hk (by omega)
      · exact step_late c arg4 harg4 arg5 harg5 arg6 harg6 v19 v20 v61 v68 v77 v86 fX fM fB fH q4 q5 q6 w4 w5 w6 k hk (by omega)
    · unfold inv
      iintro ⟨%h, -⟩
      exact absurd h hacc⟩

/-- The loop at the head of a program: from the invariant before trip 0, the rest from the invariant after trip 63. -/
theorem loop_rule (c : Dev nD) (arg4 : Memref sig .tc .vmem S512x1024 .bf16) (harg4 : arg4.IsWhole) (arg5 : Memref sig .tc .vmem S1024x1024 .bf16) (harg5 : arg5.IsWhole)
    (arg6 : Memref sig .tc .vmem S1x1024 .f32) (harg6 : arg6.IsWhole) (v19 v20 v61 v68 v77 v86 : BitVec 32)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (q4 q5 q6 : PosShare TreeShare) (w4 : Vec F S512x1024 .bf16) (w5 : Vec F S1024x1024 .bf16) (w6 : Vec F S1x1024 .f32)
    (init : BitVec 32 × BitVec 32 × BitVec 32 × BitVec 32 × BitVec 32 × BitVec 32 × BitVec 32 × BitVec 32 × BitVec 32 × BitVec 32 × BitVec 32 × BitVec 32) {β : Type}
    {kk : BitVec 32 × BitVec 32 × BitVec 32 × BitVec 32 × BitVec 32 × BitVec 32 × BitVec 32 × BitVec 32 × BitVec 32 × BitVec 32 × BitVec 32 × BitVec 32 → Prog (TpuEff nD τ sig (Elt F) Λ₀ .tc) β} {Q : β → sProp 𝕄} :
    iprop(inv c arg4 arg5 arg6 fX fM fB fH q4 q5 q6 w4 w5 w6 0 init ∗ (∀ acc, inv c arg4 arg5 arg6 fX fM fB fH q4 q5 q6 w4 w5 w6 k0_t1_loop.trips acc
        -∗ wp frame (wpE (defs₀ (F := F)) Variants.none (c : Thread nD τ) none) Set.univ (kk acc) Q))
      ⊢ wp frame (wpE (defs₀ (F := F)) Variants.none (c : Thread nD τ) none) Set.univ
          (k0_t1_loop.for k0_t1_ok init (tripAt arg4 harg4 arg5 harg5 arg6 harg6 v19 v20 v61 v68 v77 v86) >>= kk) Q :=
  BI.wand_elim (exec_loop frame (wpE (defs₀ (F := F)) Variants.none (c : Thread nD τ) none) Set.univ k0_t1_loop.lb k0_t1_loop.ub k0_t1_loop.st k0_t1_ok init _
    (loopInv_k0_t1 c arg4 harg4 arg5 harg5 arg6 harg6 v19 v20 v61 v68 v77 v86 fX fM fB fH q4 q5 q6 w4 w5 w6 init))

theorem inv_eq (c : Dev nD) (arg4 : Memref sig .tc .vmem S512x1024 .bf16) (arg5 : Memref sig .tc .vmem S1024x1024 .bf16) (arg6 : Memref sig .tc .vmem S1x1024 .f32) (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (q4 q5 q6 : PosShare TreeShare) (w4 : Vec F S512x1024 .bf16) (w5 : Vec F S1024x1024 .bf16) (w6 : Vec F S1x1024 .f32) (acc : BitVec 32 × BitVec 32 × BitVec 32 × BitVec 32 × BitVec 32 × BitVec 32 × BitVec 32 × BitVec 32 × BitVec 32 × BitVec 32 × BitVec 32 × BitVec 32) :
    inv c arg4 arg5 arg6 fX fM fB fH q4 q5 q6 w4 w5 w6 k0_t1_loop.trips acc
      = iprop(⌜acc = Wd 64⌝ ∗ roleX c fX 64 ∗ roleM c fM 64 ∗ roleB c fB 64 ∗ roleH c fH 64 ∗ roleX c fX 65 ∗ roleM c fM 65 ∗ roleB c fB 65 ∗ roleH c fH 65
    ∗ freeX c fX 66 ∗ freeM c fM 66 ∗ freeB c fB 66 ∗ freeH c fH 66 ∗ weights c arg4 arg5 arg6 q4 q5 q6 w4 w5 w6
    ∗ outState c (outv c w4 w5 w6 fX fM fB fH) 64 ∗ aheadO c 64 ∗ behindO c (gout c w4 w5 w6 fX fM fB fH) 63 ∗ ∃ W, owes (c : Thread nD τ) 0 W) := by
  rw [trips_eq]; rfl

end Cert.KernelIdeal.Deep
-- ==== Proof.Body.lean ====
/-
  The pipelined merge's body, from free slots to free slots: the first two blocks of every operand are asked for, the
  loop runs, and the last block of the result lands.
-/
module

public import proofs.«01_k».proof.Proof.Loop

@[expose] public section

set_option maxRecDepth 16384

noncomputable section

namespace Cert.KernelIdeal.Deep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The body at the concrete arrays and scratch. -/
abbrev bodyCore (arg4 : Memref sig .tc .vmem S512x1024 .bf16) (harg4 : arg4.IsWhole) (arg5 : Memref sig .tc .vmem S1024x1024 .bf16) (harg5 : arg5.IsWhole)
    (arg6 : Memref sig .tc .vmem S1x1024 .f32) (harg6 : arg6.IsWhole) :=
  cc0_merge_deep (F := F) (Memref.whole main_arg0) (Memref.isWhole_whole _) (Memref.whole main_arg1) (Memref.isWhole_whole _) (Memref.whole main_arg2) (Memref.isWhole_whole _)
    (Memref.whole main_arg3) (Memref.isWhole_whole _) arg4 harg4 arg5 harg5 arg6 harg6 (Memref.whole main_v5) (Memref.isWhole_whole _)
    (Memref.whole cc0_scoped0) (Memref.isWhole_whole _) cc0_scoped1 (Memref.whole cc0_scoped2) (Memref.isWhole_whole _) cc0_scoped3
    (Memref.whole cc0_scoped4) (Memref.isWhole_whole _) cc0_scoped5 (Memref.whole cc0_scoped6) (Memref.isWhole_whole _) cc0_scoped7
    (Memref.whole cc0_scoped8) (Memref.isWhole_whole _) cc0_scoped9

set_option maxHeartbeats 4000000 in
set_option synthInstance.maxSize 4096 in
set_option synthInstance.maxHeartbeats 400000 in
/-- The body's run. -/
theorem run_core (c : Dev nD) (arg4 : Memref sig .tc .vmem S512x1024 .bf16) (harg4 : arg4.IsWhole) (arg5 : Memref sig .tc .vmem S1024x1024 .bf16) (harg5 : arg5.IsWhole)
    (arg6 : Memref sig .tc .vmem S1x1024 .f32) (harg6 : arg6.IsWhole)
    (fX : Buf (Elt F) ((Memref.whole main_arg0).view.loc (c : Thread nD τ))) (fM : Buf (Elt F) ((Memref.whole main_arg1).view.loc (c : Thread nD τ)))
    (fB : Buf (Elt F) ((Memref.whole main_arg2).view.loc (c : Thread nD τ))) (fH : Buf (Elt F) ((Memref.whole main_arg3).view.loc (c : Thread nD τ)))
    (q4 q5 q6 : PosShare TreeShare) (w4 : Vec F S512x1024 .bf16) (w5 : Vec F S1024x1024 .bf16) (w6 : Vec F S1x1024 .f32) :
    iprop(freeX c fX 0 ∗ freeM c fM 0 ∗ freeB c fB 0 ∗ freeH c fH 0 ∗ freeX c fX 1 ∗ freeM c fM 1 ∗ freeB c fB 1 ∗ freeH c fH 1 ∗ freeX c fX 2 ∗ freeM c fM 2 ∗ freeB c fB 2 ∗ freeH c fH 2
        ∗ weights c arg4 arg5 arg6 q4 q5 q6 w4 w5 w6 ∗ freeO c 0 ∗ freeO c 1 ∗ aheadO c 0 ∗ behindO c (gout c w4 w5 w6 fX fM fB fH) 0 ∗ (∃ W, owes (c : Thread nD τ) 0 W))
      ⊢ wp frame (wpE (defs₀ (F := F)) Variants.none (c : Thread nD τ) none) Set.univ (bodyCore arg4 harg4 arg5 harg5 arg6 harg6)
          (fun _ => iprop(freeX c fX 64 ∗ freeM c fM 64 ∗ freeB c fB 64 ∗ freeH c fH 64 ∗ freeX c fX 65 ∗ freeM c fM 65 ∗ freeB c fB 65 ∗ freeH c fH 65 ∗ freeX c fX 66 ∗ freeM c fM 66 ∗ freeB c fB 66 ∗ freeH c fH 66
            ∗ weights c arg4 arg5 arg6 q4 q5 q6 w4 w5 w6 ∗ freeO c 63 ∗ freeO c 64 ∗ behindO c (gout c w4 w5 w6 fX fM fB fH) 64 ∗ ∃ W, owes (c : Thread nD τ) 0 W)) := by
  have d1 : k0_cond1 = 1#1 := by decide +kernel
  have d2 : k0_cond2 = 1#1 := by decide +kernel
  have d3 : k0_cond3 = 1#1 := by decide +kernel
  have d4 : k0_cond4 = 1#1 := by decide +kernel
  have eX0 := partX_split c fX 0
  have eM0 := partM_split c fM 0
  have eB0 := partB_split c fB 0
  have eH0 := partH_split c fH 0
  have eX1 := partX_split c fX 1
  have eM1 := partM_split c fM 1
  have eB1 := partB_split c fB 1
  have eH1 := partH_split c fH 1
  iintro ⟨⟨HcX0, HgX0, HpX0⟩, ⟨HcM0, HgM0, HpM0⟩, ⟨HcB0, HgB0, HpB0⟩, ⟨HcH0, HgH0, HpH0⟩, ⟨HcX1, HgX1, HpX1⟩, ⟨HcM1, HgM1, HpM1⟩, ⟨HcB1, HgB1, HpB1⟩, ⟨HcH1, HgH1, HpH1⟩, HFX, HFM, HFB, HFH, Hw, HO0, HO1, HA, HB, ⟨%W0, HW⟩⟩
  ihave HlX0 := eX0.1 $$ HpX0
  icases HlX0 with ⟨HlX0, HnX0⟩
  ihave HEX0 := (Entails.of_eq (slotX_eq c 0)) $$ HgX0
  icases HEX0 with ⟨%gX0, HgX0⟩
  ihave HlM0 := eM0.1 $$ HpM0
  icases HlM0 with ⟨HlM0, HnM0⟩
  ihave HEM0 := (Entails.of_eq (slotM_eq c 0)) $$ HgM0
  icases HEM0 with ⟨%gM0, HgM0⟩
  ihave HlB0 := eB0.1 $$ HpB0
  icases HlB0 with ⟨HlB0, HnB0⟩
  ihave HEB0 := (Entails.of_eq (slotB_eq c 0)) $$ HgB0
  icases HEB0 with ⟨%gB0, HgB0⟩
  ihave HlH0 := eH0.1 $$ HpH0
  icases HlH0 with ⟨HlH0, HnH0⟩
  ihave HEH0 := (Entails.of_eq (slotH_eq c 0)) $$ HgH0
  icases HEH0 with ⟨%gH0, HgH0⟩
  ihave HlX1 := eX1.1 $$ HpX1
  icases HlX1 with ⟨HlX1, HnX1⟩
  ihave HEX1 := (Entails.of_eq (slotX_eq c 1)) $$ HgX1
  icases HEX1 with ⟨%gX1, HgX1⟩
  ihave HlM1 := eM1.1 $$ HpM1
  icases HlM1 with ⟨HlM1, HnM1⟩
  ihave HEM1 := (Entails.of_eq (slotM_eq c 1)) $$ HgM1
  icases HEM1 with ⟨%gM1, HgM1⟩
  ihave HlB1 := eB1.1 $$ HpB1
  icases HlB1 with ⟨HlB1, HnB1⟩
  ihave HEB1 := (Entails.of_eq (slotB_eq c 1)) $$ HgB1
  icases HEB1 with ⟨%gB1, HgB1⟩
  ihave HlH1 := eH1.1 $$ HpH1
  icases HlH1 with ⟨HlH1, HnH1⟩
  ihave HEH1 := (Entails.of_eq (slotH_eq c 1)) $$ HgH1
  icases HEH1 with ⟨%gH1, HgH1⟩
  unfold bodyCore
  simp only [cc0_merge_deep_eq_skeleton]
  unfold cc0_merge_deep_skel
  sl_exec
  iapply (loop_rule c arg4 harg4 arg5 harg5 arg6 harg6 0#32 1#32 1#32 1#32 2#32 2#32 fX fM fB fH q4 q5 q6 w4 w5 w6 _)
  isplitl [HcX0 HnX0 HcM0 HnM0 HcB0 HnB0 HcH0 HnH0 HcX1 HnX1 HcM1 HnM1 HcB1 HnB1 HcH1 HnH1 HFX HFM HFB HFH Hw HO0 HO1 HA HB HW]
  · unfold inv
    isplitr
    · ipureintro; decide +kernel
    isplitl [HcX0 HnX0]
    · iapply (Entails.of_eq (roleX_lt c fX 0 (by omega)).symm)
      isplitl [HcX0]
      · iexists _; isplitr
        swap; · iexact HcX0
        ipureintro; exact View.read_writes_whole _ _ _
      iexact HnX0
    isplitl [HcM0 HnM0]
    · iapply (Entails.of_eq (roleM_lt c fM 0 (by omega)).symm)
      isplitl [HcM0]
      · iexists _; isplitr
        swap; · iexact HcM0
        ipureintro; exact View.read_writes_whole _ _ _
      iexact HnM0
    isplitl [HcB0 HnB0]
    · iapply (Entails.of_eq (roleB_lt c fB 0 (by omega)).symm)
      isplitl [HcB0]
      · iexists _; isplitr
        swap; · iexact HcB0
        ipureintro; exact View.read_writes_whole _ _ _
      iexact HnB0
    isplitl [HcH0 HnH0]
    · iapply (Entails.of_eq (roleH_lt c fH 0 (by omega)).symm)
      isplitl [HcH0]
      · iexists _; isplitr
        swap; · iexact HcH0
        ipureintro; exact View.read_writes_whole _ _ _
      iexact HnH0
    isplitl [HcX1 HnX1]
    · iapply (Entails.of_eq (roleX_lt c fX 1 (by omega)).symm)
      isplitl [HcX1]
      · iexists _; isplitr
        swap; · iexact HcX1
        ipureintro; exact View.read_writes_whole _ _ _
      iexact HnX1
    isplitl [HcM1 HnM1]
    · iapply (Entails.of_eq (roleM_lt c fM 1 (by omega)).symm)
      isplitl [HcM1]
      · iexists _; isplitr
        swap; · iexact HcM1
        ipureintro; exact View.read_writes_whole _ _ _
      iexact HnM1
    isplitl [HcB1 HnB1]
    · iapply (Entails.of_eq (roleB_lt c fB 1 (by omega)).symm)
      isplitl [HcB1]
      · iexists _; isplitr
        swap; · iexact HcB1
        ipureintro; exact View.read_writes_whole _ _ _
      iexact HnB1
    isplitl [HcH1 HnH1]
    · iapply (Entails.of_eq (roleH_lt c fH 1 (by omega)).symm)
      isplitl [HcH1]
      · iexists _; isplitr
        swap; · iexact HcH1
        ipureintro; exact View.read_writes_whole _ _ _
      iexact HnH1
    isplitl [HFX]; · iexact HFX
    isplitl [HFM]; · iexact HFM
    isplitl [HFB]; · iexact HFB
    isplitl [HFH]; · iexact HFH
    isplitl [Hw]; · iexact Hw
    isplitl [HO0 HO1]
    · iapply (Entails.of_eq (outState_zero c _ 0 rfl).symm)
      isplitl [HO0]; · iexact HO0
      iexact HO1
    isplitl [HA]; · iexact HA
    isplitl [HB]; · iexact HB
    iexists _; iexact HW
  iintro %acc HI
  ihave HI := (Entails.of_eq (inv_eq c arg4 arg5 arg6 fX fM fB fH q4 q5 q6 w4 w5 w6 acc)) $$ HI
  icases HI with ⟨%hacc, HRX, HRM, HRB, HRH, HNX, HNM, HNB, HNH, HFX, HFM, HFB, HFH, Hw, HO, -, HB, ⟨%W1, HW⟩⟩
  subst hacc
  have h7 := chk7
  have h8 := chk8
  ihave HO := (Entails.of_eq (outState_pos c _ 64 (by decide))) $$ HO
  icases HO with ⟨HO, ⟨%dP, %fP, %rP, HfO⟩⟩
  sl_exec
  sl_step
  isplitl [HRX]; · iapply (Entails.of_eq (roleX_ge c fX 64 (by decide))); iexact HRX
  isplitl [HRM]; · iapply (Entails.of_eq (roleM_ge c fM 64 (by decide))); iexact HRM
  isplitl [HRB]; · iapply (Entails.of_eq (roleB_ge c fB 64 (by decide))); iexact HRB
  isplitl [HRH]; · iapply (Entails.of_eq (roleH_ge c fH 64 (by decide))); iexact HRH
  isplitl [HNX]; · iapply (Entails.of_eq (roleX_ge c fX 65 (by decide))); iexact HNX
  isplitl [HNM]; · iapply (Entails.of_eq (roleM_ge c fM 65 (by decide))); iexact HNM
  isplitl [HNB]; · iapply (Entails.of_eq (roleB_ge c fB 65 (by decide))); iexact HNB
  isplitl [HNH]; · iapply (Entails.of_eq (roleH_ge c fH 65 (by decide))); iexact HNH
  isplitl [HFX]; · iexact HFX
  isplitl [HFM]; · iexact HFM
  isplitl [HFB]; · iexact HFB
  isplitl [HFH]; · iexact HFH
  isplitl [Hw]; · iexact Hw
  isplitl [HfO HfO_src]
  · isplitl [HfO]; · iexact HfO
    iapply (Entails.of_eq (slotO_eq c 63).symm); iexists _; iexact HfO_src
  isplitl [HO]; · iexact HO
  isplitl [HB HfO_dst]
  · iapply (behindO_join c w4 w5 w6 fX fM fB fH 63 (by decide))
    isplitl [HB]; · iexact HB
    iapply (owns_of_read c (bO 63) fullShare _ dP rP); iexact HfO_dst
  iexists _; iexact HW

end Cert.KernelIdeal.Deep
-- ==== Proof.Whole.lean ====
/-
  The scratch buffers as their slots and the read arrays as the shares lent to them, and back.
-/
module

public import proofs.«01_k».proof.Proof.State
public import Idealize.ShloMosaic.Lib.Ring.WriteBehind

@[expose] public section

set_option maxRecDepth 16384

noncomputable section

namespace Cert.KernelIdeal.Deep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Slot `n`'s elements in a ring of 3 slots of shape `S1x1x1024x1024`. -/
def box3 (n : ℕ) : Finset S3x1x1024x1024.Idx := (Rect.unit (s := S3x1x1024x1024) ![n % 3, 0, 0, 0] S1x1x1024x1024.size (inb3 n)).set
theorem box3_disjoint (i i' : Fin 3) (h : i ≠ i') : Disjoint (box3 i.val) (box3 i'.val) := by
  refine Rect.unit_disjoint 0 ?_
  have hn : i.val ≠ i'.val := fun e => h (Fin.ext e)
  have hi := i.isLt; have hi' := i'.isLt
  show i.val % 3 + 1 ≤ i'.val % 3 ∨ i'.val % 3 + 1 ≤ i.val % 3
  omega

/-- Slot `n`'s elements in a ring of 3 slots of shape `S1x1x1024x512`. -/
def box3h (n : ℕ) : Finset S3x1x1024x512.Idx := (Rect.unit (s := S3x1x1024x512) ![n % 3, 0, 0, 0] S1x1x1024x512.size (inb3h n)).set
theorem box3h_disjoint (i i' : Fin 3) (h : i ≠ i') : Disjoint (box3h i.val) (box3h i'.val) := by
  refine Rect.unit_disjoint 0 ?_
  have hn : i.val ≠ i'.val := fun e => h (Fin.ext e)
  have hi := i.isLt; have hi' := i'.isLt
  show i.val % 3 + 1 ≤ i'.val % 3 ∨ i'.val % 3 + 1 ≤ i.val % 3
  omega

/-- Slot `n`'s elements in a ring of 2 slots of shape `S1x1x1024x1024`. -/
def box2 (n : ℕ) : Finset S2x1x1024x1024.Idx := (Rect.unit (s := S2x1x1024x1024) ![n % 2, 0, 0, 0] S1x1x1024x1024.size (inb2 n)).set
theorem box2_disjoint (i i' : Fin 2) (h : i ≠ i') : Disjoint (box2 i.val) (box2 i'.val) := by
  refine Rect.unit_disjoint 0 ?_
  have hn : i.val ≠ i'.val := fun e => h (Fin.ext e)
  have hi := i.isLt; have hi' := i'.isLt
  show i.val % 2 + 1 ≤ i'.val % 2 ∨ i'.val % 2 + 1 ≤ i.val % 2
  omega

theorem sX_set (n : ℕ) : (sX n).view.set = box3 n := (View.set_reshape _ _).trans (View.set_slice_whole _ _)
theorem sX_pt (c : Dev nD) (n : ℕ) (f : Buf (Elt F) ((c : Thread nD τ).loc cc0_scoped0)) :
    (((sX n).view.loc (c : Thread nD τ) ↦[(sX n).view.set]{fullShare} f) : sProp 𝕄) = (((c : Thread nD τ).loc cc0_scoped0) ↦[box3 n]{fullShare} f) :=
  congrArg (fun S : Finset S3x1x1024x1024.Idx => ((((c : Thread nD τ).loc cc0_scoped0) ↦[S]{fullShare} f) : sProp 𝕄)) (sX_set n)
/-- The buffer's elements in no slot. -/
def spareX (c : Dev nD) : sProp 𝕄 :=
  iprop(∃ f, ((c : Thread nD τ).loc cc0_scoped0) ↦[Finset.univ \ Finset.univ.biUnion fun i : Fin 3 => box3 i.val]{fullShare} f)
theorem slotsX_eq (c : Dev nD) :
    (bigSep Finset.univ (fun i : Fin 3 => iprop(∃ g, (sX i.val).view.loc (c : Thread nD τ) ↦[(sX i.val).view.set]{fullShare} g)) : sProp 𝕄)
      = iprop(slotX c 0 ∗ slotX c 1 ∗ slotX c 2) := by
  rw [BI.bigSep_eq_bigSepL_of_eq [0, 1, 2] (by decide) (by decide)]; rfl
theorem splitX (c : Dev nD) : iprop(∃ f, ((c : Thread nD τ).loc cc0_scoped0) ↦{fullShare} f) ⊢ iprop((slotX c 0 ∗ slotX c 1 ∗ slotX c 2) ∗ spareX (F := F) c) := by
  rw [← slotsX_eq]
  exact Ring.pieces_split_spare (ℓ := ((c : Thread nD τ).loc cc0_scoped0)) (fun i : Fin 3 => box3 i.val) box3_disjoint
    (fun i f => iprop((sX i.val).view.loc (c : Thread nD τ) ↦[(sX i.val).view.set]{fullShare} f)) (fun i f => sX_pt c i.val f)
theorem joinX (c : Dev nD) : iprop((slotX c 0 ∗ slotX c 1 ∗ slotX c 2) ∗ spareX (F := F) c) ⊢ iprop(∃ f, ((c : Thread nD τ).loc cc0_scoped0) ↦{fullShare} f) := by
  rw [← slotsX_eq]
  exact Ring.pieces_join_spare (ℓ := ((c : Thread nD τ).loc cc0_scoped0)) (fun i : Fin 3 => box3 i.val) box3_disjoint
    (fun i f => iprop((sX i.val).view.loc (c : Thread nD τ) ↦[(sX i.val).view.set]{fullShare} f)) (fun i f => sX_pt c i.val f)
theorem partsX (c : Dev nD) (f : Buf (Elt F) ((Memref.whole main_arg0).view.loc (c : Thread nD τ))) :
    (((c : Thread nD τ).loc main_arg0) ↦{fullShare} f : sProp 𝕄) ⊣⊢ iprop(partX c f 0 ∗ partX c f 1 ∗ partX c f 2) :=
  Ring.pointsTo_thirds fullShare f
/-- After the last block the three slots are the first three again. -/
theorem freeX_end (c : Dev nD) (f : Buf (Elt F) ((Memref.whole main_arg0).view.loc (c : Thread nD τ))) :
    freeX c f 64 = freeX c f 1 ∧ freeX c f 65 = freeX c f 2 ∧ freeX c f 66 = freeX c f 0 := by
  have e : ∀ j n, freeX c f (n + 3 * j) = freeX c f n := fun j => by
    induction j with
    | zero => intro n; rfl
    | succ j ih => intro n; exact (freeX_turn c f (n + 3 * j)).trans (ih n)
  exact ⟨e 21 1, e 21 2, e 22 0⟩

theorem sM_set (n : ℕ) : (sM n).view.set = box3 n := (View.set_reshape _ _).trans (View.set_slice_whole _ _)
theorem sM_pt (c : Dev nD) (n : ℕ) (f : Buf (Elt F) ((c : Thread nD τ).loc cc0_scoped2)) :
    (((sM n).view.loc (c : Thread nD τ) ↦[(sM n).view.set]{fullShare} f) : sProp 𝕄) = (((c : Thread nD τ).loc cc0_scoped2) ↦[box3 n]{fullShare} f) :=
  congrArg (fun S : Finset S3x1x1024x1024.Idx => ((((c : Thread nD τ).loc cc0_scoped2) ↦[S]{fullShare} f) : sProp 𝕄)) (sM_set n)
/-- The buffer's elements in no slot. -/
def spareM (c : Dev nD) : sProp 𝕄 :=
  iprop(∃ f, ((c : Thread nD τ).loc cc0_scoped2) ↦[Finset.univ \ Finset.univ.biUnion fun i : Fin 3 => box3 i.val]{fullShare} f)
theorem slotsM_eq (c : Dev nD) :
    (bigSep Finset.univ (fun i : Fin 3 => iprop(∃ g, (sM i.val).view.loc (c : Thread nD τ) ↦[(sM i.val).view.set]{fullShare} g)) : sProp 𝕄)
      = iprop(slotM c 0 ∗ slotM c 1 ∗ slotM c 2) := by
  rw [BI.bigSep_eq_bigSepL_of_eq [0, 1, 2] (by decide) (by decide)]; rfl
theorem splitM (c : Dev nD) : iprop(∃ f, ((c : Thread nD τ).loc cc0_scoped2) ↦{fullShare} f) ⊢ iprop((slotM c 0 ∗ slotM c 1 ∗ slotM c 2) ∗ spareM (F := F) c) := by
  rw [← slotsM_eq]
  exact Ring.pieces_split_spare (ℓ := ((c : Thread nD τ).loc cc0_scoped2)) (fun i : Fin 3 => box3 i.val) box3_disjoint
    (fun i f => iprop((sM i.val).view.loc (c : Thread nD τ) ↦[(sM i.val).view.set]{fullShare} f)) (fun i f => sM_pt c i.val f)
theorem joinM (c : Dev nD) : iprop((slotM c 0 ∗ slotM c 1 ∗ slotM c 2) ∗ spareM (F := F) c) ⊢ iprop(∃ f, ((c : Thread nD τ).loc cc0_scoped2) ↦{fullShare} f) := by
  rw [← slotsM_eq]
  exact Ring.pieces_join_spare (ℓ := ((c : Thread nD τ).loc cc0_scoped2)) (fun i : Fin 3 => box3 i.val) box3_disjoint
    (fun i f => iprop((sM i.val).view.loc (c : Thread nD τ) ↦[(sM i.val).view.set]{fullShare} f)) (fun i f => sM_pt c i.val f)
theorem partsM (c : Dev nD) (f : Buf (Elt F) ((Memref.whole main_arg1).view.loc (c : Thread nD τ))) :
    (((c : Thread nD τ).loc main_arg1) ↦{fullShare} f : sProp 𝕄) ⊣⊢ iprop(partM c f 0 ∗ partM c f 1 ∗ partM c f 2) :=
  Ring.pointsTo_thirds fullShare f
/-- After the last block the three slots are the first three again. -/
theorem freeM_end (c : Dev nD) (f : Buf (Elt F) ((Memref.whole main_arg1).view.loc (c : Thread nD τ))) :
    freeM c f 64 = freeM c f 1 ∧ freeM c f 65 = freeM c f 2 ∧ freeM c f 66 = freeM c f 0 := by
  have e : ∀ j n, freeM c f (n + 3 * j) = freeM c f n := fun j => by
    induction j with
    | zero => intro n; rfl
    | succ j ih => intro n; exact (freeM_turn c f (n + 3 * j)).trans (ih n)
  exact ⟨e 21 1, e 21 2, e 22 0⟩

theorem sB_set (n : ℕ) : (sB n).view.set = box3 n := (View.set_reshape _ _).trans (View.set_slice_whole _ _)
theorem sB_pt (c : Dev nD) (n : ℕ) (f : Buf (Elt F) ((c : Thread nD τ).loc cc0_scoped4)) :
    (((sB n).view.loc (c : Thread nD τ) ↦[(sB n).view.set]{fullShare} f) : sProp 𝕄) = (((c : Thread nD τ).loc cc0_scoped4) ↦[box3 n]{fullShare} f) :=
  congrArg (fun S : Finset S3x1x1024x1024.Idx => ((((c : Thread nD τ).loc cc0_scoped4) ↦[S]{fullShare} f) : sProp 𝕄)) (sB_set n)
/-- The buffer's elements in no slot. -/
def spareB (c : Dev nD) : sProp 𝕄 :=
  iprop(∃ f, ((c : Thread nD τ).loc cc0_scoped4) ↦[Finset.univ \ Finset.univ.biUnion fun i : Fin 3 => box3 i.val]{fullShare} f)
theorem slotsB_eq (c : Dev nD) :
    (bigSep Finset.univ (fun i : Fin 3 => iprop(∃ g, (sB i.val).view.loc (c : Thread nD τ) ↦[(sB i.val).view.set]{fullShare} g)) : sProp 𝕄)
      = iprop(slotB c 0 ∗ slotB c 1 ∗ slotB c 2) := by
  rw [BI.bigSep_eq_bigSepL_of_eq [0, 1, 2] (by decide) (by decide)]; rfl
theorem splitB (c : Dev nD) : iprop(∃ f, ((c : Thread nD τ).loc cc0_scoped4) ↦{fullShare} f) ⊢ iprop((slotB c 0 ∗ slotB c 1 ∗ slotB c 2) ∗ spareB (F := F) c) := by
  rw [← slotsB_eq]
  exact Ring.pieces_split_spare (ℓ := ((c : Thread nD τ).loc cc0_scoped4)) (fun i : Fin 3 => box3 i.val) box3_disjoint
    (fun i f => iprop((sB i.val).view.loc (c : Thread nD τ) ↦[(sB i.val).view.set]{fullShare} f)) (fun i f => sB_pt c i.val f)
theorem joinB (c : Dev nD) : iprop((slotB c 0 ∗ slotB c 1 ∗ slotB c 2) ∗ spareB (F := F) c) ⊢ iprop(∃ f, ((c : Thread nD τ).loc cc0_scoped4) ↦{fullShare} f) := by
  rw [← slotsB_eq]
  exact Ring.pieces_join_spare (ℓ := ((c : Thread nD τ).loc cc0_scoped4)) (fun i : Fin 3 => box3 i.val) box3_disjoint
    (fun i f => iprop((sB i.val).view.loc (c : Thread nD τ) ↦[(sB i.val).view.set]{fullShare} f)) (fun i f => sB_pt c i.val f)
theorem partsB (c : Dev nD) (f : Buf (Elt F) ((Memref.whole main_arg2).view.loc (c : Thread nD τ))) :
    (((c : Thread nD τ).loc main_arg2) ↦{fullShare} f : sProp 𝕄) ⊣⊢ iprop(partB c f 0 ∗ partB c f 1 ∗ partB c f 2) :=
  Ring.pointsTo_thirds fullShare f
/-- After the last block the three slots are the first three again. -/
theorem freeB_end (c : Dev nD) (f : Buf (Elt F) ((Memref.whole main_arg2).view.loc (c : Thread nD τ))) :
    freeB c f 64 = freeB c f 1 ∧ freeB c f 65 = freeB c f 2 ∧ freeB c f 66 = freeB c f 0 := by
  have e : ∀ j n, freeB c f (n + 3 * j) = freeB c f n := fun j => by
    induction j with
    | zero => intro n; rfl
    | succ j ih => intro n; exact (freeB_turn c f (n + 3 * j)).trans (ih n)
  exact ⟨e 21 1, e 21 2, e 22 0⟩

theorem sH_set (n : ℕ) : (sH n).view.set = box3h n := (View.set_reshape _ _).trans (View.set_slice_whole _ _)
theorem sH_pt (c : Dev nD) (n : ℕ) (f : Buf (Elt F) ((c : Thread nD τ).loc cc0_scoped6)) :
    (((sH n).view.loc (c : Thread nD τ) ↦[(sH n).view.set]{fullShare} f) : sProp 𝕄) = (((c : Thread nD τ).loc cc0_scoped6) ↦[box3h n]{fullShare} f) :=
  congrArg (fun S : Finset S3x1x1024x512.Idx => ((((c : Thread nD τ).loc cc0_scoped6) ↦[S]{fullShare} f) : sProp 𝕄)) (sH_set n)
/-- The buffer's elements in no slot. -/
def spareH (c : Dev nD) : sProp 𝕄 :=
  iprop(∃ f, ((c : Thread nD τ).loc cc0_scoped6) ↦[Finset.univ \ Finset.univ.biUnion fun i : Fin 3 => box3h i.val]{fullShare} f)
theorem slotsH_eq (c : Dev nD) :
    (bigSep Finset.univ (fun i : Fin 3 => iprop(∃ g, (sH i.val).view.loc (c : Thread nD τ) ↦[(sH i.val).view.set]{fullShare} g)) : sProp 𝕄)
      = iprop(slotH c 0 ∗ slotH c 1 ∗ slotH c 2) := by
  rw [BI.bigSep_eq_bigSepL_of_eq [0, 1, 2] (by decide) (by decide)]; rfl
theorem splitH (c : Dev nD) : iprop(∃ f, ((c : Thread nD τ).loc cc0_scoped6) ↦{fullShare} f) ⊢ iprop((slotH c 0 ∗ slotH c 1 ∗ slotH c 2) ∗ spareH (F := F) c) := by
  rw [← slotsH_eq]
  exact Ring.pieces_split_spare (ℓ := ((c : Thread nD τ).loc cc0_scoped6)) (fun i : Fin 3 => box3h i.val) box3h_disjoint
    (fun i f => iprop((sH i.val).view.loc (c : Thread nD τ) ↦[(sH i.val).view.set]{fullShare} f)) (fun i f => sH_pt c i.val f)
theorem joinH (c : Dev nD) : iprop((slotH c 0 ∗ slotH c 1 ∗ slotH c 2) ∗ spareH (F := F) c) ⊢ iprop(∃ f, ((c : Thread nD τ).loc cc0_scoped6) ↦{fullShare} f) := by
  rw [← slotsH_eq]
  exact Ring.pieces_join_spare (ℓ := ((c : Thread nD τ).loc cc0_scoped6)) (fun i : Fin 3 => box3h i.val) box3h_disjoint
    (fun i f => iprop((sH i.val).view.loc (c : Thread nD τ) ↦[(sH i.val).view.set]{fullShare} f)) (fun i f => sH_pt c i.val f)
theorem partsH (c : Dev nD) (f : Buf (Elt F) ((Memref.whole main_arg3).view.loc (c : Thread nD τ))) :
    (((c : Thread nD τ).loc main_arg3) ↦{fullShare} f : sProp 𝕄) ⊣⊢ iprop(partH c f 0 ∗ partH c f 1 ∗ partH c f 2) :=
  Ring.pointsTo_thirds fullShare f
/-- After the last block the three slots are the first three again. -/
theorem freeH_end (c : Dev nD) (f : Buf (Elt F) ((Memref.whole main_arg3).view.loc (c : Thread nD τ))) :
    freeH c f 64 = freeH c f 1 ∧ freeH c f 65 = freeH c f 2 ∧ freeH c f 66 = freeH c f 0 := by
  have e : ∀ j n, freeH c f (n + 3 * j) = freeH c f n := fun j => by
    induction j with
    | zero => intro n; rfl
    | succ j ih => intro n; exact (freeH_turn c f (n + 3 * j)).trans (ih n)
  exact ⟨e 21 1, e 21 2, e 22 0⟩

theorem sO_set (n : ℕ) : (sO n).view.set = box2 n := (View.set_reshape _ _).trans (View.set_slice_whole _ _)
theorem sO_pt (c : Dev nD) (n : ℕ) (f : Buf (Elt F) ((c : Thread nD τ).loc cc0_scoped8)) :
    (((sO n).view.loc (c : Thread nD τ) ↦[(sO n).view.set]{fullShare} f) : sProp 𝕄) = (((c : Thread nD τ).loc cc0_scoped8) ↦[box2 n]{fullShare} f) :=
  congrArg (fun S : Finset S2x1x1024x1024.Idx => ((((c : Thread nD τ).loc cc0_scoped8) ↦[S]{fullShare} f) : sProp 𝕄)) (sO_set n)
/-- The buffer's elements in no slot. -/
def spareO (c : Dev nD) : sProp 𝕄 :=
  iprop(∃ f, ((c : Thread nD τ).loc cc0_scoped8) ↦[Finset.univ \ Finset.univ.biUnion fun i : Fin 2 => box2 i.val]{fullShare} f)
theorem slotsO_eq (c : Dev nD) :
    (bigSep Finset.univ (fun i : Fin 2 => iprop(∃ g, (sO i.val).view.loc (c : Thread nD τ) ↦[(sO i.val).view.set]{fullShare} g)) : sProp 𝕄)
      = iprop(slotO c 0 ∗ slotO c 1) := by
  rw [BI.bigSep_eq_bigSepL_of_eq [0, 1] (by decide) (by decide)]; rfl
theorem splitO (c : Dev nD) : iprop(∃ f, ((c : Thread nD τ).loc cc0_scoped8) ↦{fullShare} f) ⊢ iprop((slotO c 0 ∗ slotO c 1) ∗ spareO (F := F) c) := by
  rw [← slotsO_eq]
  exact Ring.pieces_split_spare (ℓ := ((c : Thread nD τ).loc cc0_scoped8)) (fun i : Fin 2 => box2 i.val) box2_disjoint
    (fun i f => iprop((sO i.val).view.loc (c : Thread nD τ) ↦[(sO i.val).view.set]{fullShare} f)) (fun i f => sO_pt c i.val f)
theorem joinO (c : Dev nD) : iprop((slotO c 0 ∗ slotO c 1) ∗ spareO (F := F) c) ⊢ iprop(∃ f, ((c : Thread nD τ).loc cc0_scoped8) ↦{fullShare} f) := by
  rw [← slotsO_eq]
  exact Ring.pieces_join_spare (ℓ := ((c : Thread nD τ).loc cc0_scoped8)) (fun i : Fin 2 => box2 i.val) box2_disjoint
    (fun i f => iprop((sO i.val).view.loc (c : Thread nD τ) ↦[(sO i.val).view.set]{fullShare} f)) (fun i f => sO_pt c i.val f)
theorem freeO_end (c : Dev nD) : freeO (F := F) c 63 = freeO c 1 ∧ freeO (F := F) c 64 = freeO c 0 := by
  have e : ∀ j n, freeO (F := F) c (n + 2 * j) = freeO c n := fun j => by
    induction j with
    | zero => intro n; rfl
    | succ j ih => intro n; exact (freeO_turn c (n + 2 * j)).trans (ih n)
  exact ⟨e 31 1, e 32 0⟩

end Cert.KernelIdeal.Deep
-- ==== Proof.Launched.lean ====
/-
  The pipelined merge launched: every run of the program ends with the arguments as they were, every semaphore at zero,
  and the result holding the merge of the operands block by block.
-/
module

public import proofs.«01_k».proof.Proof.Body
public import proofs.«01_k».proof.Proof.Whole
public import proofs.«01_k».proof.Proof.Gen.KernelIdeal.Frame

@[expose] public section

set_option maxRecDepth 16384

noncomputable section

namespace Cert.KernelIdeal.Deep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region finds -/

theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem found_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's fourteen transfer semaphores. -/
abbrev osem0 : Fin 14 → SemLoc sig := fun j => (![SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16] : Fin 14 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cX 0)) 0 ∗ semVal ((c : Thread nD τ), SemLoc.dma (cX 1)) 0 ∗ semVal ((c : Thread nD τ), SemLoc.dma (cX 2)) 0 ∗ semVal ((c : Thread nD τ), SemLoc.dma (cM 0)) 0 ∗ semVal ((c : Thread nD τ), SemLoc.dma (cM 1)) 0 ∗ semVal ((c : Thread nD τ), SemLoc.dma (cM 2)) 0 ∗ semVal ((c : Thread nD τ), SemLoc.dma (cB 0)) 0 ∗ semVal ((c : Thread nD τ), SemLoc.dma (cB 1)) 0 ∗ semVal ((c : Thread nD τ), SemLoc.dma (cB 2)) 0 ∗ semVal ((c : Thread nD τ), SemLoc.dma (cH 0)) 0 ∗ semVal ((c : Thread nD τ), SemLoc.dma (cH 1)) 0 ∗ semVal ((c : Thread nD τ), SemLoc.dma (cH 2)) 0 ∗ semVal ((c : Thread nD τ), SemLoc.dma (cO 0)) 0 ∗ semVal ((c : Thread nD τ), SemLoc.dma (cO 1)) 0) := by
  rw [Pipeline.ownSems0_eq_of_list c osem0 [0, 1, 2, 3, 4, 5, 6, 7, 8, 9, 10, 11, 12, 13] (by decide) (by decide)]; rfl
/-- The arrays the body reads by transfers, and the one it writes. -/
def H0 : Finset (Ref sig .tc) := {main_arg0, main_arg1, main_arg2, main_arg3}
theorem H0_sub : H0 ⊆ Pipeline.restRefs sig spec0 := by decide
def R0 : Finset (Ref sig .tc) := {main_v5}
theorem R0_sub : R0 ⊆ Pipeline.restRefs sig spec0 \ H0 := by decide
theorem read_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3)) := by
  rw [BI.bigSep_eq_bigSepL_of_eq [main_arg0, main_arg1, main_arg2, main_arg3] (by decide) (by decide)]; rfl
theorem routed_eq (c : Dev nD) (W : (b : Ref sig .tc) → Buf (Elt F) ((c : Thread nD τ).loc b)) :
    (Pipeline.routed R0 c W : sProp 𝕄) = iprop(((c : Thread nD τ).loc main_v5) ↦{fullShare} W main_v5) := by
  unfold Pipeline.routed; rw [BI.bigSep_eq_bigSepL_of_eq [main_v5] (by decide) (by decide)]; rfl

/-- What the result ends at on core `c`. -/
def result (c : Dev nD) : Buf (Elt F) ((c : Thread nD τ).loc main_v5) :=
  gout c (iblk m c 0 t0_0) (iblk m c 1 t0_0) (iblk m c 2 t0_0) (V m c main_arg0) (V m c main_arg1) (V m c main_arg2) (V m c main_arg3)
/-- The buffers as the region leaves them. -/
def G (c : Dev nD) : (b : Ref sig .tc) → Buf (Elt F) ((c : Thread nD τ).loc b) := Function.update (V m c) main_v5 (result m c)
theorem G_result (c : Dev nD) : G m c main_v5 = result m c := by unfold G; exact Function.update_self ..

/-- The proof data: the staged weights stay, the body's own state goes from the launch's to the merged result's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Pipeline.ΦDRG osem0 spec0 H0 R0 (V m) (if t.val = 0 then V m else G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem stateBefore (c : Dev nD) (t : Fin cfg0.N) : (dats m 0 c).Φ t.castSucc = Pipeline.ΦDRG osem0 spec0 H0 R0 (V m) (V m) c := by
  have h : t.castSucc.val = 0 := by rw [fin_N0 t]; rfl
  show Pipeline.ΦDRG osem0 spec0 H0 R0 (V m) (if t.castSucc.val = 0 then V m else G m) c = _
  rw [if_pos h]
theorem stateAfter (c : Dev nD) (t : Fin cfg0.N) : (dats m 0 c).Φ t.succ = Pipeline.ΦDRG osem0 spec0 H0 R0 (V m) (G m) c := by
  have h : ¬ t.succ.val = 0 := by rw [fin_N0 t]; exact Nat.succ_ne_zero _
  show Pipeline.ΦDRG osem0 spec0 H0 R0 (V m) (if t.succ.val = 0 then V m else G m) c = _
  rw [if_neg h]

set_option maxHeartbeats 1000000 in
/-- The body's obligation at the one grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [stateBefore, stateAfter, after0_0, after0_1, after0_2, Pipeline.ΦDRG_eq, Pipeline.ΦDRG_eq, scopedRest0_eq, ownSems00_eq, read_eq, routed_eq, routed_eq, G_result]
  unfold Dat.owesAt Pipeline.owesWithin
  rw [show (dats m 0 c).owed t.castSucc = 0 from rfl, show (dats m 0 c).owed t.succ = 0 from rfl]
  obtain rfl := fin_N0 t
  iintro ⟨⟨⟨HSX, HSM, HSB, HSH, HSO⟩, Hg, ⟨HcX0, HcX1, HcX2, HcM0, HcM1, HcM2, HcB0, HcB1, HcB2, HcH0, HcH1, HcH2, HcO0, HcO1⟩, ⟨HAX, HAM, HAB, HAH⟩, HR⟩, ⟨%W, -, HW⟩, ⟨%d0, H0⟩, ⟨%d1, H1⟩, ⟨%d2, H2⟩⟩
  ihave H0 := (Entails.of_eq (congrArg (fun v => (owns (c : Thread nD τ) (st0_0 t0_0) fullShare v : sProp 𝕄)) (found_0 m (dats m 0 c) (A_eq m c 0) (after0_0 m c) t0_0 d0))) $$ H0
  ihave H1 := (Entails.of_eq (congrArg (fun v => (owns (c : Thread nD τ) (st0_1 t0_0) fullShare v : sProp 𝕄)) (found_1 m (dats m 0 c) (A_eq m c 1) (after0_1 m c) t0_0 d1))) $$ H1
  ihave H2 := (Entails.of_eq (congrArg (fun v => (owns (c : Thread nD τ) (st0_2 t0_0) fullShare v : sProp 𝕄)) (found_2 m (dats m 0 c) (A_eq m c 2) (after0_2 m c) t0_0 d2))) $$ H2
  ihave HSX := (splitX c) $$ HSX
  icases HSX with ⟨⟨HsX0, HsX1, HsX2⟩, HZX⟩
  ihave HAX := (partsX c (V m c main_arg0)).1 $$ HAX
  icases HAX with ⟨HpX0, HpX1, HpX2⟩
  ihave HSM := (splitM c) $$ HSM
  icases HSM with ⟨⟨HsM0, HsM1, HsM2⟩, HZM⟩
  ihave HAM := (partsM c (V m c main_arg1)).1 $$ HAM
  icases HAM with ⟨HpM0, HpM1, HpM2⟩
  ihave HSB := (splitB c) $$ HSB
  icases HSB with ⟨⟨HsB0, HsB1, HsB2⟩, HZB⟩
  ihave HAB := (partsB c (V m c main_arg2)).1 $$ HAB
  icases HAB with ⟨HpB0, HpB1, HpB2⟩
  ihave HSH := (splitH c) $$ HSH
  icases HSH with ⟨⟨HsH0, HsH1, HsH2⟩, HZH⟩
  ihave HAH := (partsH c (V m c main_arg3)).1 $$ HAH
  icases HAH with ⟨HpH0, HpH1, HpH2⟩
  ihave HSO := (splitO c) $$ HSO
  icases HSO with ⟨⟨HsO0, HsO1⟩, HZO⟩
  iapply (wp_wand_r frame (wpE (defs₀ (F := F)) Variants.none (c : Thread nD τ) none) Set.univ)
  isplitl [HcX0 HcX1 HcX2 HcM0 HcM1 HcM2 HcB0 HcB1 HcB2 HcH0 HcH1 HcH2 HsX0 HsX1 HsX2 HsM0 HsM1 HsM2 HsB0 HsB1 HsB2 HsH0 HsH1 HsH2 HpX0 HpX1 HpX2 HpM0 HpM1 HpM2 HpB0 HpB1 HpB2 HpH0 HpH1 HpH2 HcO0 HcO1 HsO0 HsO1 HR H0 H1 H2 HW]
  · iapply (run_core c (st0_0 t0_0) (hstage0_0 0) (st0_1 t0_0) (hstage0_1 0) (st0_2 t0_0) (hstage0_2 0)
      (V m c main_arg0) (V m c main_arg1) (V m c main_arg2) (V m c main_arg3) fullShare fullShare fullShare (iblk m c 0 t0_0) (iblk m c 1 t0_0) (iblk m c 2 t0_0))
    isplitl [HcX0 HsX0 HpX0]
    · isplitl [HcX0]; · iexact HcX0
      isplitl [HsX0]; · iexact HsX0
      iexact HpX0
    isplitl [HcM0 HsM0 HpM0]
    · isplitl [HcM0]; · iexact HcM0
      isplitl [HsM0]; · iexact HsM0
      iexact HpM0
    isplitl [HcB0 HsB0 HpB0]
    · isplitl [HcB0]; · iexact HcB0
      isplitl [HsB0]; · iexact HsB0
      iexact HpB0
    isplitl [HcH0 HsH0 HpH0]
    · isplitl [HcH0]; · iexact HcH0
      isplitl [HsH0]; · iexact HsH0
      iexact HpH0
    isplitl [HcX1 HsX1 HpX1]
    · isplitl [HcX1]; · iexact HcX1
      isplitl [HsX1]; · iexact HsX1
      iexact HpX1
    isplitl [HcM1 HsM1 HpM1]
    · isplitl [HcM1]; · iexact HcM1
      isplitl [HsM1]; · iexact HsM1
      iexact HpM1
    isplitl [HcB1 HsB1 HpB1]
    · isplitl [HcB1]; · iexact HcB1
      isplitl [HsB1]; · iexact HsB1
      iexact HpB1
    isplitl [HcH1 HsH1 HpH1]
    · isplitl [HcH1]; · iexact HcH1
      isplitl [HsH1]; · iexact HsH1
      iexact HpH1
    isplitl [HcX2 HsX2 HpX2]
    · isplitl [HcX2]; · iexact HcX2
      isplitl [HsX2]; · iexact HsX2
      iexact HpX2
    isplitl [HcM2 HsM2 HpM2]
    · isplitl [HcM2]; · iexact HcM2
      isplitl [HsM2]; · iexact HsM2
      iexact HpM2
    isplitl [HcB2 HsB2 HpB2]
    · isplitl [HcB2]; · iexact HcB2
      isplitl [HsB2]; · iexact HsB2
      iexact HpB2
    isplitl [HcH2 HsH2 HpH2]
    · isplitl [HcH2]; · iexact HcH2
      isplitl [HsH2]; · iexact HsH2
      iexact HpH2
    isplitl [H0 H1 H2]
    · isplitl [H0]; · iexact H0
      isplitl [H1]; · iexact H1
      iexact H2
    isplitl [HcO0 HsO0]
    · isplitl [HcO0]; · iexact HcO0
      iexact HsO0
    isplitl [HcO1 HsO1]
    · isplitl [HcO1]; · iexact HcO1
      iexact HsO1
    isplitl [HR]
    · iapply (aheadO_start c); iexists _; iexact HR
    isplitr [HW]
    · iapply (behindO_start c _); iempintro
    iexists W; iexact HW
  iintro %_ ⟨HfX0, HfM0, HfB0, HfH0, HfX1, HfM1, HfB1, HfH1, HfX2, HfM2, HfB2, HfH2, ⟨H0, H1, H2⟩, HfO1, HfO0, HR, ⟨%W1, HW⟩⟩
  ihave HfX0 := (Entails.of_eq (freeX_end c (V m c main_arg0)).1) $$ HfX0
  icases HfX0 with ⟨HcX1, HsX1, HpX1⟩
  ihave HfX1 := (Entails.of_eq (freeX_end c (V m c main_arg0)).2.1) $$ HfX1
  icases HfX1 with ⟨HcX2, HsX2, HpX2⟩
  ihave HfX2 := (Entails.of_eq (freeX_end c (V m c main_arg0)).2.2) $$ HfX2
  icases HfX2 with ⟨HcX0, HsX0, HpX0⟩
  ihave HfM0 := (Entails.of_eq (freeM_end c (V m c main_arg1)).1) $$ HfM0
  icases HfM0 with ⟨HcM1, HsM1, HpM1⟩
  ihave HfM1 := (Entails.of_eq (freeM_end c (V m c main_arg1)).2.1) $$ HfM1
  icases HfM1 with ⟨HcM2, HsM2, HpM2⟩
  ihave HfM2 := (Entails.of_eq (freeM_end c (V m c main_arg1)).2.2) $$ HfM2
  icases HfM2 with ⟨HcM0, HsM0, HpM0⟩
  ihave HfB0 := (Entails.of_eq (freeB_end c (V m c main_arg2)).1) $$ HfB0
  icases HfB0 with ⟨HcB1, HsB1, HpB1⟩
  ihave HfB1 := (Entails.of_eq (freeB_end c (V m c main_arg2)).2.1) $$ HfB1
  icases HfB1 with ⟨HcB2, HsB2, HpB2⟩
  ihave HfB2 := (Entails.of_eq (freeB_end c (V m c main_arg2)).2.2) $$ HfB2
  icases HfB2 with ⟨HcB0, HsB0, HpB0⟩
  ihave HfH0 := (Entails.of_eq (freeH_end c (V m c main_arg3)).1) $$ HfH0
  icases HfH0 with ⟨HcH1, HsH1, HpH1⟩
  ihave HfH1 := (Entails.of_eq (freeH_end c (V m c main_arg3)).2.1) $$ HfH1
  icases HfH1 with ⟨HcH2, HsH2, HpH2⟩
  ihave HfH2 := (Entails.of_eq (freeH_end c (V m c main_arg3)).2.2) $$ HfH2
  icases HfH2 with ⟨HcH0, HsH0, HpH0⟩
  ihave HfO1 := (Entails.of_eq (freeO_end (F := F) c).1) $$ HfO1
  icases HfO1 with ⟨HcO1, HsO1⟩
  ihave HfO0 := (Entails.of_eq (freeO_end (F := F) c).2) $$ HfO0
  icases HfO0 with ⟨HcO0, HsO0⟩
  isplitl [HsX0 HsX1 HsX2 HsM0 HsM1 HsM2 HsB0 HsB1 HsB2 HsH0 HsH1 HsH2 HsO0 HsO1 HZX HZM HZB HZH HZO HcX0 HcX1 HcX2 HcM0 HcM1 HcM2 HcB0 HcB1 HcB2 HcH0 HcH1 HcH2 HcO0 HcO1 HpX0 HpX1 HpX2 HpM0 HpM1 HpM2 HpB0 HpB1 HpB2 HpH0 HpH1 HpH2 Hg HR]
  · isplitl [HsX0 HsX1 HsX2 HsM0 HsM1 HsM2 HsB0 HsB1 HsB2 HsH0 HsH1 HsH2 HsO0 HsO1 HZX HZM HZB HZH HZO]
    · isplitl [HsX0 HsX1 HsX2 HZX]
      · iapply (joinX c)
        isplitr [HZX]
        · isplitl [HsX0]; · iexact HsX0
          isplitl [HsX1]; · iexact HsX1
          iexact HsX2
        iexact HZX
      isplitl [HsM0 HsM1 HsM2 HZM]
      · iapply (joinM c)
        isplitr [HZM]
        · isplitl [HsM0]; · iexact HsM0
          isplitl [HsM1]; · iexact HsM1
          iexact HsM2
        iexact HZM
      isplitl [HsB0 HsB1 HsB2 HZB]
      · iapply (joinB c)
        isplitr [HZB]
        · isplitl [HsB0]; · iexact HsB0
          isplitl [HsB1]; · iexact HsB1
          iexact HsB2
        iexact HZB
      isplitl [HsH0 HsH1 HsH2 HZH]
      · iapply (joinH c)
        isplitr [HZH]
        · isplitl [HsH0]; · iexact HsH0
          isplitl [HsH1]; · iexact HsH1
          iexact HsH2
        iexact HZH
      iapply (joinO c)
      isplitr [HZO]
      · isplitl [HsO0]; · iexact HsO0
        iexact HsO1
      iexact HZO
    isplitl [Hg]; · iexact Hg
    isplitl [HcX0 HcX1 HcX2 HcM0 HcM1 HcM2 HcB0 HcB1 HcB2 HcH0 HcH1 HcH2 HcO0 HcO1]
    · isplitl [HcX0]; · iexact HcX0
      isplitl [HcX1]; · iexact HcX1
      isplitl [HcX2]; · iexact HcX2
      isplitl [HcM0]; · iexact HcM0
      isplitl [HcM1]; · iexact HcM1
      isplitl [HcM2]; · iexact HcM2
      isplitl [HcB0]; · iexact HcB0
      isplitl [HcB1]; · iexact HcB1
      isplitl [HcB2]; · iexact HcB2
      isplitl [HcH0]; · iexact HcH0
      isplitl [HcH1]; · iexact HcH1
      isplitl [HcH2]; · iexact HcH2
      isplitl [HcO0]; · iexact HcO0
      iexact HcO1
    isplitl [HpX0 HpX1 HpX2 HpM0 HpM1 HpM2 HpB0 HpB1 HpB2 HpH0 HpH1 HpH2]
    · isplitl [HpX0 HpX1 HpX2]
      · iapply (partsX c (V m c main_arg0)).2
        isplitl [HpX0]; · iexact HpX0
        isplitl [HpX1]; · iexact HpX1
        iexact HpX2
      isplitl [HpM0 HpM1 HpM2]
      · iapply (partsM c (V m c main_arg1)).2
        isplitl [HpM0]; · iexact HpM0
        isplitl [HpM1]; · iexact HpM1
        iexact HpM2
      isplitl [HpB0 HpB1 HpB2]
      · iapply (partsB c (V m c main_arg2)).2
        isplitl [HpB0]; · iexact HpB0
        isplitl [HpB1]; · iexact HpB1
        iexact HpB2
      iapply (partsH c (V m c main_arg3)).2
      isplitl [HpH0]; · iexact HpH0
      isplitl [HpH1]; · iexact HpH1
      iexact HpH2
    iapply (behindO_end c (result m c)); iexact HR
  isplitl [HW]
  · iexists W1; isplitr; · ipureintro; exact fun _ _ => Or.inl trivial
    iexact HW
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem enter (c : Dev nD) : Pipeline.ΦDRG osem0 spec0 H0 R0 (V m) (V m) c ⊢ (dats m 0 c).Φ 0 := .rfl
theorem leave (c : Dev nD) : (dats m 0 c).Φ (Fin.last cfg0.N) ⊢ Pipeline.ΦDRG osem0 spec0 H0 R0 (V m) (G m) c := by
  have h : ¬ (Fin.last cfg0.N).val = 0 := by show ¬ grid0.N = 0; rw [N_0]; decide
  show Pipeline.ΦDRG osem0 spec0 H0 R0 (V m) (if (Fin.last cfg0.N).val = 0 then V m else G m) c ⊢ _
  rw [if_neg h]

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := main_prefix m Variants.none) (hA := A_eq m) (G := G m)
    (hin := enter m) (hout := leave m)

/-- Every run ends with the arguments as launched, every semaphore at zero, and the result at `result`. -/
theorem run_all : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) ∧ ∀ c : Dev nD, r.2.mem ((c.tc : Thread nD τ).loc main_v5) = result m c) :=
  (θ_run defs _ _).mono (fun _ h => ⟨⟨fun c => ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩, h.2⟩,
      fun c => (h.1.2 c main_v5 (by decide)).trans (G_result m c)⟩) (run_main m ρ)

end Cert.KernelIdeal.Deep
-- ==== Proof.Same.lean ====
/-
  The kernel as printed and the idealized kernel are one text: whatever a run of the one's text ends with, at words, a run
  of the other's ends with.
-/
module

public import proofs.«01_k».proof.Defs
public import proofs.«01_k».proof.Proof.Gen.Kernel
public import proofs.«01_k».proof.Proof.Gen.KernelIdeal
public import Idealize.ShloMosaic.Adequacy

@[expose] public section

noncomputable section

namespace Cert.Same

open Idealize.ShloMosaic Idealize.ShloMosaic.TcCoe Idealize.SL.Sem

variable {F : FTy → Type} [FloatOps F]

set_option backward.isDefEq.respectTransparency.types false in
/-- The two bodies are one. -/
theorem body_eq : @Cert.Kernel.cc0_merge_deep F _ _ = @Cert.KernelIdeal.cc0_merge_deep F _ _ := rfl
set_option backward.isDefEq.respectTransparency.types false in
/-- The two tables of bodies are one. -/
theorem bodies_eq : Cert.Kernel.defs₀ (F := F) = Cert.KernelIdeal.defs₀ (F := F) := by
  unfold Cert.Kernel.defs₀ Cert.KernelIdeal.defs₀
  refine congrArg Defs.onTc ?_
  funext l
  match l with
  | ⟨0, _⟩ =>
    funext a
    obtain ⟨t, s⟩ := a
    dsimp only
    first | rfl | rw [body_eq] | (rw [body_eq]; rfl)
  | ⟨_ + 1, h⟩ => exact absurd h (Nat.not_lt.2 (Nat.le_add_left _ _))
set_option backward.isDefEq.respectTransparency.types false in
/-- The two tables of pipelines and bodies are one. -/
theorem defs_eq : Cert.Kernel.defs (F := F) = Cert.KernelIdeal.defs (F := F) :=
  congrArg (Pipeline.defs Cert.KernelIdeal.pcfgs) bodies_eq

set_option backward.isDefEq.respectTransparency.types false in
/-- A run of the idealized text at words is a run of the printed kernel. -/
theorem run_carry (m : (ℓ : Loc Cert.Kernel.nD Cert.Kernel.τ Cert.Kernel.sig) → Buf (Elt Bits) ℓ) (g : Dev Cert.Kernel.nD → PrngReg) (Q)
    (h : θ_run (Cert.KernelIdeal.defs (F := Bits)) (onTc (τ := Cert.KernelIdeal.τ) (Cert.KernelIdeal.main (F := Bits))) ⟨m, fun _ => 0, g⟩ Q) :
    θ_run (Cert.Kernel.defs (F := Bits)) (onTc (τ := Cert.Kernel.τ) (Cert.Kernel.main (F := Bits))) ⟨m, fun _ => 0, g⟩ Q := by
  rw [show Cert.Kernel.defs (F := Bits) = Cert.KernelIdeal.defs (F := Bits) from defs_eq]
  exact h

end Cert.Same
-- ==== Proof.Rows.lean ====
/-
  What the merge computes, a row at a time, over the extended reals: the kernel's block and the reference's array read at
  an index are the same function of the rows of the operands.
-/
module

public import proofs.«01_k».proof.Proof.State
public import proofs.«01_k».proof.Proof.Gen.ReferenceIdeal.Read
public import Idealize.ShloMosaic.Lib.Pointwise

@[expose] public section

set_option maxRecDepth 16384

noncomputable section

namespace Cert.KernelIdeal.Deep

open Cert.KernelIdeal Cert.KernelIdeal.Gen
open Idealize.ShloMosaic Idealize.ShloMosaic.TcCoe

/-- The residual row before the last normalisation: the input, and the gated sum of the two branches projected out. -/
def midRow (x a g : Fin 1024 → EReal) (b : Fin 512 → EReal) (wb : Fin 512 → Fin 1024 → EReal) (wo : Fin 1024 → Fin 1024 → EReal) (l : Fin 1024) : EReal :=
  x l + ∑ k, (a k + Ideal.logistic (g k) * ∑ q, b q * wb q k) * wo k l
/-- The root-mean-square normalisation of a row, scaled. -/
def normRow (u s : Fin 1024 → EReal) (l : Fin 1024) : EReal :=
  u l * Ideal.rsqrt (Ideal.div (∑ k, u k * u k) (Ideal.ofBits FTy.f32 0x44800000#32) + Ideal.ofBits FTy.f32 0x358637BD#32) * s l

theorem pay1_apply (b : Vec Ideal S1x1024x512 .bf16) (w4 : Vec Ideal S512x1024 .bf16) (a : Vec Ideal S1x1024x1024 .bf16) (g x : Vec Ideal S1x1024x1024 .f32)
    (w5 : Vec Ideal S1024x1024 .bf16) (r l : Fin 1024) :
    k0_pay1 b w4 a g x w5 (ix2 r l)
      = midRow (fun k => x (ix3 0 r k)) (fun k => a (ix3 0 r k)) (fun k => g (ix3 0 r k)) (fun k => b (ix3 0 r k)) (fun q k => w4 (ix2 q k)) (fun k q => w5 (ix2 k q)) l := by
  unfold midRow
  pointwise [k0_pay1]
theorem pay3_apply (u v : FVec Ideal S1024x1024 .f32) (w6 : Vec Ideal S1x1024 .f32) (r l : Fin 1024) (hv : ∀ k, v (ix2 r k) = u (ix2 r k) * u (ix2 r k)) :
    k0_pay3 u v w6 (ix3 0 r l) = normRow (fun k => u (ix2 r k)) (fun k => w6 (ix2 0 k)) l := by
  unfold normRow
  simp only [← hv]
  pointwise [k0_pay3]
/-- A block of the kernel's, read at an index. -/
theorem merged_apply (w4 : Vec Ideal S512x1024 .bf16) (w5 : Vec Ideal S1024x1024 .bf16) (w6 : Vec Ideal S1x1024 .f32) (x : Vec Ideal S1x1024x1024 .f32)
    (a : Vec Ideal S1x1024x1024 .bf16) (g : Vec Ideal S1x1024x1024 .f32) (b : Vec Ideal S1x1024x512 .bf16) (r l : Fin 1024) :
    merged w4 w5 w6 x a g b (ix3 0 r l)
      = normRow (midRow (fun k => x (ix3 0 r k)) (fun k => a (ix3 0 r k)) (fun k => g (ix3 0 r k)) (fun k => b (ix3 0 r k)) (fun q k => w4 (ix2 q k)) (fun k q => w5 (ix2 k q)))
          (fun k => w6 (ix2 0 k)) l := by
  unfold merged
  rw [pay3_apply _ _ _ _ _ fun _ => rfl]
  exact congrArg (fun u => normRow u _ l) (funext fun k => pay1_apply b w4 a g x w5 r k)

open Cert.ReferenceIdeal.Read in
theorem ref_mid (x0 : Vec Ideal S8x8192x1024 .f32) (x1 : Vec Ideal S8x8192x1024 .bf16) (x2 : Vec Ideal S8x8192x1024 .f32) (x3 : Vec Ideal S8x8192x512 .bf16)
    (x4 : Vec Ideal S1x512x1024 .f32) (x5 : Vec Ideal S1x1024x1024 .f32) (p : Fin 8) (t : Fin 8192) (l : Fin 1024) :
    val_main_v14 (F := Ideal) x0 x1 x2 x3 x4 x5 (ix3 p t l)
      = midRow (fun k => x0 (ix3 p t k)) (fun k => x1 (ix3 p t k)) (fun k => x2 (ix3 p t k)) (fun k => x3 (ix3 p t k)) (fun q k => x4 (ix3 0 q k)) (fun k q => x5 (ix3 0 k q)) l := by
  unfold midRow Ideal.logistic
  pointwise [val_main_v14, val_main_v13, val_main_v12, val_main_v11, val_main_v10, val_main_v9, val_main_v8, val_main_v7, val_main_v6, val_main_v5, val_main_v4, val_main_v3,
    val_main_v2, val_main_v1, val_main_v0, val_main_cst, val_main_cst_0]
open Cert.ReferenceIdeal.Read in
theorem ref_apply (x0 : Vec Ideal S8x8192x1024 .f32) (x1 : Vec Ideal S8x8192x1024 .bf16) (x2 : Vec Ideal S8x8192x1024 .f32) (x3 : Vec Ideal S8x8192x512 .bf16)
    (x4 : Vec Ideal S1x512x1024 .f32) (x5 : Vec Ideal S1x1024x1024 .f32) (x6 : Vec Ideal S1024 .f32) (p : Fin 8) (t : Fin 8192) (l : Fin 1024) :
    val_main_v27 (F := Ideal) x0 x1 x2 x3 x4 x5 x6 (ix3 p t l)
      = normRow (midRow (fun k => x0 (ix3 p t k)) (fun k => x1 (ix3 p t k)) (fun k => x2 (ix3 p t k)) (fun k => x3 (ix3 p t k)) (fun q k => x4 (ix3 0 q k)) (fun k q => x5 (ix3 0 k q)))
          (fun k => x6 (ix1 k)) l := by
  rw [← funext (fun l => ref_mid x0 x1 x2 x3 x4 x5 p t l)]
  unfold normRow
  pointwise [val_main_v27, val_main_v26, val_main_v25, val_main_v24, val_main_v23, val_main_v22, val_main_v21, val_main_v20, val_main_v19, val_main_v18, val_main_v17, val_main_v16,
    val_main_v15, val_main_cst_1, val_main_cst_2, val_main_cst_3]

end Cert.KernelIdeal.Deep
-- ==== Proof.Value.lean ====
/-
  The array the merge leaves is the array the reference computes, at the extended reals: each operand's block and window
  read at an index, and the two sides the same function of the rows they read.
-/
module

public import proofs.«01_k».proof.Proof.Rows
public import proofs.«01_k».proof.Proof.Launched

@[expose] public section

set_option maxRecDepth 16384

noncomputable section

namespace Cert.KernelIdeal.Deep

open Cert.KernelIdeal Cert.KernelIdeal.Gen
open Idealize.ShloMosaic Idealize.ShloMosaic.TcCoe

variable (m : (ℓ : Loc nD τ sig) → Buf (Elt Ideal) ℓ)

/-- The place of a row within its block. -/
def rowOf (t : Fin 8192) : Fin 1024 := ⟨t.val % 1024, Nat.mod_lt _ (by decide)⟩

theorem valX_apply (c : Dev nD) (f : Buf (Elt Ideal) ((Memref.whole main_arg0).view.loc (c : Thread nD τ))) (p : Fin 8) (t : Fin 8192) (l' : Fin 1024) (l : Fin 1024) :
    valX c f (bnum (ix3 p t l')) (ix3 0 (rowOf t) l) = f (ix3 p t l) := by
  have h : ∀ n, n = bnum (ix3 p t l') → valX c f n (ix3 0 (rowOf t) l) = f (ix3 p t l) := by
    intro n hn
    refine congrArg f (funext fun a => Fin.ext ?_)
    have e : n = 8 * p.val + t.val / 1024 := hn
    have h0 : p.val < 8 := p.isLt
    have h1 : t.val < 8192 := t.isLt
    fin_cases a
    · show n % 64 / 8 + 1 * 0 = p.val
      omega
    · show 1024 * (n % 64 % 8) + 1 * (t.val % 1024) = t.val
      omega
    · show 0 + 1 * l.val = l.val
      omega
  exact h _ rfl
theorem valM_apply (c : Dev nD) (f : Buf (Elt Ideal) ((Memref.whole main_arg1).view.loc (c : Thread nD τ))) (p : Fin 8) (t : Fin 8192) (l' : Fin 1024) (l : Fin 1024) :
    valM c f (bnum (ix3 p t l')) (ix3 0 (rowOf t) l) = f (ix3 p t l) := by
  have h : ∀ n, n = bnum (ix3 p t l') → valM c f n (ix3 0 (rowOf t) l) = f (ix3 p t l) := by
    intro n hn
    refine congrArg f (funext fun a => Fin.ext ?_)
    have e : n = 8 * p.val + t.val / 1024 := hn
    have h0 : p.val < 8 := p.isLt
    have h1 : t.val < 8192 := t.isLt
    fin_cases a
    · show n % 64 / 8 + 1 * 0 = p.val
      omega
    · show 1024 * (n % 64 % 8) + 1 * (t.val % 1024) = t.val
      omega
    · show 0 + 1 * l.val = l.val
      omega
  exact h _ rfl
theorem valB_apply (c : Dev nD) (f : Buf (Elt Ideal) ((Memref.whole main_arg2).view.loc (c : Thread nD τ))) (p : Fin 8) (t : Fin 8192) (l' : Fin 1024) (l : Fin 1024) :
    valB c f (bnum (ix3 p t l')) (ix3 0 (rowOf t) l) = f (ix3 p t l) := by
  have h : ∀ n, n = bnum (ix3 p t l') → valB c f n (ix3 0 (rowOf t) l) = f (ix3 p t l) := by
    intro n hn
    refine congrArg f (funext fun a => Fin.ext ?_)
    have e : n = 8 * p.val + t.val / 1024 := hn
    have h0 : p.val < 8 := p.isLt
    have h1 : t.val < 8192 := t.isLt
    fin_cases a
    · show n % 64 / 8 + 1 * 0 = p.val
      omega
    · show 1024 * (n % 64 % 8) + 1 * (t.val % 1024) = t.val
      omega
    · show 0 + 1 * l.val = l.val
      omega
  exact h _ rfl
theorem valH_apply (c : Dev nD) (f : Buf (Elt Ideal) ((Memref.whole main_arg3).view.loc (c : Thread nD τ))) (p : Fin 8) (t : Fin 8192) (l' : Fin 1024) (l : Fin 512) :
    valH c f (bnum (ix3 p t l')) (ix3 0 (rowOf t) l) = f (ix3 p t l) := by
  have h : ∀ n, n = bnum (ix3 p t l') → valH c f n (ix3 0 (rowOf t) l) = f (ix3 p t l) := by
    intro n hn
    refine congrArg f (funext fun a => Fin.ext ?_)
    have e : n = 8 * p.val + t.val / 1024 := hn
    have h0 : p.val < 8 := p.isLt
    have h1 : t.val < 8192 := t.isLt
    fin_cases a
    · show n % 64 / 8 + 1 * 0 = p.val
      omega
    · show 1024 * (n % 64 % 8) + 1 * (t.val % 1024) = t.val
      omega
    · show 0 + 1 * l.val = l.val
      omega
  exact h _ rfl
theorem packed0_apply (x : Vec Ideal S1x512x1024 .f32) (q : Fin 512) (k : Fin 1024) : (truncf (F := Ideal) .bf16 (fun i => shapeCast S512x1024 x shapeCasts_S1x512x1024_S512x1024 i) bitsLt_bf16_f32 : FVec Ideal S512x1024 .bf16) (ix2 q k) = x (ix3 0 q k) := by
  pointwise
theorem whole0_apply (c : Dev nD) (q : Fin 512) (k : Fin 1024) : iblk m c 0 t0_0 (ix2 q k) = V m c main_v1 (ix2 q k) := by
  refine congrArg (V m c main_v1) (funext fun a => Fin.ext ?_)
  fin_cases a
  · show 0 + 1 * q.val = q.val
    omega
  · show 0 + 1 * k.val = k.val
    omega
theorem entered0 (c : Dev nD) : @Eq (FVec Ideal S512x1024 .bf16) (V m c main_v1) (truncf (F := Ideal) .bf16 (fun i => shapeCast S512x1024 (m ((c : Thread nD τ).loc main_arg4) : Vec Ideal S1x512x1024 .f32) shapeCasts_S1x512x1024_S512x1024 i) bitsLt_bf16_f32) := by
  unfold V
  after_results_simp <;> rfl
theorem window0_apply (c : Dev nD) (q : Fin 512) (k : Fin 1024) : iblk m c 0 t0_0 (ix2 q k) = m ((c : Thread nD τ).loc main_arg4) (ix3 0 q k) := by
  rw [whole0_apply]
  exact (congrFun (entered0 m c) (ix2 q k)).trans (packed0_apply _ q k)
theorem packed1_apply (x : Vec Ideal S1x1024x1024 .f32) (q : Fin 1024) (k : Fin 1024) : (truncf (F := Ideal) .bf16 (fun i => shapeCast S1024x1024 x shapeCasts_S1x1024x1024_S1024x1024 i) bitsLt_bf16_f32 : FVec Ideal S1024x1024 .bf16) (ix2 q k) = x (ix3 0 q k) := by
  pointwise
theorem whole1_apply (c : Dev nD) (q : Fin 1024) (k : Fin 1024) : iblk m c 1 t0_0 (ix2 q k) = V m c main_v3 (ix2 q k) := by
  refine congrArg (V m c main_v3) (funext fun a => Fin.ext ?_)
  fin_cases a
  · show 0 + 1 * q.val = q.val
    omega
  · show 0 + 1 * k.val = k.val
    omega
theorem entered1 (c : Dev nD) : @Eq (FVec Ideal S1024x1024 .bf16) (V m c main_v3) (truncf (F := Ideal) .bf16 (fun i => shapeCast S1024x1024 (m ((c : Thread nD τ).loc main_arg5) : Vec Ideal S1x1024x1024 .f32) shapeCasts_S1x1024x1024_S1024x1024 i) bitsLt_bf16_f32) := by
  unfold V
  after_results_simp <;> rfl
theorem window1_apply (c : Dev nD) (q : Fin 1024) (k : Fin 1024) : iblk m c 1 t0_0 (ix2 q k) = m ((c : Thread nD τ).loc main_arg5) (ix3 0 q k) := by
  rw [whole1_apply]
  exact (congrFun (entered1 m c) (ix2 q k)).trans (packed1_apply _ q k)
theorem packed2_apply (x : Vec Ideal S1024 .f32) (q : Fin 1) (k : Fin 1024) : (fun i => shapeCast S1x1024 x shapeCasts_S1024_S1x1024 i : FVec Ideal S1x1024 .f32) (ix2 q k) = x (ix1 k) := by
  pointwise
theorem whole2_apply (c : Dev nD) (q : Fin 1) (k : Fin 1024) : iblk m c 2 t0_0 (ix2 q k) = V m c main_v4 (ix2 q k) := by
  refine congrArg (V m c main_v4) (funext fun a => Fin.ext ?_)
  fin_cases a
  · show 0 + 1 * q.val = q.val
    omega
  · show 0 + 1 * k.val = k.val
    omega
theorem entered2 (c : Dev nD) : @Eq (FVec Ideal S1x1024 .f32) (V m c main_v4) (fun i => shapeCast S1x1024 (m ((c : Thread nD τ).loc main_arg6) : Vec Ideal S1024 .f32) shapeCasts_S1024_S1x1024 i) := by
  unfold V
  after_results_simp <;> rfl
theorem window2_apply (c : Dev nD) (q : Fin 1) (k : Fin 1024) : iblk m c 2 t0_0 (ix2 q k) = m ((c : Thread nD τ).loc main_arg6) (ix1 k) := by
  rw [whole2_apply]
  exact (congrFun (entered2 m c) (ix2 q k)).trans (packed2_apply _ q k)

open Cert.ReferenceIdeal.Read in
/-- The merged array is the reference's. -/
theorem result_eq (c : Dev nD) :
    result m c = val_main_v27 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  funext j
  have e : ∃ (p : Fin 8) (t : Fin 8192) (l : Fin 1024), j = ix3 p t l := ⟨j 0, j 1, j 2, by funext a; fin_cases a <;> rfl⟩
  obtain ⟨p, t, l, rfl⟩ := e
  refine Eq.trans ?_ (ref_apply _ _ _ _ _ _ _ p t l).symm
  have hi : inner (ix3 p t l) = ix3 0 (rowOf t) l := by funext a; fin_cases a <;> rfl
  unfold result gout outv
  rw [hi, merged_apply, V_main_arg0, V_main_arg1, V_main_arg2, V_main_arg3]
  simp only [valX_apply, valM_apply, valB_apply, valH_apply, window0_apply, window1_apply, window2_apply]

end Cert.KernelIdeal.Deep
-- ==== Proof.Launch2.lean ====
/-
  The prompt projection's launch: what every result's staging buffer holds after each grid point, the body's triple at every
  point, and the run of the whole program, from which its arguments end unchanged.
-/
module

public import proofs.«01_k».proof.Proof.Gen.Kernel2Ideal.Frame.RunA
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Launched

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S1024x1088 .bf16) (harg5 : arg5.IsWhole) (arg6 : Memref sig .tc .vmem S1024x2048 .bf16) (harg6 : arg6.IsWhole) (arg7 : Memref sig .tc .vmem S1288x1024 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x128x256 .bf16) (harg10 : arg10.IsWhole) (arg11 : Memref sig .tc .vmem S128x512 .f32) (harg11 : arg11.IsWhole) (arg12 : Memref sig .tc .vmem S512x1024 .bf16) (harg12 : arg12.IsWhole) (arg13 : Memref sig .tc .vmem S1x512x1024 .bf16) (harg13 : arg13.IsWhole) (arg14 : Memref sig .tc .vmem S1x512x1024 .f32) (harg14 : arg14.IsWhole) (arg15 : Memref sig .tc .vmem S1x512x512 .f32) (harg15 : arg15.IsWhole) (arg16 : Memref sig .tc .vmem S1x512x256 .f32) (harg16 : arg16.IsWhole) (arg17 : Memref sig .tc .vmem S1x512x256 .f32) (harg17 : arg17.IsWhole) (arg18 : Memref sig .tc .vmem S1x512x64 .f32) (harg18 : arg18.IsWhole) (arg19 : Memref sig .tc .vmem S1x4x512x64 .bf16) (harg19 : arg19.IsWhole) (arg20 : Memref sig .tc .vmem S1x512x64 .bf16) (harg20 : arg20.IsWhole) (arg21 : Memref sig .tc .vmem S1x4x4x64x256 .bf16) (harg21 : arg21.IsWhole) (arg22 : Memref sig .tc .vmem S1x4x64x1024 .bf16) (harg22 : arg22.IsWhole) (arg23 : Memref sig .tc .vmem S1x8x512 .f32) (harg23 : arg23.IsWhole) (arg24 : Memref sig .tc .vmem S1x1x320x512 .bf16) (harg24 : arg24.IsWhole)
    (x0 : Vec F S1x512x1024 .f32) (x1 : Vec F S1x1024 .f32) (x2 : Vec F S1024x1536 .bf16) (x3 : Vec F S1024x1088 .bf16) (x4 : Vec F S1024x2048 .bf16) (x5 : Vec F S1288x1024 .bf16) (x6 : Vec F S1x512 .f32) (x7 : Vec F S1x512 .f32) (x8 : Vec F S4x128x256 .bf16) (x9 : Vec F S128x512 .f32) (x10 : Vec F S512x1024 .bf16)

/-- The stores of output 11 cover its block. -/
theorem cover0_A_11 (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).1 S1x512x1024.size (by sl_kernel_rfl) y

/-- What the run leaves in output 11's staging buffer: its pieces read back over junk. -/
def out0_A_11 : Vec F S1x512x1024 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).1)

/-- The stores of output 12 cover its block. -/
theorem cover0_A_12 (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.1 S1x512x1024.size (by sl_kernel_rfl) y

/-- What the run leaves in output 12's staging buffer: its pieces read back over junk. -/
def out0_A_12 : Vec F S1x512x1024 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.1)

/-- The stores of output 13 cover its block. -/
theorem cover0_A_13 (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.1 S1x512x512.size (by sl_kernel_rfl) y

/-- What the run leaves in output 13's staging buffer: its pieces read back over junk. -/
def out0_A_13 : Vec F S1x512x512 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.1)

/-- The stores of output 14 cover its block. -/
theorem cover0_A_14 (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.1 S1x512x256.size (by sl_kernel_rfl) y

/-- What the run leaves in output 14's staging buffer: its pieces read back over junk. -/
def out0_A_14 : Vec F S1x512x256 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.1)

/-- The stores of output 15 cover its block. -/
theorem cover0_A_15 (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.1 S1x512x256.size (by sl_kernel_rfl) y

/-- What the run leaves in output 15's staging buffer: its pieces read back over junk. -/
def out0_A_15 : Vec F S1x512x256 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.1)

/-- The stores of output 16 cover its block. -/
theorem cover0_A_16 (y : S1x512x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.1 S1x512x64.size (by sl_kernel_rfl) y

/-- What the run leaves in output 16's staging buffer: its pieces read back over junk. -/
def out0_A_16 : Vec F S1x512x64 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.1)

/-- The stores of output 17 cover its block. -/
theorem cover0_A_17 (y : S1x4x512x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.1 S1x1x512x64.size (by sl_kernel_rfl) y

/-- What the run leaves in output 17's staging buffer: its pieces read back over junk. -/
def out0_A_17 : Vec F S1x4x512x64 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.1)

/-- The stores of output 18 cover its block. -/
theorem cover0_A_18 (y : S1x512x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.1 S1x512x64.size (by sl_kernel_rfl) y

/-- What the run leaves in output 18's staging buffer: its pieces read back over junk. -/
def out0_A_18 : Vec F S1x512x64 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.1)

/-- The stores of output 19 cover its block. -/
theorem cover0_A_19 (y : S1x4x4x64x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.1 S1x1x1x64x128.size (by sl_kernel_rfl) y

/-- What the run leaves in output 19's staging buffer: its pieces read back over junk. -/
def out0_A_19 : Vec F S1x4x4x64x256 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.1)

/-- The stores of output 20 cover its block. -/
theorem cover0_A_20 (y : S1x4x64x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.2.1 S1x1x64x128.size (by sl_kernel_rfl) y

/-- What the run leaves in output 20's staging buffer: its pieces read back over junk. -/
def out0_A_20 : Vec F S1x4x64x1024 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.2.1)

/-- The stores of output 21 cover its block. -/
theorem cover0_A_21 (y : S1x8x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.2.2.1 S1x8x512.size (by sl_kernel_rfl) y

/-- What the run leaves in output 21's staging buffer: its pieces read back over junk. -/
def out0_A_21 : Vec F S1x8x512 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.2.2.1)

/-- The run's pieces for output 22 are of SEVERAL sizes (8 stores of `S1x1x16x512`, `S1x1x64x512`): cut into blocks of `![1, 1, 16, 512]` they tile its block (checked by the kernel's evaluation: Lib/Ring.lean `Piece.tiledBy`), so they cover it. -/
theorem cover0_A_22 (y : S1x1x320x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.2.2.2.1 ![1, 1, 16, 512] (by sl_kernel_rfl) y

/-- What the run leaves in output 22's staging buffer: its pieces read back over junk. -/
def out0_A_22 : Vec F S1x1x320x512 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10).2.2.2.2.2.2.2.2.2.2.2.1)

end

/-! ## What the outputs hold after each point -/

/-- What the outputs' staging buffers hold after the body at point `t` (as a tuple, in window order): the run's contents at
    the point's memrefs and input blocks. -/
def outsAt0 (c : Dev nD) (t : Fin cfg0.N) : Vec F S1x512x1024 .bf16 × Vec F S1x512x1024 .f32 × Vec F S1x512x512 .f32 × Vec F S1x512x256 .f32 × Vec F S1x512x256 .f32 × Vec F S1x512x64 .f32 × Vec F S1x4x512x64 .bf16 × Vec F S1x512x64 .bf16 × Vec F S1x4x4x64x256 .bf16 × Vec F S1x4x64x1024 .bf16 × Vec F S1x8x512 .f32 × Vec F S1x1x320x512 .bf16 :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t))

/-! ## The pipeline's proof data -/

/-- The proof data of the one pipeline on core `c`: the arrays as the region finds them (`V`); after the body at
    point `t` each input's buffer at its block and the outputs' at `outsAt0`; the invariant the class's
   ; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2.1
    | ⟨13, _⟩ => (outsAt0 m c t).2.2.1
    | ⟨14, _⟩ => (outsAt0 m c t).2.2.2.1
    | ⟨15, _⟩ => (outsAt0 m c t).2.2.2.2.1
    | ⟨16, _⟩ => (outsAt0 m c t).2.2.2.2.2.1
    | ⟨17, _⟩ => (outsAt0 m c t).2.2.2.2.2.2.1
    | ⟨18, _⟩ => (outsAt0 m c t).2.2.2.2.2.2.2.1
    | ⟨19, _⟩ => (outsAt0 m c t).2.2.2.2.2.2.2.2.1
    | ⟨20, _⟩ => (outsAt0 m c t).2.2.2.2.2.2.2.2.2.1
    | ⟨21, _⟩ => (outsAt0 m c t).2.2.2.2.2.2.2.2.2.2.1
    | ⟨22, _⟩ => (outsAt0 m c t).2.2.2.2.2.2.2.2.2.2.2
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2.1 := by dsimp only [dats]
theorem after0_13 (c : Dev nD) (t : Fin cfg0.N) : (dats m 0 c).after 13 t = (outsAt0 m c t).2.2.1 := by dsimp only [dats]
theorem after0_14 (c : Dev nD) (t : Fin cfg0.N) : (dats m 0 c).after 14 t = (outsAt0 m c t).2.2.2.1 := by dsimp only [dats]
theorem after0_15 (c : Dev nD) (t : Fin cfg0.N) : (dats m 0 c).after 15 t = (outsAt0 m c t).2.2.2.2.1 := by dsimp only [dats]
theorem after0_16 (c : Dev nD) (t : Fin cfg0.N) : (dats m 0 c).after 16 t = (outsAt0 m c t).2.2.2.2.2.1 := by dsimp only [dats]
theorem after0_17 (c : Dev nD) (t : Fin cfg0.N) : (dats m 0 c).after 17 t = (outsAt0 m c t).2.2.2.2.2.2.1 := by dsimp only [dats]
theorem after0_18 (c : Dev nD) (t : Fin cfg0.N) : (dats m 0 c).after 18 t = (outsAt0 m c t).2.2.2.2.2.2.2.1 := by dsimp only [dats]
theorem after0_19 (c : Dev nD) (t : Fin cfg0.N) : (dats m 0 c).after 19 t = (outsAt0 m c t).2.2.2.2.2.2.2.2.1 := by dsimp only [dats]
theorem after0_20 (c : Dev nD) (t : Fin cfg0.N) : (dats m 0 c).after 20 t = (outsAt0 m c t).2.2.2.2.2.2.2.2.2.1 := by dsimp only [dats]
theorem after0_21 (c : Dev nD) (t : Fin cfg0.N) : (dats m 0 c).after 21 t = (outsAt0 m c t).2.2.2.2.2.2.2.2.2.2.1 := by dsimp only [dats]
theorem after0_22 (c : Dev nD) (t : Fin cfg0.N) : (dats m 0 c).after 22 t = (outsAt0 m c t).2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold outsAt0
  unfold out0_A_11 out0_A_12 out0_A_13 out0_A_14 out0_A_15 out0_A_16 out0_A_17 out0_A_18 out0_A_19 out0_A_20 out0_A_21 out0_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel2Ideal.Launched

end
-- ==== Proof.Entry2.lean ====
/-
  What the prompt projection's region finds: each of the body's blocks at a grid point, read at an index of the launch's arguments.
-/
module

public import proofs.«01_k».proof.Proof.Launch2
public import proofs.«01_k».proof.Proof.Gen.Reference2Ideal.Read
public import Idealize.ShloMosaic.Lib.Pointwise

@[expose] public section

set_option maxRecDepth 16384

noncomputable section

namespace Cert.Kernel2Ideal.Entry

open Cert.Kernel2Ideal Cert.Kernel2Ideal.Gen Cert.Kernel2Ideal.Launched
open Idealize.ShloMosaic Idealize.ShloMosaic.TcCoe

variable (m : (ℓ : Loc nD τ sig) → Buf (Elt Ideal) ℓ)

/-- The grid point whose block holds a token. -/
def point (p : Fin 8) (t : Fin 8192) : Fin cfg0.N := ⟨16 * p.val + t.val / 512, by
  have h : cfg0.N = 128 := by decide
  have h0 := p.isLt
  have h1 := t.isLt
  omega⟩
/-- The place of a token within its block. -/
def rowOf (t : Fin 8192) : Fin 512 := ⟨t.val % 512, Nat.mod_lt _ (by decide)⟩

theorem index0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem block0_apply (c : Dev nD) (p : Fin 8) (t : Fin 8192) (k : Fin 1024) :
    iblk m c 0 (point p t) (ix3 0 (rowOf t) k) = m ((c : Thread nD τ).loc main_arg0) (ix3 p t k) := by
  refine Eq.trans (congrArg (V m c main_arg0) (funext fun a => Fin.ext ?_)) (congrFun (V_main_arg0 m c) (ix3 p t k))
  obtain ⟨e0, e1, e2⟩ := index0 (point p t)
  have hp : (point p t).val = 16 * p.val + t.val / 512 := rfl
  have h0 := p.isLt
  have h1 := t.isLt
  fin_cases a
  · show win0_0.index (point p t) 0 * 1 + 1 * 0 = p.val
    omega
  · show win0_0.index (point p t) 1 * 512 + 1 * (t.val % 512) = t.val
    omega
  · show win0_0.index (point p t) 2 * 1024 + 1 * k.val = k.val
    omega
theorem whole1_apply (c : Dev nD) (t : Fin cfg0.N) (q : Fin 1) (k : Fin 1024) : iblk m c 1 t (ix2 q k) = V m c main_v6 (ix2 q k) := by
  refine congrArg (V m c main_v6) (funext fun a => Fin.ext ?_)
  fin_cases a
  · show 0 + 1 * q.val = q.val
    omega
  · show 0 + 1 * k.val = k.val
    omega
theorem whole2_apply (c : Dev nD) (t : Fin cfg0.N) (q : Fin 1024) (k : Fin 1536) : iblk m c 2 t (ix2 q k) = V m c main_v7 (ix2 q k) := by
  refine congrArg (V m c main_v7) (funext fun a => Fin.ext ?_)
  fin_cases a
  · show 0 + 1 * q.val = q.val
    omega
  · show 0 + 1 * k.val = k.val
    omega
theorem whole3_apply (c : Dev nD) (t : Fin cfg0.N) (q : Fin 1024) (k : Fin 1088) : iblk m c 3 t (ix2 q k) = V m c main_v10 (ix2 q k) := by
  refine congrArg (V m c main_v10) (funext fun a => Fin.ext ?_)
  fin_cases a
  · show 0 + 1 * q.val = q.val
    omega
  · show 0 + 1 * k.val = k.val
    omega
theorem whole4_apply (c : Dev nD) (t : Fin cfg0.N) (q : Fin 1024) (k : Fin 2048) : iblk m c 4 t (ix2 q k) = V m c main_v11 (ix2 q k) := by
  refine congrArg (V m c main_v11) (funext fun a => Fin.ext ?_)
  fin_cases a
  · show 0 + 1 * q.val = q.val
    omega
  · show 0 + 1 * k.val = k.val
    omega
theorem whole6_apply (c : Dev nD) (t : Fin cfg0.N) (q : Fin 1) (k : Fin 512) : iblk m c 6 t (ix2 q k) = V m c main_v18 (ix2 q k) := by
  refine congrArg (V m c main_v18) (funext fun a => Fin.ext ?_)
  fin_cases a
  · show 0 + 1 * q.val = q.val
    omega
  · show 0 + 1 * k.val = k.val
    omega
theorem whole7_apply (c : Dev nD) (t : Fin cfg0.N) (q : Fin 1) (k : Fin 512) : iblk m c 7 t (ix2 q k) = V m c main_v19 (ix2 q k) := by
  refine congrArg (V m c main_v19) (funext fun a => Fin.ext ?_)
  fin_cases a
  · show 0 + 1 * q.val = q.val
    omega
  · show 0 + 1 * k.val = k.val
    omega
theorem whole8_apply (c : Dev nD) (t : Fin cfg0.N) (p : Fin 4) (q : Fin 128) (k : Fin 256) : iblk m c 8 t (ix3 p q k) = V m c main_v40 (ix3 p q k) := by
  refine congrArg (V m c main_v40) (funext fun a => Fin.ext ?_)
  fin_cases a
  · show 0 + 1 * p.val = p.val
    omega
  · show 0 + 1 * q.val = q.val
    omega
  · show 0 + 1 * k.val = k.val
    omega
theorem whole9_apply (c : Dev nD) (t : Fin cfg0.N) (q : Fin 128) (k : Fin 512) : iblk m c 9 t (ix2 q k) = V m c main_v42 (ix2 q k) := by
  refine congrArg (V m c main_v42) (funext fun a => Fin.ext ?_)
  fin_cases a
  · show 0 + 1 * q.val = q.val
    omega
  · show 0 + 1 * k.val = k.val
    omega
theorem whole10_apply (c : Dev nD) (t : Fin cfg0.N) (q : Fin 512) (k : Fin 1024) : iblk m c 10 t (ix2 q k) = V m c main_v20 (ix2 q k) := by
  refine congrArg (V m c main_v20) (funext fun a => Fin.ext ?_)
  fin_cases a
  · show 0 + 1 * q.val = q.val
    omega
  · show 0 + 1 * k.val = k.val
    omega

/-- The packed weights: the bits of a matrix kept at half the width. -/
def packW (x : Vec Ideal S1x1024x5704 .f32) : FVec Ideal S1024x5704 .bf16 :=
  truncf (F := Ideal) .bf16 (fun i => shapeCast S1024x5704 x shapeCasts_S1x1024x5704_S1024x5704 i) bitsLt_bf16_f32
/-- The token matrices of two groups side by side. -/
def packMix (x : Vec Ideal S8x128x128 .f32) : FVec Ideal S4x128x256 .bf16 :=
  truncf (F := Ideal) .bf16 (concatenate S4x128x256 2
    [⟨S4x128x128, fun i => shapeCast S4x128x128 (extractStridedSlice S4x1x128x128 ![0, 0, 0, 0] (fun i => shapeCast S4x2x128x128 x shapeCasts_S8x128x128_S4x2x128x128 i) slices_S4x2x128x128_S4x1x128x128_0_0_0_0) shapeCasts_S4x1x128x128_S4x128x128 i⟩,
     ⟨S4x128x128, fun i => shapeCast S4x128x128 (extractStridedSlice S4x1x128x128 ![0, 1, 0, 0] (fun i => shapeCast S4x2x128x128 x shapeCasts_S8x128x128_S4x2x128x128 i) slices_S4x2x128x128_S4x1x128x128_0_1_0_0) shapeCasts_S4x1x128x128_S4x128x128 i⟩]
    concatenates_S4x128x128_S4x128x128_S4x128x256_d2) bitsLt_bf16_f32
/-- The biases repeated along each group's width. -/
def packBias (x : Vec Ideal S1x8x128 .f32) : FVec Ideal S128x512 .f32 :=
  fun i => shapeCast S128x512 (broadcastInDim S128x8x64 ![0, 1] bcast_S128x8_S128x8x64_0_1 (transpose S128x8 [1, 0] (fun i => shapeCast S8x128 x shapeCasts_S1x8x128_S8x128 i) transposes_S8x128_S128x8_1_0)) shapeCasts_S128x8x64_S128x512 i
set_option maxHeartbeats 4000000 in
theorem entered1 (c : Dev nD) : @Eq (FVec Ideal S1x1024 .f32) (V m c main_v6) (fun i => shapeCast S1x1024 (fun i => shapeCast S1024 ((m ((c : Thread nD τ).loc main_arg1)) : Vec Ideal S1x1024 .f32) shapeCasts_S1x1024_S1024 i) shapeCasts_S1024_S1x1024 i) := by
  unfold V
  simp only [hostOps0, hostOps0_1, hostOps0_2, hostOps0_3, hostOps0_4, hostOps0_5, hostOps0_6, List.flatten_cons, List.flatten_nil, List.append_nil, List.cons_append, List.nil_append]
  after_results_simp <;> rfl
set_option maxHeartbeats 4000000 in
theorem entered2 (c : Dev nD) : @Eq (FVec Ideal S1024x1536 .bf16) (V m c main_v7) (extractStridedSlice S1024x1536 ![0, 0] (packW (m ((c : Thread nD τ).loc main_arg2))) slices_S1024x5704_S1024x1536_0_0) := by
  unfold V
  simp only [hostOps0, hostOps0_1, hostOps0_2, hostOps0_3, hostOps0_4, hostOps0_5, hostOps0_6, List.flatten_cons, List.flatten_nil, List.append_nil, List.cons_append, List.nil_append]
  after_results_simp <;> rfl
set_option maxHeartbeats 4000000 in
theorem entered3 (c : Dev nD) : @Eq (FVec Ideal S1024x1088 .bf16) (V m c main_v10) (concatenate S1024x1088 1 [⟨S1024x1024, extractStridedSlice S1024x1024 ![0, 2048] (packW (m ((c : Thread nD τ).loc main_arg2))) slices_S1024x5704_S1024x1024_0_2048⟩, ⟨S1024x64, extractStridedSlice S1024x64 ![0, 3584] (packW (m ((c : Thread nD τ).loc main_arg2))) slices_S1024x5704_S1024x64_0_3584⟩] concatenates_S1024x1024_S1024x64_S1024x1088_d1) := by
  unfold V
  simp only [hostOps0, hostOps0_1, hostOps0_2, hostOps0_3, hostOps0_4, hostOps0_5, hostOps0_6, List.flatten_cons, List.flatten_nil, List.append_nil, List.cons_append, List.nil_append]
  after_results_simp <;> rfl
set_option maxHeartbeats 4000000 in
theorem entered4 (c : Dev nD) : @Eq (FVec Ideal S1024x2048 .bf16) (V m c main_v11) (extractStridedSlice S1024x2048 ![0, 3656] (packW (m ((c : Thread nD τ).loc main_arg2))) slices_S1024x5704_S1024x2048_0_3656) := by
  unfold V
  simp only [hostOps0, hostOps0_1, hostOps0_2, hostOps0_3, hostOps0_4, hostOps0_5, hostOps0_6, List.flatten_cons, List.flatten_nil, List.append_nil, List.cons_append, List.nil_append]
  after_results_simp <;> rfl
set_option maxHeartbeats 4000000 in
theorem entered6 (c : Dev nD) : @Eq (FVec Ideal S1x512 .f32) (V m c main_v18) (fun i => shapeCast S1x512 (fun i => shapeCast S512 ((m ((c : Thread nD τ).loc main_arg3)) : Vec Ideal S1x512 .f32) shapeCasts_S1x512_S512 i) shapeCasts_S512_S1x512 i) := by
  unfold V
  simp only [hostOps0, hostOps0_1, hostOps0_2, hostOps0_3, hostOps0_4, hostOps0_5, hostOps0_6, List.flatten_cons, List.flatten_nil, List.append_nil, List.cons_append, List.nil_append]
  after_results_simp <;> rfl
set_option maxHeartbeats 4000000 in
theorem entered7 (c : Dev nD) : @Eq (FVec Ideal S1x512 .f32) (V m c main_v19) (fun i => shapeCast S1x512 (fun i => shapeCast S512 ((m ((c : Thread nD τ).loc main_arg4)) : Vec Ideal S1x512 .f32) shapeCasts_S1x512_S512 i) shapeCasts_S512_S1x512 i) := by
  unfold V
  simp only [hostOps0, hostOps0_1, hostOps0_2, hostOps0_3, hostOps0_4, hostOps0_5, hostOps0_6, List.flatten_cons, List.flatten_nil, List.append_nil, List.cons_append, List.nil_append]
  after_results_simp <;> rfl
set_option maxHeartbeats 4000000 in
theorem entered8 (c : Dev nD) : @Eq (FVec Ideal S4x128x256 .bf16) (V m c main_v40) (packMix (Cert.Reference2Ideal.Read.val_main_v91 (F := Ideal) (m ((c : Thread nD τ).loc main_arg5)))) := by
  unfold V
  simp only [hostOps0, hostOps0_1, hostOps0_2, hostOps0_3, hostOps0_4, hostOps0_5, hostOps0_6, List.flatten_cons, List.flatten_nil, List.append_nil, List.cons_append, List.nil_append]
  after_results_simp <;> rfl
set_option maxHeartbeats 4000000 in
theorem entered9 (c : Dev nD) : @Eq (FVec Ideal S128x512 .f32) (V m c main_v42) (packBias (m ((c : Thread nD τ).loc main_arg6))) := by
  unfold V
  simp only [hostOps0, hostOps0_1, hostOps0_2, hostOps0_3, hostOps0_4, hostOps0_5, hostOps0_6, List.flatten_cons, List.flatten_nil, List.append_nil, List.cons_append, List.nil_append]
  after_results_simp <;> rfl
set_option maxHeartbeats 4000000 in
theorem entered10 (c : Dev nD) : @Eq (FVec Ideal S512x1024 .bf16) (V m c main_v20) (truncf (F := Ideal) .bf16 (fun i => shapeCast S512x1024 ((m ((c : Thread nD τ).loc main_arg7)) : Vec Ideal S1x512x1024 .f32) shapeCasts_S1x512x1024_S512x1024 i) bitsLt_bf16_f32) := by
  unfold V
  simp only [hostOps0, hostOps0_1, hostOps0_2, hostOps0_3, hostOps0_4, hostOps0_5, hostOps0_6, List.flatten_cons, List.flatten_nil, List.append_nil, List.cons_append, List.nil_append]
  after_results_simp <;> rfl

end Cert.Kernel2Ideal.Entry
-- ==== Proof.Spec.lean ====
/-
  What the projection computes from one token's row, over the extended reals.
-/
module

public import proofs.«01_k».proof.Proof.Rows

@[expose] public section

noncomputable section

namespace Cert.Spec

open Cert.KernelIdeal.Deep (normRow)
open Idealize.ShloMosaic Idealize.ShloMosaic.TcCoe

/-- The tanh form of the Gaussian error linear unit. -/
def gelu (x : EReal) : EReal :=
  x * (Ideal.ofBits FTy.f32 0x3F000000#32 * (Ideal.ofBits FTy.f32 0x3F800000#32 + Ideal.tanh (Ideal.ofBits FTy.f32 0x3F4C422A#32 * (x + Ideal.ofBits FTy.f32 0x3D372713#32 * (x * (x * x))))))
/-- The mean of a row of 512. -/
def mean (v : Fin 512 → EReal) : EReal := Ideal.div (∑ k, v k) (Ideal.ofBits FTy.f32 0x44000000#32)
/-- A row of 512 with its mean taken off and divided by its deviation, scaled and shifted. -/
def layerRow (v g b : Fin 512 → EReal) (l : Fin 512) : EReal :=
  (v l - mean v) * Ideal.rsqrt (Ideal.div (∑ k, (v k - mean v) * (v k - mean v)) (Ideal.ofBits FTy.f32 0x44000000#32) + Ideal.ofBits FTy.f32 0x3727C5AC#32) * g l + b l
/-- The gated branch projected out: the first branch times the mixed second one, times the third through its own sigmoid, then the gate. -/
def outRow (u mixed bias za : Fin 512 → EReal) (ga : EReal) (w : Fin 512 → EReal) : EReal :=
  Ideal.logistic ga * ∑ q, u q * (mixed q + bias q) * (za q * Ideal.logistic (za q)) * w q

end Cert.Spec
-- ==== Proof.Left2.lean ====
/-
  What the prompt projection's body leaves in a block of each result: the named value stored there, as a function of the blocks read.
-/
module

public import proofs.«01_k».proof.Proof.Launch2
public import Idealize.ShloMosaic.Lib.Pipeline.Value

@[expose] public section

set_option maxRecDepth 16384

noncomputable section

namespace Cert.Kernel2Ideal.Left

open Cert.Kernel2Ideal Cert.Kernel2Ideal.Gen Cert.Kernel2Ideal.Launched
open Idealize.ShloMosaic Idealize.ShloMosaic.TcCoe

variable {F : FTy → Type} [FloatOps F]

theorem off2 : (![0, 0] : Fin 2 → ℕ) = fun _ => 0 := by funext a; fin_cases a <;> rfl
theorem off3 : (![0, 0, 0] : Fin 3 → ℕ) = fun _ => 0 := by funext a; fin_cases a <;> rfl

theorem ld0 (x : Vec F S1x512x1024 .f32) : View.ld x (Rect.unit (s := S1x512x1024) ![0, 0, 0] ![1, 512, 1024] inb_S1x512x1024_S1x512x1024_0_0_0) = x := View.ld_unit_zero (funext fun a => by fin_cases a <;> rfl) _ x
theorem ld1 (x : Vec F S1x1024 .f32) : View.ld x (Rect.unit (s := S1x1024) ![0, 0] ![1, 1024] inb_S1x1024_S1x1024_0_0) = x := View.ld_unit_zero (funext fun a => by fin_cases a <;> rfl) _ x
theorem ld2 (x : Vec F S1024x1536 .bf16) : View.ld x (Rect.unit (s := S1024x1536) ![0, 0] ![1024, 1536] inb_S1024x1536_S1024x1536_0_0) = x := View.ld_unit_zero (funext fun a => by fin_cases a <;> rfl) _ x
theorem ld3 (x : Vec F S1024x1088 .bf16) : View.ld x (Rect.unit (s := S1024x1088) ![0, 0] ![1024, 1088] inb_S1024x1088_S1024x1088_0_0) = x := View.ld_unit_zero (funext fun a => by fin_cases a <;> rfl) _ x
theorem ld4 (x : Vec F S1024x2048 .bf16) : View.ld x (Rect.unit (s := S1024x2048) ![0, 0] ![1024, 2048] inb_S1024x2048_S1024x2048_0_0) = x := View.ld_unit_zero (funext fun a => by fin_cases a <;> rfl) _ x
theorem ld6 (x : Vec F S1x512 .f32) : View.ld x (Rect.unit (s := S1x512) ![0, 0] ![1, 512] inb_S1x512_S1x512_0_0) = x := View.ld_unit_zero (funext fun a => by fin_cases a <;> rfl) _ x
theorem ld9 (x : Vec F S128x512 .f32) : View.ld x (Rect.unit (s := S128x512) ![0, 0] ![128, 512] inb_S128x512_S128x512_0_0) = x := View.ld_unit_zero (funext fun a => by fin_cases a <;> rfl) _ x
theorem ld10 (x : Vec F S512x1024 .bf16) : View.ld x (Rect.unit (s := S512x1024) ![0, 0] ![512, 1024] inb_S512x1024_S512x1024_0_0) = x := View.ld_unit_zero (funext fun a => by fin_cases a <;> rfl) _ x

/-- The mixed values of one block of 512 tokens: each 64 rows of the normalised branch against the causal token matrices of the four pairs of groups. -/
def mixed (v34 v39 v40 : FVec F S512x512 .f32) (v67 v71 : Vec F S1x512 .f32) (w0 w1 w2 w3 : Vec F S1x128x256 .bf16) : FVec F S512x512 .f32 :=
  let n := k0_pay9 v34 v39 v40 v67 v71
  let j : IVec S128x128 32 := iota .tc S128x128 32 [1] iota_S128x128_d1_w32
  k0_pay33 n j
    (k0_pay18 j (k0_pay13 (k0_pay11 v34 v39 v40 v67 v71) (k0_pay12 v34 v39 v40 v67 v71) w0) (k0_pay14 n j w0) (k0_pay15 n j w0) (k0_pay16 n) (k0_pay17 j) (Scalar.ofBits .f32 0x00000000#32) w0)
    (k0_pay21 n j (k0_pay19 n j w1) (k0_pay20 n j) w1 w1 w1)
    (k0_pay28 n j (k0_pay24 j (k0_pay22 n) (k0_pay23 n j) w2) (k0_pay25 n j w2) (k0_pay26 n j) (k0_pay27 w2) (constant S128x128 .f32 0x00000000#32) w2)
    (k0_pay29 n j w3) (k0_pay30 n) (k0_pay31 n j) (k0_pay32 j) (Scalar.ofBits .f32 0x00000000#32) w3 w3 w3

/-- One of the four token matrices held in the ninth block. -/
abbrev slab (x8 : Vec F S4x128x256 .bf16) (i0 i1 i2 : Nat) (h : ∀ a, (![i0, i1, i2] : Fin 3 → Nat) a + S1x128x256.size a ≤ S4x128x256.size a) : Vec F S1x128x256 .bf16 :=
  View.ld x8 (Rect.unit (s := S4x128x256) ![i0, i1, i2] S1x128x256.size h)

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S1024x1088 .bf16) (harg5 : arg5.IsWhole) (arg6 : Memref sig .tc .vmem S1024x2048 .bf16) (harg6 : arg6.IsWhole) (arg7 : Memref sig .tc .vmem S1288x1024 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x128x256 .bf16) (harg10 : arg10.IsWhole) (arg11 : Memref sig .tc .vmem S128x512 .f32) (harg11 : arg11.IsWhole) (arg12 : Memref sig .tc .vmem S512x1024 .bf16) (harg12 : arg12.IsWhole) (arg13 : Memref sig .tc .vmem S1x512x1024 .bf16) (harg13 : arg13.IsWhole) (arg14 : Memref sig .tc .vmem S1x512x1024 .f32) (harg14 : arg14.IsWhole) (arg15 : Memref sig .tc .vmem S1x512x512 .f32) (harg15 : arg15.IsWhole) (arg16 : Memref sig .tc .vmem S1x512x256 .f32) (harg16 : arg16.IsWhole) (arg17 : Memref sig .tc .vmem S1x512x256 .f32) (harg17 : arg17.IsWhole) (arg18 : Memref sig .tc .vmem S1x512x64 .f32) (harg18 : arg18.IsWhole) (arg19 : Memref sig .tc .vmem S1x4x512x64 .bf16) (harg19 : arg19.IsWhole) (arg20 : Memref sig .tc .vmem S1x512x64 .bf16) (harg20 : arg20.IsWhole) (arg21 : Memref sig .tc .vmem S1x4x4x64x256 .bf16) (harg21 : arg21.IsWhole) (arg22 : Memref sig .tc .vmem S1x4x64x1024 .bf16) (harg22 : arg22.IsWhole) (arg23 : Memref sig .tc .vmem S1x8x512 .f32) (harg23 : arg23.IsWhole) (arg24 : Memref sig .tc .vmem S1x1x320x512 .bf16) (harg24 : arg24.IsWhole)     (x0 : Vec F S1x512x1024 .f32) (x1 : Vec F S1x1024 .f32) (x2 : Vec F S1024x1536 .bf16) (x3 : Vec F S1024x1088 .bf16) (x4 : Vec F S1024x2048 .bf16) (x5 : Vec F S1288x1024 .bf16) (x6 : Vec F S1x512 .f32) (x7 : Vec F S1x512 .f32) (x8 : Vec F S4x128x256 .bf16) (x9 : Vec F S128x512 .f32) (x10 : Vec F S512x1024 .bf16)

theorem left11 :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = k0_pay35 (k0_pay2 x0 x1) (k0_pay4 x0 x1 x2) (k0_pay8 (k0_pay3 x0 x1 x2)) (mixed (k0_pay5 x0 x1 x2) (k0_pay6 x0 x1 x2) k0_pay7 x6 x7 (slab x8 0 0 0 inb_S4x128x256_S1x128x256_0_0_0) (slab x8 1 0 0 inb_S4x128x256_S1x128x256_1_0_0) (slab x8 2 0 0 inb_S4x128x256_S1x128x256_2_0_0) (slab x8 3 0 0 inb_S4x128x256_S1x128x256_3_0_0)) x9 x10 x4 := by
  unfold out0_A_11
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]
  rfl
theorem left12 :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = k0_pay36 (k0_pay2 x0 x1) x4 := by
  unfold out0_A_12
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]
theorem left13 :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = k0_pay42 (k0_pay37 (k0_pay2 x0 x1) x3) := by
  unfold out0_A_13
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]
theorem left14 :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = k0_pay39 (k0_pay2 x0 x1) x3 := by
  unfold out0_A_14
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]
theorem left15 :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = k0_pay41 (k0_pay40 (k0_pay2 x0 x1) x3) := by
  unfold out0_A_15
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]
theorem left16 :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = k0_pay44 (k0_pay37 (k0_pay2 x0 x1) x3) := by
  unfold out0_A_16
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]

end Cert.Kernel2Ideal.Left
-- ==== Proof.Rows2.lean ====
/-
  The prompt projection, a row at a time, over the extended reals: the stored values of the kernel's body and the reference's arrays, read at an index.
-/
module

public import proofs.«01_k».proof.Proof.Spec
public import proofs.«01_k».proof.Proof.Left2
public import proofs.«01_k».proof.Proof.Gen.Reference2Ideal.Read
public import Idealize.ShloMosaic.Lib.Pointwise

@[expose] public section

set_option maxRecDepth 16384

noncomputable section

namespace Cert.Kernel2Ideal.Rows

open Cert.Kernel2Ideal Cert.Kernel2Ideal.Gen Cert.Spec
open Cert.KernelIdeal.Deep (normRow)
open Idealize.ShloMosaic Idealize.ShloMosaic.TcCoe

/-- The normalised token rows. -/
theorem rows_apply (x : Vec Ideal S1x512x1024 .f32) (s : Vec Ideal S1x1024 .f32) (r : Fin 512) (k : Fin 1024) :
    k0_pay2 x s (ix2 r k) = normRow (fun k => x (ix3 0 r k)) (fun k => s (ix2 0 k)) k := by
  unfold normRow
  pointwise [k0_pay2]
theorem uvz_apply (x : Vec Ideal S1x512x1024 .f32) (s : Vec Ideal S1x1024 .f32) (w : Vec Ideal S1024x1536 .bf16) (r : Fin 512) (l : Fin 1536) :
    k0_pay3 x s w (ix2 r l) = ∑ k, k0_pay2 x s (ix2 r k) * w (ix2 k l) := by
  pointwise [k0_pay3]
theorem gb_apply (h : FVec Ideal S512x1024 .bf16) (w : Vec Ideal S1024x2048 .bf16) (r : Fin 512) (l : Fin 1024) :
    k0_pay36 h w (ix3 0 r l) = ∑ k, h (ix2 r k) * w (ix2 k ⟨1024 + l.val, by omega⟩) := by
  pointwise [k0_pay34, k0_pay36, k0_pay37, k0_pay38, k0_pay39, k0_pay40, k0_pay41, k0_pay42, k0_pay43, k0_pay44]
theorem k_apply (h : FVec Ideal S512x1024 .bf16) (w : Vec Ideal S1024x1088 .bf16) (r : Fin 512) (l : Fin 256) :
    k0_pay39 h w (ix3 0 r l) = ∑ k, h (ix2 r k) * w (ix2 k ⟨0 + l.val, by omega⟩) := by
  pointwise [k0_pay34, k0_pay36, k0_pay37, k0_pay38, k0_pay39, k0_pay40, k0_pay41, k0_pay42, k0_pay43, k0_pay44]
theorem v_apply (h : FVec Ideal S512x1024 .bf16) (w : Vec Ideal S1024x1088 .bf16) (r : Fin 512) (l : Fin 256) :
    k0_pay41 (k0_pay40 h w) (ix3 0 r l) = ∑ k, h (ix2 r k) * w (ix2 k ⟨256 + l.val, by omega⟩) := by
  pointwise [k0_pay34, k0_pay36, k0_pay37, k0_pay38, k0_pay39, k0_pay40, k0_pay41, k0_pay42, k0_pay43, k0_pay44]
theorem zb_apply (h : FVec Ideal S512x1024 .bf16) (w : Vec Ideal S1024x1088 .bf16) (r : Fin 512) (l : Fin 512) :
    k0_pay42 (k0_pay37 h w) (ix3 0 r l) = ∑ k, h (ix2 r k) * w (ix2 k ⟨512 + l.val, by omega⟩) := by
  pointwise [k0_pay34, k0_pay36, k0_pay37, k0_pay38, k0_pay39, k0_pay40, k0_pay41, k0_pay42, k0_pay43, k0_pay44]
theorem ki_apply (h : FVec Ideal S512x1024 .bf16) (w : Vec Ideal S1024x1088 .bf16) (r : Fin 512) (l : Fin 64) :
    k0_pay44 (k0_pay37 h w) (ix3 0 r l) = ∑ k, h (ix2 r k) * w (ix2 k ⟨1024 + l.val, by omega⟩) := by
  pointwise [k0_pay34, k0_pay36, k0_pay37, k0_pay38, k0_pay39, k0_pay40, k0_pay41, k0_pay42, k0_pay43, k0_pay44]
open Cert.Reference2Ideal.Read

theorem ref_rows (x0 : Vec Ideal S8x8192x1024 .f32) (x1 : Vec Ideal S1x1024 .f32) (p : Fin 8) (t : Fin 8192) (k : Fin 1024) :
    val_main_v14 (F := Ideal) x0 x1 (ix3 p t k) = normRow (fun k => x0 (ix3 p t k)) (fun k => x1 (ix2 0 k)) k := by
  unfold normRow
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
/-- The projected array, at an index: a row against a column of the packed weights. -/
theorem ref_dot (x0 : Vec Ideal S8x8192x1024 .f32) (x1 : Vec Ideal S1x1024 .f32) (x2 : Vec Ideal S1x1024x5704 .f32) (p : Fin 8) (t : Fin 8192) (l : Fin 5704) :
    val_main_v15 (F := Ideal) x0 x1 x2 (ix3 p t l) = ∑ k, normRow (fun k => x0 (ix3 p t k)) (fun k => x1 (ix2 0 k)) k * x2 (ix3 0 k l) := by
  simp only [← ref_rows]
  pointwise [val_main_v15, val_main_v1]
theorem ref_v16 (x0 : Vec Ideal S8x8192x1024 .f32) (x1 : Vec Ideal S1x1024 .f32) (x2 : Vec Ideal S1x1024x5704 .f32) (p : Fin 8) (t : Fin 8192) (l : Fin 512) :
    val_main_v16 (F := Ideal) x0 x1 x2 (ix3 p t l) = ∑ k, normRow (fun k => x0 (ix3 p t k)) (fun k => x1 (ix2 0 k)) k * x2 (ix3 0 k ⟨0 + l.val, by omega⟩) := by
  rw [← ref_dot]
  pointwise [val_main_v16]
theorem ref_v17 (x0 : Vec Ideal S8x8192x1024 .f32) (x1 : Vec Ideal S1x1024 .f32) (x2 : Vec Ideal S1x1024x5704 .f32) (p : Fin 8) (t : Fin 8192) (l : Fin 512) :
    val_main_v17 (F := Ideal) x0 x1 x2 (ix3 p t l) = ∑ k, normRow (fun k => x0 (ix3 p t k)) (fun k => x1 (ix2 0 k)) k * x2 (ix3 0 k ⟨512 + l.val, by omega⟩) := by
  rw [← ref_dot]
  pointwise [val_main_v17]
theorem ref_v18 (x0 : Vec Ideal S8x8192x1024 .f32) (x1 : Vec Ideal S1x1024 .f32) (x2 : Vec Ideal S1x1024x5704 .f32) (p : Fin 8) (t : Fin 8192) (l : Fin 512) :
    val_main_v18 (F := Ideal) x0 x1 x2 (ix3 p t l) = ∑ k, normRow (fun k => x0 (ix3 p t k)) (fun k => x1 (ix2 0 k)) k * x2 (ix3 0 k ⟨1024 + l.val, by omega⟩) := by
  rw [← ref_dot]
  pointwise [val_main_v18]
theorem ref_v20 (x0 : Vec Ideal S8x8192x1024 .f32) (x1 : Vec Ideal S1x1024 .f32) (x2 : Vec Ideal S1x1024x5704 .f32) (p : Fin 8) (t : Fin 8192) (l : Fin 256) :
    val_main_v20 (F := Ideal) x0 x1 x2 (ix3 p t l) = ∑ k, normRow (fun k => x0 (ix3 p t k)) (fun k => x1 (ix2 0 k)) k * x2 (ix3 0 k ⟨2048 + l.val, by omega⟩) := by
  rw [← ref_dot]
  pointwise [val_main_v20]
theorem ref_v21 (x0 : Vec Ideal S8x8192x1024 .f32) (x1 : Vec Ideal S1x1024 .f32) (x2 : Vec Ideal S1x1024x5704 .f32) (p : Fin 8) (t : Fin 8192) (l : Fin 256) :
    val_main_v21 (F := Ideal) x0 x1 x2 (ix3 p t l) = ∑ k, normRow (fun k => x0 (ix3 p t k)) (fun k => x1 (ix2 0 k)) k * x2 (ix3 0 k ⟨2304 + l.val, by omega⟩) := by
  rw [← ref_dot]
  pointwise [val_main_v21]
theorem ref_v22 (x0 : Vec Ideal S8x8192x1024 .f32) (x1 : Vec Ideal S1x1024 .f32) (x2 : Vec Ideal S1x1024x5704 .f32) (p : Fin 8) (t : Fin 8192) (l : Fin 512) :
    val_main_v22 (F := Ideal) x0 x1 x2 (ix3 p t l) = ∑ k, normRow (fun k => x0 (ix3 p t k)) (fun k => x1 (ix2 0 k)) k * x2 (ix3 0 k ⟨2560 + l.val, by omega⟩) := by
  rw [← ref_dot]
  pointwise [val_main_v22]
theorem ref_v24 (x0 : Vec Ideal S8x8192x1024 .f32) (x1 : Vec Ideal S1x1024 .f32) (x2 : Vec Ideal S1x1024x5704 .f32) (p : Fin 8) (t : Fin 8192) (l : Fin 64) :
    val_main_v24 (F := Ideal) x0 x1 x2 (ix3 p t l) = ∑ k, normRow (fun k => x0 (ix3 p t k)) (fun k => x1 (ix2 0 k)) k * x2 (ix3 0 k ⟨3584 + l.val, by omega⟩) := by
  rw [← ref_dot]
  pointwise [val_main_v24]
theorem ref_v26 (x0 : Vec Ideal S8x8192x1024 .f32) (x1 : Vec Ideal S1x1024 .f32) (x2 : Vec Ideal S1x1024x5704 .f32) (p : Fin 8) (t : Fin 8192) (l : Fin 1024) :
    val_main_v26 (F := Ideal) x0 x1 x2 (ix3 p t l) = ∑ k, normRow (fun k => x0 (ix3 p t k)) (fun k => x1 (ix2 0 k)) k * x2 (ix3 0 k ⟨3656 + l.val, by omega⟩) := by
  rw [← ref_dot]
  pointwise [val_main_v26]
theorem ref_v27 (x0 : Vec Ideal S8x8192x1024 .f32) (x1 : Vec Ideal S1x1024 .f32) (x2 : Vec Ideal S1x1024x5704 .f32) (p : Fin 8) (t : Fin 8192) (l : Fin 1024) :
    val_main_v27 (F := Ideal) x0 x1 x2 (ix3 p t l) = ∑ k, normRow (fun k => x0 (ix3 p t k)) (fun k => x1 (ix2 0 k)) k * x2 (ix3 0 k ⟨4680 + l.val, by omega⟩) := by
  rw [← ref_dot]
  pointwise [val_main_v27]

end Cert.Kernel2Ideal.Rows
-- ==== Proof.Blocks2.lean ====
/-
  The prompt projection's results after the run, block by block: a block is what its grid point's body left.
-/
module

public import proofs.«01_k».proof.Proof.Launch2
public import Idealize.ShloMosaic.Lib.Pipeline.Value

@[expose] public section

noncomputable section

namespace Cert.Kernel2Ideal.Blocks

open Cert.Kernel2Ideal Cert.Kernel2Ideal.Gen Cert.Kernel2Ideal.Launched Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What a point writes back to the result is what its body left for it. -/
theorem flushed11 (c : Dev nD) (t : Fin cfg0.N) :
    (dats m 0 c).flushed 11 t = (cfg0.win 11).cut (grid0.coords t) ((outsAt0 m c t).1) := by
  show (cfg0.win 11).cut (grid0.coords t) ((dats m 0 c).after 11 t) = _
  rw [after0_11]

/-- The index map sends distinct grid points to distinct block indices (decided over the 128 points). -/
theorem idx_inj11 : ∀ t t' : Fin cfg0.N, win0_11.index t = win0_11.index t' → t = t' :=
  (by decide +kernel : ∀ t t' : Fin grid0.N, win0_11.index t = win0_11.index t' → t = t')

/-- Two points' blocks share no index. -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- A block of the final array is what its point wrote back. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- What a point writes back to the result is what its body left for it. -/
theorem flushed12 (c : Dev nD) (t : Fin cfg0.N) :
    (dats m 0 c).flushed 12 t = (cfg0.win 12).cut (grid0.coords t) ((outsAt0 m c t).2.1) := by
  show (cfg0.win 12).cut (grid0.coords t) ((dats m 0 c).after 12 t) = _
  rw [after0_12]

/-- The index map sends distinct grid points to distinct block indices (decided over the 128 points). -/
theorem idx_inj12 : ∀ t t' : Fin cfg0.N, win0_12.index t = win0_12.index t' → t = t' :=
  (by decide +kernel : ∀ t t' : Fin grid0.N, win0_12.index t = win0_12.index t' → t = t')

/-- Two points' blocks share no index. -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- A block of the final array is what its point wrote back. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- What a point writes back to the result is what its body left for it. -/
theorem flushed13 (c : Dev nD) (t : Fin cfg0.N) :
    (dats m 0 c).flushed 13 t = (cfg0.win 13).cut (grid0.coords t) ((outsAt0 m c t).2.2.1) := by
  show (cfg0.win 13).cut (grid0.coords t) ((dats m 0 c).after 13 t) = _
  rw [after0_13]

/-- The index map sends distinct grid points to distinct block indices (decided over the 128 points). -/
theorem idx_inj13 : ∀ t t' : Fin cfg0.N, win0_13.index t = win0_13.index t' → t = t' :=
  (by decide +kernel : ∀ t t' : Fin grid0.N, win0_13.index t = win0_13.index t' → t = t')

/-- Two points' blocks share no index. -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- A block of the final array is what its point wrote back. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- What a point writes back to the result is what its body left for it. -/
theorem flushed14 (c : Dev nD) (t : Fin cfg0.N) :
    (dats m 0 c).flushed 14 t = (cfg0.win 14).cut (grid0.coords t) ((outsAt0 m c t).2.2.2.1) := by
  show (cfg0.win 14).cut (grid0.coords t) ((dats m 0 c).after 14 t) = _
  rw [after0_14]

/-- The index map sends distinct grid points to distinct block indices (decided over the 128 points). -/
theorem idx_inj14 : ∀ t t' : Fin cfg0.N, win0_14.index t = win0_14.index t' → t = t' :=
  (by decide +kernel : ∀ t t' : Fin grid0.N, win0_14.index t = win0_14.index t' → t = t')

/-- Two points' blocks share no index. -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- A block of the final array is what its point wrote back. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- What a point writes back to the result is what its body left for it. -/
theorem flushed15 (c : Dev nD) (t : Fin cfg0.N) :
    (dats m 0 c).flushed 15 t = (cfg0.win 15).cut (grid0.coords t) ((outsAt0 m c t).2.2.2.2.1) := by
  show (cfg0.win 15).cut (grid0.coords t) ((dats m 0 c).after 15 t) = _
  rw [after0_15]

/-- The index map sends distinct grid points to distinct block indices (decided over the 128 points). -/
theorem idx_inj15 : ∀ t t' : Fin cfg0.N, win0_15.index t = win0_15.index t' → t = t' :=
  (by decide +kernel : ∀ t t' : Fin grid0.N, win0_15.index t = win0_15.index t' → t = t')

/-- Two points' blocks share no index. -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- A block of the final array is what its point wrote back. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- What a point writes back to the result is what its body left for it. -/
theorem flushed16 (c : Dev nD) (t : Fin cfg0.N) :
    (dats m 0 c).flushed 16 t = (cfg0.win 16).cut (grid0.coords t) ((outsAt0 m c t).2.2.2.2.2.1) := by
  show (cfg0.win 16).cut (grid0.coords t) ((dats m 0 c).after 16 t) = _
  rw [after0_16]

/-- The index map sends distinct grid points to distinct block indices (decided over the 128 points). -/
theorem idx_inj16 : ∀ t t' : Fin cfg0.N, win0_16.index t = win0_16.index t' → t = t' :=
  (by decide +kernel : ∀ t t' : Fin grid0.N, win0_16.index t = win0_16.index t' → t = t')

/-- Two points' blocks share no index. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- A block of the final array is what its point wrote back. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- What the result holds after the run. -/
theorem post11 (r : PUnit × MemSt nD τ sig (Elt F)) (h : Pipeline.FramePost cfgs (dats m) 0 (V m) r) (c : Dev nD) :
    r.2.mem ((c : Thread nD τ).loc main_v43_0) = (dats m 0 c).arrAt 11 cfg0.N :=
  (h c).1 11

/-- What the result holds after the run. -/
theorem post12 (r : PUnit × MemSt nD τ sig (Elt F)) (h : Pipeline.FramePost cfgs (dats m) 0 (V m) r) (c : Dev nD) :
    r.2.mem ((c : Thread nD τ).loc main_v43_1) = (dats m 0 c).arrAt 12 cfg0.N :=
  (h c).1 12

/-- What the result holds after the run. -/
theorem post13 (r : PUnit × MemSt nD τ sig (Elt F)) (h : Pipeline.FramePost cfgs (dats m) 0 (V m) r) (c : Dev nD) :
    r.2.mem ((c : Thread nD τ).loc main_v43_2) = (dats m 0 c).arrAt 13 cfg0.N :=
  (h c).1 13

/-- What the result holds after the run. -/
theorem post14 (r : PUnit × MemSt nD τ sig (Elt F)) (h : Pipeline.FramePost cfgs (dats m) 0 (V m) r) (c : Dev nD) :
    r.2.mem ((c : Thread nD τ).loc main_v43_3) = (dats m 0 c).arrAt 14 cfg0.N :=
  (h c).1 14

/-- What the result holds after the run. -/
theorem post15 (r : PUnit × MemSt nD τ sig (Elt F)) (h : Pipeline.FramePost cfgs (dats m) 0 (V m) r) (c : Dev nD) :
    r.2.mem ((c : Thread nD τ).loc main_v43_4) = (dats m 0 c).arrAt 15 cfg0.N :=
  (h c).1 15

/-- What the result holds after the run. -/
theorem post16 (r : PUnit × MemSt nD τ sig (Elt F)) (h : Pipeline.FramePost cfgs (dats m) 0 (V m) r) (c : Dev nD) :
    r.2.mem ((c : Thread nD τ).loc main_v43_5) = (dats m 0 c).arrAt 16 cfg0.N :=
  (h c).1 16

/-- What the result holds after the run. -/
theorem post17 (r : PUnit × MemSt nD τ sig (Elt F)) (h : Pipeline.FramePost cfgs (dats m) 0 (V m) r) (c : Dev nD) :
    r.2.mem ((c : Thread nD τ).loc main_v43_6) = (dats m 0 c).arrAt 17 cfg0.N :=
  (h c).1 17

/-- What the result holds after the run. -/
theorem post18 (r : PUnit × MemSt nD τ sig (Elt F)) (h : Pipeline.FramePost cfgs (dats m) 0 (V m) r) (c : Dev nD) :
    r.2.mem ((c : Thread nD τ).loc main_v43_7) = (dats m 0 c).arrAt 18 cfg0.N :=
  (h c).1 18

/-- What the result holds after the run. -/
theorem post19 (r : PUnit × MemSt nD τ sig (Elt F)) (h : Pipeline.FramePost cfgs (dats m) 0 (V m) r) (c : Dev nD) :
    r.2.mem ((c : Thread nD τ).loc main_v43_8) = (dats m 0 c).arrAt 19 cfg0.N :=
  (h c).1 19

/-- What the result holds after the run. -/
theorem post20 (r : PUnit × MemSt nD τ sig (Elt F)) (h : Pipeline.FramePost cfgs (dats m) 0 (V m) r) (c : Dev nD) :
    r.2.mem ((c : Thread nD τ).loc main_v43_9) = (dats m 0 c).arrAt 20 cfg0.N :=
  (h c).1 20

/-- What the result holds after the run. -/
theorem post21 (r : PUnit × MemSt nD τ sig (Elt F)) (h : Pipeline.FramePost cfgs (dats m) 0 (V m) r) (c : Dev nD) :
    r.2.mem ((c : Thread nD τ).loc main_v43_10) = (dats m 0 c).arrAt 21 cfg0.N :=
  (h c).1 21

/-- What the result holds after the run. -/
theorem post22 (r : PUnit × MemSt nD τ sig (Elt F)) (h : Pipeline.FramePost cfgs (dats m) 0 (V m) r) (c : Dev nD) :
    r.2.mem ((c : Thread nD τ).loc main_v43_11) = (dats m 0 c).arrAt 22 cfg0.N :=
  (h c).1 22

/-- The argument is as launched after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The argument is as launched after the run. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The argument is as launched after the run. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The argument is as launched after the run. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The argument is as launched after the run. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The argument is as launched after the run. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The argument is as launched after the run. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The argument is as launched after the run. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

set_option maxHeartbeats 1600000 in
/-- The run, with every result named and every argument as launched. -/
theorem run_blocks : θ_run defs (onTc (τ := τ) (main (F := F))) ⟨m, fun _ => 0, ρ⟩ fun r => ∀ c : Dev nD,
      r.2.mem ((c : Thread nD τ).loc main_v43_0) = (dats m 0 c).arrAt 11 cfg0.N
      ∧ r.2.mem ((c : Thread nD τ).loc main_v43_1) = (dats m 0 c).arrAt 12 cfg0.N
      ∧ r.2.mem ((c : Thread nD τ).loc main_v43_2) = (dats m 0 c).arrAt 13 cfg0.N
      ∧ r.2.mem ((c : Thread nD τ).loc main_v43_3) = (dats m 0 c).arrAt 14 cfg0.N
      ∧ r.2.mem ((c : Thread nD τ).loc main_v43_4) = (dats m 0 c).arrAt 15 cfg0.N
      ∧ r.2.mem ((c : Thread nD τ).loc main_v43_5) = (dats m 0 c).arrAt 16 cfg0.N
      ∧ r.2.mem ((c : Thread nD τ).loc main_v43_6) = (dats m 0 c).arrAt 17 cfg0.N
      ∧ r.2.mem ((c : Thread nD τ).loc main_v43_7) = (dats m 0 c).arrAt 18 cfg0.N
      ∧ r.2.mem ((c : Thread nD τ).loc main_v43_8) = (dats m 0 c).arrAt 19 cfg0.N
      ∧ r.2.mem ((c : Thread nD τ).loc main_v43_9) = (dats m 0 c).arrAt 20 cfg0.N
      ∧ r.2.mem ((c : Thread nD τ).loc main_v43_10) = (dats m 0 c).arrAt 21 cfg0.N
      ∧ r.2.mem ((c : Thread nD τ).loc main_v43_11) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post11 m r h c,
      post12 m r h c,
      post13 m r h c,
      post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.Kernel2Ideal.Blocks

end
-- ==== Proof.Value2.lean ====
/-
  The prompt projection's blocks read at an index of the launch's arguments, and the arrays it leaves that are columns of the projected rows.
-/
module

public import proofs.«01_k».proof.Proof.Entry2
public import proofs.«01_k».proof.Proof.Rows2
public import proofs.«01_k».proof.Proof.Blocks2

@[expose] public section

set_option maxRecDepth 16384

noncomputable section

namespace Cert.Kernel2Ideal.Entry

open Cert.Kernel2Ideal Cert.Kernel2Ideal.Gen Cert.Kernel2Ideal.Launched Cert.Kernel2Ideal.Blocks Cert.Kernel2Ideal.Left Cert.Kernel2Ideal.Rows
open Cert.KernelIdeal.Deep (normRow)
open Idealize.ShloMosaic Idealize.ShloMosaic.TcCoe

theorem packed1_apply (x : Vec Ideal S1x1024 .f32) (k : Fin 1024) : (fun i => shapeCast S1x1024 (fun i => shapeCast S1024 x shapeCasts_S1x1024_S1024 i) shapeCasts_S1024_S1x1024 i : FVec Ideal S1x1024 .f32) (ix2 0 k) = x (ix2 0 k) := by
  pointwise
theorem packed2_apply (x : Vec Ideal S1x1024x5704 .f32) (k : Fin 1024) (l : Fin 1536) : extractStridedSlice S1024x1536 ![0, 0] (packW x) slices_S1024x5704_S1024x1536_0_0 (ix2 k l) = x (ix3 0 k ⟨l.val, by omega⟩) := by
  pointwise [packW]
theorem packed4_apply (x : Vec Ideal S1x1024x5704 .f32) (k : Fin 1024) (l : Fin 2048) : extractStridedSlice S1024x2048 ![0, 3656] (packW x) slices_S1024x5704_S1024x2048_0_3656 (ix2 k l) = x (ix3 0 k ⟨3656 + l.val, by omega⟩) := by
  pointwise [packW]
theorem packed3_lo (x : Vec Ideal S1x1024x5704 .f32) (k : Fin 1024) (l : Fin 1024) : concatenate S1024x1088 1 [⟨S1024x1024, extractStridedSlice S1024x1024 ![0, 2048] (packW x) slices_S1024x5704_S1024x1024_0_2048⟩, ⟨S1024x64, extractStridedSlice S1024x64 ![0, 3584] (packW x) slices_S1024x5704_S1024x64_0_3584⟩] concatenates_S1024x1024_S1024x64_S1024x1088_d1 (ix2 k ⟨l.val, by omega⟩) = x (ix3 0 k ⟨2048 + l.val, by omega⟩) := by
  pointwise [packW]
theorem packed3_hi (x : Vec Ideal S1x1024x5704 .f32) (k : Fin 1024) (l : Fin 64) : concatenate S1024x1088 1 [⟨S1024x1024, extractStridedSlice S1024x1024 ![0, 2048] (packW x) slices_S1024x5704_S1024x1024_0_2048⟩, ⟨S1024x64, extractStridedSlice S1024x64 ![0, 3584] (packW x) slices_S1024x5704_S1024x64_0_3584⟩] concatenates_S1024x1024_S1024x64_S1024x1088_d1 (ix2 k ⟨1024 + l.val, by omega⟩) = x (ix3 0 k ⟨3584 + l.val, by omega⟩) := by
  pointwise [packW]
theorem packed6_apply (x : Vec Ideal S1x512 .f32) (k : Fin 512) : (fun i => shapeCast S1x512 (fun i => shapeCast S512 x shapeCasts_S1x512_S512 i) shapeCasts_S512_S1x512 i : FVec Ideal S1x512 .f32) (ix2 0 k) = x (ix2 0 k) := by
  pointwise
theorem packed8_lo (x : Vec Ideal S8x128x128 .f32) (n : Fin 4) (a b : Fin 128) : packMix x (ix3 n a ⟨b.val, by omega⟩) = x (ix3 ⟨n.val * 2, by omega⟩ a b) := by
  pointwise [packMix]
theorem packed8_hi (x : Vec Ideal S8x128x128 .f32) (n : Fin 4) (a b : Fin 128) : packMix x (ix3 n a ⟨128 + b.val, by omega⟩) = x (ix3 ⟨n.val * 2 + 1, by omega⟩ a b) := by
  pointwise [packMix]
theorem packed9_apply (x : Vec Ideal S1x8x128 .f32) (a : Fin 128) (q : Fin 512) : packBias x (ix2 a q) = x (ix3 0 ⟨q.val / 64, by omega⟩ a) := by
  pointwise [packBias]
theorem packed10_apply (x : Vec Ideal S1x512x1024 .f32) (q : Fin 512) (k : Fin 1024) : (truncf (F := Ideal) .bf16 (fun i => shapeCast S512x1024 x shapeCasts_S1x512x1024_S512x1024 i) bitsLt_bf16_f32 : FVec Ideal S512x1024 .bf16) (ix2 q k) = x (ix3 0 q k) := by
  pointwise

variable (m : (ℓ : Loc nD τ sig) → Buf (Elt Ideal) ℓ)

theorem window1_apply (c : Dev nD) (t : Fin cfg0.N) (k : Fin 1024) : iblk m c 1 t (ix2 0 k) = m ((c : Thread nD τ).loc main_arg1) (ix2 0 k) :=
  (whole1_apply m c t 0 k).trans ((congrFun (entered1 m c) (ix2 0 k)).trans (packed1_apply _ k))
theorem window2_apply (c : Dev nD) (t : Fin cfg0.N) (k : Fin 1024) (l : Fin 1536) : iblk m c 2 t (ix2 k l) = m ((c : Thread nD τ).loc main_arg2) (ix3 0 k ⟨l.val, by omega⟩) :=
  (whole2_apply m c t k l).trans ((congrFun (entered2 m c) (ix2 k l)).trans (packed2_apply _ k l))
theorem window3_lo (c : Dev nD) (t : Fin cfg0.N) (k : Fin 1024) (l : Fin 1024) : iblk m c 3 t (ix2 k (⟨l.val, by omega⟩ : Fin 1088)) = m ((c : Thread nD τ).loc main_arg2) (ix3 0 k ⟨2048 + l.val, by omega⟩) :=
  (whole3_apply m c t k (⟨l.val, by omega⟩ : Fin 1088)).trans ((congrFun (entered3 m c) (ix2 k (⟨l.val, by omega⟩ : Fin 1088))).trans (packed3_lo _ k l))
theorem window3_hi (c : Dev nD) (t : Fin cfg0.N) (k : Fin 1024) (l : Fin 64) : iblk m c 3 t (ix2 k (⟨1024 + l.val, by omega⟩ : Fin 1088)) = m ((c : Thread nD τ).loc main_arg2) (ix3 0 k ⟨3584 + l.val, by omega⟩) :=
  (whole3_apply m c t k (⟨1024 + l.val, by omega⟩ : Fin 1088)).trans ((congrFun (entered3 m c) (ix2 k (⟨1024 + l.val, by omega⟩ : Fin 1088))).trans (packed3_hi _ k l))
theorem window4_apply (c : Dev nD) (t : Fin cfg0.N) (k : Fin 1024) (l : Fin 2048) : iblk m c 4 t (ix2 k l) = m ((c : Thread nD τ).loc main_arg2) (ix3 0 k ⟨3656 + l.val, by omega⟩) :=
  (whole4_apply m c t k l).trans ((congrFun (entered4 m c) (ix2 k l)).trans (packed4_apply _ k l))
theorem window6_apply (c : Dev nD) (t : Fin cfg0.N) (k : Fin 512) : iblk m c 6 t (ix2 0 k) = m ((c : Thread nD τ).loc main_arg3) (ix2 0 k) :=
  (whole6_apply m c t 0 k).trans ((congrFun (entered6 m c) (ix2 0 k)).trans (packed6_apply _ k))
theorem window7_apply (c : Dev nD) (t : Fin cfg0.N) (k : Fin 512) : iblk m c 7 t (ix2 0 k) = m ((c : Thread nD τ).loc main_arg4) (ix2 0 k) :=
  (whole7_apply m c t 0 k).trans ((congrFun (entered7 m c) (ix2 0 k)).trans (packed6_apply _ k))
theorem window8_lo (c : Dev nD) (t : Fin cfg0.N) (n : Fin 4) (a b : Fin 128) : iblk m c 8 t (ix3 n a (⟨b.val, by omega⟩ : Fin 256)) = Cert.Reference2Ideal.Read.val_main_v91 (F := Ideal) (m ((c : Thread nD τ).loc main_arg5)) (ix3 ⟨n.val * 2, by omega⟩ a b) :=
  (whole8_apply m c t n a (⟨b.val, by omega⟩ : Fin 256)).trans ((congrFun (entered8 m c) (ix3 n a (⟨b.val, by omega⟩ : Fin 256))).trans (packed8_lo _ n a b))
theorem window8_hi (c : Dev nD) (t : Fin cfg0.N) (n : Fin 4) (a b : Fin 128) : iblk m c 8 t (ix3 n a (⟨128 + b.val, by omega⟩ : Fin 256)) = Cert.Reference2Ideal.Read.val_main_v91 (F := Ideal) (m ((c : Thread nD τ).loc main_arg5)) (ix3 ⟨n.val * 2 + 1, by omega⟩ a b) :=
  (whole8_apply m c t n a (⟨128 + b.val, by omega⟩ : Fin 256)).trans ((congrFun (entered8 m c) (ix3 n a (⟨128 + b.val, by omega⟩ : Fin 256))).trans (packed8_hi _ n a b))
theorem window9_apply (c : Dev nD) (t : Fin cfg0.N) (a : Fin 128) (q : Fin 512) : iblk m c 9 t (ix2 a q) = m ((c : Thread nD τ).loc main_arg6) (ix3 0 ⟨q.val / 64, by omega⟩ a) :=
  (whole9_apply m c t a q).trans ((congrFun (entered9 m c) (ix2 a q)).trans (packed9_apply _ a q))
theorem window10_apply (c : Dev nD) (t : Fin cfg0.N) (q : Fin 512) (k : Fin 1024) : iblk m c 10 t (ix2 q k) = m ((c : Thread nD τ).loc main_arg7) (ix3 0 q k) :=
  (whole10_apply m c t q k).trans ((congrFun (entered10 m c) (ix2 q k)).trans (packed10_apply _ q k))

/-- A block's normalised row is the token's. -/
theorem rows_eq (c : Dev nD) (p : Fin 8) (t : Fin 8192) (k : Fin 1024) :
    k0_pay2 (iblk m c 0 (point p t)) (iblk m c 1 (point p t)) (ix2 (rowOf t) k) = normRow (fun k => m ((c : Thread nD τ).loc main_arg0) (ix3 p t k)) (fun k => m ((c : Thread nD τ).loc main_arg1) (ix2 0 k)) k := by
  refine (rows_apply (iblk m c 0 (point p t)) (iblk m c 1 (point p t)) (rowOf t) k).trans ?_
  exact congrArg₂ (fun u s => normRow u s k) (funext fun k => block0_apply m c p t k) (funext fun k => window1_apply m c _ k)

theorem index12 : ∀ t : Fin cfg0.N, win0_12.index t 0 = t.val / 16 ∧ win0_12.index t 1 = t.val % 16 ∧ win0_12.index t 2 = 0 :=
  (by decide +kernel : ∀ t : Fin grid0.N, win0_12.index t 0 = t.val / 16 ∧ win0_12.index t 1 = t.val % 16 ∧ win0_12.index t 2 = 0)
/-- The array left, at an index, is what the body of the point holding it leaves there. -/
theorem at12 (c : Dev nD) (p : Fin 8) (t : Fin 8192) (l : Fin 1024) :
    (dats m 0 c).arrAt 12 cfg0.N (ix3 p t l) = (dats m 0 c).flushed 12 (point p t) (ix3 0 (rowOf t) l) := by
  have h := congrFun (blocks12 m c (point p t) (flush0_12 _)) (ix3 0 (rowOf t) l)
  refine Eq.trans (congrArg ((dats m 0 c).arrAt 12 cfg0.N) (funext fun a => Fin.ext ?_)) h
  obtain ⟨e0, e1, e2⟩ := index12 (point p t)
  have hp : (point p t).val = 16 * p.val + t.val / 512 := rfl
  have h0 := p.isLt
  have h1 := t.isLt
  fin_cases a
  · show p.val = win0_12.index (point p t) 0 * 1 + 1 * 0
    omega
  · show t.val = win0_12.index (point p t) 1 * 512 + 1 * (t.val % 512)
    omega
  · show l.val = win0_12.index (point p t) 2 * 1024 + 1 * l.val
    omega
theorem result12_eq (c : Dev nD) :
    (dats m 0 c).arrAt 12 cfg0.N = Cert.Reference2Ideal.Read.val_main_v27 (F := Ideal) (m ((c : Thread nD τ).loc main_arg0)) (m ((c : Thread nD τ).loc main_arg1)) (m ((c : Thread nD τ).loc main_arg2)) := by
  funext j
  obtain ⟨p, t, l, rfl⟩ : ∃ (p : Fin 8) (t : Fin 8192) (l : Fin 1024), j = ix3 p t l := ⟨j 0, j 1, j 2, funext fun a => by fin_cases a <;> rfl⟩
  rw [at12, flushed12]
  simp only [outsAt0]
  rw [left12]
  refine (gb_apply _ _ (rowOf t) l).trans (Eq.trans ?_ (ref_v27 _ _ _ p t l).symm)
  refine Finset.sum_congr rfl fun k _ => ?_
  rw [rows_eq]
  refine congrArg (_ * ·) ((window4_apply m c _ k ⟨1024 + l.val, by omega⟩).trans (congrArg (m ((c : Thread nD τ).loc main_arg2)) (congrArg (ix3 0 k) (Fin.ext ?_))))
  simp only []
  omega
theorem index13 : ∀ t : Fin cfg0.N, win0_13.index t 0 = t.val / 16 ∧ win0_13.index t 1 = t.val % 16 ∧ win0_13.index t 2 = 0 :=
  (by decide +kernel : ∀ t : Fin grid0.N, win0_13.index t 0 = t.val / 16 ∧ win0_13.index t 1 = t.val % 16 ∧ win0_13.index t 2 = 0)
/-- The array left, at an index, is what the body of the point holding it leaves there. -/
theorem at13 (c : Dev nD) (p : Fin 8) (t : Fin 8192) (l : Fin 512) :
    (dats m 0 c).arrAt 13 cfg0.N (ix3 p t l) = (dats m 0 c).flushed 13 (point p t) (ix3 0 (rowOf t) l) := by
  have h := congrFun (blocks13 m c (point p t) (flush0_13 _)) (ix3 0 (rowOf t) l)
  refine Eq.trans (congrArg ((dats m 0 c).arrAt 13 cfg0.N) (funext fun a => Fin.ext ?_)) h
  obtain ⟨e0, e1, e2⟩ := index13 (point p t)
  have hp : (point p t).val = 16 * p.val + t.val / 512 := rfl
  have h0 := p.isLt
  have h1 := t.isLt
  fin_cases a
  · show p.val = win0_13.index (point p t) 0 * 1 + 1 * 0
    omega
  · show t.val = win0_13.index (point p t) 1 * 512 + 1 * (t.val % 512)
    omega
  · show l.val = win0_13.index (point p t) 2 * 512 + 1 * l.val
    omega
theorem result13_eq (c : Dev nD) :
    (dats m 0 c).arrAt 13 cfg0.N = Cert.Reference2Ideal.Read.val_main_v22 (F := Ideal) (m ((c : Thread nD τ).loc main_arg0)) (m ((c : Thread nD τ).loc main_arg1)) (m ((c : Thread nD τ).loc main_arg2)) := by
  funext j
  obtain ⟨p, t, l, rfl⟩ : ∃ (p : Fin 8) (t : Fin 8192) (l : Fin 512), j = ix3 p t l := ⟨j 0, j 1, j 2, funext fun a => by fin_cases a <;> rfl⟩
  rw [at13, flushed13]
  simp only [outsAt0]
  rw [left13]
  refine (zb_apply _ _ (rowOf t) l).trans (Eq.trans ?_ (ref_v22 _ _ _ p t l).symm)
  refine Finset.sum_congr rfl fun k _ => ?_
  rw [rows_eq]
  refine congrArg (_ * ·) ((window3_lo m c _ k ⟨512 + l.val, by omega⟩).trans (congrArg (m ((c : Thread nD τ).loc main_arg2)) (congrArg (ix3 0 k) (Fin.ext ?_))))
  simp only []
  omega
theorem index14 : ∀ t : Fin cfg0.N, win0_14.index t 0 = t.val / 16 ∧ win0_14.index t 1 = t.val % 16 ∧ win0_14.index t 2 = 0 :=
  (by decide +kernel : ∀ t : Fin grid0.N, win0_14.index t 0 = t.val / 16 ∧ win0_14.index t 1 = t.val % 16 ∧ win0_14.index t 2 = 0)
/-- The array left, at an index, is what the body of the point holding it leaves there. -/
theorem at14 (c : Dev nD) (p : Fin 8) (t : Fin 8192) (l : Fin 256) :
    (dats m 0 c).arrAt 14 cfg0.N (ix3 p t l) = (dats m 0 c).flushed 14 (point p t) (ix3 0 (rowOf t) l) := by
  have h := congrFun (blocks14 m c (point p t) (flush0_14 _)) (ix3 0 (rowOf t) l)
  refine Eq.trans (congrArg ((dats m 0 c).arrAt 14 cfg0.N) (funext fun a => Fin.ext ?_)) h
  obtain ⟨e0, e1, e2⟩ := index14 (point p t)
  have hp : (point p t).val = 16 * p.val + t.val / 512 := rfl
  have h0 := p.isLt
  have h1 := t.isLt
  fin_cases a
  · show p.val = win0_14.index (point p t) 0 * 1 + 1 * 0
    omega
  · show t.val = win0_14.index (point p t) 1 * 512 + 1 * (t.val % 512)
    omega
  · show l.val = win0_14.index (point p t) 2 * 256 + 1 * l.val
    omega
theorem result14_eq (c : Dev nD) :
    (dats m 0 c).arrAt 14 cfg0.N = Cert.Reference2Ideal.Read.val_main_v20 (F := Ideal) (m ((c : Thread nD τ).loc main_arg0)) (m ((c : Thread nD τ).loc main_arg1)) (m ((c : Thread nD τ).loc main_arg2)) := by
  funext j
  obtain ⟨p, t, l, rfl⟩ : ∃ (p : Fin 8) (t : Fin 8192) (l : Fin 256), j = ix3 p t l := ⟨j 0, j 1, j 2, funext fun a => by fin_cases a <;> rfl⟩
  rw [at14, flushed14]
  simp only [outsAt0]
  rw [left14]
  refine (k_apply _ _ (rowOf t) l).trans (Eq.trans ?_ (ref_v20 _ _ _ p t l).symm)
  refine Finset.sum_congr rfl fun k _ => ?_
  rw [rows_eq]
  refine congrArg (_ * ·) ((window3_lo m c _ k ⟨0 + l.val, by omega⟩).trans (congrArg (m ((c : Thread nD τ).loc main_arg2)) (congrArg (ix3 0 k) (Fin.ext ?_))))
  simp only []
  omega
theorem index15 : ∀ t : Fin cfg0.N, win0_15.index t 0 = t.val / 16 ∧ win0_15.index t 1 = t.val % 16 ∧ win0_15.index t 2 = 0 :=
  (by decide +kernel : ∀ t : Fin grid0.N, win0_15.index t 0 = t.val / 16 ∧ win0_15.index t 1 = t.val % 16 ∧ win0_15.index t 2 = 0)
/-- The array left, at an index, is what the body of the point holding it leaves there. -/
theorem at15 (c : Dev nD) (p : Fin 8) (t : Fin 8192) (l : Fin 256) :
    (dats m 0 c).arrAt 15 cfg0.N (ix3 p t l) = (dats m 0 c).flushed 15 (point p t) (ix3 0 (rowOf t) l) := by
  have h := congrFun (blocks15 m c (point p t) (flush0_15 _)) (ix3 0 (rowOf t) l)
  refine Eq.trans (congrArg ((dats m 0 c).arrAt 15 cfg0.N) (funext fun a => Fin.ext ?_)) h
  obtain ⟨e0, e1, e2⟩ := index15 (point p t)
  have hp : (point p t).val = 16 * p.val + t.val / 512 := rfl
  have h0 := p.isLt
  have h1 := t.isLt
  fin_cases a
  · show p.val = win0_15.index (point p t) 0 * 1 + 1 * 0
    omega
  · show t.val = win0_15.index (point p t) 1 * 512 + 1 * (t.val % 512)
    omega
  · show l.val = win0_15.index (point p t) 2 * 256 + 1 * l.val
    omega
theorem result15_eq (c : Dev nD) :
    (dats m 0 c).arrAt 15 cfg0.N = Cert.Reference2Ideal.Read.val_main_v21 (F := Ideal) (m ((c : Thread nD τ).loc main_arg0)) (m ((c : Thread nD τ).loc main_arg1)) (m ((c : Thread nD τ).loc main_arg2)) := by
  funext j
  obtain ⟨p, t, l, rfl⟩ : ∃ (p : Fin 8) (t : Fin 8192) (l : Fin 256), j = ix3 p t l := ⟨j 0, j 1, j 2, funext fun a => by fin_cases a <;> rfl⟩
  rw [at15, flushed15]
  simp only [outsAt0]
  rw [left15]
  refine (v_apply _ _ (rowOf t) l).trans (Eq.trans ?_ (ref_v21 _ _ _ p t l).symm)
  refine Finset.sum_congr rfl fun k _ => ?_
  rw [rows_eq]
  refine congrArg (_ * ·) ((window3_lo m c _ k ⟨256 + l.val, by omega⟩).trans (congrArg (m ((c : Thread nD τ).loc main_arg2)) (congrArg (ix3 0 k) (Fin.ext ?_))))
  simp only []
  omega
theorem index16 : ∀ t : Fin cfg0.N, win0_16.index t 0 = t.val / 16 ∧ win0_16.index t 1 = t.val % 16 ∧ win0_16.index t 2 = 0 :=
  (by decide +kernel : ∀ t : Fin grid0.N, win0_16.index t 0 = t.val / 16 ∧ win0_16.index t 1 = t.val % 16 ∧ win0_16.index t 2 = 0)
/-- The array left, at an index, is what the body of the point holding it leaves there. -/
theorem at16 (c : Dev nD) (p : Fin 8) (t : Fin 8192) (l : Fin 64) :
    (dats m 0 c).arrAt 16 cfg0.N (ix3 p t l) = (dats m 0 c).flushed 16 (point p t) (ix3 0 (rowOf t) l) := by
  have h := congrFun (blocks16 m c (point p t) (flush0_16 _)) (ix3 0 (rowOf t) l)
  refine Eq.trans (congrArg ((dats m 0 c).arrAt 16 cfg0.N) (funext fun a => Fin.ext ?_)) h
  obtain ⟨e0, e1, e2⟩ := index16 (point p t)
  have hp : (point p t).val = 16 * p.val + t.val / 512 := rfl
  have h0 := p.isLt
  have h1 := t.isLt
  fin_cases a
  · show p.val = win0_16.index (point p t) 0 * 1 + 1 * 0
    omega
  · show t.val = win0_16.index (point p t) 1 * 512 + 1 * (t.val % 512)
    omega
  · show l.val = win0_16.index (point p t) 2 * 64 + 1 * l.val
    omega
theorem result16_eq (c : Dev nD) :
    (dats m 0 c).arrAt 16 cfg0.N = Cert.Reference2Ideal.Read.val_main_v24 (F := Ideal) (m ((c : Thread nD τ).loc main_arg0)) (m ((c : Thread nD τ).loc main_arg1)) (m ((c : Thread nD τ).loc main_arg2)) := by
  funext j
  obtain ⟨p, t, l, rfl⟩ : ∃ (p : Fin 8) (t : Fin 8192) (l : Fin 64), j = ix3 p t l := ⟨j 0, j 1, j 2, funext fun a => by fin_cases a <;> rfl⟩
  rw [at16, flushed16]
  simp only [outsAt0]
  rw [left16]
  refine (ki_apply _ _ (rowOf t) l).trans (Eq.trans ?_ (ref_v24 _ _ _ p t l).symm)
  refine Finset.sum_congr rfl fun k _ => ?_
  rw [rows_eq]
  refine congrArg (_ * ·) ((window3_hi m c _ k l).trans (congrArg (m ((c : Thread nD τ).loc main_arg2)) (congrArg (ix3 0 k) (Fin.ext ?_))))
  rfl
theorem index11 : ∀ t : Fin cfg0.N, win0_11.index t 0 = t.val / 16 ∧ win0_11.index t 1 = t.val % 16 ∧ win0_11.index t 2 = 0 :=
  (by decide +kernel : ∀ t : Fin grid0.N, win0_11.index t 0 = t.val / 16 ∧ win0_11.index t 1 = t.val % 16 ∧ win0_11.index t 2 = 0)
/-- The array left, at an index, is what the body of the point holding it leaves there. -/
theorem at11 (c : Dev nD) (p : Fin 8) (t : Fin 8192) (l : Fin 1024) :
    (dats m 0 c).arrAt 11 cfg0.N (ix3 p t l) = (dats m 0 c).flushed 11 (point p t) (ix3 0 (rowOf t) l) := by
  have h := congrFun (blocks11 m c (point p t) (flush0_11 _)) (ix3 0 (rowOf t) l)
  refine Eq.trans (congrArg ((dats m 0 c).arrAt 11 cfg0.N) (funext fun a => Fin.ext ?_)) h
  obtain ⟨e0, e1, e2⟩ := index11 (point p t)
  have hp : (point p t).val = 16 * p.val + t.val / 512 := rfl
  have h0 := p.isLt
  have h1 := t.isLt
  fin_cases a
  · show p.val = win0_11.index (point p t) 0 * 1 + 1 * 0
    omega
  · show t.val = win0_11.index (point p t) 1 * 512 + 1 * (t.val % 512)
    omega
  · show l.val = win0_11.index (point p t) 2 * 1024 + 1 * l.val
    omega

end Cert.Kernel2Ideal.Entry
-- ==== Proof.Mix2.lean ====
/-
  The prompt projection's gated branch at an index: the activation, the normalised rows, the mixing of a block of tokens, the projection out.
-/
module

public import proofs.«01_k».proof.Proof.Left2
public import proofs.«01_k».proof.Proof.Rows2
public import proofs.«01_k».proof.Proof.Spec

@[expose] public section

set_option maxRecDepth 16384

noncomputable section

namespace Cert.Kernel2Ideal.Mix

open Cert.Kernel2Ideal Cert.Kernel2Ideal.Gen Cert.Kernel2Ideal.Left
open Cert.Spec (gelu mean layerRow outRow)
open Idealize.ShloMosaic Idealize.ShloMosaic.TcCoe

theorem lt_lo : ∀ b : Fin 64, IntOp.cmpi .slt (BitVec.ofNat 32 b.val) 64#32 = 1#1 := by decide
theorem ge_lo : ∀ b : Fin 64, IntOp.cmpi .sge (BitVec.ofNat 32 b.val) 64#32 = 0#1 := by decide
theorem lt_hi : ∀ b : Fin 64, IntOp.cmpi .slt (BitVec.ofNat 32 (64 + b.val)) 64#32 = 0#1 := by decide
theorem ge_hi : ∀ b : Fin 64, IntOp.cmpi .sge (BitVec.ofNat 32 (64 + b.val)) 64#32 = 1#1 := by decide
theorem sel_one (x y : EReal) : Scalar.select (1#1 : BitVec 1) x y = x := rfl
theorem sel_zero (x y : EReal) : Scalar.select (0#1 : BitVec 1) x y = y := rfl

/-- One block of 128 tokens and two heads: the token matrices of the two, side by side, times the block with the other head's columns at zero. -/
def blk {F : FTy → Type} [FloatOps F] (w : Vec F S1x128x256 .bf16) (e : FVec F S128x128 .f32) : FVec F S128x128 .f32 :=
  matmul dot_S128x256_S256x128_S128x128_1_0_0_1_n_n none (shapeCast S128x256 w shapeCasts_S1x128x256_S128x256)
    (concatenate S256x128 0 [⟨S128x128, truncf .bf16 (select (cmpi .slt (iota .tc S128x128 32 [1] iota_S128x128_d1_w32) (broadcast S128x128 64#32)) e (broadcast S128x128 (Scalar.ofBits .f32 0x00000000#32))) bitsLt_bf16_f32⟩,
      ⟨S128x128, truncf .bf16 (select (cmpi .sge (iota .tc S128x128 32 [1] iota_S128x128_d1_w32) (broadcast S128x128 64#32)) e (broadcast S128x128 (Scalar.ofBits .f32 0x00000000#32))) bitsLt_bf16_f32⟩] concatenates_S128x128_S128x128_S256x128_d0)
    (constant S128x128 .f32 0x00000000#32)

theorem blk_lo (w : Vec Ideal S1x128x256 .bf16) (e : Vec Ideal S128x128 .f32) (a : Fin 128) (b : Fin 64) :
    blk (F := Ideal) w e (ix2 a ⟨b.val, by omega⟩) = ∑ s : Fin 128, w (ix3 0 a ⟨s.val, by omega⟩) * e (ix2 s ⟨b.val, by omega⟩) := by
  pointwise [blk]
  simp only [lt_lo, ge_lo, sel_one, sel_zero, Finset.sum_const_zero, add_zero]
theorem blk_hi (w : Vec Ideal S1x128x256 .bf16) (e : Vec Ideal S128x128 .f32) (a : Fin 128) (b : Fin 64) :
    blk (F := Ideal) w e (ix2 a ⟨64 + b.val, by omega⟩) = ∑ s : Fin 128, w (ix3 0 a ⟨128 + s.val, by omega⟩) * e (ix2 s ⟨64 + b.val, by omega⟩) := by
  pointwise [blk]
  simp only [lt_hi, ge_hi, sel_one, sel_zero, Finset.sum_const_zero, zero_add]

def col0 {F : FTy → Type} [FloatOps F] (n : FVec F S512x512 .f32) (w0 : Vec F S1x128x256 .bf16) : FVec F S512x128 .f32 :=
  concatenate S512x128 0 [⟨S128x128, blk w0 (extractStridedSlice S128x128 ![0, 0] n slices_S512x512_o0_0_S128x128)⟩, ⟨S128x128, blk w0 (extractStridedSlice S128x128 ![128, 0] n slices_S512x512_o128_0_S128x128)⟩, ⟨S128x128, blk w0 (extractStridedSlice S128x128 ![256, 0] n slices_S512x512_o256_0_S128x128)⟩, ⟨S128x128, blk w0 (extractStridedSlice S128x128 ![384, 0] n slices_S512x512_o384_0_S128x128)⟩] concatenates_S128x128_S128x128_S128x128_S128x128_S512x128_d0
def col1 {F : FTy → Type} [FloatOps F] (n : FVec F S512x512 .f32) (w1 : Vec F S1x128x256 .bf16) : FVec F S512x128 .f32 :=
  concatenate S512x128 0 [⟨S128x128, blk w1 (extractStridedSlice S128x128 ![0, 128] n slices_S512x512_o0_128_S128x128)⟩, ⟨S128x128, blk w1 (extractStridedSlice S128x128 ![128, 128] n slices_S512x512_o128_128_S128x128)⟩, ⟨S128x128, blk w1 (extractStridedSlice S128x128 ![256, 128] n slices_S512x512_o256_128_S128x128)⟩, ⟨S128x128, blk w1 (extractStridedSlice S128x128 ![384, 128] n slices_S512x512_o384_128_S128x128)⟩] concatenates_S128x128_S128x128_S128x128_S128x128_S512x128_d0
def col2 {F : FTy → Type} [FloatOps F] (n : FVec F S512x512 .f32) (w2 : Vec F S1x128x256 .bf16) : FVec F S512x128 .f32 :=
  concatenate S512x128 0 [⟨S128x128, blk w2 (extractStridedSlice S128x128 ![0, 256] n slices_S512x512_o0_256_S128x128)⟩, ⟨S128x128, blk w2 (extractStridedSlice S128x128 ![128, 256] n slices_S512x512_o128_256_S128x128)⟩, ⟨S128x128, blk w2 (extractStridedSlice S128x128 ![256, 256] n slices_S512x512_o256_256_S128x128)⟩, ⟨S128x128, blk w2 (extractStridedSlice S128x128 ![384, 256] n slices_S512x512_o384_256_S128x128)⟩] concatenates_S128x128_S128x128_S128x128_S128x128_S512x128_d0
def col3 {F : FTy → Type} [FloatOps F] (n : FVec F S512x512 .f32) (w3 : Vec F S1x128x256 .bf16) : FVec F S512x128 .f32 :=
  concatenate S512x128 0 [⟨S128x128, blk w3 (extractStridedSlice S128x128 ![0, 384] n slices_S512x512_o0_384_S128x128)⟩, ⟨S128x128, blk w3 (extractStridedSlice S128x128 ![128, 384] n slices_S512x512_o128_384_S128x128)⟩, ⟨S128x128, blk w3 (extractStridedSlice S128x128 ![256, 384] n slices_S512x512_o256_384_S128x128)⟩, ⟨S128x128, blk w3 (extractStridedSlice S128x128 ![384, 384] n slices_S512x512_o384_384_S128x128)⟩] concatenates_S128x128_S128x128_S128x128_S128x128_S512x128_d0

set_option maxHeartbeats 2000000 in
/-- The sixteen blocks, put side by side. -/
theorem mixed_eq {F : FTy → Type} [FloatOps F] (v34 v39 v40 : FVec F S512x512 .f32) (v67 v71 : Vec F S1x512 .f32) (w0 w1 w2 w3 : Vec F S1x128x256 .bf16) :
    mixed v34 v39 v40 v67 v71 w0 w1 w2 w3 = concatenate S512x512 1 [⟨S512x128, col0 (k0_pay9 v34 v39 v40 v67 v71) w0⟩, ⟨S512x128, col1 (k0_pay9 v34 v39 v40 v67 v71) w1⟩, ⟨S512x128, col2 (k0_pay9 v34 v39 v40 v67 v71) w2⟩, ⟨S512x128, col3 (k0_pay9 v34 v39 v40 v67 v71) w3⟩] concatenates_S512x128_S512x128_S512x128_S512x128_S512x512_d1 := rfl

theorem down0 (y0 y1 y2 y3 : Vec Ideal S128x128 .f32) (a b : Fin 128) :
    concatenate S512x128 0 [⟨S128x128, y0⟩, ⟨S128x128, y1⟩, ⟨S128x128, y2⟩, ⟨S128x128, y3⟩] concatenates_S128x128_S128x128_S128x128_S128x128_S512x128_d0 (ix2 ⟨0 * 128 + a.val, by omega⟩ b) = y0 (ix2 a b) := by
  pointwise
theorem across0 (y0 y1 y2 y3 : Vec Ideal S512x128 .f32) (r : Fin 512) (b : Fin 128) :
    concatenate S512x512 1 [⟨S512x128, y0⟩, ⟨S512x128, y1⟩, ⟨S512x128, y2⟩, ⟨S512x128, y3⟩] concatenates_S512x128_S512x128_S512x128_S512x128_S512x512_d1 (ix2 r ⟨0 * 128 + b.val, by omega⟩) = y0 (ix2 r b) := by
  pointwise
theorem down1 (y0 y1 y2 y3 : Vec Ideal S128x128 .f32) (a b : Fin 128) :
    concatenate S512x128 0 [⟨S128x128, y0⟩, ⟨S128x128, y1⟩, ⟨S128x128, y2⟩, ⟨S128x128, y3⟩] concatenates_S128x128_S128x128_S128x128_S128x128_S512x128_d0 (ix2 ⟨1 * 128 + a.val, by omega⟩ b) = y1 (ix2 a b) := by
  pointwise
theorem across1 (y0 y1 y2 y3 : Vec Ideal S512x128 .f32) (r : Fin 512) (b : Fin 128) :
    concatenate S512x512 1 [⟨S512x128, y0⟩, ⟨S512x128, y1⟩, ⟨S512x128, y2⟩, ⟨S512x128, y3⟩] concatenates_S512x128_S512x128_S512x128_S512x128_S512x512_d1 (ix2 r ⟨1 * 128 + b.val, by omega⟩) = y1 (ix2 r b) := by
  pointwise
theorem down2 (y0 y1 y2 y3 : Vec Ideal S128x128 .f32) (a b : Fin 128) :
    concatenate S512x128 0 [⟨S128x128, y0⟩, ⟨S128x128, y1⟩, ⟨S128x128, y2⟩, ⟨S128x128, y3⟩] concatenates_S128x128_S128x128_S128x128_S128x128_S512x128_d0 (ix2 ⟨2 * 128 + a.val, by omega⟩ b) = y2 (ix2 a b) := by
  pointwise
  rw [dif_neg (by omega), dif_neg (by omega), dif_pos (by omega)]
  exact congrArg y2 (congrArg (fun r => ix2 r b) (Fin.ext (by simp only []; omega)))
theorem across2 (y0 y1 y2 y3 : Vec Ideal S512x128 .f32) (r : Fin 512) (b : Fin 128) :
    concatenate S512x512 1 [⟨S512x128, y0⟩, ⟨S512x128, y1⟩, ⟨S512x128, y2⟩, ⟨S512x128, y3⟩] concatenates_S512x128_S512x128_S512x128_S512x128_S512x512_d1 (ix2 r ⟨2 * 128 + b.val, by omega⟩) = y2 (ix2 r b) := by
  pointwise
  rw [dif_neg (by omega), dif_neg (by omega), dif_pos (by omega)]
  exact congrArg y2 (congrArg (fun b => ix2 r b) (Fin.ext (by simp only []; omega)))
theorem down3 (y0 y1 y2 y3 : Vec Ideal S128x128 .f32) (a b : Fin 128) :
    concatenate S512x128 0 [⟨S128x128, y0⟩, ⟨S128x128, y1⟩, ⟨S128x128, y2⟩, ⟨S128x128, y3⟩] concatenates_S128x128_S128x128_S128x128_S128x128_S512x128_d0 (ix2 ⟨3 * 128 + a.val, by omega⟩ b) = y3 (ix2 a b) := by
  pointwise
  rw [dif_neg (by omega), dif_neg (by omega), dif_neg (by omega)]
  exact congrArg y3 (congrArg (fun r => ix2 r b) (Fin.ext (by simp only []; omega)))
theorem across3 (y0 y1 y2 y3 : Vec Ideal S512x128 .f32) (r : Fin 512) (b : Fin 128) :
    concatenate S512x512 1 [⟨S512x128, y0⟩, ⟨S512x128, y1⟩, ⟨S512x128, y2⟩, ⟨S512x128, y3⟩] concatenates_S512x128_S512x128_S512x128_S512x128_S512x512_d1 (ix2 r ⟨3 * 128 + b.val, by omega⟩) = y3 (ix2 r b) := by
  pointwise
  rw [dif_neg (by omega), dif_neg (by omega), dif_neg (by omega)]
  exact congrArg y3 (congrArg (fun b => ix2 r b) (Fin.ext (by simp only []; omega)))
theorem tile00 (n : Vec Ideal S512x512 .f32) (a b : Fin 128) : extractStridedSlice S128x128 ![0, 0] n slices_S512x512_o0_0_S128x128 (ix2 a b) = n (ix2 ⟨0 * 128 + a.val, by omega⟩ ⟨0 * 128 + b.val, by omega⟩) := by
  pointwise
theorem tile10 (n : Vec Ideal S512x512 .f32) (a b : Fin 128) : extractStridedSlice S128x128 ![128, 0] n slices_S512x512_o128_0_S128x128 (ix2 a b) = n (ix2 ⟨1 * 128 + a.val, by omega⟩ ⟨0 * 128 + b.val, by omega⟩) := by
  pointwise
theorem tile20 (n : Vec Ideal S512x512 .f32) (a b : Fin 128) : extractStridedSlice S128x128 ![256, 0] n slices_S512x512_o256_0_S128x128 (ix2 a b) = n (ix2 ⟨2 * 128 + a.val, by omega⟩ ⟨0 * 128 + b.val, by omega⟩) := by
  pointwise
theorem tile30 (n : Vec Ideal S512x512 .f32) (a b : Fin 128) : extractStridedSlice S128x128 ![384, 0] n slices_S512x512_o384_0_S128x128 (ix2 a b) = n (ix2 ⟨3 * 128 + a.val, by omega⟩ ⟨0 * 128 + b.val, by omega⟩) := by
  pointwise
theorem tile01 (n : Vec Ideal S512x512 .f32) (a b : Fin 128) : extractStridedSlice S128x128 ![0, 128] n slices_S512x512_o0_128_S128x128 (ix2 a b) = n (ix2 ⟨0 * 128 + a.val, by omega⟩ ⟨1 * 128 + b.val, by omega⟩) := by
  pointwise
theorem tile11 (n : Vec Ideal S512x512 .f32) (a b : Fin 128) : extractStridedSlice S128x128 ![128, 128] n slices_S512x512_o128_128_S128x128 (ix2 a b) = n (ix2 ⟨1 * 128 + a.val, by omega⟩ ⟨1 * 128 + b.val, by omega⟩) := by
  pointwise
theorem tile21 (n : Vec Ideal S512x512 .f32) (a b : Fin 128) : extractStridedSlice S128x128 ![256, 128] n slices_S512x512_o256_128_S128x128 (ix2 a b) = n (ix2 ⟨2 * 128 + a.val, by omega⟩ ⟨1 * 128 + b.val, by omega⟩) := by
  pointwise
theorem tile31 (n : Vec Ideal S512x512 .f32) (a b : Fin 128) : extractStridedSlice S128x128 ![384, 128] n slices_S512x512_o384_128_S128x128 (ix2 a b) = n (ix2 ⟨3 * 128 + a.val, by omega⟩ ⟨1 * 128 + b.val, by omega⟩) := by
  pointwise
theorem tile02 (n : Vec Ideal S512x512 .f32) (a b : Fin 128) : extractStridedSlice S128x128 ![0, 256] n slices_S512x512_o0_256_S128x128 (ix2 a b) = n (ix2 ⟨0 * 128 + a.val, by omega⟩ ⟨2 * 128 + b.val, by omega⟩) := by
  pointwise
theorem tile12 (n : Vec Ideal S512x512 .f32) (a b : Fin 128) : extractStridedSlice S128x128 ![128, 256] n slices_S512x512_o128_256_S128x128 (ix2 a b) = n (ix2 ⟨1 * 128 + a.val, by omega⟩ ⟨2 * 128 + b.val, by omega⟩) := by
  pointwise
theorem tile22 (n : Vec Ideal S512x512 .f32) (a b : Fin 128) : extractStridedSlice S128x128 ![256, 256] n slices_S512x512_o256_256_S128x128 (ix2 a b) = n (ix2 ⟨2 * 128 + a.val, by omega⟩ ⟨2 * 128 + b.val, by omega⟩) := by
  pointwise
theorem tile32 (n : Vec Ideal S512x512 .f32) (a b : Fin 128) : extractStridedSlice S128x128 ![384, 256] n slices_S512x512_o384_256_S128x128 (ix2 a b) = n (ix2 ⟨3 * 128 + a.val, by omega⟩ ⟨2 * 128 + b.val, by omega⟩) := by
  pointwise
theorem tile03 (n : Vec Ideal S512x512 .f32) (a b : Fin 128) : extractStridedSlice S128x128 ![0, 384] n slices_S512x512_o0_384_S128x128 (ix2 a b) = n (ix2 ⟨0 * 128 + a.val, by omega⟩ ⟨3 * 128 + b.val, by omega⟩) := by
  pointwise
theorem tile13 (n : Vec Ideal S512x512 .f32) (a b : Fin 128) : extractStridedSlice S128x128 ![128, 384] n slices_S512x512_o128_384_S128x128 (ix2 a b) = n (ix2 ⟨1 * 128 + a.val, by omega⟩ ⟨3 * 128 + b.val, by omega⟩) := by
  pointwise
theorem tile23 (n : Vec Ideal S512x512 .f32) (a b : Fin 128) : extractStridedSlice S128x128 ![256, 384] n slices_S512x512_o256_384_S128x128 (ix2 a b) = n (ix2 ⟨2 * 128 + a.val, by omega⟩ ⟨3 * 128 + b.val, by omega⟩) := by
  pointwise
theorem tile33 (n : Vec Ideal S512x512 .f32) (a b : Fin 128) : extractStridedSlice S128x128 ![384, 384] n slices_S512x512_o384_384_S128x128 (ix2 a b) = n (ix2 ⟨3 * 128 + a.val, by omega⟩ ⟨3 * 128 + b.val, by omega⟩) := by
  pointwise
theorem col0_lo (n : Vec Ideal S512x512 .f32) (w : Vec Ideal S1x128x256 .bf16) (i : Fin 4) (a : Fin 128) (b : Fin 64) :
    col0 (F := Ideal) n w (ix2 ⟨i.val * 128 + a.val, by omega⟩ ⟨b.val, by omega⟩) = ∑ s : Fin 128, w (ix3 0 a ⟨s.val, by omega⟩) * n (ix2 ⟨i.val * 128 + s.val, by omega⟩ ⟨0 * 128 + b.val, by omega⟩) := by
  unfold col0
  fin_cases i
  · refine (down0 _ _ _ _ a ⟨b.val, by omega⟩).trans ((blk_lo _ _ a b).trans ?_)
    exact Finset.sum_congr rfl fun s _ => congrArg (_ * ·) (tile00 n s ⟨b.val, by omega⟩)
  · refine (down1 _ _ _ _ a ⟨b.val, by omega⟩).trans ((blk_lo _ _ a b).trans ?_)
    exact Finset.sum_congr rfl fun s _ => congrArg (_ * ·) (tile10 n s ⟨b.val, by omega⟩)
  · refine (down2 _ _ _ _ a ⟨b.val, by omega⟩).trans ((blk_lo _ _ a b).trans ?_)
    exact Finset.sum_congr rfl fun s _ => congrArg (_ * ·) (tile20 n s ⟨b.val, by omega⟩)
  · refine (down3 _ _ _ _ a ⟨b.val, by omega⟩).trans ((blk_lo _ _ a b).trans ?_)
    exact Finset.sum_congr rfl fun s _ => congrArg (_ * ·) (tile30 n s ⟨b.val, by omega⟩)
theorem col0_hi (n : Vec Ideal S512x512 .f32) (w : Vec Ideal S1x128x256 .bf16) (i : Fin 4) (a : Fin 128) (b : Fin 64) :
    col0 (F := Ideal) n w (ix2 ⟨i.val * 128 + a.val, by omega⟩ ⟨64 + b.val, by omega⟩) = ∑ s : Fin 128, w (ix3 0 a ⟨128 + s.val, by omega⟩) * n (ix2 ⟨i.val * 128 + s.val, by omega⟩ ⟨0 * 128 + (64 + b.val), by omega⟩) := by
  unfold col0
  fin_cases i
  · refine (down0 _ _ _ _ a ⟨64 + b.val, by omega⟩).trans ((blk_hi _ _ a b).trans ?_)
    exact Finset.sum_congr rfl fun s _ => congrArg (_ * ·) (tile00 n s ⟨64 + b.val, by omega⟩)
  · refine (down1 _ _ _ _ a ⟨64 + b.val, by omega⟩).trans ((blk_hi _ _ a b).trans ?_)
    exact Finset.sum_congr rfl fun s _ => congrArg (_ * ·) (tile10 n s ⟨64 + b.val, by omega⟩)
  · refine (down2 _ _ _ _ a ⟨64 + b.val, by omega⟩).trans ((blk_hi _ _ a b).trans ?_)
    exact Finset.sum_congr rfl fun s _ => congrArg (_ * ·) (tile20 n s ⟨64 + b.val, by omega⟩)
  · refine (down3 _ _ _ _ a ⟨64 + b.val, by omega⟩).trans ((blk_hi _ _ a b).trans ?_)
    exact Finset.sum_congr rfl fun s _ => congrArg (_ * ·) (tile30 n s ⟨64 + b.val, by omega⟩)
theorem col1_lo (n : Vec Ideal S512x512 .f32) (w : Vec Ideal S1x128x256 .bf16) (i : Fin 4) (a : Fin 128) (b : Fin 64) :
    col1 (F := Ideal) n w (ix2 ⟨i.val * 128 + a.val, by omega⟩ ⟨b.val, by omega⟩) = ∑ s : Fin 128, w (ix3 0 a ⟨s.val, by omega⟩) * n (ix2 ⟨i.val * 128 + s.val, by omega⟩ ⟨1 * 128 + b.val, by omega⟩) := by
  unfold col1
  fin_cases i
  · refine (down0 _ _ _ _ a ⟨b.val, by omega⟩).trans ((blk_lo _ _ a b).trans ?_)
    exact Finset.sum_congr rfl fun s _ => congrArg (_ * ·) (tile01 n s ⟨b.val, by omega⟩)
  · refine (down1 _ _ _ _ a ⟨b.val, by omega⟩).trans ((blk_lo _ _ a b).trans ?_)
    exact Finset.sum_congr rfl fun s _ => congrArg (_ * ·) (tile11 n s ⟨b.val, by omega⟩)
  · refine (down2 _ _ _ _ a ⟨b.val, by omega⟩).trans ((blk_lo _ _ a b).trans ?_)
    exact Finset.sum_congr rfl fun s _ => congrArg (_ * ·) (tile21 n s ⟨b.val, by omega⟩)
  · refine (down3 _ _ _ _ a ⟨b.val, by omega⟩).trans ((blk_lo _ _ a b).trans ?_)
    exact Finset.sum_congr rfl fun s _ => congrArg (_ * ·) (tile31 n s ⟨b.val, by omega⟩)
theorem col1_hi (n : Vec Ideal S512x512 .f32) (w : Vec Ideal S1x128x256 .bf16) (i : Fin 4) (a : Fin 128) (b : Fin 64) :
    col1 (F := Ideal) n w (ix2 ⟨i.val * 128 + a.val, by omega⟩ ⟨64 + b.val, by omega⟩) = ∑ s : Fin 128, w (ix3 0 a ⟨128 + s.val, by omega⟩) * n (ix2 ⟨i.val * 128 + s.val, by omega⟩ ⟨1 * 128 + (64 + b.val), by omega⟩) := by
  unfold col1
  fin_cases i
  · refine (down0 _ _ _ _ a ⟨64 + b.val, by omega⟩).trans ((blk_hi _ _ a b).trans ?_)
    exact Finset.sum_congr rfl fun s _ => congrArg (_ * ·) (tile01 n s ⟨64 + b.val, by omega⟩)
  · refine (down1 _ _ _ _ a ⟨64 + b.val, by omega⟩).trans ((blk_hi _ _ a b).trans ?_)
    exact Finset.sum_congr rfl fun s _ => congrArg (_ * ·) (tile11 n s ⟨64 + b.val, by omega⟩)
  · refine (down2 _ _ _ _ a ⟨64 + b.val, by omega⟩).trans ((blk_hi _ _ a b).trans ?_)
    exact Finset.sum_congr rfl fun s _ => congrArg (_ * ·) (tile21 n s ⟨64 + b.val, by omega⟩)
  · refine (down3 _ _ _ _ a ⟨64 + b.val, by omega⟩).trans ((blk_hi _ _ a b).trans ?_)
    exact Finset.sum_congr rfl fun s _ => congrArg (_ * ·) (tile31 n s ⟨64 + b.val, by omega⟩)
theorem col2_lo (n : Vec Ideal S512x512 .f32) (w : Vec Ideal S1x128x256 .bf16) (i : Fin 4) (a : Fin 128) (b : Fin 64) :
    col2 (F := Ideal) n w (ix2 ⟨i.val * 128 + a.val, by omega⟩ ⟨b.val, by omega⟩) = ∑ s : Fin 128, w (ix3 0 a ⟨s.val, by omega⟩) * n (ix2 ⟨i.val * 128 + s.val, by omega⟩ ⟨2 * 128 + b.val, by omega⟩) := by
  unfold col2
  fin_cases i
  · refine (down0 _ _ _ _ a ⟨b.val, by omega⟩).trans ((blk_lo _ _ a b).trans ?_)
    exact Finset.sum_congr rfl fun s _ => congrArg (_ * ·) (tile02 n s ⟨b.val, by omega⟩)
  · refine (down1 _ _ _ _ a ⟨b.val, by omega⟩).trans ((blk_lo _ _ a b).trans ?_)
    exact Finset.sum_congr rfl fun s _ => congrArg (_ * ·) (tile12 n s ⟨b.val, by omega⟩)
  · refine (down2 _ _ _ _ a ⟨b.val, by omega⟩).trans ((blk_lo _ _ a b).trans ?_)
    exact Finset.sum_congr rfl fun s _ => congrArg (_ * ·) (tile22 n s ⟨b.val, by omega⟩)
  · refine (down3 _ _ _ _ a ⟨b.val, by omega⟩).trans ((blk_lo _ _ a b).trans ?_)
    exact Finset.sum_congr rfl fun s _ => congrArg (_ * ·) (tile32 n s ⟨b.val, by omega⟩)
theorem col2_hi (n : Vec Ideal S512x512 .f32) (w : Vec Ideal S1x128x256 .bf16) (i : Fin 4) (a : Fin 128) (b : Fin 64) :
    col2 (F := Ideal) n w (ix2 ⟨i.val * 128 + a.val, by omega⟩ ⟨64 + b.val, by omega⟩) = ∑ s : Fin 128, w (ix3 0 a ⟨128 + s.val, by omega⟩) * n (ix2 ⟨i.val * 128 + s.val, by omega⟩ ⟨2 * 128 + (64 + b.val), by omega⟩) := by
  unfold col2
  fin_cases i
  · refine (down0 _ _ _ _ a ⟨64 + b.val, by omega⟩).trans ((blk_hi _ _ a b).trans ?_)
    exact Finset.sum_congr rfl fun s _ => congrArg (_ * ·) (tile02 n s ⟨64 + b.val, by omega⟩)
  · refine (down1 _ _ _ _ a ⟨64 + b.val, by omega⟩).trans ((blk_hi _ _ a b).trans ?_)
    exact Finset.sum_congr rfl fun s _ => congrArg (_ * ·) (tile12 n s ⟨64 + b.val, by omega⟩)
  · refine (down2 _ _ _ _ a ⟨64 + b.val, by omega⟩).trans ((blk_hi _ _ a b).trans ?_)
    exact Finset.sum_congr rfl fun s _ => congrArg (_ * ·) (tile22 n s ⟨64 + b.val, by omega⟩)
  · refine (down3 _ _ _ _ a ⟨64 + b.val, by omega⟩).trans ((blk_hi _ _ a b).trans ?_)
    exact Finset.sum_congr rfl fun s _ => congrArg (_ * ·) (tile32 n s ⟨64 + b.val, by omega⟩)
theorem col3_lo (n : Vec Ideal S512x512 .f32) (w : Vec Ideal S1x128x256 .bf16) (i : Fin 4) (a : Fin 128) (b : Fin 64) :
    col3 (F := Ideal) n w (ix2 ⟨i.val * 128 + a.val, by omega⟩ ⟨b.val, by omega⟩) = ∑ s : Fin 128, w (ix3 0 a ⟨s.val, by omega⟩) * n (ix2 ⟨i.val * 128 + s.val, by omega⟩ ⟨3 * 128 + b.val, by omega⟩) := by
  unfold col3
  fin_cases i
  · refine (down0 _ _ _ _ a ⟨b.val, by omega⟩).trans ((blk_lo _ _ a b).trans ?_)
    exact Finset.sum_congr rfl fun s _ => congrArg (_ * ·) (tile03 n s ⟨b.val, by omega⟩)
  · refine (down1 _ _ _ _ a ⟨b.val, by omega⟩).trans ((blk_lo _ _ a b).trans ?_)
    exact Finset.sum_congr rfl fun s _ => congrArg (_ * ·) (tile13 n s ⟨b.val, by omega⟩)
  · refine (down2 _ _ _ _ a ⟨b.val, by omega⟩).trans ((blk_lo _ _ a b).trans ?_)
    exact Finset.sum_congr rfl fun s _ => congrArg (_ * ·) (tile23 n s ⟨b.val, by omega⟩)
  · refine (down3 _ _ _ _ a ⟨b.val, by omega⟩).trans ((blk_lo _ _ a b).trans ?_)
    exact Finset.sum_congr rfl fun s _ => congrArg (_ * ·) (tile33 n s ⟨b.val, by omega⟩)
theorem col3_hi (n : Vec Ideal S512x512 .f32) (w : Vec Ideal S1x128x256 .bf16) (i : Fin 4) (a : Fin 128) (b : Fin 64) :
    col3 (F := Ideal) n w (ix2 ⟨i.val * 128 + a.val, by omega⟩ ⟨64 + b.val, by omega⟩) = ∑ s : Fin 128, w (ix3 0 a ⟨128 + s.val, by omega⟩) * n (ix2 ⟨i.val * 128 + s.val, by omega⟩ ⟨3 * 128 + (64 + b.val), by omega⟩) := by
  unfold col3
  fin_cases i
  · refine (down0 _ _ _ _ a ⟨64 + b.val, by omega⟩).trans ((blk_hi _ _ a b).trans ?_)
    exact Finset.sum_congr rfl fun s _ => congrArg (_ * ·) (tile03 n s ⟨64 + b.val, by omega⟩)
  · refine (down1 _ _ _ _ a ⟨64 + b.val, by omega⟩).trans ((blk_hi _ _ a b).trans ?_)
    exact Finset.sum_congr rfl fun s _ => congrArg (_ * ·) (tile13 n s ⟨64 + b.val, by omega⟩)
  · refine (down2 _ _ _ _ a ⟨64 + b.val, by omega⟩).trans ((blk_hi _ _ a b).trans ?_)
    exact Finset.sum_congr rfl fun s _ => congrArg (_ * ·) (tile23 n s ⟨64 + b.val, by omega⟩)
  · refine (down3 _ _ _ _ a ⟨64 + b.val, by omega⟩).trans ((blk_hi _ _ a b).trans ?_)
    exact Finset.sum_congr rfl fun s _ => congrArg (_ * ·) (tile33 n s ⟨64 + b.val, by omega⟩)
/-- The mixing at a row and a column of the first head of a pair. -/
theorem mixed_lo (v34 v39 v40 : Vec Ideal S512x512 .f32) (v67 v71 : Vec Ideal S1x512 .f32) (w : Fin 4 → Vec Ideal S1x128x256 .bf16) (i j : Fin 4) (a : Fin 128) (b : Fin 64) :
    mixed (F := Ideal) v34 v39 v40 v67 v71 (w 0) (w 1) (w 2) (w 3) (ix2 ⟨i.val * 128 + a.val, by omega⟩ ⟨j.val * 128 + b.val, by omega⟩)
      = ∑ s : Fin 128, w j (ix3 0 a ⟨s.val, by omega⟩) * k0_pay9 (F := Ideal) v34 v39 v40 v67 v71 (ix2 ⟨i.val * 128 + s.val, by omega⟩ ⟨j.val * 128 + b.val, by omega⟩) := by
  rw [mixed_eq]
  fin_cases j
  · exact (across0 _ _ _ _ _ ⟨b.val, by omega⟩).trans (col0_lo _ (w 0) i a b)
  · exact (across1 _ _ _ _ _ ⟨b.val, by omega⟩).trans (col1_lo _ (w 1) i a b)
  · exact (across2 _ _ _ _ _ ⟨b.val, by omega⟩).trans (col2_lo _ (w 2) i a b)
  · exact (across3 _ _ _ _ _ ⟨b.val, by omega⟩).trans (col3_lo _ (w 3) i a b)
/-- The mixing at a row and a column of the second head of a pair. -/
theorem mixed_hi (v34 v39 v40 : Vec Ideal S512x512 .f32) (v67 v71 : Vec Ideal S1x512 .f32) (w : Fin 4 → Vec Ideal S1x128x256 .bf16) (i j : Fin 4) (a : Fin 128) (b : Fin 64) :
    mixed (F := Ideal) v34 v39 v40 v67 v71 (w 0) (w 1) (w 2) (w 3) (ix2 ⟨i.val * 128 + a.val, by omega⟩ ⟨j.val * 128 + (64 + b.val), by omega⟩)
      = ∑ s : Fin 128, w j (ix3 0 a ⟨128 + s.val, by omega⟩) * k0_pay9 (F := Ideal) v34 v39 v40 v67 v71 (ix2 ⟨i.val * 128 + s.val, by omega⟩ ⟨j.val * 128 + (64 + b.val), by omega⟩) := by
  rw [mixed_eq]
  fin_cases j
  · exact (across0 _ _ _ _ _ ⟨64 + b.val, by omega⟩).trans (col0_hi _ (w 0) i a b)
  · exact (across1 _ _ _ _ _ ⟨64 + b.val, by omega⟩).trans (col1_hi _ (w 1) i a b)
  · exact (across2 _ _ _ _ _ ⟨64 + b.val, by omega⟩).trans (col2_hi _ (w 2) i a b)
  · exact (across3 _ _ _ _ _ ⟨64 + b.val, by omega⟩).trans (col3_hi _ (w 3) i a b)

/-- The first branch is the activation of its columns. -/
theorem gu_apply (x : Vec Ideal S1x512x1024 .f32) (s : Vec Ideal S1x1024 .f32) (w : Vec Ideal S1024x1536 .bf16) (r l : Fin 512) :
    k0_pay4 (F := Ideal) x s w (ix2 r l) = gelu (k0_pay3 (F := Ideal) x s w (ix2 r ⟨l.val, by omega⟩)) := by
  unfold k0_pay4
  generalize k0_pay3 (F := Ideal) x s w = g
  unfold gelu
  pointwise
/-- The second branch, activated and normalised along the row. -/
theorem vn_apply (x : Vec Ideal S1x512x1024 .f32) (s : Vec Ideal S1x1024 .f32) (w : Vec Ideal S1024x1536 .bf16) (g b : Vec Ideal S1x512 .f32) (r l : Fin 512) :
    k0_pay9 (F := Ideal) (k0_pay5 x s w) (k0_pay6 x s w) k0_pay7 g b (ix2 r l) = layerRow (fun k => gelu (k0_pay3 (F := Ideal) x s w (ix2 r ⟨512 + k.val, by omega⟩))) (fun k => g (ix2 0 k)) (fun k => b (ix2 0 k)) l := by
  unfold k0_pay6 k0_pay5
  generalize k0_pay3 (F := Ideal) x s w = v
  unfold layerRow mean gelu
  pointwise [k0_pay9, k0_pay7]
/-- The third branch is its columns. -/
theorem za_apply (v : Vec Ideal S512x1536 .f32) (r l : Fin 512) : k0_pay8 (F := Ideal) v (ix2 r l) = v (ix2 r ⟨1024 + l.val, by omega⟩) := by
  pointwise [k0_pay8]
theorem ga_apply (h : Vec Ideal S512x1024 .bf16) (w : Vec Ideal S1024x2048 .bf16) (r : Fin 512) (l : Fin 2048) :
    k0_pay34 (F := Ideal) h w (ix2 r l) = ∑ k, h (ix2 r k) * w (ix2 k l) := by
  pointwise [k0_pay34]
/-- What is stored of the branch. -/
theorem out_apply (h : Vec Ideal S512x1024 .bf16) (u z mx : Vec Ideal S512x512 .f32) (bias : Vec Ideal S128x512 .f32) (wp : Vec Ideal S512x1024 .bf16) (w : Vec Ideal S1024x2048 .bf16) (i : Fin 4) (a : Fin 128) (l : Fin 1024) :
    k0_pay35 (F := Ideal) h u z mx bias wp w (ix3 0 ⟨i.val * 128 + a.val, by omega⟩ l) = outRow (fun q => u (ix2 ⟨i.val * 128 + a.val, by omega⟩ q)) (fun q => mx (ix2 ⟨i.val * 128 + a.val, by omega⟩ q)) (fun q => bias (ix2 a q)) (fun q => z (ix2 ⟨i.val * 128 + a.val, by omega⟩ q)) (k0_pay34 (F := Ideal) h w (ix2 ⟨i.val * 128 + a.val, by omega⟩ ⟨l.val, by omega⟩)) (fun q => wp (ix2 q l)) := by
  unfold k0_pay35
  generalize k0_pay34 (F := Ideal) h w = ga
  unfold outRow
  fin_cases i
  · pointwise
  · pointwise
  · pointwise
    refine congrArg (_ * ·) (Finset.sum_congr rfl fun x _ => ?_)
    rw [dif_neg (by omega), dif_neg (by omega), dif_pos (by omega)]
    simp only [show 256 + a.val - 128 - 128 = a.val by omega, Fin.eta]
  · pointwise
    refine congrArg (_ * ·) (Finset.sum_congr rfl fun x _ => ?_)
    rw [dif_neg (by omega), dif_neg (by omega), dif_neg (by omega)]
    simp only [show 384 + a.val - 128 - 128 - 128 = a.val by omega, Fin.eta]

end Cert.Kernel2Ideal.Mix
-- ==== Proof.RefMix2.lean ====
/-
  The reference's gated branch at an index: the activation, the normalised rows, the mixing of a block of tokens, the projection out.
-/
module

public import proofs.«01_k».proof.Proof.Rows2
public import proofs.«01_k».proof.Proof.Spec

@[expose] public section

set_option maxRecDepth 16384

noncomputable section

namespace Cert.Kernel2Ideal.Rows

open Cert.Reference2Ideal Cert.Reference2Ideal.Read
open Cert.Spec (gelu mean layerRow outRow)
open Idealize.ShloMosaic Idealize.ShloMosaic.TcCoe

variable (x0 : Vec Ideal S8x8192x1024 .f32) (x1 : Vec Ideal S1x1024 .f32) (x2 : Vec Ideal S1x1024x5704 .f32) (x3 x4 : Vec Ideal S1x512 .f32) (x5 : Vec Ideal S1x8x128x128 .f32) (x6 : Vec Ideal S1x8x128 .f32) (x7 : Vec Ideal S1x512x1024 .f32)

/-- The first branch is the activation of its columns. -/
theorem ref_gu (p : Fin 8) (t : Fin 8192) (l : Fin 512) : val_main_v44 (F := Ideal) x0 x1 x2 (ix3 p t l) = gelu (val_main_v16 (F := Ideal) x0 x1 x2 (ix3 p t l)) := by
  generalize hg : val_main_v16 (F := Ideal) x0 x1 x2 = g
  rw [gelu, mul_comm (g (ix3 p t l)) (g (ix3 p t l) * g (ix3 p t l))]
  pointwise [val_main_v44, val_main_v43, val_main_v42, val_main_v41, val_main_v40, val_main_v39, val_main_v38, val_main_v37, val_main_v36, val_main_v35, val_main_v34, val_main_v33, val_main_v32, val_main_cst_2, val_main_cst_3, val_main_cst_4, val_main_cst_5, hg]
/-- The second branch is the activation of its columns. -/
theorem ref_gv (p : Fin 8) (t : Fin 8192) (l : Fin 512) : val_main_v57 (F := Ideal) x0 x1 x2 (ix3 p t l) = gelu (val_main_v17 (F := Ideal) x0 x1 x2 (ix3 p t l)) := by
  generalize hg : val_main_v17 (F := Ideal) x0 x1 x2 = g
  rw [gelu, mul_comm (g (ix3 p t l)) (g (ix3 p t l) * g (ix3 p t l))]
  pointwise [val_main_v57, val_main_v56, val_main_v55, val_main_v54, val_main_v53, val_main_v52, val_main_v51, val_main_v50, val_main_v49, val_main_v48, val_main_v47, val_main_v46, val_main_v45, val_main_cst_6, val_main_cst_7, val_main_cst_8, val_main_cst_9, hg]
/-- A token's second branch, normalised. -/
theorem ref_ln (p : Fin 8) (t : Fin 8192) (l : Fin 512) : val_main_v81 (F := Ideal) x0 x1 x2 x3 x4 (ix3 p t l) = layerRow (fun k => val_main_v57 (F := Ideal) x0 x1 x2 (ix3 p t k)) (fun k => x3 (ix2 0 k)) (fun k => x4 (ix2 0 k)) l := by
  generalize hg : val_main_v57 (F := Ideal) x0 x1 x2 = g
  unfold layerRow mean
  pointwise [val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v29, val_main_v28, val_main_cst_10, val_main_cst_11, val_main_cst_12, val_main_cst_13, val_main_cst_14, hg]
/-- A block's tokens, mixed within a head's columns, and the bias of the token. -/
theorem ref_mixed (p : Fin 8) (c : Fin 64) (a : Fin 128) (h : Fin 8) (e : Fin 64) :
    val_main_v99 (F := Ideal) x0 x1 x2 x3 x4 x5 x6 (ix3 p ⟨c.val * 128 + a.val, by omega⟩ ⟨h.val * 64 + e.val, by omega⟩)
      = ∑ s : Fin 128, val_main_v81 (F := Ideal) x0 x1 x2 x3 x4 (ix3 p ⟨c.val * 128 + s.val, by omega⟩ ⟨h.val * 64 + e.val, by omega⟩) * val_main_v91 (F := Ideal) x5 (ix3 h a s) + x6 (ix3 0 h a) := by
  generalize hg : val_main_v81 (F := Ideal) x0 x1 x2 x3 x4 = g
  generalize hw : val_main_v91 (F := Ideal) x5 = w
  pointwise [val_main_v99, val_main_v98, val_main_v97, val_main_v96, val_main_v95, val_main_v94, val_main_v93, val_main_v92, val_main_v31, hg, hw]
/-- What the reference leaves of the branch. -/
theorem ref_out (p : Fin 8) (t : Fin 8192) (l : Fin 1024) :
    val_main_v112 (F := Ideal) x0 x1 x2 x3 x4 x5 x6 x7 (ix3 p t l)
      = Ideal.logistic (val_main_v26 (F := Ideal) x0 x1 x2 (ix3 p t l)) * ∑ q, val_main_v44 (F := Ideal) x0 x1 x2 (ix3 p t q) * val_main_v99 (F := Ideal) x0 x1 x2 x3 x4 x5 x6 (ix3 p t q) * (val_main_v18 (F := Ideal) x0 x1 x2 (ix3 p t q) * Ideal.logistic (val_main_v18 (F := Ideal) x0 x1 x2 (ix3 p t q))) * x7 (ix3 0 q l) := by
  generalize hg : val_main_v26 (F := Ideal) x0 x1 x2 = g
  generalize hu : val_main_v44 (F := Ideal) x0 x1 x2 = u
  generalize hm : val_main_v99 (F := Ideal) x0 x1 x2 x3 x4 x5 x6 = mx
  generalize hz : val_main_v18 (F := Ideal) x0 x1 x2 = z
  unfold Ideal.logistic
  pointwise [val_main_v112, val_main_v111, val_main_v110, val_main_v109, val_main_v108, val_main_v107, val_main_v106, val_main_v105, val_main_v104, val_main_v103, val_main_v102, val_main_v101, val_main_v100, val_main_call3_v5, val_main_call3_v4, val_main_call3_v3, val_main_call3_v2, val_main_call3_v1, val_main_call3_v0, val_main_call3_cst, val_main_call3_cst_0, val_main_cst_17, val_main_cst_18, hg, hu, hm, hz]

end Cert.Kernel2Ideal.Rows
-- ==== Proof.Branch2.lean ====
/-
  The prompt projection's gated branch: the array left is the reference's.
-/
module

public import proofs.«01_k».proof.Proof.Value2
public import proofs.«01_k».proof.Proof.Mix2
public import proofs.«01_k».proof.Proof.RefMix2

@[expose] public section

set_option maxRecDepth 16384

noncomputable section

namespace Cert.Kernel2Ideal.Entry

open Cert.Kernel2Ideal Cert.Kernel2Ideal.Gen Cert.Kernel2Ideal.Launched Cert.Kernel2Ideal.Blocks Cert.Kernel2Ideal.Left Cert.Kernel2Ideal.Rows Cert.Kernel2Ideal.Mix
open Cert.KernelIdeal.Deep (normRow)
open Cert.Spec (gelu mean layerRow outRow)
open Cert.Reference2Ideal.Read
open Idealize.ShloMosaic Idealize.ShloMosaic.TcCoe

/-- One slab of the packed token matrices is its row of four. -/
theorem slab0_apply (x : Vec Ideal S4x128x256 .bf16) (h) (a : Fin 128) (b : Fin 256) : slab x 0 0 0 h (ix3 0 a b) = x (ix3 0 a b) :=
  congrArg x (funext fun i => Fin.ext (by fin_cases i <;> simp))
theorem slab1_apply (x : Vec Ideal S4x128x256 .bf16) (h) (a : Fin 128) (b : Fin 256) : slab x 1 0 0 h (ix3 0 a b) = x (ix3 1 a b) :=
  congrArg x (funext fun i => Fin.ext (by fin_cases i <;> simp))
theorem slab2_apply (x : Vec Ideal S4x128x256 .bf16) (h) (a : Fin 128) (b : Fin 256) : slab x 2 0 0 h (ix3 0 a b) = x (ix3 2 a b) :=
  congrArg x (funext fun i => Fin.ext (by fin_cases i <;> simp))
theorem slab3_apply (x : Vec Ideal S4x128x256 .bf16) (h) (a : Fin 128) (b : Fin 256) : slab x 3 0 0 h (ix3 0 a b) = x (ix3 3 a b) :=
  congrArg x (funext fun i => Fin.ext (by fin_cases i <;> simp))

variable (m : (ℓ : Loc nD τ sig) → Buf (Elt Ideal) ℓ)

/-- A token's row times the columns of the three branches. -/
theorem uvz_eq (c : Dev nD) (p : Fin 8) (t : Fin 8192) (l : Fin 1536) :
    k0_pay3 (iblk m c 0 (point p t)) (iblk m c 1 (point p t)) (iblk m c 2 (point p t)) (ix2 (rowOf t) l)
      = ∑ k, normRow (fun k => m ((c : Thread nD τ).loc main_arg0) (ix3 p t k)) (fun k => m ((c : Thread nD τ).loc main_arg1) (ix2 0 k)) k * m ((c : Thread nD τ).loc main_arg2) (ix3 0 k ⟨l.val, by omega⟩) := by
  refine (uvz_apply _ _ _ (rowOf t) l).trans (Finset.sum_congr rfl fun k _ => ?_)
  rw [rows_eq]
  exact congrArg (_ * ·) (window2_apply m c _ k l)
theorem gu_eq (c : Dev nD) (p : Fin 8) (t : Fin 8192) (l : Fin 512) :
    k0_pay4 (iblk m c 0 (point p t)) (iblk m c 1 (point p t)) (iblk m c 2 (point p t)) (ix2 (rowOf t) l)
      = val_main_v44 (F := Ideal) (m ((c : Thread nD τ).loc main_arg0)) (m ((c : Thread nD τ).loc main_arg1)) (m ((c : Thread nD τ).loc main_arg2)) (ix3 p t l) := by
  refine (gu_apply _ _ _ (rowOf t) l).trans (Eq.trans (congrArg gelu ?_) (ref_gu _ _ _ p t l).symm)
  refine (uvz_eq m c p t _).trans (Eq.trans ?_ (ref_v16 _ _ _ p t l).symm)
  refine Finset.sum_congr rfl fun k _ => ?_
  refine congrArg (_ * ·) (congrArg (m ((c : Thread nD τ).loc main_arg2)) (congrArg (ix3 0 k) (Fin.ext ?_)))
  simp only []
  omega
theorem vn_eq (c : Dev nD) (p : Fin 8) (t : Fin 8192) (l : Fin 512) :
    k0_pay9 (k0_pay5 (iblk m c 0 (point p t)) (iblk m c 1 (point p t)) (iblk m c 2 (point p t))) (k0_pay6 (iblk m c 0 (point p t)) (iblk m c 1 (point p t)) (iblk m c 2 (point p t))) (k0_pay7 (F := Ideal)) (iblk m c 6 (point p t)) (iblk m c 7 (point p t)) (ix2 (rowOf t) l)
      = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 p t l) := by
  refine (vn_apply _ _ _ _ _ (rowOf t) l).trans (Eq.trans ?_ (ref_ln _ _ _ _ _ p t l).symm)
  have hv : (fun k : Fin 512 => gelu (k0_pay3 (iblk m c 0 (point p t)) (iblk m c 1 (point p t)) (iblk m c 2 (point p t)) (ix2 (rowOf t) ⟨512 + k.val, by omega⟩)))
      = fun k => val_main_v57 (F := Ideal) (m ((c : Thread nD τ).loc main_arg0)) (m ((c : Thread nD τ).loc main_arg1)) (m ((c : Thread nD τ).loc main_arg2)) (ix3 p t k) := by
    funext k
    refine Eq.trans (congrArg gelu ?_) (ref_gv _ _ _ p t k).symm
    exact (uvz_eq m c p t _).trans (ref_v17 _ _ _ p t k).symm
  have hg : (fun k : Fin 512 => iblk m c 6 (point p t) (ix2 0 k)) = fun k => m ((c : Thread nD τ).loc main_arg3) (ix2 0 k) := funext fun k => window6_apply m c _ k
  have hb : (fun k : Fin 512 => iblk m c 7 (point p t) (ix2 0 k)) = fun k => m ((c : Thread nD τ).loc main_arg4) (ix2 0 k) := funext fun k => window7_apply m c _ k
  exact congrFun (congr (congrArg₂ layerRow hv hg) hb) l
theorem za_eq (c : Dev nD) (p : Fin 8) (t : Fin 8192) (l : Fin 512) :
    k0_pay8 (k0_pay3 (iblk m c 0 (point p t)) (iblk m c 1 (point p t)) (iblk m c 2 (point p t))) (ix2 (rowOf t) l)
      = val_main_v18 (F := Ideal) (m ((c : Thread nD τ).loc main_arg0)) (m ((c : Thread nD τ).loc main_arg1)) (m ((c : Thread nD τ).loc main_arg2)) (ix3 p t l) :=
  (za_apply _ (rowOf t) l).trans ((uvz_eq m c p t _).trans (ref_v18 _ _ _ p t l).symm)
theorem ga_eq (c : Dev nD) (p : Fin 8) (t : Fin 8192) (l : Fin 1024) :
    k0_pay34 (k0_pay2 (iblk m c 0 (point p t)) (iblk m c 1 (point p t))) (iblk m c 4 (point p t)) (ix2 (rowOf t) ⟨l.val, by omega⟩)
      = val_main_v26 (F := Ideal) (m ((c : Thread nD τ).loc main_arg0)) (m ((c : Thread nD τ).loc main_arg1)) (m ((c : Thread nD τ).loc main_arg2)) (ix3 p t l) := by
  refine (ga_apply _ _ (rowOf t) _).trans (Eq.trans ?_ (ref_v26 _ _ _ p t l).symm)
  refine Finset.sum_congr rfl fun k _ => ?_
  rw [rows_eq]
  exact congrArg (_ * ·) (window4_apply m c _ k _)

/-- The four slabs of the packed token matrices. -/
def slabs (x : Vec Ideal S4x128x256 .bf16) : Fin 4 → Vec Ideal S1x128x256 .bf16 :=
  ![slab x 0 0 0 inb_S4x128x256_S1x128x256_0_0_0, slab x 1 0 0 inb_S4x128x256_S1x128x256_1_0_0, slab x 2 0 0 inb_S4x128x256_S1x128x256_2_0_0, slab x 3 0 0 inb_S4x128x256_S1x128x256_3_0_0]
theorem slabs_apply (x : Vec Ideal S4x128x256 .bf16) (j : Fin 4) (a : Fin 128) (b : Fin 256) : slabs x j (ix3 0 a b) = x (ix3 j a b) :=
  match j with
  | ⟨0, _⟩ => slab0_apply x _ a b
  | ⟨1, _⟩ => slab1_apply x _ a b
  | ⟨2, _⟩ => slab2_apply x _ a b
  | ⟨3, _⟩ => slab3_apply x _ a b

/-- What the body mixes at a point. -/
abbrev mixedAt (c : Dev nD) (t : Fin cfg0.N) : Vec Ideal S512x512 .f32 :=
  mixed (F := Ideal) (k0_pay5 (iblk m c 0 t) (iblk m c 1 t) (iblk m c 2 t)) (k0_pay6 (iblk m c 0 t) (iblk m c 1 t) (iblk m c 2 t)) (k0_pay7 (F := Ideal)) (iblk m c 6 t) (iblk m c 7 t) (slabs (iblk m c 8 t) 0) (slabs (iblk m c 8 t) 1) (slabs (iblk m c 8 t) 2) (slabs (iblk m c 8 t) 3)

/-- A token's mixed row, with its bias, is the reference's. -/
theorem mixed_eq_ref (c : Dev nD) (p : Fin 8) (t : Fin 8192) (q : Fin 512) :
    mixedAt m c (point p t) (ix2 (rowOf t) q) + iblk m c 9 (point p t) (ix2 (⟨t.val % 128, Nat.mod_lt _ (by decide)⟩ : Fin 128) q)
      = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 p t q) := by
  have ht := t.isLt
  have hq := q.isLt
  obtain ⟨d, hd⟩ : ∃ d : Fin 64, d.val = t.val / 128 := ⟨⟨t.val / 128, by omega⟩, rfl⟩
  obtain ⟨i, hi⟩ : ∃ i : Fin 4, i.val = t.val % 512 / 128 := ⟨⟨t.val % 512 / 128, by omega⟩, rfl⟩
  obtain ⟨j, hj⟩ : ∃ j : Fin 4, j.val = q.val / 128 := ⟨⟨q.val / 128, by omega⟩, rfl⟩
  obtain ⟨h, hh⟩ : ∃ h : Fin 8, h.val = q.val / 64 := ⟨⟨q.val / 64, by omega⟩, rfl⟩
  obtain ⟨e, he⟩ : ∃ e : Fin 64, e.val = q.val % 64 := ⟨⟨q.val % 64, by omega⟩, rfl⟩
  have er : rowOf t = (⟨i.val * 128 + t.val % 128, by omega⟩ : Fin 512) := Fin.ext (by show t.val % 512 = _; simp only []; omega)
  have ets : ∀ s : Fin 128, k0_pay9 (F := Ideal) (k0_pay5 (iblk m c 0 (point p t)) (iblk m c 1 (point p t)) (iblk m c 2 (point p t))) (k0_pay6 (iblk m c 0 (point p t)) (iblk m c 1 (point p t)) (iblk m c 2 (point p t))) (k0_pay7 (F := Ideal)) (iblk m c 6 (point p t)) (iblk m c 7 (point p t)) (ix2 (⟨i.val * 128 + s.val, by omega⟩ : Fin 512) q)
      = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 p (⟨d.val * 128 + s.val, by omega⟩ : Fin 8192) q) := by
    intro s
    have h1 := vn_eq m c p (⟨d.val * 128 + s.val, by omega⟩ : Fin 8192) q
    have h2 : point p (⟨d.val * 128 + s.val, by omega⟩ : Fin 8192) = point p t := Fin.ext (by show 16 * p.val + (d.val * 128 + s.val) / 512 = 16 * p.val + t.val / 512; omega)
    have h3 : rowOf (⟨d.val * 128 + s.val, by omega⟩ : Fin 8192) = (⟨i.val * 128 + s.val, by omega⟩ : Fin 512) := Fin.ext (by show (d.val * 128 + s.val) % 512 = i.val * 128 + s.val; omega)
    rw [h2, h3] at h1
    exact h1
  have hr := ref_mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p d (⟨t.val % 128, Nat.mod_lt _ (by decide)⟩ : Fin 128) h e
  have e1 : (⟨d.val * 128 + t.val % 128, by omega⟩ : Fin 8192) = t := Fin.ext (by simp only []; omega)
  have e2 : (⟨h.val * 64 + e.val, by omega⟩ : Fin 512) = q := Fin.ext (by simp only []; omega)
  simp only [e1, e2] at hr
  rw [hr]
  refine congrArg₂ (· + ·) ?_ ?_
  · by_cases hlo : q.val % 128 < 64
    · have e3 : (⟨j.val * 128 + e.val, by omega⟩ : Fin 512) = q := Fin.ext (by simp only []; omega)
      have hm := mixed_lo (k0_pay5 (iblk m c 0 (point p t)) (iblk m c 1 (point p t)) (iblk m c 2 (point p t))) (k0_pay6 (iblk m c 0 (point p t)) (iblk m c 1 (point p t)) (iblk m c 2 (point p t))) (k0_pay7 (F := Ideal)) (iblk m c 6 (point p t)) (iblk m c 7 (point p t)) (slabs (iblk m c 8 (point p t))) i j (⟨t.val % 128, Nat.mod_lt _ (by decide)⟩ : Fin 128) e
      simp only [e3] at hm
      rw [er]
      refine hm.trans (Finset.sum_congr rfl fun s _ => ?_)
      rw [ets s, mul_comm, slabs_apply]
      refine congrArg (_ * ·) ((window8_lo m c _ j _ s).trans ?_)
      exact congrArg (val_main_v91 (F := Ideal) _) (congrArg (fun z => ix3 z _ s) (Fin.ext (by simp only []; omega)))
    · have e3 : (⟨j.val * 128 + (64 + e.val), by omega⟩ : Fin 512) = q := Fin.ext (by simp only []; omega)
      have hm := mixed_hi (k0_pay5 (iblk m c 0 (point p t)) (iblk m c 1 (point p t)) (iblk m c 2 (point p t))) (k0_pay6 (iblk m c 0 (point p t)) (iblk m c 1 (point p t)) (iblk m c 2 (point p t))) (k0_pay7 (F := Ideal)) (iblk m c 6 (point p t)) (iblk m c 7 (point p t)) (slabs (iblk m c 8 (point p t))) i j (⟨t.val % 128, Nat.mod_lt _ (by decide)⟩ : Fin 128) e
      simp only [e3] at hm
      rw [er]
      refine hm.trans (Finset.sum_congr rfl fun s _ => ?_)
      rw [ets s, mul_comm, slabs_apply]
      refine congrArg (_ * ·) ((window8_hi m c _ j _ s).trans ?_)
      exact congrArg (val_main_v91 (F := Ideal) _) (congrArg (fun z => ix3 z _ s) (Fin.ext (by simp only []; omega)))
  · refine (window9_apply m c _ _ q).trans ?_
    exact congrArg (m ((c : Thread nD τ).loc main_arg6)) (congrArg (fun z => ix3 0 z _) (Fin.ext hh.symm))

set_option maxHeartbeats 1000000 in
/-- The branch's array is the reference's. -/
theorem result11_eq (c : Dev nD) :
    (dats m 0 c).arrAt 11 cfg0.N = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext z
  obtain ⟨p, t, l, rfl⟩ : ∃ (p : Fin 8) (t : Fin 8192) (l : Fin 1024), z = ix3 p t l := ⟨z 0, z 1, z 2, funext fun a => by fin_cases a <;> rfl⟩
  have ht := t.isLt
  obtain ⟨i, hi⟩ : ∃ i : Fin 4, i.val = t.val % 512 / 128 := ⟨⟨t.val % 512 / 128, by omega⟩, rfl⟩
  have er : (⟨i.val * 128 + t.val % 128, by omega⟩ : Fin 512) = rowOf t := Fin.ext (by show _ = t.val % 512; simp only []; omega)
  have ho := out_apply (k0_pay2 (iblk m c 0 (point p t)) (iblk m c 1 (point p t))) (k0_pay4 (iblk m c 0 (point p t)) (iblk m c 1 (point p t)) (iblk m c 2 (point p t))) (k0_pay8 (k0_pay3 (iblk m c 0 (point p t)) (iblk m c 1 (point p t)) (iblk m c 2 (point p t)))) (mixedAt m c (point p t)) (iblk m c 9 (point p t)) (iblk m c 10 (point p t)) (iblk m c 4 (point p t)) i (⟨t.val % 128, Nat.mod_lt _ (by decide)⟩ : Fin 128) l
  simp only [er] at ho
  rw [at11, flushed11]
  simp only [outsAt0]
  rw [left11]
  refine Eq.trans (b := outRow _ _ _ _ _ _) ho (Eq.trans ?_ (ref_out _ _ _ _ _ _ _ _ p t l).symm)
  unfold outRow
  rw [ga_eq]
  refine congrArg (_ * ·) (Finset.sum_congr rfl fun q _ => ?_)
  beta_reduce
  rw [gu_eq, za_eq, mixed_eq_ref]
  exact congrArg (_ * ·) (window10_apply m c _ q l)

end Cert.Kernel2Ideal.Entry
-- ==== Proof.Packed2.lean ====
/-
  What the prompt projection's body leaves for the attention: in each of the six packed blocks, the value stored at every index.
-/
module

public import proofs.«01_k».proof.Proof.Left2
public import Idealize.ShloMosaic.Lib.Pipeline.ReadBack
public import Idealize.ShloMosaic.Lib.Pointwise

@[expose] public section

set_option maxRecDepth 16384

noncomputable section

namespace Cert.Kernel2Ideal.Left

open Cert.Kernel2Ideal Cert.Kernel2Ideal.Gen Cert.Kernel2Ideal.Launched
open Idealize.ShloMosaic Idealize.ShloMosaic.TcCoe

theorem ld5 {F : FTy → Type} [FloatOps F] (x : Vec F S1288x1024 .bf16) : View.ld x (Rect.unit (s := S1288x1024) ![0, 0] ![1288, 1024] inb_S1288x1024_S1288x1024_0_0) = x := View.ld_unit_zero (funext fun a => by fin_cases a <;> rfl) _ x

/-- The scale of a query: the square root of the head's width, inverted, by the logarithm of the exponential's base. -/
abbrev scaleQ : Ideal .f32 := Scalar.ofBits .f32 0x3E38AA3B#32
/-- The scale of an indexer's query. -/
abbrev scaleI : Ideal .f32 := Scalar.ofBits .f32 0x3E000000#32
/-- The scale of an indexer's head weight. -/
abbrev scaleW : Ideal .f32 := Scalar.ofBits .f32 0x3EB504F3#32
/-- The one stored below each head's values. -/
abbrev oneV : Ideal .bf16 := Scalar.ofBits .bf16 0x3F80#16

/-- The keys, a head at a time. -/
def keysAt (k : FVec Ideal S512x256 .f32) : Vec Ideal S1x4x512x64 .bf16 := fun y =>
  k (ix2 (⟨(y 2).val, (y 2).isLt⟩ : Fin 512) (⟨(y 1).val * 64 + (y 3).val, by have h1 : (y 1).val < 4 := (y 1).isLt; have h3 : (y 3).val < 64 := (y 3).isLt; omega⟩ : Fin 256))
/-- The scaled queries, tokens last, the two heads of a group side by side. -/
def queriesAt (u : FVec Ideal S1288x512 .f32) : Vec Ideal S1x4x4x64x256 .bf16 := fun y =>
  u (ix2 (⟨((y 2).val * 2 + (y 4).val / 128) * 64 + (y 3).val, by have h2 : (y 2).val < 4 := (y 2).isLt; have h3 : (y 3).val < 64 := (y 3).isLt; have h4 : (y 4).val < 256 := (y 4).isLt; omega⟩ : Fin 1288)
    (⟨(y 1).val * 128 + (y 4).val % 128, by have h1 : (y 1).val < 4 := (y 1).isLt; omega⟩ : Fin 512)) * scaleQ
/-- The indexer's scaled queries, tokens last, the heads side by side. -/
def indexAt (u : FVec Ideal S1288x512 .f32) : Vec Ideal S1x4x64x1024 .bf16 := fun y =>
  u (ix2 (⟨512 + (y 3).val / 128 * 64 + (y 2).val, by have h2 : (y 2).val < 64 := (y 2).isLt; have h3 : (y 3).val < 1024 := (y 3).isLt; omega⟩ : Fin 1288)
    (⟨(y 1).val * 128 + (y 3).val % 128, by have h1 : (y 1).val < 4 := (y 1).isLt; omega⟩ : Fin 512)) * scaleI
/-- The indexer's scaled head weights, tokens last. -/
def weightsAt (u : FVec Ideal S1288x512 .f32) : Vec Ideal S1x8x512 .f32 := fun y =>
  u (ix2 (⟨1280 + (y 1).val, by have h1 : (y 1).val < 8 := (y 1).isLt; omega⟩ : Fin 1288) (⟨(y 2).val, (y 2).isLt⟩ : Fin 512)) * scaleW
/-- The values, tokens last, each head's rows followed by sixteen of ones. -/
def valuesAt (u : FVec Ideal S1288x512 .f32) : Vec Ideal S1x1x320x512 .bf16 := fun y =>
  if h : (y 2).val % 80 < 64 then u (ix2 (⟨1024 + (y 2).val / 80 * 64 + (y 2).val % 80, by have h2 : (y 2).val < 320 := (y 2).isLt; omega⟩ : Fin 1288) (⟨(y 3).val, (y 3).isLt⟩ : Fin 512)) else oneV

theorem key_piece (k : FVec Ideal S512x256 .f32) (kv : ℕ) (h : S512x256.Slices ![0, kv * 64] S512x64) (x : S1x1x512x64.Idx) (y : S1x4x512x64.Idx)
    (h1 : (y 1).val = kv + 1 * (x 1).val) (h2 : (y 2).val = 0 + 1 * (x 2).val) (h3 : (y 3).val = 0 + 1 * (x 3).val) :
    shapeCast S1x1x512x64 (truncf (F := Ideal) .bf16 (extractStridedSlice S512x64 ![0, kv * 64] k h) bitsLt_bf16_f32) shapeCasts_S512x64_S1x1x512x64 x = keysAt k y := by
  obtain ⟨a, b, r, d, rfl⟩ : ∃ (a : Fin 1) (b : Fin 1) (r : Fin 512) (d : Fin 64), x = ix4 a b r d := ⟨x 0, x 1, x 2, x 3, funext fun e => by fin_cases e <;> rfl⟩
  have hk : kv < 4 := by have := (y 1).isLt; have e : (y 1).val < 4 := (y 1).isLt; omega
  have e1 : (y 1).val = kv := by have hb := b.isLt; have : (y 1).val = kv + 1 * b.val := h1; omega
  have e2 : (y 2).val = r.val := by have : (y 2).val = 0 + 1 * r.val := h2; omega
  have e3 : (y 3).val = d.val := by have : (y 3).val = 0 + 1 * d.val := h3; omega
  have hp : shapeCast S1x1x512x64 (truncf (F := Ideal) .bf16 (extractStridedSlice S512x64 ![0, kv * 64] k h) bitsLt_bf16_f32) shapeCasts_S512x64_S1x1x512x64 (ix4 a b r d) = k (ix2 r (⟨kv * 64 + d.val, by omega⟩ : Fin 256)) := by
    pointwise
  refine hp.trans (congrArg k (congrArg₂ ix2 (Fin.ext e2.symm) (Fin.ext ?_)))
  show kv * 64 + d.val = (y 1).val * 64 + (y 3).val
  rw [e1, e3]

theorem query_piece (u : FVec Ideal S1288x512 .f32) (jb kv gi : ℕ) (h : S1288x512.Slices ![(kv * 2 + gi) * 64, jb * 128] S64x128) (x : S1x1x1x64x128.Idx) (y : S1x4x4x64x256.Idx)
    (h1 : (y 1).val = jb + 1 * (x 1).val) (h2 : (y 2).val = kv + 1 * (x 2).val) (h3 : (y 3).val = 0 + 1 * (x 3).val) (h4 : (y 4).val = gi * 128 + 1 * (x 4).val) (hj : jb < 4 := by decide) (hk : kv < 4 := by decide) (hg : gi < 2 := by decide) :
    shapeCast S1x1x1x64x128 (truncf (F := Ideal) .bf16 (mulf (extractStridedSlice S64x128 ![(kv * 2 + gi) * 64, jb * 128] u h) (broadcast S64x128 scaleQ)) bitsLt_bf16_f32) shapeCasts_S64x128_S1x1x1x64x128 x = queriesAt u y := by
  obtain ⟨a, b, c, d, j, rfl⟩ : ∃ (a : Fin 1) (b : Fin 1) (c : Fin 1) (d : Fin 64) (j : Fin 128), x = ix5 a b c d j := ⟨x 0, x 1, x 2, x 3, x 4, funext fun e => by fin_cases e <;> rfl⟩
  have e1 : (y 1).val = jb := by have hb := b.isLt; have : (y 1).val = jb + 1 * b.val := h1; omega
  have e2 : (y 2).val = kv := by have hb := c.isLt; have : (y 2).val = kv + 1 * c.val := h2; omega
  have e3 : (y 3).val = d.val := by have : (y 3).val = 0 + 1 * d.val := h3; omega
  have e4 : (y 4).val = gi * 128 + j.val := by have : (y 4).val = gi * 128 + 1 * j.val := h4; omega
  have hp : shapeCast S1x1x1x64x128 (truncf (F := Ideal) .bf16 (mulf (extractStridedSlice S64x128 ![(kv * 2 + gi) * 64, jb * 128] u h) (broadcast S64x128 scaleQ)) bitsLt_bf16_f32) shapeCasts_S64x128_S1x1x1x64x128 (ix5 a b c d j) = u (ix2 (⟨(kv * 2 + gi) * 64 + d.val, by omega⟩ : Fin 1288) (⟨jb * 128 + j.val, by omega⟩ : Fin 512)) * scaleQ := by
    pointwise
  refine hp.trans (congrArg (· * scaleQ) (congrArg u (congrArg₂ ix2 (Fin.ext ?_) (Fin.ext ?_))))
  · show (kv * 2 + gi) * 64 + d.val = ((y 2).val * 2 + (y 4).val / 128) * 64 + (y 3).val
    omega
  · show jb * 128 + j.val = (y 1).val * 128 + (y 4).val % 128
    omega

theorem index_piece (u : FVec Ideal S1288x512 .f32) (jb hh : ℕ) (h : S1288x512.Slices ![512 + hh * 64, jb * 128] S64x128) (x : S1x1x64x128.Idx) (y : S1x4x64x1024.Idx)
    (h1 : (y 1).val = jb + 1 * (x 1).val) (h2 : (y 2).val = 0 + 1 * (x 2).val) (h3 : (y 3).val = hh * 128 + 1 * (x 3).val) (hj : jb < 4 := by decide) (hk : hh < 8 := by decide) :
    shapeCast S1x1x64x128 (truncf (F := Ideal) .bf16 (mulf (extractStridedSlice S64x128 ![512 + hh * 64, jb * 128] u h) (broadcast S64x128 scaleI)) bitsLt_bf16_f32) shapeCasts_S64x128_S1x1x64x128 x = indexAt u y := by
  obtain ⟨a, b, d, j, rfl⟩ : ∃ (a : Fin 1) (b : Fin 1) (d : Fin 64) (j : Fin 128), x = ix4 a b d j := ⟨x 0, x 1, x 2, x 3, funext fun e => by fin_cases e <;> rfl⟩
  have e1 : (y 1).val = jb := by have hb := b.isLt; have : (y 1).val = jb + 1 * b.val := h1; omega
  have e2 : (y 2).val = d.val := by have : (y 2).val = 0 + 1 * d.val := h2; omega
  have e3 : (y 3).val = hh * 128 + j.val := by have : (y 3).val = hh * 128 + 1 * j.val := h3; omega
  have hp : shapeCast S1x1x64x128 (truncf (F := Ideal) .bf16 (mulf (extractStridedSlice S64x128 ![512 + hh * 64, jb * 128] u h) (broadcast S64x128 scaleI)) bitsLt_bf16_f32) shapeCasts_S64x128_S1x1x64x128 (ix4 a b d j) = u (ix2 (⟨512 + hh * 64 + d.val, by omega⟩ : Fin 1288) (⟨jb * 128 + j.val, by omega⟩ : Fin 512)) * scaleI := by
    pointwise
  refine hp.trans (congrArg (· * scaleI) (congrArg u (congrArg₂ ix2 (Fin.ext ?_) (Fin.ext ?_))))
  · show 512 + hh * 64 + d.val = 512 + (y 3).val / 128 * 64 + (y 2).val
    omega
  · show jb * 128 + j.val = (y 1).val * 128 + (y 3).val % 128
    omega

theorem value_piece (u : FVec Ideal S1288x512 .f32) (kv : ℕ) (h : S1288x512.Slices ![1024 + kv * 64, 0] S64x512) (x : S1x1x64x512.Idx) (y : S1x1x320x512.Idx)
    (h2 : (y 2).val = kv * 80 + 1 * (x 2).val) (h3 : (y 3).val = 0 + 1 * (x 3).val) (hk : kv < 4 := by decide) :
    shapeCast S1x1x64x512 (truncf (F := Ideal) .bf16 (extractStridedSlice S64x512 ![1024 + kv * 64, 0] u h) bitsLt_bf16_f32) shapeCasts_S64x512_S1x1x64x512 x = valuesAt u y := by
  obtain ⟨a, b, d, r, rfl⟩ : ∃ (a : Fin 1) (b : Fin 1) (d : Fin 64) (r : Fin 512), x = ix4 a b d r := ⟨x 0, x 1, x 2, x 3, funext fun e => by fin_cases e <;> rfl⟩
  have e2 : (y 2).val = kv * 80 + d.val := by have : (y 2).val = kv * 80 + 1 * d.val := h2; omega
  have e3 : (y 3).val = r.val := by have : (y 3).val = 0 + 1 * r.val := h3; omega
  have hp : shapeCast S1x1x64x512 (truncf (F := Ideal) .bf16 (extractStridedSlice S64x512 ![1024 + kv * 64, 0] u h) bitsLt_bf16_f32) shapeCasts_S64x512_S1x1x64x512 (ix4 a b d r) = u (ix2 (⟨1024 + kv * 64 + d.val, by omega⟩ : Fin 1288) r) := by
    pointwise
  have hd := d.isLt
  unfold valuesAt
  rw [dif_pos (show (y 2).val % 80 < 64 by omega)]
  refine hp.trans (congrArg u (congrArg₂ ix2 (Fin.ext ?_) (Fin.ext e3.symm)))
  show 1024 + kv * 64 + d.val = 1024 + (y 2).val / 80 * 64 + (y 2).val % 80
  omega

theorem ones_piece (u : FVec Ideal S1288x512 .f32) (kv : ℕ) (x : S1x1x16x512.Idx) (y : S1x1x320x512.Idx)
    (h2 : (y 2).val = kv * 80 + 64 + 1 * (x 2).val) :
    shapeCast S1x1x16x512 (broadcast S16x512 oneV : FVec Ideal S16x512 .bf16) shapeCasts_S16x512_S1x1x16x512 x = valuesAt u y := by
  have hd : (x 2).val < 16 := (x 2).isLt
  unfold valuesAt
  rw [dif_neg (show ¬ (y 2).val % 80 < 64 by omega)]
  rfl

theorem weights_piece (u : FVec Ideal S1288x512 .f32) (h : S1288x512.Slices ![1280, 0] S8x512) :
    shapeCast S1x8x512 (mulf (extractStridedSlice S8x512 ![1280, 0] u h) (broadcast S8x512 scaleW)) shapeCasts_S8x512_S1x8x512 = weightsAt u := by
  funext x
  obtain ⟨a, d, r, rfl⟩ : ∃ (a : Fin 1) (d : Fin 8) (r : Fin 512), x = ix3 a d r := ⟨x 0, x 1, x 2, funext fun e => by fin_cases e <;> rfl⟩
  unfold weightsAt
  pointwise

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S1024x1088 .bf16) (harg5 : arg5.IsWhole) (arg6 : Memref sig .tc .vmem S1024x2048 .bf16) (harg6 : arg6.IsWhole) (arg7 : Memref sig .tc .vmem S1288x1024 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x128x256 .bf16) (harg10 : arg10.IsWhole) (arg11 : Memref sig .tc .vmem S128x512 .f32) (harg11 : arg11.IsWhole) (arg12 : Memref sig .tc .vmem S512x1024 .bf16) (harg12 : arg12.IsWhole) (arg13 : Memref sig .tc .vmem S1x512x1024 .bf16) (harg13 : arg13.IsWhole) (arg14 : Memref sig .tc .vmem S1x512x1024 .f32) (harg14 : arg14.IsWhole) (arg15 : Memref sig .tc .vmem S1x512x512 .f32) (harg15 : arg15.IsWhole) (arg16 : Memref sig .tc .vmem S1x512x256 .f32) (harg16 : arg16.IsWhole) (arg17 : Memref sig .tc .vmem S1x512x256 .f32) (harg17 : arg17.IsWhole) (arg18 : Memref sig .tc .vmem S1x512x64 .f32) (harg18 : arg18.IsWhole) (arg19 : Memref sig .tc .vmem S1x4x512x64 .bf16) (harg19 : arg19.IsWhole) (arg20 : Memref sig .tc .vmem S1x512x64 .bf16) (harg20 : arg20.IsWhole) (arg21 : Memref sig .tc .vmem S1x4x4x64x256 .bf16) (harg21 : arg21.IsWhole) (arg22 : Memref sig .tc .vmem S1x4x64x1024 .bf16) (harg22 : arg22.IsWhole) (arg23 : Memref sig .tc .vmem S1x8x512 .f32) (harg23 : arg23.IsWhole) (arg24 : Memref sig .tc .vmem S1x1x320x512 .bf16) (harg24 : arg24.IsWhole)     (x0 : Vec Ideal S1x512x1024 .f32) (x1 : Vec Ideal S1x1024 .f32) (x2 : Vec Ideal S1024x1536 .bf16) (x3 : Vec Ideal S1024x1088 .bf16) (x4 : Vec Ideal S1024x2048 .bf16) (x5 : Vec Ideal S1288x1024 .bf16) (x6 : Vec Ideal S1x512 .f32) (x7 : Vec Ideal S1x512 .f32) (x8 : Vec Ideal S4x128x256 .bf16) (x9 : Vec Ideal S128x512 .f32) (x10 : Vec Ideal S512x1024 .bf16)

theorem left17 :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = keysAt (k0_pay38 (k0_pay2 x0 x1) x3) := by
  unfold out0_A_17
  rw [View.read_writes_junk_eq_canon]
  funext y
  refine View.canon_apply_of_pieces (keysAt (k0_pay38 (k0_pay2 x0 x1) x3)) _ (View.PiecesOf.mem ?_) y (by apply cover0_A_17)
  unfold kernelRun0_A
  dsimp only
  sl_unfold_words
  simp only [View.readAt_eq_ld, harg2.read_unread, harg3.read_unread, harg5.read_unread, harg7.read_unread, ld0, ld1, ld3, ld5]
  exact ⟨fun x => key_piece _ 3 slices_S512x256_o0_192_S512x64 x _ rfl rfl rfl,
    fun x => key_piece _ 2 slices_S512x256_o0_128_S512x64 x _ rfl rfl rfl,
    fun x => key_piece _ 1 slices_S512x256_o0_64_S512x64 x _ rfl rfl rfl,
    fun x => key_piece _ 0 slices_S512x256_o0_0_S512x64 x _ rfl rfl rfl, trivial⟩
theorem left18 :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = k0_pay45 (k0_pay37 (k0_pay2 x0 x1) x3) := by
  unfold out0_A_18
  rw [View.read_writes_junk_eq_canon]
  unfold kernelRun0_A
  dsimp only
  sl_unfold_words
  rw [View.canon_unit_zero off3]
  simp only [View.readAt_eq_ld, harg2.read_unread, harg3.read_unread, harg5.read_unread, harg7.read_unread, ld0, ld1, ld3, ld5]
theorem left19 :
    out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = queriesAt (k0_pay51 (k0_pay2 x0 x1) x5) := by
  unfold out0_A_19
  rw [View.read_writes_junk_eq_canon]
  funext y
  refine View.canon_apply_of_pieces (queriesAt (k0_pay51 (k0_pay2 x0 x1) x5)) _ (View.PiecesOf.mem ?_) y (by apply cover0_A_19)
  unfold kernelRun0_A
  dsimp only
  sl_unfold_words
  simp only [View.readAt_eq_ld, harg2.read_unread, harg3.read_unread, harg5.read_unread, harg7.read_unread, ld0, ld1, ld3, ld5]
  exact ⟨fun x => query_piece _ 3 3 1 slices_S1288x512_o448_384_S64x128 x _ rfl rfl rfl rfl,
    fun x => query_piece _ 3 3 0 slices_S1288x512_o384_384_S64x128 x _ rfl rfl rfl rfl,
    fun x => query_piece _ 3 2 1 slices_S1288x512_o320_384_S64x128 x _ rfl rfl rfl rfl,
    fun x => query_piece _ 3 2 0 slices_S1288x512_o256_384_S64x128 x _ rfl rfl rfl rfl,
    fun x => query_piece _ 3 1 1 slices_S1288x512_o192_384_S64x128 x _ rfl rfl rfl rfl,
    fun x => query_piece _ 3 1 0 slices_S1288x512_o128_384_S64x128 x _ rfl rfl rfl rfl,
    fun x => query_piece _ 3 0 1 slices_S1288x512_o64_384_S64x128 x _ rfl rfl rfl rfl,
    fun x => query_piece _ 3 0 0 slices_S1288x512_o0_384_S64x128 x _ rfl rfl rfl rfl,
    fun x => query_piece _ 2 3 1 slices_S1288x512_o448_256_S64x128 x _ rfl rfl rfl rfl,
    fun x => query_piece _ 2 3 0 slices_S1288x512_o384_256_S64x128 x _ rfl rfl rfl rfl,
    fun x => query_piece _ 2 2 1 slices_S1288x512_o320_256_S64x128 x _ rfl rfl rfl rfl,
    fun x => query_piece _ 2 2 0 slices_S1288x512_o256_256_S64x128 x _ rfl rfl rfl rfl,
    fun x => query_piece _ 2 1 1 slices_S1288x512_o192_256_S64x128 x _ rfl rfl rfl rfl,
    fun x => query_piece _ 2 1 0 slices_S1288x512_o128_256_S64x128 x _ rfl rfl rfl rfl,
    fun x => query_piece _ 2 0 1 slices_S1288x512_o64_256_S64x128 x _ rfl rfl rfl rfl,
    fun x => query_piece _ 2 0 0 slices_S1288x512_o0_256_S64x128 x _ rfl rfl rfl rfl,
    fun x => query_piece _ 1 3 1 slices_S1288x512_o448_128_S64x128 x _ rfl rfl rfl rfl,
    fun x => query_piece _ 1 3 0 slices_S1288x512_o384_128_S64x128 x _ rfl rfl rfl rfl,
    fun x => query_piece _ 1 2 1 slices_S1288x512_o320_128_S64x128 x _ rfl rfl rfl rfl,
    fun x => query_piece _ 1 2 0 slices_S1288x512_o256_128_S64x128 x _ rfl rfl rfl rfl,
    fun x => query_piece _ 1 1 1 slices_S1288x512_o192_128_S64x128 x _ rfl rfl rfl rfl,
    fun x => query_piece _ 1 1 0 slices_S1288x512_o128_128_S64x128 x _ rfl rfl rfl rfl,
    fun x => query_piece _ 1 0 1 slices_S1288x512_o64_128_S64x128 x _ rfl rfl rfl rfl,
    fun x => query_piece _ 1 0 0 slices_S1288x512_o0_128_S64x128 x _ rfl rfl rfl rfl,
    fun x => query_piece _ 0 3 1 slices_S1288x512_o448_0_S64x128 x _ rfl rfl rfl rfl,
    fun x => query_piece _ 0 3 0 slices_S1288x512_o384_0_S64x128 x _ rfl rfl rfl rfl,
    fun x => query_piece _ 0 2 1 slices_S1288x512_o320_0_S64x128 x _ rfl rfl rfl rfl,
    fun x => query_piece _ 0 2 0 slices_S1288x512_o256_0_S64x128 x _ rfl rfl rfl rfl,
    fun x => query_piece _ 0 1 1 slices_S1288x512_o192_0_S64x128 x _ rfl rfl rfl rfl,
    fun x => query_piece _ 0 1 0 slices_S1288x512_o128_0_S64x128 x _ rfl rfl rfl rfl,
    fun x => query_piece _ 0 0 1 slices_S1288x512_o64_0_S64x128 x _ rfl rfl rfl rfl,
    fun x => query_piece _ 0 0 0 slices_S1288x512_o0_0_S64x128 x _ rfl rfl rfl rfl, trivial⟩
theorem left20 :
    out0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = indexAt (k0_pay51 (k0_pay2 x0 x1) x5) := by
  unfold out0_A_20
  rw [View.read_writes_junk_eq_canon]
  funext y
  refine View.canon_apply_of_pieces (indexAt (k0_pay51 (k0_pay2 x0 x1) x5)) _ (View.PiecesOf.mem ?_) y (by apply cover0_A_20)
  unfold kernelRun0_A
  dsimp only
  sl_unfold_words
  simp only [View.readAt_eq_ld, harg2.read_unread, harg3.read_unread, harg5.read_unread, harg7.read_unread, ld0, ld1, ld3, ld5]
  exact ⟨fun x => index_piece _ 3 7 slices_S1288x512_o960_384_S64x128 x _ rfl rfl rfl,
    fun x => index_piece _ 3 6 slices_S1288x512_o896_384_S64x128 x _ rfl rfl rfl,
    fun x => index_piece _ 3 5 slices_S1288x512_o832_384_S64x128 x _ rfl rfl rfl,
    fun x => index_piece _ 3 4 slices_S1288x512_o768_384_S64x128 x _ rfl rfl rfl,
    fun x => index_piece _ 3 3 slices_S1288x512_o704_384_S64x128 x _ rfl rfl rfl,
    fun x => index_piece _ 3 2 slices_S1288x512_o640_384_S64x128 x _ rfl rfl rfl,
    fun x => index_piece _ 3 1 slices_S1288x512_o576_384_S64x128 x _ rfl rfl rfl,
    fun x => index_piece _ 3 0 slices_S1288x512_o512_384_S64x128 x _ rfl rfl rfl,
    fun x => index_piece _ 2 7 slices_S1288x512_o960_256_S64x128 x _ rfl rfl rfl,
    fun x => index_piece _ 2 6 slices_S1288x512_o896_256_S64x128 x _ rfl rfl rfl,
    fun x => index_piece _ 2 5 slices_S1288x512_o832_256_S64x128 x _ rfl rfl rfl,
    fun x => index_piece _ 2 4 slices_S1288x512_o768_256_S64x128 x _ rfl rfl rfl,
    fun x => index_piece _ 2 3 slices_S1288x512_o704_256_S64x128 x _ rfl rfl rfl,
    fun x => index_piece _ 2 2 slices_S1288x512_o640_256_S64x128 x _ rfl rfl rfl,
    fun x => index_piece _ 2 1 slices_S1288x512_o576_256_S64x128 x _ rfl rfl rfl,
    fun x => index_piece _ 2 0 slices_S1288x512_o512_256_S64x128 x _ rfl rfl rfl,
    fun x => index_piece _ 1 7 slices_S1288x512_o960_128_S64x128 x _ rfl rfl rfl,
    fun x => index_piece _ 1 6 slices_S1288x512_o896_128_S64x128 x _ rfl rfl rfl,
    fun x => index_piece _ 1 5 slices_S1288x512_o832_128_S64x128 x _ rfl rfl rfl,
    fun x => index_piece _ 1 4 slices_S1288x512_o768_128_S64x128 x _ rfl rfl rfl,
    fun x => index_piece _ 1 3 slices_S1288x512_o704_128_S64x128 x _ rfl rfl rfl,
    fun x => index_piece _ 1 2 slices_S1288x512_o640_128_S64x128 x _ rfl rfl rfl,
    fun x => index_piece _ 1 1 slices_S1288x512_o576_128_S64x128 x _ rfl rfl rfl,
    fun x => index_piece _ 1 0 slices_S1288x512_o512_128_S64x128 x _ rfl rfl rfl,
    fun x => index_piece _ 0 7 slices_S1288x512_o960_0_S64x128 x _ rfl rfl rfl,
    fun x => index_piece _ 0 6 slices_S1288x512_o896_0_S64x128 x _ rfl rfl rfl,
    fun x => index_piece _ 0 5 slices_S1288x512_o832_0_S64x128 x _ rfl rfl rfl,
    fun x => index_piece _ 0 4 slices_S1288x512_o768_0_S64x128 x _ rfl rfl rfl,
    fun x => index_piece _ 0 3 slices_S1288x512_o704_0_S64x128 x _ rfl rfl rfl,
    fun x => index_piece _ 0 2 slices_S1288x512_o640_0_S64x128 x _ rfl rfl rfl,
    fun x => index_piece _ 0 1 slices_S1288x512_o576_0_S64x128 x _ rfl rfl rfl,
    fun x => index_piece _ 0 0 slices_S1288x512_o512_0_S64x128 x _ rfl rfl rfl, trivial⟩
theorem left21 :
    out0_A_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = weightsAt (k0_pay51 (k0_pay2 x0 x1) x5) := by
  unfold out0_A_21
  rw [View.read_writes_junk_eq_canon]
  unfold kernelRun0_A
  dsimp only
  sl_unfold_words
  rw [View.canon_unit_zero off3]
  simp only [View.readAt_eq_ld, harg2.read_unread, harg3.read_unread, harg5.read_unread, harg7.read_unread, ld0, ld1, ld3, ld5]
  exact weights_piece _ slices_S1288x512_o1280_0_S8x512
theorem left22 :
    out0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 = valuesAt (k0_pay51 (k0_pay2 x0 x1) x5) := by
  unfold out0_A_22
  rw [View.read_writes_junk_eq_canon]
  funext y
  refine View.canon_apply_of_pieces (valuesAt (k0_pay51 (k0_pay2 x0 x1) x5)) _ (View.PiecesOf.mem ?_) y (by apply cover0_A_22)
  unfold kernelRun0_A
  dsimp only
  sl_unfold_words
  simp only [View.readAt_eq_ld, harg2.read_unread, harg3.read_unread, harg5.read_unread, harg7.read_unread, ld0, ld1, ld3, ld5]
  exact ⟨fun x => ones_piece _ 3 x _ rfl,
    fun x => value_piece _ 3 slices_S1288x512_o1216_0_S64x512 x _ rfl rfl,
    fun x => ones_piece _ 2 x _ rfl,
    fun x => value_piece _ 2 slices_S1288x512_o1152_0_S64x512 x _ rfl rfl,
    fun x => ones_piece _ 1 x _ rfl,
    fun x => value_piece _ 1 slices_S1288x512_o1088_0_S64x512 x _ rfl rfl,
    fun x => ones_piece _ 0 x _ rfl,
    fun x => value_piece _ 0 slices_S1288x512_o1024_0_S64x512 x _ rfl rfl, trivial⟩

end Cert.Kernel2Ideal.Left
-- ==== Proof.Handed2.lean ====
/-
  What the prompt projection hands the attention, against the reference: the scaled queries, the keys and values by head, and the head weights, each in its packed layout.
-/
module

public import proofs.«01_k».proof.Proof.Packed2
public import proofs.«01_k».proof.Proof.Value2

@[expose] public section

set_option maxRecDepth 16384

noncomputable section

namespace Cert.Kernel2Ideal.Entry

open Cert.Kernel2Ideal Cert.Kernel2Ideal.Gen Cert.Kernel2Ideal.Launched Cert.Kernel2Ideal.Blocks Cert.Kernel2Ideal.Left Cert.Kernel2Ideal.Rows
open Cert.Reference2Ideal.Read
open Cert.KernelIdeal.Deep (normRow)
open Idealize.ShloMosaic Idealize.ShloMosaic.TcCoe
open Idealize.ShloMosaic.Pipeline (Dat)

/-- The weights of the columns the attention takes token-last: transposed, the four parts one above the other. -/
def packT (x : Vec Ideal S1x1024x5704 .f32) : FVec Ideal S1288x1024 .bf16 :=
  transpose S1288x1024 [1, 0] (concatenate S1024x1288 1 [⟨S1024x512, extractStridedSlice S1024x512 ![0, 1536] (packW x) slices_S1024x5704_S1024x512_0_1536⟩, ⟨S1024x512, extractStridedSlice S1024x512 ![0, 3072] (packW x) slices_S1024x5704_S1024x512_0_3072⟩, ⟨S1024x256, extractStridedSlice S1024x256 ![0, 2304] (packW x) slices_S1024x5704_S1024x256_0_2304⟩, ⟨S1024x8, extractStridedSlice S1024x8 ![0, 3648] (packW x) slices_S1024x5704_S1024x8_0_3648⟩] concatenates_S1024x512_S1024x512_S1024x256_S1024x8_S1024x1288_d1) transposes_S1024x1288_S1288x1024_1_0

theorem packT_q (x : Vec Ideal S1x1024x5704 .f32) (l : Fin 512) (k : Fin 1024) : packT x (ix2 (⟨0 + l.val, by omega⟩ : Fin 1288) k) = x (ix3 0 k ⟨1536 + l.val, by omega⟩) := by
  pointwise [packT, packW]
theorem packT_i (x : Vec Ideal S1x1024x5704 .f32) (l : Fin 512) (k : Fin 1024) : packT x (ix2 (⟨512 + l.val, by omega⟩ : Fin 1288) k) = x (ix3 0 k ⟨3072 + l.val, by omega⟩) := by
  pointwise [packT, packW]
theorem packT_v (x : Vec Ideal S1x1024x5704 .f32) (l : Fin 256) (k : Fin 1024) : packT x (ix2 (⟨1024 + l.val, by omega⟩ : Fin 1288) k) = x (ix3 0 k ⟨2304 + l.val, by omega⟩) := by
  pointwise [packT, packW]
  rw [dif_neg (show ¬ 1024 + l.val < 512 by omega), dif_neg (show ¬ 1024 + l.val - 512 < 512 by omega), dif_pos (show 1024 + l.val - 512 - 512 < 256 by omega)]
  refine congrArg x (congrArg (ix3 0 k) (Fin.ext ?_))
  show 2304 + (1024 + l.val - 512 - 512) = 2304 + l.val
  omega
theorem packT_w (x : Vec Ideal S1x1024x5704 .f32) (l : Fin 8) (k : Fin 1024) : packT x (ix2 (⟨1280 + l.val, by omega⟩ : Fin 1288) k) = x (ix3 0 k ⟨3648 + l.val, by omega⟩) := by
  pointwise [packT, packW]
  rw [dif_neg (show ¬ 1280 + l.val < 512 by omega), dif_neg (show ¬ 1280 + l.val - 512 < 512 by omega), dif_neg (show ¬ 1280 + l.val - 512 - 512 < 256 by omega)]
  refine congrArg x (congrArg (ix3 0 k) (Fin.ext ?_))
  show 3648 + (1280 + l.val - 512 - 512 - 256) = 3648 + l.val
  omega
theorem rest_apply (h : FVec Ideal S512x1024 .bf16) (w : Vec Ideal S1288x1024 .bf16) (a : Fin 1288) (r : Fin 512) : k0_pay51 h w (ix2 a r) = ∑ k, w (ix2 a k) * h (ix2 r k) := by
  pointwise [k0_pay51]
theorem keys_apply (h : FVec Ideal S512x1024 .bf16) (w : Vec Ideal S1024x1088 .bf16) (r : Fin 512) (l : Fin 256) : k0_pay38 h w (ix2 r l) = ∑ k, h (ix2 r k) * w (ix2 k ⟨0 + l.val, by omega⟩) := by
  pointwise [k0_pay37, k0_pay38]

variable (x0 : Vec Ideal S8x8192x1024 .f32) (x1 : Vec Ideal S1x1024 .f32) (x2 : Vec Ideal S1x1024x5704 .f32)
theorem ref_v19 (p : Fin 8) (t : Fin 8192) (l : Fin 512) :
    val_main_v19 (F := Ideal) x0 x1 x2 (ix3 p t l) = ∑ k, normRow (fun k => x0 (ix3 p t k)) (fun k => x1 (ix2 0 k)) k * x2 (ix3 0 k ⟨1536 + l.val, by omega⟩) := by
  rw [← ref_dot]
  pointwise [val_main_v19]
theorem ref_v23 (p : Fin 8) (t : Fin 8192) (l : Fin 512) :
    val_main_v23 (F := Ideal) x0 x1 x2 (ix3 p t l) = ∑ k, normRow (fun k => x0 (ix3 p t k)) (fun k => x1 (ix2 0 k)) k * x2 (ix3 0 k ⟨3072 + l.val, by omega⟩) := by
  rw [← ref_dot]
  pointwise [val_main_v23]
theorem ref_v25 (p : Fin 8) (t : Fin 8192) (l : Fin 8) :
    val_main_v25 (F := Ideal) x0 x1 x2 (ix3 p t l) = ∑ k, normRow (fun k => x0 (ix3 p t k)) (fun k => x1 (ix2 0 k)) k * x2 (ix3 0 k ⟨3648 + l.val, by omega⟩) := by
  rw [← ref_dot]
  pointwise [val_main_v25]
theorem handed_k (p : Fin 8) (kv : Fin 4) (t : Fin 8192) (d : Fin 64) : val_main_v130 (F := Ideal) x0 x1 x2 (ix4 p kv t d) = val_main_v20 (F := Ideal) x0 x1 x2 (ix3 p t ⟨kv.val * 64 + d.val, by omega⟩) := by
  pointwise [val_main_v130, val_main_v114, val_main_v113]
theorem handed_q (p : Fin 8) (b : Fin 64) (kv : Fin 4) (d : Fin 64) (g : Fin 2) (j : Fin 128) : val_main_v133 (F := Ideal) x0 x1 x2 (ix5 p b kv d (⟨g.val * 128 + j.val, by omega⟩ : Fin 256)) = val_main_v19 (F := Ideal) x0 x1 x2 (ix3 p ⟨b.val * 128 + j.val, by omega⟩ ⟨kv.val * 128 + g.val * 64 + d.val, by omega⟩) * scaleQ := by
  pointwise [val_main_v133, val_main_v132, val_main_v118, val_main_v117, val_main_v116, val_main_v115, val_main_cst_19]
theorem handed_i (p : Fin 8) (b : Fin 64) (d : Fin 64) (h : Fin 8) (j : Fin 128) : val_main_v135 (F := Ideal) x0 x1 x2 (ix4 p b d (⟨h.val * 128 + j.val, by omega⟩ : Fin 1024)) = val_main_v23 (F := Ideal) x0 x1 x2 (ix3 p ⟨b.val * 128 + j.val, by omega⟩ ⟨h.val * 64 + d.val, by omega⟩) * scaleI := by
  pointwise [val_main_v135, val_main_v134, val_main_v122, val_main_v121, val_main_v120, val_main_v119, val_main_cst_20]
theorem handed_w (p : Fin 8) (h : Fin 8) (t : Fin 8192) : val_main_v125 (F := Ideal) x0 x1 x2 (ix3 p h t) = val_main_v25 (F := Ideal) x0 x1 x2 (ix3 p t h) * scaleW := by
  pointwise [val_main_v125, val_main_v124, val_main_v123, val_main_cst_21]
theorem merged (y : FVec Ideal Cert.Reference2Ideal.S8x16x4x80x512 .f32) (p : Fin 8) (b : Fin 16) (kv : Fin 4) (e : Fin 80) (j : Fin 512) (q : Fin 320) (hq : q.val = kv.val * 80 + e.val) :
    shapeCast Cert.Reference2Ideal.S8x16x320x512 y Cert.Reference2Ideal.Gen.shapeCasts_S8x16x4x80x512_S8x16x320x512 (ix4 p b q j) = y (ix5 p b kv e j) := by
  refine shapeCast_apply y Cert.Reference2Ideal.Gen.shapeCasts_S8x16x4x80x512_S8x16x320x512 (ix4 p b q j) (ix5 p b kv e j) ?_
  rewrite [Shape.rowMajor_val_five, Shape.rowMajor_val_four]
  show (((p.val * 16 + b.val) * 4 + kv.val) * 80 + e.val) * 512 + j.val = ((p.val * 16 + b.val) * 320 + q.val) * 512 + j.val
  omega
theorem merged_v (p : Fin 8) (b : Fin 16) (kv : Fin 4) (e : Fin 80) (j : Fin 512) (q : Fin 320) (hq : q.val = kv.val * 80 + e.val) :
    val_main_v137 (F := Ideal) x0 x1 x2 (ix4 p b q j) = val_main_v129 (F := Ideal) x0 x1 x2 (ix5 p b kv e j) := by
  have key : ∀ z : Ideal .f32, FloatOps.truncf (F := Ideal) .bf16 Cert.Reference2Ideal.Gen.bitsLt_bf16_f32 z = z := fun _ => rfl
  rw [val_main_v137_apply, key]
  unfold val_main_v136
  generalize val_main_v129 (F := Ideal) x0 x1 x2 = y
  exact merged y p b kv e j q hq
theorem split_v (p : Fin 8) (b : Fin 16) (kv : Fin 4) (d : Fin 64) (j : Fin 512) :
    val_main_v127 (F := Ideal) x0 x1 x2 (ix5 p b kv d j) = val_main_v21 (F := Ideal) x0 x1 x2 (ix3 p ⟨b.val * 512 + j.val, by omega⟩ ⟨kv.val * 64 + d.val, by omega⟩) := by
  pointwise [val_main_v127, val_main_v126]
theorem joined_v (p : Fin 8) (b : Fin 16) (kv : Fin 4) (d : Fin 64) (j : Fin 512) :
    val_main_v129 (F := Ideal) x0 x1 x2 (ix5 p b kv (⟨d.val, by omega⟩ : Fin 80) j) = val_main_v127 (F := Ideal) x0 x1 x2 (ix5 p b kv d j) := by
  pointwise [val_main_v129]
theorem joined_one (p : Fin 8) (b : Fin 16) (kv : Fin 4) (d : Fin 16) (j : Fin 512) :
    val_main_v129 (F := Ideal) x0 x1 x2 (ix5 p b kv (⟨64 + d.val, by omega⟩ : Fin 80) j) = oneV := by
  pointwise [val_main_v129, val_main_v128, val_main_cst_22]
theorem handed_v (p : Fin 8) (b : Fin 16) (kv : Fin 4) (d : Fin 64) (j : Fin 512) : val_main_v137 (F := Ideal) x0 x1 x2 (ix4 p b (⟨kv.val * 80 + d.val, by omega⟩ : Fin 320) j) = val_main_v21 (F := Ideal) x0 x1 x2 (ix3 p ⟨b.val * 512 + j.val, by omega⟩ ⟨kv.val * 64 + d.val, by omega⟩) :=
  (merged_v x0 x1 x2 p b kv ⟨d.val, by omega⟩ j _ rfl).trans ((joined_v x0 x1 x2 p b kv d j).trans (split_v x0 x1 x2 p b kv d j))
theorem handed_one (p : Fin 8) (b : Fin 16) (kv : Fin 4) (d : Fin 16) (j : Fin 512) : val_main_v137 (F := Ideal) x0 x1 x2 (ix4 p b (⟨kv.val * 80 + (64 + d.val), by omega⟩ : Fin 320) j) = oneV :=
  (merged_v x0 x1 x2 p b kv ⟨64 + d.val, by omega⟩ j _ rfl).trans (joined_one x0 x1 x2 p b kv d j)
theorem lt_v (kv : Fin 4) (d : Fin 64) : kv.val * 80 + d.val < 320 := by omega
theorem lt_one (kv : Fin 4) (d : Fin 16) : kv.val * 80 + (64 + d.val) < 320 := by omega

theorem keys_at (k : FVec Ideal S512x256 .f32) (kv : Fin 4) (r : Fin 512) (d : Fin 64) : keysAt k (ix4 0 kv r d) = k (ix2 r (⟨kv.val * 64 + d.val, by omega⟩ : Fin 256)) := rfl
theorem queries_at (u : FVec Ideal S1288x512 .f32) (jb : Fin 4) (kv : Fin 4) (d : Fin 64) (g : Fin 2) (j : Fin 128) (r : Fin 512) (hr : r.val = jb.val * 128 + j.val) :
    queriesAt u (ix5 0 jb kv d (⟨g.val * 128 + j.val, by omega⟩ : Fin 256)) = u (ix2 (⟨0 + (kv.val * 128 + g.val * 64 + d.val), by omega⟩ : Fin 1288) r) * scaleQ := by
  refine congrArg (· * scaleQ) (congrArg u (congrArg₂ ix2 (Fin.ext ?_) (Fin.ext ?_)))
  · show (kv.val * 2 + (g.val * 128 + j.val) / 128) * 64 + d.val = 0 + (kv.val * 128 + g.val * 64 + d.val)
    omega
  · show jb.val * 128 + (g.val * 128 + j.val) % 128 = r.val
    omega
theorem index_at (u : FVec Ideal S1288x512 .f32) (jb : Fin 4) (d : Fin 64) (h : Fin 8) (j : Fin 128) (r : Fin 512) (hr : r.val = jb.val * 128 + j.val) :
    indexAt u (ix4 0 jb d (⟨h.val * 128 + j.val, by omega⟩ : Fin 1024)) = u (ix2 (⟨512 + (h.val * 64 + d.val), by omega⟩ : Fin 1288) r) * scaleI := by
  refine congrArg (· * scaleI) (congrArg u (congrArg₂ ix2 (Fin.ext ?_) (Fin.ext ?_)))
  · show 512 + (h.val * 128 + j.val) / 128 * 64 + d.val = 512 + (h.val * 64 + d.val)
    omega
  · show jb.val * 128 + (h.val * 128 + j.val) % 128 = r.val
    omega
theorem weights_at (u : FVec Ideal S1288x512 .f32) (h : Fin 8) (r : Fin 512) : weightsAt u (ix3 0 h r) = u (ix2 (⟨1280 + h.val, by omega⟩ : Fin 1288) r) * scaleW := rfl
theorem values_at (u : FVec Ideal S1288x512 .f32) (kv : Fin 4) (d : Fin 64) (r : Fin 512) :
    valuesAt u (ix4 0 0 (⟨kv.val * 80 + d.val, by omega⟩ : Fin 320) r) = u (ix2 (⟨1024 + (kv.val * 64 + d.val), by omega⟩ : Fin 1288) r) := by
  unfold valuesAt
  refine (dif_pos (show (kv.val * 80 + d.val) % 80 < 64 by omega)).trans ?_
  refine congrArg u (congrArg₂ ix2 (Fin.ext ?_) rfl)
  show 1024 + (kv.val * 80 + d.val) / 80 * 64 + (kv.val * 80 + d.val) % 80 = 1024 + (kv.val * 64 + d.val)
  omega
theorem ones_at (u : FVec Ideal S1288x512 .f32) (kv : Fin 4) (d : Fin 16) (r : Fin 512) :
    valuesAt u (ix4 0 0 (⟨kv.val * 80 + (64 + d.val), by omega⟩ : Fin 320) r) = oneV := by
  unfold valuesAt
  exact dif_neg (show ¬ (kv.val * 80 + (64 + d.val)) % 80 < 64 by omega)

variable (m : (ℓ : Loc nD τ sig) → Buf (Elt Ideal) ℓ)

theorem whole5_apply (c : Dev nD) (t : Fin cfg0.N) (q : Fin 1288) (k : Fin 1024) : iblk m c 5 t (ix2 q k) = V m c main_v17 (ix2 q k) := by
  refine congrArg (V m c main_v17) (funext fun a => Fin.ext ?_)
  fin_cases a
  · show 0 + 1 * q.val = q.val
    omega
  · show 0 + 1 * k.val = k.val
    omega
set_option maxHeartbeats 4000000 in
theorem entered5 (c : Dev nD) : @Eq (FVec Ideal S1288x1024 .bf16) (V m c main_v17) (packT (m ((c : Thread nD τ).loc main_arg2))) := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem window5_apply (c : Dev nD) (t : Fin cfg0.N) (q : Fin 1288) (k : Fin 1024) : iblk m c 5 t (ix2 q k) = packT (m ((c : Thread nD τ).loc main_arg2)) (ix2 q k) :=
  (whole5_apply m c t q k).trans (congrFun (entered5 m c) (ix2 q k))

theorem cell_q (c : Dev nD) (p : Fin 8) (t : Fin 8192) (l : Fin 512) :
    k0_pay51 (k0_pay2 (iblk m c 0 (point p t)) (iblk m c 1 (point p t))) (iblk m c 5 (point p t)) (ix2 (⟨0 + l.val, by omega⟩ : Fin 1288) (rowOf t)) = val_main_v19 (F := Ideal) (m ((c : Thread nD τ).loc main_arg0)) (m ((c : Thread nD τ).loc main_arg1)) (m ((c : Thread nD τ).loc main_arg2)) (ix3 p t l) := by
  refine (rest_apply _ _ _ _).trans (Eq.trans ?_ (ref_v19 _ _ _ p t l).symm)
  refine Finset.sum_congr rfl fun k _ => ?_
  rw [mul_comm, rows_eq]
  exact congrArg (_ * ·) ((window5_apply m c _ _ k).trans (packT_q _ l k))
theorem cell_i (c : Dev nD) (p : Fin 8) (t : Fin 8192) (l : Fin 512) :
    k0_pay51 (k0_pay2 (iblk m c 0 (point p t)) (iblk m c 1 (point p t))) (iblk m c 5 (point p t)) (ix2 (⟨512 + l.val, by omega⟩ : Fin 1288) (rowOf t)) = val_main_v23 (F := Ideal) (m ((c : Thread nD τ).loc main_arg0)) (m ((c : Thread nD τ).loc main_arg1)) (m ((c : Thread nD τ).loc main_arg2)) (ix3 p t l) := by
  refine (rest_apply _ _ _ _).trans (Eq.trans ?_ (ref_v23 _ _ _ p t l).symm)
  refine Finset.sum_congr rfl fun k _ => ?_
  rw [mul_comm, rows_eq]
  exact congrArg (_ * ·) ((window5_apply m c _ _ k).trans (packT_i _ l k))
theorem cell_v (c : Dev nD) (p : Fin 8) (t : Fin 8192) (l : Fin 256) :
    k0_pay51 (k0_pay2 (iblk m c 0 (point p t)) (iblk m c 1 (point p t))) (iblk m c 5 (point p t)) (ix2 (⟨1024 + l.val, by omega⟩ : Fin 1288) (rowOf t)) = val_main_v21 (F := Ideal) (m ((c : Thread nD τ).loc main_arg0)) (m ((c : Thread nD τ).loc main_arg1)) (m ((c : Thread nD τ).loc main_arg2)) (ix3 p t l) := by
  refine (rest_apply _ _ _ _).trans (Eq.trans ?_ (ref_v21 _ _ _ p t l).symm)
  refine Finset.sum_congr rfl fun k _ => ?_
  rw [mul_comm, rows_eq]
  exact congrArg (_ * ·) ((window5_apply m c _ _ k).trans (packT_v _ l k))
theorem cell_w (c : Dev nD) (p : Fin 8) (t : Fin 8192) (l : Fin 8) :
    k0_pay51 (k0_pay2 (iblk m c 0 (point p t)) (iblk m c 1 (point p t))) (iblk m c 5 (point p t)) (ix2 (⟨1280 + l.val, by omega⟩ : Fin 1288) (rowOf t)) = val_main_v25 (F := Ideal) (m ((c : Thread nD τ).loc main_arg0)) (m ((c : Thread nD τ).loc main_arg1)) (m ((c : Thread nD τ).loc main_arg2)) (ix3 p t l) := by
  refine (rest_apply _ _ _ _).trans (Eq.trans ?_ (ref_v25 _ _ _ p t l).symm)
  refine Finset.sum_congr rfl fun k _ => ?_
  rw [mul_comm, rows_eq]
  exact congrArg (_ * ·) ((window5_apply m c _ _ k).trans (packT_w _ l k))
theorem cell_k (c : Dev nD) (p : Fin 8) (t : Fin 8192) (l : Fin 256) :
    k0_pay38 (k0_pay2 (iblk m c 0 (point p t)) (iblk m c 1 (point p t))) (iblk m c 3 (point p t)) (ix2 (rowOf t) l) = val_main_v20 (F := Ideal) (m ((c : Thread nD τ).loc main_arg0)) (m ((c : Thread nD τ).loc main_arg1)) (m ((c : Thread nD τ).loc main_arg2)) (ix3 p t l) := by
  refine (keys_apply _ _ _ l).trans (Eq.trans ?_ (ref_v20 _ _ _ p t l).symm)
  refine Finset.sum_congr rfl fun k _ => ?_
  rw [rows_eq]
  refine congrArg (_ * ·) ((window3_lo m c _ k ⟨0 + l.val, by omega⟩).trans (congrArg (m ((c : Thread nD τ).loc main_arg2)) (congrArg (ix3 0 k) (Fin.ext ?_))))
  simp only []
  omega

section blocks
variable {F : FTy → Type} [FloatOps F] (m : (ℓ : Loc nD τ sig) → Buf (Elt F) ℓ)

/-- What a point writes back to the result is what its body left for it. -/
theorem flushed17 (c : Dev nD) (t : Fin cfg0.N) :
    (dats m 0 c).flushed 17 t = (cfg0.win 17).cut (grid0.coords t) ((outsAt0 m c t).2.2.2.2.2.2.1) := by
  show (cfg0.win 17).cut (grid0.coords t) ((dats m 0 c).after 17 t) = _
  rw [after0_17]

/-- The index map sends distinct grid points to distinct block indices (decided over the 128 points). -/
theorem idx_inj17 : ∀ t t' : Fin cfg0.N, win0_17.index t = win0_17.index t' → t = t' :=
  (by decide +kernel : ∀ t t' : Fin grid0.N, win0_17.index t = win0_17.index t' → t = t')

/-- Two points' blocks share no index. -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- A block of the final array is what its point wrote back. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- What a point writes back to the result is what its body left for it. -/
theorem flushed18 (c : Dev nD) (t : Fin cfg0.N) :
    (dats m 0 c).flushed 18 t = (cfg0.win 18).cut (grid0.coords t) ((outsAt0 m c t).2.2.2.2.2.2.2.1) := by
  show (cfg0.win 18).cut (grid0.coords t) ((dats m 0 c).after 18 t) = _
  rw [after0_18]

/-- The index map sends distinct grid points to distinct block indices (decided over the 128 points). -/
theorem idx_inj18 : ∀ t t' : Fin cfg0.N, win0_18.index t = win0_18.index t' → t = t' :=
  (by decide +kernel : ∀ t t' : Fin grid0.N, win0_18.index t = win0_18.index t' → t = t')

/-- Two points' blocks share no index. -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- A block of the final array is what its point wrote back. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- What a point writes back to the result is what its body left for it. -/
theorem flushed19 (c : Dev nD) (t : Fin cfg0.N) :
    (dats m 0 c).flushed 19 t = (cfg0.win 19).cut (grid0.coords t) ((outsAt0 m c t).2.2.2.2.2.2.2.2.1) := by
  show (cfg0.win 19).cut (grid0.coords t) ((dats m 0 c).after 19 t) = _
  rw [after0_19]

/-- The index map sends distinct grid points to distinct block indices (decided over the 128 points). -/
theorem idx_inj19 : ∀ t t' : Fin cfg0.N, win0_19.index t = win0_19.index t' → t = t' :=
  (by decide +kernel : ∀ t t' : Fin grid0.N, win0_19.index t = win0_19.index t' → t = t')

/-- Two points' blocks share no index. -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- A block of the final array is what its point wrote back. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- What a point writes back to the result is what its body left for it. -/
theorem flushed20 (c : Dev nD) (t : Fin cfg0.N) :
    (dats m 0 c).flushed 20 t = (cfg0.win 20).cut (grid0.coords t) ((outsAt0 m c t).2.2.2.2.2.2.2.2.2.1) := by
  show (cfg0.win 20).cut (grid0.coords t) ((dats m 0 c).after 20 t) = _
  rw [after0_20]

/-- The index map sends distinct grid points to distinct block indices (decided over the 128 points). -/
theorem idx_inj20 : ∀ t t' : Fin cfg0.N, win0_20.index t = win0_20.index t' → t = t' :=
  (by decide +kernel : ∀ t t' : Fin grid0.N, win0_20.index t = win0_20.index t' → t = t')

/-- Two points' blocks share no index. -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- A block of the final array is what its point wrote back. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- What a point writes back to the result is what its body left for it. -/
theorem flushed21 (c : Dev nD) (t : Fin cfg0.N) :
    (dats m 0 c).flushed 21 t = (cfg0.win 21).cut (grid0.coords t) ((outsAt0 m c t).2.2.2.2.2.2.2.2.2.2.1) := by
  show (cfg0.win 21).cut (grid0.coords t) ((dats m 0 c).after 21 t) = _
  rw [after0_21]

/-- The index map sends distinct grid points to distinct block indices (decided over the 128 points). -/
theorem idx_inj21 : ∀ t t' : Fin cfg0.N, win0_21.index t = win0_21.index t' → t = t' :=
  (by decide +kernel : ∀ t t' : Fin grid0.N, win0_21.index t = win0_21.index t' → t = t')

/-- Two points' blocks share no index. -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- A block of the final array is what its point wrote back. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- What a point writes back to the result is what its body left for it. -/
theorem flushed22 (c : Dev nD) (t : Fin cfg0.N) :
    (dats m 0 c).flushed 22 t = (cfg0.win 22).cut (grid0.coords t) ((outsAt0 m c t).2.2.2.2.2.2.2.2.2.2.2) := by
  show (cfg0.win 22).cut (grid0.coords t) ((dats m 0 c).after 22 t) = _
  rw [after0_22]

/-- The index map sends distinct grid points to distinct block indices (decided over the 128 points). -/
theorem idx_inj22 : ∀ t t' : Fin cfg0.N, win0_22.index t = win0_22.index t' → t = t' :=
  (by decide +kernel : ∀ t t' : Fin grid0.N, win0_22.index t = win0_22.index t' → t = t')

/-- Two points' blocks share no index. -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- A block of the final array is what its point wrote back. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

end blocks

theorem index17 : ∀ t : Fin cfg0.N, win0_17.index t 0 = t.val / 16 ∧ win0_17.index t 1 = 0 ∧ win0_17.index t 2 = t.val % 16 ∧ win0_17.index t 3 = 0 :=
  (by decide +kernel : ∀ t : Fin grid0.N, win0_17.index t 0 = t.val / 16 ∧ win0_17.index t 1 = 0 ∧ win0_17.index t 2 = t.val % 16 ∧ win0_17.index t 3 = 0)
/-- The array left, at an index, is what the body of the point holding it leaves there. -/
theorem at17 (c : Dev nD) (p : Fin 8) (t : Fin 8192) (kv : Fin 4) (d : Fin 64) :
    (dats m 0 c).arrAt 17 cfg0.N (ix4 p kv t d) = (dats m 0 c).flushed 17 (point p t) (ix4 0 kv (rowOf t) d) := by
  have hb := congrFun (blocks17 m c (point p t) (flush0_17 _)) (ix4 0 kv (rowOf t) d)
  refine Eq.trans (congrArg ((dats m 0 c).arrAt 17 cfg0.N) (funext fun a => Fin.ext ?_)) hb
  obtain ⟨e0, e1, e2, e3⟩ := index17 (point p t)
  have hp : (point p t).val = 16 * p.val + t.val / 512 := rfl
  have h0 := p.isLt
  have h1 := t.isLt
  fin_cases a
  · show p.val = win0_17.index (point p t) 0 * 1 + 1 * 0
    omega
  · show kv.val = win0_17.index (point p t) 1 * 4 + 1 * kv.val
    omega
  · show t.val = win0_17.index (point p t) 2 * 512 + 1 * (t.val % 512)
    omega
  · show d.val = win0_17.index (point p t) 3 * 64 + 1 * d.val
    omega
theorem index18 : ∀ t : Fin cfg0.N, win0_18.index t 0 = t.val / 16 ∧ win0_18.index t 1 = t.val % 16 ∧ win0_18.index t 2 = 0 :=
  (by decide +kernel : ∀ t : Fin grid0.N, win0_18.index t 0 = t.val / 16 ∧ win0_18.index t 1 = t.val % 16 ∧ win0_18.index t 2 = 0)
/-- The array left, at an index, is what the body of the point holding it leaves there. -/
theorem at18 (c : Dev nD) (p : Fin 8) (t : Fin 8192) (d : Fin 64) :
    (dats m 0 c).arrAt 18 cfg0.N (ix3 p t d) = (dats m 0 c).flushed 18 (point p t) (ix3 0 (rowOf t) d) := by
  have hb := congrFun (blocks18 m c (point p t) (flush0_18 _)) (ix3 0 (rowOf t) d)
  refine Eq.trans (congrArg ((dats m 0 c).arrAt 18 cfg0.N) (funext fun a => Fin.ext ?_)) hb
  obtain ⟨e0, e1, e2⟩ := index18 (point p t)
  have hp : (point p t).val = 16 * p.val + t.val / 512 := rfl
  have h0 := p.isLt
  have h1 := t.isLt
  fin_cases a
  · show p.val = win0_18.index (point p t) 0 * 1 + 1 * 0
    omega
  · show t.val = win0_18.index (point p t) 1 * 512 + 1 * (t.val % 512)
    omega
  · show d.val = win0_18.index (point p t) 2 * 64 + 1 * d.val
    omega
theorem index19 : ∀ t : Fin cfg0.N, win0_19.index t 0 = t.val / 16 ∧ win0_19.index t 1 = t.val % 16 ∧ win0_19.index t 2 = 0 ∧ win0_19.index t 3 = 0 ∧ win0_19.index t 4 = 0 :=
  (by decide +kernel : ∀ t : Fin grid0.N, win0_19.index t 0 = t.val / 16 ∧ win0_19.index t 1 = t.val % 16 ∧ win0_19.index t 2 = 0 ∧ win0_19.index t 3 = 0 ∧ win0_19.index t 4 = 0)
/-- The array left, at an index, is what the body of the point holding it leaves there. -/
theorem at19 (c : Dev nD) (p : Fin 8) (t : Fin 8192) (b : Fin 64) (kv : Fin 4) (d : Fin 64) (j : Fin 256) (ht : t.val / 128 = b.val) :
    (dats m 0 c).arrAt 19 cfg0.N (ix5 p b kv d j) = (dats m 0 c).flushed 19 (point p t) (ix5 0 (⟨b.val % 4, by omega⟩ : Fin 4) kv d j) := by
  have hb := congrFun (blocks19 m c (point p t) (flush0_19 _)) (ix5 0 (⟨b.val % 4, by omega⟩ : Fin 4) kv d j)
  refine Eq.trans (congrArg ((dats m 0 c).arrAt 19 cfg0.N) (funext fun a => Fin.ext ?_)) hb
  obtain ⟨e0, e1, e2, e3, e4⟩ := index19 (point p t)
  have hp : (point p t).val = 16 * p.val + t.val / 512 := rfl
  have h0 := p.isLt
  have h1 := t.isLt
  fin_cases a
  · show p.val = win0_19.index (point p t) 0 * 1 + 1 * 0
    omega
  · show b.val = win0_19.index (point p t) 1 * 4 + 1 * (b.val % 4)
    omega
  · show kv.val = win0_19.index (point p t) 2 * 4 + 1 * kv.val
    omega
  · show d.val = win0_19.index (point p t) 3 * 64 + 1 * d.val
    omega
  · show j.val = win0_19.index (point p t) 4 * 256 + 1 * j.val
    omega
theorem index20 : ∀ t : Fin cfg0.N, win0_20.index t 0 = t.val / 16 ∧ win0_20.index t 1 = t.val % 16 ∧ win0_20.index t 2 = 0 ∧ win0_20.index t 3 = 0 :=
  (by decide +kernel : ∀ t : Fin grid0.N, win0_20.index t 0 = t.val / 16 ∧ win0_20.index t 1 = t.val % 16 ∧ win0_20.index t 2 = 0 ∧ win0_20.index t 3 = 0)
/-- The array left, at an index, is what the body of the point holding it leaves there. -/
theorem at20 (c : Dev nD) (p : Fin 8) (t : Fin 8192) (b : Fin 64) (d : Fin 64) (j : Fin 1024) (ht : t.val / 128 = b.val) :
    (dats m 0 c).arrAt 20 cfg0.N (ix4 p b d j) = (dats m 0 c).flushed 20 (point p t) (ix4 0 (⟨b.val % 4, by omega⟩ : Fin 4) d j) := by
  have hb := congrFun (blocks20 m c (point p t) (flush0_20 _)) (ix4 0 (⟨b.val % 4, by omega⟩ : Fin 4) d j)
  refine Eq.trans (congrArg ((dats m 0 c).arrAt 20 cfg0.N) (funext fun a => Fin.ext ?_)) hb
  obtain ⟨e0, e1, e2, e3⟩ := index20 (point p t)
  have hp : (point p t).val = 16 * p.val + t.val / 512 := rfl
  have h0 := p.isLt
  have h1 := t.isLt
  fin_cases a
  · show p.val = win0_20.index (point p t) 0 * 1 + 1 * 0
    omega
  · show b.val = win0_20.index (point p t) 1 * 4 + 1 * (b.val % 4)
    omega
  · show d.val = win0_20.index (point p t) 2 * 64 + 1 * d.val
    omega
  · show j.val = win0_20.index (point p t) 3 * 1024 + 1 * j.val
    omega
theorem index21 : ∀ t : Fin cfg0.N, win0_21.index t 0 = t.val / 16 ∧ win0_21.index t 1 = 0 ∧ win0_21.index t 2 = t.val % 16 :=
  (by decide +kernel : ∀ t : Fin grid0.N, win0_21.index t 0 = t.val / 16 ∧ win0_21.index t 1 = 0 ∧ win0_21.index t 2 = t.val % 16)
/-- The array left, at an index, is what the body of the point holding it leaves there. -/
theorem at21 (c : Dev nD) (p : Fin 8) (t : Fin 8192) (h : Fin 8) :
    (dats m 0 c).arrAt 21 cfg0.N (ix3 p h t) = (dats m 0 c).flushed 21 (point p t) (ix3 0 h (rowOf t)) := by
  have hb := congrFun (blocks21 m c (point p t) (flush0_21 _)) (ix3 0 h (rowOf t))
  refine Eq.trans (congrArg ((dats m 0 c).arrAt 21 cfg0.N) (funext fun a => Fin.ext ?_)) hb
  obtain ⟨e0, e1, e2⟩ := index21 (point p t)
  have hp : (point p t).val = 16 * p.val + t.val / 512 := rfl
  have h0 := p.isLt
  have h1 := t.isLt
  fin_cases a
  · show p.val = win0_21.index (point p t) 0 * 1 + 1 * 0
    omega
  · show h.val = win0_21.index (point p t) 1 * 8 + 1 * h.val
    omega
  · show t.val = win0_21.index (point p t) 2 * 512 + 1 * (t.val % 512)
    omega
theorem index22 : ∀ t : Fin cfg0.N, win0_22.index t 0 = t.val / 16 ∧ win0_22.index t 1 = t.val % 16 ∧ win0_22.index t 2 = 0 ∧ win0_22.index t 3 = 0 :=
  (by decide +kernel : ∀ t : Fin grid0.N, win0_22.index t 0 = t.val / 16 ∧ win0_22.index t 1 = t.val % 16 ∧ win0_22.index t 2 = 0 ∧ win0_22.index t 3 = 0)
/-- The array left, at an index, is what the body of the point holding it leaves there. -/
theorem at22 (c : Dev nD) (p : Fin 8) (t : Fin 8192) (b : Fin 16) (d : Fin 320) (j : Fin 512) (ht : t.val / 512 = b.val) :
    (dats m 0 c).arrAt 22 cfg0.N (ix4 p b d j) = (dats m 0 c).flushed 22 (point p t) (ix4 0 0 d j) := by
  have hb := congrFun (blocks22 m c (point p t) (flush0_22 _)) (ix4 0 0 d j)
  refine Eq.trans (congrArg ((dats m 0 c).arrAt 22 cfg0.N) (funext fun a => Fin.ext ?_)) hb
  obtain ⟨e0, e1, e2, e3⟩ := index22 (point p t)
  have hp : (point p t).val = 16 * p.val + t.val / 512 := rfl
  have h0 := p.isLt
  have h1 := t.isLt
  fin_cases a
  · show p.val = win0_22.index (point p t) 0 * 1 + 1 * 0
    omega
  · show b.val = win0_22.index (point p t) 1 * 1 + 1 * 0
    omega
  · show d.val = win0_22.index (point p t) 2 * 320 + 1 * d.val
    omega
  · show j.val = win0_22.index (point p t) 3 * 512 + 1 * j.val
    omega
theorem result17_eq (c : Dev nD) :
    (dats m 0 c).arrAt 17 cfg0.N = val_main_v130 (F := Ideal) (m ((c : Thread nD τ).loc main_arg0)) (m ((c : Thread nD τ).loc main_arg1)) (m ((c : Thread nD τ).loc main_arg2)) := by
  funext z
  obtain ⟨p, kv, t, d, rfl⟩ : ∃ (p : Fin 8) (kv : Fin 4) (t : Fin 8192) (d : Fin 64), z = ix4 p kv t d := ⟨z 0, z 1, z 2, z 3, funext fun a => by fin_cases a <;> rfl⟩
  rw [at17, flushed17]
  simp only [outsAt0]
  rw [left17]
  refine (keys_at _ kv (rowOf t) d).trans (Eq.trans ?_ (handed_k _ _ _ p kv t d).symm)
  exact cell_k m c p t _
theorem kib_apply (h : FVec Ideal S512x1024 .bf16) (w : Vec Ideal S1024x1088 .bf16) (r : Fin 512) (l : Fin 64) : k0_pay45 (k0_pay37 h w) (ix3 0 r l) = ∑ k, h (ix2 r k) * w (ix2 k ⟨1024 + l.val, by omega⟩) := by
  pointwise [k0_pay45, k0_pay43, k0_pay37]
theorem result18_eq (c : Dev nD) :
    (dats m 0 c).arrAt 18 cfg0.N = val_main_v131 (F := Ideal) (m ((c : Thread nD τ).loc main_arg0)) (m ((c : Thread nD τ).loc main_arg1)) (m ((c : Thread nD τ).loc main_arg2)) := by
  funext z
  obtain ⟨p, t, d, rfl⟩ : ∃ (p : Fin 8) (t : Fin 8192) (d : Fin 64), z = ix3 p t d := ⟨z 0, z 1, z 2, funext fun a => by fin_cases a <;> rfl⟩
  rw [at18, flushed18]
  simp only [outsAt0]
  rw [left18]
  refine (kib_apply _ _ (rowOf t) d).trans (Eq.trans ?_ (ref_v24 _ _ _ p t d).symm)
  refine Finset.sum_congr rfl fun k _ => ?_
  rw [rows_eq]
  exact congrArg (_ * ·) (window3_hi m c _ k d)
theorem result19_eq (c : Dev nD) :
    (dats m 0 c).arrAt 19 cfg0.N = val_main_v133 (F := Ideal) (m ((c : Thread nD τ).loc main_arg0)) (m ((c : Thread nD τ).loc main_arg1)) (m ((c : Thread nD τ).loc main_arg2)) := by
  funext z
  obtain ⟨p, b, kv, d, j0, rfl⟩ : ∃ (p : Fin 8) (b : Fin 64) (kv : Fin 4) (d : Fin 64) (j0 : Fin 256), z = ix5 p b kv d j0 := ⟨z 0, z 1, z 2, z 3, z 4, funext fun a => by fin_cases a <;> rfl⟩
  obtain ⟨g, j, rfl⟩ : ∃ (g : Fin 2) (j : Fin 128), j0 = (⟨g.val * 128 + j.val, by omega⟩ : Fin 256) := ⟨⟨j0.val / 128, by omega⟩, ⟨j0.val % 128, by omega⟩, Fin.ext (by simp only []; omega)⟩
  obtain ⟨t, ht⟩ : ∃ t : Fin 8192, t.val = b.val * 128 + j.val := ⟨⟨b.val * 128 + j.val, by omega⟩, rfl⟩
  have hr := handed_q (m ((c : Thread nD τ).loc main_arg0)) (m ((c : Thread nD τ).loc main_arg1)) (m ((c : Thread nD τ).loc main_arg2)) p b kv d g j
  have et : (⟨b.val * 128 + j.val, by omega⟩ : Fin 8192) = t := Fin.ext ht.symm
  rw [et] at hr
  rw [at19 m c p t b kv d _ (by omega), flushed19]
  simp only [outsAt0]
  rw [left19]
  refine (queries_at _ ⟨b.val % 4, by omega⟩ kv d g j (rowOf t) (by show t.val % 512 = b.val % 4 * 128 + j.val; omega)).trans (Eq.trans ?_ hr.symm)
  exact congrArg (· * scaleQ) (cell_q m c p t (⟨kv.val * 128 + g.val * 64 + d.val, by omega⟩ : Fin 512))
theorem result20_eq (c : Dev nD) :
    (dats m 0 c).arrAt 20 cfg0.N = val_main_v135 (F := Ideal) (m ((c : Thread nD τ).loc main_arg0)) (m ((c : Thread nD τ).loc main_arg1)) (m ((c : Thread nD τ).loc main_arg2)) := by
  funext z
  obtain ⟨p, b, d, j0, rfl⟩ : ∃ (p : Fin 8) (b : Fin 64) (d : Fin 64) (j0 : Fin 1024), z = ix4 p b d j0 := ⟨z 0, z 1, z 2, z 3, funext fun a => by fin_cases a <;> rfl⟩
  obtain ⟨h, j, rfl⟩ : ∃ (h : Fin 8) (j : Fin 128), j0 = (⟨h.val * 128 + j.val, by omega⟩ : Fin 1024) := ⟨⟨j0.val / 128, by omega⟩, ⟨j0.val % 128, by omega⟩, Fin.ext (by simp only []; omega)⟩
  obtain ⟨t, ht⟩ : ∃ t : Fin 8192, t.val = b.val * 128 + j.val := ⟨⟨b.val * 128 + j.val, by omega⟩, rfl⟩
  have hr := handed_i (m ((c : Thread nD τ).loc main_arg0)) (m ((c : Thread nD τ).loc main_arg1)) (m ((c : Thread nD τ).loc main_arg2)) p b d h j
  have et : (⟨b.val * 128 + j.val, by omega⟩ : Fin 8192) = t := Fin.ext ht.symm
  rw [et] at hr
  rw [at20 m c p t b d _ (by omega), flushed20]
  simp only [outsAt0]
  rw [left20]
  refine (index_at _ ⟨b.val % 4, by omega⟩ d h j (rowOf t) (by show t.val % 512 = b.val % 4 * 128 + j.val; omega)).trans (Eq.trans ?_ hr.symm)
  exact congrArg (· * scaleI) (cell_i m c p t (⟨h.val * 64 + d.val, by omega⟩ : Fin 512))
theorem result21_eq (c : Dev nD) :
    (dats m 0 c).arrAt 21 cfg0.N = val_main_v125 (F := Ideal) (m ((c : Thread nD τ).loc main_arg0)) (m ((c : Thread nD τ).loc main_arg1)) (m ((c : Thread nD τ).loc main_arg2)) := by
  funext z
  obtain ⟨p, h, t, rfl⟩ : ∃ (p : Fin 8) (h : Fin 8) (t : Fin 8192), z = ix3 p h t := ⟨z 0, z 1, z 2, funext fun a => by fin_cases a <;> rfl⟩
  rw [at21, flushed21]
  simp only [outsAt0]
  rw [left21]
  refine (weights_at _ h (rowOf t)).trans (Eq.trans ?_ (handed_w _ _ _ p h t).symm)
  exact congrArg (· * scaleW) (cell_w m c p t h)
theorem result22_eq (c : Dev nD) :
    (dats m 0 c).arrAt 22 cfg0.N = val_main_v137 (F := Ideal) (m ((c : Thread nD τ).loc main_arg0)) (m ((c : Thread nD τ).loc main_arg1)) (m ((c : Thread nD τ).loc main_arg2)) := by
  funext z
  obtain ⟨p, b, e, j, rfl⟩ : ∃ (p : Fin 8) (b : Fin 16) (e : Fin 320) (j : Fin 512), z = ix4 p b e j := ⟨z 0, z 1, z 2, z 3, funext fun a => by fin_cases a <;> rfl⟩
  obtain ⟨t, ht⟩ : ∃ t : Fin 8192, t.val = b.val * 512 + j.val := ⟨⟨b.val * 512 + j.val, by omega⟩, rfl⟩
  have ej : j = rowOf t := Fin.ext (by show j.val = t.val % 512; omega)
  rw [at22 m c p t b e j (by omega), flushed22]
  simp only [outsAt0]
  rw [left22]
  obtain ⟨kv, hk⟩ : ∃ kv : Fin 4, kv.val = e.val / 80 := ⟨⟨e.val / 80, by omega⟩, rfl⟩
  by_cases he : e.val % 80 < 64
  · obtain ⟨d, rfl⟩ : ∃ d : Fin 64, e = (⟨kv.val * 80 + d.val, lt_v kv d⟩ : Fin 320) := ⟨⟨e.val % 80, he⟩, Fin.ext (by simp only []; omega)⟩
    have hr := handed_v (m ((c : Thread nD τ).loc main_arg0)) (m ((c : Thread nD τ).loc main_arg1)) (m ((c : Thread nD τ).loc main_arg2)) p b kv d j
    have et : (⟨b.val * 512 + j.val, by omega⟩ : Fin 8192) = t := Fin.ext ht.symm
    rw [et] at hr
    refine (values_at _ kv d j).trans (Eq.trans ?_ hr.symm)
    have hc := cell_v m c p t (⟨kv.val * 64 + d.val, by omega⟩ : Fin 256)
    rw [← ej] at hc
    exact hc
  · obtain ⟨d, rfl⟩ : ∃ d : Fin 16, e = (⟨kv.val * 80 + (64 + d.val), lt_one kv d⟩ : Fin 320) := ⟨⟨e.val % 80 - 64, by omega⟩, Fin.ext (by simp only []; omega)⟩
    exact (ones_at _ kv d j).trans (handed_one _ _ _ p b kv d j).symm

end Cert.Kernel2Ideal.Entry
-- ==== Proof.Entry3.lean ====
/-
  What the sample projection's region finds: each of the body's blocks at the one grid point, read at an index of the launch's arguments.
-/
module

public import proofs.«01_k».proof.Proof.Gen.Kernel3Ideal.Frame
public import Idealize.ShloMosaic.Lib.Pointwise

@[expose] public section

set_option maxRecDepth 16384

noncomputable section

namespace Cert.Kernel3Ideal.Entry

open Cert.Kernel3Ideal Cert.Kernel3Ideal.Gen
open Idealize.ShloMosaic Idealize.ShloMosaic.TcCoe

variable (m : (ℓ : Loc nD τ sig) → Buf (Elt Ideal) ℓ)

theorem index0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem whole0_apply (c : Dev nD) (t : Fin cfg0.N) (r : Fin 128) (k : Fin 1024) : iblk m c 0 t (ix3 0 r k) = V m c main_v50 (ix3 0 r k) := by
  refine congrArg (V m c main_v50) (funext fun a => Fin.ext ?_)
  obtain ⟨e0, e1, e2⟩ := index0 t
  fin_cases a
  · show win0_0.index t 0 * 1 + 1 * 0 = 0
    omega
  · show win0_0.index t 1 * 128 + 1 * r.val = r.val
    omega
  · show win0_0.index t 2 * 1024 + 1 * k.val = k.val
    omega
theorem whole1_apply (c : Dev nD) (t : Fin cfg0.N) (q : Fin 1) (k : Fin 1024) : iblk m c 1 t (ix2 q k) = V m c main_v6 (ix2 q k) := by
  refine congrArg (V m c main_v6) (funext fun a => Fin.ext ?_)
  fin_cases a
  · show 0 + 1 * q.val = q.val
    omega
  · show 0 + 1 * k.val = k.val
    omega
theorem whole2_apply (c : Dev nD) (t : Fin cfg0.N) (q : Fin 1024) (k : Fin 1536) : iblk m c 2 t (ix2 q k) = V m c main_v7 (ix2 q k) := by
  refine congrArg (V m c main_v7) (funext fun a => Fin.ext ?_)
  fin_cases a
  · show 0 + 1 * q.val = q.val
    omega
  · show 0 + 1 * k.val = k.val
    omega
theorem whole3_apply (c : Dev nD) (t : Fin cfg0.N) (q : Fin 1024) (k : Fin 1088) : iblk m c 3 t (ix2 q k) = V m c main_v10 (ix2 q k) := by
  refine congrArg (V m c main_v10) (funext fun a => Fin.ext ?_)
  fin_cases a
  · show 0 + 1 * q.val = q.val
    omega
  · show 0 + 1 * k.val = k.val
    omega
theorem whole4_apply (c : Dev nD) (t : Fin cfg0.N) (q : Fin 1024) (k : Fin 2048) : iblk m c 4 t (ix2 q k) = V m c main_v11 (ix2 q k) := by
  refine congrArg (V m c main_v11) (funext fun a => Fin.ext ?_)
  fin_cases a
  · show 0 + 1 * q.val = q.val
    omega
  · show 0 + 1 * k.val = k.val
    omega
theorem whole6_apply (c : Dev nD) (t : Fin cfg0.N) (q : Fin 1) (k : Fin 512) : iblk m c 6 t (ix2 q k) = V m c main_v18 (ix2 q k) := by
  refine congrArg (V m c main_v18) (funext fun a => Fin.ext ?_)
  fin_cases a
  · show 0 + 1 * q.val = q.val
    omega
  · show 0 + 1 * k.val = k.val
    omega
theorem whole7_apply (c : Dev nD) (t : Fin cfg0.N) (q : Fin 1) (k : Fin 512) : iblk m c 7 t (ix2 q k) = V m c main_v19 (ix2 q k) := by
  refine congrArg (V m c main_v19) (funext fun a => Fin.ext ?_)
  fin_cases a
  · show 0 + 1 * q.val = q.val
    omega
  · show 0 + 1 * k.val = k.val
    omega
theorem whole8_apply (c : Dev nD) (t : Fin cfg0.N) (p : Fin 4) (q : Fin 128) (k : Fin 256) : iblk m c 8 t (ix3 p q k) = V m c main_v47 (ix3 p q k) := by
  refine congrArg (V m c main_v47) (funext fun a => Fin.ext ?_)
  fin_cases a
  · show 0 + 1 * p.val = p.val
    omega
  · show 0 + 1 * q.val = q.val
    omega
  · show 0 + 1 * k.val = k.val
    omega
theorem whole9_apply (c : Dev nD) (t : Fin cfg0.N) (q : Fin 128) (k : Fin 512) : iblk m c 9 t (ix2 q k) = V m c main_v49 (ix2 q k) := by
  refine congrArg (V m c main_v49) (funext fun a => Fin.ext ?_)
  fin_cases a
  · show 0 + 1 * q.val = q.val
    omega
  · show 0 + 1 * k.val = k.val
    omega
theorem whole10_apply (c : Dev nD) (t : Fin cfg0.N) (q : Fin 512) (k : Fin 1024) : iblk m c 10 t (ix2 q k) = V m c main_v20 (ix2 q k) := by
  refine congrArg (V m c main_v20) (funext fun a => Fin.ext ?_)
  fin_cases a
  · show 0 + 1 * q.val = q.val
    omega
  · show 0 + 1 * k.val = k.val
    omega

/-- The tokens in one row of 128. -/
def flat (x : Vec Ideal S8x16x1024 .f32) : FVec Ideal S1x128x1024 .f32 := fun i => shapeCast S1x128x1024 x shapeCasts_S8x16x1024_S1x128x1024 i
/-- The packed weights: the bits of a matrix kept at half the width. -/
def packW (x : Vec Ideal S1x1024x5704 .f32) : FVec Ideal S1024x5704 .bf16 :=
  truncf (F := Ideal) .bf16 (fun i => shapeCast S1024x5704 x shapeCasts_S1x1024x5704_S1024x5704 i) bitsLt_bf16_f32
/-- Ones where a pair of blocks is one block, zeros elsewhere. -/
def eye : FVec Ideal S8x8 .f32 := uitofp (F := Ideal) .f32 (cmpi .eq (addi (iotaInDim S8x8 32 0) (broadcastInDim S8x8 ![] bcast_S_S8x8 (constantI S_ 32 0#32))) (iotaInDim S8x8 32 1))
/-- A group's token matrix, repeated along the diagonal of eight blocks of 16 tokens. -/
def spread (x : Vec Ideal S1x8x128x128 .f32) : FVec Ideal S8x128x128 .f32 :=
  fun i => shapeCast S8x128x128 (mulf (broadcastInDim S8x8x16x8x16 ![0, 1, 2, 3, 4] bcast_S1x8x1x8x1_S8x8x16x8x16_0_1_2_3_4 (broadcastInDim S1x8x1x8x1 ![1, 3] bcast_S8x8_S1x8x1x8x1_1_3 eye))
    (broadcastInDim S8x8x16x8x16 ![0, 1, 2, 3, 4] bcast_S8x1x16x1x16_S8x8x16x8x16_0_1_2_3_4 (broadcastInDim S8x1x16x1x16 ![0, 2, 4] bcast_S8x16x16_S8x1x16x1x16_0_2_4 (extractStridedSlice S8x16x16 ![0, 0, 0] (fun i => shapeCast S8x128x128 x shapeCasts_S1x8x128x128_S8x128x128 i) slices_S8x128x128_S8x16x16_0_0_0)))) shapeCasts_S8x8x16x8x16_S8x128x128 i
/-- The token matrices of two groups side by side. -/
def packMix (x : Vec Ideal S8x128x128 .f32) : FVec Ideal S4x128x256 .bf16 :=
  truncf (F := Ideal) .bf16 (concatenate S4x128x256 2
    [⟨S4x128x128, fun i => shapeCast S4x128x128 (extractStridedSlice S4x1x128x128 ![0, 0, 0, 0] (fun i => shapeCast S4x2x128x128 x shapeCasts_S8x128x128_S4x2x128x128 i) slices_S4x2x128x128_S4x1x128x128_0_0_0_0) shapeCasts_S4x1x128x128_S4x128x128 i⟩,
     ⟨S4x128x128, fun i => shapeCast S4x128x128 (extractStridedSlice S4x1x128x128 ![0, 1, 0, 0] (fun i => shapeCast S4x2x128x128 x shapeCasts_S8x128x128_S4x2x128x128 i) slices_S4x2x128x128_S4x1x128x128_0_1_0_0) shapeCasts_S4x1x128x128_S4x128x128 i⟩]
    concatenates_S4x128x128_S4x128x128_S4x128x256_d2) bitsLt_bf16_f32
/-- The biases of 16 tokens, repeated for each block and along each group's width. -/
def packBias (x : Vec Ideal S1x8x128 .f32) : FVec Ideal S128x512 .f32 :=
  fun i => shapeCast S128x512 (broadcastInDim S128x8x64 ![0, 1] bcast_S128x8_S128x8x64_0_1 (fun i => shapeCast S128x8 (broadcastInDim S8x16x1x8 ![0, 1, 2, 3] bcast_S1x16x1x8_S8x16x1x8_0_1_2_3 (fun i => shapeCast S1x16x1x8 (transpose S16x8 [1, 0] (extractStridedSlice S8x16 ![0, 0] (fun i => shapeCast S8x128 x shapeCasts_S1x8x128_S8x128 i) slices_S8x128_S8x16_0_0) transposes_S8x16_S16x8_1_0) shapeCasts_S16x8_S1x16x1x8 i)) shapeCasts_S8x16x1x8_S128x8 i)) shapeCasts_S128x8x64_S128x512 i
set_option maxHeartbeats 4000000 in
theorem entered0 (c : Dev nD) : @Eq (FVec Ideal S1x128x1024 .f32) (V m c main_v50) (flat (m ((c : Thread nD τ).loc main_arg0))) := by
  unfold V
  simp only [hostOps0]
  after_results_simp <;> rfl
set_option maxHeartbeats 4000000 in
theorem entered1 (c : Dev nD) : @Eq (FVec Ideal S1x1024 .f32) (V m c main_v6) (fun i => shapeCast S1x1024 (fun i => shapeCast S1024 ((m ((c : Thread nD τ).loc main_arg1)) : Vec Ideal S1x1024 .f32) shapeCasts_S1x1024_S1024 i) shapeCasts_S1024_S1x1024 i) := by
  unfold V
  simp only [hostOps0]
  after_results_simp <;> rfl
set_option maxHeartbeats 4000000 in
theorem entered2 (c : Dev nD) : @Eq (FVec Ideal S1024x1536 .bf16) (V m c main_v7) (extractStridedSlice S1024x1536 ![0, 0] (packW (m ((c : Thread nD τ).loc main_arg2))) slices_S1024x5704_S1024x1536_0_0) := by
  unfold V
  simp only [hostOps0]
  after_results_simp <;> rfl
set_option maxHeartbeats 4000000 in
theorem entered3 (c : Dev nD) : @Eq (FVec Ideal S1024x1088 .bf16) (V m c main_v10) (concatenate S1024x1088 1 [⟨S1024x1024, extractStridedSlice S1024x1024 ![0, 2048] (packW (m ((c : Thread nD τ).loc main_arg2))) slices_S1024x5704_S1024x1024_0_2048⟩, ⟨S1024x64, extractStridedSlice S1024x64 ![0, 3584] (packW (m ((c : Thread nD τ).loc main_arg2))) slices_S1024x5704_S1024x64_0_3584⟩] concatenates_S1024x1024_S1024x64_S1024x1088_d1) := by
  unfold V
  simp only [hostOps0]
  after_results_simp <;> rfl
set_option maxHeartbeats 4000000 in
theorem entered4 (c : Dev nD) : @Eq (FVec Ideal S1024x2048 .bf16) (V m c main_v11) (extractStridedSlice S1024x2048 ![0, 3656] (packW (m ((c : Thread nD τ).loc main_arg2))) slices_S1024x5704_S1024x2048_0_3656) := by
  unfold V
  simp only [hostOps0]
  after_results_simp <;> rfl
set_option maxHeartbeats 4000000 in
theorem entered6 (c : Dev nD) : @Eq (FVec Ideal S1x512 .f32) (V m c main_v18) (fun i => shapeCast S1x512 (fun i => shapeCast S512 ((m ((c : Thread nD τ).loc main_arg3)) : Vec Ideal S1x512 .f32) shapeCasts_S1x512_S512 i) shapeCasts_S512_S1x512 i) := by
  unfold V
  simp only [hostOps0]
  after_results_simp <;> rfl
set_option maxHeartbeats 4000000 in
theorem entered7 (c : Dev nD) : @Eq (FVec Ideal S1x512 .f32) (V m c main_v19) (fun i => shapeCast S1x512 (fun i => shapeCast S512 ((m ((c : Thread nD τ).loc main_arg4)) : Vec Ideal S1x512 .f32) shapeCasts_S1x512_S512 i) shapeCasts_S512_S1x512 i) := by
  unfold V
  simp only [hostOps0]
  after_results_simp <;> rfl
set_option maxHeartbeats 4000000 in
theorem entered8 (c : Dev nD) : @Eq (FVec Ideal S4x128x256 .bf16) (V m c main_v47) (packMix (spread (m ((c : Thread nD τ).loc main_arg5)))) := by
  unfold V
  simp only [hostOps0]
  after_results_simp <;> rfl
set_option maxHeartbeats 4000000 in
theorem entered9 (c : Dev nD) : @Eq (FVec Ideal S128x512 .f32) (V m c main_v49) (packBias (m ((c : Thread nD τ).loc main_arg6))) := by
  unfold V
  simp only [hostOps0]
  after_results_simp <;> rfl
set_option maxHeartbeats 4000000 in
theorem entered10 (c : Dev nD) : @Eq (FVec Ideal S512x1024 .bf16) (V m c main_v20) (truncf (F := Ideal) .bf16 (fun i => shapeCast S512x1024 ((m ((c : Thread nD τ).loc main_arg7)) : Vec Ideal S1x512x1024 .f32) shapeCasts_S1x512x1024_S512x1024 i) bitsLt_bf16_f32) := by
  unfold V
  simp only [hostOps0]
  after_results_simp <;> rfl

end Cert.Kernel3Ideal.Entry
-- ==== Proof.Left3.lean ====
/-
  What the sample projection's body leaves in a block of each result: the named value stored there, as a function of the blocks read.
-/
module

public import proofs.«01_k».proof.Proof.Gen.Kernel3Ideal.Frame
public import Idealize.ShloMosaic.Lib.Pipeline.Value

@[expose] public section

set_option maxRecDepth 16384

noncomputable section

namespace Cert.Kernel3Ideal.Left

open Cert.Kernel3Ideal Cert.Kernel3Ideal.Gen
open Idealize.ShloMosaic Idealize.ShloMosaic.TcCoe

variable {F : FTy → Type} [FloatOps F]

theorem off2 : (![0, 0] : Fin 2 → ℕ) = fun _ => 0 := by funext a; fin_cases a <;> rfl
theorem off3 : (![0, 0, 0] : Fin 3 → ℕ) = fun _ => 0 := by funext a; fin_cases a <;> rfl

theorem ld0 (x : Vec F S1x128x1024 .f32) : View.ld x (Rect.unit (s := S1x128x1024) ![0, 0, 0] ![1, 128, 1024] inb_S1x128x1024_S1x128x1024_0_0_0) = x := View.ld_unit_zero (funext fun a => by fin_cases a <;> rfl) _ x
theorem ld1 (x : Vec F S1x1024 .f32) : View.ld x (Rect.unit (s := S1x1024) ![0, 0] ![1, 1024] inb_S1x1024_S1x1024_0_0) = x := View.ld_unit_zero (funext fun a => by fin_cases a <;> rfl) _ x
theorem ld2 (x : Vec F S1024x1536 .bf16) : View.ld x (Rect.unit (s := S1024x1536) ![0, 0] ![1024, 1536] inb_S1024x1536_S1024x1536_0_0) = x := View.ld_unit_zero (funext fun a => by fin_cases a <;> rfl) _ x
theorem ld3 (x : Vec F S1024x1088 .bf16) : View.ld x (Rect.unit (s := S1024x1088) ![0, 0] ![1024, 1088] inb_S1024x1088_S1024x1088_0_0) = x := View.ld_unit_zero (funext fun a => by fin_cases a <;> rfl) _ x
theorem ld4 (x : Vec F S1024x2048 .bf16) : View.ld x (Rect.unit (s := S1024x2048) ![0, 0] ![1024, 2048] inb_S1024x2048_S1024x2048_0_0) = x := View.ld_unit_zero (funext fun a => by fin_cases a <;> rfl) _ x
theorem ld6 (x : Vec F S1x512 .f32) : View.ld x (Rect.unit (s := S1x512) ![0, 0] ![1, 512] inb_S1x512_S1x512_0_0) = x := View.ld_unit_zero (funext fun a => by fin_cases a <;> rfl) _ x
theorem ld9 (x : Vec F S128x512 .f32) : View.ld x (Rect.unit (s := S128x512) ![0, 0] ![128, 512] inb_S128x512_S128x512_0_0) = x := View.ld_unit_zero (funext fun a => by fin_cases a <;> rfl) _ x
theorem ld10 (x : Vec F S512x1024 .bf16) : View.ld x (Rect.unit (s := S512x1024) ![0, 0] ![512, 1024] inb_S512x1024_S512x1024_0_0) = x := View.ld_unit_zero (funext fun a => by fin_cases a <;> rfl) _ x

/-- The gated branch of the one block of 128 tokens: the normalised second branch mixed by the packed token matrices, gated and projected out. -/
def branch (h : FVec F S128x1024 .bf16) (u z v34 v39 v40 : FVec F S128x512 .f32) (v67 v71 : Vec F S1x512 .f32) (w0 w1 w2 w3 : Vec F S1x128x256 .bf16) (bias : Vec F S128x512 .f32) (wp : Vec F S512x1024 .bf16) (wg : Vec F S1024x2048 .bf16) : FVec F S1x128x1024 .bf16 :=
  let n := k0_pay13 v34 v39 v40 v67 v71
  let j : IVec S128x128 32 := iota .tc S128x128 32 [1] iota_S128x128_d1_w32
  k0_pay22 h u z n j (k0_pay17 j (k0_pay15 v34 v39 v40 v67 v71) (k0_pay16 v34 v39 v40 v67 v71) w0) (k0_pay18 n j w1) (k0_pay19 n j) (k0_pay20 w2) w3 bias wp wg

/-- One of the four token matrices held in the ninth block. -/
abbrev slab (x8 : Vec F S4x128x256 .bf16) (i0 i1 i2 : Nat) (h : ∀ a, (![i0, i1, i2] : Fin 3 → Nat) a + S1x128x256.size a ≤ S4x128x256.size a) : Vec F S1x128x256 .bf16 :=
  View.ld x8 (Rect.unit (s := S4x128x256) ![i0, i1, i2] S1x128x256.size h)

variable (c : Dev nD) (i : grid0.Coords) (arg2 : Memref sig .tc .vmem S1x128x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S1024x1088 .bf16) (harg5 : arg5.IsWhole) (arg6 : Memref sig .tc .vmem S1024x2048 .bf16) (harg6 : arg6.IsWhole) (arg7 : Memref sig .tc .vmem S1288x1024 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x128x256 .bf16) (harg10 : arg10.IsWhole) (arg11 : Memref sig .tc .vmem S128x512 .f32) (harg11 : arg11.IsWhole) (arg12 : Memref sig .tc .vmem S512x1024 .bf16) (harg12 : arg12.IsWhole) (arg13 : Memref sig .tc .vmem S1x128x1024 .bf16) (harg13 : arg13.IsWhole) (arg14 : Memref sig .tc .vmem S1x128x1024 .f32) (harg14 : arg14.IsWhole) (arg15 : Memref sig .tc .vmem S1x128x512 .f32) (harg15 : arg15.IsWhole) (arg16 : Memref sig .tc .vmem S1x128x256 .f32) (harg16 : arg16.IsWhole) (arg17 : Memref sig .tc .vmem S1x128x256 .f32) (harg17 : arg17.IsWhole) (arg18 : Memref sig .tc .vmem S1x128x64 .f32) (harg18 : arg18.IsWhole) (arg19 : Memref sig .tc .vmem S1x4x128x64 .bf16) (harg19 : arg19.IsWhole) (arg20 : Memref sig .tc .vmem S1x128x64 .bf16) (harg20 : arg20.IsWhole) (arg21 : Memref sig .tc .vmem S1x1x4x64x256 .bf16) (harg21 : arg21.IsWhole) (arg22 : Memref sig .tc .vmem S1x1x64x1024 .bf16) (harg22 : arg22.IsWhole) (arg23 : Memref sig .tc .vmem S1x8x128 .f32) (harg23 : arg23.IsWhole) (arg24 : Memref sig .tc .vmem S1x1x320x128 .bf16) (harg24 : arg24.IsWhole) (arg25 : Memref sig .tc .vmem S1x128x512 .f32) (harg25 : arg25.IsWhole)     (x0 : Vec F S1x128x1024 .f32) (x1 : Vec F S1x1024 .f32) (x2 : Vec F S1024x1536 .bf16) (x3 : Vec F S1024x1088 .bf16) (x4 : Vec F S1024x2048 .bf16) (x5 : Vec F S1288x1024 .bf16) (x6 : Vec F S1x512 .f32) (x7 : Vec F S1x512 .f32) (x8 : Vec F S4x128x256 .bf16) (x9 : Vec F S128x512 .f32) (x10 : Vec F S512x1024 .bf16)

theorem left11 :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = branch (k0_pay6 x0 x1) (k0_pay8 x0 x1 x2) (k0_pay12 (k0_pay7 x0 x1 x2)) (k0_pay9 x0 x1 x2) (k0_pay10 x0 x1 x2) k0_pay11 x6 x7 (slab x8 0 0 0 inb_S4x128x256_S1x128x256_0_0_0) (slab x8 1 0 0 inb_S4x128x256_S1x128x256_1_0_0) (slab x8 2 0 0 inb_S4x128x256_S1x128x256_2_0_0) (slab x8 3 0 0 inb_S4x128x256_S1x128x256_3_0_0) x9 x10 x4 := by
  unfold out0_A_11
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]
  rfl
theorem left12 :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = k0_pay24 (k0_pay23 (k0_pay6 x0 x1) x4) := by
  unfold out0_A_12
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]
theorem left13 :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = k0_pay29 (k0_pay6 x0 x1) x3 := by
  unfold out0_A_13
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]
theorem left14 :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = k0_pay27 (k0_pay6 x0 x1) x3 := by
  unfold out0_A_14
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]
theorem left15 :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = k0_pay28 (k0_pay6 x0 x1) x3 := by
  unfold out0_A_15
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]
theorem left16 :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = k0_pay31 (k0_pay6 x0 x1) x3 := by
  unfold out0_A_16
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]
theorem left23 :
    out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = k0_pay14 (k0_pay9 x0 x1 x2) (k0_pay10 x0 x1 x2) k0_pay11 x6 x7 := by
  unfold out0_A_23
  rw [View.read_writes_junk_eq_canon]
  unfold kernelRun0_A
  dsimp only
  sl_unfold_words
  rw [View.canon_unit_zero off3]
  simp only [View.readAt_eq_ld, harg2.read_unread, harg3.read_unread, harg4.read_unread, harg5.read_unread, harg6.read_unread, harg7.read_unread, harg8.read_unread, harg9.read_unread, harg10.read_unread, harg11.read_unread, harg12.read_unread, ld0, ld1, ld2, ld3, ld4, ld6, ld9, ld10]

end Cert.Kernel3Ideal.Left
-- ==== Proof.Rows3.lean ====
/-
  The sample projection, a row at a time, over the extended reals: the stored values of the kernel's body and the reference's arrays, read at an index.
-/
module

public import proofs.«01_k».proof.Proof.Spec
public import proofs.«01_k».proof.Proof.Left3
public import proofs.«01_k».proof.Proof.Gen.Reference3Ideal.Read
public import Idealize.ShloMosaic.Lib.Pointwise

@[expose] public section

set_option maxRecDepth 16384

noncomputable section

namespace Cert.Kernel3Ideal.Rows

open Cert.Kernel3Ideal Cert.Kernel3Ideal.Gen Cert.Spec
open Cert.KernelIdeal.Deep (normRow)
open Idealize.ShloMosaic Idealize.ShloMosaic.TcCoe

/-- The block of 16 tokens a row of 128 lies in. -/
def part (r : Fin 128) : Fin 8 := ⟨r.val / 16, by omega⟩
/-- The place of a row within its block. -/
def place (r : Fin 128) : Fin 16 := ⟨r.val % 16, by omega⟩

/-- The normalised token rows. -/
theorem rows_apply (x : Vec Ideal S1x128x1024 .f32) (s : Vec Ideal S1x1024 .f32) (r : Fin 128) (k : Fin 1024) :
    k0_pay6 x s (ix2 r k) = normRow (fun k => x (ix3 0 r k)) (fun k => s (ix2 0 k)) k := by
  unfold normRow
  pointwise [k0_pay6]
theorem uvz_apply (x : Vec Ideal S1x128x1024 .f32) (s : Vec Ideal S1x1024 .f32) (w : Vec Ideal S1024x1536 .bf16) (r : Fin 128) (l : Fin 1536) :
    k0_pay7 x s w (ix2 r l) = ∑ k, k0_pay6 x s (ix2 r k) * w (ix2 k l) := by
  pointwise [k0_pay7]
theorem gb_apply (h : FVec Ideal S128x1024 .bf16) (w : Vec Ideal S1024x2048 .bf16) (r : Fin 128) (l : Fin 1024) :
    k0_pay24 (k0_pay23 h w) (ix3 0 r l) = ∑ k, h (ix2 r k) * w (ix2 k ⟨1024 + l.val, by omega⟩) := by
  pointwise [k0_pay21, k0_pay23, k0_pay24, k0_pay25, k0_pay26, k0_pay27, k0_pay28, k0_pay29, k0_pay30, k0_pay31]
theorem k_apply (h : FVec Ideal S128x1024 .bf16) (w : Vec Ideal S1024x1088 .bf16) (r : Fin 128) (l : Fin 256) :
    k0_pay27 h w (ix3 0 r l) = ∑ k, h (ix2 r k) * w (ix2 k ⟨0 + l.val, by omega⟩) := by
  pointwise [k0_pay21, k0_pay23, k0_pay24, k0_pay25, k0_pay26, k0_pay27, k0_pay28, k0_pay29, k0_pay30, k0_pay31]
theorem v_apply (h : FVec Ideal S128x1024 .bf16) (w : Vec Ideal S1024x1088 .bf16) (r : Fin 128) (l : Fin 256) :
    k0_pay28 h w (ix3 0 r l) = ∑ k, h (ix2 r k) * w (ix2 k ⟨256 + l.val, by omega⟩) := by
  pointwise [k0_pay21, k0_pay23, k0_pay24, k0_pay25, k0_pay26, k0_pay27, k0_pay28, k0_pay29, k0_pay30, k0_pay31]
theorem zb_apply (h : FVec Ideal S128x1024 .bf16) (w : Vec Ideal S1024x1088 .bf16) (r : Fin 128) (l : Fin 512) :
    k0_pay29 h w (ix3 0 r l) = ∑ k, h (ix2 r k) * w (ix2 k ⟨512 + l.val, by omega⟩) := by
  pointwise [k0_pay21, k0_pay23, k0_pay24, k0_pay25, k0_pay26, k0_pay27, k0_pay28, k0_pay29, k0_pay30, k0_pay31]
theorem ki_apply (h : FVec Ideal S128x1024 .bf16) (w : Vec Ideal S1024x1088 .bf16) (r : Fin 128) (l : Fin 64) :
    k0_pay31 h w (ix3 0 r l) = ∑ k, h (ix2 r k) * w (ix2 k ⟨1024 + l.val, by omega⟩) := by
  pointwise [k0_pay21, k0_pay23, k0_pay24, k0_pay25, k0_pay26, k0_pay27, k0_pay28, k0_pay29, k0_pay30, k0_pay31]
open Cert.Reference3Ideal.Read

theorem ref_rows (x0 : Vec Ideal S8x16x1024 .f32) (x1 : Vec Ideal S1x1024 .f32) (p : Fin 8) (t : Fin 16) (k : Fin 1024) :
    val_main_v14 (F := Ideal) x0 x1 (ix3 p t k) = normRow (fun k => x0 (ix3 p t k)) (fun k => x1 (ix2 0 k)) k := by
  unfold normRow
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
/-- The projected array, at an index: a row against a column of the packed weights. -/
theorem ref_dot (x0 : Vec Ideal S8x16x1024 .f32) (x1 : Vec Ideal S1x1024 .f32) (x2 : Vec Ideal S1x1024x5704 .f32) (p : Fin 8) (t : Fin 16) (l : Fin 5704) :
    val_main_v15 (F := Ideal) x0 x1 x2 (ix3 p t l) = ∑ k, normRow (fun k => x0 (ix3 p t k)) (fun k => x1 (ix2 0 k)) k * x2 (ix3 0 k l) := by
  simp only [← ref_rows]
  pointwise [val_main_v15, val_main_v1]
theorem ref_v16 (x0 : Vec Ideal S8x16x1024 .f32) (x1 : Vec Ideal S1x1024 .f32) (x2 : Vec Ideal S1x1024x5704 .f32) (p : Fin 8) (t : Fin 16) (l : Fin 512) :
    val_main_v16 (F := Ideal) x0 x1 x2 (ix3 p t l) = ∑ k, normRow (fun k => x0 (ix3 p t k)) (fun k => x1 (ix2 0 k)) k * x2 (ix3 0 k ⟨0 + l.val, by omega⟩) := by
  rw [← ref_dot]
  pointwise [val_main_v16]
theorem ref_v17 (x0 : Vec Ideal S8x16x1024 .f32) (x1 : Vec Ideal S1x1024 .f32) (x2 : Vec Ideal S1x1024x5704 .f32) (p : Fin 8) (t : Fin 16) (l : Fin 512) :
    val_main_v17 (F := Ideal) x0 x1 x2 (ix3 p t l) = ∑ k, normRow (fun k => x0 (ix3 p t k)) (fun k => x1 (ix2 0 k)) k * x2 (ix3 0 k ⟨512 + l.val, by omega⟩) := by
  rw [← ref_dot]
  pointwise [val_main_v17]
theorem ref_v18 (x0 : Vec Ideal S8x16x1024 .f32) (x1 : Vec Ideal S1x1024 .f32) (x2 : Vec Ideal S1x1024x5704 .f32) (p : Fin 8) (t : Fin 16) (l : Fin 512) :
    val_main_v18 (F := Ideal) x0 x1 x2 (ix3 p t l) = ∑ k, normRow (fun k => x0 (ix3 p t k)) (fun k => x1 (ix2 0 k)) k * x2 (ix3 0 k ⟨1024 + l.val, by omega⟩) := by
  rw [← ref_dot]
  pointwise [val_main_v18]
theorem ref_v20 (x0 : Vec Ideal S8x16x1024 .f32) (x1 : Vec Ideal S1x1024 .f32) (x2 : Vec Ideal S1x1024x5704 .f32) (p : Fin 8) (t : Fin 16) (l : Fin 256) :
    val_main_v20 (F := Ideal) x0 x1 x2 (ix3 p t l) = ∑ k, normRow (fun k => x0 (ix3 p t k)) (fun k => x1 (ix2 0 k)) k * x2 (ix3 0 k ⟨2048 + l.val, by omega⟩) := by
  rw [← ref_dot]
  pointwise [val_main_v20]
theorem ref_v21 (x0 : Vec Ideal S8x16x1024 .f32) (x1 : Vec Ideal S1x1024 .f32) (x2 : Vec Ideal S1x1024x5704 .f32) (p : Fin 8) (t : Fin 16) (l : Fin 256) :
    val_main_v21 (F := Ideal) x0 x1 x2 (ix3 p t l) = ∑ k, normRow (fun k => x0 (ix3 p t k)) (fun k => x1 (ix2 0 k)) k * x2 (ix3 0 k ⟨2304 + l.val, by omega⟩) := by
  rw [← ref_dot]
  pointwise [val_main_v21]
theorem ref_v22 (x0 : Vec Ideal S8x16x1024 .f32) (x1 : Vec Ideal S1x1024 .f32) (x2 : Vec Ideal S1x1024x5704 .f32) (p : Fin 8) (t : Fin 16) (l : Fin 512) :
    val_main_v22 (F := Ideal) x0 x1 x2 (ix3 p t l) = ∑ k, normRow (fun k => x0 (ix3 p t k)) (fun k => x1 (ix2 0 k)) k * x2 (ix3 0 k ⟨2560 + l.val, by omega⟩) := by
  rw [← ref_dot]
  pointwise [val_main_v22]
theorem ref_v24 (x0 : Vec Ideal S8x16x1024 .f32) (x1 : Vec Ideal S1x1024 .f32) (x2 : Vec Ideal S1x1024x5704 .f32) (p : Fin 8) (t : Fin 16) (l : Fin 64) :
    val_main_v24 (F := Ideal) x0 x1 x2 (ix3 p t l) = ∑ k, normRow (fun k => x0 (ix3 p t k)) (fun k => x1 (ix2 0 k)) k * x2 (ix3 0 k ⟨3584 + l.val, by omega⟩) := by
  rw [← ref_dot]
  pointwise [val_main_v24]
theorem ref_v26 (x0 : Vec Ideal S8x16x1024 .f32) (x1 : Vec Ideal S1x1024 .f32) (x2 : Vec Ideal S1x1024x5704 .f32) (p : Fin 8) (t : Fin 16) (l : Fin 1024) :
    val_main_v26 (F := Ideal) x0 x1 x2 (ix3 p t l) = ∑ k, normRow (fun k => x0 (ix3 p t k)) (fun k => x1 (ix2 0 k)) k * x2 (ix3 0 k ⟨3656 + l.val, by omega⟩) := by
  rw [← ref_dot]
  pointwise [val_main_v26]
theorem ref_v27 (x0 : Vec Ideal S8x16x1024 .f32) (x1 : Vec Ideal S1x1024 .f32) (x2 : Vec Ideal S1x1024x5704 .f32) (p : Fin 8) (t : Fin 16) (l : Fin 1024) :
    val_main_v27 (F := Ideal) x0 x1 x2 (ix3 p t l) = ∑ k, normRow (fun k => x0 (ix3 p t k)) (fun k => x1 (ix2 0 k)) k * x2 (ix3 0 k ⟨4680 + l.val, by omega⟩) := by
  rw [← ref_dot]
  pointwise [val_main_v27]
theorem flat_v116 (x0 : Vec Ideal S8x16x1024 .f32) (x1 : Vec Ideal S1x1024 .f32) (x2 : Vec Ideal S1x1024x5704 .f32) (r : Fin 128) (l : Fin 1024) : val_main_v116 (F := Ideal) x0 x1 x2 (ix3 0 r l) = val_main_v27 (F := Ideal) x0 x1 x2 (ix3 (part r) (place r) l) := by
  generalize hg : val_main_v27 (F := Ideal) x0 x1 x2 = g
  pointwise [val_main_v116, part, place, hg]
theorem flat_v117 (x0 : Vec Ideal S8x16x1024 .f32) (x1 : Vec Ideal S1x1024 .f32) (x2 : Vec Ideal S1x1024x5704 .f32) (r : Fin 128) (l : Fin 512) : val_main_v117 (F := Ideal) x0 x1 x2 (ix3 0 r l) = val_main_v22 (F := Ideal) x0 x1 x2 (ix3 (part r) (place r) l) := by
  generalize hg : val_main_v22 (F := Ideal) x0 x1 x2 = g
  pointwise [val_main_v117, part, place, hg]
theorem flat_v118 (x0 : Vec Ideal S8x16x1024 .f32) (x1 : Vec Ideal S1x1024 .f32) (x2 : Vec Ideal S1x1024x5704 .f32) (r : Fin 128) (l : Fin 256) : val_main_v118 (F := Ideal) x0 x1 x2 (ix3 0 r l) = val_main_v20 (F := Ideal) x0 x1 x2 (ix3 (part r) (place r) l) := by
  generalize hg : val_main_v20 (F := Ideal) x0 x1 x2 = g
  pointwise [val_main_v118, part, place, hg]
theorem flat_v119 (x0 : Vec Ideal S8x16x1024 .f32) (x1 : Vec Ideal S1x1024 .f32) (x2 : Vec Ideal S1x1024x5704 .f32) (r : Fin 128) (l : Fin 256) : val_main_v119 (F := Ideal) x0 x1 x2 (ix3 0 r l) = val_main_v21 (F := Ideal) x0 x1 x2 (ix3 (part r) (place r) l) := by
  generalize hg : val_main_v21 (F := Ideal) x0 x1 x2 = g
  pointwise [val_main_v119, part, place, hg]
theorem flat_v120 (x0 : Vec Ideal S8x16x1024 .f32) (x1 : Vec Ideal S1x1024 .f32) (x2 : Vec Ideal S1x1024x5704 .f32) (r : Fin 128) (l : Fin 64) : val_main_v120 (F := Ideal) x0 x1 x2 (ix3 0 r l) = val_main_v24 (F := Ideal) x0 x1 x2 (ix3 (part r) (place r) l) := by
  generalize hg : val_main_v24 (F := Ideal) x0 x1 x2 = g
  pointwise [val_main_v120, part, place, hg]
theorem flat_v121 (x0 : Vec Ideal S8x16x1024 .f32) (x1 : Vec Ideal S1x1024 .f32) (x2 : Vec Ideal S1x1024x5704 .f32) (x3 x4 : Vec Ideal S1x512 .f32) (r : Fin 128) (l : Fin 512) : val_main_v121 (F := Ideal) x0 x1 x2 x3 x4 (ix3 0 r l) = val_main_v81 (F := Ideal) x0 x1 x2 x3 x4 (ix3 (part r) (place r) l) := by
  generalize hg : val_main_v81 (F := Ideal) x0 x1 x2 x3 x4 = g
  pointwise [val_main_v121, part, place, hg]
theorem flat_v115 (x0 : Vec Ideal S8x16x1024 .f32) (x1 : Vec Ideal S1x1024 .f32) (x2 : Vec Ideal S1x1024x5704 .f32) (x3 x4 : Vec Ideal S1x512 .f32) (x5 : Vec Ideal S1x8x128x128 .f32) (x6 : Vec Ideal S1x8x128 .f32) (x7 : Vec Ideal S1x512x1024 .f32) (r : Fin 128) (l : Fin 1024) : val_main_v115 (F := Ideal) x0 x1 x2 x3 x4 x5 x6 x7 (ix3 0 r l) = val_main_v113 (F := Ideal) x0 x1 x2 x3 x4 x5 x6 x7 (ix3 (part r) (place r) l) := by
  generalize hg : val_main_v113 (F := Ideal) x0 x1 x2 x3 x4 x5 x6 x7 = g
  pointwise [val_main_v115, val_main_v114, part, place, hg]

end Cert.Kernel3Ideal.Rows
-- ==== Proof.RefMix3.lean ====
/-
  The reference's gated branch at an index: the activation, the normalised rows, the mixing of a block of tokens, the projection out.
-/
module

public import proofs.«01_k».proof.Proof.Rows3
public import proofs.«01_k».proof.Proof.Spec

@[expose] public section

set_option maxRecDepth 16384

noncomputable section

namespace Cert.Kernel3Ideal.Rows

open Cert.Reference3Ideal Cert.Reference3Ideal.Read
open Cert.Spec (gelu mean layerRow outRow)
open Idealize.ShloMosaic Idealize.ShloMosaic.TcCoe

variable (x0 : Vec Ideal S8x16x1024 .f32) (x1 : Vec Ideal S1x1024 .f32) (x2 : Vec Ideal S1x1024x5704 .f32) (x3 x4 : Vec Ideal S1x512 .f32) (x5 : Vec Ideal S1x8x128x128 .f32) (x6 : Vec Ideal S1x8x128 .f32) (x7 : Vec Ideal S1x512x1024 .f32)

/-- The first branch is the activation of its columns. -/
theorem ref_gu (p : Fin 8) (t : Fin 16) (l : Fin 512) : val_main_v44 (F := Ideal) x0 x1 x2 (ix3 p t l) = gelu (val_main_v16 (F := Ideal) x0 x1 x2 (ix3 p t l)) := by
  generalize hg : val_main_v16 (F := Ideal) x0 x1 x2 = g
  rw [gelu, mul_comm (g (ix3 p t l)) (g (ix3 p t l) * g (ix3 p t l))]
  pointwise [val_main_v44, val_main_v43, val_main_v42, val_main_v41, val_main_v40, val_main_v39, val_main_v38, val_main_v37, val_main_v36, val_main_v35, val_main_v34, val_main_v33, val_main_v32, val_main_cst_2, val_main_cst_3, val_main_cst_4, val_main_cst_5, hg]
/-- The second branch is the activation of its columns. -/
theorem ref_gv (p : Fin 8) (t : Fin 16) (l : Fin 512) : val_main_v57 (F := Ideal) x0 x1 x2 (ix3 p t l) = gelu (val_main_v17 (F := Ideal) x0 x1 x2 (ix3 p t l)) := by
  generalize hg : val_main_v17 (F := Ideal) x0 x1 x2 = g
  rw [gelu, mul_comm (g (ix3 p t l)) (g (ix3 p t l) * g (ix3 p t l))]
  pointwise [val_main_v57, val_main_v56, val_main_v55, val_main_v54, val_main_v53, val_main_v52, val_main_v51, val_main_v50, val_main_v49, val_main_v48, val_main_v47, val_main_v46, val_main_v45, val_main_cst_6, val_main_cst_7, val_main_cst_8, val_main_cst_9, hg]
/-- A token's second branch, normalised. -/
theorem ref_ln (p : Fin 8) (t : Fin 16) (l : Fin 512) : val_main_v81 (F := Ideal) x0 x1 x2 x3 x4 (ix3 p t l) = layerRow (fun k => val_main_v57 (F := Ideal) x0 x1 x2 (ix3 p t k)) (fun k => x3 (ix2 0 k)) (fun k => x4 (ix2 0 k)) l := by
  generalize hg : val_main_v57 (F := Ideal) x0 x1 x2 = g
  unfold layerRow mean
  pointwise [val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v29, val_main_v28, val_main_cst_10, val_main_cst_11, val_main_cst_12, val_main_cst_13, val_main_cst_14, hg]
/-- Sixteen tokens lie in one chunk of the mask, so it keeps every pair. -/
theorem ref_mask (h : Fin 8) (a s : Fin 16) : val_main_v92 (F := Ideal) x5 (ix3 h a s) = x5 (ix4 0 h ⟨a.val, by omega⟩ ⟨s.val, by omega⟩) := by
  have hm : (val_main_call2_v1 (F := Ideal) (ix3 h a s) : BitVec 1) = 1#1 := by
    have e : ∀ a s : Fin 16, (val_main_v89 (F := Ideal) (ix2 a s) : BitVec 1) = 1#1 := by decide +kernel
    refine Eq.trans ?_ (e a s)
    pointwise [val_main_call2_v1, val_main_v90]
  have e2 : val_main_v92 (F := Ideal) x5 (ix3 h a s) = Scalar.select (val_main_call2_v1 (F := Ideal) (ix3 h a s)) (val_main_v91 (F := Ideal) x5 (ix3 h a s)) (val_main_call2_v2 (F := Ideal) (ix3 h a s)) := rfl
  rw [e2, hm]
  refine Eq.trans (b := val_main_v91 (F := Ideal) x5 (ix3 h a s)) rfl ?_
  pointwise [val_main_v91, val_main_v30]
/-- A block's sixteen tokens, mixed within a head's columns, and the bias of the token. -/
theorem ref_mixed (p : Fin 8) (a : Fin 16) (h : Fin 8) (e : Fin 64) :
    val_main_v101 (F := Ideal) x0 x1 x2 x3 x4 x5 x6 (ix3 p a ⟨h.val * 64 + e.val, by omega⟩)
      = ∑ s : Fin 16, val_main_v81 (F := Ideal) x0 x1 x2 x3 x4 (ix3 p s ⟨h.val * 64 + e.val, by omega⟩) * val_main_v92 (F := Ideal) x5 (ix3 h a s) + x6 (ix3 0 h ⟨a.val, by omega⟩) := by
  generalize hg : val_main_v81 (F := Ideal) x0 x1 x2 x3 x4 = g
  generalize hw : val_main_v92 (F := Ideal) x5 = w
  pointwise [val_main_v101, val_main_v100, val_main_v99, val_main_v98, val_main_v97, val_main_v96, val_main_v95, val_main_v94, val_main_v93, val_main_v31, hg, hw]
/-- What the reference leaves of the branch. -/
theorem ref_out (p : Fin 8) (t : Fin 16) (l : Fin 1024) :
    val_main_v113 (F := Ideal) x0 x1 x2 x3 x4 x5 x6 x7 (ix3 p t l)
      = Ideal.logistic (val_main_v26 (F := Ideal) x0 x1 x2 (ix3 p t l)) * ∑ q, val_main_v44 (F := Ideal) x0 x1 x2 (ix3 p t q) * val_main_v101 (F := Ideal) x0 x1 x2 x3 x4 x5 x6 (ix3 p t q) * (val_main_v18 (F := Ideal) x0 x1 x2 (ix3 p t q) * Ideal.logistic (val_main_v18 (F := Ideal) x0 x1 x2 (ix3 p t q))) * x7 (ix3 0 q l) := by
  generalize hg : val_main_v26 (F := Ideal) x0 x1 x2 = g
  generalize hu : val_main_v44 (F := Ideal) x0 x1 x2 = u
  generalize hm : val_main_v101 (F := Ideal) x0 x1 x2 x3 x4 x5 x6 = mx
  generalize hz : val_main_v18 (F := Ideal) x0 x1 x2 = z
  unfold Ideal.logistic
  pointwise [val_main_v113, val_main_v112, val_main_v111, val_main_v110, val_main_v109, val_main_v108, val_main_v107, val_main_v106, val_main_v105, val_main_v104, val_main_v103, val_main_v102, val_main_call3_v5, val_main_call3_v4, val_main_call3_v3, val_main_call3_v2, val_main_call3_v1, val_main_call3_v0, val_main_call3_cst, val_main_call3_cst_0, val_main_cst_17, val_main_cst_18, hg, hu, hm, hz]

end Cert.Kernel3Ideal.Rows
-- ==== Proof.Mix3.lean ====
/-
  The sample projection's gated branch at an index: the activation, the normalised rows, the mixing of the tokens, the projection out.
-/
module

public import proofs.«01_k».proof.Proof.Left3
public import proofs.«01_k».proof.Proof.Rows3
public import proofs.«01_k».proof.Proof.Mix2
public import proofs.«01_k».proof.Proof.Spec

@[expose] public section

set_option maxRecDepth 16384

noncomputable section

namespace Cert.Kernel3Ideal.Mix

open Cert.Kernel3Ideal Cert.Kernel3Ideal.Gen Cert.Kernel3Ideal.Left
open Cert.Spec (gelu mean layerRow outRow)
open Cert.Kernel2Ideal.Mix (lt_lo ge_lo lt_hi ge_hi sel_one sel_zero)
open Idealize.ShloMosaic Idealize.ShloMosaic.TcCoe

/-- One block of 128 tokens and two heads: the token matrices of the two, side by side, times the block with the other head's columns at zero. -/
def blk {F : FTy → Type} [FloatOps F] (w : Vec F S1x128x256 .bf16) (e : FVec F S128x128 .f32) : FVec F S128x128 .f32 :=
  matmul dot_S128x256_S256x128_S128x128_1_0_0_1_n_n none (shapeCast S128x256 w shapeCasts_S1x128x256_S128x256)
    (concatenate S256x128 0 [⟨S128x128, truncf .bf16 (select (cmpi .slt (iota .tc S128x128 32 [1] iota_S128x128_d1_w32) (broadcast S128x128 64#32)) e (broadcast S128x128 (Scalar.ofBits .f32 0x00000000#32))) bitsLt_bf16_f32⟩,
      ⟨S128x128, truncf .bf16 (select (cmpi .sge (iota .tc S128x128 32 [1] iota_S128x128_d1_w32) (broadcast S128x128 64#32)) e (broadcast S128x128 (Scalar.ofBits .f32 0x00000000#32))) bitsLt_bf16_f32⟩] concatenates_S128x128_S128x128_S256x128_d0)
    (constant S128x128 .f32 0x00000000#32)

theorem blk_lo (w : Vec Ideal S1x128x256 .bf16) (e : Vec Ideal S128x128 .f32) (a : Fin 128) (b : Fin 64) :
    blk (F := Ideal) w e (ix2 a ⟨b.val, by omega⟩) = ∑ s : Fin 128, w (ix3 0 a ⟨s.val, by omega⟩) * e (ix2 s ⟨b.val, by omega⟩) := by
  pointwise [blk]
  simp only [lt_lo, ge_lo, sel_one, sel_zero, Finset.sum_const_zero, add_zero]
theorem blk_hi (w : Vec Ideal S1x128x256 .bf16) (e : Vec Ideal S128x128 .f32) (a : Fin 128) (b : Fin 64) :
    blk (F := Ideal) w e (ix2 a ⟨64 + b.val, by omega⟩) = ∑ s : Fin 128, w (ix3 0 a ⟨128 + s.val, by omega⟩) * e (ix2 s ⟨64 + b.val, by omega⟩) := by
  pointwise [blk]
  simp only [lt_hi, ge_hi, sel_one, sel_zero, Finset.sum_const_zero, zero_add]

/-- The four blocks, put side by side. -/
def side {F : FTy → Type} [FloatOps F] (n : FVec F S128x512 .f32) (w0 w1 w2 w3 : Vec F S1x128x256 .bf16) : FVec F S128x512 .f32 :=
  concatenate S128x512 1 [⟨S128x128, blk w0 (extractStridedSlice S128x128 ![0, 0] n slices_S128x512_o0_0_S128x128)⟩, ⟨S128x128, blk w1 (extractStridedSlice S128x128 ![0, 128] n slices_S128x512_o0_128_S128x128)⟩, ⟨S128x128, blk w2 (extractStridedSlice S128x128 ![0, 256] n slices_S128x512_o0_256_S128x128)⟩, ⟨S128x128, blk w3 (extractStridedSlice S128x128 ![0, 384] n slices_S128x512_o0_384_S128x128)⟩] concatenates_S128x128_S128x128_S128x128_S128x128_S128x512_d1
/-- What is stored of the branch, from the mixed rows. -/
def tail {F : FTy → Type} [FloatOps F] (h : FVec F S128x1024 .bf16) (u z mx : FVec F S128x512 .f32) (bias : Vec F S128x512 .f32) (wp : Vec F S512x1024 .bf16) (wg : Vec F S1024x2048 .bf16) : FVec F S1x128x1024 .bf16 :=
  shapeCast S1x128x1024 (truncf .bf16 (mulf (logistic (extractStridedSlice S128x1024 ![0, 0] (k0_pay21 h wg) slices_S128x2048_o0_0_S128x1024))
    (matmul dot_S128x512_S512x1024_S128x1024_1_0_0_1_n_n none (truncf .bf16 (mulf (mulf u (addf mx (shapeCast S128x512 bias shapeCasts_S128x512_S128x512))) (mulf z (logistic z))) bitsLt_bf16_f32)
      (shapeCast S512x1024 wp shapeCasts_S512x1024_S512x1024) (constant S128x1024 .f32 0x00000000#32))) bitsLt_bf16_f32) shapeCasts_S128x1024_S1x128x1024
set_option maxHeartbeats 2000000 in
theorem branch_eq {F : FTy → Type} [FloatOps F] (h : FVec F S128x1024 .bf16) (u z v34 v39 v40 : FVec F S128x512 .f32) (v67 v71 : Vec F S1x512 .f32) (w0 w1 w2 w3 : Vec F S1x128x256 .bf16) (bias : Vec F S128x512 .f32) (wp : Vec F S512x1024 .bf16) (wg : Vec F S1024x2048 .bf16) :
    branch h u z v34 v39 v40 v67 v71 w0 w1 w2 w3 bias wp wg = tail h u z (side (k0_pay13 v34 v39 v40 v67 v71) w0 w1 w2 w3) bias wp wg := rfl
theorem across0 (y0 y1 y2 y3 : Vec Ideal S128x128 .f32) (r : Fin 128) (b : Fin 128) :
    concatenate S128x512 1 [⟨S128x128, y0⟩, ⟨S128x128, y1⟩, ⟨S128x128, y2⟩, ⟨S128x128, y3⟩] concatenates_S128x128_S128x128_S128x128_S128x128_S128x512_d1 (ix2 r ⟨0 * 128 + b.val, by omega⟩) = y0 (ix2 r b) := by
  pointwise
theorem tile0 (n : Vec Ideal S128x512 .f32) (a b : Fin 128) : extractStridedSlice S128x128 ![0, 0] n slices_S128x512_o0_0_S128x128 (ix2 a b) = n (ix2 a ⟨0 * 128 + b.val, by omega⟩) := by
  pointwise
theorem across1 (y0 y1 y2 y3 : Vec Ideal S128x128 .f32) (r : Fin 128) (b : Fin 128) :
    concatenate S128x512 1 [⟨S128x128, y0⟩, ⟨S128x128, y1⟩, ⟨S128x128, y2⟩, ⟨S128x128, y3⟩] concatenates_S128x128_S128x128_S128x128_S128x128_S128x512_d1 (ix2 r ⟨1 * 128 + b.val, by omega⟩) = y1 (ix2 r b) := by
  pointwise
theorem tile1 (n : Vec Ideal S128x512 .f32) (a b : Fin 128) : extractStridedSlice S128x128 ![0, 128] n slices_S128x512_o0_128_S128x128 (ix2 a b) = n (ix2 a ⟨1 * 128 + b.val, by omega⟩) := by
  pointwise
theorem across2 (y0 y1 y2 y3 : Vec Ideal S128x128 .f32) (r : Fin 128) (b : Fin 128) :
    concatenate S128x512 1 [⟨S128x128, y0⟩, ⟨S128x128, y1⟩, ⟨S128x128, y2⟩, ⟨S128x128, y3⟩] concatenates_S128x128_S128x128_S128x128_S128x128_S128x512_d1 (ix2 r ⟨2 * 128 + b.val, by omega⟩) = y2 (ix2 r b) := by
  pointwise
  rw [dif_neg (by omega), dif_neg (by omega), dif_pos (by omega)]
  exact congrArg y2 (congrArg (fun b => ix2 r b) (Fin.ext (by simp only []; omega)))
theorem tile2 (n : Vec Ideal S128x512 .f32) (a b : Fin 128) : extractStridedSlice S128x128 ![0, 256] n slices_S128x512_o0_256_S128x128 (ix2 a b) = n (ix2 a ⟨2 * 128 + b.val, by omega⟩) := by
  pointwise
theorem across3 (y0 y1 y2 y3 : Vec Ideal S128x128 .f32) (r : Fin 128) (b : Fin 128) :
    concatenate S128x512 1 [⟨S128x128, y0⟩, ⟨S128x128, y1⟩, ⟨S128x128, y2⟩, ⟨S128x128, y3⟩] concatenates_S128x128_S128x128_S128x128_S128x128_S128x512_d1 (ix2 r ⟨3 * 128 + b.val, by omega⟩) = y3 (ix2 r b) := by
  pointwise
  rw [dif_neg (by omega), dif_neg (by omega), dif_neg (by omega)]
  exact congrArg y3 (congrArg (fun b => ix2 r b) (Fin.ext (by simp only []; omega)))
theorem tile3 (n : Vec Ideal S128x512 .f32) (a b : Fin 128) : extractStridedSlice S128x128 ![0, 384] n slices_S128x512_o0_384_S128x128 (ix2 a b) = n (ix2 a ⟨3 * 128 + b.val, by omega⟩) := by
  pointwise
/-- The mixing at a row and a column of the first head of a pair. -/
theorem side_lo (n : Vec Ideal S128x512 .f32) (w : Fin 4 → Vec Ideal S1x128x256 .bf16) (j : Fin 4) (a : Fin 128) (b : Fin 64) :
    side (F := Ideal) n (w 0) (w 1) (w 2) (w 3) (ix2 a ⟨j.val * 128 + b.val, by omega⟩) = ∑ s : Fin 128, w j (ix3 0 a ⟨s.val, by omega⟩) * n (ix2 s ⟨j.val * 128 + b.val, by omega⟩) := by
  unfold side
  fin_cases j
  · refine (across0 _ _ _ _ a ⟨b.val, by omega⟩).trans ((blk_lo _ _ a b).trans ?_)
    exact Finset.sum_congr rfl fun s _ => congrArg (_ * ·) (tile0 n s ⟨b.val, by omega⟩)
  · refine (across1 _ _ _ _ a ⟨b.val, by omega⟩).trans ((blk_lo _ _ a b).trans ?_)
    exact Finset.sum_congr rfl fun s _ => congrArg (_ * ·) (tile1 n s ⟨b.val, by omega⟩)
  · refine (across2 _ _ _ _ a ⟨b.val, by omega⟩).trans ((blk_lo _ _ a b).trans ?_)
    exact Finset.sum_congr rfl fun s _ => congrArg (_ * ·) (tile2 n s ⟨b.val, by omega⟩)
  · refine (across3 _ _ _ _ a ⟨b.val, by omega⟩).trans ((blk_lo _ _ a b).trans ?_)
    exact Finset.sum_congr rfl fun s _ => congrArg (_ * ·) (tile3 n s ⟨b.val, by omega⟩)
/-- The mixing at a row and a column of the second head of a pair. -/
theorem side_hi (n : Vec Ideal S128x512 .f32) (w : Fin 4 → Vec Ideal S1x128x256 .bf16) (j : Fin 4) (a : Fin 128) (b : Fin 64) :
    side (F := Ideal) n (w 0) (w 1) (w 2) (w 3) (ix2 a ⟨j.val * 128 + (64 + b.val), by omega⟩) = ∑ s : Fin 128, w j (ix3 0 a ⟨128 + s.val, by omega⟩) * n (ix2 s ⟨j.val * 128 + (64 + b.val), by omega⟩) := by
  unfold side
  fin_cases j
  · refine (across0 _ _ _ _ a ⟨64 + b.val, by omega⟩).trans ((blk_hi _ _ a b).trans ?_)
    exact Finset.sum_congr rfl fun s _ => congrArg (_ * ·) (tile0 n s ⟨64 + b.val, by omega⟩)
  · refine (across1 _ _ _ _ a ⟨64 + b.val, by omega⟩).trans ((blk_hi _ _ a b).trans ?_)
    exact Finset.sum_congr rfl fun s _ => congrArg (_ * ·) (tile1 n s ⟨64 + b.val, by omega⟩)
  · refine (across2 _ _ _ _ a ⟨64 + b.val, by omega⟩).trans ((blk_hi _ _ a b).trans ?_)
    exact Finset.sum_congr rfl fun s _ => congrArg (_ * ·) (tile2 n s ⟨64 + b.val, by omega⟩)
  · refine (across3 _ _ _ _ a ⟨64 + b.val, by omega⟩).trans ((blk_hi _ _ a b).trans ?_)
    exact Finset.sum_congr rfl fun s _ => congrArg (_ * ·) (tile3 n s ⟨64 + b.val, by omega⟩)

/-- The first branch is the activation of its columns. -/
theorem gu_apply (x : Vec Ideal S1x128x1024 .f32) (s : Vec Ideal S1x1024 .f32) (w : Vec Ideal S1024x1536 .bf16) (r : Fin 128) (l : Fin 512) :
    k0_pay8 (F := Ideal) x s w (ix2 r l) = gelu (k0_pay7 (F := Ideal) x s w (ix2 r ⟨l.val, by omega⟩)) := by
  unfold k0_pay8
  generalize k0_pay7 (F := Ideal) x s w = g
  unfold gelu
  pointwise
/-- The second branch, activated and normalised along the row. -/
theorem vn_apply (x : Vec Ideal S1x128x1024 .f32) (s : Vec Ideal S1x1024 .f32) (w : Vec Ideal S1024x1536 .bf16) (g b : Vec Ideal S1x512 .f32) (r : Fin 128) (l : Fin 512) :
    k0_pay13 (F := Ideal) (k0_pay9 x s w) (k0_pay10 x s w) k0_pay11 g b (ix2 r l) = layerRow (fun k => gelu (k0_pay7 (F := Ideal) x s w (ix2 r ⟨512 + k.val, by omega⟩))) (fun k => g (ix2 0 k)) (fun k => b (ix2 0 k)) l := by
  unfold k0_pay10 k0_pay9
  generalize k0_pay7 (F := Ideal) x s w = v
  unfold layerRow mean gelu
  pointwise [k0_pay13, k0_pay11]
/-- The stored normalised rows are the rows. -/
theorem vnout_apply (v34 v39 v40 : Vec Ideal S128x512 .f32) (g b : Vec Ideal S1x512 .f32) (r : Fin 128) (l : Fin 512) :
    k0_pay14 (F := Ideal) v34 v39 v40 g b (ix3 0 r l) = k0_pay13 (F := Ideal) v34 v39 v40 g b (ix2 r l) := by
  unfold k0_pay14
  generalize k0_pay13 (F := Ideal) v34 v39 v40 g b = n
  pointwise
/-- The third branch is its columns. -/
theorem za_apply (v : Vec Ideal S128x1536 .f32) (r : Fin 128) (l : Fin 512) : k0_pay12 (F := Ideal) v (ix2 r l) = v (ix2 r ⟨1024 + l.val, by omega⟩) := by
  pointwise [k0_pay12]
theorem ga_apply (h : Vec Ideal S128x1024 .bf16) (w : Vec Ideal S1024x2048 .bf16) (r : Fin 128) (l : Fin 2048) :
    k0_pay21 (F := Ideal) h w (ix2 r l) = ∑ k, h (ix2 r k) * w (ix2 k l) := by
  pointwise [k0_pay21]
/-- What is stored of the branch. -/
theorem tail_apply (h : Vec Ideal S128x1024 .bf16) (u z mx : Vec Ideal S128x512 .f32) (bias : Vec Ideal S128x512 .f32) (wp : Vec Ideal S512x1024 .bf16) (w : Vec Ideal S1024x2048 .bf16) (a : Fin 128) (l : Fin 1024) :
    tail (F := Ideal) h u z mx bias wp w (ix3 0 a l) = outRow (fun q => u (ix2 a q)) (fun q => mx (ix2 a q)) (fun q => bias (ix2 a q)) (fun q => z (ix2 a q)) (k0_pay21 (F := Ideal) h w (ix2 a ⟨l.val, by omega⟩)) (fun q => wp (ix2 q l)) := by
  unfold tail
  generalize k0_pay21 (F := Ideal) h w = ga
  unfold outRow
  pointwise

/-- A sum over 128 tokens with weights that vanish outside a token's block of 16 is a sum over the block. -/
theorem sum_part (d : Fin 8) (w f : Fin 128 → EReal) (v : Fin 16 → EReal)
    (h0 : ∀ (p : Fin 8) (s : Fin 16), p ≠ d → w ⟨p.val * 16 + s.val, by omega⟩ = 0) (h1 : ∀ s : Fin 16, w ⟨d.val * 16 + s.val, by omega⟩ = v s) :
    ∑ s, w s * f s = ∑ s : Fin 16, v s * f ⟨d.val * 16 + s.val, by omega⟩ := by
  have e : ∑ s : Fin 128, w s * f s = ∑ z : Fin 8 × Fin 16, w ⟨z.1.val * 16 + z.2.val, by omega⟩ * f ⟨z.1.val * 16 + z.2.val, by omega⟩ := by
    refine (Fintype.sum_equiv (finProdFinEquiv (m := 8) (n := 16)) _ _ fun z => ?_).symm
    have hz : (⟨z.1.val * 16 + z.2.val, by omega⟩ : Fin 128) = finProdFinEquiv (m := 8) (n := 16) z := Fin.ext (by simp [finProdFinEquiv]; omega)
    rw [hz]
  rw [e, Fintype.sum_prod_type]
  refine (Finset.sum_eq_single d (fun p _ hp => ?_) (fun h => absurd (Finset.mem_univ d) h)).trans ?_
  · exact Finset.sum_eq_zero fun s _ => by rw [h0 p s hp, zero_mul]
  · exact Finset.sum_congr rfl fun s _ => by rw [h1 s]

end Cert.Kernel3Ideal.Mix
-- ==== Proof.Value3.lean ====
/-
  The sample projection's blocks read at an index of the launch's arguments, and the arrays it leaves: each is the reference's.
-/
module

public import proofs.«01_k».proof.Proof.Entry3
public import proofs.«01_k».proof.Proof.RefMix3
public import proofs.«01_k».proof.Proof.Mix3
public import proofs.«01_k».proof.Proof.Gen.Kernel3Ideal.Value

@[expose] public section

set_option maxRecDepth 16384

noncomputable section

namespace Cert.Kernel3Ideal.Entry

open Cert.Kernel3Ideal Cert.Kernel3Ideal.Gen Cert.Kernel3Ideal.Value Cert.Kernel3Ideal.Left Cert.Kernel3Ideal.Rows Cert.Kernel3Ideal.Mix
open Cert.KernelIdeal.Deep (normRow)
open Cert.Spec (gelu mean layerRow outRow)
open Cert.Reference3Ideal.Read
open Idealize.ShloMosaic Idealize.ShloMosaic.TcCoe

theorem packed0_apply (x : Vec Ideal S8x16x1024 .f32) (r : Fin 128) (k : Fin 1024) : flat x (ix3 0 r k) = x (ix3 (part r) (place r) k) := by
  pointwise [flat, part, place]
theorem eye_apply (a b : Fin 8) : eye (ix2 a b) = if a = b then 1 else 0 := by
  have e : ∀ a b : Fin 8, cmpi .eq (addi (iotaInDim S8x8 32 0) (broadcastInDim S8x8 ![] bcast_S_S8x8 (constantI S_ 32 0#32))) (iotaInDim S8x8 32 1) (ix2 a b) = if a = b then 1#1 else 0#1 := by decide +kernel
  have h : eye (ix2 a b) = FloatOps.uitofp (F := Ideal) .f32 (if a = b then 1#1 else 0#1 : BitVec 1) := congrArg (FloatOps.uitofp (F := Ideal) .f32) (e a b)
  rw [h]
  split <;> simp [FloatOps.uitofp]
/-- The spread matrices vanish off the diagonal blocks and are the first sixteen tokens' on them. -/
theorem spread_apply (x : Vec Ideal S1x8x128x128 .f32) (h : Fin 8) (a b : Fin 128) :
    spread x (ix3 h a b) = eye (ix2 (part a) (part b)) * x (ix4 0 h ⟨(place a).val, by omega⟩ ⟨(place b).val, by omega⟩) := by
  generalize hg : eye = g
  pointwise [spread, part, place, hg]
theorem packed1_apply (x : Vec Ideal S1x1024 .f32) (k : Fin 1024) : (fun i => shapeCast S1x1024 (fun i => shapeCast S1024 x shapeCasts_S1x1024_S1024 i) shapeCasts_S1024_S1x1024 i : FVec Ideal S1x1024 .f32) (ix2 0 k) = x (ix2 0 k) := by
  pointwise
theorem packed2_apply (x : Vec Ideal S1x1024x5704 .f32) (k : Fin 1024) (l : Fin 1536) : extractStridedSlice S1024x1536 ![0, 0] (packW x) slices_S1024x5704_S1024x1536_0_0 (ix2 k l) = x (ix3 0 k ⟨l.val, by omega⟩) := by
  pointwise [packW]
theorem packed4_apply (x : Vec Ideal S1x1024x5704 .f32) (k : Fin 1024) (l : Fin 2048) : extractStridedSlice S1024x2048 ![0, 3656] (packW x) slices_S1024x5704_S1024x2048_0_3656 (ix2 k l) = x (ix3 0 k ⟨3656 + l.val, by omega⟩) := by
  pointwise [packW]
theorem packed3_lo (x : Vec Ideal S1x1024x5704 .f32) (k : Fin 1024) (l : Fin 1024) : concatenate S1024x1088 1 [⟨S1024x1024, extractStridedSlice S1024x1024 ![0, 2048] (packW x) slices_S1024x5704_S1024x1024_0_2048⟩, ⟨S1024x64, extractStridedSlice S1024x64 ![0, 3584] (packW x) slices_S1024x5704_S1024x64_0_3584⟩] concatenates_S1024x1024_S1024x64_S1024x1088_d1 (ix2 k ⟨l.val, by omega⟩) = x (ix3 0 k ⟨2048 + l.val, by omega⟩) := by
  pointwise [packW]
theorem packed3_hi (x : Vec Ideal S1x1024x5704 .f32) (k : Fin 1024) (l : Fin 64) : concatenate S1024x1088 1 [⟨S1024x1024, extractStridedSlice S1024x1024 ![0, 2048] (packW x) slices_S1024x5704_S1024x1024_0_2048⟩, ⟨S1024x64, extractStridedSlice S1024x64 ![0, 3584] (packW x) slices_S1024x5704_S1024x64_0_3584⟩] concatenates_S1024x1024_S1024x64_S1024x1088_d1 (ix2 k ⟨1024 + l.val, by omega⟩) = x (ix3 0 k ⟨3584 + l.val, by omega⟩) := by
  pointwise [packW]
theorem packed6_apply (x : Vec Ideal S1x512 .f32) (k : Fin 512) : (fun i => shapeCast S1x512 (fun i => shapeCast S512 x shapeCasts_S1x512_S512 i) shapeCasts_S512_S1x512 i : FVec Ideal S1x512 .f32) (ix2 0 k) = x (ix2 0 k) := by
  pointwise
theorem packed8_lo (x : Vec Ideal S8x128x128 .f32) (n : Fin 4) (a b : Fin 128) : packMix x (ix3 n a ⟨b.val, by omega⟩) = x (ix3 ⟨n.val * 2, by omega⟩ a b) := by
  pointwise [packMix]
theorem packed8_hi (x : Vec Ideal S8x128x128 .f32) (n : Fin 4) (a b : Fin 128) : packMix x (ix3 n a ⟨128 + b.val, by omega⟩) = x (ix3 ⟨n.val * 2 + 1, by omega⟩ a b) := by
  pointwise [packMix]
theorem packed9_apply (x : Vec Ideal S1x8x128 .f32) (a : Fin 128) (q : Fin 512) : packBias x (ix2 a q) = x (ix3 0 ⟨q.val / 64, by omega⟩ ⟨(place a).val, by omega⟩) := by
  pointwise [packBias, place]
theorem packed10_apply (x : Vec Ideal S1x512x1024 .f32) (q : Fin 512) (k : Fin 1024) : (truncf (F := Ideal) .bf16 (fun i => shapeCast S512x1024 x shapeCasts_S1x512x1024_S512x1024 i) bitsLt_bf16_f32 : FVec Ideal S512x1024 .bf16) (ix2 q k) = x (ix3 0 q k) := by
  pointwise

variable (m : (ℓ : Loc nD τ sig) → Buf (Elt Ideal) ℓ)

theorem window0_apply (c : Dev nD) (t : Fin cfg0.N) (r : Fin 128) (k : Fin 1024) : iblk m c 0 t (ix3 0 r k) = m ((c : Thread nD τ).loc main_arg0) (ix3 (part r) (place r) k) :=
  (whole0_apply m c t r k).trans ((congrFun (entered0 m c) (ix3 0 r k)).trans (packed0_apply _ r k))
theorem window1_apply (c : Dev nD) (t : Fin cfg0.N) (k : Fin 1024) : iblk m c 1 t (ix2 0 k) = m ((c : Thread nD τ).loc main_arg1) (ix2 0 k) :=
  (whole1_apply m c t 0 k).trans ((congrFun (entered1 m c) (ix2 0 k)).trans (packed1_apply _ k))
theorem window2_apply (c : Dev nD) (t : Fin cfg0.N) (k : Fin 1024) (l : Fin 1536) : iblk m c 2 t (ix2 k l) = m ((c : Thread nD τ).loc main_arg2) (ix3 0 k ⟨l.val, by omega⟩) :=
  (whole2_apply m c t k l).trans ((congrFun (entered2 m c) (ix2 k l)).trans (packed2_apply _ k l))
theorem window3_lo (c : Dev nD) (t : Fin cfg0.N) (k : Fin 1024) (l : Fin 1024) : iblk m c 3 t (ix2 k (⟨l.val, by omega⟩ : Fin 1088)) = m ((c : Thread nD τ).loc main_arg2) (ix3 0 k ⟨2048 + l.val, by omega⟩) :=
  (whole3_apply m c t k (⟨l.val, by omega⟩ : Fin 1088)).trans ((congrFun (entered3 m c) (ix2 k (⟨l.val, by omega⟩ : Fin 1088))).trans (packed3_lo _ k l))
theorem window3_hi (c : Dev nD) (t : Fin cfg0.N) (k : Fin 1024) (l : Fin 64) : iblk m c 3 t (ix2 k (⟨1024 + l.val, by omega⟩ : Fin 1088)) = m ((c : Thread nD τ).loc main_arg2) (ix3 0 k ⟨3584 + l.val, by omega⟩) :=
  (whole3_apply m c t k (⟨1024 + l.val, by omega⟩ : Fin 1088)).trans ((congrFun (entered3 m c) (ix2 k (⟨1024 + l.val, by omega⟩ : Fin 1088))).trans (packed3_hi _ k l))
theorem window4_apply (c : Dev nD) (t : Fin cfg0.N) (k : Fin 1024) (l : Fin 2048) : iblk m c 4 t (ix2 k l) = m ((c : Thread nD τ).loc main_arg2) (ix3 0 k ⟨3656 + l.val, by omega⟩) :=
  (whole4_apply m c t k l).trans ((congrFun (entered4 m c) (ix2 k l)).trans (packed4_apply _ k l))
theorem window6_apply (c : Dev nD) (t : Fin cfg0.N) (k : Fin 512) : iblk m c 6 t (ix2 0 k) = m ((c : Thread nD τ).loc main_arg3) (ix2 0 k) :=
  (whole6_apply m c t 0 k).trans ((congrFun (entered6 m c) (ix2 0 k)).trans (packed6_apply _ k))
theorem window7_apply (c : Dev nD) (t : Fin cfg0.N) (k : Fin 512) : iblk m c 7 t (ix2 0 k) = m ((c : Thread nD τ).loc main_arg4) (ix2 0 k) :=
  (whole7_apply m c t 0 k).trans ((congrFun (entered7 m c) (ix2 0 k)).trans (packed6_apply _ k))
theorem window8_lo (c : Dev nD) (t : Fin cfg0.N) (n : Fin 4) (a b : Fin 128) : iblk m c 8 t (ix3 n a (⟨b.val, by omega⟩ : Fin 256)) = spread (m ((c : Thread nD τ).loc main_arg5)) (ix3 ⟨n.val * 2, by omega⟩ a b) :=
  (whole8_apply m c t n a (⟨b.val, by omega⟩ : Fin 256)).trans ((congrFun (entered8 m c) (ix3 n a (⟨b.val, by omega⟩ : Fin 256))).trans (packed8_lo _ n a b))
theorem window8_hi (c : Dev nD) (t : Fin cfg0.N) (n : Fin 4) (a b : Fin 128) : iblk m c 8 t (ix3 n a (⟨128 + b.val, by omega⟩ : Fin 256)) = spread (m ((c : Thread nD τ).loc main_arg5)) (ix3 ⟨n.val * 2 + 1, by omega⟩ a b) :=
  (whole8_apply m c t n a (⟨128 + b.val, by omega⟩ : Fin 256)).trans ((congrFun (entered8 m c) (ix3 n a (⟨128 + b.val, by omega⟩ : Fin 256))).trans (packed8_hi _ n a b))
theorem window9_apply (c : Dev nD) (t : Fin cfg0.N) (a : Fin 128) (q : Fin 512) : iblk m c 9 t (ix2 a q) = m ((c : Thread nD τ).loc main_arg6) (ix3 0 ⟨q.val / 64, by omega⟩ ⟨(place a).val, by omega⟩) :=
  (whole9_apply m c t a q).trans ((congrFun (entered9 m c) (ix2 a q)).trans (packed9_apply _ a q))
theorem window10_apply (c : Dev nD) (t : Fin cfg0.N) (q : Fin 512) (k : Fin 1024) : iblk m c 10 t (ix2 q k) = m ((c : Thread nD τ).loc main_arg7) (ix3 0 q k) :=
  (whole10_apply m c t q k).trans ((congrFun (entered10 m c) (ix2 q k)).trans (packed10_apply _ q k))

/-- A row of the one block, normalised, is its token's. -/
theorem rows_eq (c : Dev nD) (t : Fin cfg0.N) (r : Fin 128) (k : Fin 1024) :
    k0_pay6 (iblk m c 0 t) (iblk m c 1 t) (ix2 r k) = normRow (fun k => m ((c : Thread nD τ).loc main_arg0) (ix3 (part r) (place r) k)) (fun k => m ((c : Thread nD τ).loc main_arg1) (ix2 0 k)) k := by
  refine (rows_apply (iblk m c 0 t) (iblk m c 1 t) r k).trans ?_
  exact congrArg₂ (fun u s => normRow u s k) (funext fun k => window0_apply m c t r k) (funext fun k => window1_apply m c _ k)
/-- The one grid point. -/
def point : Fin cfg0.N := ⟨0, by decide⟩

theorem index12 : ∀ t : Fin cfg0.N, win0_12.index t 0 = 0 ∧ win0_12.index t 1 = 0 ∧ win0_12.index t 2 = 0 :=
  (by decide +kernel : ∀ t : Fin grid0.N, win0_12.index t 0 = 0 ∧ win0_12.index t 1 = 0 ∧ win0_12.index t 2 = 0)
/-- The array left, at an index, is what the body leaves there. -/
theorem at12 (c : Dev nD) (r : Fin 128) (l : Fin 1024) :
    (dats m 0 c).arrAt 12 cfg0.N (ix3 0 r l) = (dats m 0 c).flushed 12 point (ix3 0 r l) := by
  have h := congrFun (blocks12 m c point (flush0_12 _)) (ix3 0 r l)
  refine Eq.trans (congrArg ((dats m 0 c).arrAt 12 cfg0.N) (funext fun a => Fin.ext ?_)) h
  obtain ⟨e0, e1, e2⟩ := index12 point
  fin_cases a
  · show 0 = win0_12.index point 0 * 1 + 1 * 0
    omega
  · show r.val = win0_12.index point 1 * 128 + 1 * r.val
    omega
  · show l.val = win0_12.index point 2 * 1024 + 1 * l.val
    omega
theorem result12_eq (c : Dev nD) :
    (dats m 0 c).arrAt 12 cfg0.N = val_main_v116 (F := Ideal) (m ((c : Thread nD τ).loc main_arg0)) (m ((c : Thread nD τ).loc main_arg1)) (m ((c : Thread nD τ).loc main_arg2)) := by
  funext j
  obtain ⟨r, l, rfl⟩ : ∃ (r : Fin 128) (l : Fin 1024), j = ix3 0 r l := ⟨j 1, j 2, funext fun a => by fin_cases a <;> first | rfl | exact Subsingleton.elim (α := Fin 1) _ _⟩
  rw [at12, flushed12_A, left12]
  refine (gb_apply _ _ r l).trans (Eq.trans ?_ ((flat_v116 _ _ _ r l).trans (ref_v27 _ _ _ (part r) (place r) l)).symm)
  refine Finset.sum_congr rfl fun k _ => ?_
  rw [rows_eq]
  refine congrArg (_ * ·) ((window4_apply m c _ k ⟨1024 + l.val, by omega⟩).trans (congrArg (m ((c : Thread nD τ).loc main_arg2)) (congrArg (ix3 0 k) (Fin.ext ?_))))
  simp only []
  omega
theorem index13 : ∀ t : Fin cfg0.N, win0_13.index t 0 = 0 ∧ win0_13.index t 1 = 0 ∧ win0_13.index t 2 = 0 :=
  (by decide +kernel : ∀ t : Fin grid0.N, win0_13.index t 0 = 0 ∧ win0_13.index t 1 = 0 ∧ win0_13.index t 2 = 0)
/-- The array left, at an index, is what the body leaves there. -/
theorem at13 (c : Dev nD) (r : Fin 128) (l : Fin 512) :
    (dats m 0 c).arrAt 13 cfg0.N (ix3 0 r l) = (dats m 0 c).flushed 13 point (ix3 0 r l) := by
  have h := congrFun (blocks13 m c point (flush0_13 _)) (ix3 0 r l)
  refine Eq.trans (congrArg ((dats m 0 c).arrAt 13 cfg0.N) (funext fun a => Fin.ext ?_)) h
  obtain ⟨e0, e1, e2⟩ := index13 point
  fin_cases a
  · show 0 = win0_13.index point 0 * 1 + 1 * 0
    omega
  · show r.val = win0_13.index point 1 * 128 + 1 * r.val
    omega
  · show l.val = win0_13.index point 2 * 512 + 1 * l.val
    omega
theorem result13_eq (c : Dev nD) :
    (dats m 0 c).arrAt 13 cfg0.N = val_main_v117 (F := Ideal) (m ((c : Thread nD τ).loc main_arg0)) (m ((c : Thread nD τ).loc main_arg1)) (m ((c : Thread nD τ).loc main_arg2)) := by
  funext j
  obtain ⟨r, l, rfl⟩ : ∃ (r : Fin 128) (l : Fin 512), j = ix3 0 r l := ⟨j 1, j 2, funext fun a => by fin_cases a <;> first | rfl | exact Subsingleton.elim (α := Fin 1) _ _⟩
  rw [at13, flushed13_A, left13]
  refine (zb_apply _ _ r l).trans (Eq.trans ?_ ((flat_v117 _ _ _ r l).trans (ref_v22 _ _ _ (part r) (place r) l)).symm)
  refine Finset.sum_congr rfl fun k _ => ?_
  rw [rows_eq]
  refine congrArg (_ * ·) ((window3_lo m c _ k ⟨512 + l.val, by omega⟩).trans (congrArg (m ((c : Thread nD τ).loc main_arg2)) (congrArg (ix3 0 k) (Fin.ext ?_))))
  simp only []
  omega
theorem index14 : ∀ t : Fin cfg0.N, win0_14.index t 0 = 0 ∧ win0_14.index t 1 = 0 ∧ win0_14.index t 2 = 0 :=
  (by decide +kernel : ∀ t : Fin grid0.N, win0_14.index t 0 = 0 ∧ win0_14.index t 1 = 0 ∧ win0_14.index t 2 = 0)
/-- The array left, at an index, is what the body leaves there. -/
theorem at14 (c : Dev nD) (r : Fin 128) (l : Fin 256) :
    (dats m 0 c).arrAt 14 cfg0.N (ix3 0 r l) = (dats m 0 c).flushed 14 point (ix3 0 r l) := by
  have h := congrFun (blocks14 m c point (flush0_14 _)) (ix3 0 r l)
  refine Eq.trans (congrArg ((dats m 0 c).arrAt 14 cfg0.N) (funext fun a => Fin.ext ?_)) h
  obtain ⟨e0, e1, e2⟩ := index14 point
  fin_cases a
  · show 0 = win0_14.index point 0 * 1 + 1 * 0
    omega
  · show r.val = win0_14.index point 1 * 128 + 1 * r.val
    omega
  · show l.val = win0_14.index point 2 * 256 + 1 * l.val
    omega
theorem result14_eq (c : Dev nD) :
    (dats m 0 c).arrAt 14 cfg0.N = val_main_v118 (F := Ideal) (m ((c : Thread nD τ).loc main_arg0)) (m ((c : Thread nD τ).loc main_arg1)) (m ((c : Thread nD τ).loc main_arg2)) := by
  funext j
  obtain ⟨r, l, rfl⟩ : ∃ (r : Fin 128) (l : Fin 256), j = ix3 0 r l := ⟨j 1, j 2, funext fun a => by fin_cases a <;> first | rfl | exact Subsingleton.elim (α := Fin 1) _ _⟩
  rw [at14, flushed14_A, left14]
  refine (k_apply _ _ r l).trans (Eq.trans ?_ ((flat_v118 _ _ _ r l).trans (ref_v20 _ _ _ (part r) (place r) l)).symm)
  refine Finset.sum_congr rfl fun k _ => ?_
  rw [rows_eq]
  refine congrArg (_ * ·) ((window3_lo m c _ k ⟨0 + l.val, by omega⟩).trans (congrArg (m ((c : Thread nD τ).loc main_arg2)) (congrArg (ix3 0 k) (Fin.ext ?_))))
  simp only []
  omega
theorem index15 : ∀ t : Fin cfg0.N, win0_15.index t 0 = 0 ∧ win0_15.index t 1 = 0 ∧ win0_15.index t 2 = 0 :=
  (by decide +kernel : ∀ t : Fin grid0.N, win0_15.index t 0 = 0 ∧ win0_15.index t 1 = 0 ∧ win0_15.index t 2 = 0)
/-- The array left, at an index, is what the body leaves there. -/
theorem at15 (c : Dev nD) (r : Fin 128) (l : Fin 256) :
    (dats m 0 c).arrAt 15 cfg0.N (ix3 0 r l) = (dats m 0 c).flushed 15 point (ix3 0 r l) := by
  have h := congrFun (blocks15 m c point (flush0_15 _)) (ix3 0 r l)
  refine Eq.trans (congrArg ((dats m 0 c).arrAt 15 cfg0.N) (funext fun a => Fin.ext ?_)) h
  obtain ⟨e0, e1, e2⟩ := index15 point
  fin_cases a
  · show 0 = win0_15.index point 0 * 1 + 1 * 0
    omega
  · show r.val = win0_15.index point 1 * 128 + 1 * r.val
    omega
  · show l.val = win0_15.index point 2 * 256 + 1 * l.val
    omega
theorem result15_eq (c : Dev nD) :
    (dats m 0 c).arrAt 15 cfg0.N = val_main_v119 (F := Ideal) (m ((c : Thread nD τ).loc main_arg0)) (m ((c : Thread nD τ).loc main_arg1)) (m ((c : Thread nD τ).loc main_arg2)) := by
  funext j
  obtain ⟨r, l, rfl⟩ : ∃ (r : Fin 128) (l : Fin 256), j = ix3 0 r l := ⟨j 1, j 2, funext fun a => by fin_cases a <;> first | rfl | exact Subsingleton.elim (α := Fin 1) _ _⟩
  rw [at15, flushed15_A, left15]
  refine (v_apply _ _ r l).trans (Eq.trans ?_ ((flat_v119 _ _ _ r l).trans (ref_v21 _ _ _ (part r) (place r) l)).symm)
  refine Finset.sum_congr rfl fun k _ => ?_
  rw [rows_eq]
  refine congrArg (_ * ·) ((window3_lo m c _ k ⟨256 + l.val, by omega⟩).trans (congrArg (m ((c : Thread nD τ).loc main_arg2)) (congrArg (ix3 0 k) (Fin.ext ?_))))
  simp only []
  omega
theorem index16 : ∀ t : Fin cfg0.N, win0_16.index t 0 = 0 ∧ win0_16.index t 1 = 0 ∧ win0_16.index t 2 = 0 :=
  (by decide +kernel : ∀ t : Fin grid0.N, win0_16.index t 0 = 0 ∧ win0_16.index t 1 = 0 ∧ win0_16.index t 2 = 0)
/-- The array left, at an index, is what the body leaves there. -/
theorem at16 (c : Dev nD) (r : Fin 128) (l : Fin 64) :
    (dats m 0 c).arrAt 16 cfg0.N (ix3 0 r l) = (dats m 0 c).flushed 16 point (ix3 0 r l) := by
  have h := congrFun (blocks16 m c point (flush0_16 _)) (ix3 0 r l)
  refine Eq.trans (congrArg ((dats m 0 c).arrAt 16 cfg0.N) (funext fun a => Fin.ext ?_)) h
  obtain ⟨e0, e1, e2⟩ := index16 point
  fin_cases a
  · show 0 = win0_16.index point 0 * 1 + 1 * 0
    omega
  · show r.val = win0_16.index point 1 * 128 + 1 * r.val
    omega
  · show l.val = win0_16.index point 2 * 64 + 1 * l.val
    omega
theorem result16_eq (c : Dev nD) :
    (dats m 0 c).arrAt 16 cfg0.N = val_main_v120 (F := Ideal) (m ((c : Thread nD τ).loc main_arg0)) (m ((c : Thread nD τ).loc main_arg1)) (m ((c : Thread nD τ).loc main_arg2)) := by
  funext j
  obtain ⟨r, l, rfl⟩ : ∃ (r : Fin 128) (l : Fin 64), j = ix3 0 r l := ⟨j 1, j 2, funext fun a => by fin_cases a <;> first | rfl | exact Subsingleton.elim (α := Fin 1) _ _⟩
  rw [at16, flushed16_A, left16]
  refine (ki_apply _ _ r l).trans (Eq.trans ?_ ((flat_v120 _ _ _ r l).trans (ref_v24 _ _ _ (part r) (place r) l)).symm)
  refine Finset.sum_congr rfl fun k _ => ?_
  rw [rows_eq]
  refine congrArg (_ * ·) ((window3_hi m c _ k l).trans (congrArg (m ((c : Thread nD τ).loc main_arg2)) (congrArg (ix3 0 k) (Fin.ext ?_))))
  rfl
theorem index11 : ∀ t : Fin cfg0.N, win0_11.index t 0 = 0 ∧ win0_11.index t 1 = 0 ∧ win0_11.index t 2 = 0 :=
  (by decide +kernel : ∀ t : Fin grid0.N, win0_11.index t 0 = 0 ∧ win0_11.index t 1 = 0 ∧ win0_11.index t 2 = 0)
/-- The array left, at an index, is what the body leaves there. -/
theorem at11 (c : Dev nD) (r : Fin 128) (l : Fin 1024) :
    (dats m 0 c).arrAt 11 cfg0.N (ix3 0 r l) = (dats m 0 c).flushed 11 point (ix3 0 r l) := by
  have h := congrFun (blocks11 m c point (flush0_11 _)) (ix3 0 r l)
  refine Eq.trans (congrArg ((dats m 0 c).arrAt 11 cfg0.N) (funext fun a => Fin.ext ?_)) h
  obtain ⟨e0, e1, e2⟩ := index11 point
  fin_cases a
  · show 0 = win0_11.index point 0 * 1 + 1 * 0
    omega
  · show r.val = win0_11.index point 1 * 128 + 1 * r.val
    omega
  · show l.val = win0_11.index point 2 * 1024 + 1 * l.val
    omega
theorem index23 : ∀ t : Fin cfg0.N, win0_23.index t 0 = 0 ∧ win0_23.index t 1 = 0 ∧ win0_23.index t 2 = 0 :=
  (by decide +kernel : ∀ t : Fin grid0.N, win0_23.index t 0 = 0 ∧ win0_23.index t 1 = 0 ∧ win0_23.index t 2 = 0)
/-- The array left, at an index, is what the body leaves there. -/
theorem at23 (c : Dev nD) (r : Fin 128) (l : Fin 512) :
    (dats m 0 c).arrAt 23 cfg0.N (ix3 0 r l) = (dats m 0 c).flushed 23 point (ix3 0 r l) := by
  have h := congrFun (blocks23 m c point (flush0_23 _)) (ix3 0 r l)
  refine Eq.trans (congrArg ((dats m 0 c).arrAt 23 cfg0.N) (funext fun a => Fin.ext ?_)) h
  obtain ⟨e0, e1, e2⟩ := index23 point
  fin_cases a
  · show 0 = win0_23.index point 0 * 1 + 1 * 0
    omega
  · show r.val = win0_23.index point 1 * 128 + 1 * r.val
    omega
  · show l.val = win0_23.index point 2 * 512 + 1 * l.val
    omega

end Cert.Kernel3Ideal.Entry
-- ==== Proof.Branch3.lean ====
/-
  The sample projection's gated branch and its normalised rows: the arrays left are the reference's.
-/
module

public import proofs.«01_k».proof.Proof.Value3

@[expose] public section

set_option maxRecDepth 16384

noncomputable section

namespace Cert.Kernel3Ideal.Entry

open Cert.Kernel3Ideal Cert.Kernel3Ideal.Gen Cert.Kernel3Ideal.Value Cert.Kernel3Ideal.Left Cert.Kernel3Ideal.Rows Cert.Kernel3Ideal.Mix
open Cert.KernelIdeal.Deep (normRow)
open Cert.Spec (gelu mean layerRow outRow)
open Cert.Reference3Ideal.Read
open Idealize.ShloMosaic Idealize.ShloMosaic.TcCoe

/-- One slab of the packed token matrices is its row of four. -/
theorem slab0_apply (x : Vec Ideal S4x128x256 .bf16) (h) (a : Fin 128) (b : Fin 256) : slab x 0 0 0 h (ix3 0 a b) = x (ix3 0 a b) :=
  congrArg x (funext fun i => Fin.ext (by fin_cases i <;> simp))
theorem slab1_apply (x : Vec Ideal S4x128x256 .bf16) (h) (a : Fin 128) (b : Fin 256) : slab x 1 0 0 h (ix3 0 a b) = x (ix3 1 a b) :=
  congrArg x (funext fun i => Fin.ext (by fin_cases i <;> simp))
theorem slab2_apply (x : Vec Ideal S4x128x256 .bf16) (h) (a : Fin 128) (b : Fin 256) : slab x 2 0 0 h (ix3 0 a b) = x (ix3 2 a b) :=
  congrArg x (funext fun i => Fin.ext (by fin_cases i <;> simp))
theorem slab3_apply (x : Vec Ideal S4x128x256 .bf16) (h) (a : Fin 128) (b : Fin 256) : slab x 3 0 0 h (ix3 0 a b) = x (ix3 3 a b) :=
  congrArg x (funext fun i => Fin.ext (by fin_cases i <;> simp))

/-- The four slabs of the packed token matrices. -/
def slabs (x : Vec Ideal S4x128x256 .bf16) : Fin 4 → Vec Ideal S1x128x256 .bf16 :=
  ![slab x 0 0 0 inb_S4x128x256_S1x128x256_0_0_0, slab x 1 0 0 inb_S4x128x256_S1x128x256_1_0_0, slab x 2 0 0 inb_S4x128x256_S1x128x256_2_0_0, slab x 3 0 0 inb_S4x128x256_S1x128x256_3_0_0]
theorem slabs_apply (x : Vec Ideal S4x128x256 .bf16) (j : Fin 4) (a : Fin 128) (b : Fin 256) : slabs x j (ix3 0 a b) = x (ix3 j a b) :=
  match j with
  | ⟨0, _⟩ => slab0_apply x _ a b
  | ⟨1, _⟩ => slab1_apply x _ a b
  | ⟨2, _⟩ => slab2_apply x _ a b
  | ⟨3, _⟩ => slab3_apply x _ a b

variable (m : (ℓ : Loc nD τ sig) → Buf (Elt Ideal) ℓ)

/-- A token's row times the columns of the three branches. -/
theorem uvz_eq (c : Dev nD) (t : Fin cfg0.N) (r : Fin 128) (l : Fin 1536) :
    k0_pay7 (iblk m c 0 t) (iblk m c 1 t) (iblk m c 2 t) (ix2 r l) = ∑ k, normRow (fun k => (m ((c : Thread nD τ).loc main_arg0)) (ix3 (part r) (place r) k)) (fun k => (m ((c : Thread nD τ).loc main_arg1)) (ix2 0 k)) k * (m ((c : Thread nD τ).loc main_arg2)) (ix3 0 k ⟨l.val, by omega⟩) := by
  refine (uvz_apply _ _ _ r l).trans (Finset.sum_congr rfl fun k _ => ?_)
  rw [rows_eq]
  exact congrArg (_ * ·) (window2_apply m c _ k l)
theorem gu_eq (c : Dev nD) (t : Fin cfg0.N) (r : Fin 128) (l : Fin 512) :
    k0_pay8 (iblk m c 0 t) (iblk m c 1 t) (iblk m c 2 t) (ix2 r l) = val_main_v44 (F := Ideal) (m ((c : Thread nD τ).loc main_arg0)) (m ((c : Thread nD τ).loc main_arg1)) (m ((c : Thread nD τ).loc main_arg2)) (ix3 (part r) (place r) l) := by
  refine (gu_apply _ _ _ r l).trans (Eq.trans (congrArg gelu ?_) (ref_gu _ _ _ (part r) (place r) l).symm)
  refine (uvz_eq m c t r _).trans (Eq.trans ?_ (ref_v16 _ _ _ (part r) (place r) l).symm)
  refine Finset.sum_congr rfl fun k _ => ?_
  refine congrArg (_ * ·) (congrArg (m ((c : Thread nD τ).loc main_arg2)) (congrArg (ix3 0 k) (Fin.ext ?_)))
  simp only []
  omega
theorem vn_eq (c : Dev nD) (t : Fin cfg0.N) (r : Fin 128) (l : Fin 512) :
    k0_pay13 (F := Ideal) (k0_pay9 (iblk m c 0 t) (iblk m c 1 t) (iblk m c 2 t)) (k0_pay10 (iblk m c 0 t) (iblk m c 1 t) (iblk m c 2 t)) (k0_pay11 (F := Ideal)) (iblk m c 6 t) (iblk m c 7 t) (ix2 r l) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (part r) (place r) l) := by
  refine (vn_apply _ _ _ _ _ r l).trans (Eq.trans ?_ (ref_ln _ _ _ _ _ (part r) (place r) l).symm)
  have hv : (fun k : Fin 512 => gelu (k0_pay7 (iblk m c 0 t) (iblk m c 1 t) (iblk m c 2 t) (ix2 r ⟨512 + k.val, by omega⟩)))
      = fun k => val_main_v57 (F := Ideal) (m ((c : Thread nD τ).loc main_arg0)) (m ((c : Thread nD τ).loc main_arg1)) (m ((c : Thread nD τ).loc main_arg2)) (ix3 (part r) (place r) k) := by
    funext k
    refine Eq.trans (congrArg gelu ?_) (ref_gv _ _ _ (part r) (place r) k).symm
    exact (uvz_eq m c t r _).trans (ref_v17 _ _ _ (part r) (place r) k).symm
  have hg : (fun k : Fin 512 => iblk m c 6 t (ix2 0 k)) = fun k => (m ((c : Thread nD τ).loc main_arg3)) (ix2 0 k) := funext fun k => window6_apply m c _ k
  have hb : (fun k : Fin 512 => iblk m c 7 t (ix2 0 k)) = fun k => (m ((c : Thread nD τ).loc main_arg4)) (ix2 0 k) := funext fun k => window7_apply m c _ k
  exact congrFun (congr (congrArg₂ layerRow hv hg) hb) l
theorem za_eq (c : Dev nD) (t : Fin cfg0.N) (r : Fin 128) (l : Fin 512) :
    k0_pay12 (k0_pay7 (iblk m c 0 t) (iblk m c 1 t) (iblk m c 2 t)) (ix2 r l) = val_main_v18 (F := Ideal) (m ((c : Thread nD τ).loc main_arg0)) (m ((c : Thread nD τ).loc main_arg1)) (m ((c : Thread nD τ).loc main_arg2)) (ix3 (part r) (place r) l) :=
  (za_apply _ r l).trans ((uvz_eq m c t r _).trans (ref_v18 _ _ _ (part r) (place r) l).symm)
theorem ga_eq (c : Dev nD) (t : Fin cfg0.N) (r : Fin 128) (l : Fin 1024) :
    k0_pay21 (k0_pay6 (iblk m c 0 t) (iblk m c 1 t)) (iblk m c 4 t) (ix2 r ⟨l.val, by omega⟩) = val_main_v26 (F := Ideal) (m ((c : Thread nD τ).loc main_arg0)) (m ((c : Thread nD τ).loc main_arg1)) (m ((c : Thread nD τ).loc main_arg2)) (ix3 (part r) (place r) l) := by
  refine (ga_apply _ _ r _).trans (Eq.trans ?_ (ref_v26 _ _ _ (part r) (place r) l).symm)
  refine Finset.sum_congr rfl fun k _ => ?_
  rw [rows_eq]
  exact congrArg (_ * ·) (window4_apply m c _ k _)
/-- The normalised rows left are the reference's. -/
theorem result23_eq (c : Dev nD) : (dats m 0 c).arrAt 23 cfg0.N = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext j
  obtain ⟨r, l, rfl⟩ : ∃ (r : Fin 128) (l : Fin 512), j = ix3 0 r l := ⟨j 1, j 2, funext fun a => by fin_cases a <;> first | rfl | exact Subsingleton.elim (α := Fin 1) _ _⟩
  rw [at23, flushed23_A, left23]
  exact (vnout_apply _ _ _ _ _ r l).trans ((vn_eq m c point r l).trans (flat_v121 _ _ _ _ _ r l).symm)

/-- The weight of one token of a block on another, read from the spread matrices: a sum over 128 tokens is one over the block's 16. -/
theorem mix_part (x : Vec Ideal S1x8x128x128 .f32) (h : Fin 8) (r : Fin 128) (w f : Fin 128 → EReal) (g : Fin 16 → EReal)
    (hw : ∀ s, w s = spread x (ix3 h r s)) (hf : ∀ (p : Fin 16) (s : Fin 128), s.val = (part r).val * 16 + p.val → f s = g p) :
    ∑ s, w s * f s = ∑ s : Fin 16, g s * x (ix4 0 h ⟨(place r).val, by omega⟩ ⟨s.val, by omega⟩) := by
  have hp : ∀ (p : Fin 8) (s : Fin 16), part ⟨p.val * 16 + s.val, by omega⟩ = p := fun p s => Fin.ext (by show (p.val * 16 + s.val) / 16 = p.val; omega)
  have hq : ∀ (p : Fin 8) (s : Fin 16), place ⟨p.val * 16 + s.val, by omega⟩ = s := fun p s => Fin.ext (by show (p.val * 16 + s.val) % 16 = s.val; omega)
  rw [sum_part (part r) w f (fun s => x (ix4 0 h ⟨(place r).val, by omega⟩ ⟨s.val, by omega⟩))]
  · exact Finset.sum_congr rfl fun s _ => by rw [hf s _ rfl, mul_comm]
  · intro p s hne
    rw [hw, spread_apply, eye_apply, hp, if_neg (Ne.symm hne), zero_mul]
  · intro s
    rw [hw, spread_apply, eye_apply, hp, if_pos rfl, one_mul]
    exact congrArg x (congrArg (fun z : Fin 16 => ix4 0 h _ (⟨z.val, by omega⟩ : Fin 128)) (hq _ s))

/-- A token's mixed row, with its bias, is the reference's. -/
theorem mixed_eq_ref (c : Dev nD) (t : Fin cfg0.N) (r : Fin 128) (q : Fin 512) :
    side (F := Ideal) (k0_pay13 (F := Ideal) (k0_pay9 (iblk m c 0 t) (iblk m c 1 t) (iblk m c 2 t)) (k0_pay10 (iblk m c 0 t) (iblk m c 1 t) (iblk m c 2 t)) (k0_pay11 (F := Ideal)) (iblk m c 6 t) (iblk m c 7 t)) (slabs (iblk m c 8 t) 0) (slabs (iblk m c 8 t) 1) (slabs (iblk m c 8 t) 2) (slabs (iblk m c 8 t) 3) (ix2 r q) + iblk m c 9 t (ix2 r q)
      = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (part r) (place r) q) := by
  have hq := q.isLt
  obtain ⟨j, hj⟩ : ∃ j : Fin 4, j.val = q.val / 128 := ⟨⟨q.val / 128, by omega⟩, rfl⟩
  obtain ⟨h, hh⟩ : ∃ h : Fin 8, h.val = q.val / 64 := ⟨⟨q.val / 64, by omega⟩, rfl⟩
  obtain ⟨e, he⟩ : ∃ e : Fin 64, e.val = q.val % 64 := ⟨⟨q.val % 64, by omega⟩, rfl⟩
  have hr := ref_mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (part r) (place r) h e
  have e2 : (⟨h.val * 64 + e.val, by omega⟩ : Fin 512) = q := Fin.ext (by simp only []; omega)
  simp only [e2, ref_mask] at hr
  rw [hr]
  have hf : ∀ (p : Fin 16) (s : Fin 128), s.val = (part r).val * 16 + p.val → k0_pay13 (F := Ideal) (k0_pay9 (iblk m c 0 t) (iblk m c 1 t) (iblk m c 2 t)) (k0_pay10 (iblk m c 0 t) (iblk m c 1 t) (iblk m c 2 t)) (k0_pay11 (F := Ideal)) (iblk m c 6 t) (iblk m c 7 t) (ix2 s q) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (part r) p q) := by
    intro p s hs
    refine (vn_eq m c t s q).trans ?_
    have e3 : part s = part r := Fin.ext (by show s.val / 16 = (part r).val; omega)
    have e4 : place s = p := Fin.ext (by show s.val % 16 = p.val; omega)
    rw [e3, e4]
  refine congrArg₂ (· + ·) ?_ ?_
  · by_cases hlo : q.val % 128 < 64
    · have e3 : (⟨j.val * 128 + e.val, by omega⟩ : Fin 512) = q := Fin.ext (by simp only []; omega)
      have hm := side_lo (k0_pay13 (F := Ideal) (k0_pay9 (iblk m c 0 t) (iblk m c 1 t) (iblk m c 2 t)) (k0_pay10 (iblk m c 0 t) (iblk m c 1 t) (iblk m c 2 t)) (k0_pay11 (F := Ideal)) (iblk m c 6 t) (iblk m c 7 t)) (slabs (iblk m c 8 t)) j r e
      simp only [e3] at hm
      refine hm.trans (mix_part (m ((c : Thread nD τ).loc main_arg5)) h r _ _ _ (fun s => ?_) hf)
      rw [slabs_apply]
      refine (window8_lo m c _ j _ s).trans ?_
      exact congrArg (spread _) (congrArg (fun z => ix3 z _ s) (Fin.ext (by simp only []; omega)))
    · have e3 : (⟨j.val * 128 + (64 + e.val), by omega⟩ : Fin 512) = q := Fin.ext (by simp only []; omega)
      have hm := side_hi (k0_pay13 (F := Ideal) (k0_pay9 (iblk m c 0 t) (iblk m c 1 t) (iblk m c 2 t)) (k0_pay10 (iblk m c 0 t) (iblk m c 1 t) (iblk m c 2 t)) (k0_pay11 (F := Ideal)) (iblk m c 6 t) (iblk m c 7 t)) (slabs (iblk m c 8 t)) j r e
      simp only [e3] at hm
      refine hm.trans (mix_part (m ((c : Thread nD τ).loc main_arg5)) h r _ _ _ (fun s => ?_) hf)
      rw [slabs_apply]
      refine (window8_hi m c _ j _ s).trans ?_
      exact congrArg (spread _) (congrArg (fun z => ix3 z _ s) (Fin.ext (by simp only []; omega)))
  · refine (window9_apply m c _ _ q).trans ?_
    exact congrArg (m ((c : Thread nD τ).loc main_arg6)) (congrArg (fun z => ix3 0 z _) (Fin.ext hh.symm))

set_option maxHeartbeats 1000000 in
/-- The branch's array is the reference's. -/
theorem result11_eq (c : Dev nD) : (dats m 0 c).arrAt 11 cfg0.N = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext z
  obtain ⟨r, l, rfl⟩ : ∃ (r : Fin 128) (l : Fin 1024), z = ix3 0 r l := ⟨z 1, z 2, funext fun a => by fin_cases a <;> first | rfl | exact Subsingleton.elim (α := Fin 1) _ _⟩
  have ho := fun t : Fin cfg0.N => tail_apply (k0_pay6 (iblk m c 0 t) (iblk m c 1 t)) (k0_pay8 (iblk m c 0 t) (iblk m c 1 t) (iblk m c 2 t)) (k0_pay12 (k0_pay7 (iblk m c 0 t) (iblk m c 1 t) (iblk m c 2 t))) (side (F := Ideal) (k0_pay13 (F := Ideal) (k0_pay9 (iblk m c 0 t) (iblk m c 1 t) (iblk m c 2 t)) (k0_pay10 (iblk m c 0 t) (iblk m c 1 t) (iblk m c 2 t)) (k0_pay11 (F := Ideal)) (iblk m c 6 t) (iblk m c 7 t)) (slabs (iblk m c 8 t) 0) (slabs (iblk m c 8 t) 1) (slabs (iblk m c 8 t) 2) (slabs (iblk m c 8 t) 3)) (iblk m c 9 t) (iblk m c 10 t) (iblk m c 4 t) r l
  rw [at11, flushed11_A, left11, branch_eq]
  refine Eq.trans (b := outRow _ _ _ _ _ _) (ho point) (Eq.trans ?_ ((flat_v115 _ _ _ _ _ _ _ _ r l).trans (ref_out _ _ _ _ _ _ _ _ (part r) (place r) l)).symm)
  unfold outRow
  rw [ga_eq]
  refine congrArg (_ * ·) (Finset.sum_congr rfl fun q _ => ?_)
  beta_reduce
  rw [gu_eq, za_eq, mixed_eq_ref]
  exact congrArg (_ * ·) (window10_apply m c _ q l)

end Cert.Kernel3Ideal.Entry
-- ==== Proof.Packed3.lean ====
/-
  What the sample projection's body leaves for the attention: in each of the six packed blocks, the value stored at every index.
-/
module

public import proofs.«01_k».proof.Proof.Left3
public import Idealize.ShloMosaic.Lib.Pipeline.ReadBack
public import Idealize.ShloMosaic.Lib.Pointwise

@[expose] public section

set_option maxRecDepth 16384

noncomputable section

namespace Cert.Kernel3Ideal.Left

open Cert.Kernel3Ideal Cert.Kernel3Ideal.Gen
open Idealize.ShloMosaic Idealize.ShloMosaic.TcCoe

theorem ld5 {F : FTy → Type} [FloatOps F] (x : Vec F S1288x1024 .bf16) : View.ld x (Rect.unit (s := S1288x1024) ![0, 0] ![1288, 1024] inb_S1288x1024_S1288x1024_0_0) = x := View.ld_unit_zero (funext fun a => by fin_cases a <;> rfl) _ x

/-- The scale of a query: the square root of the head's width, inverted, by the logarithm of the exponential's base. -/
abbrev scaleQ : Ideal .f32 := Scalar.ofBits .f32 0x3E38AA3B#32
/-- The scale of an indexer's query. -/
abbrev scaleI : Ideal .f32 := Scalar.ofBits .f32 0x3E000000#32
/-- The scale of an indexer's head weight. -/
abbrev scaleW : Ideal .f32 := Scalar.ofBits .f32 0x3EB504F3#32
/-- The one stored below each head's values. -/
abbrev oneV : Ideal .bf16 := Scalar.ofBits .bf16 0x3F80#16

/-- The keys, a head at a time. -/
def keysAt (k : FVec Ideal S128x256 .f32) : Vec Ideal S1x4x128x64 .bf16 := fun y =>
  k (ix2 (⟨(y 2).val, (y 2).isLt⟩ : Fin 128) (⟨(y 1).val * 64 + (y 3).val, by have h1 : (y 1).val < 4 := (y 1).isLt; have h3 : (y 3).val < 64 := (y 3).isLt; omega⟩ : Fin 256))
/-- The scaled queries, tokens last, the two heads of a group side by side. -/
def queriesAt (u : FVec Ideal S1288x128 .f32) : Vec Ideal S1x1x4x64x256 .bf16 := fun y =>
  u (ix2 (⟨((y 2).val * 2 + (y 4).val / 128) * 64 + (y 3).val, by have h2 : (y 2).val < 4 := (y 2).isLt; have h3 : (y 3).val < 64 := (y 3).isLt; have h4 : (y 4).val < 256 := (y 4).isLt; omega⟩ : Fin 1288)
    (⟨(y 1).val * 128 + (y 4).val % 128, by have h1 : (y 1).val < 1 := (y 1).isLt; omega⟩ : Fin 128)) * scaleQ
/-- The indexer's scaled queries, tokens last, the heads side by side. -/
def indexAt (u : FVec Ideal S1288x128 .f32) : Vec Ideal S1x1x64x1024 .bf16 := fun y =>
  u (ix2 (⟨512 + (y 3).val / 128 * 64 + (y 2).val, by have h2 : (y 2).val < 64 := (y 2).isLt; have h3 : (y 3).val < 1024 := (y 3).isLt; omega⟩ : Fin 1288)
    (⟨(y 1).val * 128 + (y 3).val % 128, by have h1 : (y 1).val < 1 := (y 1).isLt; omega⟩ : Fin 128)) * scaleI
/-- The indexer's scaled head weights, tokens last. -/
def weightsAt (u : FVec Ideal S1288x128 .f32) : Vec Ideal S1x8x128 .f32 := fun y =>
  u (ix2 (⟨1280 + (y 1).val, by have h1 : (y 1).val < 8 := (y 1).isLt; omega⟩ : Fin 1288) (⟨(y 2).val, (y 2).isLt⟩ : Fin 128)) * scaleW
/-- The values, tokens last, each head's rows followed by sixteen of ones. -/
def valuesAt (u : FVec Ideal S1288x128 .f32) : Vec Ideal S1x1x320x128 .bf16 := fun y =>
  if h : (y 2).val % 80 < 64 then u (ix2 (⟨1024 + (y 2).val / 80 * 64 + (y 2).val % 80, by have h2 : (y 2).val < 320 := (y 2).isLt; omega⟩ : Fin 1288) (⟨(y 3).val, (y 3).isLt⟩ : Fin 128)) else oneV

theorem key_piece (k : FVec Ideal S128x256 .f32) (kv : ℕ) (h : S128x256.Slices ![0, kv * 64] S128x64) (x : S1x1x128x64.Idx) (y : S1x4x128x64.Idx)
    (h1 : (y 1).val = kv + 1 * (x 1).val) (h2 : (y 2).val = 0 + 1 * (x 2).val) (h3 : (y 3).val = 0 + 1 * (x 3).val) :
    shapeCast S1x1x128x64 (truncf (F := Ideal) .bf16 (extractStridedSlice S128x64 ![0, kv * 64] k h) bitsLt_bf16_f32) shapeCasts_S128x64_S1x1x128x64 x = keysAt k y := by
  obtain ⟨a, b, r, d, rfl⟩ : ∃ (a : Fin 1) (b : Fin 1) (r : Fin 128) (d : Fin 64), x = ix4 a b r d := ⟨x 0, x 1, x 2, x 3, funext fun e => by fin_cases e <;> rfl⟩
  have hk : kv < 4 := by have := (y 1).isLt; have e : (y 1).val < 4 := (y 1).isLt; omega
  have e1 : (y 1).val = kv := by have hb := b.isLt; have : (y 1).val = kv + 1 * b.val := h1; omega
  have e2 : (y 2).val = r.val := by have : (y 2).val = 0 + 1 * r.val := h2; omega
  have e3 : (y 3).val = d.val := by have : (y 3).val = 0 + 1 * d.val := h3; omega
  have hp : shapeCast S1x1x128x64 (truncf (F := Ideal) .bf16 (extractStridedSlice S128x64 ![0, kv * 64] k h) bitsLt_bf16_f32) shapeCasts_S128x64_S1x1x128x64 (ix4 a b r d) = k (ix2 r (⟨kv * 64 + d.val, by omega⟩ : Fin 256)) := by
    pointwise
  refine hp.trans (congrArg k (congrArg₂ ix2 (Fin.ext e2.symm) (Fin.ext ?_)))
  show kv * 64 + d.val = (y 1).val * 64 + (y 3).val
  rw [e1, e3]

theorem query_piece (u : FVec Ideal S1288x128 .f32) (jb kv gi : ℕ) (h : S1288x128.Slices ![(kv * 2 + gi) * 64, jb * 128] S64x128) (x : S1x1x1x64x128.Idx) (y : S1x1x4x64x256.Idx)
    (h1 : (y 1).val = jb + 1 * (x 1).val) (h2 : (y 2).val = kv + 1 * (x 2).val) (h3 : (y 3).val = 0 + 1 * (x 3).val) (h4 : (y 4).val = gi * 128 + 1 * (x 4).val) (hj : jb < 1 := by decide) (hk : kv < 4 := by decide) (hg : gi < 2 := by decide) :
    shapeCast S1x1x1x64x128 (truncf (F := Ideal) .bf16 (mulf (extractStridedSlice S64x128 ![(kv * 2 + gi) * 64, jb * 128] u h) (broadcast S64x128 scaleQ)) bitsLt_bf16_f32) shapeCasts_S64x128_S1x1x1x64x128 x = queriesAt u y := by
  obtain ⟨a, b, c, d, j, rfl⟩ : ∃ (a : Fin 1) (b : Fin 1) (c : Fin 1) (d : Fin 64) (j : Fin 128), x = ix5 a b c d j := ⟨x 0, x 1, x 2, x 3, x 4, funext fun e => by fin_cases e <;> rfl⟩
  have e1 : (y 1).val = jb := by have hb := b.isLt; have : (y 1).val = jb + 1 * b.val := h1; omega
  have e2 : (y 2).val = kv := by have hb := c.isLt; have : (y 2).val = kv + 1 * c.val := h2; omega
  have e3 : (y 3).val = d.val := by have : (y 3).val = 0 + 1 * d.val := h3; omega
  have e4 : (y 4).val = gi * 128 + j.val := by have : (y 4).val = gi * 128 + 1 * j.val := h4; omega
  have hp : shapeCast S1x1x1x64x128 (truncf (F := Ideal) .bf16 (mulf (extractStridedSlice S64x128 ![(kv * 2 + gi) * 64, jb * 128] u h) (broadcast S64x128 scaleQ)) bitsLt_bf16_f32) shapeCasts_S64x128_S1x1x1x64x128 (ix5 a b c d j) = u (ix2 (⟨(kv * 2 + gi) * 64 + d.val, by omega⟩ : Fin 1288) (⟨jb * 128 + j.val, by omega⟩ : Fin 128)) * scaleQ := by
    pointwise
  refine hp.trans (congrArg (· * scaleQ) (congrArg u (congrArg₂ ix2 (Fin.ext ?_) (Fin.ext ?_))))
  · show (kv * 2 + gi) * 64 + d.val = ((y 2).val * 2 + (y 4).val / 128) * 64 + (y 3).val
    omega
  · show jb * 128 + j.val = (y 1).val * 128 + (y 4).val % 128
    omega

theorem index_piece (u : FVec Ideal S1288x128 .f32) (jb hh : ℕ) (h : S1288x128.Slices ![512 + hh * 64, jb * 128] S64x128) (x : S1x1x64x128.Idx) (y : S1x1x64x1024.Idx)
    (h1 : (y 1).val = jb + 1 * (x 1).val) (h2 : (y 2).val = 0 + 1 * (x 2).val) (h3 : (y 3).val = hh * 128 + 1 * (x 3).val) (hj : jb < 1 := by decide) (hk : hh < 8 := by decide) :
    shapeCast S1x1x64x128 (truncf (F := Ideal) .bf16 (mulf (extractStridedSlice S64x128 ![512 + hh * 64, jb * 128] u h) (broadcast S64x128 scaleI)) bitsLt_bf16_f32) shapeCasts_S64x128_S1x1x64x128 x = indexAt u y := by
  obtain ⟨a, b, d, j, rfl⟩ : ∃ (a : Fin 1) (b : Fin 1) (d : Fin 64) (j : Fin 128), x = ix4 a b d j := ⟨x 0, x 1, x 2, x 3, funext fun e => by fin_cases e <;> rfl⟩
  have e1 : (y 1).val = jb := by have hb := b.isLt; have : (y 1).val = jb + 1 * b.val := h1; omega
  have e2 : (y 2).val = d.val := by have : (y 2).val = 0 + 1 * d.val := h2; omega
  have e3 : (y 3).val = hh * 128 + j.val := by have : (y 3).val = hh * 128 + 1 * j.val := h3; omega
  have hp : shapeCast S1x1x64x128 (truncf (F := Ideal) .bf16 (mulf (extractStridedSlice S64x128 ![512 + hh * 64, jb * 128] u h) (broadcast S64x128 scaleI)) bitsLt_bf16_f32) shapeCasts_S64x128_S1x1x64x128 (ix4 a b d j) = u (ix2 (⟨512 + hh * 64 + d.val, by omega⟩ : Fin 1288) (⟨jb * 128 + j.val, by omega⟩ : Fin 128)) * scaleI := by
    pointwise
  refine hp.trans (congrArg (· * scaleI) (congrArg u (congrArg₂ ix2 (Fin.ext ?_) (Fin.ext ?_))))
  · show 512 + hh * 64 + d.val = 512 + (y 3).val / 128 * 64 + (y 2).val
    omega
  · show jb * 128 + j.val = (y 1).val * 128 + (y 3).val % 128
    omega

theorem value_piece (u : FVec Ideal S1288x128 .f32) (kv : ℕ) (h : S1288x128.Slices ![1024 + kv * 64, 0] S64x128) (x : S1x1x64x128.Idx) (y : S1x1x320x128.Idx)
    (h2 : (y 2).val = kv * 80 + 1 * (x 2).val) (h3 : (y 3).val = 0 + 1 * (x 3).val) (hk : kv < 4 := by decide) :
    shapeCast S1x1x64x128 (truncf (F := Ideal) .bf16 (extractStridedSlice S64x128 ![1024 + kv * 64, 0] u h) bitsLt_bf16_f32) shapeCasts_S64x128_S1x1x64x128 x = valuesAt u y := by
  obtain ⟨a, b, d, r, rfl⟩ : ∃ (a : Fin 1) (b : Fin 1) (d : Fin 64) (r : Fin 128), x = ix4 a b d r := ⟨x 0, x 1, x 2, x 3, funext fun e => by fin_cases e <;> rfl⟩
  have e2 : (y 2).val = kv * 80 + d.val := by have : (y 2).val = kv * 80 + 1 * d.val := h2; omega
  have e3 : (y 3).val = r.val := by have : (y 3).val = 0 + 1 * r.val := h3; omega
  have hp : shapeCast S1x1x64x128 (truncf (F := Ideal) .bf16 (extractStridedSlice S64x128 ![1024 + kv * 64, 0] u h) bitsLt_bf16_f32) shapeCasts_S64x128_S1x1x64x128 (ix4 a b d r) = u (ix2 (⟨1024 + kv * 64 + d.val, by omega⟩ : Fin 1288) r) := by
    pointwise
  have hd := d.isLt
  unfold valuesAt
  rw [dif_pos (show (y 2).val % 80 < 64 by omega)]
  refine hp.trans (congrArg u (congrArg₂ ix2 (Fin.ext ?_) (Fin.ext e3.symm)))
  show 1024 + kv * 64 + d.val = 1024 + (y 2).val / 80 * 64 + (y 2).val % 80
  omega

theorem ones_piece (u : FVec Ideal S1288x128 .f32) (kv : ℕ) (x : S1x1x16x128.Idx) (y : S1x1x320x128.Idx)
    (h2 : (y 2).val = kv * 80 + 64 + 1 * (x 2).val) :
    shapeCast S1x1x16x128 (broadcast S16x128 oneV : FVec Ideal S16x128 .bf16) shapeCasts_S16x128_S1x1x16x128 x = valuesAt u y := by
  have hd : (x 2).val < 16 := (x 2).isLt
  unfold valuesAt
  rw [dif_neg (show ¬ (y 2).val % 80 < 64 by omega)]
  rfl

theorem weights_piece (u : FVec Ideal S1288x128 .f32) (h : S1288x128.Slices ![1280, 0] S8x128) :
    shapeCast S1x8x128 (mulf (extractStridedSlice S8x128 ![1280, 0] u h) (broadcast S8x128 scaleW)) shapeCasts_S8x128_S1x8x128 = weightsAt u := by
  funext x
  obtain ⟨a, d, r, rfl⟩ : ∃ (a : Fin 1) (d : Fin 8) (r : Fin 128), x = ix3 a d r := ⟨x 0, x 1, x 2, funext fun e => by fin_cases e <;> rfl⟩
  unfold weightsAt
  pointwise

variable (c : Dev nD) (i : grid0.Coords) (arg2 : Memref sig .tc .vmem S1x128x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S1024x1088 .bf16) (harg5 : arg5.IsWhole) (arg6 : Memref sig .tc .vmem S1024x2048 .bf16) (harg6 : arg6.IsWhole) (arg7 : Memref sig .tc .vmem S1288x1024 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S4x128x256 .bf16) (harg10 : arg10.IsWhole) (arg11 : Memref sig .tc .vmem S128x512 .f32) (harg11 : arg11.IsWhole) (arg12 : Memref sig .tc .vmem S512x1024 .bf16) (harg12 : arg12.IsWhole) (arg13 : Memref sig .tc .vmem S1x128x1024 .bf16) (harg13 : arg13.IsWhole) (arg14 : Memref sig .tc .vmem S1x128x1024 .f32) (harg14 : arg14.IsWhole) (arg15 : Memref sig .tc .vmem S1x128x512 .f32) (harg15 : arg15.IsWhole) (arg16 : Memref sig .tc .vmem S1x128x256 .f32) (harg16 : arg16.IsWhole) (arg17 : Memref sig .tc .vmem S1x128x256 .f32) (harg17 : arg17.IsWhole) (arg18 : Memref sig .tc .vmem S1x128x64 .f32) (harg18 : arg18.IsWhole) (arg19 : Memref sig .tc .vmem S1x4x128x64 .bf16) (harg19 : arg19.IsWhole) (arg20 : Memref sig .tc .vmem S1x128x64 .bf16) (harg20 : arg20.IsWhole) (arg21 : Memref sig .tc .vmem S1x1x4x64x256 .bf16) (harg21 : arg21.IsWhole) (arg22 : Memref sig .tc .vmem S1x1x64x1024 .bf16) (harg22 : arg22.IsWhole) (arg23 : Memref sig .tc .vmem S1x8x128 .f32) (harg23 : arg23.IsWhole) (arg24 : Memref sig .tc .vmem S1x1x320x128 .bf16) (harg24 : arg24.IsWhole) (arg25 : Memref sig .tc .vmem S1x128x512 .f32) (harg25 : arg25.IsWhole)     (x0 : Vec Ideal S1x128x1024 .f32) (x1 : Vec Ideal S1x1024 .f32) (x2 : Vec Ideal S1024x1536 .bf16) (x3 : Vec Ideal S1024x1088 .bf16) (x4 : Vec Ideal S1024x2048 .bf16) (x5 : Vec Ideal S1288x1024 .bf16) (x6 : Vec Ideal S1x512 .f32) (x7 : Vec Ideal S1x512 .f32) (x8 : Vec Ideal S4x128x256 .bf16) (x9 : Vec Ideal S128x512 .f32) (x10 : Vec Ideal S512x1024 .bf16)

theorem left17 :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = keysAt (k0_pay26 (k0_pay6 x0 x1) x3) := by
  unfold out0_A_17
  rw [View.read_writes_junk_eq_canon]
  funext y
  refine View.canon_apply_of_pieces (keysAt (k0_pay26 (k0_pay6 x0 x1) x3)) _ (View.PiecesOf.mem ?_) y (by apply cover0_A_17)
  unfold kernelRun0_A
  dsimp only
  sl_unfold_words
  simp only [View.readAt_eq_ld, harg2.read_unread, harg3.read_unread, harg5.read_unread, harg7.read_unread, ld0, ld1, ld3, ld5]
  exact ⟨fun x => key_piece _ 3 slices_S128x256_o0_192_S128x64 x _ rfl rfl rfl,
    fun x => key_piece _ 2 slices_S128x256_o0_128_S128x64 x _ rfl rfl rfl,
    fun x => key_piece _ 1 slices_S128x256_o0_64_S128x64 x _ rfl rfl rfl,
    fun x => key_piece _ 0 slices_S128x256_o0_0_S128x64 x _ rfl rfl rfl, trivial⟩
theorem left18 :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = k0_pay32 (k0_pay6 x0 x1) x3 := by
  unfold out0_A_18
  rw [View.read_writes_junk_eq_canon]
  unfold kernelRun0_A
  dsimp only
  sl_unfold_words
  rw [View.canon_unit_zero off3]
  simp only [View.readAt_eq_ld, harg2.read_unread, harg3.read_unread, harg5.read_unread, harg7.read_unread, ld0, ld1, ld3, ld5]
theorem left19 :
    out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = queriesAt (k0_pay38 (k0_pay6 x0 x1) x5) := by
  unfold out0_A_19
  rw [View.read_writes_junk_eq_canon]
  funext y
  refine View.canon_apply_of_pieces (queriesAt (k0_pay38 (k0_pay6 x0 x1) x5)) _ (View.PiecesOf.mem ?_) y (by apply cover0_A_19)
  unfold kernelRun0_A
  dsimp only
  sl_unfold_words
  simp only [View.readAt_eq_ld, harg2.read_unread, harg3.read_unread, harg5.read_unread, harg7.read_unread, ld0, ld1, ld3, ld5]
  exact ⟨fun x => query_piece _ 0 3 1 slices_S1288x128_o448_0_S64x128 x _ rfl rfl rfl rfl,
    fun x => query_piece _ 0 3 0 slices_S1288x128_o384_0_S64x128 x _ rfl rfl rfl rfl,
    fun x => query_piece _ 0 2 1 slices_S1288x128_o320_0_S64x128 x _ rfl rfl rfl rfl,
    fun x => query_piece _ 0 2 0 slices_S1288x128_o256_0_S64x128 x _ rfl rfl rfl rfl,
    fun x => query_piece _ 0 1 1 slices_S1288x128_o192_0_S64x128 x _ rfl rfl rfl rfl,
    fun x => query_piece _ 0 1 0 slices_S1288x128_o128_0_S64x128 x _ rfl rfl rfl rfl,
    fun x => query_piece _ 0 0 1 slices_S1288x128_o64_0_S64x128 x _ rfl rfl rfl rfl,
    fun x => query_piece _ 0 0 0 slices_S1288x128_o0_0_S64x128 x _ rfl rfl rfl rfl, trivial⟩
theorem left20 :
    out0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = indexAt (k0_pay38 (k0_pay6 x0 x1) x5) := by
  unfold out0_A_20
  rw [View.read_writes_junk_eq_canon]
  funext y
  refine View.canon_apply_of_pieces (indexAt (k0_pay38 (k0_pay6 x0 x1) x5)) _ (View.PiecesOf.mem ?_) y (by apply cover0_A_20)
  unfold kernelRun0_A
  dsimp only
  sl_unfold_words
  simp only [View.readAt_eq_ld, harg2.read_unread, harg3.read_unread, harg5.read_unread, harg7.read_unread, ld0, ld1, ld3, ld5]
  exact ⟨fun x => index_piece _ 0 7 slices_S1288x128_o960_0_S64x128 x _ rfl rfl rfl,
    fun x => index_piece _ 0 6 slices_S1288x128_o896_0_S64x128 x _ rfl rfl rfl,
    fun x => index_piece _ 0 5 slices_S1288x128_o832_0_S64x128 x _ rfl rfl rfl,
    fun x => index_piece _ 0 4 slices_S1288x128_o768_0_S64x128 x _ rfl rfl rfl,
    fun x => index_piece _ 0 3 slices_S1288x128_o704_0_S64x128 x _ rfl rfl rfl,
    fun x => index_piece _ 0 2 slices_S1288x128_o640_0_S64x128 x _ rfl rfl rfl,
    fun x => index_piece _ 0 1 slices_S1288x128_o576_0_S64x128 x _ rfl rfl rfl,
    fun x => index_piece _ 0 0 slices_S1288x128_o512_0_S64x128 x _ rfl rfl rfl, trivial⟩
theorem left21 :
    out0_A_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = weightsAt (k0_pay38 (k0_pay6 x0 x1) x5) := by
  unfold out0_A_21
  rw [View.read_writes_junk_eq_canon]
  unfold kernelRun0_A
  dsimp only
  sl_unfold_words
  rw [View.canon_unit_zero off3]
  simp only [View.readAt_eq_ld, harg2.read_unread, harg3.read_unread, harg5.read_unread, harg7.read_unread, ld0, ld1, ld3, ld5]
  exact weights_piece _ slices_S1288x128_o1280_0_S8x128
theorem left22 :
    out0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 = valuesAt (k0_pay38 (k0_pay6 x0 x1) x5) := by
  unfold out0_A_22
  rw [View.read_writes_junk_eq_canon]
  funext y
  refine View.canon_apply_of_pieces (valuesAt (k0_pay38 (k0_pay6 x0 x1) x5)) _ (View.PiecesOf.mem ?_) y (by apply cover0_A_22)
  unfold kernelRun0_A
  dsimp only
  sl_unfold_words
  simp only [View.readAt_eq_ld, harg2.read_unread, harg3.read_unread, harg5.read_unread, harg7.read_unread, ld0, ld1, ld3, ld5]
  exact ⟨fun x => ones_piece _ 3 x _ rfl,
    fun x => value_piece _ 3 slices_S1288x128_o1216_0_S64x128 x _ rfl rfl,
    fun x => ones_piece _ 2 x _ rfl,
    fun x => value_piece _ 2 slices_S1288x128_o1152_0_S64x128 x _ rfl rfl,
    fun x => ones_piece _ 1 x _ rfl,
    fun x => value_piece _ 1 slices_S1288x128_o1088_0_S64x128 x _ rfl rfl,
    fun x => ones_piece _ 0 x _ rfl,
    fun x => value_piece _ 0 slices_S1288x128_o1024_0_S64x128 x _ rfl rfl, trivial⟩

end Cert.Kernel3Ideal.Left
-- ==== Proof.Handed3.lean ====
/-
  What the sample projection hands the attention, against the reference: the scaled queries, the keys and values by head, and the head weights, each in its packed layout.
-/
module

public import proofs.«01_k».proof.Proof.Packed3
public import proofs.«01_k».proof.Proof.Value3

@[expose] public section

set_option maxRecDepth 16384

noncomputable section

namespace Cert.Kernel3Ideal.Entry

open Cert.Kernel3Ideal Cert.Kernel3Ideal.Gen Cert.Kernel3Ideal.Value Cert.Kernel3Ideal.Left Cert.Kernel3Ideal.Rows
open Cert.Reference3Ideal.Read
open Cert.KernelIdeal.Deep (normRow)
open Idealize.ShloMosaic Idealize.ShloMosaic.TcCoe
open Idealize.ShloMosaic.Pipeline (Dat)

/-- The weights of the columns the attention takes token-last: transposed, the four parts one above the other. -/
def packT (x : Vec Ideal S1x1024x5704 .f32) : FVec Ideal S1288x1024 .bf16 :=
  transpose S1288x1024 [1, 0] (concatenate S1024x1288 1 [⟨S1024x512, extractStridedSlice S1024x512 ![0, 1536] (packW x) slices_S1024x5704_S1024x512_0_1536⟩, ⟨S1024x512, extractStridedSlice S1024x512 ![0, 3072] (packW x) slices_S1024x5704_S1024x512_0_3072⟩, ⟨S1024x256, extractStridedSlice S1024x256 ![0, 2304] (packW x) slices_S1024x5704_S1024x256_0_2304⟩, ⟨S1024x8, extractStridedSlice S1024x8 ![0, 3648] (packW x) slices_S1024x5704_S1024x8_0_3648⟩] concatenates_S1024x512_S1024x512_S1024x256_S1024x8_S1024x1288_d1) transposes_S1024x1288_S1288x1024_1_0

theorem packT_q (x : Vec Ideal S1x1024x5704 .f32) (l : Fin 512) (k : Fin 1024) : packT x (ix2 (⟨0 + l.val, by omega⟩ : Fin 1288) k) = x (ix3 0 k ⟨1536 + l.val, by omega⟩) := by
  pointwise [packT, packW]
theorem packT_i (x : Vec Ideal S1x1024x5704 .f32) (l : Fin 512) (k : Fin 1024) : packT x (ix2 (⟨512 + l.val, by omega⟩ : Fin 1288) k) = x (ix3 0 k ⟨3072 + l.val, by omega⟩) := by
  pointwise [packT, packW]
theorem packT_v (x : Vec Ideal S1x1024x5704 .f32) (l : Fin 256) (k : Fin 1024) : packT x (ix2 (⟨1024 + l.val, by omega⟩ : Fin 1288) k) = x (ix3 0 k ⟨2304 + l.val, by omega⟩) := by
  pointwise [packT, packW]
  rw [dif_neg (show ¬ 1024 + l.val < 512 by omega), dif_neg (show ¬ 1024 + l.val - 512 < 512 by omega), dif_pos (show 1024 + l.val - 512 - 512 < 256 by omega)]
  refine congrArg x (congrArg (ix3 0 k) (Fin.ext ?_))
  show 2304 + (1024 + l.val - 512 - 512) = 2304 + l.val
  omega
theorem packT_w (x : Vec Ideal S1x1024x5704 .f32) (l : Fin 8) (k : Fin 1024) : packT x (ix2 (⟨1280 + l.val, by omega⟩ : Fin 1288) k) = x (ix3 0 k ⟨3648 + l.val, by omega⟩) := by
  pointwise [packT, packW]
  rw [dif_neg (show ¬ 1280 + l.val < 512 by omega), dif_neg (show ¬ 1280 + l.val - 512 < 512 by omega), dif_neg (show ¬ 1280 + l.val - 512 - 512 < 256 by omega)]
  refine congrArg x (congrArg (ix3 0 k) (Fin.ext ?_))
  show 3648 + (1280 + l.val - 512 - 512 - 256) = 3648 + l.val
  omega
theorem rest_apply (h : FVec Ideal S128x1024 .bf16) (w : Vec Ideal S1288x1024 .bf16) (a : Fin 1288) (r : Fin 128) : k0_pay38 h w (ix2 a r) = ∑ k, w (ix2 a k) * h (ix2 r k) := by
  pointwise [k0_pay38]
theorem keys_apply (h : FVec Ideal S128x1024 .bf16) (w : Vec Ideal S1024x1088 .bf16) (r : Fin 128) (l : Fin 256) : k0_pay26 h w (ix2 r l) = ∑ k, h (ix2 r k) * w (ix2 k ⟨0 + l.val, by omega⟩) := by
  pointwise [k0_pay25, k0_pay26]

variable (x0 : Vec Ideal S8x16x1024 .f32) (x1 : Vec Ideal S1x1024 .f32) (x2 : Vec Ideal S1x1024x5704 .f32)
theorem ref_v19 (p : Fin 8) (t : Fin 16) (l : Fin 512) :
    val_main_v19 (F := Ideal) x0 x1 x2 (ix3 p t l) = ∑ k, normRow (fun k => x0 (ix3 p t k)) (fun k => x1 (ix2 0 k)) k * x2 (ix3 0 k ⟨1536 + l.val, by omega⟩) := by
  rw [← ref_dot]
  pointwise [val_main_v19]
theorem ref_v23 (p : Fin 8) (t : Fin 16) (l : Fin 512) :
    val_main_v23 (F := Ideal) x0 x1 x2 (ix3 p t l) = ∑ k, normRow (fun k => x0 (ix3 p t k)) (fun k => x1 (ix2 0 k)) k * x2 (ix3 0 k ⟨3072 + l.val, by omega⟩) := by
  rw [← ref_dot]
  pointwise [val_main_v23]
theorem ref_v25 (p : Fin 8) (t : Fin 16) (l : Fin 8) :
    val_main_v25 (F := Ideal) x0 x1 x2 (ix3 p t l) = ∑ k, normRow (fun k => x0 (ix3 p t k)) (fun k => x1 (ix2 0 k)) k * x2 (ix3 0 k ⟨3648 + l.val, by omega⟩) := by
  rw [← ref_dot]
  pointwise [val_main_v25]
theorem flat_v122 (r : Fin 128) (l : Fin 512) : val_main_v122 (F := Ideal) x0 x1 x2 (ix3 0 r l) = val_main_v19 (F := Ideal) x0 x1 x2 (ix3 (part r) (place r) l) := by
  unfold part place
  pointwise [val_main_v122]
theorem flat_v123 (r : Fin 128) (l : Fin 512) : val_main_v123 (F := Ideal) x0 x1 x2 (ix3 0 r l) = val_main_v23 (F := Ideal) x0 x1 x2 (ix3 (part r) (place r) l) := by
  unfold part place
  pointwise [val_main_v123]
theorem flat_v124 (r : Fin 128) (l : Fin 8) : val_main_v124 (F := Ideal) x0 x1 x2 (ix3 0 r l) = val_main_v25 (F := Ideal) x0 x1 x2 (ix3 (part r) (place r) l) := by
  unfold part place
  pointwise [val_main_v124]
theorem handed_k  (kv : Fin 4) (t : Fin 128) (d : Fin 64) : val_main_v142 (F := Ideal) x0 x1 x2 (ix4 0 kv t d) = val_main_v118 (F := Ideal) x0 x1 x2 (ix3 0 t ⟨kv.val * 64 + d.val, by omega⟩) := by
  pointwise [val_main_v142, val_main_v126, val_main_v125]
theorem handed_q   (kv : Fin 4) (d : Fin 64) (g : Fin 2) (j : Fin 128) : val_main_v145 (F := Ideal) x0 x1 x2 (ix5 0 0 kv d (⟨g.val * 128 + j.val, by omega⟩ : Fin 256)) = val_main_v122 (F := Ideal) x0 x1 x2 (ix3 0 j ⟨kv.val * 128 + g.val * 64 + d.val, by omega⟩) * scaleQ := by
  pointwise [val_main_v145, val_main_v144, val_main_v130, val_main_v129, val_main_v128, val_main_v127, val_main_cst_19]
theorem handed_i   (d : Fin 64) (h : Fin 8) (j : Fin 128) : val_main_v147 (F := Ideal) x0 x1 x2 (ix4 0 0 d (⟨h.val * 128 + j.val, by omega⟩ : Fin 1024)) = val_main_v123 (F := Ideal) x0 x1 x2 (ix3 0 j ⟨h.val * 64 + d.val, by omega⟩) * scaleI := by
  pointwise [val_main_v147, val_main_v146, val_main_v134, val_main_v133, val_main_v132, val_main_v131, val_main_cst_20]
theorem handed_w  (h : Fin 8) (t : Fin 128) : val_main_v137 (F := Ideal) x0 x1 x2 (ix3 0 h t) = val_main_v124 (F := Ideal) x0 x1 x2 (ix3 0 t h) * scaleW := by
  pointwise [val_main_v137, val_main_v136, val_main_v135, val_main_cst_21]
theorem handed_v   (kv : Fin 4) (d : Fin 64) (j : Fin 128) : val_main_v149 (F := Ideal) x0 x1 x2 (ix4 0 0 (⟨kv.val * 80 + d.val, by omega⟩ : Fin 320) j) = val_main_v119 (F := Ideal) x0 x1 x2 (ix3 0 j ⟨kv.val * 64 + d.val, by omega⟩) := by
  pointwise [val_main_v149, val_main_v148, val_main_v141, val_main_v140, val_main_v139, val_main_v138, val_main_cst_22]
  rw [dif_pos (show (kv.val * 80 + d.val) % 80 < 64 by omega)]
  refine congrArg _ (congrArg (ix3 _ _) (Fin.ext ?_))
  show kv.val * 64 + (kv.val * 80 + d.val) % 80 = kv.val * 64 + d.val
  omega
theorem handed_one   (kv : Fin 4) (d : Fin 16) (j : Fin 128) : val_main_v149 (F := Ideal) x0 x1 x2 (ix4 0 0 (⟨kv.val * 80 + (64 + d.val), by omega⟩ : Fin 320) j) = oneV := by
  pointwise [val_main_v149, val_main_v148, val_main_v141, val_main_v140, val_main_v139, val_main_v138, val_main_cst_22]
  exact dif_neg (show ¬ (kv.val * 80 + (64 + d.val)) % 80 < 64 by omega)
theorem lt_v (kv : Fin 4) (d : Fin 64) : kv.val * 80 + d.val < 320 := by omega
theorem lt_one (kv : Fin 4) (d : Fin 16) : kv.val * 80 + (64 + d.val) < 320 := by omega

theorem keys_at (k : FVec Ideal S128x256 .f32) (kv : Fin 4) (r : Fin 128) (d : Fin 64) : keysAt k (ix4 0 kv r d) = k (ix2 r (⟨kv.val * 64 + d.val, by omega⟩ : Fin 256)) := rfl
theorem queries_at (u : FVec Ideal S1288x128 .f32) (jb : Fin 1) (kv : Fin 4) (d : Fin 64) (g : Fin 2) (j : Fin 128) (r : Fin 128) (hr : r.val = jb.val * 128 + j.val) :
    queriesAt u (ix5 0 jb kv d (⟨g.val * 128 + j.val, by omega⟩ : Fin 256)) = u (ix2 (⟨0 + (kv.val * 128 + g.val * 64 + d.val), by omega⟩ : Fin 1288) r) * scaleQ := by
  refine congrArg (· * scaleQ) (congrArg u (congrArg₂ ix2 (Fin.ext ?_) (Fin.ext ?_)))
  · show (kv.val * 2 + (g.val * 128 + j.val) / 128) * 64 + d.val = 0 + (kv.val * 128 + g.val * 64 + d.val)
    omega
  · show jb.val * 128 + (g.val * 128 + j.val) % 128 = r.val
    omega
theorem index_at (u : FVec Ideal S1288x128 .f32) (jb : Fin 1) (d : Fin 64) (h : Fin 8) (j : Fin 128) (r : Fin 128) (hr : r.val = jb.val * 128 + j.val) :
    indexAt u (ix4 0 jb d (⟨h.val * 128 + j.val, by omega⟩ : Fin 1024)) = u (ix2 (⟨512 + (h.val * 64 + d.val), by omega⟩ : Fin 1288) r) * scaleI := by
  refine congrArg (· * scaleI) (congrArg u (congrArg₂ ix2 (Fin.ext ?_) (Fin.ext ?_)))
  · show 512 + (h.val * 128 + j.val) / 128 * 64 + d.val = 512 + (h.val * 64 + d.val)
    omega
  · show jb.val * 128 + (h.val * 128 + j.val) % 128 = r.val
    omega
theorem weights_at (u : FVec Ideal S1288x128 .f32) (h : Fin 8) (r : Fin 128) : weightsAt u (ix3 0 h r) = u (ix2 (⟨1280 + h.val, by omega⟩ : Fin 1288) r) * scaleW := rfl
theorem values_at (u : FVec Ideal S1288x128 .f32) (kv : Fin 4) (d : Fin 64) (r : Fin 128) :
    valuesAt u (ix4 0 0 (⟨kv.val * 80 + d.val, by omega⟩ : Fin 320) r) = u (ix2 (⟨1024 + (kv.val * 64 + d.val), by omega⟩ : Fin 1288) r) := by
  unfold valuesAt
  refine (dif_pos (show (kv.val * 80 + d.val) % 80 < 64 by omega)).trans ?_
  refine congrArg u (congrArg₂ ix2 (Fin.ext ?_) rfl)
  show 1024 + (kv.val * 80 + d.val) / 80 * 64 + (kv.val * 80 + d.val) % 80 = 1024 + (kv.val * 64 + d.val)
  omega
theorem ones_at (u : FVec Ideal S1288x128 .f32) (kv : Fin 4) (d : Fin 16) (r : Fin 128) :
    valuesAt u (ix4 0 0 (⟨kv.val * 80 + (64 + d.val), by omega⟩ : Fin 320) r) = oneV := by
  unfold valuesAt
  exact dif_neg (show ¬ (kv.val * 80 + (64 + d.val)) % 80 < 64 by omega)

variable (m : (ℓ : Loc nD τ sig) → Buf (Elt Ideal) ℓ)

theorem whole5_apply (c : Dev nD) (t : Fin cfg0.N) (q : Fin 1288) (k : Fin 1024) : iblk m c 5 t (ix2 q k) = V m c main_v17 (ix2 q k) := by
  refine congrArg (V m c main_v17) (funext fun a => Fin.ext ?_)
  fin_cases a
  · show 0 + 1 * q.val = q.val
    omega
  · show 0 + 1 * k.val = k.val
    omega
set_option maxHeartbeats 4000000 in
theorem entered5 (c : Dev nD) : @Eq (FVec Ideal S1288x1024 .bf16) (V m c main_v17) (packT (m ((c : Thread nD τ).loc main_arg2))) := by
  unfold V
  simp only [hostOps0]
  after_results_simp <;> rfl
theorem window5_apply (c : Dev nD) (t : Fin cfg0.N) (q : Fin 1288) (k : Fin 1024) : iblk m c 5 t (ix2 q k) = packT (m ((c : Thread nD τ).loc main_arg2)) (ix2 q k) :=
  (whole5_apply m c t q k).trans (congrFun (entered5 m c) (ix2 q k))

theorem cell_q (c : Dev nD) (t : Fin 128) (l : Fin 512) :
    k0_pay38 (k0_pay6 (iblk m c 0 point) (iblk m c 1 point)) (iblk m c 5 point) (ix2 (⟨0 + l.val, by omega⟩ : Fin 1288) t) = val_main_v122 (F := Ideal) (m ((c : Thread nD τ).loc main_arg0)) (m ((c : Thread nD τ).loc main_arg1)) (m ((c : Thread nD τ).loc main_arg2)) (ix3 0 t l) := by
  refine (rest_apply _ _ _ _).trans (Eq.trans ?_ ((flat_v122 _ _ _ t l).trans (ref_v19 _ _ _ (part t) (place t) l)).symm)
  refine Finset.sum_congr rfl fun k _ => ?_
  rw [mul_comm, rows_eq]
  exact congrArg (_ * ·) ((window5_apply m c _ _ k).trans (packT_q _ l k))
theorem cell_i (c : Dev nD) (t : Fin 128) (l : Fin 512) :
    k0_pay38 (k0_pay6 (iblk m c 0 point) (iblk m c 1 point)) (iblk m c 5 point) (ix2 (⟨512 + l.val, by omega⟩ : Fin 1288) t) = val_main_v123 (F := Ideal) (m ((c : Thread nD τ).loc main_arg0)) (m ((c : Thread nD τ).loc main_arg1)) (m ((c : Thread nD τ).loc main_arg2)) (ix3 0 t l) := by
  refine (rest_apply _ _ _ _).trans (Eq.trans ?_ ((flat_v123 _ _ _ t l).trans (ref_v23 _ _ _ (part t) (place t) l)).symm)
  refine Finset.sum_congr rfl fun k _ => ?_
  rw [mul_comm, rows_eq]
  exact congrArg (_ * ·) ((window5_apply m c _ _ k).trans (packT_i _ l k))
theorem cell_v (c : Dev nD) (t : Fin 128) (l : Fin 256) :
    k0_pay38 (k0_pay6 (iblk m c 0 point) (iblk m c 1 point)) (iblk m c 5 point) (ix2 (⟨1024 + l.val, by omega⟩ : Fin 1288) t) = val_main_v119 (F := Ideal) (m ((c : Thread nD τ).loc main_arg0)) (m ((c : Thread nD τ).loc main_arg1)) (m ((c : Thread nD τ).loc main_arg2)) (ix3 0 t l) := by
  refine (rest_apply _ _ _ _).trans (Eq.trans ?_ ((flat_v119 _ _ _ t l).trans (ref_v21 _ _ _ (part t) (place t) l)).symm)
  refine Finset.sum_congr rfl fun k _ => ?_
  rw [mul_comm, rows_eq]
  exact congrArg (_ * ·) ((window5_apply m c _ _ k).trans (packT_v _ l k))
theorem cell_w (c : Dev nD) (t : Fin 128) (l : Fin 8) :
    k0_pay38 (k0_pay6 (iblk m c 0 point) (iblk m c 1 point)) (iblk m c 5 point) (ix2 (⟨1280 + l.val, by omega⟩ : Fin 1288) t) = val_main_v124 (F := Ideal) (m ((c : Thread nD τ).loc main_arg0)) (m ((c : Thread nD τ).loc main_arg1)) (m ((c : Thread nD τ).loc main_arg2)) (ix3 0 t l) := by
  refine (rest_apply _ _ _ _).trans (Eq.trans ?_ ((flat_v124 _ _ _ t l).trans (ref_v25 _ _ _ (part t) (place t) l)).symm)
  refine Finset.sum_congr rfl fun k _ => ?_
  rw [mul_comm, rows_eq]
  exact congrArg (_ * ·) ((window5_apply m c _ _ k).trans (packT_w _ l k))
theorem cell_k (c : Dev nD) (t : Fin 128) (l : Fin 256) :
    k0_pay26 (k0_pay6 (iblk m c 0 point) (iblk m c 1 point)) (iblk m c 3 point) (ix2 t l) = val_main_v118 (F := Ideal) (m ((c : Thread nD τ).loc main_arg0)) (m ((c : Thread nD τ).loc main_arg1)) (m ((c : Thread nD τ).loc main_arg2)) (ix3 0 t l) := by
  refine (keys_apply _ _ _ l).trans (Eq.trans ?_ ((flat_v118 _ _ _ t l).trans (ref_v20 _ _ _ (part t) (place t) l)).symm)
  refine Finset.sum_congr rfl fun k _ => ?_
  rw [rows_eq]
  refine congrArg (_ * ·) ((window3_lo m c _ k ⟨0 + l.val, by omega⟩).trans (congrArg (m ((c : Thread nD τ).loc main_arg2)) (congrArg (ix3 0 k) (Fin.ext ?_))))
  simp only []
  omega

theorem index17 : ∀ t : Fin cfg0.N, win0_17.index t 0 = 0 ∧ win0_17.index t 1 = 0 ∧ win0_17.index t 2 = 0 ∧ win0_17.index t 3 = 0 :=
  (by decide +kernel : ∀ t : Fin grid0.N, win0_17.index t 0 = 0 ∧ win0_17.index t 1 = 0 ∧ win0_17.index t 2 = 0 ∧ win0_17.index t 3 = 0)
/-- The array left, at an index, is what the body of the point holding it leaves there. -/
theorem at17 (c : Dev nD) (t : Fin 128) (kv : Fin 4) (d : Fin 64) :
    (dats m 0 c).arrAt 17 cfg0.N (ix4 0 kv t d) = (dats m 0 c).flushed 17 point (ix4 0 kv t d) := by
  have hb := congrFun (blocks17 m c point (flush0_17 _)) (ix4 0 kv t d)
  refine Eq.trans (congrArg ((dats m 0 c).arrAt 17 cfg0.N) (funext fun a => Fin.ext ?_)) hb
  obtain ⟨e0, e1, e2, e3⟩ := index17 point
  fin_cases a
  · show 0 = win0_17.index point 0 * 1 + 1 * 0
    omega
  · show kv.val = win0_17.index point 1 * 4 + 1 * kv.val
    omega
  · show t.val = win0_17.index point 2 * 128 + 1 * t.val
    omega
  · show d.val = win0_17.index point 3 * 64 + 1 * d.val
    omega
theorem index18 : ∀ t : Fin cfg0.N, win0_18.index t 0 = 0 ∧ win0_18.index t 1 = 0 ∧ win0_18.index t 2 = 0 :=
  (by decide +kernel : ∀ t : Fin grid0.N, win0_18.index t 0 = 0 ∧ win0_18.index t 1 = 0 ∧ win0_18.index t 2 = 0)
/-- The array left, at an index, is what the body of the point holding it leaves there. -/
theorem at18 (c : Dev nD) (t : Fin 128) (d : Fin 64) :
    (dats m 0 c).arrAt 18 cfg0.N (ix3 0 t d) = (dats m 0 c).flushed 18 point (ix3 0 t d) := by
  have hb := congrFun (blocks18 m c point (flush0_18 _)) (ix3 0 t d)
  refine Eq.trans (congrArg ((dats m 0 c).arrAt 18 cfg0.N) (funext fun a => Fin.ext ?_)) hb
  obtain ⟨e0, e1, e2⟩ := index18 point
  fin_cases a
  · show 0 = win0_18.index point 0 * 1 + 1 * 0
    omega
  · show t.val = win0_18.index point 1 * 128 + 1 * t.val
    omega
  · show d.val = win0_18.index point 2 * 64 + 1 * d.val
    omega
theorem index19 : ∀ t : Fin cfg0.N, win0_19.index t 0 = 0 ∧ win0_19.index t 1 = 0 ∧ win0_19.index t 2 = 0 ∧ win0_19.index t 3 = 0 ∧ win0_19.index t 4 = 0 :=
  (by decide +kernel : ∀ t : Fin grid0.N, win0_19.index t 0 = 0 ∧ win0_19.index t 1 = 0 ∧ win0_19.index t 2 = 0 ∧ win0_19.index t 3 = 0 ∧ win0_19.index t 4 = 0)
/-- The array left, at an index, is what the body of the point holding it leaves there. -/
theorem at19 (c : Dev nD)  (kv : Fin 4) (d : Fin 64) (j : Fin 256) :
    (dats m 0 c).arrAt 19 cfg0.N (ix5 0 0 kv d j) = (dats m 0 c).flushed 19 point (ix5 0 0 kv d j) := by
  have hb := congrFun (blocks19 m c point (flush0_19 _)) (ix5 0 0 kv d j)
  refine Eq.trans (congrArg ((dats m 0 c).arrAt 19 cfg0.N) (funext fun a => Fin.ext ?_)) hb
  obtain ⟨e0, e1, e2, e3, e4⟩ := index19 point
  fin_cases a
  · show 0 = win0_19.index point 0 * 1 + 1 * 0
    omega
  · show 0 = win0_19.index point 1 * 1 + 1 * 0
    omega
  · show kv.val = win0_19.index point 2 * 4 + 1 * kv.val
    omega
  · show d.val = win0_19.index point 3 * 64 + 1 * d.val
    omega
  · show j.val = win0_19.index point 4 * 256 + 1 * j.val
    omega
theorem index20 : ∀ t : Fin cfg0.N, win0_20.index t 0 = 0 ∧ win0_20.index t 1 = 0 ∧ win0_20.index t 2 = 0 ∧ win0_20.index t 3 = 0 :=
  (by decide +kernel : ∀ t : Fin grid0.N, win0_20.index t 0 = 0 ∧ win0_20.index t 1 = 0 ∧ win0_20.index t 2 = 0 ∧ win0_20.index t 3 = 0)
/-- The array left, at an index, is what the body of the point holding it leaves there. -/
theorem at20 (c : Dev nD)  (d : Fin 64) (j : Fin 1024) :
    (dats m 0 c).arrAt 20 cfg0.N (ix4 0 0 d j) = (dats m 0 c).flushed 20 point (ix4 0 0 d j) := by
  have hb := congrFun (blocks20 m c point (flush0_20 _)) (ix4 0 0 d j)
  refine Eq.trans (congrArg ((dats m 0 c).arrAt 20 cfg0.N) (funext fun a => Fin.ext ?_)) hb
  obtain ⟨e0, e1, e2, e3⟩ := index20 point
  fin_cases a
  · show 0 = win0_20.index point 0 * 1 + 1 * 0
    omega
  · show 0 = win0_20.index point 1 * 1 + 1 * 0
    omega
  · show d.val = win0_20.index point 2 * 64 + 1 * d.val
    omega
  · show j.val = win0_20.index point 3 * 1024 + 1 * j.val
    omega
theorem index21 : ∀ t : Fin cfg0.N, win0_21.index t 0 = 0 ∧ win0_21.index t 1 = 0 ∧ win0_21.index t 2 = 0 :=
  (by decide +kernel : ∀ t : Fin grid0.N, win0_21.index t 0 = 0 ∧ win0_21.index t 1 = 0 ∧ win0_21.index t 2 = 0)
/-- The array left, at an index, is what the body of the point holding it leaves there. -/
theorem at21 (c : Dev nD) (t : Fin 128) (h : Fin 8) :
    (dats m 0 c).arrAt 21 cfg0.N (ix3 0 h t) = (dats m 0 c).flushed 21 point (ix3 0 h t) := by
  have hb := congrFun (blocks21 m c point (flush0_21 _)) (ix3 0 h t)
  refine Eq.trans (congrArg ((dats m 0 c).arrAt 21 cfg0.N) (funext fun a => Fin.ext ?_)) hb
  obtain ⟨e0, e1, e2⟩ := index21 point
  fin_cases a
  · show 0 = win0_21.index point 0 * 1 + 1 * 0
    omega
  · show h.val = win0_21.index point 1 * 8 + 1 * h.val
    omega
  · show t.val = win0_21.index point 2 * 128 + 1 * t.val
    omega
theorem index22 : ∀ t : Fin cfg0.N, win0_22.index t 0 = 0 ∧ win0_22.index t 1 = 0 ∧ win0_22.index t 2 = 0 ∧ win0_22.index t 3 = 0 :=
  (by decide +kernel : ∀ t : Fin grid0.N, win0_22.index t 0 = 0 ∧ win0_22.index t 1 = 0 ∧ win0_22.index t 2 = 0 ∧ win0_22.index t 3 = 0)
/-- The array left, at an index, is what the body of the point holding it leaves there. -/
theorem at22 (c : Dev nD)  (d : Fin 320) (j : Fin 128) :
    (dats m 0 c).arrAt 22 cfg0.N (ix4 0 0 d j) = (dats m 0 c).flushed 22 point (ix4 0 0 d j) := by
  have hb := congrFun (blocks22 m c point (flush0_22 _)) (ix4 0 0 d j)
  refine Eq.trans (congrArg ((dats m 0 c).arrAt 22 cfg0.N) (funext fun a => Fin.ext ?_)) hb
  obtain ⟨e0, e1, e2, e3⟩ := index22 point
  fin_cases a
  · show 0 = win0_22.index point 0 * 1 + 1 * 0
    omega
  · show 0 = win0_22.index point 1 * 1 + 1 * 0
    omega
  · show d.val = win0_22.index point 2 * 320 + 1 * d.val
    omega
  · show j.val = win0_22.index point 3 * 128 + 1 * j.val
    omega
theorem result17_eq (c : Dev nD) :
    (dats m 0 c).arrAt 17 cfg0.N = val_main_v142 (F := Ideal) (m ((c : Thread nD τ).loc main_arg0)) (m ((c : Thread nD τ).loc main_arg1)) (m ((c : Thread nD τ).loc main_arg2)) := by
  funext z
  obtain ⟨kv, t, d, rfl⟩ : ∃ (kv : Fin 4) (t : Fin 128) (d : Fin 64), z = ix4 0 kv t d := ⟨z 1, z 2, z 3, funext fun a => by fin_cases a <;> first | rfl | exact Subsingleton.elim (α := Fin 1) _ _⟩
  rw [at17, flushed17_A, left17]
  refine (keys_at _ kv t d).trans (Eq.trans ?_ (handed_k _ _ _  kv t d).symm)
  exact cell_k m c t _
theorem kib_apply (h : FVec Ideal S128x1024 .bf16) (w : Vec Ideal S1024x1088 .bf16) (r : Fin 128) (l : Fin 64) : k0_pay32 h w (ix3 0 r l) = ∑ k, h (ix2 r k) * w (ix2 k ⟨1024 + l.val, by omega⟩) := by
  pointwise [k0_pay32, k0_pay30, k0_pay25]
theorem result18_eq (c : Dev nD) :
    (dats m 0 c).arrAt 18 cfg0.N = val_main_v143 (F := Ideal) (m ((c : Thread nD τ).loc main_arg0)) (m ((c : Thread nD τ).loc main_arg1)) (m ((c : Thread nD τ).loc main_arg2)) := by
  funext z
  obtain ⟨t, d, rfl⟩ : ∃ (t : Fin 128) (d : Fin 64), z = ix3 0 t d := ⟨z 1, z 2, funext fun a => by fin_cases a <;> first | rfl | exact Subsingleton.elim (α := Fin 1) _ _⟩
  rw [at18, flushed18_A, left18]
  refine (kib_apply _ _ t d).trans (Eq.trans ?_ ((flat_v120 _ _ _ t d).trans (ref_v24 _ _ _ (part t) (place t) d)).symm)
  refine Finset.sum_congr rfl fun k _ => ?_
  rw [rows_eq]
  exact congrArg (_ * ·) (window3_hi m c _ k d)
theorem result19_eq (c : Dev nD) :
    (dats m 0 c).arrAt 19 cfg0.N = val_main_v145 (F := Ideal) (m ((c : Thread nD τ).loc main_arg0)) (m ((c : Thread nD τ).loc main_arg1)) (m ((c : Thread nD τ).loc main_arg2)) := by
  funext z
  obtain ⟨kv, d, j0, rfl⟩ : ∃ (kv : Fin 4) (d : Fin 64) (j0 : Fin 256), z = ix5 0 0 kv d j0 := ⟨z 2, z 3, z 4, funext fun a => by fin_cases a <;> first | rfl | exact Subsingleton.elim (α := Fin 1) _ _⟩
  obtain ⟨g, j, rfl⟩ : ∃ (g : Fin 2) (j : Fin 128), j0 = (⟨g.val * 128 + j.val, by omega⟩ : Fin 256) := ⟨⟨j0.val / 128, by omega⟩, ⟨j0.val % 128, by omega⟩, Fin.ext (by simp only []; omega)⟩
  have hr := handed_q (m ((c : Thread nD τ).loc main_arg0)) (m ((c : Thread nD τ).loc main_arg1)) (m ((c : Thread nD τ).loc main_arg2))  kv d g j
  rw [at19 m c kv d _, flushed19_A, left19]
  refine (queries_at _ 0 kv d g j j (by simp)).trans (Eq.trans ?_ hr.symm)
  exact congrArg (· * scaleQ) (cell_q m c j (⟨kv.val * 128 + g.val * 64 + d.val, by omega⟩ : Fin 512))
theorem result20_eq (c : Dev nD) :
    (dats m 0 c).arrAt 20 cfg0.N = val_main_v147 (F := Ideal) (m ((c : Thread nD τ).loc main_arg0)) (m ((c : Thread nD τ).loc main_arg1)) (m ((c : Thread nD τ).loc main_arg2)) := by
  funext z
  obtain ⟨d, j0, rfl⟩ : ∃ (d : Fin 64) (j0 : Fin 1024), z = ix4 0 0 d j0 := ⟨z 2, z 3, funext fun a => by fin_cases a <;> first | rfl | exact Subsingleton.elim (α := Fin 1) _ _⟩
  obtain ⟨h, j, rfl⟩ : ∃ (h : Fin 8) (j : Fin 128), j0 = (⟨h.val * 128 + j.val, by omega⟩ : Fin 1024) := ⟨⟨j0.val / 128, by omega⟩, ⟨j0.val % 128, by omega⟩, Fin.ext (by simp only []; omega)⟩
  have hr := handed_i (m ((c : Thread nD τ).loc main_arg0)) (m ((c : Thread nD τ).loc main_arg1)) (m ((c : Thread nD τ).loc main_arg2))  d h j
  rw [at20 m c d _, flushed20_A, left20]
  refine (index_at _ 0 d h j j (by simp)).trans (Eq.trans ?_ hr.symm)
  exact congrArg (· * scaleI) (cell_i m c j (⟨h.val * 64 + d.val, by omega⟩ : Fin 512))
theorem result21_eq (c : Dev nD) :
    (dats m 0 c).arrAt 21 cfg0.N = val_main_v137 (F := Ideal) (m ((c : Thread nD τ).loc main_arg0)) (m ((c : Thread nD τ).loc main_arg1)) (m ((c : Thread nD τ).loc main_arg2)) := by
  funext z
  obtain ⟨h, t, rfl⟩ : ∃ (h : Fin 8) (t : Fin 128), z = ix3 0 h t := ⟨z 1, z 2, funext fun a => by fin_cases a <;> first | rfl | exact Subsingleton.elim (α := Fin 1) _ _⟩
  rw [at21, flushed21_A, left21]
  refine (weights_at _ h t).trans (Eq.trans ?_ (handed_w _ _ _  h t).symm)
  exact congrArg (· * scaleW) (cell_w m c t h)
theorem result22_eq (c : Dev nD) :
    (dats m 0 c).arrAt 22 cfg0.N = val_main_v149 (F := Ideal) (m ((c : Thread nD τ).loc main_arg0)) (m ((c : Thread nD τ).loc main_arg1)) (m ((c : Thread nD τ).loc main_arg2)) := by
  funext z
  obtain ⟨e, j, rfl⟩ : ∃ (e : Fin 320) (j : Fin 128), z = ix4 0 0 e j := ⟨z 2, z 3, funext fun a => by fin_cases a <;> first | rfl | exact Subsingleton.elim (α := Fin 1) _ _⟩
  rw [at22 m c e j, flushed22_A, left22]
  obtain ⟨kv, hk⟩ : ∃ kv : Fin 4, kv.val = e.val / 80 := ⟨⟨e.val / 80, by omega⟩, rfl⟩
  by_cases he : e.val % 80 < 64
  · obtain ⟨d, rfl⟩ : ∃ d : Fin 64, e = (⟨kv.val * 80 + d.val, lt_v kv d⟩ : Fin 320) := ⟨⟨e.val % 80, he⟩, Fin.ext (by simp only []; omega)⟩
    have hr := handed_v (m ((c : Thread nD τ).loc main_arg0)) (m ((c : Thread nD τ).loc main_arg1)) (m ((c : Thread nD τ).loc main_arg2))  kv d j
    refine (values_at _ kv d j).trans (Eq.trans ?_ hr.symm)
    have hc := cell_v m c j (⟨kv.val * 64 + d.val, by omega⟩ : Fin 256)
    exact hc
  · obtain ⟨d, rfl⟩ : ∃ d : Fin 16, e = (⟨kv.val * 80 + (64 + d.val), lt_one kv d⟩ : Fin 320) := ⟨⟨e.val % 80 - 64, by omega⟩, Fin.ext (by simp only []; omega)⟩
    exact (ones_at _ kv d j).trans (handed_one _ _ _  kv d j).symm

end Cert.Kernel3Ideal.Entry
-- ==== Proof.Value4.lean ====
/-
  The sample's merge: one block holding every row, and the array it leaves is the reference's, at the extended reals.
-/
module

public import proofs.«01_k».proof.Proof.Rows
public import proofs.«01_k».proof.Proof.Gen.Kernel4Ideal.Value
public import proofs.«01_k».proof.Proof.Gen.Reference4Ideal.Read

@[expose] public section

set_option maxRecDepth 16384

noncomputable section

namespace Cert.Kernel4Ideal.Sample

open Cert.KernelIdeal.Deep (midRow normRow)
open Cert.Kernel4Ideal Cert.Kernel4Ideal.Gen Cert.Kernel4Ideal.Value
open Idealize.ShloMosaic Idealize.ShloMosaic.TcCoe

/-- The block the body leaves, read at an index. -/
theorem pay_apply (b : Vec Ideal S1x128x512 .bf16) (w4 : Vec Ideal S512x1024 .bf16) (a : Vec Ideal S1x128x1024 .bf16) (g x : Vec Ideal S1x128x1024 .f32)
    (w5 : Vec Ideal S1024x1024 .bf16) (w6 : Vec Ideal S1x1024 .f32) (r : Fin 128) (l : Fin 1024) :
    k0_pay2 b w4 a g x w5 w6 (ix2 r l)
      = normRow (midRow (fun k => x (ix3 0 r k)) (fun k => a (ix3 0 r k)) (fun k => g (ix3 0 r k)) (fun k => b (ix3 0 r k)) (fun q k => w4 (ix2 q k)) (fun k q => w5 (ix2 k q)))
          (fun k => w6 (ix2 0 k)) l := by
  unfold normRow midRow
  pointwise [k0_pay2]

theorem ld0 (x : Vec Ideal S1x128x512 .bf16) : View.ld x r0_0 = x := View.ld_unit_zero (funext fun a => by fin_cases a <;> rfl) _ x
theorem ld1 (x : Vec Ideal S512x1024 .bf16) : View.ld x r0_1 = x := View.ld_unit_zero (funext fun a => by fin_cases a <;> rfl) _ x
theorem ld2 {e : EltTy} (x : Vec Ideal S1x128x1024 e) : View.ld x r0_2 = x := View.ld_unit_zero (funext fun a => by fin_cases a <;> rfl) _ x
theorem ld3 (x : Vec Ideal S1024x1024 .bf16) : View.ld x r0_3 = x := View.ld_unit_zero (funext fun a => by fin_cases a <;> rfl) _ x
theorem ld4 (x : Vec Ideal S1x1024 .f32) : View.ld x r0_4 = x := View.ld_unit_zero (funext fun a => by fin_cases a <;> rfl) _ x

theorem out_apply (x : Vec Ideal S1x128x1024 .f32) (a : Vec Ideal S1x128x1024 .bf16) (g : Vec Ideal S1x128x1024 .f32) (b : Vec Ideal S1x128x512 .bf16)
    (w4 : Vec Ideal S512x1024 .bf16) (w5 : Vec Ideal S1024x1024 .bf16) (w6 : Vec Ideal S1x1024 .f32) (r : Fin 128) (l : Fin 1024) :
    out0_7 x a g b w4 w5 w6 (ix3 0 r l)
      = normRow (midRow (fun k => x (ix3 0 r k)) (fun k => a (ix3 0 r k)) (fun k => g (ix3 0 r k)) (fun k => b (ix3 0 r k)) (fun q k => w4 (ix2 q k)) (fun k q => w5 (ix2 k q)))
          (fun k => w6 (ix2 0 k)) l := by
  unfold out0_7
  rw [canon7_eq]
  show k0_pay2 _ _ _ _ _ _ _ _ = _
  have e : ix7_0 (ix3 0 r l) = ix2 r l := by funext a; fin_cases a <;> rfl
  rw [e, ld0, ld1, ld2, ld2, ld2, ld3, ld4, pay_apply]

open Cert.Reference4Ideal.Read in
theorem ref_mid (x0 : Vec Ideal S8x16x1024 .f32) (x1 : Vec Ideal S1x128x1024 .bf16) (x2 : Vec Ideal S1x128x1024 .f32) (x3 : Vec Ideal S1x128x512 .bf16)
    (x4 : Vec Ideal S1x512x1024 .f32) (x5 : Vec Ideal S1x1024x1024 .f32) (r : Fin 128) (l : Fin 1024) :
    val_main_v15 (F := Ideal) x0 x1 x2 x3 x4 x5 (ix3 0 r l)
      = midRow (fun k => val_main_v0 (F := Ideal) x0 (ix3 0 r k)) (fun k => x1 (ix3 0 r k)) (fun k => x2 (ix3 0 r k)) (fun k => x3 (ix3 0 r k)) (fun q k => x4 (ix3 0 q k)) (fun k q => x5 (ix3 0 k q)) l := by
  unfold midRow Ideal.logistic
  pointwise [val_main_v15, val_main_v14, val_main_v13, val_main_v12, val_main_v11, val_main_v10, val_main_v9, val_main_v8, val_main_v7, val_main_v6, val_main_v5, val_main_v4, val_main_v3, val_main_v2, val_main_v1, val_main_cst, val_main_cst_0]
open Cert.Reference4Ideal.Read in
theorem ref_apply (x0 : Vec Ideal S8x16x1024 .f32) (x1 : Vec Ideal S1x128x1024 .bf16) (x2 : Vec Ideal S1x128x1024 .f32) (x3 : Vec Ideal S1x128x512 .bf16)
    (x4 : Vec Ideal S1x512x1024 .f32) (x5 : Vec Ideal S1x1024x1024 .f32) (x6 : Vec Ideal S1024 .f32) (r : Fin 128) (l : Fin 1024) :
    val_main_v28 (F := Ideal) x0 x1 x2 x3 x4 x5 x6 (ix3 0 r l)
      = normRow (midRow (fun k => val_main_v0 (F := Ideal) x0 (ix3 0 r k)) (fun k => x1 (ix3 0 r k)) (fun k => x2 (ix3 0 r k)) (fun k => x3 (ix3 0 r k)) (fun q k => x4 (ix3 0 q k)) (fun k q => x5 (ix3 0 k q)))
          (fun k => x6 (ix1 k)) l := by
  rw [← funext (fun l => ref_mid x0 x1 x2 x3 x4 x5 r l)]
  unfold normRow
  pointwise [val_main_v28, val_main_v27, val_main_v26, val_main_v25, val_main_v24, val_main_v23, val_main_v22, val_main_v21, val_main_v20, val_main_v19, val_main_v18, val_main_v17, val_main_v16, val_main_cst_1, val_main_cst_2, val_main_cst_3]

variable (m : (ℓ : Loc nD τ sig) → Buf (Elt Ideal) ℓ)
theorem whole0_apply (c : Dev nD) (p : Fin 1) (q : Fin 128) (k : Fin 1024) : iblk m c 0 t0_0 (ix3 p q k) = V m c main_v5 (ix3 p q k) := by
  refine congrArg (V m c main_v5) (funext fun a => Fin.ext ?_)
  fin_cases a
  · show 0 + 1 * p.val = p.val
    omega
  · show 0 + 1 * q.val = q.val
    omega
  · show 0 + 1 * k.val = k.val
    omega
theorem whole1_apply (c : Dev nD) (p : Fin 1) (q : Fin 128) (k : Fin 1024) : iblk m c 1 t0_0 (ix3 p q k) = V m c main_arg1 (ix3 p q k) := by
  refine congrArg (V m c main_arg1) (funext fun a => Fin.ext ?_)
  fin_cases a
  · show 0 + 1 * p.val = p.val
    omega
  · show 0 + 1 * q.val = q.val
    omega
  · show 0 + 1 * k.val = k.val
    omega
theorem whole2_apply (c : Dev nD) (p : Fin 1) (q : Fin 128) (k : Fin 1024) : iblk m c 2 t0_0 (ix3 p q k) = V m c main_arg2 (ix3 p q k) := by
  refine congrArg (V m c main_arg2) (funext fun a => Fin.ext ?_)
  fin_cases a
  · show 0 + 1 * p.val = p.val
    omega
  · show 0 + 1 * q.val = q.val
    omega
  · show 0 + 1 * k.val = k.val
    omega
theorem whole3_apply (c : Dev nD) (p : Fin 1) (q : Fin 128) (k : Fin 512) : iblk m c 3 t0_0 (ix3 p q k) = V m c main_arg3 (ix3 p q k) := by
  refine congrArg (V m c main_arg3) (funext fun a => Fin.ext ?_)
  fin_cases a
  · show 0 + 1 * p.val = p.val
    omega
  · show 0 + 1 * q.val = q.val
    omega
  · show 0 + 1 * k.val = k.val
    omega
theorem whole4_apply (c : Dev nD) (q : Fin 512) (k : Fin 1024) : iblk m c 4 t0_0 (ix2 q k) = V m c main_v1 (ix2 q k) := by
  refine congrArg (V m c main_v1) (funext fun a => Fin.ext ?_)
  fin_cases a
  · show 0 + 1 * q.val = q.val
    omega
  · show 0 + 1 * k.val = k.val
    omega
theorem whole5_apply (c : Dev nD) (q : Fin 1024) (k : Fin 1024) : iblk m c 5 t0_0 (ix2 q k) = V m c main_v3 (ix2 q k) := by
  refine congrArg (V m c main_v3) (funext fun a => Fin.ext ?_)
  fin_cases a
  · show 0 + 1 * q.val = q.val
    omega
  · show 0 + 1 * k.val = k.val
    omega
theorem whole6_apply (c : Dev nD) (q : Fin 1) (k : Fin 1024) : iblk m c 6 t0_0 (ix2 q k) = V m c main_v4 (ix2 q k) := by
  refine congrArg (V m c main_v4) (funext fun a => Fin.ext ?_)
  fin_cases a
  · show 0 + 1 * q.val = q.val
    omega
  · show 0 + 1 * k.val = k.val
    omega
theorem entered0 (c : Dev nD) : @Eq (FVec Ideal S1x128x1024 .f32) (V m c main_v5) (Cert.Reference4Ideal.Read.val_main_v0 (F := Ideal) (m ((c : Thread nD τ).loc main_arg0))) := by
  unfold V
  after_results_simp <;> rfl
theorem entered4 (c : Dev nD) : @Eq (FVec Ideal S512x1024 .bf16) (V m c main_v1) (truncf (F := Ideal) .bf16 (fun i => shapeCast S512x1024 (m ((c : Thread nD τ).loc main_arg4) : Vec Ideal S1x512x1024 .f32) shapeCasts_S1x512x1024_S512x1024 i) bitsLt_bf16_f32) := by
  unfold V
  after_results_simp <;> rfl
theorem entered5 (c : Dev nD) : @Eq (FVec Ideal S1024x1024 .bf16) (V m c main_v3) (truncf (F := Ideal) .bf16 (fun i => shapeCast S1024x1024 (m ((c : Thread nD τ).loc main_arg5) : Vec Ideal S1x1024x1024 .f32) shapeCasts_S1x1024x1024_S1024x1024 i) bitsLt_bf16_f32) := by
  unfold V
  after_results_simp <;> rfl
theorem entered6 (c : Dev nD) : @Eq (FVec Ideal S1x1024 .f32) (V m c main_v4) (fun i => shapeCast S1x1024 (m ((c : Thread nD τ).loc main_arg6) : Vec Ideal S1024 .f32) shapeCasts_S1024_S1x1024 i) := by
  unfold V
  after_results_simp <;> rfl
theorem packed4_apply (x : Vec Ideal S1x512x1024 .f32) (q : Fin 512) (k : Fin 1024) : (truncf (F := Ideal) .bf16 (fun i => shapeCast S512x1024 x shapeCasts_S1x512x1024_S512x1024 i) bitsLt_bf16_f32 : FVec Ideal S512x1024 .bf16) (ix2 q k) = x (ix3 0 q k) := by
  pointwise
theorem packed5_apply (x : Vec Ideal S1x1024x1024 .f32) (q k : Fin 1024) : (truncf (F := Ideal) .bf16 (fun i => shapeCast S1024x1024 x shapeCasts_S1x1024x1024_S1024x1024 i) bitsLt_bf16_f32 : FVec Ideal S1024x1024 .bf16) (ix2 q k) = x (ix3 0 q k) := by
  pointwise
theorem packed6_apply (x : Vec Ideal S1024 .f32) (k : Fin 1024) : (fun i => shapeCast S1x1024 x shapeCasts_S1024_S1x1024 i : FVec Ideal S1x1024 .f32) (ix2 0 k) = x (ix1 k) := by
  pointwise
theorem window0_apply (c : Dev nD) (r : Fin 128) (k : Fin 1024) : iblk m c 0 t0_0 (ix3 0 r k) = Cert.Reference4Ideal.Read.val_main_v0 (F := Ideal) (m ((c : Thread nD τ).loc main_arg0)) (ix3 0 r k) :=
  (whole0_apply m c 0 r k).trans (congrFun (entered0 m c) (ix3 0 r k))
theorem window1_apply (c : Dev nD) (r : Fin 128) (k : Fin 1024) : iblk m c 1 t0_0 (ix3 0 r k) = m ((c : Thread nD τ).loc main_arg1) (ix3 0 r k) :=
  (whole1_apply m c 0 r k).trans (congrFun (V_main_arg1 m c) (ix3 0 r k))
theorem window2_apply (c : Dev nD) (r : Fin 128) (k : Fin 1024) : iblk m c 2 t0_0 (ix3 0 r k) = m ((c : Thread nD τ).loc main_arg2) (ix3 0 r k) :=
  (whole2_apply m c 0 r k).trans (congrFun (V_main_arg2 m c) (ix3 0 r k))
theorem window3_apply (c : Dev nD) (r : Fin 128) (k : Fin 512) : iblk m c 3 t0_0 (ix3 0 r k) = m ((c : Thread nD τ).loc main_arg3) (ix3 0 r k) :=
  (whole3_apply m c 0 r k).trans (congrFun (V_main_arg3 m c) (ix3 0 r k))
theorem window4_apply (c : Dev nD) (q : Fin 512) (k : Fin 1024) : iblk m c 4 t0_0 (ix2 q k) = m ((c : Thread nD τ).loc main_arg4) (ix3 0 q k) :=
  (whole4_apply m c q k).trans ((congrFun (entered4 m c) (ix2 q k)).trans (packed4_apply _ q k))
theorem window5_apply (c : Dev nD) (q k : Fin 1024) : iblk m c 5 t0_0 (ix2 q k) = m ((c : Thread nD τ).loc main_arg5) (ix3 0 q k) :=
  (whole5_apply m c q k).trans ((congrFun (entered5 m c) (ix2 q k)).trans (packed5_apply _ q k))
theorem window6_apply (c : Dev nD) (k : Fin 1024) : iblk m c 6 t0_0 (ix2 0 k) = m ((c : Thread nD τ).loc main_arg6) (ix1 k) :=
  (whole6_apply m c 0 k).trans ((congrFun (entered6 m c) (ix2 0 k)).trans (packed6_apply _ k))

/-- The array left, at an index, is what the only block's body leaves there. -/
theorem left_apply (c : Dev nD) (r : Fin 128) (l : Fin 1024) :
    (dats m 0 c).arrAt 7 cfg0.N (ix3 0 r l) = out0_7 (iblk m c 0 t0_0) (iblk m c 1 t0_0) (iblk m c 2 t0_0) (iblk m c 3 t0_0) (iblk m c 4 t0_0) (iblk m c 5 t0_0) (iblk m c 6 t0_0) (ix3 0 r l) := by
  have h := congrFun (blocks7 m c t0_0 (by decide)) (ix3 0 r l)
  rw [flushed7] at h
  refine Eq.trans (congrArg ((dats m 0 c).arrAt 7 cfg0.N) (funext fun a => Fin.ext ?_)) h
  fin_cases a
  · rfl
  · show r.val = 0 + 1 * r.val
    omega
  · show l.val = 0 + 1 * l.val
    omega

open Cert.Reference4Ideal.Read in
/-- The merged array of the sample is the reference's. -/
theorem result_eq (c : Dev nD) :
    (dats m 0 c).arrAt 7 cfg0.N = val_main_v28 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  funext j
  have e : ∃ (r : Fin 128) (l : Fin 1024), j = ix3 0 r l := ⟨j 1, j 2, by funext a; fin_cases a <;> first | rfl | exact Subsingleton.elim (α := Fin 1) _ _⟩
  obtain ⟨r, l, rfl⟩ := e
  refine Eq.trans ?_ (ref_apply _ _ _ _ _ _ _ r l).symm
  rw [left_apply, out_apply]
  simp only [window0_apply, window1_apply, window2_apply, window3_apply, window4_apply, window5_apply, window6_apply]

end Cert.Kernel4Ideal.Sample
-- ==== Proof.lean ====
/-
  The claims of the certificate: both programs run, leave their arguments as they were and every semaphore at zero. The
  run is proved once, over any instance, in `Proof.Launched`.
-/
module

public import proofs.«01_k».proof.Defs
public import proofs.«01_k».proof.Proof.Gen.Kernel
public import proofs.«01_k».proof.Proof.Gen.KernelIdeal
public import proofs.«01_k».proof.Proof.Launched
public import proofs.«01_k».proof.Proof.Same
public import proofs.«01_k».proof.Proof.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Launch2P
public import proofs.«01_k».proof.Proof.Launch2
public import proofs.«01_k».proof.Proof.Branch2
public import proofs.«01_k».proof.Proof.Handed2
public import proofs.«01_k».proof.Proof.Branch3
public import proofs.«01_k».proof.Proof.Handed3
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Value4
public import Idealize.ShloMosaic.Adequacy
public import Idealize.ShloMosaic.Init

@[expose] public section

noncomputable section

namespace Cert.Proof

open Cert.KernelIdeal.Deep
open Idealize.ShloMosaic Idealize.ShloMosaic.TcCoe Idealize.SL.Sem

/-- The kernel as printed runs and leaves its arguments; the program is the idealized one's text, at words. -/
theorem frame_kernel : Cert.quiescent_Kernel := fun m ρ _ =>
  Cert.Same.run_carry m ρ _ ((θ_run Cert.KernelIdeal.defs _ _).mono (fun _ h => h.1) (run_all (F := Bits) m ρ))
/-- The idealized kernel runs and leaves its arguments. -/
theorem frame_ideal : Cert.quiescent_KernelIdeal := fun m ρ _ =>
  (θ_run Cert.KernelIdeal.defs _ _).mono (fun _ h => h.1) (run_all (F := Ideal) m ρ)

/-- The reference runs and leaves its arguments; it has no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- On arguments that agree the merge and the reference leave the same array. -/
theorem algebraic : Cert.algebraic_KernelIdeal_ReferenceIdeal := by
  intro m ρ m' ρ' _ hagree
  refine ⟨fun c => result m c, (θ_run Cert.KernelIdeal.defs _ _).mono (fun r h c => ⟨h.2 c, h.1.1 c⟩) (run_all (F := Ideal) m ρ),
    (θ_run Cert.ReferenceIdeal.defs _ _).mono (fun r h c => ⟨(h c).1.trans ?_, (h c).2⟩) (Cert.ReferenceIdeal.Value.run (F := Ideal) m' ρ')⟩
  refine (Cert.ReferenceIdeal.Read.val_main_v27_eq _ _ _ _ _ _ _).trans ?_
  obtain ⟨h0, h1, h2, h3, h4, h5, h6⟩ := hagree c
  rw [h0, h1, h2, h3, h4, h5, h6]
  exact (result_eq m c).symm

/-- The prompt projection as printed runs and leaves its arguments. -/
theorem frame_kernel2 : Cert.quiescent_Kernel2 := fun m ρ _ => Cert.Kernel2.Launched.frame (F := Bits) m ρ
/-- The idealized prompt projection runs and leaves its arguments. -/
theorem frame_ideal2 : Cert.quiescent_Kernel2Ideal := fun m ρ _ => Cert.Kernel2Ideal.Launched.frame (F := Ideal) m ρ
/-- Its reference runs and leaves its arguments. -/
theorem frame_ref2 : Cert.quiescent_Reference2Ideal := fun m ρ _ =>
  (θ_run Cert.Reference2Ideal.defs _ _).mono (fun r h => ⟨fun c => (h c).2.2.2.2.2.2.2.2.2.2.2.2, Idealize.ShloMosaic.sem_eq_zero_of_no_sems (by decide) r.2⟩)
    (Cert.Reference2Ideal.Value.run (F := Ideal) m ρ)

set_option maxHeartbeats 4000000 in
open Cert.Kernel2Ideal.Launched Cert.Reference2Ideal in
/-- On arguments that agree the prompt projection and its reference leave the same twelve arrays. -/
theorem algebraic2 : Cert.algebraic_Kernel2Ideal_Reference2Ideal := by
  intro m ρ m' ρ' _ hagree
  refine ⟨fun c => (dats m 0 c).arrAt 11 Cert.Kernel2Ideal.cfg0.N, fun c => (dats m 0 c).arrAt 12 Cert.Kernel2Ideal.cfg0.N, fun c => (dats m 0 c).arrAt 13 Cert.Kernel2Ideal.cfg0.N,
    fun c => (dats m 0 c).arrAt 14 Cert.Kernel2Ideal.cfg0.N, fun c => (dats m 0 c).arrAt 15 Cert.Kernel2Ideal.cfg0.N, fun c => (dats m 0 c).arrAt 16 Cert.Kernel2Ideal.cfg0.N, fun c => (dats m 0 c).arrAt 17 Cert.Kernel2Ideal.cfg0.N, fun c => (dats m 0 c).arrAt 18 Cert.Kernel2Ideal.cfg0.N, fun c => (dats m 0 c).arrAt 19 Cert.Kernel2Ideal.cfg0.N, fun c => (dats m 0 c).arrAt 20 Cert.Kernel2Ideal.cfg0.N, fun c => (dats m 0 c).arrAt 21 Cert.Kernel2Ideal.cfg0.N, fun c => (dats m 0 c).arrAt 22 Cert.Kernel2Ideal.cfg0.N,
    (θ_run Cert.Kernel2Ideal.defs _ _).mono (fun r h c => ?_) (Cert.Kernel2Ideal.Blocks.run_blocks (F := Ideal) m ρ),
    (θ_run Cert.Reference2Ideal.defs _ _).mono (fun r h c => ?_) (Cert.Reference2Ideal.Value.run (F := Ideal) m' ρ')⟩
  · exact h c
  · have ha := hagree c
    have a0 := ha.1
    have a1 := ha.2.1
    have a2 := ha.2.2.1
    have a3 := ha.2.2.2.1
    have a4 := ha.2.2.2.2.1
    have a5 := ha.2.2.2.2.2.1
    have a6 := ha.2.2.2.2.2.2.1
    have a7 := ha.2.2.2.2.2.2.2
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩
    · refine Eq.trans (b := Read.val_main_v112 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))) (Read.val_main_v112_eq _) ?_
      rw [a0, a1, a2, a3, a4, a5, a6, a7]
      exact (Cert.Kernel2Ideal.Entry.result11_eq m c).symm
    · refine Eq.trans (b := Read.val_main_v27 (F := Ideal) (m' ((c.tc : Thread nD τ).loc main_arg0)) (m' ((c.tc : Thread nD τ).loc main_arg1)) (m' ((c.tc : Thread nD τ).loc main_arg2))) (Read.val_main_v27_eq _) ?_
      rw [a0, a1, a2]
      exact (Cert.Kernel2Ideal.Entry.result12_eq m c).symm
    · refine Eq.trans (b := Read.val_main_v22 (F := Ideal) (m' ((c.tc : Thread nD τ).loc main_arg0)) (m' ((c.tc : Thread nD τ).loc main_arg1)) (m' ((c.tc : Thread nD τ).loc main_arg2))) (Read.val_main_v22_eq _) ?_
      rw [a0, a1, a2]
      exact (Cert.Kernel2Ideal.Entry.result13_eq m c).symm
    · refine Eq.trans (b := Read.val_main_v20 (F := Ideal) (m' ((c.tc : Thread nD τ).loc main_arg0)) (m' ((c.tc : Thread nD τ).loc main_arg1)) (m' ((c.tc : Thread nD τ).loc main_arg2))) (Read.val_main_v20_eq _) ?_
      rw [a0, a1, a2]
      exact (Cert.Kernel2Ideal.Entry.result14_eq m c).symm
    · refine Eq.trans (b := Read.val_main_v21 (F := Ideal) (m' ((c.tc : Thread nD τ).loc main_arg0)) (m' ((c.tc : Thread nD τ).loc main_arg1)) (m' ((c.tc : Thread nD τ).loc main_arg2))) (Read.val_main_v21_eq _) ?_
      rw [a0, a1, a2]
      exact (Cert.Kernel2Ideal.Entry.result15_eq m c).symm
    · refine Eq.trans (b := Read.val_main_v24 (F := Ideal) (m' ((c.tc : Thread nD τ).loc main_arg0)) (m' ((c.tc : Thread nD τ).loc main_arg1)) (m' ((c.tc : Thread nD τ).loc main_arg2))) (Read.val_main_v24_eq _) ?_
      rw [a0, a1, a2]
      exact (Cert.Kernel2Ideal.Entry.result16_eq m c).symm
    · refine Eq.trans (b := Read.val_main_v130 (F := Ideal) (m' ((c.tc : Thread nD τ).loc main_arg0)) (m' ((c.tc : Thread nD τ).loc main_arg1)) (m' ((c.tc : Thread nD τ).loc main_arg2))) (Read.val_main_v130_eq _) ?_
      rw [a0, a1, a2]
      exact (Cert.Kernel2Ideal.Entry.result17_eq m c).symm
    · refine Eq.trans (b := Read.val_main_v131 (F := Ideal) (m' ((c.tc : Thread nD τ).loc main_arg0)) (m' ((c.tc : Thread nD τ).loc main_arg1)) (m' ((c.tc : Thread nD τ).loc main_arg2))) (Read.val_main_v131_eq _) ?_
      rw [a0, a1, a2]
      exact (Cert.Kernel2Ideal.Entry.result18_eq m c).symm
    · refine Eq.trans (b := Read.val_main_v133 (F := Ideal) (m' ((c.tc : Thread nD τ).loc main_arg0)) (m' ((c.tc : Thread nD τ).loc main_arg1)) (m' ((c.tc : Thread nD τ).loc main_arg2))) (Read.val_main_v133_eq _) ?_
      rw [a0, a1, a2]
      exact (Cert.Kernel2Ideal.Entry.result19_eq m c).symm
    · refine Eq.trans (b := Read.val_main_v135 (F := Ideal) (m' ((c.tc : Thread nD τ).loc main_arg0)) (m' ((c.tc : Thread nD τ).loc main_arg1)) (m' ((c.tc : Thread nD τ).loc main_arg2))) (Read.val_main_v135_eq _) ?_
      rw [a0, a1, a2]
      exact (Cert.Kernel2Ideal.Entry.result20_eq m c).symm
    · refine Eq.trans (b := Read.val_main_v125 (F := Ideal) (m' ((c.tc : Thread nD τ).loc main_arg0)) (m' ((c.tc : Thread nD τ).loc main_arg1)) (m' ((c.tc : Thread nD τ).loc main_arg2))) (Read.val_main_v125_eq _) ?_
      rw [a0, a1, a2]
      exact (Cert.Kernel2Ideal.Entry.result21_eq m c).symm
    · refine Eq.trans (b := Read.val_main_v137 (F := Ideal) (m' ((c.tc : Thread nD τ).loc main_arg0)) (m' ((c.tc : Thread nD τ).loc main_arg1)) (m' ((c.tc : Thread nD τ).loc main_arg2))) (Read.val_main_v137_eq _) ?_
      rw [a0, a1, a2]
      exact (Cert.Kernel2Ideal.Entry.result22_eq m c).symm

/-- The sample projection as printed runs and leaves its arguments. -/
theorem frame_kernel3 : Cert.quiescent_Kernel3 := fun m ρ _ => Cert.Kernel3.Gen.frame m ρ
/-- The idealized sample projection runs and leaves its arguments. -/
theorem frame_ideal3 : Cert.quiescent_Kernel3Ideal := fun m ρ _ => Cert.Kernel3Ideal.Gen.frame m ρ
/-- Its reference runs and leaves its arguments. -/
theorem frame_ref3 : Cert.quiescent_Reference3Ideal := fun m ρ _ =>
  (θ_run Cert.Reference3Ideal.defs _ _).mono (fun r h => ⟨fun c => (h c).2.2.2.2.2.2.2.2.2.2.2.2.2, Idealize.ShloMosaic.sem_eq_zero_of_no_sems (by decide) r.2⟩)
    (Cert.Reference3Ideal.Value.run (F := Ideal) m ρ)

set_option maxHeartbeats 4000000 in
open Cert.Kernel3Ideal.Gen Cert.Reference3Ideal Idealize.ShloMosaic in
/-- On arguments that agree the sample projection and its reference leave the same thirteen arrays. -/
theorem algebraic3 : Cert.algebraic_Kernel3Ideal_Reference3Ideal := by
  intro m ρ m' ρ' _ hagree
  refine ⟨fun c => (dats m 0 c).arrAt 11 Cert.Kernel3Ideal.cfg0.N, fun c => (dats m 0 c).arrAt 12 Cert.Kernel3Ideal.cfg0.N, fun c => (dats m 0 c).arrAt 13 Cert.Kernel3Ideal.cfg0.N, fun c => (dats m 0 c).arrAt 14 Cert.Kernel3Ideal.cfg0.N, fun c => (dats m 0 c).arrAt 15 Cert.Kernel3Ideal.cfg0.N, fun c => (dats m 0 c).arrAt 16 Cert.Kernel3Ideal.cfg0.N, fun c => (dats m 0 c).arrAt 17 Cert.Kernel3Ideal.cfg0.N, fun c => (dats m 0 c).arrAt 18 Cert.Kernel3Ideal.cfg0.N, fun c => (dats m 0 c).arrAt 19 Cert.Kernel3Ideal.cfg0.N, fun c => (dats m 0 c).arrAt 20 Cert.Kernel3Ideal.cfg0.N, fun c => (dats m 0 c).arrAt 21 Cert.Kernel3Ideal.cfg0.N, fun c => (dats m 0 c).arrAt 22 Cert.Kernel3Ideal.cfg0.N, fun c => (dats m 0 c).arrAt 23 Cert.Kernel3Ideal.cfg0.N,
    (θ_run Cert.Kernel3Ideal.defs _ _).mono (fun r h c => ?_) (Cert.Kernel3Ideal.Value.run_blocks (F := Ideal) m ρ),
    (θ_run Cert.Reference3Ideal.defs _ _).mono (fun r h c => ?_) (Cert.Reference3Ideal.Value.run (F := Ideal) m' ρ')⟩
  · exact h c
  · have ha := hagree c
    have a0 := ha.1
    have a1 := ha.2.1
    have a2 := ha.2.2.1
    have a3 := ha.2.2.2.1
    have a4 := ha.2.2.2.2.1
    have a5 := ha.2.2.2.2.2.1
    have a6 := ha.2.2.2.2.2.2.1
    have a7 := ha.2.2.2.2.2.2.2
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2.1.trans ?_, (h c).2.2.2.2.2.2.2.2.2.2.2.2.2⟩
    · refine Eq.trans (b := Read.val_main_v115 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))) (Read.val_main_v115_eq _) ?_
      rw [a0, a1, a2, a3, a4, a5, a6, a7]
      exact (Cert.Kernel3Ideal.Entry.result11_eq m c).symm
    · refine Eq.trans (b := Read.val_main_v116 (F := Ideal) (m' ((c.tc : Thread nD τ).loc main_arg0)) (m' ((c.tc : Thread nD τ).loc main_arg1)) (m' ((c.tc : Thread nD τ).loc main_arg2))) (Read.val_main_v116_eq _) ?_
      rw [a0, a1, a2]
      exact (Cert.Kernel3Ideal.Entry.result12_eq m c).symm
    · refine Eq.trans (b := Read.val_main_v117 (F := Ideal) (m' ((c.tc : Thread nD τ).loc main_arg0)) (m' ((c.tc : Thread nD τ).loc main_arg1)) (m' ((c.tc : Thread nD τ).loc main_arg2))) (Read.val_main_v117_eq _) ?_
      rw [a0, a1, a2]
      exact (Cert.Kernel3Ideal.Entry.result13_eq m c).symm
    · refine Eq.trans (b := Read.val_main_v118 (F := Ideal) (m' ((c.tc : Thread nD τ).loc main_arg0)) (m' ((c.tc : Thread nD τ).loc main_arg1)) (m' ((c.tc : Thread nD τ).loc main_arg2))) (Read.val_main_v118_eq _) ?_
      rw [a0, a1, a2]
      exact (Cert.Kernel3Ideal.Entry.result14_eq m c).symm
    · refine Eq.trans (b := Read.val_main_v119 (F := Ideal) (m' ((c.tc : Thread nD τ).loc main_arg0)) (m' ((c.tc : Thread nD τ).loc main_arg1)) (m' ((c.tc : Thread nD τ).loc main_arg2))) (Read.val_main_v119_eq _) ?_
      rw [a0, a1, a2]
      exact (Cert.Kernel3Ideal.Entry.result15_eq m c).symm
    · refine Eq.trans (b := Read.val_main_v120 (F := Ideal) (m' ((c.tc : Thread nD τ).loc main_arg0)) (m' ((c.tc : Thread nD τ).loc main_arg1)) (m' ((c.tc : Thread nD τ).loc main_arg2))) (Read.val_main_v120_eq _) ?_
      rw [a0, a1, a2]
      exact (Cert.Kernel3Ideal.Entry.result16_eq m c).symm
    · refine Eq.trans (b := Read.val_main_v142 (F := Ideal) (m' ((c.tc : Thread nD τ).loc main_arg0)) (m' ((c.tc : Thread nD τ).loc main_arg1)) (m' ((c.tc : Thread nD τ).loc main_arg2))) (Read.val_main_v142_eq _) ?_
      rw [a0, a1, a2]
      exact (Cert.Kernel3Ideal.Entry.result17_eq m c).symm
    · refine Eq.trans (b := Read.val_main_v143 (F := Ideal) (m' ((c.tc : Thread nD τ).loc main_arg0)) (m' ((c.tc : Thread nD τ).loc main_arg1)) (m' ((c.tc : Thread nD τ).loc main_arg2))) (Read.val_main_v143_eq _) ?_
      rw [a0, a1, a2]
      exact (Cert.Kernel3Ideal.Entry.result18_eq m c).symm
    · refine Eq.trans (b := Read.val_main_v145 (F := Ideal) (m' ((c.tc : Thread nD τ).loc main_arg0)) (m' ((c.tc : Thread nD τ).loc main_arg1)) (m' ((c.tc : Thread nD τ).loc main_arg2))) (Read.val_main_v145_eq _) ?_
      rw [a0, a1, a2]
      exact (Cert.Kernel3Ideal.Entry.result19_eq m c).symm
    · refine Eq.trans (b := Read.val_main_v147 (F := Ideal) (m' ((c.tc : Thread nD τ).loc main_arg0)) (m' ((c.tc : Thread nD τ).loc main_arg1)) (m' ((c.tc : Thread nD τ).loc main_arg2))) (Read.val_main_v147_eq _) ?_
      rw [a0, a1, a2]
      exact (Cert.Kernel3Ideal.Entry.result20_eq m c).symm
    · refine Eq.trans (b := Read.val_main_v137 (F := Ideal) (m' ((c.tc : Thread nD τ).loc main_arg0)) (m' ((c.tc : Thread nD τ).loc main_arg1)) (m' ((c.tc : Thread nD τ).loc main_arg2))) (Read.val_main_v137_eq _) ?_
      rw [a0, a1, a2]
      exact (Cert.Kernel3Ideal.Entry.result21_eq m c).symm
    · refine Eq.trans (b := Read.val_main_v149 (F := Ideal) (m' ((c.tc : Thread nD τ).loc main_arg0)) (m' ((c.tc : Thread nD τ).loc main_arg1)) (m' ((c.tc : Thread nD τ).loc main_arg2))) (Read.val_main_v149_eq _) ?_
      rw [a0, a1, a2]
      exact (Cert.Kernel3Ideal.Entry.result22_eq m c).symm
    · refine Eq.trans (b := Read.val_main_v121 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) (Read.val_main_v121_eq _) ?_
      rw [a0, a1, a2, a3, a4]
      exact (Cert.Kernel3Ideal.Entry.result23_eq m c).symm

/-- The sample's merge as printed runs and leaves its arguments. -/
theorem frame_kernel4 : Cert.quiescent_Kernel4 := fun m ρ _ => Cert.Kernel4.Gen.frame m ρ
/-- The idealized sample's merge runs and leaves its arguments. -/
theorem frame_ideal4 : Cert.quiescent_Kernel4Ideal := fun m ρ _ => Cert.Kernel4Ideal.Gen.frame m ρ
/-- Its reference runs and leaves its arguments. -/
theorem frame_ref4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- On arguments that agree the sample's merge and its reference leave the same array. -/
theorem algebraic4 : Cert.algebraic_Kernel4Ideal_Reference4Ideal := by
  intro m ρ m' ρ' _ hagree
  refine ⟨fun c => (Cert.Kernel4Ideal.Gen.dats m 0 c).arrAt 7 Cert.Kernel4Ideal.cfg0.N,
    Cert.Kernel4Ideal.Value.run_blocks (F := Ideal) m ρ,
    (θ_run Cert.Reference4Ideal.defs _ _).mono (fun r h c => ⟨(h c).1.trans ?_, (h c).2⟩) (Cert.Reference4Ideal.Value.run (F := Ideal) m' ρ')⟩
  refine (Cert.Reference4Ideal.Read.val_main_v28_eq _ _ _ _ _ _ _).trans ?_
  obtain ⟨h0, h1, h2, h3, h4, h5, h6⟩ := hagree c
  rw [h0, h1, h2, h3, h4, h5, h6]
  exact (Cert.Kernel4Ideal.Sample.result_eq m c).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    frame_kernel, frame_ideal, frame_ref, frame_kernel2, frame_ideal2, frame_ref2, frame_kernel3, frame_ideal3, frame_ref3, frame_kernel4, frame_ideal4, frame_ref4,
    trivial, algebraic, trivial, algebraic2, trivial, algebraic3, trivial, algebraic4⟩

end Cert.Proof

end
